-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).2.2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))).1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))).2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))).2.2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_2)) (v1 : (c : Dev Cert.KernelIdeal.nD) → Buf (Elt Ideal) ((c.tc : Thread Cert.KernelIdeal.nD Cert.KernelIdeal.τ).loc Cert.KernelIdeal.main_v2_3)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_2) = v0 c
          ∧ r.2.mem ((c.tc : Thread Cert.KernelIdeal.nD Cert.KernelIdeal.τ).loc Cert.KernelIdeal.main_v2_3) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_9) = v0 c
          ∧ r.2.mem ((c.tc : Thread Cert.ReferenceIdeal.nD Cert.ReferenceIdeal.τ).loc Cert.ReferenceIdeal.main_v18_10) = v1 c
          ∧ r.2.mem ((c.tc : Thread Cert.ReferenceIdeal.nD Cert.ReferenceIdeal.τ).loc Cert.ReferenceIdeal.main_v18_13) = v2 c
          ∧ r.2.mem ((c.tc : Thread Cert.ReferenceIdeal.nD Cert.ReferenceIdeal.τ).loc Cert.ReferenceIdeal.main_v18_14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "alpha" .f32 0x3FD744FD#32 ((Real.sqrt (Real.sqrt 8) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "alpha" .f32 0x3FD744FD#32 ((Real.sqrt (Real.sqrt 8) : ℝ) : EReal)
  ∧ IdealRules.named_const.Statement Cert.Kernel7Ideal.κ "eps" .f32 0x3727C5AC#32 ((1 / 100000 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v34) = v2 c
          ∧ r.2.mem ((c.tc : Thread Cert.Reference7Ideal.nD Cert.Reference7Ideal.τ).loc Cert.Reference7Ideal.main_v35) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "alpha" .f32 0x3FD744FD#32 ((Real.sqrt (Real.sqrt 8) : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "alpha" .f32 0x3FD744FD#32 ((Real.sqrt (Real.sqrt 8) : ℝ) : EReal)
  ∧ IdealRules.named_const.Statement Cert.Kernel11Ideal.κ "eps" .f32 0x3727C5AC#32 ((1 / 100000 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v32) = v2 c
          ∧ r.2.mem ((c.tc : Thread Cert.Reference11Ideal.nD Cert.Reference11Ideal.τ).loc Cert.Reference11Ideal.main_v33) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v43) = v0 c
          ∧ r.2.mem ((c.tc : Thread Cert.Reference15Ideal.nD Cert.Reference15Ideal.τ).loc Cert.Reference15Ideal.main_v44) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v18_0)) (v1 : (c : Dev Cert.Kernel16Ideal.nD) → Buf (Elt Ideal) ((c.tc : Thread Cert.Kernel16Ideal.nD Cert.Kernel16Ideal.τ).loc Cert.Kernel16Ideal.main_v18_1)) (v2 : (c : Dev Cert.Kernel16Ideal.nD) → Buf (Elt Ideal) ((c.tc : Thread Cert.Kernel16Ideal.nD Cert.Kernel16Ideal.τ).loc Cert.Kernel16Ideal.main_v18_2)) (v3 : (c : Dev Cert.Kernel16Ideal.nD) → Buf (Elt Ideal) ((c.tc : Thread Cert.Kernel16Ideal.nD Cert.Kernel16Ideal.τ).loc Cert.Kernel16Ideal.main_v18_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v18_0) = v0 c
          ∧ r.2.mem ((c.tc : Thread Cert.Kernel16Ideal.nD Cert.Kernel16Ideal.τ).loc Cert.Kernel16Ideal.main_v18_1) = v1 c
          ∧ r.2.mem ((c.tc : Thread Cert.Kernel16Ideal.nD Cert.Kernel16Ideal.τ).loc Cert.Kernel16Ideal.main_v18_2) = v2 c
          ∧ r.2.mem ((c.tc : Thread Cert.Kernel16Ideal.nD Cert.Kernel16Ideal.τ).loc Cert.Kernel16Ideal.main_v18_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v54) = v0 c
          ∧ r.2.mem ((c.tc : Thread Cert.Reference16Ideal.nD Cert.Reference16Ideal.τ).loc Cert.Reference16Ideal.main_v57) = v1 c
          ∧ r.2.mem ((c.tc : Thread Cert.Reference16Ideal.nD Cert.Reference16Ideal.τ).loc Cert.Reference16Ideal.main_v30) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  IdealRules.named_const.Statement Cert.Kernel17Ideal.κ "rms" .f32 0x358637BD#32 ((1 / 1000000 : ℝ) : EReal)

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v91) = v0 c
          ∧ r.2.mem ((c.tc : Thread Cert.Reference17Ideal.nD Cert.Reference17Ideal.τ).loc Cert.Reference17Ideal.main_v67) = v1 c
          ∧ r.2.mem ((c.tc : Thread Cert.Reference17Ideal.nD Cert.Reference17Ideal.τ).loc Cert.Reference17Ideal.main_v50) = v2 c
          ∧ r.2.mem ((c.tc : Thread Cert.Reference17Ideal.nD Cert.Reference17Ideal.τ).loc Cert.Reference17Ideal.main_v70) = v3 c
          ∧ r.2.mem ((c.tc : Thread Cert.Reference17Ideal.nD Cert.Reference17Ideal.τ).loc Cert.Reference17Ideal.main_v92) = v4 c
          ∧ r.2.mem ((c.tc : Thread Cert.Reference17Ideal.nD Cert.Reference17Ideal.τ).loc Cert.Reference17Ideal.main_v93) = v5 c
          ∧ r.2.mem ((c.tc : Thread Cert.Reference17Ideal.nD Cert.Reference17Ideal.τ).loc Cert.Reference17Ideal.main_v94) = v6 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "rms" .f32 0x358637BD#32 ((1 / 1000000 : ℝ) : EReal)

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v47) = v1 c
          ∧ r.2.mem ((c.tc : Thread Cert.Reference18Ideal.nD Cert.Reference18Ideal.τ).loc Cert.Reference18Ideal.main_v29) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite4 : Cert.Pre_finite4.Facts) (hPre_finite16 : Cert.Pre_finite16.Facts) (hPre_finite17 : Cert.Pre_finite17.Facts) (hPre_finite18 : Cert.Pre_finite18.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal_pre_finite18 (hKernel18Ideal := hKernel18Ideal) (hReference18Ideal := hReference18Ideal) (hPre_finite18 := hPre_finite18)
-- ==== Pre_finite.lean ====
abbrev S1x4096 : Shape := ⟨2, ![1, 4096]⟩
abbrev S2048x4096 : Shape := ⟨2, ![2048, 4096]⟩
abbrev S_ : Shape := ⟨0, ![]⟩

class Facts : Prop where
  bcast_S_S1x4096 : S_.BroadcastsInDim S1x4096 (![] : Fin 0 → Fin S1x4096.rank)
  bcast_S_S2048x4096 : S_.BroadcastsInDim S2048x4096 (![] : Fin 0 → Fin S2048x4096.rank)

variable [Facts]

def fn {F : FTy → Type} [FloatOps F] (main_arg0 : FVec F S1x4096 .f32) (main_arg1 : FVec F S1x4096 .f32) (main_arg2 : FVec F S2048x4096 .f32) (main_arg3 : FVec F S2048x4096 .f32) (main_arg4 : FVec F S2048x4096 .f32) (main_arg5 : FVec F S2048x4096 .f32) : IVec S1x4096 1 × IVec S1x4096 1 × IVec S2048x4096 1 × IVec S2048x4096 1 × IVec S2048x4096 1 × IVec S2048x4096 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : FVec F S2048x4096 .f32 := Host.absf main_arg2
  let main_cst_1 : FVec F S_ .f32 := constant S_ .f32 0x7F800000#32
  let main_v7 : FVec F S2048x4096 .f32 := broadcastInDim S2048x4096 ![] bcast_S_S2048x4096 main_cst_1
  let main_v8 : IVec S2048x4096 1 := cmpf .olt main_v6 main_v7
  let main_v9 : FVec F S2048x4096 .f32 := Host.absf main_arg3
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_v12 : FVec F S2048x4096 .f32 := Host.absf main_arg4
  let main_cst_3 : FVec F S_ .f32 := constant S_ .f32 0x7F800000#32
  let main_v13 : FVec F S2048x4096 .f32 := broadcastInDim S2048x4096 ![] bcast_S_S2048x4096 main_cst_3
  let main_v14 : IVec S2048x4096 1 := cmpf .olt main_v12 main_v13
  let main_v15 : FVec F S2048x4096 .f32 := Host.absf main_arg5
  let main_cst_4 : FVec F S_ .f32 := constant S_ .f32 0x7F800000#32
  let main_v16 : FVec F S2048x4096 .f32 := broadcastInDim S2048x4096 ![] bcast_S_S2048x4096 main_cst_4
  let main_v17 : IVec S2048x4096 1 := cmpf .olt main_v15 main_v16
  (main_v2, main_v5, main_v8, main_v11, main_v14, main_v17)
-- ==== Pre_finite16.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S1x2048 .f32) : IVec S2048x2048 1 × IVec S2048x2048 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_finite17.lean ====
abbrev S2048x2048 : Shape := ⟨2, ![2048, 2048]⟩
abbrev S2048x4096 : Shape := ⟨2, ![2048, 4096]⟩
abbrev S3x1024 : Shape := ⟨2, ![3, 1024]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  bcast_S_S2048x4096 : S_.BroadcastsInDim S2048x4096 (![] : Fin 0 → Fin S2048x4096.rank)
  bcast_S_S3x1024 : S_.BroadcastsInDim S3x1024 (![] : Fin 0 → Fin S3x1024.rank)
  bcast_S_S1x1024 : S_.BroadcastsInDim S1x1024 (![] : Fin 0 → Fin S1x1024.rank)

variable [Facts]

def fn {F : FTy → Type} [FloatOps F] (main_arg0 : FVec F S2048x2048 .f32) (main_arg1 : FVec F S2048x4096 .f32) (main_arg2 : FVec F S3x1024 .f32) (main_arg3 : FVec F S1x1024 .f32) (main_arg4 : FVec F S1x1024 .f32) : IVec S2048x2048 1 × IVec S2048x4096 1 × IVec S3x1024 1 × IVec S1x1024 1 × IVec S1x1024 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x4096 .f32 := Host.absf main_arg1
  let main_cst_0 : FVec F S_ .f32 := constant S_ .f32 0x7F800000#32
  let main_v4 : FVec F S2048x4096 .f32 := broadcastInDim S2048x4096 ![] bcast_S_S2048x4096 main_cst_0
  let main_v5 : IVec S2048x4096 1 := cmpf .olt main_v3 main_v4
  let main_v6 : FVec F S3x1024 .f32 := Host.absf main_arg2
  let main_cst_1 : FVec F S_ .f32 := constant S_ .f32 0x7F800000#32
  let main_v7 : FVec F S3x1024 .f32 := broadcastInDim S3x1024 ![] bcast_S_S3x1024 main_cst_1
  let main_v8 : IVec S3x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite18.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x2048 .f32) (main_arg1 : FVec F S2048x1024 .f32) (main_arg2 : FVec F S2048x1024 .f32) (main_arg3 : FVec F S1x1024 .f32) : IVec S2048x2048 1 × IVec S2048x1024 1 × IVec S2048x1024 1 × IVec S1x1024 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite4.lean ====
abbrev S2048x2048 : Shape := ⟨2, ![2048, 2048]⟩
abbrev S4x1408x2048 : Shape := ⟨3, ![4, 1408, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S4x1408x2048 : S_.BroadcastsInDim S4x1408x2048 (![] : Fin 0 → Fin S4x1408x2048.rank)
  bcast_S_S2048x5632 : S_.BroadcastsInDim S2048x5632 (![] : Fin 0 → Fin S2048x5632.rank)

variable [Facts]

def fn {F : FTy → Type} [FloatOps F] (main_arg0 : FVec F S2048x2048 .bf16) (main_arg1 : FVec F S4x1408x2048 .bf16) (main_arg2 : FVec F S2048x5632 .f32) (main_arg3 : FVec F S2048x5632 .f32) : IVec S2048x2048 1 × IVec S4x1408x2048 1 × IVec S2048x5632 1 × IVec S2048x5632 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_v8 : FVec F S2048x5632 .f32 := Host.absf main_arg2
  let main_cst_1 : FVec F S_ .f32 := constant S_ .f32 0x7F800000#32
  let main_v9 : FVec F S2048x5632 .f32 := broadcastInDim S2048x5632 ![] bcast_S_S2048x5632 main_cst_1
  let main_v10 : IVec S2048x5632 1 := cmpf .olt main_v8 main_v9
  let main_v11 : FVec F S2048x5632 .f32 := Host.absf main_arg3
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  (main_v3, main_v7, main_v10, main_v13)
-- ==== Kernel.lean ====
abbrev S1x4096 : Shape := ⟨2, ![1, 4096]⟩
abbrev S2048x4096 : Shape := ⟨2, ![2048, 4096]⟩
abbrev S1x512 : Shape := ⟨2, ![1, 512]⟩
abbrev S2048x512 : Shape := ⟨2, ![2048, 512]⟩
abbrev S8x512 : Shape := ⟨2, ![8, 512]⟩
abbrev S512 : Shape := ⟨1, ![512]⟩

abbrev nBuf : Space → Nat
  | .hbm => 13
  | .vmem => 32
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S1x4096, .f32⟩
  | .hbm, ⟨12, _⟩ => ⟨S1x4096, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_13 : BitVec 32 := 0#32
  let c256_i32 : BitVec 32 := 256#32
  let v128 : BitVec 32 := Scalar.addi c0_i32_13 c256_i32
  let c1_i32_14 : BitVec 32 := 1#32
  ⟨c0_i32_13, v128, c1_i32_14⟩
def k0_mult1 (k0_t1 : Fin k0_t1_loop.trips) : BitVec 32 :=
  let c0_i32_13 : BitVec 32 := 0#32
  let c1_i32_14 : BitVec 32 := 1#32
  let arg7 : BitVec 32 := Scf.iv c0_i32_13 c1_i32_14 k0_t1
  let c8_i32 : BitVec 32 := 8#32
  let v130 : BitVec 32 := Scalar.muli arg7 c8_i32
  v130
def k0_off1 (k0_t1 : Fin k0_t1_loop.trips) : Fin 2 → Nat :=
  let c0_i32_13 : BitVec 32 := 0#32
  let c1_i32_14 : BitVec 32 := 1#32
  let arg7 : BitVec 32 := Scf.iv c0_i32_13 c1_i32_14 k0_t1
  let c8_i32 : BitVec 32 := 8#32
  let v130 : BitVec 32 := Scalar.muli arg7 c8_i32
  let v131 : BitVec 32 := v130
  let v132 : Index := Scalar.indexCast v131
  let c0_16 : Index := 0#32
  ![v132.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

@[reducible] def k1_t1_loop : Scf.Loop 32 :=
  let c0_i32_14 : BitVec 32 := 0#32
  let c256_i32 : BitVec 32 := 256#32
  let v130 : BitVec 32 := Scalar.addi c0_i32_14 c256_i32
  let c1_i32_15 : BitVec 32 := 1#32
  ⟨c0_i32_14, v130, c1_i32_15⟩
def k1_mult1 (k1_t1 : Fin k1_t1_loop.trips) : BitVec 32 :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c8_i32 : BitVec 32 := 8#32
  let v139 : BitVec 32 := Scalar.muli v138 c8_i32
  v139
def k1_off1 (k1_t1 : Fin k1_t1_loop.trips) : Fin 2 → Nat :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c8_i32 : BitVec 32 := 8#32
  let v139 : BitVec 32 := Scalar.muli v138 c8_i32
  let v140 : BitVec 32 := v139
  let v141 : Index := Scalar.indexCast v140
  let c0_23 : Index := 0#32
  ![v141.toNat, 0]
def k1_mult2 (k1_t1 : Fin k1_t1_loop.trips) : BitVec 32 :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c1_i32_42 : BitVec 32 := 1#32
  let v223 : BitVec 32 := Scalar.subi v138 c1_i32_42
  let c0_i32_43 : BitVec 32 := 0#32
  let v224 : BitVec 32 := Scalar.maxsi v223 c0_i32_43
  let c8_i32_44 : BitVec 32 := 8#32
  let v225 : BitVec 32 := Scalar.muli v224 c8_i32_44
  v225
def k1_off2 (k1_t1 : Fin k1_t1_loop.trips) : Fin 2 → Nat :=
  let c255_i32 : BitVec 32 := 255#32
  let c0_i32_14 : BitVec 32 := 0#32
  let c1_i32_15 : BitVec 32 := 1#32
  let arg11 : BitVec 32 := Scf.iv c0_i32_14 c1_i32_15 k1_t1
  let v138 : BitVec 32 := Scalar.subi c255_i32 arg11
  let c1_i32_42 : BitVec 32 := 1#32
  let v223 : BitVec 32 := Scalar.subi v138 c1_i32_42
  let c0_i32_43 : BitVec 32 := 0#32
  let v224 : BitVec 32 := Scalar.maxsi v223 c0_i32_43
  let c8_i32_44 : BitVec 32 := 8#32
  let v225 : BitVec 32 := Scalar.muli v224 c8_i32_44
  let v226 : BitVec 32 := v225
  let v230 : Index := Scalar.indexCast v226
  let c0_46 : Index := 0#32
  ![v230.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S1x4096 : Shape := ⟨2, ![1, 4096]⟩
abbrev S2048x4096 : Shape := ⟨2, ![2048, 4096]⟩
abbrev S_ : Shape := ⟨0, ![]⟩
abbrev S4096 : Shape := ⟨1, ![4096]⟩

abbrev nBuf : Space → Nat
  | .hbm => 143
  | .vmem => 0
  | .smem => 0
  | _ => 0

abbrev hbmTy0_0 (i : Nat) : BufTy := match i % 128 with
  | 0 => ⟨S1x4096, .f32⟩
  | 1 => ⟨S1x4096, .f32⟩
  | 2 => ⟨S2048x4096, .f32⟩
  | 3 => ⟨S2048x4096, .f32⟩
  | 4 => ⟨S2048x4096, .f32⟩
  | 5 => ⟨S2048x4096, .f32⟩
  | 6 => ⟨S_, .f32⟩
  | 7 => ⟨S4096, .f32⟩
  | 8 => ⟨S4096, .f32⟩
  | 9 => ⟨S4096, .f32⟩
  | 10 => ⟨S4096, .f32⟩
  | 11 => ⟨S4096, .f32⟩
  | 12 => ⟨S_, .f32⟩
  | 13 => ⟨S2048x4096, .f32⟩
  | 14 => ⟨S_, .f32⟩
  | 15 => ⟨S2048x4096, .f32⟩
  | 16 => ⟨S_, .f32⟩
  | 17 => ⟨S2048x4096, .f32⟩
  | 18 => ⟨S_, .f32⟩
  | 19 => ⟨S2048x4096, .f32⟩
  | 20 => ⟨S_, .i32⟩
  | 21 => ⟨S2048x4096, .f32⟩
  | 22 => ⟨S2048x4096, .f32⟩
  | 23 => ⟨S4096, .f32⟩
  | 24 => ⟨S4096, .f32⟩
  | 25 => ⟨S4096, .f32⟩
  | 26 => ⟨S4096, .f32⟩
  | 27 => ⟨S_, .i32⟩
  | 28 => ⟨S4096, .f32⟩
  | 29 => ⟨S4096, .f32⟩
  | 30 => ⟨S2048x4096, .f32⟩
  | 31 => ⟨S2048x4096, .f32⟩
  | 32 => ⟨S2048x4096, .f32⟩
  | 33 => ⟨S2048x4096, .f32⟩
  | 34 => ⟨S_, .i32⟩
  | 35 => ⟨S_, .i1⟩
  | 36 => ⟨S_, .i32⟩
  | 37 => ⟨S1x4096, .f32⟩
  | 38 => ⟨S4096, .f32⟩
  | 39 => ⟨S_, .i32⟩
  | 40 => ⟨S1x4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S1x4096, .f32⟩
  | 51 => ⟨S_, .i32⟩
  | 52 => ⟨S2048x4096, .f32⟩
  | 53 => ⟨S1x4096, .f32⟩
  | 54 => ⟨S_, .i32⟩
  | 55 => ⟨S2048x4096, .f32⟩
  | 56 => ⟨S1x4096, .f32⟩
  | 57 => ⟨S_, .i32⟩
  | 58 => ⟨S2048x4096, .f32⟩
  | 59 => ⟨S1x4096, .f32⟩
  | 60 => ⟨S_, .i32⟩
  | 61 => ⟨S2048x4096, .f32⟩
  | 62 => ⟨S_, .i32⟩
  | 63 => ⟨S_, .i32⟩
  | 64 => ⟨S_, .f32⟩
  | 65 => ⟨S4096, .f32⟩
  | 66 => ⟨S_, .f32⟩
  | 67 => ⟨S4096, .f32⟩
  | 68 => ⟨S_, .f32⟩
  | 69 => ⟨S4096, .f32⟩
  | 70 => ⟨S_, .f32⟩
  | 71 => ⟨S4096, .f32⟩
  | 72 => ⟨S_, .f32⟩
  | 73 => ⟨S1x4096, .f32⟩
  | 74 => ⟨S_, .f32⟩
  | 75 => ⟨S1x4096, .f32⟩
  | 76 => ⟨S_, .f32⟩
  | 77 => ⟨S2048x4096, .f32⟩
  | 78 => ⟨S_, .f32⟩
  | 79 => ⟨S2048x4096, .f32⟩
  | 80 => ⟨S_, .i32⟩
  | 81 => ⟨S2048x4096, .f32⟩
  | 82 => ⟨S2048x4096, .f32⟩
  | 83 => ⟨S2048x4096, .f32⟩
  | 84 => ⟨S2048x4096, .f32⟩
  | 85 => ⟨S4096, .f32⟩
  | 86 => ⟨S4096, .f32⟩
  | 87 => ⟨S4096, .f32⟩
  | 88 => ⟨S4096, .f32⟩
  | 89 => ⟨S_, .i32⟩
  | 90 => ⟨S1x4096, .f32⟩
  | 91 => ⟨S1x4096, .f32⟩
  | 92 => ⟨S4096, .f32⟩
  | 93 => ⟨S4096, .f32⟩
  | 94 => ⟨S2048x4096, .f32⟩
  | 95 => ⟨S2048x4096, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S1x4096, .f32⟩
  | 104 => ⟨S4096, .f32⟩
  | 105 => ⟨S_, .i32⟩
  | 106 => ⟨S1x4096, .f32⟩
  | 107 => ⟨S4096, .f32⟩
  | 108 => ⟨S_, .i32⟩
  | 109 => ⟨S1x4096, .f32⟩
  | 110 => ⟨S4096, .f32⟩
  | 111 => ⟨S_, .i32⟩
  | 112 => ⟨S1x4096, .f32⟩
  | 113 => ⟨S4096, .f32⟩
  | 114 => ⟨S4096, .f32⟩
  | 115 => ⟨S4096, .f32⟩
  | 116 => ⟨S4096, .f32⟩
  | 117 => ⟨S4096, .f32⟩
  | 118 => ⟨S1x4096, .f32⟩
  | 119 => ⟨S1x4096, .f32⟩
  | 120 => ⟨S4096, .f32⟩
  | 121 => ⟨S4096, .f32⟩
  | 122 => ⟨S1x4096, .f32⟩
  | 123 => ⟨S1x4096, .f32⟩
  | 124 => ⟨S4096, .f32⟩
  | 125 => ⟨S4096, .f32⟩
  | 126 => ⟨S4096, .f32⟩
  | 127 => ⟨S4096, .f32⟩
  | _ => ⟨S1x4096, .f32⟩

abbrev hbmTy0_1 (i : Nat) : BufTy := match i % 128 with
  | 0 => ⟨S1x4096, .f32⟩
  | 1 => ⟨S1x4096, .f32⟩
  | 2 => ⟨S4096, .f32⟩
  | 3 => ⟨S4096, .f32⟩
  | 4 => ⟨S4096, .f32⟩
  | 5 => ⟨S1x4096, .f32⟩
  | 6 => ⟨S1x4096, .f32⟩
  | 7 => ⟨S1x4096, .f32⟩
  | 8 => ⟨S_, .i32⟩
  | 9 => ⟨S2048x4096, .f32⟩
  | 10 => ⟨S1x4096, .f32⟩
  | 11 => ⟨S_, .i32⟩
  | 12 => ⟨S2048x4096, .f32⟩
  | 13 => ⟨S_, .i32⟩
  | 14 => ⟨S_, .i32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev main_v9_10 : Ref sig .tc := ⟨.hbm, 31, rfl⟩
abbrev main_v9_11 : Ref sig .tc := ⟨.hbm, 32, rfl⟩
abbrev main_v9_12 : Ref sig .tc := ⟨.hbm, 33, rfl⟩
abbrev main_while0c_c_25 : Ref sig .tc := ⟨.hbm, 34, rfl⟩
abbrev main_while0c_v19 : Ref sig .tc := ⟨.hbm, 35, rfl⟩
abbrev main_while0b_call0_c : Ref sig .tc := ⟨.hbm, 36, rfl⟩
abbrev main_while0b_call0_v0 : Ref sig .tc := ⟨.hbm, 37, rfl⟩
abbrev main_while0b_v19 : Ref sig .tc := ⟨.hbm, 38, rfl⟩
abbrev main_while0b_call1_c : Ref sig .tc := ⟨.hbm, 39, rfl⟩
abbrev main_while0b_call1_v0 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_v29 : Ref sig .tc := ⟨.hbm, 52, rfl⟩
abbrev main_while0b_call3_v0 : Ref sig .tc := ⟨.hbm, 53, rfl⟩
abbrev main_while0b_call3_c : Ref sig .tc := ⟨.hbm, 54, rfl⟩
abbrev main_while0b_v30 : Ref sig .tc := ⟨.hbm, 55, rfl⟩
abbrev main_while0b_call4_v0 : Ref sig .tc := ⟨.hbm, 56, rfl⟩
abbrev main_while0b_call4_c : Ref sig .tc := ⟨.hbm, 57, rfl⟩
abbrev main_while0b_v31 : Ref sig .tc := ⟨.hbm, 58, rfl⟩
abbrev main_while0b_call5_v0 : Ref sig .tc := ⟨.hbm, 59, rfl⟩
abbrev main_while0b_call5_c : Ref sig .tc := ⟨.hbm, 60, rfl⟩
abbrev main_while0b_v32 : Ref sig .tc := ⟨.hbm, 61, rfl⟩
abbrev main_while0b_c_25 : Ref sig .tc := ⟨.hbm, 62, rfl⟩
abbrev main_while0b_v33 : Ref sig .tc := ⟨.hbm, 63, rfl⟩
abbrev main_cst_4 : Ref sig .tc := ⟨.hbm, 64, rfl⟩
abbrev main_v10 : Ref sig .tc := ⟨.hbm, 65, rfl⟩
abbrev main_cst_5 : Ref sig .tc := ⟨.hbm, 66, rfl⟩
abbrev main_v11 : Ref sig .tc := ⟨.hbm, 67, rfl⟩
abbrev main_cst_6 : Ref sig .tc := ⟨.hbm, 68, rfl⟩
abbrev main_v12 : Ref sig .tc := ⟨.hbm, 69, rfl⟩
abbrev main_cst_7 : Ref sig .tc := ⟨.hbm, 70, rfl⟩
abbrev main_v13 : Ref sig .tc := ⟨.hbm, 71, rfl⟩
abbrev main_cst_8 : Ref sig .tc := ⟨.hbm, 72, rfl⟩
abbrev main_v14 : Ref sig .tc := ⟨.hbm, 73, rfl⟩
abbrev main_cst_9 : Ref sig .tc := ⟨.hbm, 74, rfl⟩
abbrev main_v15 : Ref sig .tc := ⟨.hbm, 75, rfl⟩
abbrev main_cst_10 : Ref sig .tc := ⟨.hbm, 76, rfl⟩
abbrev main_v16 : Ref sig .tc := ⟨.hbm, 77, rfl⟩
abbrev main_cst_11 : Ref sig .tc := ⟨.hbm, 78, rfl⟩
abbrev main_v17 : Ref sig .tc := ⟨.hbm, 79, rfl⟩
abbrev main_c_12 : Ref sig .tc := ⟨.hbm, 80, rfl⟩
abbrev main_v18_0 : Ref sig .tc := ⟨.hbm, 81, rfl⟩
abbrev main_v18_1 : Ref sig .tc := ⟨.hbm, 82, rfl⟩
abbrev main_v18_2 : Ref sig .tc := ⟨.hbm, 83, rfl⟩
abbrev main_v18_3 : Ref sig .tc := ⟨.hbm, 84, rfl⟩
abbrev main_v18_4 : Ref sig .tc := ⟨.hbm, 85, rfl⟩
abbrev main_v18_5 : Ref sig .tc := ⟨.hbm, 86, rfl⟩
abbrev main_v18_6 : Ref sig .tc := ⟨.hbm, 87, rfl⟩
abbrev main_v18_7 : Ref sig .tc := ⟨.hbm, 88, rfl⟩
abbrev main_v18_8 : Ref sig .tc := ⟨.hbm, 89, rfl⟩
abbrev main_v18_9 : Ref sig .tc := ⟨.hbm, 90, rfl⟩
abbrev main_v18_10 : Ref sig .tc := ⟨.hbm, 91, rfl⟩
abbrev main_v18_11 : Ref sig .tc := ⟨.hbm, 92, rfl⟩
abbrev main_v18_12 : Ref sig .tc := ⟨.hbm, 93, rfl⟩
abbrev main_v18_13 : Ref sig .tc := ⟨.hbm, 94, rfl⟩
abbrev main_v18_14 : Ref sig .tc := ⟨.hbm, 95, rfl⟩
abbrev main_while1c_c_27 : Ref sig .tc := ⟨.hbm, 96, rfl⟩
abbrev main_while1c_v19 : Ref sig .tc := ⟨.hbm, 97, rfl⟩
abbrev main_while1b_c_27 : Ref sig .tc := ⟨.hbm, 98, rfl⟩
abbrev main_while1b_v19 : Ref sig .tc := ⟨.hbm, 99, rfl⟩
abbrev main_while1b_c_28 : Ref sig .tc := ⟨.hbm, 100, rfl⟩
abbrev main_while1b_v20 : Ref sig .tc := ⟨.hbm, 101, rfl⟩
abbrev main_while1b_call6_c : Ref sig .tc := ⟨.hbm, 102, rfl⟩
abbrev main_while1b_call6_v0 : Ref sig .tc := ⟨.hbm, 103, rfl⟩
abbrev main_while1b_v21 : Ref sig .tc := ⟨.hbm, 104, rfl⟩
abbrev main_while1b_call7_c : Ref sig .tc := ⟨.hbm, 105, rfl⟩
abbrev main_while1b_call7_v0 : Ref sig .tc := ⟨.hbm, 106, rfl⟩
abbrev main_while1b_v22 : Ref sig .tc := ⟨.hbm, 107, rfl⟩
abbrev main_while1b_call8_c : Ref sig .tc := ⟨.hbm, 108, rfl⟩
abbrev main_while1b_call8_v0 : Ref sig .tc := ⟨.hbm, 109, rfl⟩
abbrev main_while1b_v23 : Ref sig .tc := ⟨.hbm, 110, rfl⟩
abbrev main_while1b_call9_c : Ref sig .tc := ⟨.hbm, 111, rfl⟩
abbrev main_while1b_call9_v0 : Ref sig .tc := ⟨.hbm, 112, rfl⟩
abbrev main_while1b_v24 : Ref sig .tc := ⟨.hbm, 113, rfl⟩
abbrev main_while1b_v25 : Ref sig .tc := ⟨.hbm, 114, rfl⟩
abbrev main_while1b_v26 : Ref sig .tc := ⟨.hbm, 115, rfl⟩
abbrev main_while1b_v27 : Ref sig .tc := ⟨.hbm, 116, rfl⟩
abbrev main_while1b_v28 : Ref sig .tc := ⟨.hbm, 117, rfl⟩
abbrev main_while1b_v29 : Ref sig .tc := ⟨.hbm, 118, rfl⟩
abbrev main_while1b_v30 : Ref sig .tc := ⟨.hbm, 119, rfl⟩
abbrev main_while1b_v31 : Ref sig .tc := ⟨.hbm, 120, rfl⟩
abbrev main_while1b_v32 : Ref sig .tc := ⟨.hbm, 121, rfl⟩
abbrev main_while1b_v33 : Ref sig .tc := ⟨.hbm, 122, rfl⟩
abbrev main_while1b_v34 : Ref sig .tc := ⟨.hbm, 123, rfl⟩
abbrev main_while1b_v35 : Ref sig .tc := ⟨.hbm, 124, rfl⟩
abbrev main_while1b_v36 : Ref sig .tc := ⟨.hbm, 125, rfl⟩
abbrev main_while1b_v37 : Ref sig .tc := ⟨.hbm, 126, rfl⟩
abbrev main_while1b_v38 : Ref sig .tc := ⟨.hbm, 127, rfl⟩
abbrev main_while1b_v39 : Ref sig .tc := ⟨.hbm, 128, rfl⟩
abbrev main_while1b_v40 : Ref sig .tc := ⟨.hbm, 129, rfl⟩
abbrev main_while1b_v41 : Ref sig .tc := ⟨.hbm, 130, rfl⟩
abbrev main_while1b_v42 : Ref sig .tc := ⟨.hbm, 131, rfl⟩
abbrev main_while1b_v43 : Ref sig .tc := ⟨.hbm, 132, rfl⟩
abbrev main_while1b_v44 : Ref sig .tc := ⟨.hbm, 133, rfl⟩
abbrev main_while1b_v45 : Ref sig .tc := ⟨.hbm, 134, rfl⟩
abbrev main_while1b_call10_v0 : Ref sig .tc := ⟨.hbm, 135, rfl⟩
abbrev main_while1b_call10_c : Ref sig .tc := ⟨.hbm, 136, rfl⟩
abbrev main_while1b_v46 : Ref sig .tc := ⟨.hbm, 137, rfl⟩
abbrev main_while1b_call11_v0 : Ref sig .tc := ⟨.hbm, 138, rfl⟩
abbrev main_while1b_call11_c : Ref sig .tc := ⟨.hbm, 139, rfl⟩
abbrev main_while1b_v47 : Ref sig .tc := ⟨.hbm, 140, rfl⟩
abbrev main_while1b_c_29 : Ref sig .tc := ⟨.hbm, 141, rfl⟩
abbrev main_while1b_v48 : Ref sig .tc := ⟨.hbm, 142, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S1x1408x2048 : Shape := ⟨3, ![1, 1408, 2048]⟩
abbrev S1408x2048 : Shape := ⟨2, ![1408, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x2048, .bf16⟩
  | .local _ .vmem, ⟨3, _⟩ => ⟨S1x1408x2048, .bf16⟩
  | .local _ .vmem, ⟨4, _⟩ => ⟨S1x1408x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x2048 : Shape := ⟨2, ![2048, 2048]⟩
abbrev S4x1408x2048 : Shape := ⟨3, ![4, 1408, 2048]⟩
abbrev S2048x5632 : Shape := ⟨2, ![2048, 5632]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2048x2048 : Shape := ⟨2, ![2048, 2048]⟩
abbrev S4x1408x2048 : Shape := ⟨3, ![4, 1408, 2048]⟩
abbrev S2048x5632 : Shape := ⟨2, ![2048, 5632]⟩
abbrev S_ : Shape := ⟨0, ![]⟩
abbrev S5632x2048 : Shape := ⟨2, ![5632, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S4x1408x2048, .f32⟩
  | .hbm, ⟨19, _⟩ => ⟨S5632x2048, .f32⟩
  | .hbm, ⟨20, _⟩ => ⟨S2048x2048, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | .hbm, ⟨30, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel5.lean ====
abbrev S2048x5632 : Shape := ⟨2, ![2048, 5632]⟩
abbrev S4x2048x1408 : Shape := ⟨3, ![4, 2048, 1408]⟩
abbrev S2048x2048 : Shape := ⟨2, ![2048, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 6
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x2048, .f32⟩
  | .hbm, ⟨5, _⟩ => ⟨S2048x2048, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel5Ideal.lean ====
variable {F : FTy → Type} [FloatOps F] [Named F]
def κ : String → Option EReal := fun
  | "alpha" => some ((Real.sqrt (Real.sqrt 8) : ℝ) : EReal)
  | _ => none
-- ==== Reference5Ideal.lean ====
abbrev S2048x5632 : Shape := ⟨2, ![2048, 5632]⟩
abbrev S4x2048x1408 : Shape := ⟨3, ![4, 2048, 1408]⟩
abbrev S2048x2048 : Shape := ⟨2, ![2048, 2048]⟩
abbrev S_ : Shape := ⟨0, ![]⟩
abbrev S2048x4x1408 : Shape := ⟨3, ![2048, 4, 1408]⟩

abbrev nBuf : Space → Nat
  | .hbm => 28
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S4x2048x1408, .f32⟩
  | .hbm, ⟨8, _⟩ => ⟨S2048x4x1408, .f32⟩
  | .hbm, ⟨9, _⟩ => ⟨S2048x5632, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S2048x2048 : Shape := ⟨2, ![2048, 2048]⟩
abbrev S4x2048x1408 : Shape := ⟨3, ![4, 2048, 1408]⟩
abbrev S2048x5632 : Shape := ⟨2, ![2048, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x5632, .f32⟩
  | .hbm, ⟨4, _⟩ => ⟨S2048x5632, .f32⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S4x2048x1408, .f32⟩
  | .hbm, ⟨10, _⟩ => ⟨S2048x4x1408, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel7.lean ====
abbrev S2048x5632 : Shape := ⟨2, ![2048, 5632]⟩
abbrev S4x1408x2048 : Shape := ⟨3, ![4, 1408, 2048]⟩
abbrev S2048x2048 : Shape := ⟨2, ![2048, 2048]⟩
abbrev S1x2048 : Shape := ⟨2, ![1, 2048]⟩
abbrev S2048x128 : Shape := ⟨2, ![2048, 128]⟩
abbrev S512x1408 : Shape := ⟨2, ![512, 1408]⟩
abbrev S1x1408x2048 : Shape := ⟨3, ![1, 1408, 2048]⟩
abbrev S512x2048 : Shape := ⟨2, ![512, 2048]⟩
abbrev S512x128 : Shape := ⟨2, ![512, 128]⟩
abbrev S1408x2048 : Shape := ⟨2, ![1408, 2048]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x128, .f32⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x128, .f32⟩
  | .local _ .vmem, ⟨15, _⟩ => ⟨S512x128, .f32⟩
  | .local _ .vmem, ⟨16, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel7Ideal.lean ====
variable {F : FTy → Type} [FloatOps F] [Named F]
def κ : String → Option EReal := fun
  | "alpha" => some ((Real.sqrt (Real.sqrt 8) : ℝ) : EReal)
  | "eps" => some ((1 / 100000 : ℝ) : EReal)
  | _ => none
-- ==== Reference7Ideal.lean ====
abbrev S2048x5632 : Shape := ⟨2, ![2048, 5632]⟩
abbrev S4x1408x2048 : Shape := ⟨3, ![4, 1408, 2048]⟩
abbrev S2048x2048 : Shape := ⟨2, ![2048, 2048]⟩
abbrev S1x2048 : Shape := ⟨2, ![1, 2048]⟩
abbrev S_ : Shape := ⟨0, ![]⟩
abbrev S5632x2048 : Shape := ⟨2, ![5632, 2048]⟩
abbrev S2048 : Shape := ⟨1, ![2048]⟩
abbrev S2048x1 : Shape := ⟨2, ![2048, 1]⟩
abbrev S2048x128 : Shape := ⟨2, ![2048, 128]⟩

abbrev nBuf : Space → Nat
  | .hbm => 49
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x5632, .f32⟩
  | .hbm, ⟨11, _⟩ => ⟨S4x1408x2048, .f32⟩
  | .hbm, ⟨12, _⟩ => ⟨S5632x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .bf16⟩
  | .hbm, ⟨46, _⟩ => ⟨S2048x2048, .f32⟩
  | .hbm, ⟨47, _⟩ => ⟨S2048x2048, .f32⟩
  | .hbm, ⟨48, _⟩ => ⟨S2048x128, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel8.lean ====
abbrev S2048x2048 : Shape := ⟨2, ![2048, 2048]⟩
abbrev S4x2048x1024 : Shape := ⟨3, ![4, 2048, 1024]⟩
abbrev S2048x4096 : Shape := ⟨2, ![2048, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S2048x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2048 : Shape := ⟨2, ![2048, 2048]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S2048x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S2048x4096 : Shape := ⟨2, ![2048, 4096]⟩
abbrev S4x2048x1024 : Shape := ⟨3, ![4, 2048, 1024]⟩
abbrev S2048x2048 : Shape := ⟨2, ![2048, 2048]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S2048x2048, .f32⟩
  | .hbm, ⟨3, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Kernel10Ideal.lean ====
variable {F : FTy → Type} [FloatOps F] [Named F]
def κ : String → Option EReal := fun
  | "alpha" => some ((Real.sqrt (Real.sqrt 8) : ℝ) : EReal)
  | _ => none
-- ==== Reference10Ideal.lean ====
abbrev S2048x4096 : Shape := ⟨2, ![2048, 4096]⟩
abbrev S4x2048x1024 : Shape := ⟨3, ![4, 2048, 1024]⟩
abbrev S2048x2048 : Shape := ⟨2, ![2048, 2048]⟩
abbrev S_ : Shape := ⟨0, ![]⟩
abbrev S2048x4x1024 : Shape := ⟨3, ![2048, 4, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x4096, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S2048x2048 : Shape := ⟨2, ![2048, 2048]⟩
abbrev S4x512x2048 : Shape := ⟨3, ![4, 512, 2048]⟩
abbrev S1x2048 : Shape := ⟨2, ![1, 2048]⟩
abbrev S2048x128 : Shape := ⟨2, ![2048, 128]⟩
abbrev S512x512 : Shape := ⟨2, ![512, 512]⟩
abbrev S1x512x2048 : Shape := ⟨3, ![1, 512, 2048]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x128, .f32⟩
  | .local _ .vmem, ⟨0, _⟩ => ⟨S512x512, .bf16⟩
  | .local _ .vmem, ⟨1, _⟩ => ⟨S512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x128, .f32⟩
  | .local _ .vmem, ⟨15, _⟩ => ⟨S512x128, .f32⟩
  | .local _ .vmem, ⟨16, _⟩ => ⟨S512x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel11Ideal.lean ====
variable {F : FTy → Type} [FloatOps F] [Named F]
def κ : String → Option EReal := fun
  | "alpha" => some ((Real.sqrt (Real.sqrt 8) : ℝ) : EReal)
  | "eps" => some ((1 / 100000 : ℝ) : EReal)
  | _ => none
-- ==== Reference11Ideal.lean ====
abbrev S2048x2048 : Shape := ⟨2, ![2048, 2048]⟩
abbrev S4x512x2048 : Shape := ⟨3, ![4, 512, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x128 : Shape := ⟨2, ![2048, 128]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S4x512x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .bf16⟩
  | .hbm, ⟨43, _⟩ => ⟨S2048x2048, .f32⟩
  | .hbm, ⟨44, _⟩ => ⟨S2048x2048, .f32⟩
  | .hbm, ⟨45, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel12.lean ====
abbrev S2048x2048 : Shape := ⟨2, ![2048, 2048]⟩
abbrev S4x512x2048 : Shape := ⟨3, ![4, 512, 2048]⟩
abbrev S512x2048 : Shape := ⟨2, ![512, 2048]⟩
abbrev S1x512x2048 : Shape := ⟨3, ![1, 512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S4x512x2048 : Shape := ⟨3, ![4, 512, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S_, .f32⟩
  | .hbm, ⟨3, _⟩ => ⟨S2048x2048, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x2048 : Shape := ⟨2, ![2048, 2048]⟩
abbrev S4x512x2048 : Shape := ⟨3, ![4, 512, 2048]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1x512x2048, .bf16⟩
  | .local _ .vmem, ⟨4, _⟩ => ⟨S1x512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4x512x2048, .f32⟩
  | .hbm, ⟨10, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S2048x1024 : Shape := ⟨2, ![2048, 1024]⟩
abbrev S4x256x1024 : Shape := ⟨3, ![4, 256, 1024]⟩
abbrev S2048x256 : Shape := ⟨2, ![2048, 256]⟩
abbrev S1x256x1024 : Shape := ⟨3, ![1, 256, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S1x256x1024, .bf16⟩
  | .local _ .vmem, ⟨4, _⟩ => ⟨S1x256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S2048x1024 : Shape := ⟨2, ![2048, 1024]⟩
abbrev S2048x4096 : Shape := ⟨2, ![2048, 4096]⟩
abbrev S3x1024 : Shape := ⟨2, ![3, 1024]⟩
abbrev S256x1024 : Shape := ⟨2, ![256, 1024]⟩
abbrev S8x1024 : Shape := ⟨2, ![8, 1024]⟩
abbrev S264x1024 : Shape := ⟨2, ![264, 1024]⟩
abbrev S1x1024 : Shape := ⟨2, ![1, 1024]⟩

abbrev nBuf : Space → Nat
  | .hbm => 5
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S3x1024, .f32⟩
  | .hbm, ⟨3, _⟩ => ⟨S2048x1024, .bf16⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S3x1024, .f32⟩
  | .local _ .vmem, ⟨7, _⟩ => ⟨S8x1024, .f32⟩
  | .local _ .vmem, ⟨8, _⟩ => ⟨S8x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2048x1024 : Shape := ⟨2, ![2048, 1024]⟩
abbrev S2048x4096 : Shape := ⟨2, ![2048, 4096]⟩
abbrev S3x1024 : Shape := ⟨2, ![3, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S3x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2x1024, .f32⟩
  | .hbm, ⟨8, _⟩ => ⟨S2050x1024, .f32⟩
  | .hbm, ⟨9, _⟩ => ⟨S_, .f32⟩
  | .hbm, ⟨10, _⟩ => ⟨S2x1024, .f32⟩
  | .hbm, ⟨11, _⟩ => ⟨S1x1024, .f32⟩
  | .hbm, ⟨12, _⟩ => ⟨S1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2050x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2050x1024, .f32⟩
  | .hbm, ⟨41, _⟩ => ⟨S2050x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2050x1024, .f32⟩
  | .hbm, ⟨46, _⟩ => ⟨S2050x1024, .f32⟩
  | .hbm, ⟨47, _⟩ => ⟨S2x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .bf16⟩
  | .hbm, ⟨52, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Kernel16.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x128 : Shape := ⟨2, ![2048, 128]⟩
abbrev S256x2048 : Shape := ⟨2, ![256, 2048]⟩
abbrev S256x128 : Shape := ⟨2, ![256, 128]⟩
abbrev S256x1 : Shape := ⟨2, ![256, 1]⟩
abbrev S256 : Shape := ⟨1, ![256]⟩

abbrev nBuf : Space → Nat
  | .hbm => 31
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x128, .f32⟩
  | .hbm, ⟨27, _⟩ => ⟨S2048x2048, .f32⟩
  | .hbm, ⟨28, _⟩ => ⟨S2048x2048, .bf16⟩
  | .hbm, ⟨29, _⟩ => ⟨S1x2048, .f32⟩
  | .hbm, ⟨30, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 78
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x2048, .f32⟩
  | .hbm, ⟨51, _⟩ => ⟨S2048x2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048x2048, .f32⟩
  | .hbm, ⟨76, _⟩ => ⟨S2048x2048, .f32⟩
  | .hbm, ⟨77, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_cst_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel17.lean ====
abbrev S2048x2048 : Shape := ⟨2, ![2048, 2048]⟩
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S256x1024 : Shape := ⟨2, ![256, 1024]⟩
abbrev S8x1024 : Shape := ⟨2, ![8, 1024]⟩
abbrev S264x1024 : Shape := ⟨2, ![264, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S3x1024, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S3x1024, .f32⟩
  | .local _ .vmem, ⟨9, _⟩ => ⟨S1x1024, .f32⟩
  | .local _ .vmem, ⟨10, _⟩ => ⟨S1x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel17Ideal.lean ====
variable {F : FTy → Type} [FloatOps F] [Named F]
def κ : String → Option EReal := fun
  | "rms" => some ((1 / 1000000 : ℝ) : EReal)
  | _ => none
-- ==== Reference17Ideal.lean ====
abbrev S2048x2048 : Shape := ⟨2, ![2048, 2048]⟩
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1024 : Shape := ⟨1, ![1024]⟩
abbrev S2048 : Shape := ⟨1, ![2048]⟩
abbrev S2048x1 : Shape := ⟨2, ![2048, 1]⟩

abbrev nBuf : Space → Nat
  | .hbm => 121
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S3x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2x1024, .f32⟩
  | .hbm, ⟨13, _⟩ => ⟨S2050x1024, .f32⟩
  | .hbm, ⟨14, _⟩ => ⟨S1x1024, .f32⟩
  | .hbm, ⟨15, _⟩ => ⟨S1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S2048x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S3x1024, .f32⟩
  | .hbm, ⟨97, _⟩ => ⟨S2048x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S_, .f32⟩
  | .hbm, ⟨105, _⟩ => ⟨S3x1024, .f32⟩
  | .hbm, ⟨106, _⟩ => ⟨S3x1024, .f32⟩
  | .hbm, ⟨107, _⟩ => ⟨S2048x1024, .f32⟩
  | .hbm, ⟨108, _⟩ => ⟨S_, .f32⟩
  | .hbm, ⟨109, _⟩ => ⟨S1024, .f32⟩
  | .hbm, ⟨110, _⟩ => ⟨S1x1024, .f32⟩
  | .hbm, ⟨111, _⟩ => ⟨S_, .f32⟩
  | .hbm, ⟨112, _⟩ => ⟨S1024, .f32⟩
  | .hbm, ⟨113, _⟩ => ⟨S1x1024, .f32⟩
  | .hbm, ⟨114, _⟩ => ⟨S_, .f32⟩
  | .hbm, ⟨115, _⟩ => ⟨S3x1024, .f32⟩
  | .hbm, ⟨116, _⟩ => ⟨S3x1024, .f32⟩
  | .hbm, ⟨117, _⟩ => ⟨S2048x1024, .bf16⟩
  | .hbm, ⟨118, _⟩ => ⟨S1x1024, .f32⟩
  | .hbm, ⟨119, _⟩ => ⟨S1x1024, .f32⟩
  | .hbm, ⟨120, _⟩ => ⟨S1x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_11 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_17 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩

abbrev nD : Nat := 1
abbrev τ : Topo := Topo.v7x

variable {F : FTy → Type} [FloatOps F]
-- ==== Kernel18.lean ====
abbrev S2048x2048 : Shape := ⟨2, ![2048, 2048]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel18Ideal.lean ====
variable {F : FTy → Type} [FloatOps F] [Named F]
def κ : String → Option EReal := fun
  | "rms" => some ((1 / 1000000 : ℝ) : EReal)
  | _ => none
-- ==== Reference18Ideal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Cx.lean ====
module
public import proofs.«01_k».proof.Proof.Gen.KernelIdeal.Skeleton
public import Idealize.ShloMosaic.Lib.KernelVsHost
public import Idealize.ShloMosaic.Lib.Pointwise
@[expose] public section
set_option maxRecDepth 16384
noncomputable section

/-! # Pairs of vectors as complex vectors

The scan keeps a complex number as two vectors, one of real parts and one of imaginary parts. `Cx v w f` says that the
vectors `v`, `w` hold the real and the imaginary parts of the finite complex function `f`; the lemmas carry it through
the operations the kernel is made of. -/

namespace Cert.Scan
open Idealize.ShloMosaic Idealize.ShloMosaic.Tactic

/-- `v` and `w` hold the real and the imaginary parts of `f`. -/
def Cx {s : Shape} (v w : s.Idx → EReal) (f : s.Idx → ℂ) : Prop :=
  ∀ i, v i = (((f i).re : ℝ) : EReal) ∧ w i = (((f i).im : ℝ) : EReal)

variable {s : Shape}

/-- Equal complex functions are held by the same vectors. -/
theorem Cx.congr {v w : s.Idx → EReal} {f g : s.Idx → ℂ} (h : Cx v w f) (e : ∀ i, f i = g i) : Cx v w g :=
  fun i => e i ▸ h i

/-- The product of two complex vectors, from four real products. -/
theorem Cx.mul {a b c d : FVec Ideal s .f32} {f g : s.Idx → ℂ} (h : Cx a b f) (k : Cx c d g) :
    Cx (subf (mulf a c) (mulf b d)) (addf (mulf a d) (mulf b c)) (fun i => f i * g i) := by
  intro i
  obtain ⟨h1, h2⟩ := h i
  obtain ⟨k1, k2⟩ := k i
  constructor
  · show a i * c i - b i * d i = _
    rw [h1, h2, k1, k2, Complex.mul_re]; push_cast; rfl
  · show a i * d i + b i * c i = _
    rw [h1, h2, k1, k2, Complex.mul_im]; push_cast; rfl

/-- The sum of two complex vectors. -/
theorem Cx.add {a b c d : FVec Ideal s .f32} {f g : s.Idx → ℂ} (h : Cx a b f) (k : Cx c d g) :
    Cx (addf a c) (addf b d) (fun i => f i + g i) := by
  intro i
  obtain ⟨h1, h2⟩ := h i
  obtain ⟨k1, k2⟩ := k i
  constructor
  · show a i + c i = _
    rw [h1, k1, Complex.add_re]; push_cast; rfl
  · show b i + d i = _
    rw [h2, k2, Complex.add_im]; push_cast; rfl

/-- A choice between two complex vectors by one mask. -/
theorem Cx.sel {a b c d : FVec Ideal s .f32} {f g : s.Idx → ℂ} (m : IVec s 1) (h : Cx a b f) (k : Cx c d g) :
    Cx (select m a c) (select m b d) (fun i => if m i = 1#1 then f i else g i) := by
  intro i
  obtain ⟨h1, h2⟩ := h i
  obtain ⟨k1, k2⟩ := k i
  by_cases hm : m i = 1#1
  · beta_reduce; rw [if_pos hm]; exact ⟨(if_pos hm).trans h1, (if_pos hm).trans h2⟩
  · beta_reduce; rw [if_neg hm]; exact ⟨(if_neg hm).trans k1, (if_neg hm).trans k2⟩

/-- The zero vector. -/
theorem Cx.zero : Cx (broadcast s (Scalar.ofBits (F := Ideal) .f32 0x00000000#32)) (broadcast s (Scalar.ofBits (F := Ideal) .f32 0x00000000#32))
    (fun _ => 0) := by
  intro i
  have : (Scalar.ofBits (F := Ideal) .f32 0x00000000#32 : EReal) = 0 := by simp
  constructor <;> (show (Scalar.ofBits (F := Ideal) .f32 0x00000000#32 : EReal) = _; rw [this]; simp)

/-- A running sum plus a product with a conjugate, from four real products. -/
theorem Cx.addMulConj {p q a b c d : FVec Ideal s .f32} {e f g : s.Idx → ℂ} (k0 : Cx p q e) (h : Cx a b f) (k : Cx c d g) :
    Cx (addf (addf p (mulf a c)) (mulf b d)) (subf (addf q (mulf b c)) (mulf a d)) (fun i => e i + f i * (starRingEnd ℂ) (g i)) := by
  intro i
  obtain ⟨e1, e2⟩ := k0 i
  obtain ⟨h1, h2⟩ := h i
  obtain ⟨k1, k2⟩ := k i
  constructor
  · show p i + a i * c i + b i * d i = _
    rw [e1, h1, h2, k1, k2]
    have : (e i + f i * (starRingEnd ℂ) (g i)).re = (e i).re + (f i).re * (g i).re + (f i).im * (g i).im := by
      simp [Complex.mul_re]; ring
    rw [this]; push_cast; rfl
  · show q i + b i * c i - a i * d i = _
    rw [e2, h1, h2, k1, k2]
    have : (e i + f i * (starRingEnd ℂ) (g i)).im = (e i).im + (f i).im * (g i).re - (f i).re * (g i).im := by
      simp [Complex.mul_im]; ring
    rw [this]; push_cast; rfl

/-- A complex vector times one real number. -/
theorem Cx.smul {a b : FVec Ideal s .f32} {f : s.Idx → ℂ} (h : Cx a b f) {w : Ideal .f32} {q : ℝ} (hw : w = (q : EReal)) :
    Cx (mulf a (broadcast s w)) (mulf b (broadcast s w)) (fun i => f i * (q : ℂ)) := by
  intro i
  obtain ⟨h1, h2⟩ := h i
  constructor
  · show a i * w = _
    rw [h1, hw, Complex.mul_re]; simp
  · show b i * w = _
    rw [h2, hw, Complex.mul_im]; simp

/-- A complex vector read through any map of indices. -/
theorem Cx.comp {t : Shape} {v w : s.Idx → EReal} {f : s.Idx → ℂ} (h : Cx v w f) (p : t.Idx → s.Idx) :
    Cx (fun i => v (p i)) (fun i => w (p i)) (fun i => f (p i)) := fun i => h (p i)

/-- The recurrence: start at `c`, multiply by `a` and add the next term. -/
def run (a c : ℂ) (x : ℕ → ℂ) : ℕ → ℂ
  | 0 => c
  | n + 1 => a * run a c x n + x n

/-- The recurrence run on from term `m` is the recurrence over the terms from `m`. -/
theorem run_add (a c : ℂ) (x : ℕ → ℂ) (m : ℕ) : ∀ n, run a (run a c x m) (fun i => x (m + i)) n = run a c x (m + n)
  | 0 => rfl
  | n + 1 => by rw [run, run_add a c x m n]; rfl

/-- The recurrence reads only the terms before its count. -/
theorem run_congr (a c : ℂ) (x y : ℕ → ℂ) : ∀ n, (∀ i < n, x i = y i) → run a c x n = run a c y n
  | 0, _ => rfl
  | n + 1, h => by
      rw [run, run, run_congr a c x y n (fun i hi => h i (by omega)), h n (by omega)]

section Block
open Cert.KernelIdeal Cert.KernelIdeal.Gen

/-- The lane of a block's index, as an index of one row. -/
def lane (i : S8x512.Idx) : S1x512.Idx := ix2 (0 : Fin 1) (i 1)
/-- The index `d` rows back, around the end. -/
def back (d : Nat) (i : S8x512.Idx) : S8x512.Idx := ix2 (⟨((i 0).val + 8 - d % 8) % 8, Nat.mod_lt _ (by decide)⟩ : Fin 8) (i 1)
/-- The row numbers of a block. -/
abbrev rows8 : IVec S8x512 32 := iota .tc S8x512 32 [0] iota_S8x512_d0_w32

theorem broadcastTo_lane (v : S1x512.Idx → EReal) (h : S1x512.Broadcasts S8x512) : broadcastTo S8x512 v h = fun i => v (lane i) := by
  funext i
  refine _root_.Idealize.ShloMosaic.broadcastTo_apply v h i (lane i) ?_
  intro a
  fin_cases a <;> simp [lane, ix2]
theorem rotate_back (d : BitVec 32) (x : S8x512.Idx → EReal) (h : S8x512.Rotates 0 none) :
    dynamicRotate 0 d none x h = fun i => x (back d.toNat i) := by
  funext i
  refine dynamicRotate_apply 0 d x h _ _ ?_
  intro b
  fin_cases b <;> simp [back, ix2, Matrix.cons_val_zero]

theorem rows8_apply (i : S8x512.Idx) : rows8 i = BitVec.ofNat 32 (i 0).val := by
  show BitVec.ofNat 32 (([0] : List (Fin S8x512.rank)).foldl (fun n a => n * S8x512.size a + (i a).val) 0) = _
  simp

theorem rows8_eq (d : Nat) (hd : d < 8) (i : S8x512.Idx) :
    (cmpi .eq rows8 (broadcast S8x512 (BitVec.ofNat 32 d)) i = 1#1) ↔ (i 0).val = d := by
  show Scalar.cmpi .eq (rows8 i) (BitVec.ofNat 32 d) = 1#1 ↔ _
  rw [rows8_apply]
  have h : (i 0).val < 8 := (i 0).isLt
  generalize (i 0).val = r at h
  interval_cases d <;> interval_cases r <;> decide
theorem rows8_sge (d : Nat) (hd : d < 8) (i : S8x512.Idx) :
    (cmpi .sge rows8 (broadcast S8x512 (BitVec.ofNat 32 d)) i = 1#1) ↔ d ≤ (i 0).val := by
  show Scalar.cmpi .sge (rows8 i) (BitVec.ofNat 32 d) = 1#1 ↔ _
  rw [rows8_apply]
  have h : (i 0).val < 8 := (i 0).isLt
  generalize (i 0).val = r at h
  interval_cases d <;> interval_cases r <;> decide
theorem rows8_slt (d : Nat) (hd : d < 8) (i : S8x512.Idx) :
    (cmpi .slt rows8 (broadcast S8x512 (BitVec.ofNat 32 d)) i = 1#1) ↔ (i 0).val < d := by
  show Scalar.cmpi .slt (rows8 i) (BitVec.ofNat 32 d) = 1#1 ↔ _
  rw [rows8_apply]
  have h : (i 0).val < 8 := (i 0).isLt
  generalize (i 0).val = r at h
  interval_cases d <;> interval_cases r <;> decide

/-- One row of complex numbers, repeated in every row of a block. -/
theorem Cx.bcast {v w : S1x512.Idx → EReal} {f : S1x512.Idx → ℂ} (h : Cx v w f) (hb : S1x512.Broadcasts S8x512) :
    Cx (broadcastTo S8x512 v hb) (broadcastTo S8x512 w hb) (fun i => f (lane i)) := by
  rw [broadcastTo_lane, broadcastTo_lane]; exact h.comp lane
/-- The same behind an identity shape cast. -/
theorem Cx.bcast' {v w : S1x512.Idx → EReal} {f : S1x512.Idx → ℂ} (h : Cx v w f) (hc : S1x512.ShapeCasts S1x512) (hb : S1x512.Broadcasts S8x512) :
    Cx (broadcastTo S8x512 (shapeCast S1x512 v hc) hb) (broadcastTo S8x512 (shapeCast S1x512 w hc) hb) (fun i => f (lane i)) := by
  rw [shapeCast_self, shapeCast_self]; exact h.bcast hb
/-- A block of complex numbers turned by `d` rows. -/
theorem Cx.rot {v w : S8x512.Idx → EReal} {f : S8x512.Idx → ℂ} (h : Cx v w f) (d : BitVec 32) (hr : S8x512.Rotates 0 none) :
    Cx (dynamicRotate 0 d none v hr) (dynamicRotate 0 d none w hr) (fun i => f (back d.toNat i)) := by
  rw [rotate_back, rotate_back]; exact h.comp (back d.toNat)
/-- One row cut from a block. -/
theorem Cx.row {v w : S8x512.Idx → EReal} {f : S8x512.Idx → ℂ} (h : Cx v w f) (r : Fin 8) (hs : S8x512.Slices ![r.val, 0] S1x512) :
    Cx (extractStridedSlice S1x512 ![r.val, 0] v hs) (extractStridedSlice S1x512 ![r.val, 0] w hs) (fun i : S1x512.Idx => f (ix2 r (i 1))) := by
  have e : ∀ x : S8x512.Idx → EReal, extractStridedSlice S1x512 ![r.val, 0] x hs = fun i : S1x512.Idx => x (ix2 r (i 1)) := by
    intro x; funext i
    refine _root_.Idealize.ShloMosaic.extractStridedSlice_apply _ x hs i (ix2 r (i 1)) ?_
    intro a
    fin_cases a
    · have : (i 0).val < 1 := (i 0).isLt
      simp [ix2]; omega
    · simp [ix2]
  rw [e, e]; exact h.comp fun i : S1x512.Idx => ix2 r (i 1)
end Block
end Cert.Scan
-- ==== Proof.FwdBlock.lean ====
module
public import proofs.«01_k».proof.Proof.Cx
@[expose] public section
set_option maxRecDepth 16384
noncomputable section

/-! # Eight rows of the forward scan -/

namespace Cert.Scan
open Idealize.ShloMosaic Idealize.ShloMosaic.Tactic
open Cert.KernelIdeal Cert.KernelIdeal.Gen

section Pow
variable {v0 v1 : Vec Ideal S1x512 .f32} {A : S1x512.Idx → ℂ} (h : Cx v0 v1 A)
include h

theorem pow2 : Cx (k0_pay21 v0 v1) (k0_pay22 v0 v1) (fun i => A i ^ 2) := (Cx.mul h h).congr fun i => by ring
theorem pow3 : Cx (k0_pay23 v0 v1) (k0_pay24 v0 v1) (fun i => A i ^ 3) := (Cx.mul (pow2 h) h).congr fun i => by ring
theorem pow4 : Cx (k0_pay25 v0 v1) (k0_pay26 v0 v1) (fun i => A i ^ 4) := (Cx.mul (pow3 h) h).congr fun i => by ring
theorem pow5 : Cx (k0_pay27 v0 v1) (k0_pay28 v0 v1) (fun i => A i ^ 5) := (Cx.mul (pow4 h) h).congr fun i => by ring
theorem pow6 : Cx (k0_pay29 v0 v1) (k0_pay30 v0 v1) (fun i => A i ^ 6) := (Cx.mul (pow5 h) h).congr fun i => by ring
theorem pow7 : Cx (k0_pay31 v0 v1) (k0_pay32 v0 v1) (fun i => A i ^ 7) := (Cx.mul (pow6 h) h).congr fun i => by ring
theorem pow8 : Cx (k0_pay33 v0 v1) (k0_pay34 v0 v1) (fun i => A i ^ 8) := (Cx.mul (pow7 h) h).congr fun i => by ring

/-- The table of powers: row `r` holds `A ^ (r + 1)`. -/
theorem table :
    Cx (k0_pay1 (k0_pay31 v0 v1) (k0_pay33 v0 v1) rows8
        (k0_pay38 (k0_pay21 v0 v1) (k0_pay23 v0 v1) (k0_pay25 v0 v1) (k0_pay27 v0 v1) (k0_pay29 v0 v1) rows8 (k0_pay36 v0)))
      (k0_pay2 (k0_pay30 v0 v1) (k0_pay32 v0 v1) (k0_pay34 v0 v1) rows8
        (k0_pay37 v1 (k0_pay22 v0 v1) (k0_pay24 v0 v1) (k0_pay26 v0 v1) (k0_pay28 v0 v1) rows8 k0_pay35))
      (fun i => A (lane i) ^ ((i 0).val + 1)) := by
  have sc := shapeCasts_S1x512_S1x512
  have bc := broadcasts_S1x512_S8x512
  refine ((Cx.sel _ ((pow8 h).bcast' sc bc) (Cx.sel _ ((pow7 h).bcast' sc bc) (Cx.sel _ ((pow6 h).bcast' sc bc)
    (Cx.sel _ ((pow5 h).bcast' sc bc) (Cx.sel _ ((pow4 h).bcast' sc bc) (Cx.sel _ ((pow3 h).bcast' sc bc)
    (Cx.sel _ ((pow2 h).bcast' sc bc) (Cx.sel _ (h.bcast' sc bc) Cx.zero)))))))) : Cx (select (cmpi .eq rows8 (broadcast S8x512 7#32)) _ _) (select (cmpi .eq rows8 (broadcast S8x512 7#32)) _ _) _).congr ?_
  intro i
  have e (d : Nat) (hd : d < 8) := rows8_eq d hd i
  have e0 := e 0 (by decide); have e1 := e 1 (by decide); have e2 := e 2 (by decide); have e3 := e 3 (by decide)
  have e4 := e 4 (by decide); have e5 := e 5 (by decide); have e6 := e 6 (by decide); have e7 := e 7 (by decide)
  simp only [e0, e1, e2, e3, e4, e5, e6, e7]
  have hr : (i 0).val < 8 := (i 0).isLt
  generalize (i 0).val = r at hr
  interval_cases r <;> simp
end Pow

section Blk
variable {v0 v1 : Vec Ideal S1x512 .f32} {A : S1x512.Idx → ℂ} (h : Cx v0 v1 A)
  {xr xi : Vec Ideal S8x512 .f32} {X : S8x512.Idx → ℂ} (hx : Cx xr xi X)
  {cr ci : FVec Ideal S1x512 .f32} {C : S1x512.Idx → ℂ} (hc : Cx cr ci C)
include h hx

theorem blk1 : Cx (k0_pay14 v0 v1 rows8 xr xi) (k0_pay15 v0 v1 rows8 xr xi)
    (fun i => X i + if 1 ≤ (i 0).val then A (lane i) * X (back 1 i) else 0) :=
  (hx.add (Cx.sel (cmpi .sge rows8 (broadcast S8x512 (BitVec.ofNat 32 1))) ((h.bcast broadcasts_S1x512_S8x512).mul (hx.rot 1#32 rotates_S8x512_d0)) Cx.zero)).congr
    fun i => by simp only [rows8_sge 1 (by decide)]; rfl

theorem blk2 : Cx (k0_pay19 v0 v1 (k0_pay21 v0 v1) (k0_pay22 v0 v1) rows8 xr xi) (k0_pay20 v0 v1 (k0_pay21 v0 v1) (k0_pay22 v0 v1) rows8 xr xi)
    (fun i => (fun i => X i + if 1 ≤ (i 0).val then A (lane i) * X (back 1 i) else 0) i +
      if 2 ≤ (i 0).val then A (lane i) ^ 2 * (fun i => X i + if 1 ≤ (i 0).val then A (lane i) * X (back 1 i) else 0) (back 2 i) else 0) :=
  ((blk1 h hx).add (Cx.sel (cmpi .sge rows8 (broadcast S8x512 (BitVec.ofNat 32 2))) (((pow2 h).bcast broadcasts_S1x512_S8x512).mul ((blk1 h hx).rot 2#32 rotates_S8x512_d0)) Cx.zero)).congr
    fun i => by simp only [rows8_sge 2 (by decide)]; rfl

include hc
theorem blk : Cx
    (k0_pay7 (k0_pay25 v0 v1) (k0_pay26 v0 v1) (k0_pay30 v0 v1) (k0_pay31 v0 v1) (k0_pay32 v0 v1) (k0_pay33 v0 v1) (k0_pay34 v0 v1) rows8
        (k0_pay37 v1 (k0_pay22 v0 v1) (k0_pay24 v0 v1) (k0_pay26 v0 v1) (k0_pay28 v0 v1) rows8 k0_pay35)
        (k0_pay38 (k0_pay21 v0 v1) (k0_pay23 v0 v1) (k0_pay25 v0 v1) (k0_pay27 v0 v1) (k0_pay29 v0 v1) rows8 (k0_pay36 v0)) cr ci
        (k0_pay19 v0 v1 (k0_pay21 v0 v1) (k0_pay22 v0 v1) rows8 xr xi) (k0_pay20 v0 v1 (k0_pay21 v0 v1) (k0_pay22 v0 v1) rows8 xr xi))
    (k0_pay8 (k0_pay25 v0 v1) (k0_pay26 v0 v1) (k0_pay30 v0 v1) (k0_pay31 v0 v1) (k0_pay32 v0 v1) (k0_pay33 v0 v1) (k0_pay34 v0 v1) rows8
        (k0_pay37 v1 (k0_pay22 v0 v1) (k0_pay24 v0 v1) (k0_pay26 v0 v1) (k0_pay28 v0 v1) rows8 k0_pay35)
        (k0_pay38 (k0_pay21 v0 v1) (k0_pay23 v0 v1) (k0_pay25 v0 v1) (k0_pay27 v0 v1) (k0_pay29 v0 v1) rows8 (k0_pay36 v0)) cr ci
        (k0_pay19 v0 v1 (k0_pay21 v0 v1) (k0_pay22 v0 v1) rows8 xr xi) (k0_pay20 v0 v1 (k0_pay21 v0 v1) (k0_pay22 v0 v1) rows8 xr xi))
    (fun i => run (A (lane i)) (C (lane i)) (fun r => X (ix2 (Fin.ofNat 8 r) (i 1))) ((i 0).val + 1)) := by
  refine ((((blk2 h hx).add (Cx.sel (cmpi .sge rows8 (broadcast S8x512 (BitVec.ofNat 32 4))) (((pow4 h).bcast broadcasts_S1x512_S8x512).mul ((blk2 h hx).rot 4#32 rotates_S8x512_d0)) Cx.zero)).add
     ((table h).mul (hc.bcast broadcasts_S1x512_S8x512))) : Cx _ _ _).congr ?_
  intro i
  simp only [rows8_sge 4 (by decide)]
  obtain ⟨r, l, rfl⟩ : ∃ (r : Fin 8) (l : Fin 512), i = ix2 r l := ⟨i 0, i 1, eq_ix2 i⟩
  have hl : ∀ r : Fin 8, lane (ix2 r l) = ix2 (0 : Fin 1) l := fun r => rfl
  have b1 : ∀ r : Fin 8, back 1 (ix2 r l) = ix2 (Fin.ofNat 8 (r.val + 7)) l := fun r =>
    congrArg (fun q : Fin 8 => ix2 q l) ((by decide : ∀ r : Fin 8, (⟨(r.val + 8 - 1 % 8) % 8, Nat.mod_lt _ (by decide)⟩ : Fin 8) = Fin.ofNat 8 (r.val + 7)) r)
  have b2 : ∀ r : Fin 8, back 2 (ix2 r l) = ix2 (Fin.ofNat 8 (r.val + 6)) l := fun r =>
    congrArg (fun q : Fin 8 => ix2 q l) ((by decide : ∀ r : Fin 8, (⟨(r.val + 8 - 2 % 8) % 8, Nat.mod_lt _ (by decide)⟩ : Fin 8) = Fin.ofNat 8 (r.val + 6)) r)
  have b4 : ∀ r : Fin 8, back 4 (ix2 r l) = ix2 (Fin.ofNat 8 (r.val + 4)) l := fun r =>
    congrArg (fun q : Fin 8 => ix2 q l) ((by decide : ∀ r : Fin 8, (⟨(r.val + 8 - 4 % 8) % 8, Nat.mod_lt _ (by decide)⟩ : Fin 8) = Fin.ofNat 8 (r.val + 4)) r)
  have i0 : ∀ r : Fin 8, (ix2 r l : S8x512.Idx) 0 = r := fun r => rfl
  have i1 : ∀ r : Fin 8, (ix2 r l : S8x512.Idx) 1 = l := fun r => rfl
  have t4 : (4#32).toNat = 4 := rfl
  have t2 : (2#32).toNat = 2 := rfl
  simp only [t4, t2, hl, b1, b2, b4, i0, i1]
  generalize A (ix2 0 l) = a
  generalize C (ix2 0 l) = c
  generalize hx : (fun q : Fin 8 => X (ix2 q l)) = x
  have hx' : ∀ q, X (ix2 q l) = x q := fun q => congrFun hx q
  simp only [hx']
  fin_cases r <;> simp [run, Fin.ofNat]
  all_goals ring
end Blk
end Cert.Scan
-- ==== Proof.FwdLoop.lean ====
module
public import proofs.«01_k».proof.Proof.FwdBlock
public import proofs.«01_k».proof.Proof.Gen.KernelIdeal.Frame
public import Idealize.ShloMosaic.Lib.WholeRead
@[expose] public section
set_option maxRecDepth 16384
noncomputable section

/-! # The forward scan's loop over blocks of eight rows -/

namespace Cert.Scan
open Idealize.ShloMosaic Idealize.ShloMosaic.TcCoe Idealize.ShloMosaic.Tactic
open Idealize.SL Idealize.SL.Sem
open Cert.KernelIdeal Cert.KernelIdeal.Gen

/-- Row `t` of a column block at lane `l`, for any number `t`. -/
abbrev rowOf (X : S2048x512.Idx → ℂ) (l : Fin 512) (t : ℕ) : ℂ := X (ix2 (Fin.ofNat 2048 t) l)

/-- The state after the first `n` terms, at lane `l`. -/
abbrev fst (A : S1x512.Idx → ℂ) (X : S2048x512.Idx → ℂ) (l : Fin 512) (n : ℕ) : ℂ := run (A (ix2 (0 : Fin 1) l)) 0 (rowOf X l) n

theorem trips0 : k0_t1_loop.trips = 256 := by decide +kernel
theorem off0 : ∀ k : Fin k0_t1_loop.trips, k0_off1 k = ![8 * k.val, 0] := by decide +kernel

/-- A load of eight rows of a pair of blocks. -/
theorem load8 {m m' : Memref sig .tc .vmem S2048x512 .f32} (hm : m.IsWhole) (hm' : m'.IsWhole) {x y : Vec Ideal S2048x512 .f32} {X : S2048x512.Idx → ℂ}
    (h : Cx x y X) (o : Fin 2 → Nat) (n : ℕ) (ho : o = ![n, 0]) (inb : ∀ a, o a + S8x512.size a ≤ S2048x512.size a) :
    Cx (View.readAt (Elt Ideal) m.view (Rect.unit (s := S2048x512) o S8x512.size inb).toLoadRect (hm.unread x))
      (View.readAt (Elt Ideal) m'.view (Rect.unit (s := S2048x512) o S8x512.size inb).toLoadRect (hm'.unread y))
      (fun i : S8x512.Idx => rowOf X (i 1) (n + (i 0).val)) := by
  subst ho
  have hn : n + 8 ≤ 2048 := inb 0
  have e : ∀ i : S8x512.Idx, (Rect.unit (s := S2048x512) ![n, 0] S8x512.size inb).toLoadRect.idx i = ix2 (Fin.ofNat 2048 (n + (i 0).val)) (i 1) := by
    intro i
    have hi : (i 0).val < 8 := (i 0).isLt
    funext a
    apply Fin.ext
    fin_cases a
    · show n + 1 * (i 0).val = (n + (i 0).val) % 2048
      rw [Nat.mod_eq_of_lt (by omega)]; omega
    · show 0 + 1 * (i 1).val = (i 1).val
      omega
  intro i
  have hi := h (ix2 (Fin.ofNat 2048 (n + (i 0).val)) (i 1))
  exact ⟨(Memref.IsWhole.readAt_unread hm x _ i).trans ((congrArg x (e i)).trans hi.1), (Memref.IsWhole.readAt_unread hm' y _ i).trans ((congrArg y (e i)).trans hi.2)⟩

/-- Where a block of eight rows lies. -/
theorem emb8 (o : Fin 2 → Nat) (n : ℕ) (ho : o = ![n, 0]) (inb : ∀ a, o a + S8x512.size a ≤ S2048x512.size a) (i : S8x512.Idx) :
    (((Rect.unit (s := S2048x512) o S8x512.size inb).emb i) 0).val = n + (i 0).val ∧ ((Rect.unit (s := S2048x512) o S8x512.size inb).emb i) 1 = i 1 := by
  subst ho
  constructor
  · show n + 1 * (i 0).val = _
    omega
  · apply Fin.ext
    show 0 + 1 * (i 1).val = (i 1).val
    omega

section Trip
variable (𝒱 : Variants) (c : Dev nD) (bd : Option 𝒱.V) (i : grid0.Coords) (arg1 : Memref sig .tc .vmem S1x512 .f32) (harg1 : arg1.IsWhole) (arg2 : Memref sig .tc .vmem S1x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (v0 v1 : Vec Ideal S1x512 .f32) (x2 x3 : Vec Ideal S2048x512 .f32)

/-- The loop's carried state and stores before trip `k`, over the table of powers of its coefficient. -/
abbrev fst0 (k : ℕ) :=
  st_k0_t1 (F := Ideal) 𝒱 c bd i arg1 harg1 arg2 harg2 arg3 harg3 arg4 harg4 arg5 harg5 arg6 harg6 v0 v1 (k0_pay21 v0 v1) (k0_pay22 v0 v1) (k0_pay25 v0 v1) (k0_pay26 v0 v1) (k0_pay30 v0 v1) (k0_pay31 v0 v1) (k0_pay32 v0 v1) (k0_pay33 v0 v1) (k0_pay34 v0 v1) rows8
        (k0_pay37 v1 (k0_pay22 v0 v1) (k0_pay24 v0 v1) (k0_pay26 v0 v1) (k0_pay28 v0 v1) rows8 k0_pay35)
        (k0_pay38 (k0_pay21 v0 v1) (k0_pay23 v0 v1) (k0_pay25 v0 v1) (k0_pay27 v0 v1) (k0_pay29 v0 v1) rows8 (k0_pay36 v0)) (harg3.unread x2) (harg4.unread x3) (k0_pay3, k0_pay3) k

/-- Before trip `k` the carry is the state after `8 k` terms, and every store so far holds the states of its rows. -/
theorem fwdLoop {A : S1x512.Idx → ℂ} (h : Cx v0 v1 A) {X : S2048x512.Idx → ℂ} (hX : Cx x2 x3 X) : ∀ k : ℕ, k ≤ 256 →
    Cx (fst0 𝒱 c bd i arg1 harg1 arg2 harg2 arg3 harg3 arg4 harg4 arg5 harg5 arg6 harg6 v0 v1 x2 x3 k).1.1 (fst0 𝒱 c bd i arg1 harg1 arg2 harg2 arg3 harg3 arg4 harg4 arg5 harg5 arg6 harg6 v0 v1 x2 x3 k).1.2 (fun j => fst A X (j 1) (8 * k))
    ∧ (∀ p ∈ (fst0 𝒱 c bd i arg1 harg1 arg2 harg2 arg3 harg3 arg4 harg4 arg5 harg5 arg6 harg6 v0 v1 x2 x3 k).2.1, ∀ x, p.2 x = (((fst A X ((p.1.emb x) 1) (((p.1.emb x) 0).val + 1)).re : ℝ) : EReal))
    ∧ (∀ p ∈ (fst0 𝒱 c bd i arg1 harg1 arg2 harg2 arg3 harg3 arg4 harg4 arg5 harg5 arg6 harg6 v0 v1 x2 x3 k).2.2, ∀ x, p.2 x = (((fst A X ((p.1.emb x) 1) (((p.1.emb x) 0).val + 1)).im : ℝ) : EReal)) := by
  intro k
  induction k with
  | zero =>
    intro _
    refine ⟨Cx.zero, ?_, ?_⟩ <;> (intro p hp; exact absurd hp List.not_mem_nil)
  | succ k ih =>
    intro hk
    obtain ⟨hc, h1, h2⟩ := ih (by omega)
    have hk' : k < k0_t1_loop.trips := by rw [trips0]; omega
    have e := st_k0_t1_succ (F := Ideal) 𝒱 c bd i arg1 harg1 arg2 harg2 arg3 harg3 arg4 harg4 arg5 harg5 arg6 harg6 v0 v1 (k0_pay21 v0 v1) (k0_pay22 v0 v1) (k0_pay25 v0 v1) (k0_pay26 v0 v1) (k0_pay30 v0 v1) (k0_pay31 v0 v1) (k0_pay32 v0 v1) (k0_pay33 v0 v1) (k0_pay34 v0 v1) rows8
        (k0_pay37 v1 (k0_pay22 v0 v1) (k0_pay24 v0 v1) (k0_pay26 v0 v1) (k0_pay28 v0 v1) rows8 k0_pay35)
        (k0_pay38 (k0_pay21 v0 v1) (k0_pay23 v0 v1) (k0_pay25 v0 v1) (k0_pay27 v0 v1) (k0_pay29 v0 v1) rows8 (k0_pay36 v0)) (harg3.unread x2) (harg4.unread x3) (k0_pay3, k0_pay3) ⟨k, hk'⟩
    have hb := blk h (load8 harg3 harg4 hX (k0_off1 ⟨k, hk'⟩) (8 * k) (off0 ⟨k, hk'⟩) (k0_off1_inb ⟨k, hk'⟩)) hc
    unfold fst0
    rw [show k + 1 = (⟨k, hk'⟩ : Fin k0_t1_loop.trips).val + 1 from rfl, e]
    unfold tripR_k0_t1 tripL_k0_t1 trip_k0_t1
    have hS : ∀ j : S8x512.Idx, run (A (lane j)) (fst A X (j 1) (8 * k)) (fun r => rowOf X (j 1) (8 * k + (Fin.ofNat 8 r).val)) ((j 0).val + 1)
        = fst A X (j 1) (8 * k + (j 0).val + 1) := by
      intro j
      have hj : (j 0).val < 8 := (j 0).isLt
      rw [run_congr _ _ _ (fun r => rowOf X (j 1) (8 * k + r)) _ (fun r hr => by
        show rowOf X (j 1) (8 * k + r % 8) = _
        rw [Nat.mod_eq_of_lt (by omega)])]
      exact run_add _ _ _ _ _
    have hB := hb.congr hS
    have hp : ∀ j : S8x512.Idx, fst A X (j 1) (8 * k + (j 0).val + 1)
        = fst A X (((Rect.unit (s := S2048x512) (k0_off1 ⟨k, hk'⟩) S8x512.size (k0_off1_inb ⟨k, hk'⟩)).emb j) 1)
            ((((Rect.unit (s := S2048x512) (k0_off1 ⟨k, hk'⟩) S8x512.size (k0_off1_inb ⟨k, hk'⟩)).emb j) 0).val + 1) := by
      intro j
      obtain ⟨e0, e1⟩ := emb8 (k0_off1 ⟨k, hk'⟩) (8 * k) (off0 ⟨k, hk'⟩) (k0_off1_inb ⟨k, hk'⟩) j
      rw [e0, e1]
    refine ⟨hB.row (7 : Fin 8) slices_S8x512_o7_0_S1x512, ?_, ?_⟩
    · intro p hpm
      rcases List.mem_append.1 hpm with hpm | hpm
      · obtain rfl := List.mem_singleton.1 hpm
        intro x
        exact ((hB.congr hp) x).1
      · exact h1 p hpm
    · intro p hpm
      rcases List.mem_append.1 hpm with hpm | hpm
      · obtain rfl := List.mem_singleton.1 hpm
        intro x
        exact ((hB.congr hp) x).2
      · exact h2 p hpm
end Trip

/-- A load of a whole row. -/
theorem load1 {m m' : Memref sig .tc .vmem S1x512 .f32} (hm : m.IsWhole) (hm' : m'.IsWhole) {x y : Vec Ideal S1x512 .f32} {A : S1x512.Idx → ℂ}
    (h : Cx x y A) (inb : ∀ a, (![0, 0] : Fin 2 → Nat) a + S1x512.size a ≤ S1x512.size a) :
    Cx (View.readAt (Elt Ideal) m.view (Rect.unit (s := S1x512) ![0, 0] S1x512.size inb).toLoadRect (hm.unread x))
      (View.readAt (Elt Ideal) m'.view (Rect.unit (s := S1x512) ![0, 0] S1x512.size inb).toLoadRect (hm'.unread y)) A := by
  have e : ∀ i : S1x512.Idx, (Rect.unit (s := S1x512) ![0, 0] S1x512.size inb).toLoadRect.idx i = i := by
    intro i
    funext a
    apply Fin.ext
    fin_cases a
    · show 0 + 1 * (i 0).val = (i 0).val
      omega
    · show 0 + 1 * (i 1).val = (i 1).val
      omega
  intro i
  exact ⟨(Memref.IsWhole.readAt_unread hm x _ i).trans ((congrArg x (e i)).trans (h i).1), (Memref.IsWhole.readAt_unread hm' y _ i).trans ((congrArg y (e i)).trans (h i).2)⟩

/-- What the forward scan leaves in its two output blocks: in row `t` the state after `t + 1` terms. -/
theorem fwdOut (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole)
    {x0 x1 : Vec Ideal S1x512 .f32} {x2 x3 : Vec Ideal S2048x512 .f32} {A : S1x512.Idx → ℂ} (h : Cx x0 x1 A) {X : S2048x512.Idx → ℂ} (hX : Cx x2 x3 X) :
    Cx (out0_A_4 (F := Ideal) c i arg1 harg1 arg2 harg2 arg3 harg3 arg4 harg4 arg5 harg5 arg6 harg6 x0 x1 x2 x3) (out0_A_5 (F := Ideal) c i arg1 harg1 arg2 harg2 arg3 harg3 arg4 harg4 arg5 harg5 arg6 harg6 x0 x1 x2 x3) (fun y => fst A X (y 1) ((y 0).val + 1)) := by
  have hl := fwdLoop Variants.none c none i arg1 harg1 arg2 harg2 arg3 harg3 arg4 harg4 arg5 harg5 arg6 harg6 _ _ x2 x3 (load1 harg1 harg2 h inb_S1x512_S1x512_0_0) hX 256 le_rfl
  intro y
  constructor
  · unfold out0_A_4
    rw [View.read_writes_junk_eq_canon]
    exact View.canon_apply_of_pieces (fun y => (((fst A X (y 1) ((y 0).val + 1)).re : ℝ) : EReal)) _ hl.2.1 y
      (cover0_A_4 (F := Ideal) c i arg1 harg1 arg2 harg2 arg3 harg3 arg4 harg4 arg5 harg5 arg6 harg6 x0 x1 x2 x3 y)
  · unfold out0_A_5
    rw [View.read_writes_junk_eq_canon]
    exact View.canon_apply_of_pieces (fun y => (((fst A X (y 1) ((y 0).val + 1)).im : ℝ) : EReal)) _ hl.2.2 y
      (cover0_A_5 (F := Ideal) c i arg1 harg1 arg2 harg2 arg3 harg3 arg4 harg4 arg5 harg5 arg6 harg6 x0 x1 x2 x3 y)
end Cert.Scan
-- ==== Proof.RevBlock.lean ====
module
public import proofs.«01_k».proof.Proof.Cx
@[expose] public section
set_option maxRecDepth 16384
noncomputable section

/-! # Eight rows of the reverse scan and of the gradient of its coefficient -/

namespace Cert.Scan
open Idealize.ShloMosaic Idealize.ShloMosaic.Tactic
open Cert.KernelIdeal Cert.KernelIdeal.Gen

section Pow
variable {v0 v1 : Vec Ideal S1x512 .f32} {A : S1x512.Idx → ℂ} (h : Cx v0 v1 A)
include h

theorem rpow1 : Cx v0 (k1_pay31 v1) A := by
  have : k1_pay31 v1 = v1 := shapeCast_self v1 _
  rw [this]; exact h
theorem rpow2 : Cx (k1_pay32 v0 v1) (k1_pay33 v0 v1) (fun i => A i ^ 2) := (Cx.mul (rpow1 h) (rpow1 h)).congr fun i => by ring
theorem rpow3 : Cx (k1_pay34 v0 v1) (k1_pay35 v0 v1) (fun i => A i ^ 3) := (Cx.mul (rpow2 h) (rpow1 h)).congr fun i => by ring
theorem rpow4 : Cx (k1_pay36 v0 v1) (k1_pay37 v0 v1) (fun i => A i ^ 4) := (Cx.mul (rpow3 h) (rpow1 h)).congr fun i => by ring
theorem rpow5 : Cx (k1_pay38 v0 v1) (k1_pay39 v0 v1) (fun i => A i ^ 5) := (Cx.mul (rpow4 h) (rpow1 h)).congr fun i => by ring
theorem rpow6 : Cx (k1_pay40 v0 v1) (k1_pay41 v0 v1) (fun i => A i ^ 6) := (Cx.mul (rpow5 h) (rpow1 h)).congr fun i => by ring
theorem rpow7 : Cx (k1_pay42 v0 v1) (k1_pay43 v0 v1) (fun i => A i ^ 7) := (Cx.mul (rpow6 h) (rpow1 h)).congr fun i => by ring

/-- The real parts of the reverse table of powers. -/
abbrev rtabRe (v0 v1 : Vec Ideal S1x512 .f32) : FVec Ideal S8x512 .f32 :=
  k1_pay1 v0 (k1_pay32 v0 v1) rows8 (k1_pay49 (k1_pay36 v0 v1) (k1_pay38 v0 v1) (k1_pay40 v0 v1) (k1_pay42 v0 v1) rows8 k1_pay45 k1_pay47 (k1_pay48 v0 v1))
    (k1_pay51 rows8) (k1_pay52 (k1_pay34 v0 v1))
/-- The imaginary parts of the reverse table of powers. -/
abbrev rtabIm (v0 v1 : Vec Ideal S1x512 .f32) : FVec Ideal S8x512 .f32 :=
  k1_pay2 (k1_pay31 v1) (k1_pay33 v0 v1) (k1_pay35 v0 v1) rows8
    (k1_pay50 (k1_pay37 v0 v1) (k1_pay39 v0 v1) (k1_pay41 v0 v1) (k1_pay43 v0 v1) (k1_pay44 v0 v1) rows8 k1_pay46)

/-- The reverse table of powers: row `r` holds `A ^ (8 - r)`. -/
theorem rtable : Cx (rtabRe v0 v1) (rtabIm v0 v1) (fun i => A (lane i) ^ (8 - (i 0).val)) := by
  have sc := shapeCasts_S1x512_S1x512
  have bc := broadcasts_S1x512_S8x512
  have h1 := rpow1 h
  have h8 := Cx.mul (rpow7 h) h1
  refine ((Cx.sel _ (h1.bcast' sc bc) (Cx.sel _ ((rpow2 h).bcast' sc bc) (Cx.sel _ ((rpow3 h).bcast' sc bc)
    (Cx.sel _ ((rpow4 h).bcast' sc bc) (Cx.sel _ ((rpow5 h).bcast' sc bc) (Cx.sel _ ((rpow6 h).bcast' sc bc)
    (Cx.sel _ ((rpow7 h).bcast' sc bc) (Cx.sel _ (h8.bcast' sc bc) Cx.zero)))))))) : Cx (select (cmpi .eq rows8 (broadcast S8x512 7#32)) _ _) (select (cmpi .eq rows8 (broadcast S8x512 7#32)) _ _) _).congr ?_
  intro i
  have e (d : Nat) (hd : d < 8) := rows8_eq d hd i
  have e5' := e 5 (by decide); have e0' := e 0 (by decide)
  have e0 : k1_pay47 i = 1#1 ↔ (i 0).val = 0 := e 0 (by decide); have e1 := e 1 (by decide); have e2 := e 2 (by decide); have e3 := e 3 (by decide)
  have e4 := e 4 (by decide); have e5 : k1_pay51 rows8 i = 1#1 ↔ (i 0).val = 5 := e 5 (by decide); have e6 := e 6 (by decide); have e7 := e 7 (by decide)
  simp only [e0, e1, e2, e3, e4, e5, e6, e7, e5', e0']
  have hr : (i 0).val < 8 := (i 0).isLt
  generalize (i 0).val = r at hr
  interval_cases r <;> simp <;> ring
end Pow

section Blk
/-- The eight new reverse states: real parts. -/
abbrev rblkRe (v0 v1 : Vec Ideal S1x512 .f32) (xr xi : Vec Ideal S8x512 .f32) (cr ci : FVec Ideal S1x512 .f32) : FVec Ideal S8x512 .f32 :=
  k1_pay26 (k1_pay36 v0 v1) (k1_pay37 v0 v1) rows8 (rtabRe v0 v1) (rtabIm v0 v1) cr ci (k1_pay15 v0 (k1_pay31 v1) rows8 xr xi) (k1_pay18 rows8)
    (k1_pay19 v0 (k1_pay31 v1) (k1_pay32 v0 v1) (k1_pay33 v0 v1) rows8 xr xi) (k1_pay20 v0 (k1_pay31 v1) (k1_pay32 v0 v1) (k1_pay33 v0 v1) rows8 xr xi) k1_pay21
/-- The eight new reverse states: imaginary parts. -/
abbrev rblkIm (v0 v1 : Vec Ideal S1x512 .f32) (xr xi : Vec Ideal S8x512 .f32) (cr ci : FVec Ideal S1x512 .f32) : FVec Ideal S8x512 .f32 :=
  k1_pay27 (k1_pay36 v0 v1) (k1_pay37 v0 v1) rows8 (rtabRe v0 v1) (rtabIm v0 v1) cr ci (k1_pay15 v0 (k1_pay31 v1) rows8 xr xi) (k1_pay18 rows8)
    (k1_pay19 v0 (k1_pay31 v1) (k1_pay32 v0 v1) (k1_pay33 v0 v1) rows8 xr xi) (k1_pay20 v0 (k1_pay31 v1) (k1_pay32 v0 v1) (k1_pay33 v0 v1) rows8 xr xi) k1_pay21

variable {v0 v1 : Vec Ideal S1x512 .f32} {A : S1x512.Idx → ℂ} (h : Cx v0 v1 A)
  {xr xi : Vec Ideal S8x512 .f32} {X : S8x512.Idx → ℂ} (hx : Cx xr xi X)
  {cr ci : FVec Ideal S1x512 .f32} {C : S1x512.Idx → ℂ} (hc : Cx cr ci C)
include h hx

theorem rblk1 : Cx (k1_pay14 v0 (k1_pay31 v1) rows8 xr xi) (k1_pay15 v0 (k1_pay31 v1) rows8 xr xi)
    (fun i => X i + if (i 0).val < 7 then A (lane i) * X (back 7 i) else 0) :=
  (hx.add (Cx.sel (cmpi .slt rows8 (broadcast S8x512 (BitVec.ofNat 32 7))) (((rpow1 h).bcast broadcasts_S1x512_S8x512).mul (hx.rot 7#32 rotates_S8x512_d0)) Cx.zero)).congr
    fun i => by simp only [rows8_slt 7 (by decide)]; rfl

theorem rblk2 : Cx (k1_pay20 v0 (k1_pay31 v1) (k1_pay32 v0 v1) (k1_pay33 v0 v1) rows8 xr xi)
      (k1_pay22 (k1_pay15 v0 (k1_pay31 v1) rows8 xr xi) (k1_pay18 rows8) (k1_pay19 v0 (k1_pay31 v1) (k1_pay32 v0 v1) (k1_pay33 v0 v1) rows8 xr xi) k1_pay21)
    (fun i => (fun i => X i + if (i 0).val < 7 then A (lane i) * X (back 7 i) else 0) i +
      if (i 0).val < 6 then A (lane i) ^ 2 * (fun i => X i + if (i 0).val < 7 then A (lane i) * X (back 7 i) else 0) (back 6 i) else 0) :=
  ((rblk1 h hx).add (Cx.sel (cmpi .slt rows8 (broadcast S8x512 (BitVec.ofNat 32 6))) (((rpow2 h).bcast broadcasts_S1x512_S8x512).mul ((rblk1 h hx).rot 6#32 rotates_S8x512_d0)) Cx.zero)).congr
    fun i => by simp only [rows8_slt 6 (by decide)]; rfl

include hc
/-- Eight rows of the reverse scan: row `r` is the recurrence run over the rows from the last down to `r`. -/
theorem rblk : Cx (rblkRe v0 v1 xr xi cr ci) (rblkIm v0 v1 xr xi cr ci)
    (fun i => run (A (lane i)) (C (lane i)) (fun r => X (ix2 (Fin.ofNat 8 (7 - r)) (i 1))) (8 - (i 0).val)) := by
  refine ((((rblk2 h hx).add (Cx.sel (cmpi .slt rows8 (broadcast S8x512 (BitVec.ofNat 32 4))) (((rpow4 h).bcast broadcasts_S1x512_S8x512).mul ((rblk2 h hx).rot 4#32 rotates_S8x512_d0)) Cx.zero)).add
     ((rtable h).mul (hc.bcast broadcasts_S1x512_S8x512))) : Cx _ _ _).congr ?_
  intro i
  simp only [rows8_slt 4 (by decide)]
  obtain ⟨r, l, rfl⟩ : ∃ (r : Fin 8) (l : Fin 512), i = ix2 r l := ⟨i 0, i 1, eq_ix2 i⟩
  have hl : ∀ r : Fin 8, lane (ix2 r l) = ix2 (0 : Fin 1) l := fun r => rfl
  have b1 : ∀ r : Fin 8, back 7 (ix2 r l) = ix2 (Fin.ofNat 8 (r.val + 1)) l := fun r =>
    congrArg (fun q : Fin 8 => ix2 q l) ((by decide : ∀ r : Fin 8, (⟨(r.val + 8 - 7 % 8) % 8, Nat.mod_lt _ (by decide)⟩ : Fin 8) = Fin.ofNat 8 (r.val + 1)) r)
  have b2 : ∀ r : Fin 8, back 6 (ix2 r l) = ix2 (Fin.ofNat 8 (r.val + 2)) l := fun r =>
    congrArg (fun q : Fin 8 => ix2 q l) ((by decide : ∀ r : Fin 8, (⟨(r.val + 8 - 6 % 8) % 8, Nat.mod_lt _ (by decide)⟩ : Fin 8) = Fin.ofNat 8 (r.val + 2)) r)
  have b4 : ∀ r : Fin 8, back 4 (ix2 r l) = ix2 (Fin.ofNat 8 (r.val + 4)) l := fun r =>
    congrArg (fun q : Fin 8 => ix2 q l) ((by decide : ∀ r : Fin 8, (⟨(r.val + 8 - 4 % 8) % 8, Nat.mod_lt _ (by decide)⟩ : Fin 8) = Fin.ofNat 8 (r.val + 4)) r)
  have i0 : ∀ r : Fin 8, (ix2 r l : S8x512.Idx) 0 = r := fun r => rfl
  have i1 : ∀ r : Fin 8, (ix2 r l : S8x512.Idx) 1 = l := fun r => rfl
  have t4 : (4#32).toNat = 4 := rfl
  have t6 : (6#32).toNat = 6 := rfl
  simp only [t4, t6, hl, b1, b2, b4, i0, i1]
  generalize A (ix2 0 l) = a
  generalize C (ix2 0 l) = c
  generalize hx : (fun q : Fin 8 => X (ix2 q l)) = x
  have hx' : ∀ q, X (ix2 q l) = x q := fun q => congrFun hx q
  simp only [hx']
  fin_cases r <;> simp [run, Fin.ofNat]
  all_goals ring
end Blk

section Grad
/-- The states one step earlier: the row above, and in row 0 the last row of the block before (times 1, or 0 in the
    first block). -/
theorem prev {v231 v237 v245 v254 : Vec Ideal S8x512 .f32} {Sp Sc : S8x512.Idx → ℂ} (hp : Cx v231 v237 Sp) (hc : Cx v245 v254 Sc)
    {w : Ideal .f32} {q : ℝ} (hw : w = (q : EReal)) :
    Cx (k1_pay5 rows8 w v231 v245) (k1_pay6 rows8 w v237 v254)
      (fun i => if (i 0).val = 0 then Sp (ix2 (7 : Fin 8) (i 1)) * (q : ℂ) else Sc (back 1 i)) := by
  have e : ∀ v : Vec Ideal S8x512 .f32, shapeCast S8x512 v shapeCasts_S8x512_S8x512 = v := fun v => shapeCast_self v _
  refine (((Cx.sel (cmpi .eq rows8 (broadcast S8x512 (BitVec.ofNat 32 0)))
    (((hp.row (7 : Fin 8) slices_S8x512_o7_0_S1x512).smul hw).bcast' shapeCasts_S1x512_S1x512 broadcasts_S1x512_S8x512)
    (hc.rot 1#32 rotates_S8x512_d0)) : Cx _ _ _).congr (fun i => by simp only [rows8_eq 0 (by decide)]; rfl) : Cx _ _ _) |> fun k => ?_
  unfold k1_pay5 k1_pay6
  simp only [e]
  exact k

/-- The running sum of the gradient of the coefficient. -/
theorem accum {p q a b v231 v237 v245 v254 : Vec Ideal S8x512 .f32} {w : Ideal .f32} {E L S : S8x512.Idx → ℂ} (h0 : Cx p q E) (hl : Cx a b L)
    (hs : Cx (k1_pay5 rows8 w v231 v245) (k1_pay6 rows8 w v237 v254) S) :
    Cx (k1_pay7 rows8 p a b w v231 v237 v245 v254) (k1_pay8 rows8 q a b w v231 v237 v245 v254) (fun i => E i + L i * (starRingEnd ℂ) (S i)) :=
  Cx.addMulConj h0 hl hs
end Grad
end Cert.Scan
-- ==== Proof.RevLoop.lean ====
module
public import proofs.«01_k».proof.Proof.RevBlock
public import proofs.«01_k».proof.Proof.FwdLoop
@[expose] public section
set_option maxRecDepth 16384
noncomputable section

/-! # The reverse scan's loop over blocks of eight rows, from the last to the first -/

namespace Cert.Scan
open Idealize.ShloMosaic Idealize.ShloMosaic.TcCoe Idealize.ShloMosaic.Tactic
open Idealize.SL Idealize.SL.Sem
open Cert.KernelIdeal Cert.KernelIdeal.Gen

/-- The reverse state after the last `n` terms, at lane `l`. -/
abbrev lam (A : S1x512.Idx → ℂ) (C : S2048x512.Idx → ℂ) (l : Fin 512) (n : ℕ) : ℂ :=
  run (A (ix2 (0 : Fin 1) l)) 0 (fun n => rowOf C l (2047 - n)) n

/-- The state before row `t`: zero before row 0. -/
def before (S : S2048x512.Idx → ℂ) (l : Fin 512) (t : ℕ) : ℂ := if t = 0 then 0 else rowOf S l (t - 1)

theorem trips1 : k1_t1_loop.trips = 256 := by decide +kernel
theorem off1 : ∀ k : Fin k1_t1_loop.trips, k1_off1 k = ![8 * (255 - k.val), 0] := by decide +kernel
theorem off2 : ∀ k : Fin k1_t1_loop.trips, k1_off2 k = ![8 * (254 - k.val), 0] := by decide +kernel
theorem live_bit : ∀ k : Fin k1_t1_loop.trips,
    (Scalar.extui (Scalar.cmpi .sgt (Scalar.subi 255#32 (Scf.iv 0#32 1#32 k)) 0#32) : BitVec 32) = if k.val < 255 then 1#32 else 0#32 := by
  decide +kernel
/-- The factor that drops the state before the first row: 1, and 0 in the last trip. -/
theorem live (k : Fin k1_t1_loop.trips) :
    k1_pay30 (F := Ideal) (Scalar.subi 255#32 (Scf.iv 0#32 1#32 k)) = (((if k.val < 255 then 1 else 0 : ℝ)) : EReal) := by
  show Scalar.sitofp (F := Ideal) .f32 (Scalar.extui (Scalar.cmpi .sgt (Scalar.subi 255#32 (Scf.iv 0#32 1#32 k)) 0#32)) = _
  rw [live_bit k]
  by_cases h : k.val < 255
  · rw [if_pos h, if_pos h]
    show (((1#32 : BitVec 32).toInt : ℝ) : EReal) = _
    simp
  · rw [if_neg h, if_neg h]
    show (((0#32 : BitVec 32).toInt : ℝ) : EReal) = _
    simp

section Trip
variable (𝒱 : Variants) (c : Dev nD) (bd : Option 𝒱.V) (i : grid1.Coords) (arg1 : Memref sig .tc .vmem S1x512 .f32) (harg1 : arg1.IsWhole) (arg2 : Memref sig .tc .vmem S1x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole) (v0 v1 : Vec Ideal S1x512 .f32) (x2 x3 x4 x5 : Vec Ideal S2048x512 .f32)

/-- The loop's carried state and stores before trip `k`, over the table of powers of its coefficient. -/
abbrev rst0 (k : ℕ) :=
  st_k1_t1 (F := Ideal) 𝒱 c bd i arg1 harg1 arg2 harg2 arg3 harg3 arg4 harg4 arg5 harg5 arg6 harg6 arg7 harg7 arg8 harg8 arg9 harg9 arg10 harg10 v0 (k1_pay31 v1) (k1_pay32 v0 v1) (k1_pay33 v0 v1) (k1_pay35 v0 v1) (k1_pay36 v0 v1) (k1_pay37 v0 v1) rows8
        (k1_pay49 (k1_pay36 v0 v1) (k1_pay38 v0 v1) (k1_pay40 v0 v1) (k1_pay42 v0 v1) rows8 k1_pay45 k1_pay47 (k1_pay48 v0 v1))
        (k1_pay50 (k1_pay37 v0 v1) (k1_pay39 v0 v1) (k1_pay41 v0 v1) (k1_pay43 v0 v1) (k1_pay44 v0 v1) rows8 k1_pay46)
        (k1_pay51 rows8) (k1_pay52 (k1_pay34 v0 v1)) (harg3.unread x2) (harg4.unread x3) (harg5.unread x4) (harg6.unread x5) (k1_pay3, k1_pay3, k1_pay4, k1_pay4) k

/-- Before trip `k` the carry is the reverse state after `8 k` terms, the running sums hold the products of the reverse
    states with the conjugates of the states before them, and every store so far holds the reverse states of its rows. -/
theorem revLoop {A : S1x512.Idx → ℂ} (h : Cx v0 v1 A) {C : S2048x512.Idx → ℂ} (hC : Cx x2 x3 C) {S : S2048x512.Idx → ℂ} (hS : Cx x4 x5 S) : ∀ k : ℕ, k ≤ 256 →
    Cx (rst0 𝒱 c bd i arg1 harg1 arg2 harg2 arg3 harg3 arg4 harg4 arg5 harg5 arg6 harg6 arg7 harg7 arg8 harg8 arg9 harg9 arg10 harg10 v0 v1 x2 x3 x4 x5 k).1.1 (rst0 𝒱 c bd i arg1 harg1 arg2 harg2 arg3 harg3 arg4 harg4 arg5 harg5 arg6 harg6 arg7 harg7 arg8 harg8 arg9 harg9 arg10 harg10 v0 v1 x2 x3 x4 x5 k).1.2.1 (fun j => lam A C (j 1) (8 * k))
    ∧ Cx (rst0 𝒱 c bd i arg1 harg1 arg2 harg2 arg3 harg3 arg4 harg4 arg5 harg5 arg6 harg6 arg7 harg7 arg8 harg8 arg9 harg9 arg10 harg10 v0 v1 x2 x3 x4 x5 k).1.2.2.1 (rst0 𝒱 c bd i arg1 harg1 arg2 harg2 arg3 harg3 arg4 harg4 arg5 harg5 arg6 harg6 arg7 harg7 arg8 harg8 arg9 harg9 arg10 harg10 v0 v1 x2 x3 x4 x5 k).1.2.2.2
        (fun j => ∑ n ∈ Finset.range k, lam A C (j 1) (8 * n + (8 - (j 0).val)) * (starRingEnd ℂ) (before S (j 1) (8 * (255 - n) + (j 0).val)))
    ∧ (∀ p ∈ (rst0 𝒱 c bd i arg1 harg1 arg2 harg2 arg3 harg3 arg4 harg4 arg5 harg5 arg6 harg6 arg7 harg7 arg8 harg8 arg9 harg9 arg10 harg10 v0 v1 x2 x3 x4 x5 k).2.1, ∀ x, p.2 x = (((lam A C ((p.1.emb x) 1) (2048 - ((p.1.emb x) 0).val)).re : ℝ) : EReal))
    ∧ (∀ p ∈ (rst0 𝒱 c bd i arg1 harg1 arg2 harg2 arg3 harg3 arg4 harg4 arg5 harg5 arg6 harg6 arg7 harg7 arg8 harg8 arg9 harg9 arg10 harg10 v0 v1 x2 x3 x4 x5 k).2.2, ∀ x, p.2 x = (((lam A C ((p.1.emb x) 1) (2048 - ((p.1.emb x) 0).val)).im : ℝ) : EReal)) := by
  intro k
  induction k with
  | zero =>
    intro _
    refine ⟨Cx.zero, (Cx.zero).congr fun i => by simp, ?_, ?_⟩ <;> (intro p hp; exact absurd hp List.not_mem_nil)
  | succ k ih =>
    intro hk
    obtain ⟨hc, hacc, h1, h2⟩ := ih (by omega)
    have hk' : k < k1_t1_loop.trips := by rw [trips1]; omega
    have e := st_k1_t1_succ (F := Ideal) 𝒱 c bd i arg1 harg1 arg2 harg2 arg3 harg3 arg4 harg4 arg5 harg5 arg6 harg6 arg7 harg7 arg8 harg8 arg9 harg9 arg10 harg10 v0 (k1_pay31 v1) (k1_pay32 v0 v1) (k1_pay33 v0 v1) (k1_pay35 v0 v1) (k1_pay36 v0 v1) (k1_pay37 v0 v1) rows8
        (k1_pay49 (k1_pay36 v0 v1) (k1_pay38 v0 v1) (k1_pay40 v0 v1) (k1_pay42 v0 v1) rows8 k1_pay45 k1_pay47 (k1_pay48 v0 v1))
        (k1_pay50 (k1_pay37 v0 v1) (k1_pay39 v0 v1) (k1_pay41 v0 v1) (k1_pay43 v0 v1) (k1_pay44 v0 v1) rows8 k1_pay46)
        (k1_pay51 rows8) (k1_pay52 (k1_pay34 v0 v1)) (harg3.unread x2) (harg4.unread x3) (harg5.unread x4) (harg6.unread x5) (k1_pay3, k1_pay3, k1_pay4, k1_pay4) ⟨k, hk'⟩
    have hb := rblk h (load8 harg3 harg4 hC (k1_off1 ⟨k, hk'⟩) (8 * (255 - k)) (off1 ⟨k, hk'⟩) (k1_off1_inb ⟨k, hk'⟩)) hc
    have hpv := prev (load8 harg5 harg6 hS (k1_off2 ⟨k, hk'⟩) (8 * (254 - k)) (off2 ⟨k, hk'⟩) (k1_off2_inb ⟨k, hk'⟩))
      (load8 harg5 harg6 hS (k1_off1 ⟨k, hk'⟩) (8 * (255 - k)) (off1 ⟨k, hk'⟩) (k1_off1_inb ⟨k, hk'⟩)) (live ⟨k, hk'⟩)
    unfold rst0
    rw [show k + 1 = (⟨k, hk'⟩ : Fin k1_t1_loop.trips).val + 1 from rfl, e]
    unfold tripR_k1_t1 tripL_k1_t1 trip_k1_t1
    have hL : ∀ j : S8x512.Idx, run (A (lane j)) (lam A C (j 1) (8 * k)) (fun r => rowOf C (j 1) (8 * (255 - k) + (Fin.ofNat 8 (7 - r)).val)) (8 - (j 0).val)
        = lam A C (j 1) (8 * k + (8 - (j 0).val)) := by
      intro j
      have hj : (j 0).val < 8 := (j 0).isLt
      rw [run_congr _ _ _ (fun r => rowOf C (j 1) (2047 - (8 * k + r))) _ (fun r hr => by
        show rowOf C (j 1) (8 * (255 - k) + (7 - r) % 8) = _
        rw [Nat.mod_eq_of_lt (by omega)]
        congr 1; omega)]
      exact run_add _ _ (fun n => rowOf C (j 1) (2047 - n)) _ _
    have hB := hb.congr hL
    have hP : ∀ j : S8x512.Idx, (if (j 0).val = 0 then rowOf S (j 1) (8 * (254 - k) + 7) * ((if k < 255 then 1 else 0 : ℝ) : ℂ)
          else rowOf S (j 1) (8 * (255 - k) + (((j 0).val + 8 - 1 % 8) % 8)))
        = before S (j 1) (8 * (255 - k) + (j 0).val) := by
      intro j
      have hj : (j 0).val < 8 := (j 0).isLt
      unfold before
      by_cases h0 : (j 0).val = 0
      · rw [if_pos h0, h0]
        by_cases hk2 : k < 255
        · rw [if_pos hk2, if_neg (by omega)]
          rw [show 8 * (255 - k) + 0 - 1 = 8 * (254 - k) + 7 by omega]; simp
        · rw [if_neg hk2, if_pos (by omega)]; simp
      · rw [if_neg h0, if_neg (by omega)]
        congr 1; omega
    have hPv := hpv.congr hP
    have hA := (accum hacc hB hPv).congr (g := fun j => ∑ n ∈ Finset.range (k + 1), lam A C (j 1) (8 * n + (8 - (j 0).val)) * (starRingEnd ℂ) (before S (j 1) (8 * (255 - n) + (j 0).val)))
      (fun j => (Finset.sum_range_succ _ _).symm)
    have hp : ∀ j : S8x512.Idx, lam A C (j 1) (8 * k + (8 - (j 0).val))
        = lam A C (((Rect.unit (s := S2048x512) (k1_off1 ⟨k, hk'⟩) S8x512.size (k1_off1_inb ⟨k, hk'⟩)).emb j) 1)
            (2048 - (((Rect.unit (s := S2048x512) (k1_off1 ⟨k, hk'⟩) S8x512.size (k1_off1_inb ⟨k, hk'⟩)).emb j) 0).val) := by
      intro j
      have hj : (j 0).val < 8 := (j 0).isLt
      obtain ⟨e0, e1⟩ := emb8 (k1_off1 ⟨k, hk'⟩) (8 * (255 - k)) (off1 ⟨k, hk'⟩) (k1_off1_inb ⟨k, hk'⟩) j
      rw [e0, e1]
      congr 1; omega
    refine ⟨hB.row (0 : Fin 8) slices_S8x512_o0_0_S1x512, hA, ?_, ?_⟩
    · intro p hpm
      rcases List.mem_append.1 hpm with hpm | hpm
      · obtain rfl := List.mem_singleton.1 hpm
        intro x
        exact ((hB.congr hp) x).1
      · exact h1 p hpm
    · intro p hpm
      rcases List.mem_append.1 hpm with hpm | hpm
      · obtain rfl := List.mem_singleton.1 hpm
        intro x
        exact ((hB.congr hp) x).2
      · exact h2 p hpm
end Trip

/-- A sum over the rows is the sum over the blocks, from the last to the first, of the sums over their rows. -/
theorem sum_blocks (g : ℕ → ℂ) : ∑ r : Fin 8, ∑ n ∈ Finset.range 256, g (8 * (255 - n) + r.val) = ∑ t ∈ Finset.range 2048, g t := by
  have h1 : ∀ m : ℕ, ∑ t ∈ Finset.range (8 * m), g t = ∑ n ∈ Finset.range m, ∑ r ∈ Finset.range 8, g (8 * n + r) := by
    intro m
    induction m with
    | zero => simp
    | succ m ih => rw [Nat.mul_succ, Finset.sum_range_add, ih, Finset.sum_range_succ (fun n => ∑ r ∈ Finset.range 8, g (8 * n + r)) m]
  rw [show (2048 : ℕ) = 8 * 256 from rfl, h1, ← Finset.sum_range_reflect, Finset.sum_comm]
  refine Finset.sum_congr rfl fun n hn => ?_
  rw [Finset.sum_range (n := 8)]

/-- The extended real of a finite sum of reals is the sum of the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Eight rows of complex numbers added up. -/
theorem sumRows {v w : Vec Ideal S8x512 .f32} {f : S8x512.Idx → ℂ} (h : Cx v w f) :
    Cx (k1_pay9 (F := Ideal) v) (k1_pay10 (F := Ideal) w) (fun i => ∑ r : Fin 8, f (ix2 r (i 1))) := by
  have e1 : ∀ i : S1x512.Idx, k1_pay9 (F := Ideal) v i = ∑ r : Fin 8, (v (ix2 r (i 1)) : EReal) := by
    intro i; unfold_payloads; pointwise
  have e2 : ∀ i : S1x512.Idx, k1_pay10 (F := Ideal) w i = ∑ r : Fin 8, (w (ix2 r (i 1)) : EReal) := by
    intro i; unfold_payloads; pointwise
  intro i
  constructor
  · rw [e1, Complex.re_sum, Finset.sum_congr rfl fun r _ => (h (ix2 r (i 1))).1]
    exact (coe_sum _ _).symm
  · rw [e2, Complex.im_sum, Finset.sum_congr rfl fun r _ => (h (ix2 r (i 1))).2]
    exact (coe_sum _ _).symm

/-- The gradient of the coefficient: the sum over the rows of the reverse state times the conjugate of the state before. -/
def grad (A : S1x512.Idx → ℂ) (C S : S2048x512.Idx → ℂ) (l : Fin 512) : ℂ :=
  ∑ t ∈ Finset.range 2048, lam A C l (2048 - t) * (starRingEnd ℂ) (before S l t)

section Out
variable (c : Dev nD) (i : grid1.Coords) (arg1 : Memref sig .tc .vmem S1x512 .f32) (harg1 : arg1.IsWhole) (arg2 : Memref sig .tc .vmem S1x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x512 .f32) (harg8 : arg8.IsWhole) (arg9 : Memref sig .tc .vmem S1x512 .f32) (harg9 : arg9.IsWhole) (arg10 : Memref sig .tc .vmem S1x512 .f32) (harg10 : arg10.IsWhole)
    {x0 x1 : Vec Ideal S1x512 .f32} {x2 x3 x4 x5 : Vec Ideal S2048x512 .f32} {A : S1x512.Idx → ℂ} (h : Cx x0 x1 A)
    {C : S2048x512.Idx → ℂ} (hC : Cx x2 x3 C) {S : S2048x512.Idx → ℂ} (hS : Cx x4 x5 S)
include h hC hS

/-- What the reverse scan leaves in its two state blocks: in row `t` the reverse state after the rows from the last down to `t`. -/
theorem revOut :
    Cx (out1_A_6 (F := Ideal) c i arg1 harg1 arg2 harg2 arg3 harg3 arg4 harg4 arg5 harg5 arg6 harg6 arg7 harg7 arg8 harg8 arg9 harg9 arg10 harg10 x0 x1 x2 x3 x4 x5) (out1_A_7 (F := Ideal) c i arg1 harg1 arg2 harg2 arg3 harg3 arg4 harg4 arg5 harg5 arg6 harg6 arg7 harg7 arg8 harg8 arg9 harg9 arg10 harg10 x0 x1 x2 x3 x4 x5) (fun y => lam A C (y 1) (2048 - (y 0).val)) := by
  have hl := revLoop Variants.none c none i arg1 harg1 arg2 harg2 arg3 harg3 arg4 harg4 arg5 harg5 arg6 harg6 arg7 harg7 arg8 harg8 arg9 harg9 arg10 harg10 _ _ x2 x3 x4 x5 (load1 harg1 harg2 h inb_S1x512_S1x512_0_0) hC hS 256 le_rfl
  intro y
  constructor
  · unfold out1_A_6
    rw [View.read_writes_junk_eq_canon]
    exact View.canon_apply_of_pieces (fun y => (((lam A C (y 1) (2048 - (y 0).val)).re : ℝ) : EReal)) _ hl.2.2.1 y
      (cover1_A_6 (F := Ideal) c i arg1 harg1 arg2 harg2 arg3 harg3 arg4 harg4 arg5 harg5 arg6 harg6 arg7 harg7 arg8 harg8 arg9 harg9 arg10 harg10 x0 x1 x2 x3 x4 x5 y)
  · unfold out1_A_7
    rw [View.read_writes_junk_eq_canon]
    exact View.canon_apply_of_pieces (fun y => (((lam A C (y 1) (2048 - (y 0).val)).im : ℝ) : EReal)) _ hl.2.2.2 y
      (cover1_A_7 (F := Ideal) c i arg1 harg1 arg2 harg2 arg3 harg3 arg4 harg4 arg5 harg5 arg6 harg6 arg7 harg7 arg8 harg8 arg9 harg9 arg10 harg10 x0 x1 x2 x3 x4 x5 y)

/-- What the reverse scan leaves in its two coefficient blocks: the gradient of the coefficient. -/
theorem gradOut :
    Cx (out1_A_8 (F := Ideal) c i arg1 harg1 arg2 harg2 arg3 harg3 arg4 harg4 arg5 harg5 arg6 harg6 arg7 harg7 arg8 harg8 arg9 harg9 arg10 harg10 x0 x1 x2 x3 x4 x5) (out1_A_9 (F := Ideal) c i arg1 harg1 arg2 harg2 arg3 harg3 arg4 harg4 arg5 harg5 arg6 harg6 arg7 harg7 arg8 harg8 arg9 harg9 arg10 harg10 x0 x1 x2 x3 x4 x5) (fun y => grad A C S (y 1)) := by
  have hl := revLoop Variants.none c none i arg1 harg1 arg2 harg2 arg3 harg3 arg4 harg4 arg5 harg5 arg6 harg6 arg7 harg7 arg8 harg8 arg9 harg9 arg10 harg10 _ _ x2 x3 x4 x5 (load1 harg1 harg2 h inb_S1x512_S1x512_0_0) hC hS 256 le_rfl
  have hs := (sumRows hl.2.1).congr (g := fun y => grad A C S (y 1)) (fun y => by
    unfold grad
    rw [← sum_blocks (fun t => lam A C (y 1) (2048 - t) * (starRingEnd ℂ) (before S (y 1) t))]
    refine Finset.sum_congr rfl fun r _ => Finset.sum_congr rfl fun n hn => ?_
    have hr : r.val < 8 := r.isLt
    have hn' := Finset.mem_range.1 hn
    show lam A C (y 1) (8 * n + (8 - r.val)) * _ = _
    rw [show 8 * n + (8 - r.val) = 2048 - (8 * (255 - n) + r.val) by omega]
    rfl)
  have e : ∀ j : S1x512.Idx, (Rect.unit (s := S1x512) ![0, 0] ![1, 512] inb_S1x512_S1x512_0_0).emb j = j := by
    intro j
    funext a
    apply Fin.ext
    fin_cases a
    · show 0 + 1 * (j 0).val = (j 0).val
      omega
    · show 0 + 1 * (j 1).val = (j 1).val
      omega
  intro y
  constructor
  · unfold out1_A_8
    rw [View.read_writes_junk_eq_canon]
    refine View.canon_apply_of_pieces (fun y => (((grad A C S (y 1)).re : ℝ) : EReal)) _ ?_ y
      (cover1_A_8 (F := Ideal) c i arg1 harg1 arg2 harg2 arg3 harg3 arg4 harg4 arg5 harg5 arg6 harg6 arg7 harg7 arg8 harg8 arg9 harg9 arg10 harg10 x0 x1 x2 x3 x4 x5 y)
    intro p hp x
    obtain rfl := List.mem_singleton.1 hp
    exact ((hs x).1).trans (congrArg (fun y : S1x512.Idx => (((grad A C S (y 1)).re : ℝ) : EReal)) (e x).symm)
  · unfold out1_A_9
    rw [View.read_writes_junk_eq_canon]
    refine View.canon_apply_of_pieces (fun y => (((grad A C S (y 1)).im : ℝ) : EReal)) _ ?_ y
      (cover1_A_9 (F := Ideal) c i arg1 harg1 arg2 harg2 arg3 harg3 arg4 harg4 arg5 harg5 arg6 harg6 arg7 harg7 arg8 harg8 arg9 harg9 arg10 harg10 x0 x1 x2 x3 x4 x5 y)
    intro p hp x
    obtain rfl := List.mem_singleton.1 hp
    exact ((hs x).2).trans (congrArg (fun y : S1x512.Idx => (((grad A C S (y 1)).im : ℝ) : EReal)) (e x).symm)
end Out
end Cert.Scan
-- ==== Proof.KernelVal.lean ====
module
public import proofs.«01_k».proof.Proof.FwdLoop
public import proofs.«01_k».proof.Proof.RevLoop
public import Idealize.ShloMosaic.Lib.Pipeline.Value
@[expose] public section
set_option maxRecDepth 16384
noncomputable section

/-! # The two scans' whole output arrays, from their blocks of 512 lanes -/

namespace Cert.Scan
open Idealize.ShloMosaic Idealize.ShloMosaic.TcCoe Idealize.ShloMosaic.Tactic
open Idealize.SL Idealize.SL.Sem
open Cert.KernelIdeal Cert.KernelIdeal.Gen

/-- The column of the array at lane `l` of grid point `t`'s block. -/
def col (t l : ℕ) : Fin 4096 := Fin.ofNat 4096 (512 * t + l)

/-- A column of a sequence of 2048 rows, row by row. -/
def column (X : S2048x4096.Idx → ℂ) (l : Fin 4096) (t : ℕ) : ℂ := X (ix2 (Fin.ofNat 2048 t) l)

/-- The state after the first `n` terms of column `l`. -/
def states (A : S1x4096.Idx → ℂ) (X : S2048x4096.Idx → ℂ) (l : Fin 4096) (n : ℕ) : ℂ := run (A (ix2 (0 : Fin 1) l)) 0 (column X l) n

/-- The reverse state after the last `n` terms of column `l`. -/
def adjoint (A : S1x4096.Idx → ℂ) (C : S2048x4096.Idx → ℂ) (l : Fin 4096) (n : ℕ) : ℂ :=
  run (A (ix2 (0 : Fin 1) l)) 0 (fun k => column C l (2047 - k)) n

/-- The coefficient's gradient in column `l`, the states given as an array whose row `t` is the state after term `t`. -/
def coefGrad (A : S1x4096.Idx → ℂ) (C S : S2048x4096.Idx → ℂ) (l : Fin 4096) : ℂ :=
  ∑ t ∈ Finset.range 2048, adjoint A C l (2048 - t) * (starRingEnd ℂ) (if t = 0 then 0 else column S l (t - 1))

/-- The coefficient's gradient of the columns of grid point `t`'s block, lane by lane. -/
theorem grad_block (A : S1x4096.Idx → ℂ) (C S : S2048x4096.Idx → ℂ) (t : ℕ) (l : Fin 512) :
    grad (fun y => A (ix2 (y 0) (col t (y 1).val))) (fun y => C (ix2 (y 0) (col t (y 1).val))) (fun y => S (ix2 (y 0) (col t (y 1).val))) l
      = coefGrad A C S (col t l.val) := by
  unfold grad coefGrad
  exact Finset.sum_congr rfl fun k _ => rfl

attribute [local irreducible] grad coefGrad

theorem col_eq {t l : ℕ} (ht : t < 8) (hl : l < 512) : (col t l).val = 512 * t + l := by
  show (512 * t + l) % 4096 = _
  omega

theorem index0_0 : ∀ t : Fin cfg0.N, win0_0.index t = ![0, t.val] := by decide +kernel
/-- Where block 0 of grid point `t` sits in its array. -/
theorem emb0_0 (t : Fin cfg0.N) (y : S1x512.Idx) : ((cfg0.win 0).blk t).view.emb y = (ix2 (y 0) (col t.val (y 1).val) : S1x4096.Idx) := by
  have ht : t.val < 8 := t.isLt.trans_eq N_0
  have hi := index0_0 t
  funext a
  apply Fin.ext
  show ((win0_0.rect t).emb y a : ℕ) = _
  rw [Pipeline.Window.rect_emb_val win0_0 t y a rfl, hi]
  match a with
  | ⟨0, _⟩ => show 0 * 1 + (y 0).val = (y 0).val; omega
  | ⟨1, _⟩ => show t.val * 512 + (y 1).val = (col t.val (y 1).val).val; rw [col_eq ht (y 1).isLt]; omega
theorem index0_1 : ∀ t : Fin cfg0.N, win0_1.index t = ![0, t.val] := by decide +kernel
/-- Where block 1 of grid point `t` sits in its array. -/
theorem emb0_1 (t : Fin cfg0.N) (y : S1x512.Idx) : ((cfg0.win 1).blk t).view.emb y = (ix2 (y 0) (col t.val (y 1).val) : S1x4096.Idx) := by
  have ht : t.val < 8 := t.isLt.trans_eq N_0
  have hi := index0_1 t
  funext a
  apply Fin.ext
  show ((win0_1.rect t).emb y a : ℕ) = _
  rw [Pipeline.Window.rect_emb_val win0_1 t y a rfl, hi]
  match a with
  | ⟨0, _⟩ => show 0 * 1 + (y 0).val = (y 0).val; omega
  | ⟨1, _⟩ => show t.val * 512 + (y 1).val = (col t.val (y 1).val).val; rw [col_eq ht (y 1).isLt]; omega
theorem index0_2 : ∀ t : Fin cfg0.N, win0_2.index t = ![0, t.val] := by decide +kernel
/-- Where block 2 of grid point `t` sits in its array. -/
theorem emb0_2 (t : Fin cfg0.N) (y : S2048x512.Idx) : ((cfg0.win 2).blk t).view.emb y = (ix2 (y 0) (col t.val (y 1).val) : S2048x4096.Idx) := by
  have ht : t.val < 8 := t.isLt.trans_eq N_0
  have hi := index0_2 t
  funext a
  apply Fin.ext
  show ((win0_2.rect t).emb y a : ℕ) = _
  rw [Pipeline.Window.rect_emb_val win0_2 t y a rfl, hi]
  match a with
  | ⟨0, _⟩ => show 0 * 2048 + (y 0).val = (y 0).val; omega
  | ⟨1, _⟩ => show t.val * 512 + (y 1).val = (col t.val (y 1).val).val; rw [col_eq ht (y 1).isLt]; omega
theorem index0_3 : ∀ t : Fin cfg0.N, win0_3.index t = ![0, t.val] := by decide +kernel
/-- Where block 3 of grid point `t` sits in its array. -/
theorem emb0_3 (t : Fin cfg0.N) (y : S2048x512.Idx) : ((cfg0.win 3).blk t).view.emb y = (ix2 (y 0) (col t.val (y 1).val) : S2048x4096.Idx) := by
  have ht : t.val < 8 := t.isLt.trans_eq N_0
  have hi := index0_3 t
  funext a
  apply Fin.ext
  show ((win0_3.rect t).emb y a : ℕ) = _
  rw [Pipeline.Window.rect_emb_val win0_3 t y a rfl, hi]
  match a with
  | ⟨0, _⟩ => show 0 * 2048 + (y 0).val = (y 0).val; omega
  | ⟨1, _⟩ => show t.val * 512 + (y 1).val = (col t.val (y 1).val).val; rw [col_eq ht (y 1).isLt]; omega
theorem index0_4 : ∀ t : Fin cfg0.N, win0_4.index t = ![0, t.val] := by decide +kernel
/-- Where block 4 of grid point `t` sits in its array. -/
theorem emb0_4 (t : Fin cfg0.N) (y : S2048x512.Idx) : ((cfg0.win 4).blk t).view.emb y = (ix2 (y 0) (col t.val (y 1).val) : S2048x4096.Idx) := by
  have ht : t.val < 8 := t.isLt.trans_eq N_0
  have hi := index0_4 t
  funext a
  apply Fin.ext
  show ((win0_4.rect t).emb y a : ℕ) = _
  rw [Pipeline.Window.rect_emb_val win0_4 t y a rfl, hi]
  match a with
  | ⟨0, _⟩ => show 0 * 2048 + (y 0).val = (y 0).val; omega
  | ⟨1, _⟩ => show t.val * 512 + (y 1).val = (col t.val (y 1).val).val; rw [col_eq ht (y 1).isLt]; omega
/-- The blocks of window 4 fill its array. -/
theorem fill0_4 (i : S2048x4096.Idx) : ∃ t : Fin cfg0.N, (cfg0.win 4).flush t = true ∧ i ∈ ((cfg0.win 4).blk t).view.set := by
  have h1 : (i 1).val < 4096 := (i 1).isLt
  have ht : (i 1).val / 512 < cfg0.N := by rw [show cfg0.N = 8 from N_0]; omega
  refine ⟨⟨(i 1).val / 512, ht⟩, flush0_4 _, ?_⟩
  have e := emb0_4 ⟨(i 1).val / 512, ht⟩ (ix2 (i 0) (⟨(i 1).val % 512, Nat.mod_lt _ (by decide)⟩ : Fin 512))
  have e' : (ix2 (i 0) (col ((i 1).val / 512) ((i 1).val % 512)) : S2048x4096.Idx) = i := by
    funext a
    match a with
    | ⟨0, _⟩ => rfl
    | ⟨1, _⟩ => apply Fin.ext; exact (col_eq (by omega) (Nat.mod_lt _ (by decide))).trans (by show 512 * ((i 1).val / 512) + (i 1).val % 512 = (i 1).val; omega)
  have hm := View.emb_mem_set ((cfg0.win 4).blk ⟨(i 1).val / 512, ht⟩).view (ix2 (i 0) (⟨(i 1).val % 512, Nat.mod_lt _ (by decide)⟩ : Fin 512))
  rw [e.trans e'] at hm
  exact hm
theorem index0_5 : ∀ t : Fin cfg0.N, win0_5.index t = ![0, t.val] := by decide +kernel
/-- Where block 5 of grid point `t` sits in its array. -/
theorem emb0_5 (t : Fin cfg0.N) (y : S2048x512.Idx) : ((cfg0.win 5).blk t).view.emb y = (ix2 (y 0) (col t.val (y 1).val) : S2048x4096.Idx) := by
  have ht : t.val < 8 := t.isLt.trans_eq N_0
  have hi := index0_5 t
  funext a
  apply Fin.ext
  show ((win0_5.rect t).emb y a : ℕ) = _
  rw [Pipeline.Window.rect_emb_val win0_5 t y a rfl, hi]
  match a with
  | ⟨0, _⟩ => show 0 * 2048 + (y 0).val = (y 0).val; omega
  | ⟨1, _⟩ => show t.val * 512 + (y 1).val = (col t.val (y 1).val).val; rw [col_eq ht (y 1).isLt]; omega
/-- The blocks of window 5 fill its array. -/
theorem fill0_5 (i : S2048x4096.Idx) : ∃ t : Fin cfg0.N, (cfg0.win 5).flush t = true ∧ i ∈ ((cfg0.win 5).blk t).view.set := by
  have h1 : (i 1).val < 4096 := (i 1).isLt
  have ht : (i 1).val / 512 < cfg0.N := by rw [show cfg0.N = 8 from N_0]; omega
  refine ⟨⟨(i 1).val / 512, ht⟩, flush0_5 _, ?_⟩
  have e := emb0_5 ⟨(i 1).val / 512, ht⟩ (ix2 (i 0) (⟨(i 1).val % 512, Nat.mod_lt _ (by decide)⟩ : Fin 512))
  have e' : (ix2 (i 0) (col ((i 1).val / 512) ((i 1).val % 512)) : S2048x4096.Idx) = i := by
    funext a
    match a with
    | ⟨0, _⟩ => rfl
    | ⟨1, _⟩ => apply Fin.ext; exact (col_eq (by omega) (Nat.mod_lt _ (by decide))).trans (by show 512 * ((i 1).val / 512) + (i 1).val % 512 = (i 1).val; omega)
  have hm := View.emb_mem_set ((cfg0.win 5).blk ⟨(i 1).val / 512, ht⟩).view (ix2 (i 0) (⟨(i 1).val % 512, Nat.mod_lt _ (by decide)⟩ : Fin 512))
  rw [e.trans e'] at hm
  exact hm
theorem index1_0 : ∀ t : Fin cfg1.N, win1_0.index t = ![0, t.val] := by decide +kernel
/-- Where block 0 of grid point `t` sits in its array. -/
theorem emb1_0 (t : Fin cfg1.N) (y : S1x512.Idx) : ((cfg1.win 0).blk t).view.emb y = (ix2 (y 0) (col t.val (y 1).val) : S1x4096.Idx) := by
  have ht : t.val < 8 := t.isLt.trans_eq N_1
  have hi := index1_0 t
  funext a
  apply Fin.ext
  show ((win1_0.rect t).emb y a : ℕ) = _
  rw [Pipeline.Window.rect_emb_val win1_0 t y a rfl, hi]
  match a with
  | ⟨0, _⟩ => show 0 * 1 + (y 0).val = (y 0).val; omega
  | ⟨1, _⟩ => show t.val * 512 + (y 1).val = (col t.val (y 1).val).val; rw [col_eq ht (y 1).isLt]; omega
theorem index1_1 : ∀ t : Fin cfg1.N, win1_1.index t = ![0, t.val] := by decide +kernel
/-- Where block 1 of grid point `t` sits in its array. -/
theorem emb1_1 (t : Fin cfg1.N) (y : S1x512.Idx) : ((cfg1.win 1).blk t).view.emb y = (ix2 (y 0) (col t.val (y 1).val) : S1x4096.Idx) := by
  have ht : t.val < 8 := t.isLt.trans_eq N_1
  have hi := index1_1 t
  funext a
  apply Fin.ext
  show ((win1_1.rect t).emb y a : ℕ) = _
  rw [Pipeline.Window.rect_emb_val win1_1 t y a rfl, hi]
  match a with
  | ⟨0, _⟩ => show 0 * 1 + (y 0).val = (y 0).val; omega
  | ⟨1, _⟩ => show t.val * 512 + (y 1).val = (col t.val (y 1).val).val; rw [col_eq ht (y 1).isLt]; omega
theorem index1_2 : ∀ t : Fin cfg1.N, win1_2.index t = ![0, t.val] := by decide +kernel
/-- Where block 2 of grid point `t` sits in its array. -/
theorem emb1_2 (t : Fin cfg1.N) (y : S2048x512.Idx) : ((cfg1.win 2).blk t).view.emb y = (ix2 (y 0) (col t.val (y 1).val) : S2048x4096.Idx) := by
  have ht : t.val < 8 := t.isLt.trans_eq N_1
  have hi := index1_2 t
  funext a
  apply Fin.ext
  show ((win1_2.rect t).emb y a : ℕ) = _
  rw [Pipeline.Window.rect_emb_val win1_2 t y a rfl, hi]
  match a with
  | ⟨0, _⟩ => show 0 * 2048 + (y 0).val = (y 0).val; omega
  | ⟨1, _⟩ => show t.val * 512 + (y 1).val = (col t.val (y 1).val).val; rw [col_eq ht (y 1).isLt]; omega
theorem index1_3 : ∀ t : Fin cfg1.N, win1_3.index t = ![0, t.val] := by decide +kernel
/-- Where block 3 of grid point `t` sits in its array. -/
theorem emb1_3 (t : Fin cfg1.N) (y : S2048x512.Idx) : ((cfg1.win 3).blk t).view.emb y = (ix2 (y 0) (col t.val (y 1).val) : S2048x4096.Idx) := by
  have ht : t.val < 8 := t.isLt.trans_eq N_1
  have hi := index1_3 t
  funext a
  apply Fin.ext
  show ((win1_3.rect t).emb y a : ℕ) = _
  rw [Pipeline.Window.rect_emb_val win1_3 t y a rfl, hi]
  match a with
  | ⟨0, _⟩ => show 0 * 2048 + (y 0).val = (y 0).val; omega
  | ⟨1, _⟩ => show t.val * 512 + (y 1).val = (col t.val (y 1).val).val; rw [col_eq ht (y 1).isLt]; omega
theorem index1_4 : ∀ t : Fin cfg1.N, win1_4.index t = ![0, t.val] := by decide +kernel
/-- Where block 4 of grid point `t` sits in its array. -/
theorem emb1_4 (t : Fin cfg1.N) (y : S2048x512.Idx) : ((cfg1.win 4).blk t).view.emb y = (ix2 (y 0) (col t.val (y 1).val) : S2048x4096.Idx) := by
  have ht : t.val < 8 := t.isLt.trans_eq N_1
  have hi := index1_4 t
  funext a
  apply Fin.ext
  show ((win1_4.rect t).emb y a : ℕ) = _
  rw [Pipeline.Window.rect_emb_val win1_4 t y a rfl, hi]
  match a with
  | ⟨0, _⟩ => show 0 * 2048 + (y 0).val = (y 0).val; omega
  | ⟨1, _⟩ => show t.val * 512 + (y 1).val = (col t.val (y 1).val).val; rw [col_eq ht (y 1).isLt]; omega
theorem index1_5 : ∀ t : Fin cfg1.N, win1_5.index t = ![0, t.val] := by decide +kernel
/-- Where block 5 of grid point `t` sits in its array. -/
theorem emb1_5 (t : Fin cfg1.N) (y : S2048x512.Idx) : ((cfg1.win 5).blk t).view.emb y = (ix2 (y 0) (col t.val (y 1).val) : S2048x4096.Idx) := by
  have ht : t.val < 8 := t.isLt.trans_eq N_1
  have hi := index1_5 t
  funext a
  apply Fin.ext
  show ((win1_5.rect t).emb y a : ℕ) = _
  rw [Pipeline.Window.rect_emb_val win1_5 t y a rfl, hi]
  match a with
  | ⟨0, _⟩ => show 0 * 2048 + (y 0).val = (y 0).val; omega
  | ⟨1, _⟩ => show t.val * 512 + (y 1).val = (col t.val (y 1).val).val; rw [col_eq ht (y 1).isLt]; omega
theorem index1_6 : ∀ t : Fin cfg1.N, win1_6.index t = ![0, t.val] := by decide +kernel
/-- Where block 6 of grid point `t` sits in its array. -/
theorem emb1_6 (t : Fin cfg1.N) (y : S2048x512.Idx) : ((cfg1.win 6).blk t).view.emb y = (ix2 (y 0) (col t.val (y 1).val) : S2048x4096.Idx) := by
  have ht : t.val < 8 := t.isLt.trans_eq N_1
  have hi := index1_6 t
  funext a
  apply Fin.ext
  show ((win1_6.rect t).emb y a : ℕ) = _
  rw [Pipeline.Window.rect_emb_val win1_6 t y a rfl, hi]
  match a with
  | ⟨0, _⟩ => show 0 * 2048 + (y 0).val = (y 0).val; omega
  | ⟨1, _⟩ => show t.val * 512 + (y 1).val = (col t.val (y 1).val).val; rw [col_eq ht (y 1).isLt]; omega
/-- The blocks of window 6 fill its array. -/
theorem fill1_6 (i : S2048x4096.Idx) : ∃ t : Fin cfg1.N, (cfg1.win 6).flush t = true ∧ i ∈ ((cfg1.win 6).blk t).view.set := by
  have h1 : (i 1).val < 4096 := (i 1).isLt
  have ht : (i 1).val / 512 < cfg1.N := by rw [show cfg1.N = 8 from N_1]; omega
  refine ⟨⟨(i 1).val / 512, ht⟩, flush1_6 _, ?_⟩
  have e := emb1_6 ⟨(i 1).val / 512, ht⟩ (ix2 (i 0) (⟨(i 1).val % 512, Nat.mod_lt _ (by decide)⟩ : Fin 512))
  have e' : (ix2 (i 0) (col ((i 1).val / 512) ((i 1).val % 512)) : S2048x4096.Idx) = i := by
    funext a
    match a with
    | ⟨0, _⟩ => rfl
    | ⟨1, _⟩ => apply Fin.ext; exact (col_eq (by omega) (Nat.mod_lt _ (by decide))).trans (by show 512 * ((i 1).val / 512) + (i 1).val % 512 = (i 1).val; omega)
  have hm := View.emb_mem_set ((cfg1.win 6).blk ⟨(i 1).val / 512, ht⟩).view (ix2 (i 0) (⟨(i 1).val % 512, Nat.mod_lt _ (by decide)⟩ : Fin 512))
  rw [e.trans e'] at hm
  exact hm
theorem index1_7 : ∀ t : Fin cfg1.N, win1_7.index t = ![0, t.val] := by decide +kernel
/-- Where block 7 of grid point `t` sits in its array. -/
theorem emb1_7 (t : Fin cfg1.N) (y : S2048x512.Idx) : ((cfg1.win 7).blk t).view.emb y = (ix2 (y 0) (col t.val (y 1).val) : S2048x4096.Idx) := by
  have ht : t.val < 8 := t.isLt.trans_eq N_1
  have hi := index1_7 t
  funext a
  apply Fin.ext
  show ((win1_7.rect t).emb y a : ℕ) = _
  rw [Pipeline.Window.rect_emb_val win1_7 t y a rfl, hi]
  match a with
  | ⟨0, _⟩ => show 0 * 2048 + (y 0).val = (y 0).val; omega
  | ⟨1, _⟩ => show t.val * 512 + (y 1).val = (col t.val (y 1).val).val; rw [col_eq ht (y 1).isLt]; omega
/-- The blocks of window 7 fill its array. -/
theorem fill1_7 (i : S2048x4096.Idx) : ∃ t : Fin cfg1.N, (cfg1.win 7).flush t = true ∧ i ∈ ((cfg1.win 7).blk t).view.set := by
  have h1 : (i 1).val < 4096 := (i 1).isLt
  have ht : (i 1).val / 512 < cfg1.N := by rw [show cfg1.N = 8 from N_1]; omega
  refine ⟨⟨(i 1).val / 512, ht⟩, flush1_7 _, ?_⟩
  have e := emb1_7 ⟨(i 1).val / 512, ht⟩ (ix2 (i 0) (⟨(i 1).val % 512, Nat.mod_lt _ (by decide)⟩ : Fin 512))
  have e' : (ix2 (i 0) (col ((i 1).val / 512) ((i 1).val % 512)) : S2048x4096.Idx) = i := by
    funext a
    match a with
    | ⟨0, _⟩ => rfl
    | ⟨1, _⟩ => apply Fin.ext; exact (col_eq (by omega) (Nat.mod_lt _ (by decide))).trans (by show 512 * ((i 1).val / 512) + (i 1).val % 512 = (i 1).val; omega)
  have hm := View.emb_mem_set ((cfg1.win 7).blk ⟨(i 1).val / 512, ht⟩).view (ix2 (i 0) (⟨(i 1).val % 512, Nat.mod_lt _ (by decide)⟩ : Fin 512))
  rw [e.trans e'] at hm
  exact hm
theorem index1_8 : ∀ t : Fin cfg1.N, win1_8.index t = ![0, t.val] := by decide +kernel
/-- Where block 8 of grid point `t` sits in its array. -/
theorem emb1_8 (t : Fin cfg1.N) (y : S1x512.Idx) : ((cfg1.win 8).blk t).view.emb y = (ix2 (y 0) (col t.val (y 1).val) : S1x4096.Idx) := by
  have ht : t.val < 8 := t.isLt.trans_eq N_1
  have hi := index1_8 t
  funext a
  apply Fin.ext
  show ((win1_8.rect t).emb y a : ℕ) = _
  rw [Pipeline.Window.rect_emb_val win1_8 t y a rfl, hi]
  match a with
  | ⟨0, _⟩ => show 0 * 1 + (y 0).val = (y 0).val; omega
  | ⟨1, _⟩ => show t.val * 512 + (y 1).val = (col t.val (y 1).val).val; rw [col_eq ht (y 1).isLt]; omega
/-- The blocks of window 8 fill its array. -/
theorem fill1_8 (i : S1x4096.Idx) : ∃ t : Fin cfg1.N, (cfg1.win 8).flush t = true ∧ i ∈ ((cfg1.win 8).blk t).view.set := by
  have h1 : (i 1).val < 4096 := (i 1).isLt
  have ht : (i 1).val / 512 < cfg1.N := by rw [show cfg1.N = 8 from N_1]; omega
  refine ⟨⟨(i 1).val / 512, ht⟩, flush1_8 _, ?_⟩
  have e := emb1_8 ⟨(i 1).val / 512, ht⟩ (ix2 (i 0) (⟨(i 1).val % 512, Nat.mod_lt _ (by decide)⟩ : Fin 512))
  have e' : (ix2 (i 0) (col ((i 1).val / 512) ((i 1).val % 512)) : S1x4096.Idx) = i := by
    funext a
    match a with
    | ⟨0, _⟩ => rfl
    | ⟨1, _⟩ => apply Fin.ext; exact (col_eq (by omega) (Nat.mod_lt _ (by decide))).trans (by show 512 * ((i 1).val / 512) + (i 1).val % 512 = (i 1).val; omega)
  have hm := View.emb_mem_set ((cfg1.win 8).blk ⟨(i 1).val / 512, ht⟩).view (ix2 (i 0) (⟨(i 1).val % 512, Nat.mod_lt _ (by decide)⟩ : Fin 512))
  rw [e.trans e'] at hm
  exact hm
theorem index1_9 : ∀ t : Fin cfg1.N, win1_9.index t = ![0, t.val] := by decide +kernel
/-- Where block 9 of grid point `t` sits in its array. -/
theorem emb1_9 (t : Fin cfg1.N) (y : S1x512.Idx) : ((cfg1.win 9).blk t).view.emb y = (ix2 (y 0) (col t.val (y 1).val) : S1x4096.Idx) := by
  have ht : t.val < 8 := t.isLt.trans_eq N_1
  have hi := index1_9 t
  funext a
  apply Fin.ext
  show ((win1_9.rect t).emb y a : ℕ) = _
  rw [Pipeline.Window.rect_emb_val win1_9 t y a rfl, hi]
  match a with
  | ⟨0, _⟩ => show 0 * 1 + (y 0).val = (y 0).val; omega
  | ⟨1, _⟩ => show t.val * 512 + (y 1).val = (col t.val (y 1).val).val; rw [col_eq ht (y 1).isLt]; omega
/-- The blocks of window 9 fill its array. -/
theorem fill1_9 (i : S1x4096.Idx) : ∃ t : Fin cfg1.N, (cfg1.win 9).flush t = true ∧ i ∈ ((cfg1.win 9).blk t).view.set := by
  have h1 : (i 1).val < 4096 := (i 1).isLt
  have ht : (i 1).val / 512 < cfg1.N := by rw [show cfg1.N = 8 from N_1]; omega
  refine ⟨⟨(i 1).val / 512, ht⟩, flush1_9 _, ?_⟩
  have e := emb1_9 ⟨(i 1).val / 512, ht⟩ (ix2 (i 0) (⟨(i 1).val % 512, Nat.mod_lt _ (by decide)⟩ : Fin 512))
  have e' : (ix2 (i 0) (col ((i 1).val / 512) ((i 1).val % 512)) : S1x4096.Idx) = i := by
    funext a
    match a with
    | ⟨0, _⟩ => rfl
    | ⟨1, _⟩ => apply Fin.ext; exact (col_eq (by omega) (Nat.mod_lt _ (by decide))).trans (by show 512 * ((i 1).val / 512) + (i 1).val % 512 = (i 1).val; omega)
  have hm := View.emb_mem_set ((cfg1.win 9).blk ⟨(i 1).val / 512, ht⟩).view (ix2 (i 0) (⟨(i 1).val % 512, Nat.mod_lt _ (by decide)⟩ : Fin 512))
  rw [e.trans e'] at hm
  exact hm

section Arrays
variable (V : (c : Dev nD) → (b : Ref sig .tc) → Buf (Elt Ideal) ((c : Thread nD τ).loc b)) (c : Dev nD)
/-- The blocks 0 and 1 of grid point `t` hold the lanes of the complex array their arrays hold. -/
theorem iblk0_0 {f : S1x4096.Idx → ℂ} (h : Cx (s := S1x4096) (V c (Pipeline.arrRef spec0 0)) (V c (Pipeline.arrRef spec0 1)) f) (t : Fin cfg0.N) :
    Cx (s := S1x512) (iblk0 V c 0 t) (iblk0 V c 1 t) (fun y => f (ix2 (y 0) (col t.val (y 1).val))) := fun y =>
  ⟨(show iblk0 V c 0 t y = V c (Pipeline.arrRef spec0 0) (((cfg0.win 0).blk t).view.emb y) from rfl).trans
      ((congrArg (V c (Pipeline.arrRef spec0 0)) (emb0_0 t y)).trans (h (ix2 (y 0) (col t.val (y 1).val))).1),
   (show iblk0 V c 1 t y = V c (Pipeline.arrRef spec0 1) (((cfg0.win 1).blk t).view.emb y) from rfl).trans
      ((congrArg (V c (Pipeline.arrRef spec0 1)) (emb0_1 t y)).trans (h (ix2 (y 0) (col t.val (y 1).val))).2)⟩
/-- The blocks 2 and 3 of grid point `t` hold the lanes of the complex array their arrays hold. -/
theorem iblk0_2 {f : S2048x4096.Idx → ℂ} (h : Cx (s := S2048x4096) (V c (Pipeline.arrRef spec0 2)) (V c (Pipeline.arrRef spec0 3)) f) (t : Fin cfg0.N) :
    Cx (s := S2048x512) (iblk0 V c 2 t) (iblk0 V c 3 t) (fun y => f (ix2 (y 0) (col t.val (y 1).val))) := fun y =>
  ⟨(show iblk0 V c 2 t y = V c (Pipeline.arrRef spec0 2) (((cfg0.win 2).blk t).view.emb y) from rfl).trans
      ((congrArg (V c (Pipeline.arrRef spec0 2)) (emb0_2 t y)).trans (h (ix2 (y 0) (col t.val (y 1).val))).1),
   (show iblk0 V c 3 t y = V c (Pipeline.arrRef spec0 3) (((cfg0.win 3).blk t).view.emb y) from rfl).trans
      ((congrArg (V c (Pipeline.arrRef spec0 3)) (emb0_3 t y)).trans (h (ix2 (y 0) (col t.val (y 1).val))).2)⟩
/-- The blocks 0 and 1 of grid point `t` hold the lanes of the complex array their arrays hold. -/
theorem iblk1_0 {f : S1x4096.Idx → ℂ} (h : Cx (s := S1x4096) (V c (Pipeline.arrRef spec1 0)) (V c (Pipeline.arrRef spec1 1)) f) (t : Fin cfg1.N) :
    Cx (s := S1x512) (iblk1 V c 0 t) (iblk1 V c 1 t) (fun y => f (ix2 (y 0) (col t.val (y 1).val))) := fun y =>
  ⟨(show iblk1 V c 0 t y = V c (Pipeline.arrRef spec1 0) (((cfg1.win 0).blk t).view.emb y) from rfl).trans
      ((congrArg (V c (Pipeline.arrRef spec1 0)) (emb1_0 t y)).trans (h (ix2 (y 0) (col t.val (y 1).val))).1),
   (show iblk1 V c 1 t y = V c (Pipeline.arrRef spec1 1) (((cfg1.win 1).blk t).view.emb y) from rfl).trans
      ((congrArg (V c (Pipeline.arrRef spec1 1)) (emb1_1 t y)).trans (h (ix2 (y 0) (col t.val (y 1).val))).2)⟩
/-- The blocks 2 and 3 of grid point `t` hold the lanes of the complex array their arrays hold. -/
theorem iblk1_2 {f : S2048x4096.Idx → ℂ} (h : Cx (s := S2048x4096) (V c (Pipeline.arrRef spec1 2)) (V c (Pipeline.arrRef spec1 3)) f) (t : Fin cfg1.N) :
    Cx (s := S2048x512) (iblk1 V c 2 t) (iblk1 V c 3 t) (fun y => f (ix2 (y 0) (col t.val (y 1).val))) := fun y =>
  ⟨(show iblk1 V c 2 t y = V c (Pipeline.arrRef spec1 2) (((cfg1.win 2).blk t).view.emb y) from rfl).trans
      ((congrArg (V c (Pipeline.arrRef spec1 2)) (emb1_2 t y)).trans (h (ix2 (y 0) (col t.val (y 1).val))).1),
   (show iblk1 V c 3 t y = V c (Pipeline.arrRef spec1 3) (((cfg1.win 3).blk t).view.emb y) from rfl).trans
      ((congrArg (V c (Pipeline.arrRef spec1 3)) (emb1_3 t y)).trans (h (ix2 (y 0) (col t.val (y 1).val))).2)⟩
/-- The blocks 4 and 5 of grid point `t` hold the lanes of the complex array their arrays hold. -/
theorem iblk1_4 {f : S2048x4096.Idx → ℂ} (h : Cx (s := S2048x4096) (V c (Pipeline.arrRef spec1 4)) (V c (Pipeline.arrRef spec1 5)) f) (t : Fin cfg1.N) :
    Cx (s := S2048x512) (iblk1 V c 4 t) (iblk1 V c 5 t) (fun y => f (ix2 (y 0) (col t.val (y 1).val))) := fun y =>
  ⟨(show iblk1 V c 4 t y = V c (Pipeline.arrRef spec1 4) (((cfg1.win 4).blk t).view.emb y) from rfl).trans
      ((congrArg (V c (Pipeline.arrRef spec1 4)) (emb1_4 t y)).trans (h (ix2 (y 0) (col t.val (y 1).val))).1),
   (show iblk1 V c 5 t y = V c (Pipeline.arrRef spec1 5) (((cfg1.win 5).blk t).view.emb y) from rfl).trans
      ((congrArg (V c (Pipeline.arrRef spec1 5)) (emb1_5 t y)).trans (h (ix2 (y 0) (col t.val (y 1).val))).2)⟩
/-- The forward scan leaves row `t` of its output at the state after `t + 1` terms (real part). -/
theorem scan_re {A : S1x4096.Idx → ℂ} {X : S2048x4096.Idx → ℂ}
    (hA : Cx (s := S1x4096) (V c main_arg0) (V c main_arg1) A) (hX : Cx (s := S2048x4096) (V c main_arg2) (V c main_arg3) X) : (dat0 V c).arrAt 4 cfg0.N = fun i : S2048x4096.Idx => (((states A X (i 1) ((i 0).val + 1)).re : ℝ) : EReal) :=
  (dat0 V c).arrAt_eq_of_cover 4 _ (fun t _ => by
    show (cfg0.win 4).cut (grid0.coords t) ((dat0 V c).after 4 t) = _
    rw [after0_4]
    funext y
    refine Eq.trans ((fwdOut c (grid0.coords t) (ms0_0 t) (hs0_0 t) (ms0_1 t) (hs0_1 t) (ms0_2 t) (hs0_2 t) (ms0_3 t) (hs0_3 t) (ms0_4 t) (hs0_4 t) (ms0_5 t) (hs0_5 t) (iblk0_0 V c hA t) (iblk0_2 V c hX t)) y).1 ?_
    show _ = (fun i : S2048x4096.Idx => (((states A X (i 1) ((i 0).val + 1)).re : ℝ) : EReal)) (((cfg0.win 4).blk t).view.emb y)
    rw [emb0_4 t y]
    rfl) fill0_4
/-- The forward scan leaves row `t` of its output at the state after `t + 1` terms (imaginary part). -/
theorem scan_im {A : S1x4096.Idx → ℂ} {X : S2048x4096.Idx → ℂ}
    (hA : Cx (s := S1x4096) (V c main_arg0) (V c main_arg1) A) (hX : Cx (s := S2048x4096) (V c main_arg2) (V c main_arg3) X) : (dat0 V c).arrAt 5 cfg0.N = fun i : S2048x4096.Idx => (((states A X (i 1) ((i 0).val + 1)).im : ℝ) : EReal) :=
  (dat0 V c).arrAt_eq_of_cover 5 _ (fun t _ => by
    show (cfg0.win 5).cut (grid0.coords t) ((dat0 V c).after 5 t) = _
    rw [after0_5]
    funext y
    refine Eq.trans ((fwdOut c (grid0.coords t) (ms0_0 t) (hs0_0 t) (ms0_1 t) (hs0_1 t) (ms0_2 t) (hs0_2 t) (ms0_3 t) (hs0_3 t) (ms0_4 t) (hs0_4 t) (ms0_5 t) (hs0_5 t) (iblk0_0 V c hA t) (iblk0_2 V c hX t)) y).2 ?_
    show _ = (fun i : S2048x4096.Idx => (((states A X (i 1) ((i 0).val + 1)).im : ℝ) : EReal)) (((cfg0.win 5).blk t).view.emb y)
    rw [emb0_5 t y]
    rfl) fill0_5
/-- The reverse scan leaves row `t` of its output at the reverse state of the rows from `t` on (real part). -/
theorem rscan_re {A : S1x4096.Idx → ℂ} {C S : S2048x4096.Idx → ℂ}
    (hA : Cx (s := S1x4096) (V c main_arg0) (V c main_v1) A) (hC : Cx (s := S2048x4096) (V c main_arg4) (V c main_arg5) C)
    (hS : Cx (s := S2048x4096) (V c main_v0_0) (V c main_v0_1) S) : (dat1 V c).arrAt 6 cfg1.N = fun i : S2048x4096.Idx => (((adjoint A C (i 1) (2048 - (i 0).val)).re : ℝ) : EReal) :=
  (dat1 V c).arrAt_eq_of_cover 6 _ (fun t _ => by
    show (cfg1.win 6).cut (grid1.coords t) ((dat1 V c).after 6 t) = _
    rw [after1_6]
    funext y
    refine Eq.trans ((revOut c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1_0 V c hA t) (iblk1_2 V c hC t) (iblk1_4 V c hS t)) y).1 ?_
    show _ = (fun i : S2048x4096.Idx => (((adjoint A C (i 1) (2048 - (i 0).val)).re : ℝ) : EReal)) (((cfg1.win 6).blk t).view.emb y)
    rw [emb1_6 t y]
    rfl) fill1_6
/-- The reverse scan leaves row `t` of its output at the reverse state of the rows from `t` on (imaginary part). -/
theorem rscan_im {A : S1x4096.Idx → ℂ} {C S : S2048x4096.Idx → ℂ}
    (hA : Cx (s := S1x4096) (V c main_arg0) (V c main_v1) A) (hC : Cx (s := S2048x4096) (V c main_arg4) (V c main_arg5) C)
    (hS : Cx (s := S2048x4096) (V c main_v0_0) (V c main_v0_1) S) : (dat1 V c).arrAt 7 cfg1.N = fun i : S2048x4096.Idx => (((adjoint A C (i 1) (2048 - (i 0).val)).im : ℝ) : EReal) :=
  (dat1 V c).arrAt_eq_of_cover 7 _ (fun t _ => by
    show (cfg1.win 7).cut (grid1.coords t) ((dat1 V c).after 7 t) = _
    rw [after1_7]
    funext y
    refine Eq.trans ((revOut c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1_0 V c hA t) (iblk1_2 V c hC t) (iblk1_4 V c hS t)) y).2 ?_
    show _ = (fun i : S2048x4096.Idx => (((adjoint A C (i 1) (2048 - (i 0).val)).im : ℝ) : EReal)) (((cfg1.win 7).blk t).view.emb y)
    rw [emb1_7 t y]
    rfl) fill1_7
/-- What grid point `t` leaves in block 8. -/
theorem coef_blk_re {A : S1x4096.Idx → ℂ} {C S : S2048x4096.Idx → ℂ}
    (hA : Cx (s := S1x4096) (V c main_arg0) (V c main_v1) A) (hC : Cx (s := S2048x4096) (V c main_arg4) (V c main_arg5) C)
    (hS : Cx (s := S2048x4096) (V c main_v0_0) (V c main_v0_1) S) (t : Fin cfg1.N) (y : S1x512.Idx) :
    (outsAt1 V c t).2.2.1 y = (((coefGrad A C S (col t.val (y 1).val)).re : ℝ) : EReal) := by
  have h := gradOut c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1_0 V c hA t) (iblk1_2 V c hC t) (iblk1_4 V c hS t)
  have e := ((Cx.congr h (g := fun y : S1x512.Idx => coefGrad A C S (col t.val (y 1).val)) (fun y => grad_block A C S t.val (y 1))) y).1
  unfold outsAt1
  dsimp only
  exact e
/-- The reverse scan leaves the gradient of the coefficient (real part). -/
theorem coef_re {A : S1x4096.Idx → ℂ} {C S : S2048x4096.Idx → ℂ}
    (hA : Cx (s := S1x4096) (V c main_arg0) (V c main_v1) A) (hC : Cx (s := S2048x4096) (V c main_arg4) (V c main_arg5) C)
    (hS : Cx (s := S2048x4096) (V c main_v0_0) (V c main_v0_1) S) : (dat1 V c).arrAt 8 cfg1.N = fun i : S1x4096.Idx => (((coefGrad A C S (i 1)).re : ℝ) : EReal) :=
  (dat1 V c).arrAt_eq_of_cover 8 _ (fun t _ => by
    show (cfg1.win 8).cut (grid1.coords t) ((dat1 V c).after 8 t) = _
    rw [after1_8]
    funext y
    refine Eq.trans (coef_blk_re V c hA hC hS t y) ?_
    show _ = (fun i : S1x4096.Idx => (((coefGrad A C S (i 1)).re : ℝ) : EReal)) (((cfg1.win 8).blk t).view.emb y)
    rw [emb1_8 t y]
    rfl) fill1_8
/-- What grid point `t` leaves in block 9. -/
theorem coef_blk_im {A : S1x4096.Idx → ℂ} {C S : S2048x4096.Idx → ℂ}
    (hA : Cx (s := S1x4096) (V c main_arg0) (V c main_v1) A) (hC : Cx (s := S2048x4096) (V c main_arg4) (V c main_arg5) C)
    (hS : Cx (s := S2048x4096) (V c main_v0_0) (V c main_v0_1) S) (t : Fin cfg1.N) (y : S1x512.Idx) :
    (outsAt1 V c t).2.2.2 y = (((coefGrad A C S (col t.val (y 1).val)).im : ℝ) : EReal) := by
  have h := gradOut c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1_0 V c hA t) (iblk1_2 V c hC t) (iblk1_4 V c hS t)
  have e := ((Cx.congr h (g := fun y : S1x512.Idx => coefGrad A C S (col t.val (y 1).val)) (fun y => grad_block A C S t.val (y 1))) y).2
  unfold outsAt1
  dsimp only
  exact e
/-- The reverse scan leaves the gradient of the coefficient (imaginary part). -/
theorem coef_im {A : S1x4096.Idx → ℂ} {C S : S2048x4096.Idx → ℂ}
    (hA : Cx (s := S1x4096) (V c main_arg0) (V c main_v1) A) (hC : Cx (s := S2048x4096) (V c main_arg4) (V c main_arg5) C)
    (hS : Cx (s := S2048x4096) (V c main_v0_0) (V c main_v0_1) S) : (dat1 V c).arrAt 9 cfg1.N = fun i : S1x4096.Idx => (((coefGrad A C S (i 1)).im : ℝ) : EReal) :=
  (dat1 V c).arrAt_eq_of_cover 9 _ (fun t _ => by
    show (cfg1.win 9).cut (grid1.coords t) ((dat1 V c).after 9 t) = _
    rw [after1_9]
    funext y
    refine Eq.trans (coef_blk_im V c hA hC hS t y) ?_
    show _ = (fun i : S1x4096.Idx => (((coefGrad A C S (i 1)).im : ℝ) : EReal)) (((cfg1.win 9).blk t).view.emb y)
    rw [emb1_9 t y]
    rfl) fill1_9
end Arrays
end Cert.Scan
-- ==== Proof.KernelRun.lean ====
module
public import proofs.«01_k».proof.Proof.KernelVal
public import proofs.«01_k».proof.Pre_finite
public import Idealize.ShloMosaic.Adequacy
public import Idealize.ShloMosaic.Init
public import Idealize.ShloMosaic.Lib.StableHlo.RunRead
@[expose] public section
set_option maxRecDepth 16384
noncomputable section

/-! # The kernel's run: what its four result arrays hold at the end -/

namespace Cert.Scan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Every run of the kernel's program ends with each device's unscoped buffers at the contents after the second call. -/
theorem kernel_end : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?hi)
    (QY := fun c s => ∀ b ∈ Pipeline.ucRefs τ sig, s.mem (((c : Thread nD τ)).1, b) = W3 m ρ c b)
    (hfin := fun c s' => ?hf) (hQ := fun s h _ => h)
  case hu =>
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  case hi =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _
      iexact Hp
    · iexists ∅
      iexact HO
  case hf =>
    iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

section Values
variable {A : Dev nD → S1x4096.Idx → ℂ} {X C : Dev nD → S2048x4096.Idx → ℂ}
  (hA : ∀ c : Dev nD, Cx (s := S1x4096) (m ((c : Thread nD τ).loc main_arg0)) (m ((c : Thread nD τ).loc main_arg1)) (A c))
  (hX : ∀ c : Dev nD, Cx (s := S2048x4096) (m ((c : Thread nD τ).loc main_arg2)) (m ((c : Thread nD τ).loc main_arg3)) (X c))
  (hC : ∀ c : Dev nD, Cx (s := S2048x4096) (m ((c : Thread nD τ).loc main_arg4)) (m ((c : Thread nD τ).loc main_arg5)) (C c))

/-- The conjugate of the coefficients. -/
abbrev conjOf (A : S1x4096.Idx → ℂ) : S1x4096.Idx → ℂ := fun i => (starRingEnd ℂ) (A i)
/-- The states as an array: row `t` after `t + 1` terms. -/
abbrev stateArr (A : S1x4096.Idx → ℂ) (X : S2048x4096.Idx → ℂ) : S2048x4096.Idx → ℂ := fun i => states A X (i 1) ((i 0).val + 1)

include hA in
/-- The second call's coefficients: the real part as given, the imaginary part negated by the host. -/
theorem coef_in (c : Dev nD) : Cx (s := S1x4096) (V2 m ρ c main_arg0) (V2 m ρ c main_v1) (conjOf (A c)) := by
  have h0 : V2 m ρ c main_arg0 = m ((c : Thread nD τ).loc main_arg0) := W2_args m ρ c main_arg0 (by decide)
  have h1 : V2 m ρ c main_v1 = (Host.negf (m ((c : Thread nD τ).loc main_arg1) : FVec Ideal S1x4096 .f32) : FVec Ideal S1x4096 .f32) := by
    rw [← W1_args m ρ c main_arg1 (by decide)]
    show StableHlo.after hostOps1 (W1 m ρ c) (Proc.devRef .tc main_v1) = _
    dsimp only [hostOps1]
    after_reads_simp
  rw [h0, h1]
  intro i
  refine ⟨(hA c i).1.trans (by simp [conjOf]), ?_⟩
  show -(show EReal from m ((c : Thread nD τ).loc main_arg1) i) = _
  rw [(hA c i).2]
  simp [conjOf]

include hC in
/-- The second call reads the cotangents as given. -/
theorem seq_in (c : Dev nD) : Cx (s := S2048x4096) (V2 m ρ c main_arg4) (V2 m ρ c main_arg5) (C c) := by
  have h0 : V2 m ρ c main_arg4 = m ((c : Thread nD τ).loc main_arg4) := W2_args m ρ c main_arg4 (by decide)
  have h1 : V2 m ρ c main_arg5 = m ((c : Thread nD τ).loc main_arg5) := W2_args m ρ c main_arg5 (by decide)
  rw [h0, h1]
  exact hC c

include hA hX in
/-- The second call reads the states the first call wrote. -/
theorem state_in (c : Dev nD) : Cx (s := S2048x4096) (V2 m ρ c main_v0_0) (V2 m ρ c main_v0_1) (stateArr (A c) (X c)) := by
  have h0 : V2 m ρ c main_v0_0 = (dat0 (V0 m ρ) c).arrAt 4 cfg0.N := (W2_of m ρ c main_v0_0 (by decide)).trans (W1_arr m ρ c 4)
  have h1 : V2 m ρ c main_v0_1 = (dat0 (V0 m ρ) c).arrAt 5 cfg0.N := (W2_of m ρ c main_v0_1 (by decide)).trans (W1_arr m ρ c 5)
  rw [h0, h1, scan_re (V0 m ρ) c (hA c) (hX c), scan_im (V0 m ρ) c (hA c) (hX c)]
  exact fun i => ⟨rfl, rfl⟩

include hA hX hC in
/-- The kernel's run: the two coefficient gradients, the two parts of the reverse state, and the arguments unchanged. -/
theorem kernel_run : θ_run defs (onTc (τ := τ) (main (F := Ideal))) ⟨m, fun _ => 0, ρ⟩ (fun r => ∀ c : Dev nD,
      r.2.mem ((c.tc : Thread nD τ).loc main_v2_2) = (fun i : S1x4096.Idx => (((coefGrad (conjOf (A c)) (C c) (stateArr (A c) (X c)) (i 1)).re : ℝ) : EReal))
      ∧ r.2.mem ((c.tc : Thread nD τ).loc main_v2_3) = (fun i : S1x4096.Idx => (((coefGrad (conjOf (A c)) (C c) (stateArr (A c) (X c)) (i 1)).im : ℝ) : EReal))
      ∧ r.2.mem ((c.tc : Thread nD τ).loc main_v2_0) = (fun i : S2048x4096.Idx => (((adjoint (conjOf (A c)) (C c) (i 1) (2048 - (i 0).val)).re : ℝ) : EReal))
      ∧ r.2.mem ((c.tc : Thread nD τ).loc main_v2_1) = (fun i : S2048x4096.Idx => (((adjoint (conjOf (A c)) (C c) (i 1) (2048 - (i 0).val)).im : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (kernel_end m ρ)
  have hA' := coef_in m ρ hA c
  have hC' := seq_in m ρ hC c
  have hS' := state_in m ρ hA hX c
  have g := h c
  exact ⟨((g _ (mem_uc main_v2_2 (by decide))).trans (W3_arr m ρ c 8)).trans (coef_re (V2 m ρ) c hA' hC' hS'),
    ((g _ (mem_uc main_v2_3 (by decide))).trans (W3_arr m ρ c 9)).trans (coef_im (V2 m ρ) c hA' hC' hS'),
    ((g _ (mem_uc main_v2_0 (by decide))).trans (W3_arr m ρ c 6)).trans (rscan_re (V2 m ρ) c hA' hC' hS'),
    ((g _ (mem_uc main_v2_1 (by decide))).trans (W3_arr m ρ c 7)).trans (rscan_im (V2 m ρ) c hA' hC' hS'),
    (g _ (mem_uc main_arg0 (by decide))).trans (W3_main_arg0 m ρ c), (g _ (mem_uc main_arg1 (by decide))).trans (W3_main_arg1 m ρ c),
    (g _ (mem_uc main_arg2 (by decide))).trans (W3_main_arg2 m ρ c), (g _ (mem_uc main_arg3 (by decide))).trans (W3_main_arg3 m ρ c),
    (g _ (mem_uc main_arg4 (by decide))).trans (W3_main_arg4 m ρ c), (g _ (mem_uc main_arg5 (by decide))).trans (W3_main_arg5 m ρ c)⟩
end Values
end Cert.Scan
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option Elab.async false

noncomputable section

/-! The reference program cut into stretches of host operations: what each stretch writes, and what the called
functions (read a row, write a row) leave. -/

namespace Cert.Ref

open Idealize.ShloMosaic Idealize.ShloMosaic.TcCoe Idealize.ShloMosaic.Tactic Idealize.ShloMosaic.StableHlo
open Idealize.SL Idealize.SL.Sem
open Cert.ReferenceIdeal Cert.ReferenceIdeal.Gen

variable {F : FTy → Type} [FloatOps F]

/-- Row `i` of an array. -/
def rowAt (X : (⟨S2048x4096, .f32⟩ : BufTy).Contents (Elt F)) (i : (⟨S_, .i32⟩ : BufTy).Contents (Elt F)) :
    (⟨S4096, .f32⟩ : BufTy).Contents (Elt F) :=
  shapeCast S4096 (Host.dynamicSlice S1x4096 X
    (fun k => ((![i, constantI S_ 32 0#32] : Fin 2 → (⟨S_, .i32⟩ : BufTy).Contents (Elt F)) k (Shape.Idx.first h_S_)).toInt)
    sliceFits_S2048x4096_S1x4096) shapeCasts_S1x4096_S4096

/-- An array with row `i` replaced. -/
def putRow (X : (⟨S2048x4096, .f32⟩ : BufTy).Contents (Elt F)) (v : (⟨S4096, .f32⟩ : BufTy).Contents (Elt F))
    (i : (⟨S_, .i32⟩ : BufTy).Contents (Elt F)) : (⟨S2048x4096, .f32⟩ : BufTy).Contents (Elt F) :=
  Host.dynamicUpdateSlice X (broadcastInDim S1x4096 ![1] bcast_S4096_S1x4096_1 v)
    (fun k => ((![i, constantI S_ 32 0#32] : Fin 2 → (⟨S_, .i32⟩ : BufTy).Contents (Elt F)) k (Shape.Idx.first h_S_)).toInt)
    updateFits_S2048x4096_S1x4096

/-- The host operations before the first loop. -/
abbrev beforeFirst : List (HloOp τ sig (Elt F)) :=
  [ StableHlo.nullary main_cst (constant S_ .f32 0x00000000#32),
    StableHlo.unary main_cst main_v0 (broadcastInDim S4096 ![] bcast_S_S4096 : (⟨S_, .f32⟩ : BufTy).Contents (Elt F) → (⟨S4096, .f32⟩ : BufTy).Contents (Elt F)),
    StableHlo.reshape main_arg0 main_v1 (rfl : (.f32 : EltTy) = .f32) shapeCasts_S1x4096_S4096,
    StableHlo.reshape main_arg1 main_v2 (rfl : (.f32 : EltTy) = .f32) shapeCasts_S1x4096_S4096,
    StableHlo.reshape main_arg0 main_v3 (rfl : (.f32 : EltTy) = .f32) shapeCasts_S1x4096_S4096,
    StableHlo.reshape main_arg1 main_v4 (rfl : (.f32 : EltTy) = .f32) shapeCasts_S1x4096_S4096,
    StableHlo.nullary main_cst_0 (constant S_ .f32 0x00000000#32),
    StableHlo.unary main_cst_0 main_v5 (broadcastInDim S2048x4096 ![] bcast_S_S2048x4096 : (⟨S_, .f32⟩ : BufTy).Contents (Elt F) → (⟨S2048x4096, .f32⟩ : BufTy).Contents (Elt F)),
    StableHlo.nullary main_cst_1 (constant S_ .f32 0x00000000#32),
    StableHlo.unary main_cst_1 main_v6 (broadcastInDim S2048x4096 ![] bcast_S_S2048x4096 : (⟨S_, .f32⟩ : BufTy).Contents (Elt F) → (⟨S2048x4096, .f32⟩ : BufTy).Contents (Elt F)),
    StableHlo.nullary main_cst_2 (constant S_ .f32 0x00000000#32),
    StableHlo.unary main_cst_2 main_v7 (broadcastInDim S2048x4096 ![] bcast_S_S2048x4096 : (⟨S_, .f32⟩ : BufTy).Contents (Elt F) → (⟨S2048x4096, .f32⟩ : BufTy).Contents (Elt F)),
    StableHlo.nullary main_cst_3 (constant S_ .f32 0x00000000#32),
    StableHlo.unary main_cst_3 main_v8 (broadcastInDim S2048x4096 ![] bcast_S_S2048x4096 : (⟨S_, .f32⟩ : BufTy).Contents (Elt F) → (⟨S2048x4096, .f32⟩ : BufTy).Contents (Elt F)),
    StableHlo.nullary main_c (constantI S_ 32 0#32),
    StableHlo.unary main_arg2 main_v9_0 id,
    StableHlo.unary main_arg3 main_v9_1 id,
    StableHlo.unary main_v1 main_v9_2 id,
    StableHlo.unary main_v2 main_v9_3 id,
    StableHlo.unary main_v3 main_v9_4 id,
    StableHlo.unary main_v4 main_v9_5 id,
    StableHlo.unary main_c main_v9_6 id,
    StableHlo.unary main_v0 main_v9_7 id,
    StableHlo.unary main_v0 main_v9_8 id,
    StableHlo.unary main_v5 main_v9_9 id,
    StableHlo.unary main_v6 main_v9_10 id,
    StableHlo.unary main_v7 main_v9_11 id,
    StableHlo.unary main_v8 main_v9_12 id ]

/-- Each operation of `beforeFirst` touches TensorCore references only. -/
theorem beforeFirst_sub : (beforeFirst : List (HloOp τ sig (Elt F))).Forall fun op => op.bufs ⊆ StableHlo.tcRefs τ sig :=
  ⟨StableHlo.nullary_bufs_sub .., StableHlo.unary_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- No operation of `beforeFirst` allocates. -/
theorem beforeFirst_fresh : (beforeFirst : List (HloOp τ sig (Elt F))).Forall fun op => op.fresh = ∅ :=
  StableHlo.forall_fresh_of_map rfl

/-- The buffers `beforeFirst` writes. -/
abbrev beforeFirst_W : List (Ref sig .tc) := [main_cst, main_v0, main_v1, main_v2, main_v3, main_v4, main_cst_0, main_v5, main_cst_1, main_v6, main_cst_2, main_v7, main_cst_3, main_v8, main_c, main_v9_0, main_v9_1, main_v9_2, main_v9_3, main_v9_4, main_v9_5, main_v9_6, main_v9_7, main_v9_8, main_v9_9, main_v9_10, main_v9_11, main_v9_12]

/-- Each operation of `beforeFirst` writes a buffer of that list. -/
theorem beforeFirst_writes : (beforeFirst : List (HloOp τ sig (Elt F))).Forall fun op => op.writes ⊆ (beforeFirst_W.map (Proc.devRef (τ := τ) .tc)).toFinset :=
  StableHlo.forall_writes_sub_of_map rfl

/-- A buffer `beforeFirst` does not write keeps its contents through it. -/
theorem beforeFirst_keep (V : Valuation τ sig (Elt F)) (r : Ref sig .tc) (h : r ∉ beforeFirst_W) :
    after beforeFirst V (Proc.devRef .tc r) = V (Proc.devRef .tc r) :=
  after_of_writes_sub beforeFirst V beforeFirst_writes h

/-- The host operations between the two loops, but the last one. -/
abbrev between : List (HloOp τ sig (Elt F)) :=
  [ StableHlo.nullary main_cst_4 (constant S_ .f32 0x00000000#32),
    StableHlo.unary main_cst_4 main_v10 (broadcastInDim S4096 ![] bcast_S_S4096 : (⟨S_, .f32⟩ : BufTy).Contents (Elt F) → (⟨S4096, .f32⟩ : BufTy).Contents (Elt F)),
    StableHlo.nullary main_cst_5 (constant S_ .f32 0x00000000#32),
    StableHlo.unary main_cst_5 main_v11 (broadcastInDim S4096 ![] bcast_S_S4096 : (⟨S_, .f32⟩ : BufTy).Contents (Elt F) → (⟨S4096, .f32⟩ : BufTy).Contents (Elt F)),
    StableHlo.nullary main_cst_6 (constant S_ .f32 0x00000000#32),
    StableHlo.unary main_cst_6 main_v12 (broadcastInDim S4096 ![] bcast_S_S4096 : (⟨S_, .f32⟩ : BufTy).Contents (Elt F) → (⟨S4096, .f32⟩ : BufTy).Contents (Elt F)),
    StableHlo.nullary main_cst_7 (constant S_ .f32 0x00000000#32),
    StableHlo.unary main_cst_7 main_v13 (broadcastInDim S4096 ![] bcast_S_S4096 : (⟨S_, .f32⟩ : BufTy).Contents (Elt F) → (⟨S4096, .f32⟩ : BufTy).Contents (Elt F)),
    StableHlo.nullary main_cst_8 (constant S_ .f32 0x00000000#32),
    StableHlo.unary main_cst_8 main_v14 (broadcastInDim S1x4096 ![] bcast_S_S1x4096 : (⟨S_, .f32⟩ : BufTy).Contents (Elt F) → (⟨S1x4096, .f32⟩ : BufTy).Contents (Elt F)),
    StableHlo.nullary main_cst_9 (constant S_ .f32 0x00000000#32),
    StableHlo.unary main_cst_9 main_v15 (broadcastInDim S1x4096 ![] bcast_S_S1x4096 : (⟨S_, .f32⟩ : BufTy).Contents (Elt F) → (⟨S1x4096, .f32⟩ : BufTy).Contents (Elt F)),
    StableHlo.nullary main_cst_10 (constant S_ .f32 0x00000000#32),
    StableHlo.unary main_cst_10 main_v16 (broadcastInDim S2048x4096 ![] bcast_S_S2048x4096 : (⟨S_, .f32⟩ : BufTy).Contents (Elt F) → (⟨S2048x4096, .f32⟩ : BufTy).Contents (Elt F)),
    StableHlo.nullary main_cst_11 (constant S_ .f32 0x00000000#32),
    StableHlo.unary main_cst_11 main_v17 (broadcastInDim S2048x4096 ![] bcast_S_S2048x4096 : (⟨S_, .f32⟩ : BufTy).Contents (Elt F) → (⟨S2048x4096, .f32⟩ : BufTy).Contents (Elt F)),
    StableHlo.nullary main_c_12 (constantI S_ 32 0#32),
    StableHlo.unary main_arg4 main_v18_0 id,
    StableHlo.unary main_arg5 main_v18_1 id,
    StableHlo.unary main_v9_11 main_v18_2 id,
    StableHlo.unary main_v9_12 main_v18_3 id,
    StableHlo.unary main_v1 main_v18_4 id,
    StableHlo.unary main_v2 main_v18_5 id,
    StableHlo.unary main_v3 main_v18_6 id,
    StableHlo.unary main_v4 main_v18_7 id,
    StableHlo.unary main_c_12 main_v18_8 id,
    StableHlo.unary main_v14 main_v18_9 id,
    StableHlo.unary main_v15 main_v18_10 id,
    StableHlo.unary main_v12 main_v18_11 id,
    StableHlo.unary main_v13 main_v18_12 id,
    StableHlo.unary main_v16 main_v18_13 id ]

/-- Each operation of `between` touches TensorCore references only. -/
theorem between_sub : (between : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- No operation of `between` allocates. -/
theorem between_fresh : (between : List (HloOp τ sig (Elt F))).Forall fun op => op.fresh = ∅ :=
  StableHlo.forall_fresh_of_map rfl

/-- The buffers `between` writes. -/
abbrev between_W : List (Ref sig .tc) := [main_cst_4, main_v10, main_cst_5, main_v11, main_cst_6, main_v12, main_cst_7, main_v13, main_cst_8, main_v14, main_cst_9, main_v15, main_cst_10, main_v16, main_cst_11, main_v17, main_c_12, main_v18_0, main_v18_1, main_v18_2, main_v18_3, main_v18_4, main_v18_5, main_v18_6, main_v18_7, main_v18_8, main_v18_9, main_v18_10, main_v18_11, main_v18_12, main_v18_13]

/-- Each operation of `between` writes a buffer of that list. -/
theorem between_writes : (between : List (HloOp τ sig (Elt F))).Forall fun op => op.writes ⊆ (between_W.map (Proc.devRef (τ := τ) .tc)).toFinset :=
  StableHlo.forall_writes_sub_of_map rfl

/-- A buffer `between` does not write keeps its contents through it. -/
theorem between_keep (V : Valuation τ sig (Elt F)) (r : Ref sig .tc) (h : r ∉ between_W) :
    after between V (Proc.devRef .tc r) = V (Proc.devRef .tc r) :=
  after_of_writes_sub between V between_writes h

/-- The last host operation before the second loop. -/
abbrev between2 : List (HloOp τ sig (Elt F)) :=
  [ StableHlo.unary main_v17 main_v18_14 id ]

/-- Each operation of `between2` touches TensorCore references only. -/
theorem between2_sub : (between2 : List (HloOp τ sig (Elt F))).Forall fun op => op.bufs ⊆ StableHlo.tcRefs τ sig :=
  StableHlo.unary_bufs_sub ..

/-- No operation of `between2` allocates. -/
theorem between2_fresh : (between2 : List (HloOp τ sig (Elt F))).Forall fun op => op.fresh = ∅ :=
  StableHlo.forall_fresh_of_map rfl

/-- The buffers `between2` writes. -/
abbrev between2_W : List (Ref sig .tc) := [main_v18_14]

/-- Each operation of `between2` writes a buffer of that list. -/
theorem between2_writes : (between2 : List (HloOp τ sig (Elt F))).Forall fun op => op.writes ⊆ (between2_W.map (Proc.devRef (τ := τ) .tc)).toFinset :=
  StableHlo.forall_writes_sub_of_map rfl

/-- A buffer `between2` does not write keeps its contents through it. -/
theorem between2_keep (V : Valuation τ sig (Elt F)) (r : Ref sig .tc) (h : r ∉ between2_W) :
    after between2 V (Proc.devRef .tc r) = V (Proc.devRef .tc r) :=
  after_of_writes_sub between2 V between2_writes h

/-- Stretch 0 of the body of the first loop. -/
abbrev fwd_0 : List (HloOp τ sig (Elt F)) :=
  [ StableHlo.TRef.nullary (.of main_while0b_call0_c : StableHlo.TRef sig ⟨S_, .i32⟩) (constantI S_ 32 0#32),
    StableHlo.TRef.unaryIndexed (.of main_v9_0 : StableHlo.TRef sig ⟨S2048x4096, .f32⟩) ![(.of main_v9_6 : StableHlo.TRef sig ⟨S_, .i32⟩), (.of main_while0b_call0_c : StableHlo.TRef sig ⟨S_, .i32⟩)] (.of main_while0b_call0_v0 : StableHlo.TRef sig ⟨S1x4096, .f32⟩) (fun x i => Host.dynamicSlice S1x4096 x (fun k => (i k (Shape.Idx.first h_S_)).toInt) sliceFits_S2048x4096_S1x4096),
    StableHlo.TRef.reshape (.of main_while0b_call0_v0 : StableHlo.TRef sig ⟨S1x4096, .f32⟩) (.of main_while0b_v19 : StableHlo.TRef sig ⟨S4096, .f32⟩) (rfl : (.f32 : EltTy) = .f32) shapeCasts_S1x4096_S4096 ]

/-- Each operation of `fwd_0` touches TensorCore references only. -/
theorem fwd_0_sub : (fwd_0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- No operation of `fwd_0` allocates. -/
theorem fwd_0_fresh : (fwd_0 : List (HloOp τ sig (Elt F))).Forall fun op => op.fresh = ∅ :=
  StableHlo.forall_fresh_of_map rfl

/-- The buffers `fwd_0` writes. -/
abbrev fwd_0_W : List (Ref sig .tc) := [main_while0b_call0_c, main_while0b_call0_v0, main_while0b_v19]

/-- Each operation of `fwd_0` writes a buffer of that list. -/
theorem fwd_0_writes : (fwd_0 : List (HloOp τ sig (Elt F))).Forall fun op => op.writes ⊆ (fwd_0_W.map (Proc.devRef (τ := τ) .tc)).toFinset :=
  StableHlo.forall_writes_sub_of_map rfl

/-- A buffer `fwd_0` does not write keeps its contents through it. -/
theorem fwd_0_keep (V : Valuation τ sig (Elt F)) (r : Ref sig .tc) (h : r ∉ fwd_0_W) :
    after fwd_0 V (Proc.devRef .tc r) = V (Proc.devRef .tc r) :=
  after_of_writes_sub fwd_0 V fwd_0_writes h

/-- Stretch 1 of the body of the first loop. -/
abbrev fwd_1 : List (HloOp τ sig (Elt F)) :=
  [ StableHlo.TRef.nullary (.of main_while0b_call1_c : StableHlo.TRef sig ⟨S_, .i32⟩) (constantI S_ 32 0#32),
    StableHlo.TRef.unaryIndexed (.of main_v9_1 : StableHlo.TRef sig ⟨S2048x4096, .f32⟩) ![(.of main_v9_6 : StableHlo.TRef sig ⟨S_, .i32⟩), (.of main_while0b_call1_c : StableHlo.TRef sig ⟨S_, .i32⟩)] (.of main_while0b_call1_v0 : StableHlo.TRef sig ⟨S1x4096, .f32⟩) (fun x i => Host.dynamicSlice S1x4096 x (fun k => (i k (Shape.Idx.first h_S_)).toInt) sliceFits_S2048x4096_S1x4096),
    StableHlo.TRef.reshape (.of main_while0b_call1_v0 : StableHlo.TRef sig ⟨S1x4096, .f32⟩) (.of main_while0b_v20 : StableHlo.TRef sig ⟨S4096, .f32⟩) (rfl : (.f32 : EltTy) = .f32) shapeCasts_S1x4096_S4096 ]

/-- Each operation of `fwd_1` touches TensorCore references only. -/
theorem fwd_1_sub : (fwd_1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- No operation of `fwd_1` allocates. -/
theorem fwd_1_fresh : (fwd_1 : List (HloOp τ sig (Elt F))).Forall fun op => op.fresh = ∅ :=
  StableHlo.forall_fresh_of_map rfl

/-- The buffers `fwd_1` writes. -/
abbrev fwd_1_W : List (Ref sig .tc) := [main_while0b_call1_c, main_while0b_call1_v0, main_while0b_v20]

/-- Each operation of `fwd_1` writes a buffer of that list. -/
theorem fwd_1_writes : (fwd_1 : List (HloOp τ sig (Elt F))).Forall fun op => op.writes ⊆ (fwd_1_W.map (Proc.devRef (τ := τ) .tc)).toFinset :=
  StableHlo.forall_writes_sub_of_map rfl

/-- A buffer `fwd_1` does not write keeps its contents through it. -/
theorem fwd_1_keep (V : Valuation τ sig (Elt F)) (r : Ref sig .tc) (h : r ∉ fwd_1_W) :
    after fwd_1 V (Proc.devRef .tc r) = V (Proc.devRef .tc r) :=
  after_of_writes_sub fwd_1 V fwd_1_writes h

/-- Stretch 2 of the body of the first loop. -/
abbrev fwd_2 : List (HloOp τ sig (Elt F)) :=
  [ StableHlo.binary main_v9_2 main_v9_7 main_while0b_v21 (mulf : (⟨S4096, .f32⟩ : BufTy).Contents (Elt F) → (⟨S4096, .f32⟩ : BufTy).Contents (Elt F) → (⟨S4096, .f32⟩ : BufTy).Contents (Elt F)),
    StableHlo.binary main_v9_3 main_v9_8 main_while0b_v22 (mulf : (⟨S4096, .f32⟩ : BufTy).Contents (Elt F) → (⟨S4096, .f32⟩ : BufTy).Contents (Elt F) → (⟨S4096, .f32⟩ : BufTy).Contents (Elt F)),
    StableHlo.binary main_while0b_v21 main_while0b_v22 main_while0b_v23 (subf : (⟨S4096, .f32⟩ : BufTy).Contents (Elt F) → (⟨S4096, .f32⟩ : BufTy).Contents (Elt F) → (⟨S4096, .f32⟩ : BufTy).Contents (Elt F)),
    StableHlo.binary main_while0b_v23 main_while0b_v19 main_while0b_v24 (addf : (⟨S4096, .f32⟩ : BufTy).Contents (Elt F) → (⟨S4096, .f32⟩ : BufTy).Contents (Elt F) → (⟨S4096, .f32⟩ : BufTy).Contents (Elt F)),
    StableHlo.binary main_v9_4 main_v9_8 main_while0b_v25 (mulf : (⟨S4096, .f32⟩ : BufTy).Contents (Elt F) → (⟨S4096, .f32⟩ : BufTy).Contents (Elt F) → (⟨S4096, .f32⟩ : BufTy).Contents (Elt F)),
    StableHlo.binary main_v9_5 main_v9_7 main_while0b_v26 (mulf : (⟨S4096, .f32⟩ : BufTy).Contents (Elt F) → (⟨S4096, .f32⟩ : BufTy).Contents (Elt F) → (⟨S4096, .f32⟩ : BufTy).Contents (Elt F)),
    StableHlo.binary main_while0b_v25 main_while0b_v26 main_while0b_v27 (addf : (⟨S4096, .f32⟩ : BufTy).Contents (Elt F) → (⟨S4096, .f32⟩ : BufTy).Contents (Elt F) → (⟨S4096, .f32⟩ : BufTy).Contents (Elt F)),
    StableHlo.binary main_while0b_v27 main_while0b_v20 main_while0b_v28 (addf : (⟨S4096, .f32⟩ : BufTy).Contents (Elt F) → (⟨S4096, .f32⟩ : BufTy).Contents (Elt F) → (⟨S4096, .f32⟩ : BufTy).Contents (Elt F)) ]

/-- Each operation of `fwd_2` touches TensorCore references only. -/
theorem fwd_2_sub : (fwd_2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩

/-- No operation of `fwd_2` allocates. -/
theorem fwd_2_fresh : (fwd_2 : List (HloOp τ sig (Elt F))).Forall fun op => op.fresh = ∅ :=
  StableHlo.forall_fresh_of_map rfl

/-- The buffers `fwd_2` writes. -/
abbrev fwd_2_W : List (Ref sig .tc) := [main_while0b_v21, main_while0b_v22, main_while0b_v23, main_while0b_v24, main_while0b_v25, main_while0b_v26, main_while0b_v27, main_while0b_v28]

/-- Each operation of `fwd_2` writes a buffer of that list. -/
theorem fwd_2_writes : (fwd_2 : List (HloOp τ sig (Elt F))).Forall fun op => op.writes ⊆ (fwd_2_W.map (Proc.devRef (τ := τ) .tc)).toFinset :=
  StableHlo.forall_writes_sub_of_map rfl

/-- A buffer `fwd_2` does not write keeps its contents through it. -/
theorem fwd_2_keep (V : Valuation τ sig (Elt F)) (r : Ref sig .tc) (h : r ∉ fwd_2_W) :
    after fwd_2 V (Proc.devRef .tc r) = V (Proc.devRef .tc r) :=
  after_of_writes_sub fwd_2 V fwd_2_writes h

/-- Stretch 3 of the body of the first loop. -/
abbrev fwd_3 : List (HloOp τ sig (Elt F)) :=
  [ StableHlo.TRef.unary (.of main_while0b_v24 : StableHlo.TRef sig ⟨S4096, .f32⟩) (.of main_while0b_call2_v0 : StableHlo.TRef sig ⟨S1x4096, .f32⟩) (broadcastInDim S1x4096 ![1] bcast_S4096_S1x4096_1),
    StableHlo.TRef.nullary (.of main_while0b_call2_c : StableHlo.TRef sig ⟨S_, .i32⟩) (constantI S_ 32 0#32),
    StableHlo.TRef.binaryIndexed (.of main_v9_9 : StableHlo.TRef sig ⟨S2048x4096, .f32⟩) (.of main_while0b_call2_v0 : StableHlo.TRef sig ⟨S1x4096, .f32⟩) ![(.of main_v9_6 : StableHlo.TRef sig ⟨S_, .i32⟩), (.of main_while0b_call2_c : StableHlo.TRef sig ⟨S_, .i32⟩)] (.of main_while0b_v29 : StableHlo.TRef sig ⟨S2048x4096, .f32⟩) (fun x u i => Host.dynamicUpdateSlice x u (fun k => (i k (Shape.Idx.first h_S_)).toInt) updateFits_S2048x4096_S1x4096) ]

/-- Each operation of `fwd_3` touches TensorCore references only. -/
theorem fwd_3_sub : (fwd_3 : List (HloOp τ sig (Elt F))).Forall fun op => op.bufs ⊆ StableHlo.tcRefs τ sig :=
  ⟨StableHlo.unary_bufs_sub .., StableHlo.nullary_bufs_sub .., StableHlo.binaryIndexed_bufs_sub ..⟩

/-- No operation of `fwd_3` allocates. -/
theorem fwd_3_fresh : (fwd_3 : List (HloOp τ sig (Elt F))).Forall fun op => op.fresh = ∅ :=
  StableHlo.forall_fresh_of_map rfl

/-- The buffers `fwd_3` writes. -/
abbrev fwd_3_W : List (Ref sig .tc) := [main_while0b_call2_v0, main_while0b_call2_c, main_while0b_v29]

/-- Each operation of `fwd_3` writes a buffer of that list. -/
theorem fwd_3_writes : (fwd_3 : List (HloOp τ sig (Elt F))).Forall fun op => op.writes ⊆ (fwd_3_W.map (Proc.devRef (τ := τ) .tc)).toFinset :=
  StableHlo.forall_writes_sub_of_map rfl

/-- A buffer `fwd_3` does not write keeps its contents through it. -/
theorem fwd_3_keep (V : Valuation τ sig (Elt F)) (r : Ref sig .tc) (h : r ∉ fwd_3_W) :
    after fwd_3 V (Proc.devRef .tc r) = V (Proc.devRef .tc r) :=
  after_of_writes_sub fwd_3 V fwd_3_writes h

/-- Stretch 4 of the body of the first loop. -/
abbrev fwd_4 : List (HloOp τ sig (Elt F)) :=
  [ StableHlo.TRef.unary (.of main_while0b_v28 : StableHlo.TRef sig ⟨S4096, .f32⟩) (.of main_while0b_call3_v0 : StableHlo.TRef sig ⟨S1x4096, .f32⟩) (broadcastInDim S1x4096 ![1] bcast_S4096_S1x4096_1),
    StableHlo.TRef.nullary (.of main_while0b_call3_c : StableHlo.TRef sig ⟨S_, .i32⟩) (constantI S_ 32 0#32),
    StableHlo.TRef.binaryIndexed (.of main_v9_10 : StableHlo.TRef sig ⟨S2048x4096, .f32⟩) (.of main_while0b_call3_v0 : StableHlo.TRef sig ⟨S1x4096, .f32⟩) ![(.of main_v9_6 : StableHlo.TRef sig ⟨S_, .i32⟩), (.of main_while0b_call3_c : StableHlo.TRef sig ⟨S_, .i32⟩)] (.of main_while0b_v30 : StableHlo.TRef sig ⟨S2048x4096, .f32⟩) (fun x u i => Host.dynamicUpdateSlice x u (fun k => (i k (Shape.Idx.first h_S_)).toInt) updateFits_S2048x4096_S1x4096) ]

/-- Each operation of `fwd_4` touches TensorCore references only. -/
theorem fwd_4_sub : (fwd_4 : List (HloOp τ sig (Elt F))).Forall fun op => op.bufs ⊆ StableHlo.tcRefs τ sig :=
  ⟨StableHlo.unary_bufs_sub .., StableHlo.nullary_bufs_sub .., StableHlo.binaryIndexed_bufs_sub ..⟩

/-- No operation of `fwd_4` allocates. -/
theorem fwd_4_fresh : (fwd_4 : List (HloOp τ sig (Elt F))).Forall fun op => op.fresh = ∅ :=
  StableHlo.forall_fresh_of_map rfl

/-- The buffers `fwd_4` writes. -/
abbrev fwd_4_W : List (Ref sig .tc) := [main_while0b_call3_v0, main_while0b_call3_c, main_while0b_v30]

/-- Each operation of `fwd_4` writes a buffer of that list. -/
theorem fwd_4_writes : (fwd_4 : List (HloOp τ sig (Elt F))).Forall fun op => op.writes ⊆ (fwd_4_W.map (Proc.devRef (τ := τ) .tc)).toFinset :=
  StableHlo.forall_writes_sub_of_map rfl

/-- A buffer `fwd_4` does not write keeps its contents through it. -/
theorem fwd_4_keep (V : Valuation τ sig (Elt F)) (r : Ref sig .tc) (h : r ∉ fwd_4_W) :
    after fwd_4 V (Proc.devRef .tc r) = V (Proc.devRef .tc r) :=
  after_of_writes_sub fwd_4 V fwd_4_writes h

/-- Stretch 5 of the body of the first loop. -/
abbrev fwd_5 : List (HloOp τ sig (Elt F)) :=
  [ StableHlo.TRef.unary (.of main_v9_7 : StableHlo.TRef sig ⟨S4096, .f32⟩) (.of main_while0b_call4_v0 : StableHlo.TRef sig ⟨S1x4096, .f32⟩) (broadcastInDim S1x4096 ![1] bcast_S4096_S1x4096_1),
    StableHlo.TRef.nullary (.of main_while0b_call4_c : StableHlo.TRef sig ⟨S_, .i32⟩) (constantI S_ 32 0#32),
    StableHlo.TRef.binaryIndexed (.of main_v9_11 : StableHlo.TRef sig ⟨S2048x4096, .f32⟩) (.of main_while0b_call4_v0 : StableHlo.TRef sig ⟨S1x4096, .f32⟩) ![(.of main_v9_6 : StableHlo.TRef sig ⟨S_, .i32⟩), (.of main_while0b_call4_c : StableHlo.TRef sig ⟨S_, .i32⟩)] (.of main_while0b_v31 : StableHlo.TRef sig ⟨S2048x4096, .f32⟩) (fun x u i => Host.dynamicUpdateSlice x u (fun k => (i k (Shape.Idx.first h_S_)).toInt) updateFits_S2048x4096_S1x4096) ]

/-- Each operation of `fwd_5` touches TensorCore references only. -/
theorem fwd_5_sub : (fwd_5 : List (HloOp τ sig (Elt F))).Forall fun op => op.bufs ⊆ StableHlo.tcRefs τ sig :=
  ⟨StableHlo.unary_bufs_sub .., StableHlo.nullary_bufs_sub .., StableHlo.binaryIndexed_bufs_sub ..⟩

/-- No operation of `fwd_5` allocates. -/
theorem fwd_5_fresh : (fwd_5 : List (HloOp τ sig (Elt F))).Forall fun op => op.fresh = ∅ :=
  StableHlo.forall_fresh_of_map rfl

/-- The buffers `fwd_5` writes. -/
abbrev fwd_5_W : List (Ref sig .tc) := [main_while0b_call4_v0, main_while0b_call4_c, main_while0b_v31]

/-- Each operation of `fwd_5` writes a buffer of that list. -/
theorem fwd_5_writes : (fwd_5 : List (HloOp τ sig (Elt F))).Forall fun op => op.writes ⊆ (fwd_5_W.map (Proc.devRef (τ := τ) .tc)).toFinset :=
  StableHlo.forall_writes_sub_of_map rfl

/-- A buffer `fwd_5` does not write keeps its contents through it. -/
theorem fwd_5_keep (V : Valuation τ sig (Elt F)) (r : Ref sig .tc) (h : r ∉ fwd_5_W) :
    after fwd_5 V (Proc.devRef .tc r) = V (Proc.devRef .tc r) :=
  after_of_writes_sub fwd_5 V fwd_5_writes h

/-- Stretch 6 of the body of the first loop. -/
abbrev fwd_6 : List (HloOp τ sig (Elt F)) :=
  [ StableHlo.TRef.unary (.of main_v9_8 : StableHlo.TRef sig ⟨S4096, .f32⟩) (.of main_while0b_call5_v0 : StableHlo.TRef sig ⟨S1x4096, .f32⟩) (broadcastInDim S1x4096 ![1] bcast_S4096_S1x4096_1),
    StableHlo.TRef.nullary (.of main_while0b_call5_c : StableHlo.TRef sig ⟨S_, .i32⟩) (constantI S_ 32 0#32),
    StableHlo.TRef.binaryIndexed (.of main_v9_12 : StableHlo.TRef sig ⟨S2048x4096, .f32⟩) (.of main_while0b_call5_v0 : StableHlo.TRef sig ⟨S1x4096, .f32⟩) ![(.of main_v9_6 : StableHlo.TRef sig ⟨S_, .i32⟩), (.of main_while0b_call5_c : StableHlo.TRef sig ⟨S_, .i32⟩)] (.of main_while0b_v32 : StableHlo.TRef sig ⟨S2048x4096, .f32⟩) (fun x u i => Host.dynamicUpdateSlice x u (fun k => (i k (Shape.Idx.first h_S_)).toInt) updateFits_S2048x4096_S1x4096) ]

/-- Each operation of `fwd_6` touches TensorCore references only. -/
theorem fwd_6_sub : (fwd_6 : List (HloOp τ sig (Elt F))).Forall fun op => op.bufs ⊆ StableHlo.tcRefs τ sig :=
  ⟨StableHlo.unary_bufs_sub .., StableHlo.nullary_bufs_sub .., StableHlo.binaryIndexed_bufs_sub ..⟩

/-- No operation of `fwd_6` allocates. -/
theorem fwd_6_fresh : (fwd_6 : List (HloOp τ sig (Elt F))).Forall fun op => op.fresh = ∅ :=
  StableHlo.forall_fresh_of_map rfl

/-- The buffers `fwd_6` writes. -/
abbrev fwd_6_W : List (Ref sig .tc) := [main_while0b_call5_v0, main_while0b_call5_c, main_while0b_v32]

/-- Each operation of `fwd_6` writes a buffer of that list. -/
theorem fwd_6_writes : (fwd_6 : List (HloOp τ sig (Elt F))).Forall fun op => op.writes ⊆ (fwd_6_W.map (Proc.devRef (τ := τ) .tc)).toFinset :=
  StableHlo.forall_writes_sub_of_map rfl

/-- A buffer `fwd_6` does not write keeps its contents through it. -/
theorem fwd_6_keep (V : Valuation τ sig (Elt F)) (r : Ref sig .tc) (h : r ∉ fwd_6_W) :
    after fwd_6 V (Proc.devRef .tc r) = V (Proc.devRef .tc r) :=
  after_of_writes_sub fwd_6 V fwd_6_writes h

/-- Stretch 7 of the body of the first loop. -/
abbrev fwd_7 : List (HloOp τ sig (Elt F)) :=
  [ StableHlo.nullary main_while0b_c_25 (constantI S_ 32 1#32),
    StableHlo.binary main_v9_6 main_while0b_c_25 main_while0b_v33 (addi : (⟨S_, .i32⟩ : BufTy).Contents (Elt F) → (⟨S_, .i32⟩ : BufTy).Contents (Elt F) → (⟨S_, .i32⟩ : BufTy).Contents (Elt F)),
    StableHlo.unary main_while0b_v33 main_v9_6 id,
    StableHlo.unary main_while0b_v24 main_v9_7 id,
    StableHlo.unary main_while0b_v28 main_v9_8 id,
    StableHlo.unary main_while0b_v29 main_v9_9 id,
    StableHlo.unary main_while0b_v30 main_v9_10 id,
    StableHlo.unary main_while0b_v31 main_v9_11 id,
    StableHlo.unary main_while0b_v32 main_v9_12 id ]

/-- Each operation of `fwd_7` touches TensorCore references only. -/
theorem fwd_7_sub : (fwd_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- No operation of `fwd_7` allocates. -/
theorem fwd_7_fresh : (fwd_7 : List (HloOp τ sig (Elt F))).Forall fun op => op.fresh = ∅ :=
  StableHlo.forall_fresh_of_map rfl

/-- The buffers `fwd_7` writes. -/
abbrev fwd_7_W : List (Ref sig .tc) := [main_while0b_c_25, main_while0b_v33, main_v9_6, main_v9_7, main_v9_8, main_v9_9, main_v9_10, main_v9_11, main_v9_12]

/-- Each operation of `fwd_7` writes a buffer of that list. -/
theorem fwd_7_writes : (fwd_7 : List (HloOp τ sig (Elt F))).Forall fun op => op.writes ⊆ (fwd_7_W.map (Proc.devRef (τ := τ) .tc)).toFinset :=
  StableHlo.forall_writes_sub_of_map rfl

/-- A buffer `fwd_7` does not write keeps its contents through it. -/
theorem fwd_7_keep (V : Valuation τ sig (Elt F)) (r : Ref sig .tc) (h : r ∉ fwd_7_W) :
    after fwd_7 V (Proc.devRef .tc r) = V (Proc.devRef .tc r) :=
  after_of_writes_sub fwd_7 V fwd_7_writes h

/-- Stretch 0 of the body of the second loop. -/
abbrev rev_0 : List (HloOp τ sig (Elt F)) :=
  [ StableHlo.nullary main_while1b_c_27 (constantI S_ 32 2048#32),
    StableHlo.binary main_while1b_c_27 main_v18_8 main_while1b_v19 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v19 main_while1b_c_28 main_while1b_v20 (subi : (⟨S_, .i32⟩ : BufTy).Contents (Elt F) → (⟨S_, .i32⟩ : BufTy).Contents (Elt F) → (⟨S_, .i32⟩ : BufTy).Contents (Elt F)) ]

/-- Each operation of `rev_0` touches TensorCore references only. -/
theorem rev_0_sub : (rev_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- No operation of `rev_0` allocates. -/
theorem rev_0_fresh : (rev_0 : List (HloOp τ sig (Elt F))).Forall fun op => op.fresh = ∅ :=
  StableHlo.forall_fresh_of_map rfl

/-- The buffers `rev_0` writes. -/
abbrev rev_0_W : List (Ref sig .tc) := [main_while1b_c_27, main_while1b_v19, main_while1b_c_28, main_while1b_v20]

/-- Each operation of `rev_0` writes a buffer of that list. -/
theorem rev_0_writes : (rev_0 : List (HloOp τ sig (Elt F))).Forall fun op => op.writes ⊆ (rev_0_W.map (Proc.devRef (τ := τ) .tc)).toFinset :=
  StableHlo.forall_writes_sub_of_map rfl

/-- A buffer `rev_0` does not write keeps its contents through it. -/
theorem rev_0_keep (V : Valuation τ sig (Elt F)) (r : Ref sig .tc) (h : r ∉ rev_0_W) :
    after rev_0 V (Proc.devRef .tc r) = V (Proc.devRef .tc r) :=
  after_of_writes_sub rev_0 V rev_0_writes h

/-- Stretch 1 of the body of the second loop. -/
abbrev rev_1 : List (HloOp τ sig (Elt F)) :=
  [ StableHlo.TRef.nullary (.of main_while1b_call6_c : StableHlo.TRef sig ⟨S_, .i32⟩) (constantI S_ 32 0#32),
    StableHlo.TRef.unaryIndexed (.of main_v18_0 : StableHlo.TRef sig ⟨S2048x4096, .f32⟩) ![(.of main_while1b_v20 : StableHlo.TRef sig ⟨S_, .i32⟩), (.of main_while1b_call6_c : StableHlo.TRef sig ⟨S_, .i32⟩)] (.of main_while1b_call6_v0 : StableHlo.TRef sig ⟨S1x4096, .f32⟩) (fun x i => Host.dynamicSlice S1x4096 x (fun k => (i k (Shape.Idx.first h_S_)).toInt) sliceFits_S2048x4096_S1x4096),
    StableHlo.TRef.reshape (.of main_while1b_call6_v0 : StableHlo.TRef sig ⟨S1x4096, .f32⟩) (.of main_while1b_v21 : StableHlo.TRef sig ⟨S4096, .f32⟩) (rfl : (.f32 : EltTy) = .f32) shapeCasts_S1x4096_S4096 ]

/-- Each operation of `rev_1` touches TensorCore references only. -/
theorem rev_1_sub : (rev_1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- No operation of `rev_1` allocates. -/
theorem rev_1_fresh : (rev_1 : List (HloOp τ sig (Elt F))).Forall fun op => op.fresh = ∅ :=
  StableHlo.forall_fresh_of_map rfl

/-- The buffers `rev_1` writes. -/
abbrev rev_1_W : List (Ref sig .tc) := [main_while1b_call6_c, main_while1b_call6_v0, main_while1b_v21]

/-- Each operation of `rev_1` writes a buffer of that list. -/
theorem rev_1_writes : (rev_1 : List (HloOp τ sig (Elt F))).Forall fun op => op.writes ⊆ (rev_1_W.map (Proc.devRef (τ := τ) .tc)).toFinset :=
  StableHlo.forall_writes_sub_of_map rfl

/-- A buffer `rev_1` does not write keeps its contents through it. -/
theorem rev_1_keep (V : Valuation τ sig (Elt F)) (r : Ref sig .tc) (h : r ∉ rev_1_W) :
    after rev_1 V (Proc.devRef .tc r) = V (Proc.devRef .tc r) :=
  after_of_writes_sub rev_1 V rev_1_writes h

/-- Stretch 2 of the body of the second loop. -/
abbrev rev_2 : List (HloOp τ sig (Elt F)) :=
  [ StableHlo.TRef.nullary (.of main_while1b_call7_c : StableHlo.TRef sig ⟨S_, .i32⟩) (constantI S_ 32 0#32),
    StableHlo.TRef.unaryIndexed (.of main_v18_1 : StableHlo.TRef sig ⟨S2048x4096, .f32⟩) ![(.of main_while1b_v20 : StableHlo.TRef sig ⟨S_, .i32⟩), (.of main_while1b_call7_c : StableHlo.TRef sig ⟨S_, .i32⟩)] (.of main_while1b_call7_v0 : StableHlo.TRef sig ⟨S1x4096, .f32⟩) (fun x i => Host.dynamicSlice S1x4096 x (fun k => (i k (Shape.Idx.first h_S_)).toInt) sliceFits_S2048x4096_S1x4096),
    StableHlo.TRef.reshape (.of main_while1b_call7_v0 : StableHlo.TRef sig ⟨S1x4096, .f32⟩) (.of main_while1b_v22 : StableHlo.TRef sig ⟨S4096, .f32⟩) (rfl : (.f32 : EltTy) = .f32) shapeCasts_S1x4096_S4096 ]

/-- Each operation of `rev_2` touches TensorCore references only. -/
theorem rev_2_sub : (rev_2 : List (HloOp τ sig (Elt F))).Forall fun op => op.bufs ⊆ StableHlo.tcRefs τ sig :=
  ⟨StableHlo.nullary_bufs_sub .., StableHlo.unaryIndexed_bufs_sub .., StableHlo.reshape_bufs_sub ..⟩

/-- No operation of `rev_2` allocates. -/
theorem rev_2_fresh : (rev_2 : List (HloOp τ sig (Elt F))).Forall fun op => op.fresh = ∅ :=
  StableHlo.forall_fresh_of_map rfl

/-- The buffers `rev_2` writes. -/
abbrev rev_2_W : List (Ref sig .tc) := [main_while1b_call7_c, main_while1b_call7_v0, main_while1b_v22]

/-- Each operation of `rev_2` writes a buffer of that list. -/
theorem rev_2_writes : (rev_2 : List (HloOp τ sig (Elt F))).Forall fun op => op.writes ⊆ (rev_2_W.map (Proc.devRef (τ := τ) .tc)).toFinset :=
  StableHlo.forall_writes_sub_of_map rfl

/-- A buffer `rev_2` does not write keeps its contents through it. -/
theorem rev_2_keep (V : Valuation τ sig (Elt F)) (r : Ref sig .tc) (h : r ∉ rev_2_W) :
    after rev_2 V (Proc.devRef .tc r) = V (Proc.devRef .tc r) :=
  after_of_writes_sub rev_2 V rev_2_writes h

/-- Stretch 3 of the body of the second loop. -/
abbrev rev_3 : List (HloOp τ sig (Elt F)) :=
  [ StableHlo.TRef.nullary (.of main_while1b_call8_c : StableHlo.TRef sig ⟨S_, .i32⟩) (constantI S_ 32 0#32),
    StableHlo.TRef.unaryIndexed (.of main_v18_2 : StableHlo.TRef sig ⟨S2048x4096, .f32⟩) ![(.of main_while1b_v20 : StableHlo.TRef sig ⟨S_, .i32⟩), (.of main_while1b_call8_c : StableHlo.TRef sig ⟨S_, .i32⟩)] (.of main_while1b_call8_v0 : StableHlo.TRef sig ⟨S1x4096, .f32⟩) (fun x i => Host.dynamicSlice S1x4096 x (fun k => (i k (Shape.Idx.first h_S_)).toInt) sliceFits_S2048x4096_S1x4096),
    StableHlo.TRef.reshape (.of main_while1b_call8_v0 : StableHlo.TRef sig ⟨S1x4096, .f32⟩) (.of main_while1b_v23 : StableHlo.TRef sig ⟨S4096, .f32⟩) (rfl : (.f32 : EltTy) = .f32) shapeCasts_S1x4096_S4096 ]

/-- Each operation of `rev_3` touches TensorCore references only. -/
theorem rev_3_sub : (rev_3 : List (HloOp τ sig (Elt F))).Forall fun op => op.bufs ⊆ StableHlo.tcRefs τ sig :=
  ⟨StableHlo.nullary_bufs_sub .., StableHlo.unaryIndexed_bufs_sub .., StableHlo.reshape_bufs_sub ..⟩

/-- No operation of `rev_3` allocates. -/
theorem rev_3_fresh : (rev_3 : List (HloOp τ sig (Elt F))).Forall fun op => op.fresh = ∅ :=
  StableHlo.forall_fresh_of_map rfl

/-- The buffers `rev_3` writes. -/
abbrev rev_3_W : List (Ref sig .tc) := [main_while1b_call8_c, main_while1b_call8_v0, main_while1b_v23]

/-- Each operation of `rev_3` writes a buffer of that list. -/
theorem rev_3_writes : (rev_3 : List (HloOp τ sig (Elt F))).Forall fun op => op.writes ⊆ (rev_3_W.map (Proc.devRef (τ := τ) .tc)).toFinset :=
  StableHlo.forall_writes_sub_of_map rfl

/-- A buffer `rev_3` does not write keeps its contents through it. -/
theorem rev_3_keep (V : Valuation τ sig (Elt F)) (r : Ref sig .tc) (h : r ∉ rev_3_W) :
    after rev_3 V (Proc.devRef .tc r) = V (Proc.devRef .tc r) :=
  after_of_writes_sub rev_3 V rev_3_writes h

/-- Stretch 4 of the body of the second loop. -/
abbrev rev_4 : List (HloOp τ sig (Elt F)) :=
  [ StableHlo.TRef.nullary (.of main_while1b_call9_c : StableHlo.TRef sig ⟨S_, .i32⟩) (constantI S_ 32 0#32),
    StableHlo.TRef.unaryIndexed (.of main_v18_3 : StableHlo.TRef sig ⟨S2048x4096, .f32⟩) ![(.of main_while1b_v20 : StableHlo.TRef sig ⟨S_, .i32⟩), (.of main_while1b_call9_c : StableHlo.TRef sig ⟨S_, .i32⟩)] (.of main_while1b_call9_v0 : StableHlo.TRef sig ⟨S1x4096, .f32⟩) (fun x i => Host.dynamicSlice S1x4096 x (fun k => (i k (Shape.Idx.first h_S_)).toInt) sliceFits_S2048x4096_S1x4096),
    StableHlo.TRef.reshape (.of main_while1b_call9_v0 : StableHlo.TRef sig ⟨S1x4096, .f32⟩) (.of main_while1b_v24 : StableHlo.TRef sig ⟨S4096, .f32⟩) (rfl : (.f32 : EltTy) = .f32) shapeCasts_S1x4096_S4096 ]

/-- Each operation of `rev_4` touches TensorCore references only. -/
theorem rev_4_sub : (rev_4 : List (HloOp τ sig (Elt F))).Forall fun op => op.bufs ⊆ StableHlo.tcRefs τ sig :=
  ⟨StableHlo.nullary_bufs_sub .., StableHlo.unaryIndexed_bufs_sub .., StableHlo.reshape_bufs_sub ..⟩

/-- No operation of `rev_4` allocates. -/
theorem rev_4_fresh : (rev_4 : List (HloOp τ sig (Elt F))).Forall fun op => op.fresh = ∅ :=
  StableHlo.forall_fresh_of_map rfl

/-- The buffers `rev_4` writes. -/
abbrev rev_4_W : List (Ref sig .tc) := [main_while1b_call9_c, main_while1b_call9_v0, main_while1b_v24]

/-- Each operation of `rev_4` writes a buffer of that list. -/
theorem rev_4_writes : (rev_4 : List (HloOp τ sig (Elt F))).Forall fun op => op.writes ⊆ (rev_4_W.map (Proc.devRef (τ := τ) .tc)).toFinset :=
  StableHlo.forall_writes_sub_of_map rfl

/-- A buffer `rev_4` does not write keeps its contents through it. -/
theorem rev_4_keep (V : Valuation τ sig (Elt F)) (r : Ref sig .tc) (h : r ∉ rev_4_W) :
    after rev_4 V (Proc.devRef .tc r) = V (Proc.devRef .tc r) :=
  after_of_writes_sub rev_4 V rev_4_writes h

/-- Stretch 5 of the body of the second loop. -/
abbrev rev_5 : List (HloOp τ sig (Elt F)) :=
  [ StableHlo.binary main_v18_11 main_while1b_v21 main_while1b_v25 (addf : (⟨S4096, .f32⟩ : BufTy).Contents (Elt F) → (⟨S4096, .f32⟩ : BufTy).Contents (Elt F) → (⟨S4096, .f32⟩ : BufTy).Contents (Elt F)),
    StableHlo.binary main_v18_12 main_while1b_v22 main_while1b_v26 (addf : (⟨S4096, .f32⟩ : BufTy).Contents (Elt F) → (⟨S4096, .f32⟩ : BufTy).Contents (Elt F) → (⟨S4096, .f32⟩ : BufTy).Contents (Elt F)),
    StableHlo.binary main_v18_7 main_while1b_v26 main_while1b_v27 (mulf : (⟨S4096, .f32⟩ : BufTy).Contents (Elt F) → (⟨S4096, .f32⟩ : BufTy).Contents (Elt F) → (⟨S4096, .f32⟩ : BufTy).Contents (Elt F)),
    StableHlo.binary main_while1b_v26 main_while1b_v23 main_while1b_v28 (mulf : (⟨S4096, .f32⟩ : BufTy).Contents (Elt F) → (⟨S4096, .f32⟩ : BufTy).Contents (Elt F) → (⟨S4096, .f32⟩ : BufTy).Contents (Elt F)),
    StableHlo.unary main_while1b_v28 main_while1b_v29 (broadcastInDim S1x4096 ![1] bcast_S4096_S1x4096_1 : (⟨S4096, .f32⟩ : BufTy).Contents (Elt F) → (⟨S1x4096, .f32⟩ : BufTy).Contents (Elt F)),
    StableHlo.binary main_v18_10 main_while1b_v29 main_while1b_v30 (addf : (⟨S1x4096, .f32⟩ : BufTy).Contents (Elt F) → (⟨S1x4096, .f32⟩ : BufTy).Contents (Elt F) → (⟨S1x4096, .f32⟩ : BufTy).Contents (Elt F)),
    StableHlo.binary main_v18_6 main_while1b_v26 main_while1b_v31 (mulf : (⟨S4096, .f32⟩ : BufTy).Contents (Elt F) → (⟨S4096, .f32⟩ : BufTy).Contents (Elt F) → (⟨S4096, .f32⟩ : BufTy).Contents (Elt F)),
    StableHlo.binary main_while1b_v26 main_while1b_v24 main_while1b_v32 (mulf : (⟨S4096, .f32⟩ : BufTy).Contents (Elt F) → (⟨S4096, .f32⟩ : BufTy).Contents (Elt F) → (⟨S4096, .f32⟩ : BufTy).Contents (Elt F)),
    StableHlo.unary main_while1b_v32 main_while1b_v33 (broadcastInDim S1x4096 ![1] bcast_S4096_S1x4096_1 : (⟨S4096, .f32⟩ : BufTy).Contents (Elt F) → (⟨S1x4096, .f32⟩ : BufTy).Contents (Elt F)),
    StableHlo.binary main_v18_9 main_while1b_v33 main_while1b_v34 (addf : (⟨S1x4096, .f32⟩ : BufTy).Contents (Elt F) → (⟨S1x4096, .f32⟩ : BufTy).Contents (Elt F) → (⟨S1x4096, .f32⟩ : BufTy).Contents (Elt F)),
    StableHlo.unary main_while1b_v25 main_while1b_v35 (Host.negf : (⟨S4096, .f32⟩ : BufTy).Contents (Elt F) → (⟨S4096, .f32⟩ : BufTy).Contents (Elt F)),
    StableHlo.binary main_v18_5 main_while1b_v35 main_while1b_v36 (mulf : (⟨S4096, .f32⟩ : BufTy).Contents (Elt F) → (⟨S4096, .f32⟩ : BufTy).Contents (Elt F) → (⟨S4096, .f32⟩ : BufTy).Contents (Elt F)),
    StableHlo.binary main_while1b_v31 main_while1b_v36 main_while1b_v37 (addf : (⟨S4096, .f32⟩ : BufTy).Contents (Elt F) → (⟨S4096, .f32⟩ : BufTy).Contents (Elt F) → (⟨S4096, .f32⟩ : BufTy).Contents (Elt F)),
    StableHlo.binary main_while1b_v35 main_while1b_v24 main_while1b_v38 (mulf : (⟨S4096, .f32⟩ : BufTy).Contents (Elt F) → (⟨S4096, .f32⟩ : BufTy).Contents (Elt F) → (⟨S4096, .f32⟩ : BufTy).Contents (Elt F)),
    StableHlo.unary main_while1b_v38 main_while1b_v39 (broadcastInDim S1x4096 ![1] bcast_S4096_S1x4096_1 : (⟨S4096, .f32⟩ : BufTy).Contents (Elt F) → (⟨S1x4096, .f32⟩ : BufTy).Contents (Elt F)),
    StableHlo.binary main_while1b_v30 main_while1b_v39 main_while1b_v40 (addf : (⟨S1x4096, .f32⟩ : BufTy).Contents (Elt F) → (⟨S1x4096, .f32⟩ : BufTy).Contents (Elt F) → (⟨S1x4096, .f32⟩ : BufTy).Contents (Elt F)),
    StableHlo.binary main_v18_4 main_while1b_v25 main_while1b_v41 (mulf : (⟨S4096, .f32⟩ : BufTy).Contents (Elt F) → (⟨S4096, .f32⟩ : BufTy).Contents (Elt F) → (⟨S4096, .f32⟩ : BufTy).Contents (Elt F)),
    StableHlo.binary main_while1b_v27 main_while1b_v41 main_while1b_v42 (addf : (⟨S4096, .f32⟩ : BufTy).Contents (Elt F) → (⟨S4096, .f32⟩ : BufTy).Contents (Elt F) → (⟨S4096, .f32⟩ : BufTy).Contents (Elt F)),
    StableHlo.binary main_while1b_v25 main_while1b_v23 main_while1b_v43 (mulf : (⟨S4096, .f32⟩ : BufTy).Contents (Elt F) → (⟨S4096, .f32⟩ : BufTy).Contents (Elt F) → (⟨S4096, .f32⟩ : BufTy).Contents (Elt F)),
    StableHlo.unary main_while1b_v43 main_while1b_v44 (broadcastInDim S1x4096 ![1] bcast_S4096_S1x4096_1 : (⟨S4096, .f32⟩ : BufTy).Contents (Elt F) → (⟨S1x4096, .f32⟩ : BufTy).Contents (Elt F)),
    StableHlo.binary main_while1b_v34 main_while1b_v44 main_while1b_v45 (addf : (⟨S1x4096, .f32⟩ : BufTy).Contents (Elt F) → (⟨S1x4096, .f32⟩ : BufTy).Contents (Elt F) → (⟨S1x4096, .f32⟩ : BufTy).Contents (Elt F)) ]

/-- Each operation of `rev_5` touches TensorCore references only. -/
theorem rev_5_sub : (rev_5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- No operation of `rev_5` allocates. -/
theorem rev_5_fresh : (rev_5 : List (HloOp τ sig (Elt F))).Forall fun op => op.fresh = ∅ :=
  StableHlo.forall_fresh_of_map rfl

/-- The buffers `rev_5` writes. -/
abbrev rev_5_W : List (Ref sig .tc) := [main_while1b_v25, main_while1b_v26, main_while1b_v27, main_while1b_v28, main_while1b_v29, main_while1b_v30, main_while1b_v31, main_while1b_v32, main_while1b_v33, main_while1b_v34, main_while1b_v35, main_while1b_v36, main_while1b_v37, main_while1b_v38, main_while1b_v39, main_while1b_v40, main_while1b_v41, main_while1b_v42, main_while1b_v43, main_while1b_v44, main_while1b_v45]

/-- Each operation of `rev_5` writes a buffer of that list. -/
theorem rev_5_writes : (rev_5 : List (HloOp τ sig (Elt F))).Forall fun op => op.writes ⊆ (rev_5_W.map (Proc.devRef (τ := τ) .tc)).toFinset :=
  StableHlo.forall_writes_sub_of_map rfl

/-- A buffer `rev_5` does not write keeps its contents through it. -/
theorem rev_5_keep (V : Valuation τ sig (Elt F)) (r : Ref sig .tc) (h : r ∉ rev_5_W) :
    after rev_5 V (Proc.devRef .tc r) = V (Proc.devRef .tc r) :=
  after_of_writes_sub rev_5 V rev_5_writes h

/-- Stretch 6 of the body of the second loop. -/
abbrev rev_6 : List (HloOp τ sig (Elt F)) :=
  [ StableHlo.TRef.unary (.of main_while1b_v25 : StableHlo.TRef sig ⟨S4096, .f32⟩) (.of main_while1b_call10_v0 : StableHlo.TRef sig ⟨S1x4096, .f32⟩) (broadcastInDim S1x4096 ![1] bcast_S4096_S1x4096_1),
    StableHlo.TRef.nullary (.of main_while1b_call10_c : StableHlo.TRef sig ⟨S_, .i32⟩) (constantI S_ 32 0#32),
    StableHlo.TRef.binaryIndexed (.of main_v18_13 : StableHlo.TRef sig ⟨S2048x4096, .f32⟩) (.of main_while1b_call10_v0 : StableHlo.TRef sig ⟨S1x4096, .f32⟩) ![(.of main_while1b_v20 : StableHlo.TRef sig ⟨S_, .i32⟩), (.of main_while1b_call10_c : StableHlo.TRef sig ⟨S_, .i32⟩)] (.of main_while1b_v46 : StableHlo.TRef sig ⟨S2048x4096, .f32⟩) (fun x u i => Host.dynamicUpdateSlice x u (fun k => (i k (Shape.Idx.first h_S_)).toInt) updateFits_S2048x4096_S1x4096) ]

/-- Each operation of `rev_6` touches TensorCore references only. -/
theorem rev_6_sub : (rev_6 : List (HloOp τ sig (Elt F))).Forall fun op => op.bufs ⊆ StableHlo.tcRefs τ sig :=
  ⟨StableHlo.unary_bufs_sub .., StableHlo.nullary_bufs_sub .., StableHlo.binaryIndexed_bufs_sub ..⟩

/-- No operation of `rev_6` allocates. -/
theorem rev_6_fresh : (rev_6 : List (HloOp τ sig (Elt F))).Forall fun op => op.fresh = ∅ :=
  StableHlo.forall_fresh_of_map rfl

/-- The buffers `rev_6` writes. -/
abbrev rev_6_W : List (Ref sig .tc) := [main_while1b_call10_v0, main_while1b_call10_c, main_while1b_v46]

/-- Each operation of `rev_6` writes a buffer of that list. -/
theorem rev_6_writes : (rev_6 : List (HloOp τ sig (Elt F))).Forall fun op => op.writes ⊆ (rev_6_W.map (Proc.devRef (τ := τ) .tc)).toFinset :=
  StableHlo.forall_writes_sub_of_map rfl

/-- A buffer `rev_6` does not write keeps its contents through it. -/
theorem rev_6_keep (V : Valuation τ sig (Elt F)) (r : Ref sig .tc) (h : r ∉ rev_6_W) :
    after rev_6 V (Proc.devRef .tc r) = V (Proc.devRef .tc r) :=
  after_of_writes_sub rev_6 V rev_6_writes h

/-- Stretch 7 of the body of the second loop. -/
abbrev rev_7 : List (HloOp τ sig (Elt F)) :=
  [ StableHlo.TRef.unary (.of main_while1b_v26 : StableHlo.TRef sig ⟨S4096, .f32⟩) (.of main_while1b_call11_v0 : StableHlo.TRef sig ⟨S1x4096, .f32⟩) (broadcastInDim S1x4096 ![1] bcast_S4096_S1x4096_1),
    StableHlo.TRef.nullary (.of main_while1b_call11_c : StableHlo.TRef sig ⟨S_, .i32⟩) (constantI S_ 32 0#32),
    StableHlo.TRef.binaryIndexed (.of main_v18_14 : StableHlo.TRef sig ⟨S2048x4096, .f32⟩) (.of main_while1b_call11_v0 : StableHlo.TRef sig ⟨S1x4096, .f32⟩) ![(.of main_while1b_v20 : StableHlo.TRef sig ⟨S_, .i32⟩), (.of main_while1b_call11_c : StableHlo.TRef sig ⟨S_, .i32⟩)] (.of main_while1b_v47 : StableHlo.TRef sig ⟨S2048x4096, .f32⟩) (fun x u i => Host.dynamicUpdateSlice x u (fun k => (i k (Shape.Idx.first h_S_)).toInt) updateFits_S2048x4096_S1x4096) ]

/-- Each operation of `rev_7` touches TensorCore references only. -/
theorem rev_7_sub : (rev_7 : List (HloOp τ sig (Elt F))).Forall fun op => op.bufs ⊆ StableHlo.tcRefs τ sig :=
  ⟨StableHlo.unary_bufs_sub .., StableHlo.nullary_bufs_sub .., StableHlo.binaryIndexed_bufs_sub ..⟩

/-- No operation of `rev_7` allocates. -/
theorem rev_7_fresh : (rev_7 : List (HloOp τ sig (Elt F))).Forall fun op => op.fresh = ∅ :=
  StableHlo.forall_fresh_of_map rfl

/-- The buffers `rev_7` writes. -/
abbrev rev_7_W : List (Ref sig .tc) := [main_while1b_call11_v0, main_while1b_call11_c, main_while1b_v47]

/-- Each operation of `rev_7` writes a buffer of that list. -/
theorem rev_7_writes : (rev_7 : List (HloOp τ sig (Elt F))).Forall fun op => op.writes ⊆ (rev_7_W.map (Proc.devRef (τ := τ) .tc)).toFinset :=
  StableHlo.forall_writes_sub_of_map rfl

/-- A buffer `rev_7` does not write keeps its contents through it. -/
theorem rev_7_keep (V : Valuation τ sig (Elt F)) (r : Ref sig .tc) (h : r ∉ rev_7_W) :
    after rev_7 V (Proc.devRef .tc r) = V (Proc.devRef .tc r) :=
  after_of_writes_sub rev_7 V rev_7_writes h

/-- Stretch 8 of the body of the second loop. -/
abbrev rev_8 : List (HloOp τ sig (Elt F)) :=
  [ StableHlo.nullary main_while1b_c_29 (constantI S_ 32 1#32),
    StableHlo.binary main_v18_8 main_while1b_c_29 main_while1b_v48 (addi : (⟨S_, .i32⟩ : BufTy).Contents (Elt F) → (⟨S_, .i32⟩ : BufTy).Contents (Elt F) → (⟨S_, .i32⟩ : BufTy).Contents (Elt F)),
    StableHlo.unary main_while1b_v48 main_v18_8 id,
    StableHlo.unary main_while1b_v45 main_v18_9 id,
    StableHlo.unary main_while1b_v40 main_v18_10 id,
    StableHlo.unary main_while1b_v42 main_v18_11 id,
    StableHlo.unary main_while1b_v37 main_v18_12 id,
    StableHlo.unary main_while1b_v46 main_v18_13 id,
    StableHlo.unary main_while1b_v47 main_v18_14 id ]

/-- Each operation of `rev_8` touches TensorCore references only. -/
theorem rev_8_sub : (rev_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- No operation of `rev_8` allocates. -/
theorem rev_8_fresh : (rev_8 : List (HloOp τ sig (Elt F))).Forall fun op => op.fresh = ∅ :=
  StableHlo.forall_fresh_of_map rfl

/-- The buffers `rev_8` writes. -/
abbrev rev_8_W : List (Ref sig .tc) := [main_while1b_c_29, main_while1b_v48, main_v18_8, main_v18_9, main_v18_10, main_v18_11, main_v18_12, main_v18_13, main_v18_14]

/-- Each operation of `rev_8` writes a buffer of that list. -/
theorem rev_8_writes : (rev_8 : List (HloOp τ sig (Elt F))).Forall fun op => op.writes ⊆ (rev_8_W.map (Proc.devRef (τ := τ) .tc)).toFinset :=
  StableHlo.forall_writes_sub_of_map rfl

/-- A buffer `rev_8` does not write keeps its contents through it. -/
theorem rev_8_keep (V : Valuation τ sig (Elt F)) (r : Ref sig .tc) (h : r ∉ rev_8_W) :
    after rev_8 V (Proc.devRef .tc r) = V (Proc.devRef .tc r) :=
  after_of_writes_sub rev_8 V rev_8_writes h

/-- The stretches of the first loop's body. -/
abbrev fwdBody : List (List (HloOp τ sig (Elt F))) := [fwd_0, fwd_1, fwd_2, fwd_3, fwd_4, fwd_5, fwd_6, fwd_7]

/-- The stretches of the second loop's body. -/
abbrev revBody : List (List (HloOp τ sig (Elt F))) := [rev_0, rev_1, rev_2, rev_3, rev_4, rev_5, rev_6, rev_7, rev_8]

theorem fwdBody_plain : Plain (fwdBody (F := F)) :=
  Plain.cons fwd_0_sub (Plain.cons fwd_1_sub (Plain.cons fwd_2_sub (Plain.cons fwd_3_sub (Plain.cons fwd_4_sub (Plain.cons fwd_5_sub (Plain.cons fwd_6_sub (Plain.cons fwd_7_sub (Plain.nil) (List.forall_iff_forall_mem.mp fwd_7_fresh)) (List.forall_iff_forall_mem.mp fwd_6_fresh)) (List.forall_iff_forall_mem.mp fwd_5_fresh)) (List.forall_iff_forall_mem.mp fwd_4_fresh)) (List.forall_iff_forall_mem.mp fwd_3_fresh)) (List.forall_iff_forall_mem.mp fwd_2_fresh)) (List.forall_iff_forall_mem.mp fwd_1_fresh)) (List.forall_iff_forall_mem.mp fwd_0_fresh)

theorem revBody_plain : Plain (revBody (F := F)) :=
  Plain.cons rev_0_sub (Plain.cons rev_1_sub (Plain.cons rev_2_sub (Plain.cons rev_3_sub (Plain.cons rev_4_sub (Plain.cons rev_5_sub (Plain.cons rev_6_sub (Plain.cons rev_7_sub (Plain.cons rev_8_sub (Plain.nil) (List.forall_iff_forall_mem.mp rev_8_fresh)) (List.forall_iff_forall_mem.mp rev_7_fresh)) (List.forall_iff_forall_mem.mp rev_6_fresh)) (List.forall_iff_forall_mem.mp rev_5_fresh)) (List.forall_iff_forall_mem.mp rev_4_fresh)) (List.forall_iff_forall_mem.mp rev_3_fresh)) (List.forall_iff_forall_mem.mp rev_2_fresh)) (List.forall_iff_forall_mem.mp rev_1_fresh)) (List.forall_iff_forall_mem.mp rev_0_fresh)

theorem beforeFirst_plain : Plain [(beforeFirst : List (HloOp τ sig (Elt F)))] := Plain.cons beforeFirst_sub (Plain.nil) (List.forall_iff_forall_mem.mp beforeFirst_fresh)

theorem between_plain : Plain [(between : List (HloOp τ sig (Elt F))), between2] := Plain.cons between_sub (Plain.cons between2_sub (Plain.nil) (List.forall_iff_forall_mem.mp between2_fresh)) (List.forall_iff_forall_mem.mp between_fresh)

set_option maxRecDepth 100000 in
/-- The first loop's body is its stretches in order. -/
theorem fwdBody_chain :
    main_while0_body (F := F) = Pipeline.chain [(StableHlo.seq fwd_0 : Prog _ PUnit), (StableHlo.seq fwd_1 : Prog _ PUnit), (StableHlo.seq fwd_2 : Prog _ PUnit), (StableHlo.seq fwd_3 : Prog _ PUnit), (StableHlo.seq fwd_4 : Prog _ PUnit), (StableHlo.seq fwd_5 : Prog _ PUnit), (StableHlo.seq fwd_6 : Prog _ PUnit), (StableHlo.seq fwd_7 : Prog _ PUnit)] := by
  rewrite [Pipeline.chain_cons]
  rewrite [Pipeline.chain_cons]
  rewrite [StableHlo.chain_seq_cons]
  rewrite [Pipeline.chain_cons]
  rewrite [Pipeline.chain_cons]
  rewrite [Pipeline.chain_cons]
  rewrite [Pipeline.chain_cons]
  rewrite [StableHlo.chain_seq_cons]
  chain_rfl

set_option maxRecDepth 100000 in
/-- The second loop's body is its stretches in order. -/
theorem revBody_chain :
    main_while1_body (F := F) = Pipeline.chain [(StableHlo.seq rev_0 : Prog _ PUnit), (StableHlo.seq rev_1 : Prog _ PUnit), (StableHlo.seq rev_2 : Prog _ PUnit), (StableHlo.seq rev_3 : Prog _ PUnit), (StableHlo.seq rev_4 : Prog _ PUnit), (StableHlo.seq rev_5 : Prog _ PUnit), (StableHlo.seq rev_6 : Prog _ PUnit), (StableHlo.seq rev_7 : Prog _ PUnit), (StableHlo.seq rev_8 : Prog _ PUnit)] := by
  rewrite [StableHlo.chain_seq_cons]
  rewrite [Pipeline.chain_cons]
  rewrite [Pipeline.chain_cons]
  rewrite [Pipeline.chain_cons]
  rewrite [Pipeline.chain_cons]
  rewrite [StableHlo.chain_seq_cons]
  rewrite [Pipeline.chain_cons]
  rewrite [Pipeline.chain_cons]
  rewrite [StableHlo.chain_seq_cons]
  chain_rfl

set_option maxRecDepth 100000 in
/-- @main is its stretches and its loops in order. -/
theorem main_chain (c : Dev nD) :
    main (F := F) c = Pipeline.chain [(StableHlo.seq beforeFirst : Prog _ PUnit), HostLoop.enter 0, (StableHlo.seq between : Prog _ PUnit), (StableHlo.seq between2 : Prog _ PUnit), HostLoop.enter 1] := by
  rewrite [StableHlo.chain_seq_cons]
  rewrite [Pipeline.chain_cons]
  rewrite [StableHlo.chain_seq_cons]
  rewrite [StableHlo.chain_seq_cons]
  rewrite [Pipeline.chain_cons]
  chain_rfl

end Cert.Ref

end
-- ==== Proof.RefOut.lean ====
module

public import proofs.«01_k».proof.Proof.RefOps

@[expose] public section

set_option Elab.async false

noncomputable section

/-! What the calls of the reference program leave: a row read, a row replaced. -/

namespace Cert.Ref

open Idealize.ShloMosaic Idealize.ShloMosaic.TcCoe Idealize.ShloMosaic.Tactic Idealize.ShloMosaic.StableHlo
open Idealize.SL Idealize.SL.Sem
open Cert.ReferenceIdeal Cert.ReferenceIdeal.Gen

variable {F : FTy → Type} [FloatOps F]

/-- What `fwd_0` reads: a row of an array. -/
theorem fwd_0_out (V : Valuation τ sig (Elt F)) :
    after fwd_0 V (Proc.devRef .tc main_while0b_v19) = rowAt (F := F) (V (Proc.devRef .tc main_v9_0)) (V (Proc.devRef .tc main_v9_6)) := by
  unfold rowAt
  simp only [fwd_0]
  after_results_entrywise [cast_eq]

/-- What `fwd_1` reads: a row of an array. -/
theorem fwd_1_out (V : Valuation τ sig (Elt F)) :
    after fwd_1 V (Proc.devRef .tc main_while0b_v20) = rowAt (F := F) (V (Proc.devRef .tc main_v9_1)) (V (Proc.devRef .tc main_v9_6)) := by
  unfold rowAt
  simp only [fwd_1]
  after_results_entrywise [cast_eq]

/-- What `fwd_3` leaves: an array with one row replaced. -/
theorem fwd_3_out (V : Valuation τ sig (Elt F)) :
    after fwd_3 V (Proc.devRef .tc main_while0b_v29) = putRow (F := F) (V (Proc.devRef .tc main_v9_9)) (V (Proc.devRef .tc main_while0b_v24)) (V (Proc.devRef .tc main_v9_6)) := by
  unfold putRow
  simp only [fwd_3]
  after_results_entrywise [cast_eq]

/-- What `fwd_4` leaves: an array with one row replaced. -/
theorem fwd_4_out (V : Valuation τ sig (Elt F)) :
    after fwd_4 V (Proc.devRef .tc main_while0b_v30) = putRow (F := F) (V (Proc.devRef .tc main_v9_10)) (V (Proc.devRef .tc main_while0b_v28)) (V (Proc.devRef .tc main_v9_6)) := by
  unfold putRow
  simp only [fwd_4]
  after_results_entrywise [cast_eq]

/-- What `fwd_5` leaves: an array with one row replaced. -/
theorem fwd_5_out (V : Valuation τ sig (Elt F)) :
    after fwd_5 V (Proc.devRef .tc main_while0b_v31) = putRow (F := F) (V (Proc.devRef .tc main_v9_11)) (V (Proc.devRef .tc main_v9_7)) (V (Proc.devRef .tc main_v9_6)) := by
  unfold putRow
  simp only [fwd_5]
  after_results_entrywise [cast_eq]

/-- What `fwd_6` leaves: an array with one row replaced. -/
theorem fwd_6_out (V : Valuation τ sig (Elt F)) :
    after fwd_6 V (Proc.devRef .tc main_while0b_v32) = putRow (F := F) (V (Proc.devRef .tc main_v9_12)) (V (Proc.devRef .tc main_v9_8)) (V (Proc.devRef .tc main_v9_6)) := by
  unfold putRow
  simp only [fwd_6]
  after_results_entrywise [cast_eq]

/-- What `rev_1` reads: a row of an array. -/
theorem rev_1_out (V : Valuation τ sig (Elt F)) :
    after rev_1 V (Proc.devRef .tc main_while1b_v21) = rowAt (F := F) (V (Proc.devRef .tc main_v18_0)) (V (Proc.devRef .tc main_while1b_v20)) := by
  unfold rowAt
  simp only [rev_1]
  after_results_entrywise [cast_eq]

/-- What `rev_2` reads: a row of an array. -/
theorem rev_2_out (V : Valuation τ sig (Elt F)) :
    after rev_2 V (Proc.devRef .tc main_while1b_v22) = rowAt (F := F) (V (Proc.devRef .tc main_v18_1)) (V (Proc.devRef .tc main_while1b_v20)) := by
  unfold rowAt
  simp only [rev_2]
  after_results_entrywise [cast_eq]

/-- What `rev_3` reads: a row of an array. -/
theorem rev_3_out (V : Valuation τ sig (Elt F)) :
    after rev_3 V (Proc.devRef .tc main_while1b_v23) = rowAt (F := F) (V (Proc.devRef .tc main_v18_2)) (V (Proc.devRef .tc main_while1b_v20)) := by
  unfold rowAt
  simp only [rev_3]
  after_results_entrywise [cast_eq]

/-- What `rev_4` reads: a row of an array. -/
theorem rev_4_out (V : Valuation τ sig (Elt F)) :
    after rev_4 V (Proc.devRef .tc main_while1b_v24) = rowAt (F := F) (V (Proc.devRef .tc main_v18_3)) (V (Proc.devRef .tc main_while1b_v20)) := by
  unfold rowAt
  simp only [rev_4]
  after_results_entrywise [cast_eq]

/-- What `rev_6` leaves: an array with one row replaced. -/
theorem rev_6_out (V : Valuation τ sig (Elt F)) :
    after rev_6 V (Proc.devRef .tc main_while1b_v46) = putRow (F := F) (V (Proc.devRef .tc main_v18_13)) (V (Proc.devRef .tc main_while1b_v25)) (V (Proc.devRef .tc main_while1b_v20)) := by
  unfold putRow
  simp only [rev_6]
  after_results_entrywise [cast_eq]

/-- What `rev_7` leaves: an array with one row replaced. -/
theorem rev_7_out (V : Valuation τ sig (Elt F)) :
    after rev_7 V (Proc.devRef .tc main_while1b_v47) = putRow (F := F) (V (Proc.devRef .tc main_v18_14)) (V (Proc.devRef .tc main_while1b_v26)) (V (Proc.devRef .tc main_while1b_v20)) := by
  unfold putRow
  simp only [rev_7]
  after_results_entrywise [cast_eq]

end Cert.Ref

end
-- ==== Proof.RefRun.lean ====
module

public import proofs.«01_k».proof.Proof.RefOut

@[expose] public section

set_option maxRecDepth 16384
set_option Elab.async false

noncomputable section

/-! The run of the reference program: host operations, a counted loop, host operations, a second counted loop. -/

namespace Cert.Ref

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs sub_ucRefs)
open Cert.ReferenceIdeal Cert.ReferenceIdeal.Gen

variable {F : FTy → Type} [FloatOps F]

/-- The operations of loop 0's condition. -/
abbrev fwdCond : List (HloOp τ sig (Elt F)) :=
  [ StableHlo.nullary main_while0c_c_25 (constantI S_ 32 2048#32),
    StableHlo.binary main_v9_6 main_while0c_c_25 main_while0c_v19 (cmpi .slt : (⟨S_, .i32⟩ : BufTy).Contents (Elt F) → (⟨S_, .i32⟩ : BufTy).Contents (Elt F) → (⟨S_, .i1⟩ : BufTy).Contents (Elt F)) ]
/-- The buffers they write. -/
abbrev fwdCond_W : List (Ref sig .tc) := [main_while0c_c_25, main_while0c_v19]
theorem fwdCond_writes : (fwdCond : List (HloOp τ sig (Elt F))).Forall fun op => op.writes ⊆ (fwdCond_W.map (Proc.devRef (τ := τ) .tc)).toFinset :=
  StableHlo.forall_writes_sub_of_map rfl
/-- A buffer the condition does not write keeps its contents through it. -/
theorem fwdCond_keep (V : Valuation τ sig (Elt F)) (r : Ref sig .tc) (h : r ∉ fwdCond_W) :
    after fwdCond V (Proc.devRef .tc r) = V (Proc.devRef .tc r) :=
  after_of_writes_sub fwdCond V fwdCond_writes h

/-- Every buffer a trip of loop 0 writes. -/
abbrev fwd_W : List (Ref sig .tc) := fwdCond_W ++ fwd_0_W ++ fwd_1_W ++ fwd_2_W ++ fwd_3_W ++ fwd_4_W ++ fwd_5_W ++ fwd_6_W ++ fwd_7_W

/-- A buffer no trip of loop 0 writes keeps its contents. -/
theorem fwd_keep (W₀ : Dev nD → Valuation τ sig (Elt F)) (c : Dev nD) (r : Ref sig .tc) (hr : r ∉ fwd_W) :
    ∀ k, atTrip fwdCond fwdBody W₀ k c (Proc.devRef .tc r) = W₀ c (Proc.devRef .tc r)
  | 0 => rfl
  | k + 1 => by
    rw [atTrip_succ]
    simp only [afterL_cons, afterL_nil]
    rw [fwd_7_keep _ _ (fun h => hr (by simp only [fwd_W, List.mem_append]; tauto)), fwd_6_keep _ _ (fun h => hr (by simp only [fwd_W, List.mem_append]; tauto)), fwd_5_keep _ _ (fun h => hr (by simp only [fwd_W, List.mem_append]; tauto)), fwd_4_keep _ _ (fun h => hr (by simp only [fwd_W, List.mem_append]; tauto)), fwd_3_keep _ _ (fun h => hr (by simp only [fwd_W, List.mem_append]; tauto)), fwd_2_keep _ _ (fun h => hr (by simp only [fwd_W, List.mem_append]; tauto)), fwd_1_keep _ _ (fun h => hr (by simp only [fwd_W, List.mem_append]; tauto)), fwd_0_keep _ _ (fun h => hr (by simp only [fwd_W, List.mem_append]; tauto)), fwdCond_keep _ _ (fun h => hr (by simp only [fwd_W, List.mem_append]; tauto)), fwd_keep W₀ c r hr k]

set_option maxRecDepth 100000 in
/-- The last stretch of a trip leaves loop 0's counter one step on. -/
theorem fwd_step (X : Valuation τ sig (Elt F)) :
    after fwd_7 X (Proc.devRef .tc main_v9_6) = addi (X (Proc.devRef .tc main_v9_6)) (constantI S_ 32 1#32) := by
  after_results
  rfl

/-- Before trip `k` of loop 0 the counter is the `k`-th value. -/
theorem fwd_ctr (W₀ : Dev nD → Valuation τ sig (Elt F)) (c : Dev nD)
    (h0 : W₀ c (Proc.devRef .tc main_v9_6) = fun _ => (0#32 : BitVec 32)) :
    ∀ k, atTrip fwdCond fwdBody W₀ k c (Proc.devRef .tc main_v9_6) = fun _ => Scf.iv 0#32 1#32 k
  | 0 => by rw [atTrip_zero, h0, Scf.iv_zero]
  | k + 1 => by
    rw [atTrip_succ]
    simp only [afterL_cons, afterL_nil]
    rw [fwd_step, fwd_6_keep _ _ (by decide), fwd_5_keep _ _ (by decide), fwd_4_keep _ _ (by decide), fwd_3_keep _ _ (by decide), fwd_2_keep _ _ (by decide), fwd_1_keep _ _ (by decide), fwd_0_keep _ _ (by decide), fwdCond_keep _ _ (by decide), fwd_ctr W₀ c h0 k, Scf.iv_succ]
    rfl

set_option backward.isDefEq.respectTransparency.types false in
/-- Loop 0 makes 2048 trips from any contents in which its counter is zero. -/
theorem fwd_cond (W₀ : Dev nD → Valuation τ sig (Elt F))
    (h0 : ∀ c, W₀ c (Proc.devRef .tc main_v9_6) = fun _ => (0#32 : BitVec 32)) :
    CondSpec (pcfgs (F := F)) defs₀ loops (main_while0_cond (F := F)) fwdCond fwdBody W₀ 2048 := by
  intro k hk c bd
  have hctr := fwd_ctr W₀ c (h0 c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip fwdCond fwdBody W₀ k c) main_v9_6 HostLoop.idx0)
        (HloOp.result _ (atTrip fwdCond fwdBody W₀ k c) main_while0c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- The operations of loop 1's condition. -/
abbrev revCond : List (HloOp τ sig (Elt F)) :=
  [ StableHlo.nullary main_while1c_c_27 (constantI S_ 32 2048#32),
    StableHlo.binary main_v18_8 main_while1c_c_27 main_while1c_v19 (cmpi .slt : (⟨S_, .i32⟩ : BufTy).Contents (Elt F) → (⟨S_, .i32⟩ : BufTy).Contents (Elt F) → (⟨S_, .i1⟩ : BufTy).Contents (Elt F)) ]
/-- The buffers they write. -/
abbrev revCond_W : List (Ref sig .tc) := [main_while1c_c_27, main_while1c_v19]
theorem revCond_writes : (revCond : List (HloOp τ sig (Elt F))).Forall fun op => op.writes ⊆ (revCond_W.map (Proc.devRef (τ := τ) .tc)).toFinset :=
  StableHlo.forall_writes_sub_of_map rfl
/-- A buffer the condition does not write keeps its contents through it. -/
theorem revCond_keep (V : Valuation τ sig (Elt F)) (r : Ref sig .tc) (h : r ∉ revCond_W) :
    after revCond V (Proc.devRef .tc r) = V (Proc.devRef .tc r) :=
  after_of_writes_sub revCond V revCond_writes h

/-- Every buffer a trip of loop 1 writes. -/
abbrev rev_W : List (Ref sig .tc) := revCond_W ++ rev_0_W ++ rev_1_W ++ rev_2_W ++ rev_3_W ++ rev_4_W ++ rev_5_W ++ rev_6_W ++ rev_7_W ++ rev_8_W

/-- A buffer no trip of loop 1 writes keeps its contents. -/
theorem rev_keep (W₀ : Dev nD → Valuation τ sig (Elt F)) (c : Dev nD) (r : Ref sig .tc) (hr : r ∉ rev_W) :
    ∀ k, atTrip revCond revBody W₀ k c (Proc.devRef .tc r) = W₀ c (Proc.devRef .tc r)
  | 0 => rfl
  | k + 1 => by
    rw [atTrip_succ]
    simp only [afterL_cons, afterL_nil]
    rw [rev_8_keep _ _ (fun h => hr (by simp only [rev_W, List.mem_append]; tauto)), rev_7_keep _ _ (fun h => hr (by simp only [rev_W, List.mem_append]; tauto)), rev_6_keep _ _ (fun h => hr (by simp only [rev_W, List.mem_append]; tauto)), rev_5_keep _ _ (fun h => hr (by simp only [rev_W, List.mem_append]; tauto)), rev_4_keep _ _ (fun h => hr (by simp only [rev_W, List.mem_append]; tauto)), rev_3_keep _ _ (fun h => hr (by simp only [rev_W, List.mem_append]; tauto)), rev_2_keep _ _ (fun h => hr (by simp only [rev_W, List.mem_append]; tauto)), rev_1_keep _ _ (fun h => hr (by simp only [rev_W, List.mem_append]; tauto)), rev_0_keep _ _ (fun h => hr (by simp only [rev_W, List.mem_append]; tauto)), revCond_keep _ _ (fun h => hr (by simp only [rev_W, List.mem_append]; tauto)), rev_keep W₀ c r hr k]

set_option maxRecDepth 100000 in
/-- The last stretch of a trip leaves loop 1's counter one step on. -/
theorem rev_step (X : Valuation τ sig (Elt F)) :
    after rev_8 X (Proc.devRef .tc main_v18_8) = addi (X (Proc.devRef .tc main_v18_8)) (constantI S_ 32 1#32) := by
  after_results
  rfl

/-- Before trip `k` of loop 1 the counter is the `k`-th value. -/
theorem rev_ctr (W₀ : Dev nD → Valuation τ sig (Elt F)) (c : Dev nD)
    (h0 : W₀ c (Proc.devRef .tc main_v18_8) = fun _ => (0#32 : BitVec 32)) :
    ∀ k, atTrip revCond revBody W₀ k c (Proc.devRef .tc main_v18_8) = fun _ => Scf.iv 0#32 1#32 k
  | 0 => by rw [atTrip_zero, h0, Scf.iv_zero]
  | k + 1 => by
    rw [atTrip_succ]
    simp only [afterL_cons, afterL_nil]
    rw [rev_step, rev_7_keep _ _ (by decide), rev_6_keep _ _ (by decide), rev_5_keep _ _ (by decide), rev_4_keep _ _ (by decide), rev_3_keep _ _ (by decide), rev_2_keep _ _ (by decide), rev_1_keep _ _ (by decide), rev_0_keep _ _ (by decide), revCond_keep _ _ (by decide), rev_ctr W₀ c h0 k, Scf.iv_succ]
    rfl

set_option backward.isDefEq.respectTransparency.types false in
/-- Loop 1 makes 2048 trips from any contents in which its counter is zero. -/
theorem rev_cond (W₀ : Dev nD → Valuation τ sig (Elt F))
    (h0 : ∀ c, W₀ c (Proc.devRef .tc main_v18_8) = fun _ => (0#32 : BitVec 32)) :
    CondSpec (pcfgs (F := F)) defs₀ loops (main_while1_cond (F := F)) revCond revBody W₀ 2048 := by
  intro k hk c bd
  have hctr := rev_ctr W₀ c (h0 c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip revCond revBody W₀ k c) main_v18_8 HostLoop.idx0)
        (HloOp.result _ (atTrip revCond revBody W₀ k c) main_while1c_c_27 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## The run -/

/-- No pipeline: nothing to admit. -/
private abbrev adm : (p : Fin 0) → (pcfgs (F := F) p).Adm := fun p => p.elim0
/-- No pipeline: no ticket. -/
private abbrev tk : Fin 0 → Ticket (Ix := Unit) (Name := ℕ) (U := Option PUnit) (Lvl := ℕ) (nD := nD) (τ := τ) (pcfgs (F := F)) adm := fun j => j.elim0
/-- No semaphore is given a level. -/
private abbrev L : GSem nD τ sig → Finset Unit := fun _ => ∅
private abbrev lv : GSem nD τ sig → Unit → ℕ := fun _ _ => 0

local notation "𝕄" => MT nD τ sig Unit (Elt F) ℕ (Option PUnit) ℕ

private theorem cellOf_injective : Function.Injective (Pipeline.cellOf (nD := nD) (τ := τ) (Pipeline.pin (pcfgs (F := F)) adm)) :=
  fun k => k.1.elim0

/-- What rides along unchanged beside the buffers. -/
private abbrev Rw (c : Dev nD) : sProp 𝕄 := iprop(∃ W, owes (c : Thread nD τ) (0 : CellTallies nD τ sig Unit) W)

/-- The condition's specification with the rest riding along. -/
private theorem loopCond {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Rw cond condOps bodyI W₀ n := by
  intro k hk c bd
  have post : ∀ v : Elt F .i1,
      iprop(iprop(⌜v = 1#1 ↔ k < n⌝ ∗ boundary (c : Thread nD τ) ∗ held (c : Thread nD τ) (ucRefs τ sig) (after condOps (atTrip condOps bodyI W₀ k c))) ∗ Rw c)
        ⊢ (iprop(⌜v = 1#1 ↔ k < n⌝ ∗ boundary (c : Thread nD τ) ∗ held (c : Thread nD τ) (ucRefs τ sig) (after condOps (atTrip condOps bodyI W₀ k c)) ∗ Rw c) : sProp 𝕄) := by
    intro v
    iintro ⟨⟨%hv, Hb, Hh⟩, HR⟩
    isplitr; · ipureintro; exact hv
    isplitl [Hb]; · iexact Hb
    isplitl [Hh] <;> iassumption
  refine BIBase.Entails.trans ?_ (((sep_mono_left (Q := Rw c) (hcond k hk c bd)).trans (wp_frame_r _ _ _)).trans (wp_mono _ _ _ post))
  iintro ⟨Hb, Hh, HR⟩
  isplitl [Hb Hh]; · isplitl [Hb] <;> iassumption
  iexact HR

variable (m : (ℓ : Loc nD τ sig) → Buf (Elt F) ℓ) (ρ : Dev nD → PrngReg)

/-- The buffers when the first loop is entered. -/
abbrev entry₀ (c : Dev nD) : Valuation τ sig (Elt F) := after beforeFirst (launchContents m c)
/-- The buffers after the first loop. -/
abbrev exit₀ (c : Dev nD) : Valuation τ sig (Elt F) := after fwdCond (atTrip fwdCond fwdBody (entry₀ m) 2048 c)
/-- The buffers when the second loop is entered. -/
abbrev entry₁ (c : Dev nD) : Valuation τ sig (Elt F) := after between2 (after between (exit₀ m c))
/-- The buffers after the second loop. -/
abbrev exit₁ (c : Dev nD) : Valuation τ sig (Elt F) := after revCond (atTrip revCond revBody (entry₁ m) 2048 c)

theorem entry₀_ctr (c : Dev nD) : entry₀ m c (Proc.devRef .tc main_v9_6) = fun _ => (0#32 : BitVec 32) := by
  unfold entry₀
  after_reads_simp
  rfl

theorem entry₁_ctr (c : Dev nD) : entry₁ m c (Proc.devRef .tc main_v18_8) = fun _ => (0#32 : BitVec 32) := by
  unfold entry₁
  rw [between2_keep _ _ (by decide)]
  after_reads_simp
  rfl

/-- The segments of @main. -/
private def runSegs : List (CSeg (pcfgs (F := F)) adm defs₀ Variants.none L lv loops tk) :=
  segsOf _ _ _ _ _ _ _ _ Rw [beforeFirst] beforeFirst_plain (launchContents m)
    ++ (loopSeg _ _ _ _ _ _ _ _ 0 main_while0_cond main_while0_body rfl fwdCond fwdBody fwdBody_plain fwdBody_chain 2048 (entry₀ m) Rw
        (loopCond (fwd_cond (entry₀ m) (entry₀_ctr m)))
      :: (segsOf _ _ _ _ _ _ _ _ Rw [between, between2] between_plain (exit₀ m)
      ++ [loopSeg _ _ _ _ _ _ _ _ 1 main_while1_cond main_while1_body rfl revCond revBody revBody_plain revBody_chain 2048 (entry₁ m) Rw
        (loopCond (rev_cond (entry₁ m) (entry₁_ctr m)))]))

private theorem runSegs_prog : (runSegs m).map CSeg.prog =
    [(seq beforeFirst : Prog _ PUnit), HostLoop.enter 0, (seq between : Prog _ PUnit), (seq between2 : Prog _ PUnit), HostLoop.enter 1] := by
  unfold runSegs
  rw [List.map_append, List.map_cons, List.map_append, segsOf_prog, segsOf_prog]
  rfl

private theorem runSegs_chains :
    CSeg.Chains (fun c => iprop(held (c : Thread nD τ) (ucRefs τ sig) (launchContents m c) ∗ Rw c)) (runSegs m)
      (fun c => iprop(iprop(held (c : Thread nD τ) (ucRefs τ sig) (exit₁ m c)) ∗ ∃ W, owes (c : Thread nD τ) (0 : CellTallies nD τ sig Unit) W)) := by
  unfold runSegs
  exact CSeg.Chains.append (segsOf_chains _ _ _ _ _ _ _ _ Rw [beforeFirst] beforeFirst_plain _)
    ⟨fun _ => .rfl, CSeg.Chains.append (segsOf_chains _ _ _ _ _ _ _ _ Rw [between, between2] between_plain _)
      ⟨fun _ => .rfl, fun _ => .rfl⟩⟩

/-- The TensorCore has no unscoped semaphore. -/
theorem no_unscoped : ∀ sm : SemLoc sig, sm.isScoped .tc = true := by decide

set_option backward.isDefEq.respectTransparency.types false in
/-- Every run of the reference program ends with each unscoped buffer at the contents after the second loop and every
semaphore at zero. -/
theorem ref_run : θ_run (defs (F := F)) (onTc (τ := τ) (main (F := F))) ⟨m, fun _ => 0, ρ⟩
    (fun r => (∀ c : Dev nD, ∀ b ∈ ucRefs τ sig, r.2.mem ((c : Dev nD), b) = exit₁ m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_injective defs₀ Variants.none L lv loops tk m ρ main (runSegs m)
    (fun c Q => by
      rw [main_chain c]
      show wp _ _ _ (Pipeline.chain ((runSegs m).map CSeg.prog)) Q ⊢ _
      rw [runSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (exit₁ m c)))
    (hch := runSegs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = exit₁ m c b)
    (hfin := fun c s' => by
      unfold held
      iintro ⟨Hh, HSI⟩
      imodintro
      iapply (pointsTo_read_all (ucRefs τ sig) (fun b => ((c : Dev nD), b)) (exit₁ m c) s')
      isplitl [Hh] <;> iassumption)
    (hQ := fun s h hz => ⟨h, funext fun g => hz g (.inr (no_unscoped g.2))⟩)

/-- A buffer the program never writes ends as it began. -/
theorem exit₁_keep (c : Dev nD) (r : Ref sig .tc) (h0 : r ∉ beforeFirst_W) (h1 : r ∉ fwd_W) (h2 : r ∉ between_W) (h3 : r ∉ between2_W)
    (h4 : r ∉ rev_W) : exit₁ m c (Proc.devRef .tc r) = m ((c : Thread nD τ).loc r) := by
  unfold exit₁
  rw [revCond_keep _ _ (fun h => h4 (by simp only [rev_W, List.mem_append]; tauto)), rev_keep _ _ _ h4]
  unfold entry₁
  rw [between2_keep _ _ h3, between_keep _ _ h2]
  unfold exit₀
  rw [fwdCond_keep _ _ (fun h => h1 (by simp only [fwd_W, List.mem_append]; tauto)), fwd_keep _ _ _ h1]
  unfold entry₀
  rw [beforeFirst_keep _ _ h0]

/-- The reference's frame: it runs, its arguments end unchanged and every semaphore is at zero. -/
theorem ref_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have key : ∀ (c : Dev nD) (r : Ref sig .tc), r ∈ [main_arg0, main_arg1, main_arg2, main_arg3, main_arg4, main_arg5] →
      (Proc.devRef .tc r : DevRef τ sig).isScoped = false ∧ exit₁ m c (Proc.devRef .tc r) = m ((c : Thread nD τ).loc r) := by
    intro c r hr
    refine ⟨?_, exit₁_keep m c r ?_ ?_ ?_ ?_ ?_⟩
    · revert r; decide
    · revert r; decide +kernel
    · revert r; decide +kernel
    · revert r; decide +kernel
    · revert r; decide +kernel
    · revert r; decide +kernel
  refine (θ_run defs _ _).mono ?_ (ref_run m ρ)
  rintro r ⟨h, hz⟩
  have get : ∀ (c : Dev nD) (x : Ref sig .tc), x ∈ [main_arg0, main_arg1, main_arg2, main_arg3, main_arg4, main_arg5] →
      r.2.mem ((c.tc : Thread nD τ).loc x) = m ((c.tc : Thread nD τ).loc x) :=
    fun c x hx => (h c _ (devRef_mem_ucRefs x (key c x hx).1)).trans (key c x hx).2
  exact ⟨fun c => ⟨get c _ (by decide), get c _ (by decide), get c _ (by decide), get c _ (by decide), get c _ (by decide), get c _ (by decide)⟩, hz⟩

end Cert.Ref

end
-- ==== Proof.RefTrip.lean ====
module

public import proofs.«01_k».proof.Proof.RefRun

@[expose] public section

set_option maxRecDepth 16384
set_option Elab.async false

noncomputable section

/-! What one trip of each of the reference's loops leaves in its carried buffers, and what the loops are entered with. -/

namespace Cert.Ref

open Idealize.ShloMosaic Idealize.ShloMosaic.TcCoe Idealize.ShloMosaic.Tactic Idealize.ShloMosaic.StableHlo
open Idealize.SL Idealize.SL.Sem
open Cert.ReferenceIdeal Cert.ReferenceIdeal.Gen

variable {F : FTy → Type} [FloatOps F]

/-- A vector as an array of one row. -/
abbrev oneRow (v : FVec F S4096 .f32) : FVec F S1x4096 .f32 := broadcastInDim S1x4096 ![1] bcast_S4096_S1x4096_1 v

/-! ## The arithmetic of the first loop's body -/

theorem fwd_2_re (V : Valuation τ sig (Elt F)) : after fwd_2 V (Proc.devRef .tc main_while0b_v24) =
    (addf (subf (mulf (V (Proc.devRef .tc main_v9_2)) (V (Proc.devRef .tc main_v9_7))) (mulf (V (Proc.devRef .tc main_v9_3)) (V (Proc.devRef .tc main_v9_8))))
      (V (Proc.devRef .tc main_while0b_v19)) : FVec F S4096 .f32) := by
  simp only [fwd_2]
  after_results_entrywise [cast_eq]

theorem fwd_2_im (V : Valuation τ sig (Elt F)) : after fwd_2 V (Proc.devRef .tc main_while0b_v28) =
    (addf (addf (mulf (V (Proc.devRef .tc main_v9_4)) (V (Proc.devRef .tc main_v9_8))) (mulf (V (Proc.devRef .tc main_v9_5)) (V (Proc.devRef .tc main_v9_7))))
      (V (Proc.devRef .tc main_while0b_v20)) : FVec F S4096 .f32) := by
  simp only [fwd_2]
  after_results_entrywise [cast_eq]

theorem fwd_7_7 (V : Valuation τ sig (Elt F)) : after fwd_7 V (Proc.devRef .tc main_v9_7) = V (Proc.devRef .tc main_while0b_v24) := by
  simp only [fwd_7]
  after_results_entrywise [cast_eq]
theorem fwd_7_8 (V : Valuation τ sig (Elt F)) : after fwd_7 V (Proc.devRef .tc main_v9_8) = V (Proc.devRef .tc main_while0b_v28) := by
  simp only [fwd_7]
  after_results_entrywise [cast_eq]
theorem fwd_7_11 (V : Valuation τ sig (Elt F)) : after fwd_7 V (Proc.devRef .tc main_v9_11) = V (Proc.devRef .tc main_while0b_v31) := by
  simp only [fwd_7]
  after_results_entrywise [cast_eq]
theorem fwd_7_12 (V : Valuation τ sig (Elt F)) : after fwd_7 V (Proc.devRef .tc main_v9_12) = V (Proc.devRef .tc main_while0b_v32) := by
  simp only [fwd_7]
  after_results_entrywise [cast_eq]

/-- The state's real part after one trip. -/
theorem fwd_trip_7 (V : Valuation τ sig (Elt F)) : afterL fwdBody (after fwdCond V) (Proc.devRef .tc main_v9_7) =
    (addf (subf (mulf (V (Proc.devRef .tc main_v9_2)) (V (Proc.devRef .tc main_v9_7))) (mulf (V (Proc.devRef .tc main_v9_3)) (V (Proc.devRef .tc main_v9_8))))
      (rowAt (V (Proc.devRef .tc main_v9_0)) (V (Proc.devRef .tc main_v9_6))) : FVec F S4096 .f32) := by
  rw [afterL_cons, afterL_cons, afterL_cons, afterL_cons, afterL_cons, afterL_cons, afterL_cons, afterL_cons, afterL_nil, fwd_7_7,
    fwd_6_keep _ _ (by decide), fwd_5_keep _ _ (by decide), fwd_4_keep _ _ (by decide), fwd_3_keep _ _ (by decide), fwd_2_re,
    fwd_1_keep _ main_v9_2 (by decide), fwd_1_keep _ main_v9_7 (by decide), fwd_1_keep _ main_v9_3 (by decide), fwd_1_keep _ main_v9_8 (by decide),
    fwd_1_keep _ main_while0b_v19 (by decide),
    fwd_0_keep _ main_v9_2 (by decide), fwd_0_keep _ main_v9_7 (by decide), fwd_0_keep _ main_v9_3 (by decide), fwd_0_keep _ main_v9_8 (by decide), fwd_0_out,
    fwdCond_keep _ main_v9_2 (by decide), fwdCond_keep _ main_v9_7 (by decide), fwdCond_keep _ main_v9_3 (by decide), fwdCond_keep _ main_v9_8 (by decide),
    fwdCond_keep _ main_v9_0 (by decide), fwdCond_keep _ main_v9_6 (by decide)]

/-- The state's imaginary part after one trip. -/
theorem fwd_trip_8 (V : Valuation τ sig (Elt F)) : afterL fwdBody (after fwdCond V) (Proc.devRef .tc main_v9_8) =
    (addf (addf (mulf (V (Proc.devRef .tc main_v9_4)) (V (Proc.devRef .tc main_v9_8))) (mulf (V (Proc.devRef .tc main_v9_5)) (V (Proc.devRef .tc main_v9_7))))
      (rowAt (V (Proc.devRef .tc main_v9_1)) (V (Proc.devRef .tc main_v9_6))) : FVec F S4096 .f32) := by
  rw [afterL_cons, afterL_cons, afterL_cons, afterL_cons, afterL_cons, afterL_cons, afterL_cons, afterL_cons, afterL_nil, fwd_7_8,
    fwd_6_keep _ _ (by decide), fwd_5_keep _ _ (by decide), fwd_4_keep _ _ (by decide), fwd_3_keep _ _ (by decide), fwd_2_im,
    fwd_1_keep _ main_v9_4 (by decide), fwd_1_keep _ main_v9_7 (by decide), fwd_1_keep _ main_v9_5 (by decide), fwd_1_keep _ main_v9_8 (by decide),
    fwd_1_out,
    fwd_0_keep _ main_v9_4 (by decide), fwd_0_keep _ main_v9_7 (by decide), fwd_0_keep _ main_v9_5 (by decide), fwd_0_keep _ main_v9_8 (by decide),
    fwd_0_keep _ main_v9_1 (by decide), fwd_0_keep _ main_v9_6 (by decide),
    fwdCond_keep _ main_v9_4 (by decide), fwdCond_keep _ main_v9_7 (by decide), fwdCond_keep _ main_v9_5 (by decide), fwdCond_keep _ main_v9_8 (by decide),
    fwdCond_keep _ main_v9_1 (by decide), fwdCond_keep _ main_v9_6 (by decide)]

/-- The states before each step, real part, after one trip. -/
theorem fwd_trip_11 (V : Valuation τ sig (Elt F)) : afterL fwdBody (after fwdCond V) (Proc.devRef .tc main_v9_11) =
    putRow (F := F) (V (Proc.devRef .tc main_v9_11)) (V (Proc.devRef .tc main_v9_7)) (V (Proc.devRef .tc main_v9_6)) := by
  rw [afterL_cons, afterL_cons, afterL_cons, afterL_cons, afterL_cons, afterL_cons, afterL_cons, afterL_cons, afterL_nil, fwd_7_11,
    fwd_6_keep _ _ (by decide), fwd_5_out, fwd_4_keep _ main_v9_11 (by decide), fwd_4_keep _ main_v9_7 (by decide), fwd_4_keep _ main_v9_6 (by decide), fwd_3_keep _ main_v9_11 (by decide), fwd_3_keep _ main_v9_7 (by decide), fwd_3_keep _ main_v9_6 (by decide), fwd_2_keep _ main_v9_11 (by decide), fwd_2_keep _ main_v9_7 (by decide), fwd_2_keep _ main_v9_6 (by decide), fwd_1_keep _ main_v9_11 (by decide), fwd_1_keep _ main_v9_7 (by decide), fwd_1_keep _ main_v9_6 (by decide), fwd_0_keep _ main_v9_11 (by decide), fwd_0_keep _ main_v9_7 (by decide), fwd_0_keep _ main_v9_6 (by decide), fwdCond_keep _ main_v9_11 (by decide), fwdCond_keep _ main_v9_7 (by decide), fwdCond_keep _ main_v9_6 (by decide)]

/-- The states before each step, imaginary part, after one trip. -/
theorem fwd_trip_12 (V : Valuation τ sig (Elt F)) : afterL fwdBody (after fwdCond V) (Proc.devRef .tc main_v9_12) =
    putRow (F := F) (V (Proc.devRef .tc main_v9_12)) (V (Proc.devRef .tc main_v9_8)) (V (Proc.devRef .tc main_v9_6)) := by
  rw [afterL_cons, afterL_cons, afterL_cons, afterL_cons, afterL_cons, afterL_cons, afterL_cons, afterL_cons, afterL_nil, fwd_7_12,
    fwd_6_out, fwd_5_keep _ main_v9_12 (by decide), fwd_5_keep _ main_v9_8 (by decide), fwd_5_keep _ main_v9_6 (by decide), fwd_4_keep _ main_v9_12 (by decide), fwd_4_keep _ main_v9_8 (by decide), fwd_4_keep _ main_v9_6 (by decide), fwd_3_keep _ main_v9_12 (by decide), fwd_3_keep _ main_v9_8 (by decide), fwd_3_keep _ main_v9_6 (by decide), fwd_2_keep _ main_v9_12 (by decide), fwd_2_keep _ main_v9_8 (by decide), fwd_2_keep _ main_v9_6 (by decide), fwd_1_keep _ main_v9_12 (by decide), fwd_1_keep _ main_v9_8 (by decide), fwd_1_keep _ main_v9_6 (by decide), fwd_0_keep _ main_v9_12 (by decide), fwd_0_keep _ main_v9_8 (by decide), fwd_0_keep _ main_v9_6 (by decide), fwdCond_keep _ main_v9_12 (by decide), fwdCond_keep _ main_v9_8 (by decide), fwdCond_keep _ main_v9_6 (by decide)]

/-! ## The arithmetic of the second loop's body -/

theorem rev_0_row (V : Valuation τ sig (Elt F)) : after rev_0 V (Proc.devRef .tc main_while1b_v20) =
    (subi (subi (constantI S_ 32 2048#32) (V (Proc.devRef .tc main_v18_8))) (constantI S_ 32 1#32) : IVec S_ 32) := by
  simp only [rev_0]
  after_results_entrywise [cast_eq]

/-- The reverse state, real part: the carry plus the cotangent's row. -/
abbrev lamRe (V : Valuation τ sig (Elt F)) : FVec F S4096 .f32 := addf (V (Proc.devRef .tc main_v18_11)) (V (Proc.devRef .tc main_while1b_v21))
/-- The reverse state, imaginary part. -/
abbrev lamIm (V : Valuation τ sig (Elt F)) : FVec F S4096 .f32 := addf (V (Proc.devRef .tc main_v18_12)) (V (Proc.devRef .tc main_while1b_v22))

theorem rev_5_25 (V : Valuation τ sig (Elt F)) : after rev_5 V (Proc.devRef .tc main_while1b_v25) = lamRe V := by
  simp only [rev_5]
  after_results_entrywise [cast_eq]
theorem rev_5_26 (V : Valuation τ sig (Elt F)) : after rev_5 V (Proc.devRef .tc main_while1b_v26) = lamIm V := by
  simp only [rev_5]
  after_results_entrywise [cast_eq]
theorem rev_5_45 (V : Valuation τ sig (Elt F)) : after rev_5 V (Proc.devRef .tc main_while1b_v45) =
    (addf (addf (V (Proc.devRef .tc main_v18_9)) (oneRow (mulf (lamIm V) (V (Proc.devRef .tc main_while1b_v24)))))
      (oneRow (mulf (lamRe V) (V (Proc.devRef .tc main_while1b_v23)))) : FVec F S1x4096 .f32) := by
  simp only [rev_5]
  after_results_entrywise [cast_eq]
theorem rev_5_40 (V : Valuation τ sig (Elt F)) : after rev_5 V (Proc.devRef .tc main_while1b_v40) =
    (addf (addf (V (Proc.devRef .tc main_v18_10)) (oneRow (mulf (lamIm V) (V (Proc.devRef .tc main_while1b_v23)))))
      (oneRow (mulf (Host.negf (lamRe V)) (V (Proc.devRef .tc main_while1b_v24)))) : FVec F S1x4096 .f32) := by
  simp only [rev_5]
  after_results_entrywise [cast_eq]
theorem rev_5_42 (V : Valuation τ sig (Elt F)) : after rev_5 V (Proc.devRef .tc main_while1b_v42) =
    (addf (mulf (V (Proc.devRef .tc main_v18_7)) (lamIm V)) (mulf (V (Proc.devRef .tc main_v18_4)) (lamRe V)) : FVec F S4096 .f32) := by
  simp only [rev_5]
  after_results_entrywise [cast_eq]
theorem rev_5_37 (V : Valuation τ sig (Elt F)) : after rev_5 V (Proc.devRef .tc main_while1b_v37) =
    (addf (mulf (V (Proc.devRef .tc main_v18_6)) (lamIm V)) (mulf (V (Proc.devRef .tc main_v18_5)) (Host.negf (lamRe V))) : FVec F S4096 .f32) := by
  simp only [rev_5]
  after_results_entrywise [cast_eq]

theorem rev_8_9 (V : Valuation τ sig (Elt F)) : after rev_8 V (Proc.devRef .tc main_v18_9) = V (Proc.devRef .tc main_while1b_v45) := by
  simp only [rev_8]
  after_results_entrywise [cast_eq]
theorem rev_8_10 (V : Valuation τ sig (Elt F)) : after rev_8 V (Proc.devRef .tc main_v18_10) = V (Proc.devRef .tc main_while1b_v40) := by
  simp only [rev_8]
  after_results_entrywise [cast_eq]
theorem rev_8_11 (V : Valuation τ sig (Elt F)) : after rev_8 V (Proc.devRef .tc main_v18_11) = V (Proc.devRef .tc main_while1b_v42) := by
  simp only [rev_8]
  after_results_entrywise [cast_eq]
theorem rev_8_12 (V : Valuation τ sig (Elt F)) : after rev_8 V (Proc.devRef .tc main_v18_12) = V (Proc.devRef .tc main_while1b_v37) := by
  simp only [rev_8]
  after_results_entrywise [cast_eq]
theorem rev_8_13 (V : Valuation τ sig (Elt F)) : after rev_8 V (Proc.devRef .tc main_v18_13) = V (Proc.devRef .tc main_while1b_v46) := by
  simp only [rev_8]
  after_results_entrywise [cast_eq]
theorem rev_8_14 (V : Valuation τ sig (Elt F)) : after rev_8 V (Proc.devRef .tc main_v18_14) = V (Proc.devRef .tc main_while1b_v47) := by
  simp only [rev_8]
  after_results_entrywise [cast_eq]

/-- The row a trip of the second loop works on. -/
abbrev revRow (V : Valuation τ sig (Elt F)) : IVec S_ 32 :=
  subi (subi (constantI S_ 32 2048#32) (V (Proc.devRef .tc main_v18_8))) (constantI S_ 32 1#32)
/-- The reverse state a trip computes, real part. -/
abbrev stepRe (V : Valuation τ sig (Elt F)) : FVec F S4096 .f32 := addf (V (Proc.devRef .tc main_v18_11)) (rowAt (V (Proc.devRef .tc main_v18_0)) (revRow V))
/-- The reverse state a trip computes, imaginary part. -/
abbrev stepIm (V : Valuation τ sig (Elt F)) : FVec F S4096 .f32 := addf (V (Proc.devRef .tc main_v18_12)) (rowAt (V (Proc.devRef .tc main_v18_1)) (revRow V))

/-- The contents when the second loop's arithmetic begins. -/
def revMid (V : Valuation τ sig (Elt F)) : Valuation τ sig (Elt F) := after rev_4 (after rev_3 (after rev_2 (after rev_1 (after rev_0 (after revCond V)))))

theorem revBody_mid (V : Valuation τ sig (Elt F)) : afterL revBody (after revCond V) = after rev_8 (after rev_7 (after rev_6 (after rev_5 (revMid V)))) := rfl

theorem revMid_keep (V : Valuation τ sig (Elt F)) (r : Ref sig .tc) (h : r ∉ revCond_W ++ rev_0_W ++ rev_1_W ++ rev_2_W ++ rev_3_W ++ rev_4_W) :
    revMid V (Proc.devRef .tc r) = V (Proc.devRef .tc r) := by
  simp only [List.mem_append, not_or] at h
  obtain ⟨⟨⟨⟨⟨hc, h0⟩, h1⟩, h2⟩, h3⟩, h4⟩ := h
  unfold revMid
  rw [rev_4_keep _ _ h4, rev_3_keep _ _ h3, rev_2_keep _ _ h2, rev_1_keep _ _ h1, rev_0_keep _ _ h0, revCond_keep _ _ hc]

theorem revMid_20 (V : Valuation τ sig (Elt F)) : revMid V (Proc.devRef .tc main_while1b_v20) = revRow V := by
  unfold revMid
  rw [rev_4_keep _ _ (by decide), rev_3_keep _ _ (by decide), rev_2_keep _ _ (by decide), rev_1_keep _ _ (by decide), rev_0_row, revCond_keep _ _ (by decide)]
theorem revMid_21 (V : Valuation τ sig (Elt F)) : revMid V (Proc.devRef .tc main_while1b_v21) = rowAt (V (Proc.devRef .tc main_v18_0)) (revRow V) := by
  unfold revMid
  rw [rev_4_keep _ _ (by decide), rev_3_keep _ _ (by decide), rev_2_keep _ _ (by decide), rev_1_out, rev_0_row, rev_0_keep _ main_v18_0 (by decide),
    revCond_keep _ main_v18_0 (by decide), revCond_keep _ main_v18_8 (by decide)]
theorem revMid_22 (V : Valuation τ sig (Elt F)) : revMid V (Proc.devRef .tc main_while1b_v22) = rowAt (V (Proc.devRef .tc main_v18_1)) (revRow V) := by
  unfold revMid
  rw [rev_4_keep _ _ (by decide), rev_3_keep _ _ (by decide), rev_2_out, rev_1_keep _ main_v18_1 (by decide), rev_1_keep _ main_while1b_v20 (by decide),
    rev_0_row, rev_0_keep _ main_v18_1 (by decide),
    revCond_keep _ main_v18_1 (by decide), revCond_keep _ main_v18_8 (by decide)]
theorem revMid_23 (V : Valuation τ sig (Elt F)) : revMid V (Proc.devRef .tc main_while1b_v23) = rowAt (V (Proc.devRef .tc main_v18_2)) (revRow V) := by
  unfold revMid
  rw [rev_4_keep _ _ (by decide), rev_3_out, rev_2_keep _ main_v18_2 (by decide), rev_2_keep _ main_while1b_v20 (by decide),
    rev_1_keep _ main_v18_2 (by decide), rev_1_keep _ main_while1b_v20 (by decide),
    rev_0_row, rev_0_keep _ main_v18_2 (by decide),
    revCond_keep _ main_v18_2 (by decide), revCond_keep _ main_v18_8 (by decide)]
theorem revMid_24 (V : Valuation τ sig (Elt F)) : revMid V (Proc.devRef .tc main_while1b_v24) = rowAt (V (Proc.devRef .tc main_v18_3)) (revRow V) := by
  unfold revMid
  rw [rev_4_out, rev_3_keep _ main_v18_3 (by decide), rev_3_keep _ main_while1b_v20 (by decide), rev_2_keep _ main_v18_3 (by decide), rev_2_keep _ main_while1b_v20 (by decide),
    rev_1_keep _ main_v18_3 (by decide), rev_1_keep _ main_while1b_v20 (by decide),
    rev_0_row, rev_0_keep _ main_v18_3 (by decide),
    revCond_keep _ main_v18_3 (by decide), revCond_keep _ main_v18_8 (by decide)]

theorem lamRe_mid (V : Valuation τ sig (Elt F)) : lamRe (revMid V) = stepRe V := by
  unfold lamRe stepRe
  rw [revMid_21, revMid_keep V main_v18_11 (by decide)]
theorem lamIm_mid (V : Valuation τ sig (Elt F)) : lamIm (revMid V) = stepIm V := by
  unfold lamIm stepIm
  rw [revMid_22, revMid_keep V main_v18_12 (by decide)]

/-- The coefficient gradient's real part after one trip. -/
theorem rev_trip_9 (V : Valuation τ sig (Elt F)) : afterL revBody (after revCond V) (Proc.devRef .tc main_v18_9) =
    (addf (addf (V (Proc.devRef .tc main_v18_9)) (oneRow (mulf (stepIm V) (rowAt (V (Proc.devRef .tc main_v18_3)) (revRow V)))))
      (oneRow (mulf (stepRe V) (rowAt (V (Proc.devRef .tc main_v18_2)) (revRow V)))) : FVec F S1x4096 .f32) := by
  rw [revBody_mid, rev_8_9,
    rev_7_keep _ _ (by decide), rev_6_keep _ _ (by decide), rev_5_45, lamIm_mid, lamRe_mid, revMid_23, revMid_24, revMid_keep V main_v18_9 (by decide)]
/-- The coefficient gradient's imaginary part after one trip. -/
theorem rev_trip_10 (V : Valuation τ sig (Elt F)) : afterL revBody (after revCond V) (Proc.devRef .tc main_v18_10) =
    (addf (addf (V (Proc.devRef .tc main_v18_10)) (oneRow (mulf (stepIm V) (rowAt (V (Proc.devRef .tc main_v18_2)) (revRow V)))))
      (oneRow (mulf (Host.negf (stepRe V)) (rowAt (V (Proc.devRef .tc main_v18_3)) (revRow V)))) : FVec F S1x4096 .f32) := by
  rw [revBody_mid, rev_8_10,
    rev_7_keep _ _ (by decide), rev_6_keep _ _ (by decide), rev_5_40, lamIm_mid, lamRe_mid, revMid_23, revMid_24, revMid_keep V main_v18_10 (by decide)]
/-- The carry's real part after one trip. -/
theorem rev_trip_11 (V : Valuation τ sig (Elt F)) : afterL revBody (after revCond V) (Proc.devRef .tc main_v18_11) =
    (addf (mulf (V (Proc.devRef .tc main_v18_7)) (stepIm V)) (mulf (V (Proc.devRef .tc main_v18_4)) (stepRe V)) : FVec F S4096 .f32) := by
  rw [revBody_mid, rev_8_11,
    rev_7_keep _ _ (by decide), rev_6_keep _ _ (by decide), rev_5_42, lamIm_mid, lamRe_mid, revMid_keep V main_v18_7 (by decide), revMid_keep V main_v18_4 (by decide)]
/-- The carry's imaginary part after one trip. -/
theorem rev_trip_12 (V : Valuation τ sig (Elt F)) : afterL revBody (after revCond V) (Proc.devRef .tc main_v18_12) =
    (addf (mulf (V (Proc.devRef .tc main_v18_6)) (stepIm V)) (mulf (V (Proc.devRef .tc main_v18_5)) (Host.negf (stepRe V))) : FVec F S4096 .f32) := by
  rw [revBody_mid, rev_8_12,
    rev_7_keep _ _ (by decide), rev_6_keep _ _ (by decide), rev_5_37, lamIm_mid, lamRe_mid, revMid_keep V main_v18_6 (by decide), revMid_keep V main_v18_5 (by decide)]
/-- The reverse states' real part after one trip. -/
theorem rev_trip_13 (V : Valuation τ sig (Elt F)) : afterL revBody (after revCond V) (Proc.devRef .tc main_v18_13) =
    putRow (F := F) (V (Proc.devRef .tc main_v18_13)) (stepRe V) (revRow V) := by
  rw [revBody_mid, rev_8_13,
    rev_7_keep _ _ (by decide), rev_6_out, rev_5_25, lamRe_mid, rev_5_keep _ main_v18_13 (by decide), rev_5_keep _ main_while1b_v20 (by decide),
    revMid_20, revMid_keep V main_v18_13 (by decide)]
/-- The reverse states' imaginary part after one trip. -/
theorem rev_trip_14 (V : Valuation τ sig (Elt F)) : afterL revBody (after revCond V) (Proc.devRef .tc main_v18_14) =
    putRow (F := F) (V (Proc.devRef .tc main_v18_14)) (stepIm V) (revRow V) := by
  rw [revBody_mid, rev_8_14,
    rev_7_out, rev_6_keep _ main_v18_14 (by decide), rev_6_keep _ main_while1b_v26 (by decide), rev_6_keep _ main_while1b_v20 (by decide), rev_5_26, lamIm_mid,
    rev_5_keep _ main_v18_14 (by decide), rev_5_keep _ main_while1b_v20 (by decide),
    revMid_20, revMid_keep V main_v18_14 (by decide)]

end Cert.Ref

end
-- ==== Proof.RefVal.lean ====
module

public import proofs.«01_k».proof.Proof.RefTrip
public import proofs.«01_k».proof.Proof.KernelRun
public import Idealize.ShloMosaic.Lib.DynamicIndex
public import Idealize.ShloMosaic.Lib.WordCmp
public import Idealize.ShloMosaic.Lib.IdealHost

@[expose] public section

set_option maxRecDepth 16384
set_option Elab.async false

noncomputable section

/-! The values of the reference's results over the extended reals: the reverse states of the recurrence and the gradient of its coefficient. -/

namespace Cert.Ref

open Idealize.ShloMosaic Idealize.ShloMosaic.TcCoe Idealize.ShloMosaic.Tactic Idealize.ShloMosaic.StableHlo
open Idealize.SL Idealize.SL.Sem
open Cert.ReferenceIdeal Cert.ReferenceIdeal.Gen
open Cert.Scan (Cx run column states adjoint coefGrad conjOf stateArr)

/-! ## Rows -/

/-- A row number as a word, read back. -/
theorem toInt_row (n : ℕ) (h : n < 2048) : (BitVec.ofNat 32 n).toInt = (n : Int) := by
  have hn : (BitVec.ofNat 32 n).toNat = n := by rw [BitVec.toNat_ofNat]; omega
  rw [BitVec.toInt_eq_toNat_of_lt (by rw [hn]; omega), hn]

/-- The start of a row, as naturals. -/
theorem start_row {F : FTy → Type} [FloatOps F] (n : ℕ) (h : n < 2048) (a : Fin 2) :
    (fun k => ((![fun _ => BitVec.ofNat 32 n, constantI S_ 32 0#32] : Fin 2 → (⟨S_, .i32⟩ : BufTy).Contents (Elt F)) k (Shape.Idx.first h_S_)).toInt) a
      = ((![n, 0] : Fin 2 → ℕ) a : Int) := by
  fin_cases a
  · exact toInt_row n h
  · rfl

theorem slices_row (n : ℕ) (h : n < 2048) : S2048x4096.Slices ![n, 0] S1x4096 := by
  refine ⟨rfl, fun a => ?_⟩
  fin_cases a
  · show n + 1 ≤ 2048
    omega
  · show 0 + 4096 ≤ 4096
    omega

/-- The row that a word names, read from an array. -/
theorem rowAt_apply {F : FTy → Type} [FloatOps F] (X : FVec F S2048x4096 .f32) (n : ℕ) (h : n < 2048) (l : S4096.Idx) :
    rowAt (F := F) X (fun _ => BitVec.ofNat 32 n) l = X (ix2 (Fin.ofNat 2048 n) (l 0)) := by
  unfold rowAt
  rw [Host.dynamicSlice_eq_extractStridedSlice S1x4096 X _ ![n, 0] _ (slices_row n h) (start_row (F := F) n h)]
  refine (shapeCast_apply _ _ l (ix2 (0 : Fin 1) (l 0) : S1x4096.Idx) ?_).trans ?_
  · rw [Shape.rowMajor_val_two, Shape.rowMajor_val_one]
    simp [ix2]
  · refine extractStridedSlice_apply _ X _ _ _ ?_
    intro a
    fin_cases a
    · simp [ix2, Nat.mod_eq_of_lt h]
    · simp [ix2]

/-- An array with one row replaced. -/
theorem putRow_apply {F : FTy → Type} [FloatOps F] (X : FVec F S2048x4096 .f32) (v : FVec F S4096 .f32) (n : ℕ) (h : n < 2048) (i : S2048x4096.Idx) :
    putRow (F := F) X v (fun _ => BitVec.ofNat 32 n) i = if (i 0).val = n then v (ix1 (i 1)) else X i := by
  unfold putRow
  rw [WordCmp.dynamicUpdateSlice_eq_update (k := ![n, 0]) (hk := slices_row n h) (e := start_row (F := F) n h), updateSlice_apply]
  have h1 : (i 1).val < 4096 := (i 1).isLt
  by_cases e : (i 0).val = n
  · rw [if_pos e, dif_pos]
    · refine broadcastInDim_apply _ _ _ _ _ ?_
      intro a
      fin_cases a
      simp [ix1, Shape.Idx.norm_def]
    · intro a
      fin_cases a
      · show n ≤ (i 0).val ∧ (i 0).val < n + 1
        omega
      · show 0 ≤ (i 1).val ∧ (i 1).val < 0 + 4096
        omega
  · rw [if_neg e, dif_neg]
    intro hin
    have := hin 0
    change n ≤ (i 0).val ∧ (i 0).val < n + 1 at this
    omega

theorem iv_eq (k : ℕ) : Scf.iv 0#32 1#32 k = BitVec.ofNat 32 k := by
  simp [Scf.iv]

/-! ## What the loops are entered with -/

variable (m : (ℓ : Loc nD τ sig) → Buf (Elt Ideal) ℓ) (c : Dev nD)

theorem entry₀_0 : entry₀ m c (Proc.devRef .tc main_v9_0) = m (c.tc.loc main_arg2) := by
  unfold entry₀
  after_reads_simp
  rfl
theorem entry₀_1 : entry₀ m c (Proc.devRef .tc main_v9_1) = m (c.tc.loc main_arg3) := by
  unfold entry₀
  after_reads_simp
  rfl
theorem entry₀_2 : entry₀ m c (Proc.devRef .tc main_v9_2) = shapeCast S4096 (m (c.tc.loc main_arg0)) shapeCasts_S1x4096_S4096 := by
  unfold entry₀
  after_reads_simp
  rfl
theorem entry₀_3 : entry₀ m c (Proc.devRef .tc main_v9_3) = shapeCast S4096 (m (c.tc.loc main_arg1)) shapeCasts_S1x4096_S4096 := by
  unfold entry₀
  after_reads_simp
  rfl
theorem entry₀_4 : entry₀ m c (Proc.devRef .tc main_v9_4) = shapeCast S4096 (m (c.tc.loc main_arg0)) shapeCasts_S1x4096_S4096 := by
  unfold entry₀
  after_reads_simp
  rfl
theorem entry₀_5 : entry₀ m c (Proc.devRef .tc main_v9_5) = shapeCast S4096 (m (c.tc.loc main_arg1)) shapeCasts_S1x4096_S4096 := by
  unfold entry₀
  after_reads_simp
  rfl
theorem entry₀_7 : entry₀ m c (Proc.devRef .tc main_v9_7) = (fun _ => 0 : S4096.Idx → EReal) := by
  unfold entry₀
  after_reads_simp
  funext i
  exact (ValueIdx.broadcastInDim_scalar_apply _ _ _).trans (show (Scalar.ofBits (F := Ideal) .f32 0x00000000#32 : EReal) = 0 by simp)
theorem entry₀_8 : entry₀ m c (Proc.devRef .tc main_v9_8) = (fun _ => 0 : S4096.Idx → EReal) := by
  unfold entry₀
  after_reads_simp
  funext i
  exact (ValueIdx.broadcastInDim_scalar_apply _ _ _).trans (show (Scalar.ofBits (F := Ideal) .f32 0x00000000#32 : EReal) = 0 by simp)

theorem between_0 (V : Valuation τ sig (Elt Ideal)) : after between2 (after between V) (Proc.devRef .tc main_v18_0) = V (Proc.devRef .tc main_arg4) := by
  rw [between2_keep _ _ (by decide)]
  after_reads_simp
  rfl
theorem between_1 (V : Valuation τ sig (Elt Ideal)) : after between2 (after between V) (Proc.devRef .tc main_v18_1) = V (Proc.devRef .tc main_arg5) := by
  rw [between2_keep _ _ (by decide)]
  after_reads_simp
  rfl
theorem between_2 (V : Valuation τ sig (Elt Ideal)) : after between2 (after between V) (Proc.devRef .tc main_v18_2) = V (Proc.devRef .tc main_v9_11) := by
  rw [between2_keep _ _ (by decide)]
  after_reads_simp
  rfl
theorem between_3 (V : Valuation τ sig (Elt Ideal)) : after between2 (after between V) (Proc.devRef .tc main_v18_3) = V (Proc.devRef .tc main_v9_12) := by
  rw [between2_keep _ _ (by decide)]
  after_reads_simp
  rfl
theorem between_4 (V : Valuation τ sig (Elt Ideal)) : after between2 (after between V) (Proc.devRef .tc main_v18_4) = V (Proc.devRef .tc main_v1) := by
  rw [between2_keep _ _ (by decide)]
  after_reads_simp
  rfl
theorem between_5 (V : Valuation τ sig (Elt Ideal)) : after between2 (after between V) (Proc.devRef .tc main_v18_5) = V (Proc.devRef .tc main_v2) := by
  rw [between2_keep _ _ (by decide)]
  after_reads_simp
  rfl
theorem between_6 (V : Valuation τ sig (Elt Ideal)) : after between2 (after between V) (Proc.devRef .tc main_v18_6) = V (Proc.devRef .tc main_v3) := by
  rw [between2_keep _ _ (by decide)]
  after_reads_simp
  rfl
theorem between_7 (V : Valuation τ sig (Elt Ideal)) : after between2 (after between V) (Proc.devRef .tc main_v18_7) = V (Proc.devRef .tc main_v4) := by
  rw [between2_keep _ _ (by decide)]
  after_reads_simp
  rfl
theorem between_9 (V : Valuation τ sig (Elt Ideal)) : after between2 (after between V) (Proc.devRef .tc main_v18_9) = (fun _ => 0 : S1x4096.Idx → EReal) := by
  rw [between2_keep _ _ (by decide)]
  after_reads_simp
  funext i
  exact (ValueIdx.broadcastInDim_scalar_apply _ _ _).trans (show (Scalar.ofBits (F := Ideal) .f32 0x00000000#32 : EReal) = 0 by simp)
theorem between_10 (V : Valuation τ sig (Elt Ideal)) : after between2 (after between V) (Proc.devRef .tc main_v18_10) = (fun _ => 0 : S1x4096.Idx → EReal) := by
  rw [between2_keep _ _ (by decide)]
  after_reads_simp
  funext i
  exact (ValueIdx.broadcastInDim_scalar_apply _ _ _).trans (show (Scalar.ofBits (F := Ideal) .f32 0x00000000#32 : EReal) = 0 by simp)
theorem between_11 (V : Valuation τ sig (Elt Ideal)) : after between2 (after between V) (Proc.devRef .tc main_v18_11) = (fun _ => 0 : S4096.Idx → EReal) := by
  rw [between2_keep _ _ (by decide)]
  after_reads_simp
  funext i
  exact (ValueIdx.broadcastInDim_scalar_apply _ _ _).trans (show (Scalar.ofBits (F := Ideal) .f32 0x00000000#32 : EReal) = 0 by simp)
theorem between_12 (V : Valuation τ sig (Elt Ideal)) : after between2 (after between V) (Proc.devRef .tc main_v18_12) = (fun _ => 0 : S4096.Idx → EReal) := by
  rw [between2_keep _ _ (by decide)]
  after_reads_simp
  funext i
  exact (ValueIdx.broadcastInDim_scalar_apply _ _ _).trans (show (Scalar.ofBits (F := Ideal) .f32 0x00000000#32 : EReal) = 0 by simp)

/-- A buffer that the first loop leaves alone. -/
theorem exit₀_eq (r : Ref sig .tc) (hc : r ∉ fwdCond_W) (hw : r ∉ fwd_W) : exit₀ m c (Proc.devRef .tc r) = entry₀ m c (Proc.devRef .tc r) := by
  unfold exit₀
  rw [fwdCond_keep _ _ hc, fwd_keep _ _ _ hw]
theorem entry₀_arg4 : entry₀ m c (Proc.devRef .tc main_arg4) = m (c.tc.loc main_arg4) := by
  unfold entry₀
  rw [beforeFirst_keep _ _ (by decide)]
theorem entry₀_arg5 : entry₀ m c (Proc.devRef .tc main_arg5) = m (c.tc.loc main_arg5) := by
  unfold entry₀
  rw [beforeFirst_keep _ _ (by decide)]
theorem entry₀_v1 : entry₀ m c (Proc.devRef .tc main_v1) = shapeCast S4096 (m (c.tc.loc main_arg0)) shapeCasts_S1x4096_S4096 := by
  unfold entry₀
  after_reads_simp
  rfl
theorem entry₀_v2 : entry₀ m c (Proc.devRef .tc main_v2) = shapeCast S4096 (m (c.tc.loc main_arg1)) shapeCasts_S1x4096_S4096 := by
  unfold entry₀
  after_reads_simp
  rfl
theorem entry₀_v3 : entry₀ m c (Proc.devRef .tc main_v3) = shapeCast S4096 (m (c.tc.loc main_arg0)) shapeCasts_S1x4096_S4096 := by
  unfold entry₀
  after_reads_simp
  rfl
theorem entry₀_v4 : entry₀ m c (Proc.devRef .tc main_v4) = shapeCast S4096 (m (c.tc.loc main_arg1)) shapeCasts_S1x4096_S4096 := by
  unfold entry₀
  after_reads_simp
  rfl

/-- One row of an array of one row. -/
theorem flat_apply (v : S1x4096.Idx → EReal) (l : S4096.Idx) : shapeCast S4096 v shapeCasts_S1x4096_S4096 l = v (ix2 (0 : Fin 1) (l 0)) := by
  refine shapeCast_apply _ _ l (ix2 (0 : Fin 1) (l 0) : S1x4096.Idx) ?_
  rw [Shape.rowMajor_val_two, Shape.rowMajor_val_one]
  simp [ix2]

/-! ## The first loop -/

variable {A : S1x4096.Idx → ℂ} {X C : S2048x4096.Idx → ℂ}

/-- After `k` trips the carry holds the recurrence's state of `k` steps. -/
theorem fwd_state (hA : Cx (s := S1x4096) (m (c.tc.loc main_arg0)) (m (c.tc.loc main_arg1)) A)
    (hX : Cx (s := S2048x4096) (m (c.tc.loc main_arg2)) (m (c.tc.loc main_arg3)) X) :
    ∀ k ≤ 2048, Cx (s := S4096) (atTrip fwdCond fwdBody (entry₀ m) k c (Proc.devRef .tc main_v9_7))
      (atTrip fwdCond fwdBody (entry₀ m) k c (Proc.devRef .tc main_v9_8)) (fun l => states A X (l 0) k)
  | 0, _ => by
    rw [atTrip_zero, entry₀_7, entry₀_8]
    intro l
    simp [states, run]
  | k + 1, hk => by
    have ih := fwd_state hA hX k (by omega)
    rw [atTrip_succ, fwd_trip_7, fwd_trip_8]
    rw [fwd_keep _ c main_v9_0 (by decide), fwd_keep _ c main_v9_1 (by decide), fwd_keep _ c main_v9_2 (by decide), fwd_keep _ c main_v9_3 (by decide),
      fwd_keep _ c main_v9_4 (by decide), fwd_keep _ c main_v9_5 (by decide), fwd_ctr _ c (entry₀_ctr m c), entry₀_0, entry₀_1, entry₀_2, entry₀_3, entry₀_4, entry₀_5]
    rw [iv_eq]
    have ha : Cx (s := S4096) (shapeCast S4096 (m (c.tc.loc main_arg0)) shapeCasts_S1x4096_S4096) (shapeCast S4096 (m (c.tc.loc main_arg1)) shapeCasts_S1x4096_S4096)
        (fun l => A (ix2 (0 : Fin 1) (l 0))) := fun l => by
      rw [flat_apply, flat_apply]
      exact hA _
    have hx : Cx (s := S4096) (rowAt (F := Ideal) (m (c.tc.loc main_arg2)) (fun _ => BitVec.ofNat 32 k)) (rowAt (F := Ideal) (m (c.tc.loc main_arg3)) (fun _ => BitVec.ofNat 32 k))
        (fun l => column X (l 0) k) := fun l => by
      rw [rowAt_apply (F := Ideal) _ k (by omega), rowAt_apply (F := Ideal) _ k (by omega)]
      exact hX _
    exact (Cx.add (Cx.mul ha ih) hx).congr fun l => rfl

/-- After `k` trips the rows before `k` hold the states before their steps. -/
theorem fwd_rows (hA : Cx (s := S1x4096) (m (c.tc.loc main_arg0)) (m (c.tc.loc main_arg1)) A)
    (hX : Cx (s := S2048x4096) (m (c.tc.loc main_arg2)) (m (c.tc.loc main_arg3)) X) :
    ∀ k ≤ 2048, ∀ i : S2048x4096.Idx, (i 0).val < k →
      atTrip fwdCond fwdBody (entry₀ m) k c (Proc.devRef .tc main_v9_11) i = (((states A X (i 1) (i 0).val).re : ℝ) : EReal) ∧
      atTrip fwdCond fwdBody (entry₀ m) k c (Proc.devRef .tc main_v9_12) i = (((states A X (i 1) (i 0).val).im : ℝ) : EReal)
  | 0, _ => fun i hi => absurd hi (Nat.not_lt_zero _)
  | k + 1, hk => by
    intro i hi
    have ih := fwd_rows hA hX k (by omega) i
    have st := fwd_state m c hA hX k (by omega) (ix1 (i 1))
    rw [atTrip_succ, fwd_trip_11, fwd_trip_12, fwd_ctr _ c (entry₀_ctr m c), iv_eq]
    have p := fun Y w => putRow_apply (F := Ideal) Y w k (by omega) i
    refine Iff.mpr (and_congr (iff_of_eq (congrArg (· = _) (p _ _))) (iff_of_eq (congrArg (· = _) (p _ _)))) ?_
    by_cases e : (i 0).val = k
    · rw [if_pos e, if_pos e, e]
      exact st
    · rw [if_neg e, if_neg e]
      exact ih (by omega)

/-! ## The second loop -/

/-- The row that trip `k` of the second loop works on. -/
theorem revRow_eq (k : ℕ) (hk : k < 2048) :
    revRow (atTrip revCond revBody (entry₁ m) k c) = fun _ => BitVec.ofNat 32 (2047 - k) := by
  unfold revRow
  rw [rev_ctr _ c (entry₁_ctr m c), iv_eq]
  funext i
  show (2048#32 - BitVec.ofNat 32 k) - 1#32 = BitVec.ofNat 32 (2047 - k)
  apply BitVec.eq_of_toNat_eq
  simp only [BitVec.toNat_sub, BitVec.toNat_ofNat]
  omega

theorem oneRow_apply (v : FVec Ideal S4096 .f32) (i : S1x4096.Idx) : oneRow (F := Ideal) v i = v (ix1 (i 1)) := by
  refine broadcastInDim_apply _ _ _ _ _ ?_
  intro a
  fin_cases a
  simp [ix1]

/-- The reverse state that trip `k` computes. -/
theorem rev_new (hC : Cx (s := S2048x4096) (m (c.tc.loc main_arg4)) (m (c.tc.loc main_arg5)) C) (k : ℕ) (hk : k < 2048)
    (h : Cx (s := S4096) (atTrip revCond revBody (entry₁ m) k c (Proc.devRef .tc main_v18_11))
      (atTrip revCond revBody (entry₁ m) k c (Proc.devRef .tc main_v18_12)) (fun l => conjOf A (ix2 (0 : Fin 1) (l 0)) * adjoint (conjOf A) C (l 0) k)) :
    Cx (s := S4096) (stepRe (atTrip revCond revBody (entry₁ m) k c)) (stepIm (atTrip revCond revBody (entry₁ m) k c))
      (fun l => adjoint (conjOf A) C (l 0) (k + 1)) := by
  unfold stepRe stepIm
  rw [revRow_eq m c k hk, rev_keep _ c main_v18_0 (by decide), rev_keep _ c main_v18_1 (by decide)]
  unfold entry₁
  rw [between_0, between_1, exit₀_eq m c main_arg4 (by decide) (by decide), exit₀_eq m c main_arg5 (by decide) (by decide), entry₀_arg4, entry₀_arg5]
  have hc : Cx (s := S4096) (rowAt (F := Ideal) (m (c.tc.loc main_arg4)) (fun _ => BitVec.ofNat 32 (2047 - k)))
      (rowAt (F := Ideal) (m (c.tc.loc main_arg5)) (fun _ => BitVec.ofNat 32 (2047 - k)))
      (fun l => column C (l 0) (2047 - k)) := fun l => by
    rw [rowAt_apply (F := Ideal) _ (2047 - k) (by omega), rowAt_apply (F := Ideal) _ (2047 - k) (by omega)]
    exact hC _
  exact (Cx.add h hc).congr fun l => rfl

/-- After `k` trips the carry holds the conjugate coefficient times the reverse state of `k` steps. -/
theorem rev_state (hA : Cx (s := S1x4096) (m (c.tc.loc main_arg0)) (m (c.tc.loc main_arg1)) A)
    (hC : Cx (s := S2048x4096) (m (c.tc.loc main_arg4)) (m (c.tc.loc main_arg5)) C) :
    ∀ k ≤ 2048, Cx (s := S4096) (atTrip revCond revBody (entry₁ m) k c (Proc.devRef .tc main_v18_11))
      (atTrip revCond revBody (entry₁ m) k c (Proc.devRef .tc main_v18_12)) (fun l => conjOf A (ix2 (0 : Fin 1) (l 0)) * adjoint (conjOf A) C (l 0) k)
  | 0, _ => by
    rw [atTrip_zero]
    unfold entry₁
    rw [between_11, between_12]
    intro l
    simp [adjoint, run]
  | k + 1, hk => by
    have st := rev_new m c hC k (by omega) (rev_state hA hC k (by omega))
    rw [atTrip_succ, rev_trip_11, rev_trip_12]
    generalize stepRe (atTrip revCond revBody (entry₁ m) k c) = p at st ⊢
    generalize stepIm (atTrip revCond revBody (entry₁ m) k c) = q at st ⊢
    rw [rev_keep _ c main_v18_4 (by decide), rev_keep _ c main_v18_5 (by decide), rev_keep _ c main_v18_6 (by decide), rev_keep _ c main_v18_7 (by decide)]
    unfold entry₁
    rw [between_4, between_5, between_6, between_7, exit₀_eq m c main_v1 (by decide) (by decide), exit₀_eq m c main_v2 (by decide) (by decide),
      exit₀_eq m c main_v3 (by decide) (by decide), exit₀_eq m c main_v4 (by decide) (by decide), entry₀_v1, entry₀_v2, entry₀_v3, entry₀_v4]
    intro l
    obtain ⟨a1, a2⟩ := hA (ix2 (0 : Fin 1) (l 0))
    obtain ⟨s1, s2⟩ := st l
    replace a1 := (flat_apply _ l).trans a1
    replace a2 := (flat_apply _ l).trans a2
    generalize shapeCast S4096 (m (c.tc.loc main_arg0)) shapeCasts_S1x4096_S4096 = x at a1 ⊢
    generalize shapeCast S4096 (m (c.tc.loc main_arg1)) shapeCasts_S1x4096_S4096 = y at a2 ⊢
    obtain ⟨x', rfl⟩ : ∃ x' : S4096.Idx → EReal, x' = x := ⟨x, rfl⟩
    obtain ⟨y', rfl⟩ : ∃ y' : S4096.Idx → EReal, y' = y := ⟨y, rfl⟩
    constructor
    · show y' l * q l + x' l * p l = _
      rw [a1, a2, s1, s2]
      simp only [conjOf, Complex.mul_re, Complex.conj_re, Complex.conj_im]
      rw [← EReal.coe_mul, ← EReal.coe_mul, ← EReal.coe_add]
      congr 1
      ring
    · show x' l * q l + y' l * (-(p l)) = _
      rw [a1, a2, s1, s2]
      simp only [conjOf, Complex.mul_im, Complex.conj_re, Complex.conj_im]
      rw [← EReal.coe_neg, ← EReal.coe_mul, ← EReal.coe_mul, ← EReal.coe_add]
      congr 1
      ring

/-- After `k` trips the last `k` rows hold the reverse states. -/
theorem rev_rows (hA : Cx (s := S1x4096) (m (c.tc.loc main_arg0)) (m (c.tc.loc main_arg1)) A)
    (hC : Cx (s := S2048x4096) (m (c.tc.loc main_arg4)) (m (c.tc.loc main_arg5)) C) :
    ∀ k ≤ 2048, ∀ i : S2048x4096.Idx, 2048 - k ≤ (i 0).val →
      atTrip revCond revBody (entry₁ m) k c (Proc.devRef .tc main_v18_13) i = (((adjoint (conjOf A) C (i 1) (2048 - (i 0).val)).re : ℝ) : EReal) ∧
      atTrip revCond revBody (entry₁ m) k c (Proc.devRef .tc main_v18_14) i = (((adjoint (conjOf A) C (i 1) (2048 - (i 0).val)).im : ℝ) : EReal)
  | 0, _ => fun i hi => absurd (i 0).isLt (by show ¬ (i 0).val < 2048; omega)
  | k + 1, hk => by
    intro i hi
    have ih := rev_rows hA hC k (by omega) i
    have st := rev_new m c hC k (by omega) (rev_state m c hA hC k (by omega)) (ix1 (i 1))
    rw [atTrip_succ, rev_trip_13, rev_trip_14, revRow_eq m c k (by omega)]
    have p := fun Y w => putRow_apply (F := Ideal) Y w (2047 - k) (by omega) i
    refine Iff.mpr (and_congr (iff_of_eq (congrArg (· = _) (p _ _))) (iff_of_eq (congrArg (· = _) (p _ _)))) ?_
    by_cases e : (i 0).val = 2047 - k
    · rw [if_pos e, if_pos e, e, show 2048 - (2047 - k) = k + 1 by omega]
      exact st
    · rw [if_neg e, if_neg e]
      exact ih (by omega)

/-- After `k` trips the accumulator holds the last `k` terms of the coefficient's gradient. -/
theorem rev_sum (hA : Cx (s := S1x4096) (m (c.tc.loc main_arg0)) (m (c.tc.loc main_arg1)) A)
    (hX : Cx (s := S2048x4096) (m (c.tc.loc main_arg2)) (m (c.tc.loc main_arg3)) X)
    (hC : Cx (s := S2048x4096) (m (c.tc.loc main_arg4)) (m (c.tc.loc main_arg5)) C) :
    ∀ k ≤ 2048, Cx (s := S1x4096) (atTrip revCond revBody (entry₁ m) k c (Proc.devRef .tc main_v18_9))
      (atTrip revCond revBody (entry₁ m) k c (Proc.devRef .tc main_v18_10))
      (fun i => ∑ t ∈ Finset.range k, adjoint (conjOf A) C (i 1) (t + 1) * (starRingEnd ℂ) (states A X (i 1) (2047 - t)))
  | 0, _ => by
    rw [atTrip_zero]
    unfold entry₁
    rw [between_9, between_10]
    intro l
    simp
  | k + 1, hk => by
    have ih := rev_sum hA hX hC k (by omega)
    have st := rev_new m c hC k (by omega) (rev_state m c hA hC k (by omega))
    rw [atTrip_succ, rev_trip_9, rev_trip_10, revRow_eq m c k (by omega)]
    generalize stepRe (atTrip revCond revBody (entry₁ m) k c) = p at st ⊢
    generalize stepIm (atTrip revCond revBody (entry₁ m) k c) = q at st ⊢
    generalize atTrip revCond revBody (entry₁ m) k c (Proc.devRef .tc main_v18_9) = u at ih ⊢
    generalize atTrip revCond revBody (entry₁ m) k c (Proc.devRef .tc main_v18_10) = w at ih ⊢
    rw [rev_keep _ c main_v18_2 (by decide), rev_keep _ c main_v18_3 (by decide)]
    unfold entry₁
    rw [between_2, between_3]
    unfold exit₀
    rw [fwdCond_keep _ _ (by decide), fwdCond_keep _ _ (by decide)]
    intro i
    have hs := fwd_rows m c hA hX 2048 le_rfl (ix2 (Fin.ofNat 2048 (2047 - k)) (i 1) : S2048x4096.Idx) (Fin.isLt _)
    have er : ((ix2 (Fin.ofNat 2048 (2047 - k)) (i 1) : S2048x4096.Idx) 0).val = 2047 - k := by
      show (2047 - k) % 2048 = 2047 - k
      omega
    rw [er] at hs
    change atTrip fwdCond fwdBody (entry₀ m) 2048 c (Proc.devRef .tc main_v9_11) _ = (((states A X (i 1) (2047 - k)).re : ℝ) : EReal) ∧
      atTrip fwdCond fwdBody (entry₀ m) 2048 c (Proc.devRef .tc main_v9_12) _ = (((states A X (i 1) (2047 - k)).im : ℝ) : EReal) at hs
    obtain ⟨s1, s2⟩ := st (ix1 (i 1))
    obtain ⟨i1, i2⟩ := ih i
    have r1 := rowAt_apply (F := Ideal) (atTrip fwdCond fwdBody (entry₀ m) 2048 c (Proc.devRef .tc main_v9_11)) (2047 - k) (by omega) (ix1 (i 1))
    have r2 := rowAt_apply (F := Ideal) (atTrip fwdCond fwdBody (entry₀ m) 2048 c (Proc.devRef .tc main_v9_12)) (2047 - k) (by omega) (ix1 (i 1))
    replace r1 := r1.trans hs.1
    replace r2 := r2.trans hs.2
    generalize rowAt (F := Ideal) (atTrip fwdCond fwdBody (entry₀ m) 2048 c (Proc.devRef .tc main_v9_11)) (fun _ => BitVec.ofNat 32 (2047 - k)) = y at r1 ⊢
    generalize rowAt (F := Ideal) (atTrip fwdCond fwdBody (entry₀ m) 2048 c (Proc.devRef .tc main_v9_12)) (fun _ => BitVec.ofNat 32 (2047 - k)) = z at r2 ⊢
    beta_reduce at i1 i2 ⊢
    obtain ⟨u', rfl⟩ : ∃ u' : S1x4096.Idx → EReal, u' = u := ⟨u, rfl⟩
    obtain ⟨w', rfl⟩ : ∃ w' : S1x4096.Idx → EReal, w' = w := ⟨w, rfl⟩
    rw [Finset.sum_range_succ]
    generalize (∑ t ∈ Finset.range k, adjoint (conjOf A) C (i 1) (t + 1) * (starRingEnd ℂ) (states A X (i 1) (2047 - t))) = S at i1 i2 ⊢
    constructor
    · show (u' i + oneRow (F := Ideal) (mulf q z) i) + oneRow (F := Ideal) (mulf p y) i = _
      rw [oneRow_apply, oneRow_apply]
      show (u' i + q (ix1 (i 1)) * z (ix1 (i 1))) + p (ix1 (i 1)) * y (ix1 (i 1)) = _
      rw [i1, s1, s2, r1, r2]
      simp only [Complex.add_re, Complex.mul_re, Complex.conj_re, Complex.conj_im]
      rw [← EReal.coe_mul, ← EReal.coe_mul, ← EReal.coe_add, ← EReal.coe_add]
      congr 1
      simp only [ix1]
      ring
    · show (w' i + oneRow (F := Ideal) (mulf q y) i) + oneRow (F := Ideal) (mulf (Host.negf p) z) i = _
      rw [oneRow_apply, oneRow_apply]
      show (w' i + q (ix1 (i 1)) * y (ix1 (i 1))) + (-(p (ix1 (i 1)))) * z (ix1 (i 1)) = _
      rw [i2, s1, s2, r1, r2]
      simp only [Complex.add_im, Complex.mul_im, Complex.conj_re, Complex.conj_im]
      rw [← EReal.coe_neg, ← EReal.coe_mul, ← EReal.coe_mul, ← EReal.coe_add, ← EReal.coe_add]
      congr 1
      simp only [ix1]
      ring

/-- The terms of the coefficient's gradient, last first and first first. -/
theorem sum_eq (l : Fin 4096) :
    ∑ t ∈ Finset.range 2048, adjoint (conjOf A) C l (t + 1) * (starRingEnd ℂ) (states A X l (2047 - t))
      = coefGrad (conjOf A) C (stateArr A X) l := by
  unfold coefGrad
  rw [← Finset.sum_range_reflect]
  refine Finset.sum_congr rfl fun t ht => ?_
  have ht : t < 2048 := Finset.mem_range.mp ht
  rw [show 2048 - 1 - t + 1 = 2048 - t by omega, show 2047 - (2048 - 1 - t) = t by omega]
  by_cases h0 : t = 0
  · subst h0
    rw [if_pos rfl]
    rfl
  · rw [if_neg h0]
    congr 2
    show states A X l t = states A X l ((t - 1) % 2048 + 1)
    rw [show (t - 1) % 2048 + 1 = t by omega]

/-! ## The results -/

/-- The coefficient's gradient as the reference leaves it. -/
theorem exit_coef (hA : Cx (s := S1x4096) (m (c.tc.loc main_arg0)) (m (c.tc.loc main_arg1)) A)
    (hX : Cx (s := S2048x4096) (m (c.tc.loc main_arg2)) (m (c.tc.loc main_arg3)) X)
    (hC : Cx (s := S2048x4096) (m (c.tc.loc main_arg4)) (m (c.tc.loc main_arg5)) C) :
    exit₁ m c (Proc.devRef .tc main_v18_9) = (fun i : S1x4096.Idx => (((coefGrad (conjOf A) C (stateArr A X) (i 1)).re : ℝ) : EReal)) ∧
    exit₁ m c (Proc.devRef .tc main_v18_10) = (fun i : S1x4096.Idx => (((coefGrad (conjOf A) C (stateArr A X) (i 1)).im : ℝ) : EReal)) := by
  unfold exit₁
  rw [revCond_keep _ _ (by decide), revCond_keep _ _ (by decide)]
  have h := (rev_sum m c hA hX hC 2048 le_rfl).congr fun i => sum_eq (A := A) (X := X) (C := C) (i 1)
  exact ⟨funext fun i => (h i).1, funext fun i => (h i).2⟩

/-- The reverse states as the reference leaves them. -/
theorem exit_rows (hA : Cx (s := S1x4096) (m (c.tc.loc main_arg0)) (m (c.tc.loc main_arg1)) A)
    (hC : Cx (s := S2048x4096) (m (c.tc.loc main_arg4)) (m (c.tc.loc main_arg5)) C) :
    exit₁ m c (Proc.devRef .tc main_v18_13) = (fun i : S2048x4096.Idx => (((adjoint (conjOf A) C (i 1) (2048 - (i 0).val)).re : ℝ) : EReal)) ∧
    exit₁ m c (Proc.devRef .tc main_v18_14) = (fun i : S2048x4096.Idx => (((adjoint (conjOf A) C (i 1) (2048 - (i 0).val)).im : ℝ) : EReal)) := by
  unfold exit₁
  rw [revCond_keep _ _ (by decide), revCond_keep _ _ (by decide)]
  have h := fun i => rev_rows m c hA hC 2048 le_rfl i (Nat.zero_le _)
  exact ⟨funext fun i => (h i).1, funext fun i => (h i).2⟩

/-- The reference's run: the gradients of the coefficient and of the recurrence's terms, and the arguments as they were. -/
theorem ref_value (ρ : Dev nD → PrngReg) {A : Dev nD → S1x4096.Idx → ℂ} {X C : Dev nD → S2048x4096.Idx → ℂ}
    (hA : ∀ c : Dev nD, Cx (s := S1x4096) (m (c.tc.loc main_arg0)) (m (c.tc.loc main_arg1)) (A c))
    (hX : ∀ c : Dev nD, Cx (s := S2048x4096) (m (c.tc.loc main_arg2)) (m (c.tc.loc main_arg3)) (X c))
    (hC : ∀ c : Dev nD, Cx (s := S2048x4096) (m (c.tc.loc main_arg4)) (m (c.tc.loc main_arg5)) (C c)) :
    θ_run (defs (F := Ideal)) (onTc (τ := τ) (main (F := Ideal))) ⟨m, fun _ => 0, ρ⟩ (fun r => ∀ c : Dev nD,
      r.2.mem (c.tc.loc main_v18_9) = (fun i : S1x4096.Idx => (((coefGrad (conjOf (A c)) (C c) (stateArr (A c) (X c)) (i 1)).re : ℝ) : EReal)) ∧
      r.2.mem (c.tc.loc main_v18_10) = (fun i : S1x4096.Idx => (((coefGrad (conjOf (A c)) (C c) (stateArr (A c) (X c)) (i 1)).im : ℝ) : EReal)) ∧
      r.2.mem (c.tc.loc main_v18_13) = (fun i : S2048x4096.Idx => (((adjoint (conjOf (A c)) (C c) (i 1) (2048 - (i 0).val)).re : ℝ) : EReal)) ∧
      r.2.mem (c.tc.loc main_v18_14) = (fun i : S2048x4096.Idx => (((adjoint (conjOf (A c)) (C c) (i 1) (2048 - (i 0).val)).im : ℝ) : EReal))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) := by
  refine (θ_run defs _ _).mono (fun r hr c => ?_) (ref_run m ρ)
  have b1 := hr.1 c _ (devRef_mem_ucRefs main_v18_9 (by decide))
  have b2 := hr.1 c _ (devRef_mem_ucRefs main_v18_10 (by decide))
  have b3 := hr.1 c _ (devRef_mem_ucRefs main_v18_13 (by decide))
  have b4 := hr.1 c _ (devRef_mem_ucRefs main_v18_14 (by decide))
  have e := exit_coef m c (hA c) (hX c) (hC c)
  have e' := exit_rows m c (hA c) (hC c)
  have key : ∀ x : Ref sig .tc, x ∈ [main_arg0, main_arg1, main_arg2, main_arg3, main_arg4, main_arg5] → r.2.mem (c.tc.loc x) = m (c.tc.loc x) := by
    intro x hx
    refine (hr.1 c _ (devRef_mem_ucRefs x ?_)).trans (exit₁_keep m c x ?_ ?_ ?_ ?_ ?_) <;> clear hr b1 b2 b3 b4 e e' <;> revert x <;> decide +kernel
  exact ⟨b1.trans e.1, b2.trans e.2, b3.trans e'.1, b4.trans e'.2, key _ (by decide), key _ (by decide), key _ (by decide), key _ (by decide), key _ (by decide), key _ (by decide)⟩

end Cert.Ref

end
-- ==== Proof.Finite.lean ====
module

public import proofs.«01_k».proof.Defs
public import proofs.«01_k».proof.Proof.Cx
public import Idealize.ShloMosaic.Lib.IdealHost

@[expose] public section

set_option maxRecDepth 16384

noncomputable section

/-! What the precondition says: every entry is a real number. -/

namespace Cert.Scan

open Idealize.ShloMosaic Idealize.ShloMosaic.Tactic

/-- The precondition's side conditions. -/
theorem preFacts : Cert.Pre_finite.Facts := by
  constructor <;> decide

/-- An entry whose absolute value lies below infinity is a real number. -/
theorem finite_entry {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) (i : s.Idx) :
    x i = (((x i : EReal).toReal : ℝ) : EReal) := by
  have h1 := congrFun h i
  have htop : Ideal.ofBits .f32 0x7F800000#32 = ⊤ := by simp [Ideal.ofBits, Ideal.ieee]
  have e : broadcastInDim s ![] hb (constant (F := Ideal) ⟨0, ![]⟩ .f32 0x7F800000#32) i = (⊤ : EReal) :=
    (ValueIdx.broadcastInDim_scalar_apply _ _ _).trans htop
  change Ideal.cmp .olt (max (x i : EReal) (-(x i : EReal))) (broadcastInDim s ![] hb (constant (F := Ideal) ⟨0, ![]⟩ .f32 0x7F800000#32) i) = 1#1 at h1
  rw [e] at h1
  have hlt : max (x i : EReal) (-(x i : EReal)) < ⊤ := by
    by_contra hn
    simp [Ideal.cmp, hn] at h1
  rw [max_lt_iff] at hlt
  refine (EReal.coe_toReal (ne_of_lt hlt.1) fun hbot => ?_).symm
  rw [hbot] at hlt
  exact absurd hlt.2 (by simp)

/-- Two arrays of real numbers as one array of complex numbers. -/
abbrev pack {s : Shape} (x y : FVec Ideal s .f32) : s.Idx → ℂ := fun i => ⟨(x i : EReal).toReal, (y i : EReal).toReal⟩

theorem pack_cx {s : Shape} (x y : FVec Ideal s .f32) (hx : ∀ i, x i = (((x i : EReal).toReal : ℝ) : EReal)) (hy : ∀ i, y i = (((y i : EReal).toReal : ℝ) : EReal)) :
    Cx x y (pack x y) := fun i => ⟨hx i, hy i⟩

end Cert.Scan

end
-- ==== Proof.Blocks.lean ====
/- Sums taken block by block: a running sum over four points, and a sum over a width cut into four blocks. Also what the
modules on single products share. -/
module

public import Mathlib.Data.EReal.Operations
public import Mathlib.Algebra.BigOperators.Fin
public import Mathlib.Algebra.BigOperators.Intervals
public import Idealize.ShloMosaic.Lib.Pointwise

@[expose] public section

namespace Cert.Blocks

/-- A value that restarts at every fourth point and otherwise adds its point's part to what the point before left is the
    sum of the parts since the restart. -/
theorem run_sum (N : ℕ) (f : (n : ℕ) → n < N → EReal) (p : ℕ → EReal) (h0 : ∀ n (hn : n < N), n % 4 = 0 → f n hn = p n)
    (hs : ∀ n (hn : n < N), ¬n % 4 = 0 → f n hn = f (n - 1) (Nat.lt_of_le_of_lt (Nat.sub_le n 1) hn) + p n) :
    ∀ n (hn : n < N), f n hn = ∑ j ∈ Finset.range (n % 4 + 1), p (4 * (n / 4) + j) := by
  intro n
  induction n with
  | zero => intro hn; rw [h0 0 hn rfl]; simp
  | succ n ih =>
    intro hn
    by_cases h : (n + 1) % 4 = 0
    · rw [h0 _ hn h, h, Finset.sum_range_one]
      congr 1; omega
    · rw [hs _ hn h, Finset.sum_range_succ, show 4 * ((n + 1) / 4) + (n + 1) % 4 = n + 1 by omega,
        show (n + 1) % 4 = n % 4 + 1 by omega, show (n + 1) / 4 = n / 4 by omega]
      congr 1
      exact ih _

/-- Four block sums together are the sum over the whole width. -/
theorem sum_blocks (n B : ℕ) (h : n = 4 * B) (f : Fin n → EReal) (p : ℕ → EReal)
    (hp : ∀ j (hj : j < 4), p j = ∑ k : Fin B, f ⟨B * j + k.val, by subst h; have := k.isLt; nlinarith⟩) :
    ∑ j ∈ Finset.range 4, p j = ∑ q : Fin n, f q := by
  subst h
  rw [Finset.sum_range, Finset.sum_congr rfl fun (j : Fin 4) _ => hp j.val j.isLt, ← Fintype.sum_prod_type']
  refine Fintype.sum_equiv finProdFinEquiv _ _ fun x => ?_
  congr 1
  apply Fin.ext
  show B * x.1.val + x.2.val = x.2.val + B * x.1.val
  exact add_comm _ _

theorem hz2 : (![0, 0] : Fin 2 → Nat) = fun _ => 0 := funext fun a => by fin_cases a <;> rfl
theorem hz3 : (![0, 0, 0] : Fin 3 → Nat) = fun _ => 0 := funext fun a => by fin_cases a <;> rfl

/-- An array read at two indices with the same coordinates. -/
theorem at_eq {S : Idealize.ShloMosaic.Shape} {α : Type} (f : S.Idx → α) (i j : S.Idx) (h : ∀ a, (i a).val = (j a).val) : f i = f j :=
  congrArg f (funext fun a => Fin.ext (h a))

end Cert.Blocks
-- ==== Proof.MixGwglu.lean ====
/- The gradient of the weight of the mixer's gated linear unit. -/
module

public import proofs.«01_k».proof.Defs
public import proofs.«01_k».proof.Proof.Gen.Kernel14Ideal.Value
public import proofs.«01_k».proof.Proof.Gen.Reference14Ideal.Run
public import proofs.«01_k».proof.Proof.Blocks
public import Idealize.ShloMosaic.Lib.Pipeline.Value
public import Idealize.ShloMosaic.Lib.Pointwise

@[expose] public section

set_option maxRecDepth 16384

noncomputable section

namespace Cert.MixGwglu

open Idealize.ShloMosaic Idealize.ShloMosaic.TcCoe Idealize.SL.Sem
open Cert.Kernel14Ideal Cert.Kernel14Ideal.Gen Cert.Blocks

variable (m : (ℓ : Loc nD τ sig) → Buf (Elt Ideal) ℓ)

/-- The entry of the gradient in row block `j`, row `r` of the block, column `q`. -/
def entry (x : S2048x1024.Idx → EReal) (ct : S2048x1024.Idx → EReal) (j : Fin 4) (r : Fin 256) (q : Fin 1024) : EReal :=
  ∑ k : Fin 2048, x (ix2 k ⟨256 * j.val + r.val, by omega⟩) * ct (ix2 k q)

/-- The body's result at an index: the sum over the tokens of the products of the two blocks' columns. -/
theorem out_apply (x0 : Vec Ideal S2048x256 .bf16) (x1 : Vec Ideal S2048x1024 .bf16) (y : S1x256x1024.Idx) :
    (out0_2 x0 x1 y : EReal) = ∑ k : Fin 2048, (x0 (ix2 k (y 1)) : EReal) * x1 (ix2 k (y 2)) := by
  unfold out0_2
  rw [View.canon_unit_zero hz3, View.ld_unit_zero (S := S2048x256) hz2, View.ld_unit_zero (S := S2048x1024) hz2]
  pointwise [k0_pay1]

/-- Where the blocks of grid point `t` lie: point `t` computes row block `t`. -/
theorem index_facts : ∀ t : Fin grid0.N, win0_0.index t 0 = 0 ∧ win0_0.index t 1 = t.val
    ∧ win0_1.index t 0 = 0 ∧ win0_1.index t 1 = 0
    ∧ win0_2.index t 0 = t.val ∧ win0_2.index t 1 = 0 ∧ win0_2.index t 2 = 0 := by decide +kernel

/-- The first operand's block at an index. -/
theorem x_block (c : Dev nD) (t : Fin cfg0.N) (y : S2048x256.Idx) (i : S2048x1024.Idx)
    (h0 : (i 0 : Nat) = y 0) (h1 : (i 1 : Nat) = 256 * t.val + y 1) :
    (iblk m c 0 t : Vec Ideal S2048x256 .bf16) y = m ((c.tc : Thread nD τ).loc main_arg0) i := by
  obtain ⟨e0, e1, -⟩ := index_facts t
  exact at_eq (S := S2048x1024) (m ((c.tc : Thread nD τ).loc main_arg0)) (((cfg0.win 0).blk t).view.emb y) i fun a => match a with
    | ⟨0, _⟩ => by show win0_0.index t 0 * 2048 + 1 * (y 0).val = (i 0).val; rw [e0, h0]; omega
    | ⟨1, _⟩ => by show win0_0.index t 1 * 256 + 1 * (y 1).val = (i 1).val; rw [e1, h1]; omega

/-- The second operand's block at an index. -/
theorem ct_block (c : Dev nD) (t : Fin cfg0.N) (y : S2048x1024.Idx) (i : S2048x1024.Idx)
    (h0 : (i 0 : Nat) = y 0) (h1 : (i 1 : Nat) = y 1) :
    (iblk m c 1 t : Vec Ideal S2048x1024 .bf16) y = m ((c.tc : Thread nD τ).loc main_arg1) i := by
  obtain ⟨-, -, e0, e1, -⟩ := index_facts t
  exact at_eq (S := S2048x1024) (m ((c.tc : Thread nD τ).loc main_arg1)) (((cfg0.win 1).blk t).view.emb y) i fun a => match a with
    | ⟨0, _⟩ => by show win0_1.index t 0 * 2048 + 1 * (y 0).val = (i 0).val; rw [e0, h0]; omega
    | ⟨1, _⟩ => by show win0_1.index t 1 * 1024 + 1 * (y 1).val = (i 1).val; rw [e1, h1]; omega

/-- The gradient as an array of row blocks. -/
def grad (x : S2048x1024.Idx → EReal) (ct : S2048x1024.Idx → EReal) : S4x256x1024.Idx → EReal :=
  fun i => entry x ct (i 0) (i 1) (i 2)

/-- What the kernel's result array holds after the run. -/
abbrev result (c : Dev nD) : Buf (Elt Ideal) ((c.tc : Thread nD τ).loc main_v0) :=
  grad (m ((c.tc : Thread nD τ).loc main_arg0)) (m ((c.tc : Thread nD τ).loc main_arg1))

/-- Point `t` writes back block `t` of the gradient. -/
theorem flushed_eq (c : Dev nD) (t : Fin cfg0.N) :
    (dats m 0 c).flushed 2 t = ((cfg0.win 2).blk t).view.read (Elt Ideal) (result m c) := by
  obtain ⟨-, -, -, -, e0, e1, e2⟩ := index_facts t
  have hN : t.val < 4 := t.isLt
  rw [Value.flushed2]
  funext y
  rw [View.read_apply]
  show (out0_2 (iblk m c 0 t) (iblk m c 1 t) y : EReal) = grad _ _ (((cfg0.win 2).blk t).view.emb y)
  refine (out_apply _ _ y).trans ?_
  have hy0 : (y 0 : Nat) < 1 := (y 0).isLt
  have hy1 : (y 1 : Nat) < 256 := (y 1).isLt
  have hy2 : (y 2 : Nat) < 1024 := (y 2).isLt
  have v0 : (((cfg0.win 2).blk t).view.emb y 0 : Nat) = t.val := by
    show win0_2.index t 0 * 1 + 1 * (y 0).val = _; rw [e0]; omega
  have v1 : (((cfg0.win 2).blk t).view.emb y 1 : Nat) = y 1 := by
    show win0_2.index t 1 * 256 + 1 * (y 1).val = _; rw [e1]; omega
  have v2 : (((cfg0.win 2).blk t).view.emb y 2 : Nat) = y 2 := by
    show win0_2.index t 2 * 1024 + 1 * (y 2).val = _; rw [e2]; omega
  unfold grad entry
  refine Finset.sum_congr rfl fun k _ => ?_
  rw [x_block m c t (ix2 k (y 1)) (ix2 k ⟨256 * (((cfg0.win 2).blk t).view.emb y 0 : Nat) + (((cfg0.win 2).blk t).view.emb y 1 : Nat), by omega⟩) rfl
      (by show 256 * (((cfg0.win 2).blk t).view.emb y 0 : Nat) + (((cfg0.win 2).blk t).view.emb y 1 : Nat) = 256 * t.val + (y 1 : Nat)
          rw [v0, v1]),
    ct_block m c t (ix2 k (y 2)) (ix2 k (((cfg0.win 2).blk t).view.emb y 2)) rfl v2]

/-- Every index of the result lies in some point's block. -/
theorem covered (c : Dev nD) (i : ((cfg0.win 2).arr.view.loc (c.tc : Thread nD τ)).2.ty.Idx) : ∃ t : Fin cfg0.N, (cfg0.win 2).flush t = true ∧ i ∈ ((cfg0.win 2).blk t).view.set := by
  have h0 : (i 0 : Nat) < 4 := (i 0).isLt
  have h1 : (i 1 : Nat) < 256 := (i 1).isLt
  have h2 : (i 2 : Nat) < 1024 := (i 2).isLt
  have hN : cfg0.N = 4 := N_0
  obtain ⟨t, ht⟩ : ∃ t : Fin cfg0.N, t.val = (i 0).val := ⟨⟨_, by omega⟩, rfl⟩
  refine ⟨t, flush0_2 t, ?_⟩
  obtain ⟨-, -, -, -, e0, e1, e2⟩ := index_facts t
  show i ∈ ((View.whole main_v0).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [e0]; omega
  | ⟨1, _⟩ => show win0_2.index t 1 * 256 ≤ (i 1 : Nat) ∧ (i 1 : Nat) < win0_2.index t 1 * 256 + 256
              rw [e1]; omega
  | ⟨2, _⟩ => show win0_2.index t 2 * 1024 ≤ (i 2 : Nat) ∧ (i 2 : Nat) < win0_2.index t 2 * 1024 + 1024
              rw [e2]; omega

/-- So the result array holds the gradient. -/
theorem final_eq (c : Dev nD) : (dats m 0 c).arrAt 2 cfg0.N = result m c :=
  (dats m 0 c).arrAt_eq_of_cover 2 (result m c) (fun t _ => flushed_eq m c t) (covered c)

/-- The reference's term read at an index. -/
theorem ref_entry (x ct : Vec Ideal S2048x1024 .bf16) (h : FTy.bits .bf16 < FTy.bits .f32)
    (h1 : Cert.Reference14Ideal.S1024x1024.Transposes [1, 0] Cert.Reference14Ideal.S1024x1024) (hs : Cert.Reference14Ideal.S1024x1024.ShapeCasts S4x256x1024) (i : S4x256x1024.Idx) :
    truncf .bf16 (shapeCast S4x256x1024 (transpose Cert.Reference14Ideal.S1024x1024 [1, 0]
      (Host.dotGeneral (F := Ideal) Cert.Reference14Ideal.dot_S2048x1024_S2048x1024_S1024x1024_0_0_1_1_n_n none (extf .f32 ct h) (extf .f32 x h)) h1) hs) h i
      = grad x ct i := by
  unfold grad entry
  pointwise []
  refine Finset.sum_congr rfl fun k _ => (mul_comm _ _).trans ?_
  simp only [Nat.mul_comm 256]

/-- The idealized kernel and the idealized reference leave the same gradient. -/
theorem value : Cert.algebraic_Kernel14Ideal_Reference14Ideal (hKernel14Ideal := Cert.Kernel14Ideal.Gen.facts)
    (hReference14Ideal := Cert.Reference14Ideal.Gen.facts) := by
  intro m g m' g' _ hargs
  refine ⟨fun c => result m c, ?_, ?_⟩
  · exact (θ_run _ _ _).mono (fun r h c => ⟨(h c).1.trans (final_eq m c), (h c).2⟩) (Value.run_blocks m g)
  · refine (θ_run _ _ _).mono (fun r h c => ⟨(h c).1.trans ?_, (h c).2⟩) (Cert.Reference14Ideal.Value.run (F := Ideal) m' g')
    rw [(hargs c).1, (hargs c).2]
    funext i
    exact ref_entry _ _ _ _ _ i

end Cert.MixGwglu

end
-- ==== Proof.ConvGrad.lean ====
/- The gradients of the two factors before the causal convolution. The kernel rotates a block with the first rows of the
block after it laid below; of the last block those rows count as zero. -/
module

public import proofs.«01_k».proof.Defs
public import proofs.«01_k».proof.Proof.Gen.Kernel15Ideal.Value
public import proofs.«01_k».proof.Proof.Gen.Reference15Ideal.Run
public import proofs.«01_k».proof.Proof.Blocks
public import Idealize.ShloMosaic.Lib.Pipeline.Value
public import Idealize.ShloMosaic.Lib.KernelVsHost
public import Idealize.ShloMosaic.Lib.Pointwise

@[expose] public section

set_option maxRecDepth 16384

noncomputable section

namespace Cert.ConvGrad

open Idealize.ShloMosaic Idealize.ShloMosaic.TcCoe Idealize.SL.Sem
open Cert.Kernel15Ideal Cert.Kernel15Ideal.Gen Cert.Blocks

variable (m : (ℓ : Loc nD τ sig) → Buf (Elt Ideal) ℓ)

/-- A row of an array, zero past its end. -/
def row (x : S2048x1024.Idx → EReal) (r : ℕ) (q : Fin 1024) : EReal := if h : r < 2048 then x (ix2 ⟨r, h⟩ q) else 0

/-- The cotangent of what enters the convolution: each row gathers from itself and the two rows after it. -/
def back (x : S2048x1024.Idx → EReal) (w : S3x1024.Idx → EReal) (r : ℕ) (q : Fin 1024) : EReal :=
  w (ix2 2 q) * row x r q + w (ix2 1 q) * row x (r + 1) q + w (ix2 0 q) * row x (r + 2) q

/-- The factor on the rows below a block, as the kernel computes it from the grid point. -/
def live (i : grid0.Coords) : EReal :=
  (((Scalar.extui (Scalar.cmpi CmpIPredicate.slt (BitVec.ofNat 32 (i 0).val) 7#32) : BitVec 32).toInt : ℝ) : EReal)

/-- Row `k` of a block with the rows below it. -/
def ext (i : grid0.Coords) (v0 : S256x1024.Idx → EReal) (v4 : S8x1024.Idx → EReal) (k : ℕ) (q : Fin 1024) : EReal :=
  if h : k < 256 then v0 (ix2 ⟨k, h⟩ q) else if h' : k - 256 < 8 then v4 (ix2 ⟨k - 256, h'⟩ q) * live i else 0

/-- The cotangent the body computes at an index. -/
def body (i : grid0.Coords) (v0 : S256x1024.Idx → EReal) (v3 : S3x1024.Idx → EReal) (v4 : S8x1024.Idx → EReal) (y : S256x1024.Idx) : EReal :=
  v3 (ix2 2 (y 1)) * ext i v0 v4 (y 0).val (y 1) + v3 (ix2 1 (y 1)) * ext i v0 v4 ((y 0).val + 1) (y 1)
    + v3 (ix2 0 (y 1)) * ext i v0 v4 ((y 0).val + 2) (y 1)

/-- A rotated read of a block with the rows below it. -/
theorem ext_rot (i : grid0.Coords) (v0 : S256x1024.Idx → EReal) (v4 : S8x1024.Idx → EReal) (n k : ℕ) (q : Fin 1024) (hn : n = k) (hk : k < 264)
    (h1 : n < 256 → n < 256) (h2 : ¬n < 256 → n - 256 < 8) :
    (if h : n < 256 then v0 (ix2 ⟨n, h1 h⟩ q) else v4 (ix2 ⟨n - 256, h2 h⟩ q) * live i) = ext i v0 v4 k q := by
  subst hn
  unfold ext
  split
  · rfl
  · next h => rw [dif_pos (h2 h)]

theorem pay_apply (i : grid0.Coords) (v0 : Vec Ideal S256x1024 .f32) (v3 : Vec Ideal S3x1024 .f32) (v4 : Vec Ideal S8x1024 .f32) (y : S256x1024.Idx) :
    (k0_pay1 i v0 v3 v4 y : EReal) = body i v0 v3 v4 y := by
  have hy : (y 0 : Nat) < 256 := (y 0).isLt
  have e0 : ext i v0 v4 (y 0).val (y 1) = v0 y := by
    unfold ext
    rw [dif_pos hy]
    exact at_eq _ _ _ fun a => by match a with
      | ⟨0, _⟩ => rfl
      | ⟨1, _⟩ => rfl
  unfold body
  rw [e0, ← ext_rot i v0 v4 (((y 0).val + 264 - 263) % 264) ((y 0).val + 1) (y 1) (by omega) (by omega) id (by omega),
    ← ext_rot i v0 v4 (((y 0).val + 264 - 262) % 264) ((y 0).val + 2) (y 1) (by omega) (by omega) id (by omega)]
  unfold live
  clear e0
  pointwise [k0_pay1]

/-- The body's first result at an index, -/
theorem out5_apply (i : grid0.Coords) (x0 x1 x2 : Vec Ideal S256x1024 .f32) (x3 : Vec Ideal S3x1024 .f32) (x4 : Vec Ideal S8x1024 .f32) (y : S256x1024.Idx) :
    (out0_5 i x0 x1 x2 x3 x4 y : EReal) = body i x0 x3 x4 y * x2 y := by
  unfold out0_5
  rw [View.canon_unit_zero hz2, View.ld_unit_zero (S := S256x1024) hz2, View.ld_unit_zero (S := S256x1024) hz2,
    View.ld_unit_zero (S := S3x1024) hz2, View.ld_unit_zero (S := S8x1024) hz2, ← pay_apply]
  rfl

/-- and its second. -/
theorem out6_apply (i : grid0.Coords) (x0 x1 x2 : Vec Ideal S256x1024 .f32) (x3 : Vec Ideal S3x1024 .f32) (x4 : Vec Ideal S8x1024 .f32) (y : S256x1024.Idx) :
    (out0_6 i x0 x1 x2 x3 x4 y : EReal) = body i x0 x3 x4 y * x1 y := by
  unfold out0_6
  rw [View.canon_unit_zero hz2, View.ld_unit_zero (S := S256x1024) hz2, View.ld_unit_zero (S := S256x1024) hz2,
    View.ld_unit_zero (S := S3x1024) hz2, View.ld_unit_zero (S := S8x1024) hz2, ← pay_apply]
  rfl

/-- Where the blocks of grid point `t` lie. -/
theorem index_facts : ∀ t : Fin grid0.N, (win0_0.index t 0 = t.val ∧ win0_0.index t 1 = 0)
    ∧ (win0_1.index t 0 = t.val ∧ win0_1.index t 1 = 2) ∧ (win0_2.index t 0 = t.val ∧ win0_2.index t 1 = 3)
    ∧ (win0_3.index t 0 = 0 ∧ win0_3.index t 1 = 0) ∧ (win0_4.index t 0 = min ((t.val + 1) * 32) 255 ∧ win0_4.index t 1 = 0)
    ∧ (win0_5.index t 0 = t.val ∧ win0_5.index t 1 = 0) ∧ (win0_6.index t 0 = t.val ∧ win0_6.index t 1 = 0) := by decide +kernel

/-- The rows below count at every point but the last. -/
theorem live_facts : ∀ t : Fin grid0.N,
    (Scalar.extui (Scalar.cmpi CmpIPredicate.slt (BitVec.ofNat 32 (grid0.coords t 0).val) 7#32) : BitVec 32).toInt = if t.val < 7 then 1 else 0 := by
  decide +kernel

/-- The cotangent's block at an index. -/
theorem dc_block (c : Dev nD) (t : Fin cfg0.N) (y : S256x1024.Idx) (i : S2048x1024.Idx)
    (h0 : (i 0 : Nat) = 256 * t.val + y 0) (h1 : (i 1 : Nat) = y 1) :
    (iblk m c 0 t : Vec Ideal S256x1024 .f32) y = m ((c.tc : Thread nD τ).loc main_arg0) i := by
  obtain ⟨⟨e0, e1⟩, -⟩ := index_facts t
  unfold iblk
  rw [View.read_apply]
  show V m c main_arg0 _ = m ((c.tc : Thread nD τ).loc main_arg0) _
  unfold V
  refine at_eq _ _ _ fun a => ?_
  match a with
  | ⟨0, _⟩ => show win0_0.index t 0 * 256 + 1 * (y 0).val = (i 0).val; rw [e0, h0]; omega
  | ⟨1, _⟩ => show win0_0.index t 1 * 1024 + 1 * (y 1).val = (i 1).val; rw [e1, h1]; omega

/-- The gate's block at an index. -/
theorem gc_block (c : Dev nD) (t : Fin cfg0.N) (y : S256x1024.Idx) (i : S2048x4096.Idx)
    (h0 : (i 0 : Nat) = 256 * t.val + y 0) (h1 : (i 1 : Nat) = 2048 + y 1) :
    (iblk m c 1 t : Vec Ideal S256x1024 .f32) y = m ((c.tc : Thread nD τ).loc main_arg1) i := by
  obtain ⟨-, ⟨e0, e1⟩, -⟩ := index_facts t
  unfold iblk
  rw [View.read_apply]
  show V m c main_arg1 _ = m ((c.tc : Thread nD τ).loc main_arg1) _
  unfold V
  refine at_eq _ _ _ fun a => ?_
  match a with
  | ⟨0, _⟩ => show win0_1.index t 0 * 256 + 1 * (y 0).val = (i 0).val; rw [e0, h0]; omega
  | ⟨1, _⟩ => show win0_1.index t 1 * 1024 + 1 * (y 1).val = (i 1).val; rw [e1, h1]; omega

/-- The block of the value the gate multiplies at an index. -/
theorem h_block (c : Dev nD) (t : Fin cfg0.N) (y : S256x1024.Idx) (i : S2048x4096.Idx)
    (h0 : (i 0 : Nat) = 256 * t.val + y 0) (h1 : (i 1 : Nat) = 3072 + y 1) :
    (iblk m c 2 t : Vec Ideal S256x1024 .f32) y = m ((c.tc : Thread nD τ).loc main_arg1) i := by
  obtain ⟨-, -, ⟨e0, e1⟩, -⟩ := index_facts t
  unfold iblk
  rw [View.read_apply]
  show V m c main_arg1 _ = m ((c.tc : Thread nD τ).loc main_arg1) _
  unfold V
  refine at_eq _ _ _ fun a => ?_
  match a with
  | ⟨0, _⟩ => show win0_2.index t 0 * 256 + 1 * (y 0).val = (i 0).val; rw [e0, h0]; omega
  | ⟨1, _⟩ => show win0_2.index t 1 * 1024 + 1 * (y 1).val = (i 1).val; rw [e1, h1]; omega

/-- The taps' block at an index. -/
theorem w_block (c : Dev nD) (t : Fin cfg0.N) (y i : S3x1024.Idx) (h0 : (i 0 : Nat) = y 0) (h1 : (i 1 : Nat) = y 1) :
    (iblk m c 3 t : Vec Ideal S3x1024 .f32) y = m ((c.tc : Thread nD τ).loc main_arg2) i := by
  obtain ⟨-, -, -, ⟨e0, e1⟩, -⟩ := index_facts t
  unfold iblk
  rw [View.read_apply]
  show V m c main_arg2 _ = m ((c.tc : Thread nD τ).loc main_arg2) _
  unfold V
  refine at_eq _ _ _ fun a => ?_
  match a with
  | ⟨0, _⟩ => show win0_3.index t 0 * 3 + 1 * (y 0).val = (i 0).val; rw [e0, h0]; omega
  | ⟨1, _⟩ => show win0_3.index t 1 * 1024 + 1 * (y 1).val = (i 1).val; rw [e1, h1]; omega

/-- The block of the rows below at an index. -/
theorem halo_block (c : Dev nD) (t : Fin cfg0.N) (y : S8x1024.Idx) (i : S2048x1024.Idx)
    (h0 : (i 0 : Nat) = 8 * min ((t.val + 1) * 32) 255 + y 0) (h1 : (i 1 : Nat) = y 1) :
    (iblk m c 4 t : Vec Ideal S8x1024 .f32) y = m ((c.tc : Thread nD τ).loc main_arg0) i := by
  obtain ⟨-, -, -, -, ⟨e0, e1⟩, -⟩ := index_facts t
  unfold iblk
  rw [View.read_apply]
  show V m c main_arg0 _ = m ((c.tc : Thread nD τ).loc main_arg0) _
  unfold V
  refine at_eq _ _ _ fun a => ?_
  match a with
  | ⟨0, _⟩ => show win0_4.index t 0 * 8 + 1 * (y 0).val = (i 0).val; rw [e0, h0]; omega
  | ⟨1, _⟩ => show win0_4.index t 1 * 1024 + 1 * (y 1).val = (i 1).val; rw [e1, h1]; omega

/-- A row of a block with the rows below it is a row of the cotangent. -/
theorem ext_at (c : Dev nD) (t : Fin cfg0.N) (k : ℕ) (hk : k < 264) (q : Fin 1024) :
    ext (grid0.coords t) (iblk m c 0 t) (iblk m c 4 t) k q = row (m ((c.tc : Thread nD τ).loc main_arg0)) (256 * t.val + k) q := by
  have hN : t.val < 8 := t.isLt
  unfold ext row
  by_cases h : k < 256
  · rw [dif_pos h, dif_pos (show 256 * t.val + k < 2048 by omega)]
    exact dc_block m c t _ _ rfl rfl
  · rw [dif_neg h, dif_pos (show k - 256 < 8 by omega)]
    unfold live
    rw [live_facts t]
    by_cases ht : t.val < 7
    · rw [if_pos ht, dif_pos (show 256 * t.val + k < 2048 by omega), Int.cast_one, EReal.coe_one, mul_one]
      exact halo_block m c t _ _ (by show 256 * t.val + k = 8 * min ((t.val + 1) * 32) 255 + (k - 256); omega) rfl
    · rw [if_neg ht, dif_neg (show ¬256 * t.val + k < 2048 by omega), Int.cast_zero, EReal.coe_zero, mul_zero]

/-- The body's cotangent at point `t` is the reference's at the index where the block's entry lies. -/
theorem body_at (c : Dev nD) (t : Fin cfg0.N) (y : S256x1024.Idx) (r : ℕ) (q : Fin 1024) (h0 : r = 256 * t.val + (y 0).val) (h1 : q.val = (y 1).val) :
    body (grid0.coords t) (iblk m c 0 t) (iblk m c 3 t) (iblk m c 4 t) y
      = back (m ((c.tc : Thread nD τ).loc main_arg0)) (m ((c.tc : Thread nD τ).loc main_arg2)) r q := by
  have hy : (y 0 : Nat) < 256 := (y 0).isLt
  obtain rfl : q = y 1 := Fin.ext h1
  unfold body back
  refine congrArg₂ (fun a b : EReal => a + b) (congrArg₂ (fun a b : EReal => a + b)
    (congrArg₂ (fun a b : EReal => a * b) (w_block m c t _ _ rfl rfl) ((ext_at m c t _ (by omega) _).trans ?_))
    (congrArg₂ (fun a b : EReal => a * b) (w_block m c t _ _ rfl rfl) ((ext_at m c t _ (by omega) _).trans ?_)))
    (congrArg₂ (fun a b : EReal => a * b) (w_block m c t _ _ rfl rfl) ((ext_at m c t _ (by omega) _).trans ?_))
  all_goals rw [h0]
  · rw [add_assoc]
  · rw [add_assoc]

/-- The gradient of the gate of the launched arrays. -/
abbrev dgc (c : Dev nD) : S2048x1024.Idx → EReal := fun i =>
  back (m ((c.tc : Thread nD τ).loc main_arg0)) (m ((c.tc : Thread nD τ).loc main_arg2)) (i 0).val (i 1)
    * (m ((c.tc : Thread nD τ).loc main_arg1) (ix2 (i 0) ⟨3072 + (i 1).val, by have h : (i 1 : Nat) < 1024 := (i 1).isLt; omega⟩) : EReal)

/-- The gradient of the value the gate multiplies. -/
abbrev dh (c : Dev nD) : S2048x1024.Idx → EReal := fun i =>
  back (m ((c.tc : Thread nD τ).loc main_arg0)) (m ((c.tc : Thread nD τ).loc main_arg2)) (i 0).val (i 1)
    * (m ((c.tc : Thread nD τ).loc main_arg1) (ix2 (i 0) ⟨2048 + (i 1).val, by have h : (i 1 : Nat) < 1024 := (i 1).isLt; omega⟩) : EReal)

/-- Point `t` writes back block `t` of the gradient of the gate, -/
theorem flushed5_eq (c : Dev nD) (t : Fin cfg0.N) :
    (dats m 0 c).flushed 5 t = ((cfg0.win 5).blk t).view.read (Elt Ideal) (dgc m c) := by
  obtain ⟨-, -, -, -, -, ⟨e0, e1⟩, -⟩ := index_facts t
  rw [Value.flushed5]
  funext y
  rw [View.read_apply]
  have h0 : (((cfg0.win 5).blk t).view.emb y 0 : Nat) = 256 * t.val + (y 0).val := by
    show win0_5.index t 0 * 256 + 1 * (y 0).val = 256 * t.val + (y 0).val; rw [e0]; omega
  have h1 : (((cfg0.win 5).blk t).view.emb y 1 : Nat) = (y 1).val := by
    show win0_5.index t 1 * 1024 + 1 * (y 1).val = (y 1).val; rw [e1]; omega
  refine (out5_apply _ _ _ _ _ _ y).trans ?_
  exact congrArg₂ (· * ·) (body_at m c t y _ _ h0 h1) (h_block m c t y _ h0 (congrArg (3072 + ·) h1))

/-- and of the gradient of the value. -/
theorem flushed6_eq (c : Dev nD) (t : Fin cfg0.N) :
    (dats m 0 c).flushed 6 t = ((cfg0.win 6).blk t).view.read (Elt Ideal) (dh m c) := by
  obtain ⟨-, -, -, -, -, -, ⟨e0, e1⟩⟩ := index_facts t
  rw [Value.flushed6]
  funext y
  rw [View.read_apply]
  have h0 : (((cfg0.win 6).blk t).view.emb y 0 : Nat) = 256 * t.val + (y 0).val := by
    show win0_6.index t 0 * 256 + 1 * (y 0).val = 256 * t.val + (y 0).val; rw [e0]; omega
  have h1 : (((cfg0.win 6).blk t).view.emb y 1 : Nat) = (y 1).val := by
    show win0_6.index t 1 * 1024 + 1 * (y 1).val = (y 1).val; rw [e1]; omega
  refine (out6_apply _ _ _ _ _ _ y).trans ?_
  exact congrArg₂ (· * ·) (body_at m c t y _ _ h0 h1) (gc_block m c t y _ h0 (congrArg (2048 + ·) h1))

/-- Every index of the first gradient lies in some point's block, -/
theorem covered5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2048 := (i 0).isLt
  have h1 : (i 1 : Nat) < 1024 := (i 1).isLt
  have hN : cfg0.N = 8 := N_0
  have ht : (i 0 : Nat) / 256 < cfg0.N := by omega
  obtain ⟨-, -, -, -, -, ⟨e0, e1⟩, -⟩ := index_facts ⟨(i 0 : Nat) / 256, ht⟩
  refine ⟨⟨(i 0 : Nat) / 256, ht⟩, flush0_5 _, ?_⟩
  show i ∈ ((View.whole main_v0_0).slice (win0_5.rect ⟨(i 0 : Nat) / 256, ht⟩)).set
  rw [View.set_slice_whole, Rect.mem_set_unit]
  intro a
  match a with
  | ⟨0, _⟩ => show win0_5.index ⟨(i 0 : Nat) / 256, ht⟩ 0 * 256 ≤ (i 0 : Nat) ∧ (i 0 : Nat) < win0_5.index ⟨(i 0 : Nat) / 256, ht⟩ 0 * 256 + 256
              rw [e0]; dsimp only; omega
  | ⟨1, _⟩ => show win0_5.index ⟨(i 0 : Nat) / 256, ht⟩ 1 * 1024 ≤ (i 1 : Nat) ∧ (i 1 : Nat) < win0_5.index ⟨(i 0 : Nat) / 256, ht⟩ 1 * 1024 + 1024
              rw [e1]; omega

/-- and of the second. -/
theorem covered6 (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 2048 := (i 0).isLt
  have h1 : (i 1 : Nat) < 1024 := (i 1).isLt
  have hN : cfg0.N = 8 := N_0
  have ht : (i 0 : Nat) / 256 < cfg0.N := by omega
  obtain ⟨-, -, -, -, -, -, ⟨e0, e1⟩⟩ := index_facts ⟨(i 0 : Nat) / 256, ht⟩
  refine ⟨⟨(i 0 : Nat) / 256, ht⟩, flush0_6 _, ?_⟩
  show i ∈ ((View.whole main_v0_1).slice (win0_6.rect ⟨(i 0 : Nat) / 256, ht⟩)).set
  rw [View.set_slice_whole, Rect.mem_set_unit]
  intro a
  match a with
  | ⟨0, _⟩ => show win0_6.index ⟨(i 0 : Nat) / 256, ht⟩ 0 * 256 ≤ (i 0 : Nat) ∧ (i 0 : Nat) < win0_6.index ⟨(i 0 : Nat) / 256, ht⟩ 0 * 256 + 256
              rw [e0]; dsimp only; omega
  | ⟨1, _⟩ => show win0_6.index ⟨(i 0 : Nat) / 256, ht⟩ 1 * 1024 ≤ (i 1 : Nat) ∧ (i 1 : Nat) < win0_6.index ⟨(i 0 : Nat) / 256, ht⟩ 1 * 1024 + 1024
              rw [e1]; omega

/-- A padded product read past the two rows the reference puts in front. -/
theorem pad_row (x : S2048x1024.Idx → EReal) (w : EReal) (r s k : ℕ) (hs : s = r + k) (q : Fin 1024) (a : Prop) [Decidable a] (ha : a ↔ r + k < 2048) (e : a → s < 2048)
    : (if h : a then w * x (ix2 ⟨s, e h⟩ q) else 0) = w * row x (r + k) q := by
  subst hs
  unfold row
  by_cases h : a
  · rw [dif_pos h, dif_pos (ha.mp h)]
  · rw [dif_neg h, dif_neg fun h' => h (ha.mpr h'), mul_zero]

/-- The reference's cotangent of what enters the convolution, read at an index. -/
theorem ref_back (x : Vec Ideal S2048x1024 .f32) (w : Vec Ideal S3x1024 .f32) (b1 b2 s0 s1 s2 c1 c2 p0 p1 p2 hu sl) (i : S2048x1024.Idx) :
    (extractStridedSlice Cert.Reference15Ideal.S2048x1024 ![2, 0] (addf (addf
      (pad Cert.Reference15Ideal.S2050x1024 ![2, 0] ![0, 0] ![0, 0] (mulf (broadcastInDim Cert.Reference15Ideal.S2048x1024 ![0, 1] b1 (broadcastInDim Cert.Reference15Ideal.S1x1024 ![1] b2 (shapeCast Cert.Reference15Ideal.S1024 (extractStridedSlice Cert.Reference15Ideal.S1x1024 ![2, 0] w s2) c1))) (shapeCast Cert.Reference15Ideal.S2048x1024 x c2)) (constant (F := Ideal) Cert.Reference15Ideal.S_ .f32 0x00000000#32) p2 hu)
      (pad Cert.Reference15Ideal.S2050x1024 ![1, 0] ![1, 0] ![0, 0] (mulf (broadcastInDim Cert.Reference15Ideal.S2048x1024 ![0, 1] b1 (broadcastInDim Cert.Reference15Ideal.S1x1024 ![1] b2 (shapeCast Cert.Reference15Ideal.S1024 (extractStridedSlice Cert.Reference15Ideal.S1x1024 ![1, 0] w s1) c1))) (shapeCast Cert.Reference15Ideal.S2048x1024 x c2)) (constant (F := Ideal) Cert.Reference15Ideal.S_ .f32 0x00000000#32) p1 hu))
      (pad Cert.Reference15Ideal.S2050x1024 ![0, 0] ![2, 0] ![0, 0] (mulf (broadcastInDim Cert.Reference15Ideal.S2048x1024 ![0, 1] b1 (broadcastInDim Cert.Reference15Ideal.S1x1024 ![1] b2 (shapeCast Cert.Reference15Ideal.S1024 (extractStridedSlice Cert.Reference15Ideal.S1x1024 ![0, 0] w s0) c1))) (shapeCast Cert.Reference15Ideal.S2048x1024 x c2)) (constant (F := Ideal) Cert.Reference15Ideal.S_ .f32 0x00000000#32) p0 hu)) sl i : EReal)
      = back x w (i 0).val (i 1) := by
  have hi : (i 0 : Nat) < 2048 := (i 0).isLt
  have e0 : row x (i 0).val (i 1) = x i := by
    unfold row
    rw [dif_pos hi]
    exact at_eq _ _ _ fun a => match a with
      | ⟨0, _⟩ => rfl
      | ⟨1, _⟩ => rfl
  unfold back
  rw [e0, ← pad_row x _ (i 0).val (2 + (i 0).val - 1) 1 (by omega) (i 1) (1 ≤ 2 + (i 0).val ∧ 2 + (i 0).val - 1 < 2048) (by omega) (fun h => h.2),
    ← pad_row x _ (i 0).val (2 + (i 0).val) 2 (by omega) (i 1) (2 + (i 0).val < 2048) (by omega) id]
  clear e0
  pointwise []

/-- A block of columns read at an index. -/
theorem slice_at (x : Vec Ideal S2048x4096 .f32) (k : ℕ) (h : S2048x4096.Slices ![0, k] Cert.Reference15Ideal.S2048x1024) (hk : k + 1024 ≤ 4096) (i : S2048x1024.Idx) :
    (extractStridedSlice Cert.Reference15Ideal.S2048x1024 ![0, k] x h i : EReal) = x (ix2 (i 0) ⟨k + (i 1).val, by have h : (i 1 : Nat) < 1024 := (i 1).isLt; omega⟩) := by
  refine at_eq (S := S2048x4096) x _ _ fun a => ?_
  match a with
  | ⟨0, _⟩ => show 0 + (i 0).val = (i 0).val; omega
  | ⟨1, _⟩ => rfl

/-- The idealized kernel and the idealized reference leave the same two gradients. -/
theorem value : Cert.algebraic_Kernel15Ideal_Reference15Ideal (hKernel15Ideal := Cert.Kernel15Ideal.Gen.facts)
    (hReference15Ideal := Cert.Reference15Ideal.Gen.facts) := by
  intro m g m' g' hpre hargs
  refine ⟨fun c => dgc m c, fun c => dh m c, ?_, ?_⟩
  · exact (θ_run _ _ _).mono (fun r h c =>
      ⟨(h c).1.trans ((dats m 0 c).arrAt_eq_of_cover 5 (dgc m c) (fun t _ => flushed5_eq m c t) (covered5 c)),
       (h c).2.1.trans ((dats m 0 c).arrAt_eq_of_cover 6 (dh m c) (fun t _ => flushed6_eq m c t) (covered6 c)),
       (h c).2.2⟩) (Value.run_blocks m g)
  · refine (θ_run _ _ _).mono (fun r h c => ⟨(h c).1.trans ?_, (h c).2.1.trans ?_, (h c).2.2⟩)
      (Cert.Reference15Ideal.Value.run (F := Ideal) m' g')
    · rw [(hargs c).1, (hargs c).2.1, (hargs c).2.2]
      funext i
      refine congrArg₂ (fun a b : EReal => a * b) (ref_back _ _ _ _ _ _ _ _ _ _ _ _ _ _ i) ?_
      exact slice_at _ 3072 _ (by omega) i
    · rw [(hargs c).1, (hargs c).2.1, (hargs c).2.2]
      funext i
      refine (congrArg₂ (fun a b : EReal => a * b) ?_ (ref_back _ _ _ _ _ _ _ _ _ _ _ _ _ _ i)).trans (mul_comm _ _)
      exact slice_at _ 2048 _ (by omega) i

end Cert.ConvGrad

end
-- ==== Proof.Consts.lean ====
/- The constants of the programs as the real numbers they stand for. -/
module

public import Idealize.ShloMosaic.Lib.Pointwise

@[expose] public section

noncomputable section

namespace Cert.Consts

open Idealize.ShloMosaic

/-- The residual's factor, the fourth root of eight. -/
def alpha : EReal := ((Real.sqrt (Real.sqrt 8) : ℝ) : EReal)

/-- The layer norm's addend, a hundred-thousandth. -/
def eps : EReal := ((1 / 100000 : ℝ) : EReal)

theorem ofBits_8 : Ideal.ofBits .f32 0x41000000#32 = ((8 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

/-- The reference's root of the root of eight. -/
theorem host_alpha (S : Shape) (i : S.Idx) :
    (Host.sqrt (Host.sqrt (constant (F := Ideal) S .f32 0x41000000#32)) i : EReal) = alpha := by
  simp only [Host.sqrt, constant, Ideal.hostUnary_sqrt_def, Ideal.ofBits_def, ofBits_8, Ideal.sqrt_coe,
    show ¬(8 : ℝ) < 0 from by norm_num, ↓reduceIte, not_lt.mpr (Real.sqrt_nonneg 8)]
  rfl

/-- The reference's quotient of one by a hundred thousand. -/
theorem host_eps (S : Shape) (i : S.Idx) :
    (Host.divf (constant (F := Ideal) S .f32 0x3F800000#32) (constant S .f32 0x47C35000#32) i : EReal) = eps := by
  simp only [Host.divf, constant, Ideal.hostDivf_def, Ideal.ofBits_def, ofBits_1, ofBits_100000,
    Ideal.div_coe (show (100000 : ℝ) ≠ 0 from by norm_num), ← EReal.coe_mul, eps, one_mul]

end Cert.Consts

end
-- ==== Proof.RmsGrad.lean ====
/- The gradient of the root-mean-square norm of a row of 1024 entries, as the kernels compute it on a block of 256 rows and
as differentiating the reference's lines gives it on the whole array, and that the two agree on real rows. Also a sum over
2048 rows taken in eight blocks. -/
module

public import Idealize.ShloMosaic.Lib.Pointwise
public import Mathlib.Algebra.BigOperators.Intervals
public import proofs.«01_k».proof.Proof.Consts

@[expose] public section

set_option maxRecDepth 16384

noncomputable section

namespace Cert.RmsGrad

open Idealize.ShloMosaic
open Cert.Consts

/-- The norm's addend, a millionth. -/
def eps6 : EReal := ((1 / 1000000 : ℝ) : EReal)

theorem ofBits_1024 : Ideal.ofBits .f32 0x44800000#32 = ((1024 : ℝ) : EReal) := by
  simp [Ideal.ofBits, Ideal.ieee, -EReal.coe_mul]; norm_num

theorem ofBits_mhalf : Ideal.ofBits .f32 0xBF000000#32 = ((-(1 / 2) : ℝ) : EReal) := by
  simp [Ideal.ofBits, Ideal.ieee, -EReal.coe_mul]; norm_num

theorem ofBits_1000000 : Ideal.ofBits .f32 0x49742400#32 = ((1000000 : ℝ) : EReal) := by
  simp [Ideal.ofBits, Ideal.ieee, -EReal.coe_mul]; norm_num

/-- The reference's quotient of one by a million. -/
theorem host_eps6 (S : Shape) (i : S.Idx) :
    (Host.divf (constant (F := Ideal) S .f32 0x3F800000#32) (constant S .f32 0x49742400#32) i : EReal) = eps6 := by
  simp only [Host.divf, constant, Ideal.hostDivf_def, Ideal.ofBits_def, ofBits_1, ofBits_1000000,
    Ideal.div_coe (show (1000000 : ℝ) ≠ 0 from by norm_num), ← EReal.coe_mul, eps6, one_mul]

/-- A row's mean square and the addend, -/
def ms (f : Fin 1024 → EReal) : EReal := Ideal.div (∑ k, f k * f k) (Ideal.ofBits .f32 0x44800000#32) + eps6

/-- its reciprocal root, -/
def rinv (f : Fin 1024 → EReal) : EReal := Ideal.rsqrt (ms f)

/-- the gradient as the kernels write it, of the row and of the cotangent times the gain, -/
def dx (f d : Fin 1024 → EReal) (q : Fin 1024) : EReal :=
  rinv f * d q - f q * (rinv f * rinv f * rinv f) * Ideal.div (∑ k, d k * f k) (Ideal.ofBits .f32 0x44800000#32)

/-- what the derivative of the reciprocal root passes to every square of the row, -/
def sq (f d : Fin 1024 → EReal) : EReal :=
  Ideal.div ((∑ k, f k * d k) * (Ideal.ofBits .f32 0xBF000000#32 * Ideal.div (rinv f) (ms f))) (Ideal.ofBits .f32 0x44800000#32)

/-- and the gradient by the product rule. -/
def hdx (f d : Fin 1024 → EReal) (q : Fin 1024) : EReal := d q * rinv f + f q * sq f d + sq f d * f q

/-- A sum of real numbers is a real number. -/
theorem coe_sum {n : ℕ} (f : Fin n → ℝ) : ((∑ k, f k : ℝ) : EReal) = ∑ k, ((f k : ℝ) : EReal) :=
  map_sum (⟨⟨Real.toEReal, EReal.coe_zero⟩, EReal.coe_add⟩ : ℝ →+ EReal) f Finset.univ

/-- On real rows the two are the same. -/
theorem dx_eq (f d : Fin 1024 → EReal) (hf : ∀ k, f k = (((f k).toReal : ℝ) : EReal)) (hd : ∀ k, d k = (((d k).toReal : ℝ) : EReal)) (q : Fin 1024) :
    dx f d q = hdx f d q := by
  have e1 : (∑ k, f k * f k) = ((∑ k, (f k).toReal * (f k).toReal : ℝ) : EReal) := by
    rw [coe_sum]; exact Finset.sum_congr rfl fun k _ => by rw [EReal.coe_mul, ← hf]
  have e2 : (∑ k, d k * f k) = ((∑ k, (d k).toReal * (f k).toReal : ℝ) : EReal) := by
    rw [coe_sum]; exact Finset.sum_congr rfl fun k _ => by rw [EReal.coe_mul, ← hf, ← hd]
  have e3 : (∑ k, f k * d k) = ((∑ k, (d k).toReal * (f k).toReal : ℝ) : EReal) := by
    rw [← e2]; exact Finset.sum_congr rfl fun k _ => mul_comm _ _
  have hs : (0 : ℝ) ≤ ∑ k, (f k).toReal * (f k).toReal := Finset.sum_nonneg fun k _ => mul_self_nonneg _
  unfold dx hdx sq rinv ms
  rw [e1, e2, e3, hf q, hd q]
  generalize (∑ k, (f k).toReal * (f k).toReal : ℝ) = A at hs
  generalize (∑ k, (d k).toReal * (f k).toReal : ℝ) = T
  generalize (f q).toReal = x
  generalize (d q).toReal = y
  have h1024 : (1024 : ℝ) ≠ 0 := by norm_num
  rw [ofBits_1024, ofBits_mhalf, Ideal.div_coe h1024, Ideal.div_coe h1024, Ideal.div_coe h1024]
  unfold eps6
  simp only [← EReal.coe_mul, ← EReal.coe_add]
  have hv : (0 : ℝ) < A * (1 / 1024) + 1 / 1000000 := by positivity
  generalize A * (1 / 1024) + 1 / 1000000 = v at hv
  rw [Ideal.rsqrt_coe, if_neg (not_lt.mpr hv.le), if_neg hv.ne', Ideal.div_coe hv.ne']
  simp only [← EReal.coe_mul, ← EReal.coe_add, ← EReal.coe_sub]
  congr 1
  have hr : (Real.sqrt v)⁻¹ * (Real.sqrt v)⁻¹ = 1 / v := by
    rw [← mul_inv, Real.mul_self_sqrt hv.le, one_div]
  rw [← hr]
  ring

abbrev K : Shape := ⟨2, ![256, 1024]⟩
abbrev K1 : Shape := ⟨2, ![256, 1]⟩
abbrev K0 : Shape := ⟨1, ![256]⟩
abbrev R : Shape := ⟨2, ![2048, 1024]⟩
abbrev R1 : Shape := ⟨2, ![2048, 1]⟩
abbrev R0 : Shape := ⟨1, ![2048]⟩
abbrev G : Shape := ⟨2, ![1, 1024]⟩
abbrev U : Shape := ⟨0, ![]⟩

section Kernel
variable (x d : FVec Ideal K .f32) (hr : K.Reduces [1] K0) (hs : K0.ShapeCasts K1) (hb : K1.Broadcasts K) (e : Ideal .f32)

/-- The block's reciprocal roots, -/
def krinv : FVec Ideal K1 .f32 :=
  rsqrt (addf (divf (shapeCast K1 (multiReduction .add [1] K0 (mulf x x) 0x00000000#32 hr (.inl rfl) rfl) hs)
    (broadcast K1 (Scalar.ofBits .f32 0x44800000#32))) (broadcast K1 e))

theorem krinv_apply (he : (e : EReal) = eps6) (y : K1.Idx) : (krinv x hr hs e y : EReal) = rinv (fun q => x (ix2 (y 0) q)) := by
  unfold rinv ms
  rw [← he]
  pointwise [krinv]

theorem krinv_row (he : (e : EReal) = eps6) (p : Fin 256) : (krinv x hr hs e (ix2 p 0) : EReal) = rinv (fun q => x (ix2 p q)) :=
  krinv_apply x hr hs e he (ix2 p 0)

/-- and its gradient. -/
def kdx : FVec Ideal K .f32 :=
  subf (mulf (broadcastTo K (krinv x hr hs e) hb) d)
    (mulf (mulf x (broadcastTo K (mulf (mulf (krinv x hr hs e) (krinv x hr hs e)) (krinv x hr hs e)) hb))
      (broadcastTo K (divf (shapeCast K1 (multiReduction .add [1] K0 (mulf d x) 0x00000000#32 hr (.inl rfl) rfl) hs)
        (broadcast K1 (Scalar.ofBits .f32 0x44800000#32))) hb))

theorem kdx_apply (he : (e : EReal) = eps6) (y : K.Idx) :
    (kdx x d hr hs hb e y : EReal) = dx (fun q => x (ix2 (y 0) q)) (fun q => d (ix2 (y 0) q)) (y 1) := by
  unfold dx
  rw [← krinv_row x hr hs e he (y 0)]
  unfold kdx
  generalize krinv x hr hs e = Y
  pointwise []

end Kernel

section Host
variable (x d : FVec Ideal R .f32) (hr : R.ReducesTo [1] R0) (hr1 : R1.ReducesTo [1] R0) (hu : 0 < U.numel)
  (h0 : R0.BroadcastsInDim R1 (![0] : Fin 1 → Fin R1.rank)) (h2 : R0.BroadcastsInDim R (![0] : Fin 1 → Fin R.rank))
  (hc : U.BroadcastsInDim R1 (![] : Fin 0 → Fin R1.rank)) (hb : R1.BroadcastsInDim R (![0, 1] : Fin 2 → Fin R.rank))
  (hs : R0.ShapeCasts R1)

/-- The array's mean squares and the addend, -/
def hms : FVec Ideal R1 .f32 :=
  addf (Host.divf (broadcastInDim R1 ![0] h0 (Host.reduceAdd (mulf x x) (constant U .f32 0x00000000#32) hr hu))
    (broadcastInDim R1 ![] hc (constant U .f32 0x44800000#32)))
    (broadcastInDim R1 ![] hc (Host.divf (constant U .f32 0x3F800000#32) (constant U .f32 0x49742400#32)))

theorem hms_apply (y : R1.Idx) : (hms x hr hu h0 hc y : EReal) = ms (fun q => x (ix2 (y 0) q)) := by
  unfold ms hms
  rw [← host_eps6 U ix0]
  generalize Host.divf (constant (F := Ideal) U .f32 0x3F800000#32) (constant U .f32 0x49742400#32) = e
  pointwise []

/-- their reciprocal roots, -/
def hrinv : FVec Ideal R1 .f32 := Host.rsqrt (hms x hr hu h0 hc)

theorem hrinv_apply (y : R1.Idx) : (hrinv x hr hu h0 hc y : EReal) = rinv (fun q => x (ix2 (y 0) q)) :=
  congrArg Ideal.rsqrt (hms_apply x hr hu h0 hc y)

theorem hms_row (p : Fin 2048) : (hms x hr hu h0 hc (ix2 p 0) : EReal) = ms (fun q => x (ix2 p q)) :=
  hms_apply x hr hu h0 hc (ix2 p 0)

theorem hrinv_row (p : Fin 2048) : (hrinv x hr hu h0 hc (ix2 p 0) : EReal) = rinv (fun q => x (ix2 p q)) :=
  hrinv_apply x hr hu h0 hc (ix2 p 0)

/-- what passes to the squares, -/
def hsq : FVec Ideal R .f32 :=
  broadcastInDim R ![0] h2 (Host.reduceAdd (Host.divf (mulf (shapeCast R1 (Host.reduceAdd (mulf x d) (constant U .f32 0x00000000#32) hr hu) hs)
    (mulf (broadcastInDim R1 ![] hc (constant U .f32 0xBF000000#32)) (Host.divf (hrinv x hr hu h0 hc) (hms x hr hu h0 hc))))
    (broadcastInDim R1 ![] hc (constant U .f32 0x44800000#32))) (constant U .f32 0x00000000#32) hr1 hu)

theorem hsq_apply (y : R.Idx) :
    (hsq x d hr hr1 hu h0 h2 hc hs y : EReal) = sq (fun q => x (ix2 (y 0) q)) (fun q => d (ix2 (y 0) q)) := by
  unfold sq
  rw [← hms_row x hr hu h0 hc (y 0), ← hrinv_row x hr hu h0 hc (y 0)]
  unfold hsq
  generalize hrinv x hr hu h0 hc = Y
  generalize hms x hr hu h0 hc = Z
  pointwise []
  exact Fin.sum_univ_one _

/-- and the gradient. -/
def hgrad : FVec Ideal R .f32 :=
  addf (addf (mulf d (broadcastInDim R ![0, 1] hb (hrinv x hr hu h0 hc))) (mulf x (hsq x d hr hr1 hu h0 h2 hc hs)))
    (mulf (hsq x d hr hr1 hu h0 h2 hc hs) x)

theorem hgrad_apply (y : R.Idx) :
    (hgrad x d hr hr1 hu h0 h2 hc hb hs y : EReal) = hdx (fun q => x (ix2 (y 0) q)) (fun q => d (ix2 (y 0) q)) (y 1) := by
  unfold hdx
  rw [← hrinv_row x hr hu h0 hc (y 0), ← hsq_apply x d hr hr1 hu h0 h2 hc hs y]
  unfold hgrad
  generalize hrinv x hr hu h0 hc = Y
  generalize hsq x d hr hr1 hu h0 h2 hc hs = Z
  pointwise []

end Host

/-- A value that starts at the first of eight points and adds each later point's part is after the last the sum of the parts. -/
theorem run_sum (f : (n : ℕ) → n < 8 → EReal) (p : ℕ → EReal) (h0 : f 0 (by decide) = p 0)
    (hs : ∀ n (hn : n < 8), ¬n % 8 = 0 → f n hn = f (n - 1) (Nat.lt_of_le_of_lt (Nat.sub_le n 1) hn) + p n) :
    ∀ n (hn : n < 8), f n hn = ∑ j ∈ Finset.range (n + 1), p j := by
  intro n
  induction n with
  | zero => intro hn; rw [h0]; simp
  | succ n ih =>
    intro hn
    rw [hs _ hn (by omega), Finset.sum_range_succ]
    congr 1
    exact ih _

/-- Eight block sums together are the sum over the rows. -/
theorem sum_blocks (f : Fin 2048 → EReal) (p : ℕ → EReal)
    (hp : ∀ j (hj : j < 8), p j = ∑ k : Fin 256, f ⟨256 * j + k.val, by omega⟩) :
    ∑ j ∈ Finset.range 8, p j = ∑ q : Fin 2048, f q := by
  rw [Finset.sum_range, Finset.sum_congr rfl fun (j : Fin 8) _ => hp j.val j.isLt, ← Fintype.sum_prod_type']
  refine Fintype.sum_equiv (finProdFinEquiv : Fin 8 × Fin 256 ≃ Fin 2048) _ _ fun x => ?_
  congr 1
  apply Fin.ext
  show 256 * x.1.val + x.2.val = x.2.val + 256 * x.1.val
  exact add_comm _ _

/-- The sum of a column over the rows of block `j`, -/
def blockSum (f : Fin 2048 → EReal) (j : ℕ) : EReal := ∑ k : Fin 256, if h : 256 * j + k.val < 2048 then f ⟨256 * j + k.val, h⟩ else 0

theorem blockSum_eq (f : Fin 2048 → EReal) (t : Fin 8) (g : Fin 256 → EReal)
    (h : ∀ (p : Fin 256) (r : Fin 2048), r.val = 256 * t.val + p.val → g p = f r) : ∑ p : Fin 256, g p = blockSum f t.val := by
  have hN : t.val < 8 := t.isLt
  refine Finset.sum_congr rfl fun p _ => ?_
  rw [dif_pos (show 256 * t.val + p.val < 2048 by omega)]
  exact h p _ rfl

/-- and over all of them. -/
theorem blockSum_all (f : Fin 2048 → EReal) : ∑ j ∈ Finset.range 8, blockSum f j = ∑ r : Fin 2048, f r :=
  sum_blocks f _ fun j hj => Finset.sum_congr rfl fun k _ => dif_pos (by omega)

end Cert.RmsGrad

end
-- ==== Proof.LnSpec.lean ====
/- The gradient of the layer norm of a row of 2048 entries: as the kernel writes it, as differentiating the reference's lines
gives it, that the two agree on real rows, and the reference's arrays in these terms. -/
module

public import proofs.«01_k».proof.Defs
public import proofs.«01_k».proof.Proof.Gen.Reference16Ideal.Run
public import proofs.«01_k».proof.Proof.RmsGrad
public import Idealize.ShloMosaic.Lib.Pointwise

@[expose] public section

set_option maxRecDepth 16384

noncomputable section

namespace Cert.LnBwd

open Idealize.ShloMosaic
open Cert.Consts
open Cert.RmsGrad (ofBits_mhalf coe_sum)

theorem ofBits_2048 : Ideal.ofBits .f32 0x45000000#32 = ((2048 : ℝ) : EReal) := by
  simp [Ideal.ofBits, Ideal.ieee, -EReal.coe_mul]; norm_num

/-- A row's mean, -/
def mean (f : Fin 2048 → EReal) : EReal := Ideal.div (∑ k, f k) (Ideal.ofBits .f32 0x45000000#32)

/-- the row less it, -/
def xc (f : Fin 2048 → EReal) (q : Fin 2048) : EReal := f q - mean f

/-- the variance and the addend, -/
def ms (f : Fin 2048 → EReal) : EReal := mean (fun k => xc f k * xc f k) + eps

/-- its reciprocal root, -/
def rs (f : Fin 2048 → EReal) : EReal := Ideal.rsqrt (ms f)

/-- the normalized row, -/
def xh (f : Fin 2048 → EReal) (q : Fin 2048) : EReal := xc f q * rs f

/-- the gradient as the kernel writes it, of the reciprocal root, the normalized row and the cotangent times the gain, -/
def kdx (r : EReal) (x d : Fin 2048 → EReal) (q : Fin 2048) : EReal := r * (d q - mean d - x q * mean (fun k => d k * x k))

/-- what the derivative of the reciprocal root passes to every square of the row, -/
def sq (f d : Fin 2048 → EReal) : EReal :=
  Ideal.div ((∑ k, xc f k * d k) * (Ideal.ofBits .f32 0xBF000000#32 * Ideal.div (rs f) (ms f))) (Ideal.ofBits .f32 0x45000000#32)

/-- the gradient of the row less its mean, by the product rule, -/
def ex (f d : Fin 2048 → EReal) (q : Fin 2048) : EReal := d q * rs f + xc f q * sq f d + sq f d * xc f q

/-- and of the row. -/
def hdx (f d : Fin 2048 → EReal) (q : Fin 2048) : EReal := ex f d q + mean (fun k => -ex f d k)

theorem mean_coe (f : Fin 2048 → EReal) (a : Fin 2048 → ℝ) (h : ∀ k, f k = ((a k : ℝ) : EReal)) :
    mean f = (((∑ k, a k) * (1 / 2048) : ℝ) : EReal) := by
  unfold mean
  rw [ofBits_2048, Ideal.div_coe (show (2048 : ℝ) ≠ 0 from by norm_num), Finset.sum_congr rfl fun k _ => h k, ← coe_sum, ← EReal.coe_mul]

/-- On real rows the two gradients are the same. -/
theorem kdx_eq (f d : Fin 2048 → EReal) (hf : ∀ k, f k = (((f k).toReal : ℝ) : EReal)) (hd : ∀ k, d k = (((d k).toReal : ℝ) : EReal)) (q : Fin 2048) :
    kdx (rs f) (xh f) d q = hdx f d q := by
  obtain ⟨b, hb⟩ : ∃ b : Fin 2048 → ℝ, ∀ k, d k = ((b k : ℝ) : EReal) := ⟨_, hd⟩
  obtain ⟨x, hx, hx0⟩ : ∃ x : Fin 2048 → ℝ, (∀ k, xc f k = ((x k : ℝ) : EReal)) ∧ ∑ k, x k = 0 := by
    refine ⟨fun k => (f k).toReal - (∑ k, (f k).toReal) * (1 / 2048), fun k => ?_, ?_⟩
    · unfold xc
      rw [mean_coe f _ hf, EReal.coe_sub, ← hf k]
    · rw [Finset.sum_sub_distrib, Finset.sum_const, Finset.card_univ, Fintype.card_fin, nsmul_eq_mul]
      push_cast
      ring
  obtain ⟨v, hv, v0⟩ : ∃ v : ℝ, ms f = ((v : ℝ) : EReal) ∧ 0 < v := by
    have hA : (0 : ℝ) ≤ ∑ k, x k * x k := Finset.sum_nonneg fun k _ => mul_self_nonneg _
    refine ⟨(∑ k, x k * x k) * (1 / 2048) + 1 / 100000, ?_, by positivity⟩
    unfold ms eps
    rw [mean_coe _ (fun k => x k * x k) fun k => by rw [hx, EReal.coe_mul], EReal.coe_add]
  obtain ⟨r, hr, hrr⟩ : ∃ r : ℝ, rs f = ((r : ℝ) : EReal) ∧ 1 / v = r * r := by
    refine ⟨(Real.sqrt v)⁻¹, ?_, by rw [← mul_inv, Real.mul_self_sqrt v0.le, one_div]⟩
    unfold rs
    rw [hv, Ideal.rsqrt_coe, if_neg (not_lt.mpr v0.le), if_neg v0.ne']
  have hs : sq f d = (((∑ k, x k * b k) * (-(1 / 2) * (r * (1 / v))) * (1 / 2048) : ℝ) : EReal) := by
    unfold sq
    rw [ofBits_2048, ofBits_mhalf, Ideal.div_coe (show (2048 : ℝ) ≠ 0 from by norm_num), hr, hv, Ideal.div_coe v0.ne',
      Finset.sum_congr rfl fun k _ => show xc f k * d k = ((x k * b k : ℝ) : EReal) by rw [hx, hb, EReal.coe_mul], ← coe_sum]
    simp only [← EReal.coe_mul]
  generalize hS : (∑ k, x k * b k) * (-(1 / 2) * (r * (1 / v))) * (1 / 2048) = s at hs
  have he : ∀ k, ex f d k = ((b k * r + x k * s + s * x k : ℝ) : EReal) := fun k => by
    unfold ex
    rw [hb, hr, hx, hs]
    simp only [EReal.coe_mul, EReal.coe_add]
  unfold kdx hdx xh
  rw [mean_coe d b hb, mean_coe _ (fun k => b k * (x k * r)) fun k => by rw [hb, hx, hr, EReal.coe_mul, EReal.coe_mul],
    mean_coe (fun k => -ex f d k) (fun k => -(b k * r + x k * s + s * x k)) fun k => by rw [he, EReal.coe_neg], he, hb, hx, hr]
  simp only [← EReal.coe_mul, ← EReal.coe_add, ← EReal.coe_sub]
  congr 1
  have s1 : ∑ k, b k * (x k * r) = (∑ k, x k * b k) * r := by
    rw [Finset.sum_mul]; exact Finset.sum_congr rfl fun k _ => by ring
  have s2 : ∑ k, -(b k * r + x k * s + s * x k) = -((∑ k, b k) * r) := by
    rw [Finset.sum_neg_distrib, Finset.sum_add_distrib, Finset.sum_add_distrib, ← Finset.sum_mul, ← Finset.sum_mul, ← Finset.mul_sum, hx0]
    ring
  rw [s1, s2, ← hS, hrr]
  ring

section Reference
open Cert.Reference16Ideal Cert.Reference16Ideal.Gen
variable (D X : Vec Ideal S2048x2048 .f32) (G : Vec Ideal S1x2048 .f32)

/-- The constant that divides a row's sum, -/
abbrev hn : FVec Ideal S2048x1 .f32 := broadcastInDim S2048x1 ![] bcast_S_S2048x1 (constant S_ .f32 0x45000000#32)

/-- The reference's row means, -/
def hmean : FVec Ideal S2048x1 .f32 :=
  Host.divf (broadcastInDim S2048x1 ![0] bcast_S2048_S2048x1_0 (Host.reduceAdd X (constant S_ .f32 0x00000000#32) reducesTo_S2048x2048_S2048_d1 h_S_)) hn

theorem hmean_at (r : Fin 2048) : (hmean X (ix2 r 0) : EReal) = mean (fun q => X (ix2 r q)) := by
  unfold mean
  pointwise [hmean]

/-- the rows less them, -/
def hxc : FVec Ideal S2048x2048 .f32 := subf X (broadcastInDim S2048x2048 ![0, 1] bcast_S2048x1_S2048x2048_0_1 (hmean X))

theorem hxc_at (r q : Fin 2048) : (hxc X (ix2 r q) : EReal) = xc (fun q => X (ix2 r q)) q := by
  unfold xc
  rw [← hmean_at]
  unfold hxc
  generalize hmean X = Y
  pointwise []

/-- the variances and the addend, -/
def hms : FVec Ideal S2048x1 .f32 :=
  addf (hmean (mulf (hxc X) (hxc X))) (broadcastInDim S2048x1 ![] bcast_S_S2048x1 (Host.divf (constant S_ .f32 0x3F800000#32) (constant S_ .f32 0x47C35000#32)))

theorem hms_at (r : Fin 2048) : (hms X (ix2 r 0) : EReal) = ms (fun q => X (ix2 r q)) := by
  unfold ms
  have e := (hmean_at (mulf (hxc X) (hxc X)) r).trans (congrArg mean (funext fun k =>
    congrArg₂ (fun a b : EReal => a * b) (hxc_at X r k) (hxc_at X r k)))
  rw [← e, ← host_eps S_ ix0]
  unfold hms
  generalize hmean (mulf (hxc X) (hxc X)) = Y
  generalize Host.divf (constant (F := Ideal) S_ .f32 0x3F800000#32) (constant S_ .f32 0x47C35000#32) = e
  pointwise []

/-- their reciprocal roots, -/
def hrs : FVec Ideal S2048x1 .f32 := Host.rsqrt (hms X)

theorem hrs_at (r : Fin 2048) : (hrs X (ix2 r 0) : EReal) = rs (fun q => X (ix2 r q)) := congrArg Ideal.rsqrt (hms_at X r)

/-- the normalized rows, -/
def hxh : FVec Ideal S2048x2048 .f32 := mulf (hxc X) (broadcastInDim S2048x2048 ![0, 1] bcast_S2048x1_S2048x2048_0_1 (hrs X))

theorem hxh_at (r q : Fin 2048) : (hxh X (ix2 r q) : EReal) = xh (fun q => X (ix2 r q)) q := by
  unfold xh
  rw [← hrs_at, ← hxc_at]
  unfold hxh
  generalize hrs X = Y
  generalize hxc X = Z
  pointwise []

/-- the cotangent times the gain, -/
def hdg : FVec Ideal S2048x2048 .f32 :=
  mulf (shapeCast S2048x2048 D shapeCasts_S2048x2048_S2048x2048) (broadcastInDim S2048x2048 ![0, 1] bcast_S1x2048_S2048x2048_0_1 G)

theorem hdg_at (r q : Fin 2048) : (hdg D G (ix2 r q) : EReal) = D (ix2 r q) * G (ix2 0 q) := by
  pointwise [hdg]

variable (E : FVec Ideal S2048x2048 .f32)

/-- what passes to the squares, -/
def hsq : FVec Ideal S2048x2048 .f32 :=
  broadcastInDim S2048x2048 ![0] bcast_S2048_S2048x2048_0 (Host.reduceAdd (Host.divf
    (mulf (shapeCast S2048x1 (Host.reduceAdd (mulf (hxc X) E) (constant S_ .f32 0x00000000#32) reducesTo_S2048x2048_S2048_d1 h_S_) shapeCasts_S2048_S2048x1)
      (mulf (broadcastInDim S2048x1 ![] bcast_S_S2048x1 (constant S_ .f32 0xBF000000#32)) (Host.divf (hrs X) (hms X)))) hn)
    (constant S_ .f32 0x00000000#32) reducesTo_S2048x1_S2048_d1 h_S_)

theorem hsq_at (r q : Fin 2048) : (hsq X E (ix2 r q) : EReal) = sq (fun q => X (ix2 r q)) (fun q => E (ix2 r q)) := by
  unfold sq
  rw [← hms_at, ← hrs_at, Finset.sum_congr rfl fun k _ => congrArg (fun a : EReal => a * E (ix2 r k)) (hxc_at X r k).symm]
  unfold hsq
  generalize hms X = A
  generalize hrs X = B
  generalize hxc X = Z
  pointwise []
  exact Fin.sum_univ_one _

/-- the gradient of the rows less their means, -/
def hex : FVec Ideal S2048x2048 .f32 :=
  addf (addf (mulf E (broadcastInDim S2048x2048 ![0, 1] bcast_S2048x1_S2048x2048_0_1 (hrs X))) (mulf (hxc X) (hsq X E))) (mulf (hsq X E) (hxc X))

theorem hex_at (r q : Fin 2048) : (hex X E (ix2 r q) : EReal) = ex (fun q => X (ix2 r q)) (fun q => E (ix2 r q)) q := by
  unfold ex
  rw [← hrs_at, ← hxc_at, ← hsq_at X E r q]
  unfold hex
  generalize hrs X = A
  generalize hsq X E = B
  generalize hxc X = Z
  pointwise []

/-- of the rows, -/
def hdr : FVec Ideal S2048x2048 .f32 :=
  addf (hex X E) (broadcastInDim S2048x2048 ![0] bcast_S2048_S2048x2048_0 (Host.reduceAdd (Host.divf
    (shapeCast S2048x1 (Host.reduceAdd (Host.negf (hex X E)) (constant S_ .f32 0x00000000#32) reducesTo_S2048x2048_S2048_d1 h_S_) shapeCasts_S2048_S2048x1) hn)
    (constant S_ .f32 0x00000000#32) reducesTo_S2048x1_S2048_d1 h_S_))

theorem hdr_at (r q : Fin 2048) : (hdr X E (ix2 r q) : EReal) = hdx (fun q => X (ix2 r q)) (fun q => E (ix2 r q)) q := by
  unfold hdx mean
  rw [← hex_at, Finset.sum_congr rfl fun k _ => congrArg (fun a : EReal => -a) (hex_at X E r k).symm]
  unfold hdr
  generalize hex X E = Z
  pointwise []
  exact congrArg (fun a : EReal => Z (ix2 r q) + a) (Fin.sum_univ_one (fun _ : Fin 1 => Ideal.div (∑ x, -Z (ix2 r x)) (Ideal.ofBits .f32 0x45000000#32)))

/-- half of it, -/
def hhalf : FVec Ideal S2048x2048 .bf16 :=
  truncf .bf16 (mulf (broadcastInDim S2048x2048 ![] bcast_S_S2048x2048 (constant S_ .f32 0x3F000000#32)) (hdr X E)) bitsLt_bf16_f32

theorem hhalf_at (r q : Fin 2048) : (hhalf X E (ix2 r q) : EReal) = Ideal.ofBits .f32 0x3F000000#32 * hdr X E (ix2 r q) := by
  unfold hhalf
  generalize hdr X E = Z
  pointwise []

/-- of the gain, -/
def hgain : FVec Ideal S1x2048 .f32 :=
  shapeCast S1x2048 (Host.reduceAdd (mulf (hxh X) (shapeCast S2048x2048 D shapeCasts_S2048x2048_S2048x2048)) (constant S_ .f32 0x00000000#32)
    reducesTo_S2048x2048_S2048_d0 h_S_) shapeCasts_S2048_S1x2048

theorem hgain_at (y : S1x2048.Idx) : (hgain D X y : EReal) = ∑ r : Fin 2048, D (ix2 r (y 1)) * xh (fun q => X (ix2 r q)) (y 1) := by
  have e : ∀ r : Fin 2048, (D (ix2 r (y 1)) : EReal) * xh (fun q => X (ix2 r q)) (y 1) = hxh X (ix2 r (y 1)) * D (ix2 r (y 1)) := fun r =>
    (mul_comm _ _).trans (congrArg (fun a : EReal => a * D (ix2 r (y 1))) (hxh_at X r (y 1)).symm)
  refine Eq.trans ?_ (Finset.sum_congr rfl fun r _ => e r).symm
  clear e
  unfold hgain
  generalize hxh X = Z
  pointwise []

/-- and of the bias. -/
def hbias : FVec Ideal S1x2048 .f32 :=
  shapeCast S1x2048 (Host.reduceAdd D (constant S_ .f32 0x00000000#32) reducesTo_S2048x2048_S2048_d0 h_S_) shapeCasts_S2048_S1x2048

theorem hbias_at (y : S1x2048.Idx) : (hbias D y : EReal) = ∑ r : Fin 2048, D (ix2 r (y 1)) := by
  pointwise [hbias]

end Reference

section Run
open Cert.Reference16Ideal
variable (m : (ℓ : Loc nD τ sig) → Buf (Elt Ideal) ℓ) (c : Dev nD)

/-- The reference's first two results in these terms. -/
theorem r54 : Cert.Reference16Ideal.Value.res_main_v54 m c
    = hdr (m ((c.tc : Thread nD τ).loc main_arg1)) (hdg (m ((c.tc : Thread nD τ).loc main_arg0)) (m ((c.tc : Thread nD τ).loc main_arg2))) := rfl

theorem r57 : Cert.Reference16Ideal.Value.res_main_v57 m c
    = hhalf (m ((c.tc : Thread nD τ).loc main_arg1)) (hdg (m ((c.tc : Thread nD τ).loc main_arg0)) (m ((c.tc : Thread nD τ).loc main_arg2))) := rfl

end Run

end Cert.LnBwd

end
-- ==== Proof.LnBwd.lean ====
/- The gradients through the layer norm: of its input, half of that, of its gain and of its bias. -/
module

public import proofs.«01_k».proof.Defs
public import proofs.«01_k».proof.Proof.Gen.Kernel16Ideal.Value
public import proofs.«01_k».proof.Proof.Blocks
public import proofs.«01_k».proof.Proof.LnSpec
public import proofs.«01_k».proof.Proof.Finite
public import proofs.«01_k».proof.Pre_finite16
public import Idealize.ShloMosaic.Lib.Pipeline.Value
public import Idealize.ShloMosaic.Lib.Pipeline.ValueKit.Acc
public import Idealize.ShloMosaic.Lib.StableHlo.RunRead
public import Idealize.ShloMosaic.Lib.Pointwise

@[expose] public section

set_option maxRecDepth 16384

noncomputable section

namespace Cert.LnBwd

open Idealize.ShloMosaic Idealize.ShloMosaic.TcCoe Idealize.SL.Sem
open Cert.Kernel16Ideal Cert.Kernel16Ideal.Gen Cert.Blocks
open Cert.RmsGrad (blockSum blockSum_eq blockSum_all)

section Body
variable (v0 v1 : Vec Ideal S256x2048 .f32) (v3 : Vec Ideal S256x128 .f32) (v5 a : Vec Ideal S1x2048 .f32)

/-- A block's gradient at an index, -/
theorem pay6_at (p : Fin 256) (q : Fin 2048) :
    (k0_pay6 v0 v1 v3 v5 (ix2 p q) : EReal) = kdx (v3 (ix2 p 0)) (fun q => v1 (ix2 p q)) (fun q => v0 (ix2 p q) * v5 (ix2 0 q)) q := by
  unfold kdx mean
  pointwise [k0_pay6, k0_pay5]

/-- half of it, -/
theorem pay9_at (y : S256x2048.Idx) : (k0_pay9 v0 v1 v3 v5 y : EReal) = Ideal.ofBits .f32 0x3F000000#32 * k0_pay6 v0 v1 v3 v5 y := by
  unfold k0_pay9
  generalize k0_pay6 v0 v1 v3 v5 = X
  pointwise []

/-- and what it adds to the two sums. -/
theorem sum6 (y : S1x2048.Idx) : (k0_pay3 (k0_pay7 v0 v1) a y : EReal) = (a y : EReal) + ∑ p : Fin 256, v0 (ix2 p (y 1)) * v1 (ix2 p (y 1)) := by
  pointwise [k0_pay3, k0_pay7, k0_pay5]

theorem sum7 (y : S1x2048.Idx) : (k0_pay4 (k0_pay8 v0) a y : EReal) = (a y : EReal) + ∑ p : Fin 256, v0 (ix2 p (y 1)) := by
  pointwise [k0_pay4, k0_pay8]

theorem zero6 (y : S1x2048.Idx) : (k0_pay1 (F := Ideal) y : EReal) = 0 := by pointwise [k0_pay1]

theorem zero7 (y : S1x2048.Idx) : (k0_pay2 (F := Ideal) y : EReal) = 0 := by pointwise [k0_pay2]

end Body

variable (m : (ℓ : Loc nD τ sig) → Buf (Elt Ideal) ℓ)

/-- The launched arrays, -/
abbrev aD (c : Dev nD) : Vec Ideal S2048x2048 .f32 := m ((c.tc : Thread nD τ).loc main_arg0)
abbrev aX (c : Dev nD) : Vec Ideal S2048x2048 .f32 := m ((c.tc : Thread nD τ).loc main_arg1)
abbrev aG (c : Dev nD) : Vec Ideal S1x2048 .f32 := m ((c.tc : Thread nD τ).loc main_arg2)

/-- and the two the operations before the kernel leave it. -/
theorem V_xh (c : Dev nD) : V m c main_v16 = hxh (aX m c) := by
  show StableHlo.after hostOps0 _ _ = _
  after_results_simp <;> rfl

theorem V_rs (c : Dev nD) : V m c main_v17 = broadcastInDim S2048x128 ![0, 1] bcast_S2048x1_S2048x128_0_1 (hrs (aX m c)) := by
  show StableHlo.after hostOps0 _ _ = _
  after_results_simp <;> rfl

theorem rs_at (X : Vec Ideal S2048x2048 .f32) (r : Fin 2048) (q : Fin 128) :
    (broadcastInDim S2048x128 ![0, 1] bcast_S2048x1_S2048x128_0_1 (hrs X) (ix2 r q) : EReal) = rs (fun q => X (ix2 r q)) := by
  rw [← hrs_at]
  generalize hrs X = Y
  pointwise []

/-- The blocks of point `t`. -/
abbrev b0 (c : Dev nD) (t : Fin cfg0.N) : Vec Ideal S256x2048 .f32 := iblk m c 0 t
abbrev b1 (c : Dev nD) (t : Fin cfg0.N) : Vec Ideal S256x2048 .f32 := iblk m c 1 t
abbrev b2 (c : Dev nD) (t : Fin cfg0.N) : Vec Ideal S256x128 .f32 := iblk m c 2 t
abbrev b3 (c : Dev nD) (t : Fin cfg0.N) : Vec Ideal S1x2048 .f32 := iblk m c 3 t

/-- Where the blocks of grid point `t` lie. -/
theorem index_facts : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0)
    ∧ (win0_7.index t 0 = 0 ∧ win0_7.index t 1 = 0) := by decide +kernel

theorem block0 (c : Dev nD) (t : Fin cfg0.N) (p : Fin 256) (q : Fin 2048) (r : Fin 2048) (h : r.val = 256 * t.val + p.val) :
    (b0 m c t (ix2 p q) : EReal) = aD m c (ix2 r q) := by
  obtain ⟨⟨e0, e1⟩, -⟩ := index_facts t
  refine (at_eq (S := S2048x2048) (V m c main_arg0) (((cfg0.win 0).blk t).view.emb (ix2 p q)) (ix2 r q) fun a => match a with
    | ⟨0, _⟩ => by show win0_0.index t 0 * 256 + 1 * p.val = r.val; rw [e0, h]; omega
    | ⟨1, _⟩ => by show win0_0.index t 1 * 2048 + 1 * q.val = q.val; rw [e1]; omega).trans ?_
  exact congrFun (V_main_arg0 m c) (ix2 r q)

theorem block1 (c : Dev nD) (t : Fin cfg0.N) (p : Fin 256) (q : Fin 2048) (r : Fin 2048) (h : r.val = 256 * t.val + p.val) :
    (b1 m c t (ix2 p q) : EReal) = xh (fun q => aX m c (ix2 r q)) q := by
  obtain ⟨-, ⟨e0, e1⟩, -⟩ := index_facts t
  refine (at_eq (S := S2048x2048) (V m c main_v16) (((cfg0.win 1).blk t).view.emb (ix2 p q)) (ix2 r q) fun a => match a with
    | ⟨0, _⟩ => by show win0_1.index t 0 * 256 + 1 * p.val = r.val; rw [e0, h]; omega
    | ⟨1, _⟩ => by show win0_1.index t 1 * 2048 + 1 * q.val = q.val; rw [e1]; omega).trans ?_
  exact (congrFun (V_xh m c) (ix2 r q)).trans (hxh_at (aX m c) r q)

theorem block2 (c : Dev nD) (t : Fin cfg0.N) (p : Fin 256) (q : Fin 128) (r : Fin 2048) (h : r.val = 256 * t.val + p.val) :
    (b2 m c t (ix2 p q) : EReal) = rs (fun q => aX m c (ix2 r q)) := by
  obtain ⟨-, -, ⟨e0, e1⟩, -⟩ := index_facts t
  refine (at_eq (S := S2048x128) (V m c main_v17) (((cfg0.win 2).blk t).view.emb (ix2 p q)) (ix2 r q) fun a => match a with
    | ⟨0, _⟩ => by show win0_2.index t 0 * 256 + 1 * p.val = r.val; rw [e0, h]; omega
    | ⟨1, _⟩ => by show win0_2.index t 1 * 128 + 1 * q.val = q.val; rw [e1]; omega).trans ?_
  exact (congrFun (V_rs m c) (ix2 r q)).trans (rs_at (aX m c) r q)

theorem block3 (c : Dev nD) (t : Fin cfg0.N) (q : Fin 2048) : (b3 m c t (ix2 0 q) : EReal) = aG m c (ix2 0 q) := by
  obtain ⟨-, -, -, ⟨e0, e1⟩, -⟩ := index_facts t
  refine (at_eq (S := S1x2048) (V m c main_arg2) (((cfg0.win 3).blk t).view.emb (ix2 0 q)) (ix2 0 q) fun a => match a with
    | ⟨0, _⟩ => by show win0_3.index t 0 * 1 + 1 * 0 = 0; rw [e0]
    | ⟨1, _⟩ => by show win0_3.index t 1 * 2048 + 1 * q.val = q.val; rw [e1]; omega).trans ?_
  exact congrFun (V_main_arg2 m c) (ix2 0 q)

/-- The mathematics' gradient of the norm's input, -/
abbrev dr (c : Dev nD) (r q : Fin 2048) : EReal :=
  kdx (rs (fun q => aX m c (ix2 r q))) (xh (fun q => aX m c (ix2 r q))) (fun q => aD m c (ix2 r q) * aG m c (ix2 0 q)) q

theorem kdx_congr {r r' : EReal} {x x' d d' : Fin 2048 → EReal} (hr : r = r') (hx : ∀ k, x k = x' k) (hd : ∀ k, d k = d' k) (q : Fin 2048) :
    kdx r x d q = kdx r' x' d' q := by
  rw [hr, funext hx, funext hd]

/-- which a block's is at the row where the block's row lies. -/
theorem dr_at (c : Dev nD) (t : Fin cfg0.N) (p : Fin 256) (q : Fin 2048) (r : Fin 2048) (h : r.val = 256 * t.val + p.val) :
    (k0_pay6 (b0 m c t) (b1 m c t) (b2 m c t) (b3 m c t) (ix2 p q) : EReal) = dr m c r q := by
  exact (pay6_at (b0 m c t) (b1 m c t) (b2 m c t) (b3 m c t) p q).trans (kdx_congr (block2 m c t p 0 r h) (fun q => block1 m c t p q r h)
    (fun q => congrArg₂ (fun a b : EReal => a * b) (block0 m c t p q r h) (block3 m c t q)) q)

/-- What the windows of the blocks' results hold after point `t`. -/
theorem outs4 (c : Dev nD) (t : Fin cfg0.N) : (outsAt0 m c t.val t.isLt).1 = k0_pay6 (b0 m c t) (b1 m c t) (b2 m c t) (b3 m c t) := by
  by_cases h : t.val % 8 = 0
  · rw [outsAt0_A m c t h]
    frame_out
  · rw [outsAt0_B m c t h]
    frame_out

theorem outs5 (c : Dev nD) (t : Fin cfg0.N) : (outsAt0 m c t.val t.isLt).2.1 = k0_pay9 (b0 m c t) (b1 m c t) (b2 m c t) (b3 m c t) := by
  by_cases h : t.val % 8 = 0
  · rw [outsAt0_A m c t h]
    frame_out
  · rw [outsAt0_B m c t h]
    frame_out

/-- The columns the two sums add up. -/
abbrev f6 (c : Dev nD) (q : Fin 2048) (r : Fin 2048) : EReal := aD m c (ix2 r q) * xh (fun q => aX m c (ix2 r q)) q
abbrev f7 (c : Dev nD) (q : Fin 2048) (r : Fin 2048) : EReal := aD m c (ix2 r q)

/-- After point `n` each holds its parts so far. -/
theorem acc6 (c : Dev nD) (y : S1x2048.Idx) (n : ℕ) (hn : n < cfg0.N) :
    ((outsAt0 m c n hn).2.2.1 y : EReal) = ∑ j ∈ Finset.range (n + 1), blockSum (f6 m c (y 1)) j := by
  refine Cert.RmsGrad.run_sum (fun n hn => ((outsAt0 m c n hn).2.2.1 y : EReal)) (blockSum (f6 m c (y 1))) ?_ ?_ n hn
  · have h0 : 0 < cfg0.N := by decide
    rw [outsAt0_A m c ⟨0, h0⟩ rfl]
    frame_out
    refine ((sum6 _ _ _ y).trans (congrArg₂ (fun a b : EReal => a + b) (zero6 y)
      (blockSum_eq (f6 m c (y 1)) ⟨0, h0⟩ _ fun p r h => congrArg₂ (fun a b : EReal => a * b) (block0 m c ⟨0, h0⟩ p (y 1) r h) (block1 m c ⟨0, h0⟩ p (y 1) r h)))).trans (zero_add _)
  · intro n hn h
    have hN : n < cfg0.N := hn
    rw [outsAt0_B m c ⟨n, hN⟩ h]
    frame_out
    exact (sum6 _ _ _ y).trans (congrArg (fun b : EReal => _ + b)
      (blockSum_eq (f6 m c (y 1)) ⟨n, hN⟩ _ fun p r h => congrArg₂ (fun a b : EReal => a * b) (block0 m c ⟨n, hN⟩ p (y 1) r h) (block1 m c ⟨n, hN⟩ p (y 1) r h)))

theorem acc7 (c : Dev nD) (y : S1x2048.Idx) (n : ℕ) (hn : n < cfg0.N) :
    ((outsAt0 m c n hn).2.2.2 y : EReal) = ∑ j ∈ Finset.range (n + 1), blockSum (f7 m c (y 1)) j := by
  refine Cert.RmsGrad.run_sum (fun n hn => ((outsAt0 m c n hn).2.2.2 y : EReal)) (blockSum (f7 m c (y 1))) ?_ ?_ n hn
  · have h0 : 0 < cfg0.N := by decide
    rw [outsAt0_A m c ⟨0, h0⟩ rfl]
    frame_out
    refine ((sum7 _ _ y).trans (congrArg₂ (fun a b : EReal => a + b) (zero7 y)
      (blockSum_eq (f7 m c (y 1)) ⟨0, h0⟩ _ fun p r h => block0 m c ⟨0, h0⟩ p (y 1) r h))).trans (zero_add _)
  · intro n hn h
    have hN : n < cfg0.N := hn
    rw [outsAt0_B m c ⟨n, hN⟩ h]
    frame_out
    exact (sum7 _ _ y).trans (congrArg (fun b : EReal => _ + b)
      (blockSum_eq (f7 m c (y 1)) ⟨n, hN⟩ _ fun p r h => block0 m c ⟨n, hN⟩ p (y 1) r h))

/-- The four results. -/
abbrev res4 (c : Dev nD) : S2048x2048.Idx → EReal := fun i => dr m c (i 0) (i 1)
abbrev res5 (c : Dev nD) : S2048x2048.Idx → EReal := fun i => Ideal.ofBits .f32 0x3F000000#32 * dr m c (i 0) (i 1)
abbrev res6 (c : Dev nD) : S1x2048.Idx → EReal := fun y => ∑ r : Fin 2048, f6 m c (y 1) r
abbrev res7 (c : Dev nD) : S1x2048.Idx → EReal := fun y => ∑ r : Fin 2048, f7 m c (y 1) r

/-- Point `t` writes back block `t` of the first two results, -/
theorem flushed4_eq (c : Dev nD) (t : Fin cfg0.N) :
    (dats m 0 c).flushed 4 t = ((cfg0.win 4).blk t).view.read (Elt Ideal) (res4 m c) := by
  obtain ⟨-, -, -, -, ⟨e0, e1⟩, -⟩ := index_facts t
  rw [Value.flushed4, outs4]
  funext y
  rw [View.read_apply]
  have h0 : (((cfg0.win 4).blk t).view.emb y 0 : Nat) = 256 * t.val + (y 0).val := by
    show win0_4.index t 0 * 256 + 1 * (y 0).val = 256 * t.val + (y 0).val; rw [e0]; omega
  have h1 : ((((cfg0.win 4).blk t).view.emb y 1 : Fin 2048)) = y 1 := by
    apply Fin.ext
    show win0_4.index t 1 * 2048 + 1 * (y 1).val = (y 1).val; rw [e1]; omega
  have key := dr_at m c t (y 0) (y 1) (((cfg0.win 4).blk t).view.emb y 0) h0
  have hy : (ix2 (y 0) (y 1) : S256x2048.Idx) = y := ix2_eta y
  rw [hy] at key
  refine key.trans ?_
  show _ = res4 m c _
  unfold res4
  rw [h1]

theorem flushed5_eq (c : Dev nD) (t : Fin cfg0.N) :
    (dats m 0 c).flushed 5 t = ((cfg0.win 5).blk t).view.read (Elt Ideal) (res5 m c) := by
  obtain ⟨-, -, -, -, -, ⟨e0, e1⟩, -⟩ := index_facts t
  rw [Value.flushed5, outs5]
  funext y
  rw [View.read_apply]
  have h0 : (((cfg0.win 5).blk t).view.emb y 0 : Nat) = 256 * t.val + (y 0).val := by
    show win0_5.index t 0 * 256 + 1 * (y 0).val = 256 * t.val + (y 0).val; rw [e0]; omega
  have h1 : ((((cfg0.win 5).blk t).view.emb y 1 : Fin 2048)) = y 1 := by
    apply Fin.ext
    show win0_5.index t 1 * 2048 + 1 * (y 1).val = (y 1).val; rw [e1]; omega
  have key := dr_at m c t (y 0) (y 1) (((cfg0.win 5).blk t).view.emb y 0) h0
  have hy : (ix2 (y 0) (y 1) : S256x2048.Idx) = y := ix2_eta y
  rw [hy] at key
  refine (pay9_at _ _ _ _ y).trans ((congrArg (fun a : EReal => Ideal.ofBits .f32 0x3F000000#32 * a) key).trans ?_)
  show _ = res5 m c _
  unfold res5
  rw [h1]

theorem emb6 (t : Fin cfg0.N) (y : S1x2048.Idx) : ((cfg0.win 6).blk t).view.emb y = y := by
  obtain ⟨-, -, -, -, -, -, ⟨e0, e1⟩, -⟩ := index_facts t
  funext a
  apply Fin.ext
  match a with
  | ⟨0, _⟩ => show win0_6.index t 0 * 1 + 1 * (y 0).val = (y 0).val; rw [e0]; omega
  | ⟨1, _⟩ => show win0_6.index t 1 * 2048 + 1 * (y 1).val = (y 1).val; rw [e1]; omega

/-- and the last point the two sums. -/
theorem flushed6_eq (c : Dev nD) (t : Fin cfg0.N) (hf : (cfg0.win 6).flush t = true) :
    (dats m 0 c).flushed 6 t = ((cfg0.win 6).blk t).view.read (Elt Ideal) (res6 m c) := by
  have ht : t.val = 7 := (by decide +kernel : ∀ t : Fin cfg0.N, (cfg0.win 6).flush t = true → t.val = 7) t hf
  rw [Value.flushed6]
  funext y
  rw [View.read_apply]
  rw [emb6 t y]
  show ((outsAt0 m c t.val t.isLt).2.2.1 y : EReal) = res6 m c y
  rw [acc6 m c y t.val t.isLt, ht]
  exact blockSum_all _

theorem emb7 (t : Fin cfg0.N) (y : S1x2048.Idx) : ((cfg0.win 7).blk t).view.emb y = y := by
  obtain ⟨-, -, -, -, -, -, -, ⟨e0, e1⟩⟩ := index_facts t
  funext a
  apply Fin.ext
  match a with
  | ⟨0, _⟩ => show win0_7.index t 0 * 1 + 1 * (y 0).val = (y 0).val; rw [e0]; omega
  | ⟨1, _⟩ => show win0_7.index t 1 * 2048 + 1 * (y 1).val = (y 1).val; rw [e1]; omega

theorem flushed7_eq (c : Dev nD) (t : Fin cfg0.N) (hf : (cfg0.win 7).flush t = true) :
    (dats m 0 c).flushed 7 t = ((cfg0.win 7).blk t).view.read (Elt Ideal) (res7 m c) := by
  have ht : t.val = 7 := (by decide +kernel : ∀ t : Fin cfg0.N, (cfg0.win 7).flush t = true → t.val = 7) t hf
  rw [Value.flushed7]
  funext y
  rw [View.read_apply]
  rw [emb7 t y]
  show ((outsAt0 m c t.val t.isLt).2.2.2 y : EReal) = res7 m c y
  rw [acc7 m c y t.val t.isLt, ht]
  exact blockSum_all _

/-- Every index of a result lies in some point's block. -/
theorem covered4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2048 := (i 0).isLt
  have h1 : (i 1 : Nat) < 2048 := (i 1).isLt
  have hN : cfg0.N = 8 := N_0
  have ht : (i 0 : Nat) / 256 < cfg0.N := by omega
  obtain ⟨-, -, -, -, ⟨e0, e1⟩, -⟩ := index_facts ⟨(i 0 : Nat) / 256, ht⟩
  refine ⟨⟨(i 0 : Nat) / 256, ht⟩, flush0_4 _, ?_⟩
  show i ∈ ((View.whole main_v18_0).slice (win0_4.rect ⟨(i 0 : Nat) / 256, ht⟩)).set
  rw [View.set_slice_whole, Rect.mem_set_unit]
  intro a
  match a with
  | ⟨0, _⟩ => show win0_4.index ⟨(i 0 : Nat) / 256, ht⟩ 0 * 256 ≤ (i 0 : Nat) ∧ (i 0 : Nat) < win0_4.index ⟨(i 0 : Nat) / 256, ht⟩ 0 * 256 + 256
              rw [e0]; dsimp only; omega
  | ⟨1, _⟩ => show win0_4.index ⟨(i 0 : Nat) / 256, ht⟩ 1 * 2048 ≤ (i 1 : Nat) ∧ (i 1 : Nat) < win0_4.index ⟨(i 0 : Nat) / 256, ht⟩ 1 * 2048 + 2048
              rw [e1]; omega

theorem covered5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2048 := (i 0).isLt
  have h1 : (i 1 : Nat) < 2048 := (i 1).isLt
  have hN : cfg0.N = 8 := N_0
  have ht : (i 0 : Nat) / 256 < cfg0.N := by omega
  obtain ⟨-, -, -, -, -, ⟨e0, e1⟩, -⟩ := index_facts ⟨(i 0 : Nat) / 256, ht⟩
  refine ⟨⟨(i 0 : Nat) / 256, ht⟩, flush0_5 _, ?_⟩
  show i ∈ ((View.whole main_v18_1).slice (win0_5.rect ⟨(i 0 : Nat) / 256, ht⟩)).set
  rw [View.set_slice_whole, Rect.mem_set_unit]
  intro a
  match a with
  | ⟨0, _⟩ => show win0_5.index ⟨(i 0 : Nat) / 256, ht⟩ 0 * 256 ≤ (i 0 : Nat) ∧ (i 0 : Nat) < win0_5.index ⟨(i 0 : Nat) / 256, ht⟩ 0 * 256 + 256
              rw [e0]; dsimp only; omega
  | ⟨1, _⟩ => show win0_5.index ⟨(i 0 : Nat) / 256, ht⟩ 1 * 2048 ≤ (i 1 : Nat) ∧ (i 1 : Nat) < win0_5.index ⟨(i 0 : Nat) / 256, ht⟩ 1 * 2048 + 2048
              rw [e1]; omega

theorem covered6 (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 1 := (i 0).isLt
  have h1 : (i 1 : Nat) < 2048 := (i 1).isLt
  have ht : 7 < cfg0.N := by decide
  obtain ⟨-, -, -, -, -, -, ⟨e0, e1⟩, -⟩ := index_facts ⟨7, ht⟩
  refine ⟨⟨7, ht⟩, (by decide +kernel : ∀ h : 7 < cfg0.N, (cfg0.win 6).flush ⟨7, h⟩ = true) ht, ?_⟩
  show i ∈ ((View.whole main_v18_2).slice (win0_6.rect ⟨7, ht⟩)).set
  rw [View.set_slice_whole, Rect.mem_set_unit]
  intro a
  match a with
  | ⟨0, _⟩ => show win0_6.index ⟨7, ht⟩ 0 * 1 ≤ (i 0 : Nat) ∧ (i 0 : Nat) < win0_6.index ⟨7, ht⟩ 0 * 1 + 1
              rw [e0]; omega
  | ⟨1, _⟩ => show win0_6.index ⟨7, ht⟩ 1 * 2048 ≤ (i 1 : Nat) ∧ (i 1 : Nat) < win0_6.index ⟨7, ht⟩ 1 * 2048 + 2048
              rw [e1]; omega

theorem covered7 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : Nat) < 1 := (i 0).isLt
  have h1 : (i 1 : Nat) < 2048 := (i 1).isLt
  have ht : 7 < cfg0.N := by decide
  obtain ⟨-, -, -, -, -, -, -, ⟨e0, e1⟩⟩ := index_facts ⟨7, ht⟩
  refine ⟨⟨7, ht⟩, (by decide +kernel : ∀ h : 7 < cfg0.N, (cfg0.win 7).flush ⟨7, h⟩ = true) ht, ?_⟩
  show i ∈ ((View.whole main_v18_3).slice (win0_7.rect ⟨7, ht⟩)).set
  rw [View.set_slice_whole, Rect.mem_set_unit]
  intro a
  match a with
  | ⟨0, _⟩ => show win0_7.index ⟨7, ht⟩ 0 * 1 ≤ (i 0 : Nat) ∧ (i 0 : Nat) < win0_7.index ⟨7, ht⟩ 0 * 1 + 1
              rw [e0]; omega
  | ⟨1, _⟩ => show win0_7.index ⟨7, ht⟩ 1 * 2048 ≤ (i 1 : Nat) ∧ (i 1 : Nat) < win0_7.index ⟨7, ht⟩ 1 * 2048 + 2048
              rw [e1]; omega

/-- The side conditions of the precondition's operations. -/
theorem preFacts : Cert.Pre_finite16.Facts := by
  constructor <;> decide

/-- The reference's gradient of the norm's input is the mathematics' where the arguments are finite. -/
theorem hdr_eq (D X : Vec Ideal S2048x2048 .f32) (G : Vec Ideal S1x2048 .f32) (hD : ∀ i, (D i : EReal) = (((D i : EReal).toReal : ℝ) : EReal))
    (hX : ∀ i, (X i : EReal) = (((X i : EReal).toReal : ℝ) : EReal)) (hG : ∀ i, (G i : EReal) = (((G i : EReal).toReal : ℝ) : EReal)) (r q : Fin 2048) :
    (hdr X (hdg D G) (ix2 r q) : EReal)
      = kdx (rs (fun q => X (ix2 r q))) (xh (fun q => X (ix2 r q))) (fun q => D (ix2 r q) * G (ix2 0 q)) q := by
  have e : (fun q => (hdg D G (ix2 r q) : EReal)) = fun q => D (ix2 r q) * G (ix2 0 q) := funext fun q => hdg_at D G r q
  refine ((hdr_at X (hdg D G) r q).trans (congrArg (fun d => hdx (fun q => X (ix2 r q)) d q) e)).trans
    (kdx_eq _ _ (fun k => hX (ix2 r k)) (fun k => ?_) q).symm
  rw [hD, hG, ← EReal.coe_mul, EReal.toReal_coe]

/-- The idealized kernel and the idealized reference leave the same four gradients where the arguments are finite. -/
theorem value : Cert.algebraic_Kernel16Ideal_Reference16Ideal_pre_finite16 (hKernel16Ideal := Cert.Kernel16Ideal.Gen.facts)
    (hReference16Ideal := Cert.Reference16Ideal.Gen.facts) (hPre_finite16 := preFacts) := by
  intro m g m' g' hpre hargs
  refine ⟨fun c => res4 m c, fun c => res5 m c, fun c => res6 m c, fun c => res7 m c, ?_, ?_⟩
  · exact (θ_run _ _ _).mono (fun r h c =>
      ⟨(h c).1.trans ((dats m 0 c).arrAt_eq_of_cover 4 (res4 m c) (fun t _ => flushed4_eq m c t) (covered4 c)),
       (h c).2.1.trans ((dats m 0 c).arrAt_eq_of_cover 5 (res5 m c) (fun t _ => flushed5_eq m c t) (covered5 c)),
       (h c).2.2.1.trans ((dats m 0 c).arrAt_eq_of_cover 6 (res6 m c) (fun t hf => flushed6_eq m c t hf) (covered6 c)),
       (h c).2.2.2.1.trans ((dats m 0 c).arrAt_eq_of_cover 7 (res7 m c) (fun t hf => flushed7_eq m c t hf) (covered7 c)),
       (h c).2.2.2.2⟩) (Value.run_blocks m g)
  · have hd : ∀ c : Dev nD, ∀ r q, (hdr (aX m c) (hdg (aD m c) (aG m c)) (ix2 r q) : EReal) = dr m c r q := fun c =>
      hdr_eq (aD m c) (aX m c) (aG m c) (fun i => Cert.Scan.finite_entry _ _ (hpre c).1 i) (fun i => Cert.Scan.finite_entry _ _ (hpre c).2.1 i)
        (fun i => Cert.Scan.finite_entry _ _ (hpre c).2.2 i)
    refine (θ_run _ _ _).mono (fun r h c => ⟨(h c).1.trans ?_, (h c).2.1.trans ?_, (h c).2.2.1.trans ?_, (h c).2.2.2.1.trans ?_, (h c).2.2.2.2⟩)
      (Cert.Reference16Ideal.Value.run (F := Ideal) m' g')
    · rw [r54, (hargs c).1, (hargs c).2.1, (hargs c).2.2]
      funext i
      have hi : (ix2 (i 0) (i 1) : S2048x2048.Idx) = i := ix2_eta i
      have k := hd c (i 0) (i 1)
      rw [hi] at k
      exact k
    · rw [r57, (hargs c).1, (hargs c).2.1, (hargs c).2.2]
      funext i
      have hi : (ix2 (i 0) (i 1) : S2048x2048.Idx) = i := ix2_eta i
      have k := (hhalf_at (aX m c) (hdg (aD m c) (aG m c)) (i 0) (i 1)).trans
        (congrArg (fun a : EReal => Ideal.ofBits .f32 0x3F000000#32 * a) (hd c (i 0) (i 1)))
      rw [hi] at k
      exact k
    · funext y
      refine Eq.trans ?_ (hgain_at (aD m c) (aX m c) y)
      rw [(hargs c).1, (hargs c).2.1]
      rfl
    · funext y
      refine Eq.trans ?_ (hbias_at (aD m c) y)
      rw [(hargs c).1]
      rfl

end Cert.LnBwd

end
-- ==== Proof.GateSpec.lean ====
/- The gradients of the short convolution's gate: the mathematics, a block of the kernel, and the arrays of the reference. -/
module

public import proofs.«01_k».proof.Defs
public import proofs.«01_k».proof.Proof.Gen.Kernel17Ideal.Skeleton
public import proofs.«01_k».proof.Proof.Gen.Reference17Ideal.Run
public import proofs.«01_k».proof.Proof.Blocks
public import proofs.«01_k».proof.Proof.RmsGrad
public import Idealize.ShloMosaic.Lib.Pointwise

@[expose] public section

set_option maxRecDepth 16384

noncomputable section

namespace Cert.GateGrad

open Idealize.ShloMosaic Idealize.ShloMosaic.TcCoe Idealize.SL.Sem
open Cert.Kernel17Ideal Cert.Kernel17Ideal.Gen Cert.Blocks
open Cert.RmsGrad (eps6 rinv dx hdx krinv_apply kdx_apply krinv_row hrinv_row hgrad_apply dx_eq)

section Spec
variable (D : S2048x2048.Idx → EReal) (P : S2048x4096.Idx → EReal) (W : S3x1024.Idx → EReal) (B G : S1x1024.Idx → EReal)

/-- What enters the convolution, two rows late: zero before the first row. -/
def lag (n : ℕ) (q : Fin 1024) : EReal :=
  if h : n < 2 then 0 else if h' : n - 2 < 2048 then P (ix2 ⟨n - 2, h'⟩ ⟨2048 + q.val, by omega⟩) * P (ix2 ⟨n - 2, h'⟩ ⟨3072 + q.val, by omega⟩) else 0

/-- The convolution with its bias, -/
def cv (r : Fin 2048) (q : Fin 1024) : EReal :=
  W (ix2 0 q) * lag P r.val q + W (ix2 1 q) * lag P (r.val + 1) q + W (ix2 2 q) * lag P (r.val + 2) q + B (ix2 0 q)

/-- its gate, -/
def gb (r : Fin 2048) (q : Fin 1024) : EReal := P (ix2 r ⟨1024 + q.val, by omega⟩)

/-- the gated value, -/
def zz (r : Fin 2048) (q : Fin 1024) : EReal := gb P r q * cv P W B r q

/-- the cotangent, -/
def dn (r : Fin 2048) (q : Fin 1024) : EReal := D (ix2 r ⟨1024 + q.val, by omega⟩)

/-- the cotangent times the gain, -/
def dg (r : Fin 2048) (q : Fin 1024) : EReal := dn D r q * G (ix2 0 q)

/-- the gradient of the gated value, -/
def dz (r : Fin 2048) (q : Fin 1024) : EReal := dx (zz P W B r) (dg D G r) q

/-- of the convolution, -/
def dcv (r : Fin 2048) (q : Fin 1024) : EReal := dz D P W B G r q * gb P r q

/-- and the summands of the gradient of the gain, -/
def sg (r : Fin 2048) (q : Fin 1024) : EReal := dn D r q * zz P W B r q * rinv (zz P W B r)

/-- and of the three taps. -/
def sw (k : ℕ) (r : Fin 2048) (q : Fin 1024) : EReal := dcv D P W B G r q * lag P (r.val + k) q

/-- A finite entry is a real number. -/
def Fin' (a : EReal) : Prop := a = ((a.toReal : ℝ) : EReal)

theorem fin_mul {a b : EReal} (ha : Fin' a) (hb : Fin' b) : Fin' (a * b) := by
  unfold Fin' at *
  rw [ha, hb, ← EReal.coe_mul, EReal.toReal_coe]

theorem fin_add {a b : EReal} (ha : Fin' a) (hb : Fin' b) : Fin' (a + b) := by
  unfold Fin' at *
  rw [ha, hb, ← EReal.coe_add, EReal.toReal_coe]

theorem lag_fin (hP : ∀ i, Fin' (P i)) (n : ℕ) (q : Fin 1024) : Fin' (lag P n q) := by
  have h0 : Fin' 0 := by unfold Fin'; rw [EReal.toReal_zero, EReal.coe_zero]
  unfold lag
  split
  · exact h0
  · split
    · exact fin_mul (hP _) (hP _)
    · exact h0

/-- For finite arguments the reference's form of the gradient is the kernel's. -/
theorem dz_eq (hD : ∀ i, Fin' (D i)) (hP : ∀ i, Fin' (P i)) (hW : ∀ i, Fin' (W i)) (hB : ∀ i, Fin' (B i)) (hG : ∀ i, Fin' (G i)) (r : Fin 2048) (q : Fin 1024) :
    dz D P W B G r q = hdx (zz P W B r) (dg D G r) q :=
  dx_eq _ _
    (fun k => fin_mul (hP _) (fin_add (fin_add (fin_add (fin_mul (hW _) (lag_fin P hP _ k)) (fin_mul (hW _) (lag_fin P hP _ k))) (fin_mul (hW _) (lag_fin P hP _ k))) (hB _)))
    (fun k => fin_mul (hD _) (hG _)) q

end Spec

/-- The kernel's named constant. -/
theorem named_rms : (Named.named (F := Ideal) κ "rms" (φ := .f32) 0x358637BD#32 : EReal) = eps6 :=
  IdealRules.named_const.ideal_named_scalar _ _ _ _ rfl

section Body
variable (i : grid0.Coords) (v0 v1 v2 v3 : Vec Ideal S256x1024 .f32) (v4 : Vec Ideal S3x1024 .f32) (v5 v6 : Vec Ideal S1x1024 .f32) (v7 v8 : Vec Ideal S8x1024 .f32)

/-- The factor on the rows above a block, as the kernel computes it from the grid point. -/
def live : EReal := (((Scalar.extui (Scalar.cmpi CmpIPredicate.sgt (BitVec.ofNat 32 (i 0).val) 0#32) : BitVec 32).toInt : ℝ) : EReal)

/-- Row `n` of what enters the convolution of a block, the eight rows above it first. -/
def ext (n : ℕ) (q : Fin 1024) : EReal :=
  if h : n < 8 then (v7 (ix2 ⟨n, h⟩ q) : EReal) * v8 (ix2 ⟨n, h⟩ q) * live i
  else if h' : n - 8 < 256 then (v2 (ix2 ⟨n - 8, h'⟩ q) : EReal) * v3 (ix2 ⟨n - 8, h'⟩ q) else 0

/-- A rotated read of a block with the rows above it. -/
theorem ext_rot (n k : ℕ) (q : Fin 1024) (hn : n = k) (h1 : n < 8 → n < 8) (h2 : ¬n < 8 → n - 8 < 256) :
    (if h : n < 8 then (v7 (ix2 ⟨n, h1 h⟩ q) : EReal) * v8 (ix2 ⟨n, h1 h⟩ q) * live i
      else (v2 (ix2 ⟨n - 8, h2 h⟩ q) : EReal) * v3 (ix2 ⟨n - 8, h2 h⟩ q)) = ext i v2 v3 v7 v8 k q := by
  subst hn
  unfold ext
  split
  · rfl
  · next h => rw [dif_pos (h2 h)]

theorem pay11_at (p : Fin 256) (q : Fin 1024) : (k0_pay11 v2 v3 (ix2 p q) : EReal) = ext i v2 v3 v7 v8 (p.val + 8) q := by
  unfold ext
  rw [dif_neg (by omega), dif_pos (show p.val + 8 - 8 < 256 by omega)]
  refine congrArg₂ (fun a b : EReal => a * b) (at_eq _ _ _ fun a => ?_) (at_eq _ _ _ fun a => ?_)
  all_goals match a with
    | ⟨0, _⟩ => show p.val = p.val + 8 - 8; omega
    | ⟨1, _⟩ => rfl

theorem pay13_at (p : Fin 256) (q : Fin 1024) : (k0_pay13 i v2 v3 v7 v8 (ix2 p q) : EReal) = ext i v2 v3 v7 v8 (p.val + 7) q := by
  rw [← ext_rot i v2 v3 v7 v8 ((8 + p.val + 264 - 1) % 264) (p.val + 7) q (by omega) id (by omega)]
  unfold live
  pointwise [k0_pay13, k0_pay12, k0_pay11]

theorem pay14_at (p : Fin 256) (q : Fin 1024) : (k0_pay14 i v2 v3 v7 v8 (ix2 p q) : EReal) = ext i v2 v3 v7 v8 (p.val + 6) q := by
  rw [← ext_rot i v2 v3 v7 v8 ((8 + p.val + 264 - 2) % 264) (p.val + 6) q (by omega) id (by omega)]
  unfold live
  pointwise [k0_pay14, k0_pay12, k0_pay11]

/-- The block's convolution. -/
theorem pay15_at (p : Fin 256) (q : Fin 1024) : (k0_pay15 i v2 v3 v4 v5 v7 v8 (ix2 p q) : EReal)
    = (v4 (ix2 0 q) : EReal) * (k0_pay14 i v2 v3 v7 v8 (ix2 p q) : EReal) + (v4 (ix2 1 q) : EReal) * (k0_pay13 i v2 v3 v7 v8 (ix2 p q) : EReal)
      + (v4 (ix2 2 q) : EReal) * (k0_pay11 v2 v3 (ix2 p q) : EReal) + (v5 (ix2 0 q) : EReal) := by
  unfold k0_pay15
  generalize k0_pay14 i v2 v3 v7 v8 = X
  generalize k0_pay13 i v2 v3 v7 v8 = Y
  generalize k0_pay11 v2 v3 = Z
  pointwise []

/-- The block's cotangent times the gain, -/
def ct : FVec Ideal S256x1024 .f32 := mulf v0 (broadcastTo S256x1024 v6 broadcasts_S1x1024_S256x1024)

theorem ct_at (p : Fin 256) (q : Fin 1024) : (ct v0 v6 (ix2 p q) : EReal) = (v0 (ix2 p q) : EReal) * v6 (ix2 0 q) := by
  pointwise [ct]

/-- the reciprocal roots of its rows, -/
theorem pay18_at (p : Fin 256) :
    (k0_pay18 (k0_pay17 i v1 v2 v3 v4 v5 v7 v8) (ix2 p 0) : EReal) = rinv (fun q => k0_pay16 i v1 v2 v3 v4 v5 v7 v8 (ix2 p q)) :=
  krinv_row (k0_pay16 i v1 v2 v3 v4 v5 v7 v8) reduces_S256x1024_S256 shapeCasts_S256_S256x1 _ named_rms p

/-- and its gradient of the gated value. -/
theorem pay19_at (p : Fin 256) (q : Fin 1024) :
    (k0_pay19 v0 v6 (k0_pay16 i v1 v2 v3 v4 v5 v7 v8) (k0_pay17 i v1 v2 v3 v4 v5 v7 v8) (ix2 p q) : EReal)
      = dx (fun q => k0_pay16 i v1 v2 v3 v4 v5 v7 v8 (ix2 p q)) (fun q => ct v0 v6 (ix2 p q)) q :=
  kdx_apply (k0_pay16 i v1 v2 v3 v4 v5 v7 v8) (ct v0 v6) reduces_S256x1024_S256 shapeCasts_S256_S256x1 broadcasts_S256x1_S256x1024 _ named_rms (ix2 p q)

end Body

section Sums
variable (v0 v1 : Vec Ideal S256x1024 .f32) (v6 a : Vec Ideal S1x1024 .f32) (x z : FVec Ideal S256x1024 .f32) (s : FVec Ideal S256 .f32) (y : S1x1024.Idx)

/-- The five column sums of a block. -/
theorem sum11 : (k0_pay6 (k0_pay21 v0 z s) a y : EReal)
    = (a y : EReal) + ∑ p : Fin 256, (v0 (ix2 p (y 1)) : EReal) * z (ix2 p (y 1)) * k0_pay18 s (ix2 p 0) := by
  unfold k0_pay6 k0_pay21
  generalize k0_pay18 s = X
  pointwise []

theorem sum12 : (k0_pay7 (k0_pay22 v0 v1 v6 z s) a y : EReal)
    = (a y : EReal) + ∑ p : Fin 256, (k0_pay20 v0 v1 v6 z s (ix2 p (y 1)) : EReal) := by
  unfold k0_pay7 k0_pay22
  generalize k0_pay20 v0 v1 v6 z s = X
  pointwise []

theorem sum13 : (k0_pay8 (k0_pay23 v0 v1 v6 x z s) a y : EReal)
    = (a y : EReal) + ∑ p : Fin 256, (k0_pay20 v0 v1 v6 z s (ix2 p (y 1)) : EReal) * x (ix2 p (y 1)) := by
  unfold k0_pay8 k0_pay23
  generalize k0_pay20 v0 v1 v6 z s = X
  pointwise []

theorem sum14 : (k0_pay9 (k0_pay24 v0 v1 v6 x z s) a y : EReal)
    = (a y : EReal) + ∑ p : Fin 256, (k0_pay20 v0 v1 v6 z s (ix2 p (y 1)) : EReal) * x (ix2 p (y 1)) := by
  unfold k0_pay9 k0_pay24
  generalize k0_pay20 v0 v1 v6 z s = X
  pointwise []

theorem sum15 : (k0_pay10 (k0_pay25 v0 v1 v6 x z s) a y : EReal)
    = (a y : EReal) + ∑ p : Fin 256, (k0_pay20 v0 v1 v6 z s (ix2 p (y 1)) : EReal) * x (ix2 p (y 1)) := by
  unfold k0_pay10 k0_pay25
  generalize k0_pay20 v0 v1 v6 z s = X
  pointwise []

/-- They start from zero. -/
theorem zero1 : (k0_pay1 (F := Ideal) y : EReal) = 0 := by pointwise [k0_pay1]
theorem zero2 : (k0_pay2 (F := Ideal) y : EReal) = 0 := by pointwise [k0_pay2]
theorem zero3 : (k0_pay3 (F := Ideal) y : EReal) = 0 := by pointwise [k0_pay3]
theorem zero4 : (k0_pay4 (F := Ideal) y : EReal) = 0 := by pointwise [k0_pay4]
theorem zero5 : (k0_pay5 (F := Ideal) y : EReal) = 0 := by pointwise [k0_pay5]

end Sums

section Reference
open Cert.Reference17Ideal.Gen
variable (D : Vec Ideal S2048x2048 .f32) (P : Vec Ideal S2048x4096 .f32) (W : Vec Ideal S3x1024 .f32) (B G : Vec Ideal S1x1024 .f32)

/-- The reference's gate, -/
def hgb : FVec Ideal S2048x1024 .f32 := extractStridedSlice S2048x1024 ![0, 1024] P slices_S2048x4096_S2048x1024_0_1024

theorem hgb_at (r : Fin 2048) (q : Fin 1024) : (hgb P (ix2 r q) : EReal) = gb P r q := by
  unfold gb
  pointwise [hgb]

/-- what enters its convolution after two rows of zeros, -/
def hext : FVec Ideal Cert.Reference17Ideal.S2050x1024 .f32 :=
  concatenate Cert.Reference17Ideal.S2050x1024 0 [⟨Cert.Reference17Ideal.S2x1024, (broadcastInDim Cert.Reference17Ideal.S2x1024 ![] bcast_S_S2x1024 (constant (F := Ideal) Cert.Reference17Ideal.S_ .f32 0x00000000#32))⟩, ⟨S2048x1024, (mulf (extractStridedSlice S2048x1024 ![0, 2048] P slices_S2048x4096_S2048x1024_0_2048) (extractStridedSlice S2048x1024 ![0, 3072] P slices_S2048x4096_S2048x1024_0_3072))⟩] concatenates_S2x1024_S2048x1024_S2050x1024_d0

/-- and its three shifts. -/
def hl0 : FVec Ideal S2048x1024 .f32 := extractStridedSlice S2048x1024 ![0, 0] (hext P) slices_S2050x1024_S2048x1024_0_0
def hl1 : FVec Ideal S2048x1024 .f32 := extractStridedSlice S2048x1024 ![1, 0] (hext P) slices_S2050x1024_S2048x1024_1_0
def hl2 : FVec Ideal S2048x1024 .f32 := extractStridedSlice S2048x1024 ![2, 0] (hext P) slices_S2050x1024_S2048x1024_2_0

/-- A read past the two rows of zeros. -/
theorem lag_read (n k : ℕ) (q : Fin 1024) (hn : n = k) (h2 : ¬n < 2 → n - 2 < 2048) :
    (if h : n < 2 then (0 : EReal) else (P (ix2 ⟨n - 2, h2 h⟩ ⟨2048 + q.val, by omega⟩) : EReal) * P (ix2 ⟨n - 2, h2 h⟩ ⟨3072 + q.val, by omega⟩)) = lag P k q := by
  subst hn
  unfold lag
  split
  · rfl
  · next h => rw [dif_pos (h2 h)]

theorem hl0_at (r : Fin 2048) (q : Fin 1024) : (hl0 P (ix2 r q) : EReal) = lag P r.val q := by
  rw [← lag_read P r.val r.val q rfl (by omega)]
  pointwise [hl0, hext]

theorem hl1_at (r : Fin 2048) (q : Fin 1024) : (hl1 P (ix2 r q) : EReal) = lag P (r.val + 1) q := by
  rw [← lag_read P (1 + r.val) (r.val + 1) q (by omega) (by omega)]
  pointwise [hl1, hext]

theorem hl2_at (r : Fin 2048) (q : Fin 1024) : (hl2 P (ix2 r q) : EReal) = lag P (r.val + 2) q := by
  rw [← lag_read P (2 + r.val) (r.val + 2) q (by omega) (by omega)]
  pointwise [hl2, hext]

/-- Its convolution with the bias, -/
def hcv : FVec Ideal S2048x1024 .f32 :=
  addf (addf (addf (addf (mulf (broadcastInDim S2048x1024 ![0, 1] bcast_S1x1024_S2048x1024_0_1 (broadcastInDim S1x1024 ![1] bcast_S1024_S1x1024_1 (shapeCast S1024 (extractStridedSlice S1x1024 ![0, 0] W slices_S3x1024_S1x1024_0_0) shapeCasts_S1x1024_S1024))) (hl0 P)) (mulf (broadcastInDim S2048x1024 ![0, 1] bcast_S1x1024_S2048x1024_0_1 (broadcastInDim S1x1024 ![1] bcast_S1024_S1x1024_1 (shapeCast S1024 (extractStridedSlice S1x1024 ![1, 0] W slices_S3x1024_S1x1024_1_0) shapeCasts_S1x1024_S1024))) (hl1 P))) (mulf (broadcastInDim S2048x1024 ![0, 1] bcast_S1x1024_S2048x1024_0_1 (broadcastInDim S1x1024 ![1] bcast_S1024_S1x1024_1 (shapeCast S1024 (extractStridedSlice S1x1024 ![2, 0] W slices_S3x1024_S1x1024_2_0) shapeCasts_S1x1024_S1024))) (hl2 P))) (broadcastInDim S2048x1024 ![0, 1] bcast_S1x1024_S2048x1024_0_1 B)) (broadcastInDim S2048x1024 ![] bcast_S_S2048x1024 (constant (F := Ideal) Cert.Reference17Ideal.S_ .f32 0x00000000#32))

theorem hcv_at (r : Fin 2048) (q : Fin 1024) : (hcv P W B (ix2 r q) : EReal) = cv P W B r q := by
  unfold cv
  rw [← hl0_at, ← hl1_at, ← hl2_at]
  unfold hcv
  generalize hl0 P = X
  generalize hl1 P = Y
  generalize hl2 P = Z
  pointwise []

/-- the gated value, -/
def hz : FVec Ideal S2048x1024 .f32 := mulf (hgb P) (hcv P W B)

theorem hz_row (r : Fin 2048) : (fun q => (hz P W B (ix2 r q) : EReal)) = zz P W B r :=
  funext fun q => congrArg₂ (fun a b : EReal => a * b) (hgb_at P r q) (hcv_at P W B r q)

/-- the cotangent, -/
def hdn : FVec Ideal S2048x1024 .f32 := extractStridedSlice S2048x1024 ![0, 1024] D slices_S2048x2048_S2048x1024_0_1024

theorem hdn_at (r : Fin 2048) (q : Fin 1024) : (hdn D (ix2 r q) : EReal) = dn D r q := by
  unfold dn
  pointwise [hdn]

/-- the cotangent times the gain, -/
def hdg : FVec Ideal S2048x1024 .f32 := mulf (hdn D) (broadcastInDim S2048x1024 ![0, 1] bcast_S1x1024_S2048x1024_0_1 G)

theorem hdg_row (r : Fin 2048) : (fun q => (hdg D G (ix2 r q) : EReal)) = dg D G r := by
  funext q
  unfold dg
  rw [← hdn_at]
  unfold hdg
  generalize hdn D = X
  pointwise []

/-- the reciprocal roots, -/
def hri : FVec Ideal Cert.Reference17Ideal.S2048x1 .f32 :=
  Cert.RmsGrad.hrinv (hz P W B) reducesTo_S2048x1024_S2048_d1 h_S_ bcast_S2048_S2048x1_0 bcast_S_S2048x1

theorem hri_at (r : Fin 2048) : (hri P W B (ix2 r 0) : EReal) = rinv (zz P W B r) :=
  (hrinv_row (hz P W B) _ _ _ _ r).trans (congrArg rinv (hz_row P W B r))

/-- the gradient of the gated value, -/
def hdz : FVec Ideal S2048x1024 .f32 :=
  Cert.RmsGrad.hgrad (hz P W B) (hdg D G) reducesTo_S2048x1024_S2048_d1 reducesTo_S2048x1_S2048_d1 h_S_ bcast_S2048_S2048x1_0 bcast_S2048_S2048x1024_0
    bcast_S_S2048x1 bcast_S2048x1_S2048x1024_0_1 shapeCasts_S2048_S2048x1

theorem hdz_at (r : Fin 2048) (q : Fin 1024) : (hdz D P W B G (ix2 r q) : EReal) = hdx (zz P W B r) (dg D G r) q :=
  (hgrad_apply (hz P W B) (hdg D G) _ _ _ _ _ _ _ _ (ix2 r q)).trans (congrArg₂ (fun a b => hdx a b q) (hz_row P W B r) (hdg_row D G r))

/-- and of the convolution. -/
def hdcv : FVec Ideal S2048x1024 .f32 := mulf (hgb P) (hdz D P W B G)

/-- The column sums, -/
def hcol (X : FVec Ideal S2048x1024 .f32) : FVec Ideal S1x1024 .f32 :=
  shapeCast S1x1024 (Host.reduceAdd X (constant (F := Ideal) Cert.Reference17Ideal.S_ .f32 0x00000000#32) reducesTo_S2048x1024_S1024_d0 h_S_) Cert.Reference17Ideal.Gen.shapeCasts_S1024_S1x1024

theorem one_row (X : FVec Ideal S1x1024 .f32) (y : S1x1024.Idx) : (X (ix2 0 (y 1)) : EReal) = X y :=
  at_eq (S := S1x1024) X _ y fun a => match a with
    | ⟨0, _⟩ => by have h : (y 0 : Nat) < 1 := (y 0).isLt; show 0 = (y 0 : Nat); omega
    | ⟨1, _⟩ => rfl

theorem hcol_apply (X : FVec Ideal S2048x1024 .f32) (y : S1x1024.Idx) : (hcol X y : EReal) = ∑ r : Fin 2048, (X (ix2 r (y 1)) : EReal) := by
  pointwise [hcol]

/-- the gradient of the gain, -/
def hsg : FVec Ideal S1x1024 .f32 :=
  hcol (mulf (mulf (hz P W B) (broadcastInDim S2048x1024 ![0, 1] bcast_S2048x1_S2048x1024_0_1 (hri P W B))) (hdn D))

theorem hsg_apply (y : S1x1024.Idx) : (hsg D P W B y : EReal) = ∑ r : Fin 2048, sg D P W B r (y 1) := by
  unfold hsg
  rw [hcol_apply]
  refine Finset.sum_congr rfl fun r _ => ?_
  have e : sg D P W B r (y 1) = (hz P W B (ix2 r (y 1)) : EReal) * (hri P W B (ix2 r 0) : EReal) * (hdn D (ix2 r (y 1)) : EReal) := by
    refine Eq.trans ?_ (congrArg₂ (fun a b : EReal => a * b) (congrArg₂ (fun a b : EReal => a * b) (congrFun (hz_row P W B r) (y 1)) (hri_at P W B r)) (hdn_at D r (y 1))).symm
    unfold sg
    rw [mul_comm (dn D r (y 1)), mul_assoc, mul_comm (dn D r (y 1)), ← mul_assoc]
  rw [e]
  clear e
  generalize hz P W B = X
  generalize hri P W B = Y
  generalize hdn D = Z
  pointwise []

/-- and the row of a tap's gradient, in the tap's place. -/
def htap (X : FVec Ideal S2048x1024 .f32) : FVec Ideal S1x1024 .f32 :=
  broadcastInDim S1x1024 ![1] bcast_S1024_S1x1024_1 (Host.reduceAdd (hcol X) (constant (F := Ideal) Cert.Reference17Ideal.S_ .f32 0x00000000#32) reducesTo_S1x1024_S1024_d0 h_S_)

theorem htap_apply (X : FVec Ideal S2048x1024 .f32) (y : S1x1024.Idx) : (htap X y : EReal) = ∑ r : Fin 2048, (X (ix2 r (y 1)) : EReal) := by
  refine Eq.trans ?_ (hcol_apply X y)
  unfold htap
  generalize hcol X = Y
  pointwise []
  exact (Fin.sum_univ_one _).trans (one_row Y y)

/-- The gradient of the taps, -/
def htaps (a b c : FVec Ideal S1x1024 .f32) : FVec Ideal S3x1024 .f32 :=
  addf (addf (pad S3x1024 ![2, 0] ![0, 0] ![0, 0] a (constant (F := Ideal) Cert.Reference17Ideal.S_ .f32 0x00000000#32) pads_S1x1024_S3x1024_200_000 h_S_)
    (pad S3x1024 ![1, 0] ![1, 0] ![0, 0] b (constant (F := Ideal) Cert.Reference17Ideal.S_ .f32 0x00000000#32) pads_S1x1024_S3x1024_110_000 h_S_))
    (pad S3x1024 ![0, 0] ![2, 0] ![0, 0] c (constant (F := Ideal) Cert.Reference17Ideal.S_ .f32 0x00000000#32) pads_S1x1024_S3x1024_020_000 h_S_)

/-- row by row. -/
theorem htaps0 (a b c : FVec Ideal S1x1024 .f32) (y : S1x1024.Idx) : (extractStridedSlice S1x1024 ![0, 0] (htaps a b c) slices_S3x1024_S1x1024_0_0 y : EReal) = c y := by
  pointwise [htaps]
  exact one_row c y

theorem htaps1 (a b c : FVec Ideal S1x1024 .f32) (y : S1x1024.Idx) : (extractStridedSlice S1x1024 ![1, 0] (htaps a b c) slices_S3x1024_S1x1024_1_0 y : EReal) = b y := by
  pointwise [htaps]
  exact one_row b y

theorem htaps2 (a b c : FVec Ideal S1x1024 .f32) (y : S1x1024.Idx) : (extractStridedSlice S1x1024 ![2, 0] (htaps a b c) slices_S3x1024_S1x1024_2_0 y : EReal) = a y := by
  pointwise [htaps]
  exact one_row a y

end Reference

section Run
open Cert.Reference17Ideal.Gen
variable (V : Valuation Cert.Reference17Ideal.τ Cert.Reference17Ideal.sig (Elt Ideal))

/-- The reference's arguments, -/
abbrev vD : Vec Ideal S2048x2048 .f32 := V (Proc.devRef .tc Cert.Reference17Ideal.main_arg0)
abbrev vP : Vec Ideal S2048x4096 .f32 := V (Proc.devRef .tc Cert.Reference17Ideal.main_arg1)
abbrev vW : Vec Ideal S3x1024 .f32 := V (Proc.devRef .tc Cert.Reference17Ideal.main_arg2)
abbrev vB : Vec Ideal S1x1024 .f32 := V (Proc.devRef .tc Cert.Reference17Ideal.main_arg3)
abbrev vG : Vec Ideal S1x1024 .f32 := V (Proc.devRef .tc Cert.Reference17Ideal.main_arg4)

/-- and its values in the terms above. -/
theorem r29 : Cert.Reference17Ideal.Value.res_main_v29 V = hcv (vP V) (vW V) (vB V) := rfl
theorem r30 : Cert.Reference17Ideal.Value.res_main_v30 V = hz (vP V) (vW V) (vB V) := rfl
theorem r66 : Cert.Reference17Ideal.Value.res_main_v66 V = hdz (vD V) (vP V) (vW V) (vB V) (vG V) := rfl
theorem r67 : Cert.Reference17Ideal.Value.res_main_v67 V = hdcv (vD V) (vP V) (vW V) (vB V) (vG V) := rfl
theorem r90 : Cert.Reference17Ideal.Value.res_main_v90 V
    = htaps (htap (mulf (hdcv (vD V) (vP V) (vW V) (vB V) (vG V)) (hl2 (vP V)))) (htap (mulf (hdcv (vD V) (vP V) (vW V) (vB V) (vG V)) (hl1 (vP V))))
      (htap (mulf (hdcv (vD V) (vP V) (vW V) (vB V) (vG V)) (hl0 (vP V)))) := rfl

end Run

end Cert.GateGrad

end
-- ==== Proof.GateGrad.lean ====
/- The gradients of the short convolution's gate, of the convolution, of its taps and bias, and of the gain of the norm after it. -/
module

public import proofs.«01_k».proof.Defs
public import proofs.«01_k».proof.Defs
public import proofs.«01_k».proof.Proof.Gen.Kernel17Ideal.Value
public import proofs.«01_k».proof.Proof.Blocks
public import proofs.«01_k».proof.Proof.GateSpec
public import proofs.«01_k».proof.Proof.Finite
public import proofs.«01_k».proof.Pre_finite17
public import Idealize.ShloMosaic.Lib.Pipeline.Value
public import Idealize.ShloMosaic.Lib.Pipeline.ValueKit.Acc

@[expose] public section

set_option maxRecDepth 16384

noncomputable section

namespace Cert.GateGrad

open Idealize.ShloMosaic Idealize.ShloMosaic.TcCoe Idealize.SL.Sem
open Cert.Kernel17Ideal Cert.Kernel17Ideal.Gen Cert.Blocks
open Cert.RmsGrad (rinv dx hdx blockSum blockSum_eq blockSum_all)

variable (m : (ℓ : Loc nD τ sig) → Buf (Elt Ideal) ℓ)

/-- The launched arrays. -/
abbrev aD (c : Dev nD) : Vec Ideal S2048x2048 .f32 := m ((c.tc : Thread nD τ).loc main_arg0)
abbrev aP (c : Dev nD) : Vec Ideal S2048x4096 .f32 := m ((c.tc : Thread nD τ).loc main_arg1)
abbrev aW (c : Dev nD) : Vec Ideal S3x1024 .f32 := m ((c.tc : Thread nD τ).loc main_arg2)
abbrev aB (c : Dev nD) : Vec Ideal S1x1024 .f32 := m ((c.tc : Thread nD τ).loc main_arg3)
abbrev aG (c : Dev nD) : Vec Ideal S1x1024 .f32 := m ((c.tc : Thread nD τ).loc main_arg4)

/-- The blocks of point `t`. -/
abbrev b0 (c : Dev nD) (t : Fin cfg0.N) : Vec Ideal S256x1024 .f32 := iblk m c 0 t
abbrev b1 (c : Dev nD) (t : Fin cfg0.N) : Vec Ideal S256x1024 .f32 := iblk m c 1 t
abbrev b2 (c : Dev nD) (t : Fin cfg0.N) : Vec Ideal S256x1024 .f32 := iblk m c 2 t
abbrev b3 (c : Dev nD) (t : Fin cfg0.N) : Vec Ideal S256x1024 .f32 := iblk m c 3 t
abbrev b4 (c : Dev nD) (t : Fin cfg0.N) : Vec Ideal S3x1024 .f32 := iblk m c 4 t
abbrev b5 (c : Dev nD) (t : Fin cfg0.N) : Vec Ideal S1x1024 .f32 := iblk m c 5 t
abbrev b6 (c : Dev nD) (t : Fin cfg0.N) : Vec Ideal S1x1024 .f32 := iblk m c 6 t
abbrev b7 (c : Dev nD) (t : Fin cfg0.N) : Vec Ideal S8x1024 .f32 := iblk m c 7 t
abbrev b8 (c : Dev nD) (t : Fin cfg0.N) : Vec Ideal S8x1024 .f32 := iblk m c 8 t

/-- The values of the body at point `t`: the three shifts of what enters the convolution, -/
abbrev y0 (c : Dev nD) (t : Fin cfg0.N) : FVec Ideal S256x1024 .f32 := k0_pay14 (grid0.coords t) (b2 m c t) (b3 m c t) (b7 m c t) (b8 m c t)
abbrev y1 (c : Dev nD) (t : Fin cfg0.N) : FVec Ideal S256x1024 .f32 := k0_pay13 (grid0.coords t) (b2 m c t) (b3 m c t) (b7 m c t) (b8 m c t)
abbrev y2 (c : Dev nD) (t : Fin cfg0.N) : FVec Ideal S256x1024 .f32 := k0_pay11 (b2 m c t) (b3 m c t)

/-- the convolution, -/
abbrev yc (c : Dev nD) (t : Fin cfg0.N) : FVec Ideal S256x1024 .f32 :=
  k0_pay15 (grid0.coords t) (b2 m c t) (b3 m c t) (b4 m c t) (b5 m c t) (b7 m c t) (b8 m c t)

/-- the gated value, -/
abbrev yz (c : Dev nD) (t : Fin cfg0.N) : FVec Ideal S256x1024 .f32 :=
  k0_pay16 (grid0.coords t) (b1 m c t) (b2 m c t) (b3 m c t) (b4 m c t) (b5 m c t) (b7 m c t) (b8 m c t)

/-- and its rows' sums of squares. -/
abbrev ys (c : Dev nD) (t : Fin cfg0.N) : FVec Ideal S256 .f32 :=
  k0_pay17 (grid0.coords t) (b1 m c t) (b2 m c t) (b3 m c t) (b4 m c t) (b5 m c t) (b7 m c t) (b8 m c t)

/-- Where the blocks of grid point `t` lie. -/
theorem index_facts : ∀ t : Fin grid0.N, (win0_0.index t 0 = t.val ∧ win0_0.index t 1 = 1)
    ∧ (win0_1.index t 0 = t.val ∧ win0_1.index t 1 = 1) ∧ (win0_2.index t 0 = t.val ∧ win0_2.index t 1 = 2)
    ∧ (win0_3.index t 0 = t.val ∧ win0_3.index t 1 = 3) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = t.val * 32 - 1 ∧ win0_7.index t 1 = 2) ∧ (win0_8.index t 0 = t.val * 32 - 1 ∧ win0_8.index t 1 = 3) := by decide +kernel

/-- Where the results' blocks lie. -/
theorem out_facts : ∀ t : Fin grid0.N, (win0_9.index t 0 = t.val ∧ win0_9.index t 1 = 0)
    ∧ (win0_10.index t 0 = t.val ∧ win0_10.index t 1 = 0) ∧ (win0_11.index t 0 = 0 ∧ win0_11.index t 1 = 0)
    ∧ (win0_12.index t 0 = 0 ∧ win0_12.index t 1 = 0) ∧ (win0_13.index t 0 = 0 ∧ win0_13.index t 1 = 0)
    ∧ (win0_14.index t 0 = 0 ∧ win0_14.index t 1 = 0) ∧ (win0_15.index t 0 = 0 ∧ win0_15.index t 1 = 0) := by decide +kernel

/-- The rows above count at every point but the first. -/
theorem live_facts : ∀ t : Fin grid0.N,
    (Scalar.extui (Scalar.cmpi CmpIPredicate.sgt (BitVec.ofNat 32 (grid0.coords t 0).val) 0#32) : BitVec 32).toInt = if t.val = 0 then 0 else 1 := by
  decide +kernel

theorem block0 (c : Dev nD) (t : Fin cfg0.N) (p : Fin 256) (q : Fin 1024) (r : Fin 2048) (h : r.val = 256 * t.val + p.val) :
    (b0 m c t (ix2 p q) : EReal) = aD m c (ix2 r ⟨1024 + q.val, by omega⟩) := by
  obtain ⟨⟨e0, e1⟩, -⟩ := index_facts t
  exact at_eq (S := S2048x2048) (aD m c) (((cfg0.win 0).blk t).view.emb (ix2 p q)) (ix2 r ⟨1024 + q.val, by omega⟩) fun a => match a with
    | ⟨0, _⟩ => by show win0_0.index t 0 * 256 + 1 * p.val = r.val; rw [e0, h]; omega
    | ⟨1, _⟩ => by show win0_0.index t 1 * 1024 + 1 * q.val = 1024 + q.val; rw [e1]; omega

theorem block1 (c : Dev nD) (t : Fin cfg0.N) (p : Fin 256) (q : Fin 1024) (r : Fin 2048) (h : r.val = 256 * t.val + p.val) :
    (b1 m c t (ix2 p q) : EReal) = aP m c (ix2 r ⟨1024 + q.val, by omega⟩) := by
  obtain ⟨-, ⟨e0, e1⟩, -⟩ := index_facts t
  exact at_eq (S := S2048x4096) (aP m c) (((cfg0.win 1).blk t).view.emb (ix2 p q)) (ix2 r ⟨1024 + q.val, by omega⟩) fun a => match a with
    | ⟨0, _⟩ => by show win0_1.index t 0 * 256 + 1 * p.val = r.val; rw [e0, h]; omega
    | ⟨1, _⟩ => by show win0_1.index t 1 * 1024 + 1 * q.val = 1024 + q.val; rw [e1]; omega

theorem block2 (c : Dev nD) (t : Fin cfg0.N) (p : Fin 256) (q : Fin 1024) (r : Fin 2048) (h : r.val = 256 * t.val + p.val) :
    (b2 m c t (ix2 p q) : EReal) = aP m c (ix2 r ⟨2048 + q.val, by omega⟩) := by
  obtain ⟨-, -, ⟨e0, e1⟩, -⟩ := index_facts t
  exact at_eq (S := S2048x4096) (aP m c) (((cfg0.win 2).blk t).view.emb (ix2 p q)) (ix2 r ⟨2048 + q.val, by omega⟩) fun a => match a with
    | ⟨0, _⟩ => by show win0_2.index t 0 * 256 + 1 * p.val = r.val; rw [e0, h]; omega
    | ⟨1, _⟩ => by show win0_2.index t 1 * 1024 + 1 * q.val = 2048 + q.val; rw [e1]; omega

theorem block3 (c : Dev nD) (t : Fin cfg0.N) (p : Fin 256) (q : Fin 1024) (r : Fin 2048) (h : r.val = 256 * t.val + p.val) :
    (b3 m c t (ix2 p q) : EReal) = aP m c (ix2 r ⟨3072 + q.val, by omega⟩) := by
  obtain ⟨-, -, -, ⟨e0, e1⟩, -⟩ := index_facts t
  exact at_eq (S := S2048x4096) (aP m c) (((cfg0.win 3).blk t).view.emb (ix2 p q)) (ix2 r ⟨3072 + q.val, by omega⟩) fun a => match a with
    | ⟨0, _⟩ => by show win0_3.index t 0 * 256 + 1 * p.val = r.val; rw [e0, h]; omega
    | ⟨1, _⟩ => by show win0_3.index t 1 * 1024 + 1 * q.val = 3072 + q.val; rw [e1]; omega

theorem block4 (c : Dev nD) (t : Fin cfg0.N) (p : Fin 3) (q : Fin 1024) : (b4 m c t (ix2 p q) : EReal) = aW m c (ix2 p q) := by
  obtain ⟨-, -, -, -, ⟨e0, e1⟩, -⟩ := index_facts t
  exact at_eq (S := S3x1024) (aW m c) (((cfg0.win 4).blk t).view.emb (ix2 p q)) (ix2 p q) fun a => match a with
    | ⟨0, _⟩ => by show win0_4.index t 0 * 3 + 1 * p.val = p.val; rw [e0]; omega
    | ⟨1, _⟩ => by show win0_4.index t 1 * 1024 + 1 * q.val = q.val; rw [e1]; omega

theorem block5 (c : Dev nD) (t : Fin cfg0.N) (p : Fin 1) (q : Fin 1024) : (b5 m c t (ix2 p q) : EReal) = aB m c (ix2 p q) := by
  obtain ⟨-, -, -, -, -, ⟨e0, e1⟩, -⟩ := index_facts t
  exact at_eq (S := S1x1024) (aB m c) (((cfg0.win 5).blk t).view.emb (ix2 p q)) (ix2 p q) fun a => match a with
    | ⟨0, _⟩ => by show win0_5.index t 0 * 1 + 1 * p.val = p.val; rw [e0]; omega
    | ⟨1, _⟩ => by show win0_5.index t 1 * 1024 + 1 * q.val = q.val; rw [e1]; omega

theorem block6 (c : Dev nD) (t : Fin cfg0.N) (p : Fin 1) (q : Fin 1024) : (b6 m c t (ix2 p q) : EReal) = aG m c (ix2 p q) := by
  obtain ⟨-, -, -, -, -, -, ⟨e0, e1⟩, -⟩ := index_facts t
  exact at_eq (S := S1x1024) (aG m c) (((cfg0.win 6).blk t).view.emb (ix2 p q)) (ix2 p q) fun a => match a with
    | ⟨0, _⟩ => by show win0_6.index t 0 * 1 + 1 * p.val = p.val; rw [e0]; omega
    | ⟨1, _⟩ => by show win0_6.index t 1 * 1024 + 1 * q.val = q.val; rw [e1]; omega

theorem block7 (c : Dev nD) (t : Fin cfg0.N) (p : Fin 8) (q : Fin 1024) (r : Fin 2048) (h : r.val = 8 * (t.val * 32 - 1) + p.val) :
    (b7 m c t (ix2 p q) : EReal) = aP m c (ix2 r ⟨2048 + q.val, by omega⟩) := by
  obtain ⟨-, -, -, -, -, -, -, ⟨e0, e1⟩, -⟩ := index_facts t
  exact at_eq (S := S2048x4096) (aP m c) (((cfg0.win 7).blk t).view.emb (ix2 p q)) (ix2 r ⟨2048 + q.val, by omega⟩) fun a => match a with
    | ⟨0, _⟩ => by show win0_7.index t 0 * 8 + 1 * p.val = r.val; rw [e0, h]; omega
    | ⟨1, _⟩ => by show win0_7.index t 1 * 1024 + 1 * q.val = 2048 + q.val; rw [e1]; omega

theorem block8 (c : Dev nD) (t : Fin cfg0.N) (p : Fin 8) (q : Fin 1024) (r : Fin 2048) (h : r.val = 8 * (t.val * 32 - 1) + p.val) :
    (b8 m c t (ix2 p q) : EReal) = aP m c (ix2 r ⟨3072 + q.val, by omega⟩) := by
  obtain ⟨-, -, -, -, -, -, -, -, ⟨e0, e1⟩⟩ := index_facts t
  exact at_eq (S := S2048x4096) (aP m c) (((cfg0.win 8).blk t).view.emb (ix2 p q)) (ix2 r ⟨3072 + q.val, by omega⟩) fun a => match a with
    | ⟨0, _⟩ => by show win0_8.index t 0 * 8 + 1 * p.val = r.val; rw [e0, h]; omega
    | ⟨1, _⟩ => by show win0_8.index t 1 * 1024 + 1 * q.val = 3072 + q.val; rw [e1]; omega

/-- A row of what enters a block's convolution is a row of what enters the whole one. -/
theorem ext_at (c : Dev nD) (t : Fin cfg0.N) (n k : ℕ) (q : Fin 1024) (hn : n < 264) (hk : n + 256 * t.val = k + 6) :
    ext (grid0.coords t) (b2 m c t) (b3 m c t) (b7 m c t) (b8 m c t) n q = lag (aP m c) k q := by
  have hN : t.val < 8 := t.isLt
  unfold ext lag
  by_cases h : n < 8
  · rw [dif_pos h]
    unfold live
    rw [live_facts t]
    by_cases ht : t.val = 0
    · rw [if_pos ht, dif_pos (show k < 2 by omega), Int.cast_zero, EReal.coe_zero, mul_zero]
    · rw [if_neg ht, dif_neg (show ¬k < 2 by omega), dif_pos (show k - 2 < 2048 by omega), Int.cast_one, EReal.coe_one, mul_one]
      exact congrArg₂ (fun a b : EReal => a * b) (block7 m c t ⟨n, h⟩ q ⟨k - 2, by omega⟩ (by show k - 2 = 8 * (t.val * 32 - 1) + n; omega))
        (block8 m c t ⟨n, h⟩ q ⟨k - 2, by omega⟩ (by show k - 2 = 8 * (t.val * 32 - 1) + n; omega))
  · rw [dif_neg h, dif_pos (show n - 8 < 256 by omega), dif_neg (show ¬k < 2 by omega), dif_pos (show k - 2 < 2048 by omega)]
    exact congrArg₂ (fun a b : EReal => a * b) (block2 m c t ⟨n - 8, by omega⟩ q ⟨k - 2, by omega⟩ (by show k - 2 = 256 * t.val + (n - 8); omega))
      (block3 m c t ⟨n - 8, by omega⟩ q ⟨k - 2, by omega⟩ (by show k - 2 = 256 * t.val + (n - 8); omega))

section Row
variable (c : Dev nD) (t : Fin cfg0.N) (p : Fin 256) (q : Fin 1024) (r : Fin 2048) (h : r.val = 256 * t.val + p.val)
include h

/-- The values of the body at point `t` are the arrays' at the row where the block's row lies. -/
theorem y0_at : (y0 m c t (ix2 p q) : EReal) = lag (aP m c) (r.val + 0) q :=
  (pay14_at _ _ _ _ _ p q).trans (ext_at m c t _ _ q (by omega) (by omega))

theorem y1_at : (y1 m c t (ix2 p q) : EReal) = lag (aP m c) (r.val + 1) q :=
  (pay13_at _ _ _ _ _ p q).trans (ext_at m c t _ _ q (by omega) (by omega))

theorem y2_at : (y2 m c t (ix2 p q) : EReal) = lag (aP m c) (r.val + 2) q :=
  (pay11_at (grid0.coords t) _ _ (b7 m c t) (b8 m c t) p q).trans (ext_at m c t _ _ q (by omega) (by omega))

theorem yc_at : (yc m c t (ix2 p q) : EReal) = cv (aP m c) (aW m c) (aB m c) r q := by
  refine (pay15_at _ _ _ _ _ _ _ p q).trans ?_
  unfold cv
  exact congrArg₂ (fun a b : EReal => a + b) (congrArg₂ (fun a b : EReal => a + b) (congrArg₂ (fun a b : EReal => a + b)
    (congrArg₂ (fun a b : EReal => a * b) (block4 m c t 0 q) (y0_at m c t p q r h))
    (congrArg₂ (fun a b : EReal => a * b) (block4 m c t 1 q) (y1_at m c t p q r h)))
    (congrArg₂ (fun a b : EReal => a * b) (block4 m c t 2 q) (y2_at m c t p q r h))) (block5 m c t 0 q)

theorem yz_at : (yz m c t (ix2 p q) : EReal) = zz (aP m c) (aW m c) (aB m c) r q :=
  congrArg₂ (fun a b : EReal => a * b) (block1 m c t p q r h) (yc_at m c t p q r h)

omit q in
theorem yz_row : (fun q => (yz m c t (ix2 p q) : EReal)) = zz (aP m c) (aW m c) (aB m c) r :=
  funext fun q => yz_at m c t p q r h

omit q in
theorem ct_row : (fun q => (ct (b0 m c t) (b6 m c t) (ix2 p q) : EReal)) = dg (aD m c) (aG m c) r :=
  funext fun q => (ct_at _ _ p q).trans (congrArg₂ (fun a b : EReal => a * b) (block0 m c t p q r h) (block6 m c t 0 q))

theorem yd_at : (k0_pay19 (b0 m c t) (b6 m c t) (yz m c t) (ys m c t) (ix2 p q) : EReal) = dz (aD m c) (aP m c) (aW m c) (aB m c) (aG m c) r q :=
  (pay19_at _ _ _ _ _ _ _ _ _ _ p q).trans (congrArg₂ (fun f d => dx f d q) (yz_row m c t p r h) (ct_row m c t p r h))

theorem ydcv_at : (k0_pay20 (b0 m c t) (b1 m c t) (b6 m c t) (yz m c t) (ys m c t) (ix2 p q) : EReal)
    = dcv (aD m c) (aP m c) (aW m c) (aB m c) (aG m c) r q :=
  congrArg₂ (fun a b : EReal => a * b) (yd_at m c t p q r h) (block1 m c t p q r h)

theorem ydgb_at : (k0_pay26 (b0 m c t) (b6 m c t) (yc m c t) (yz m c t) (ys m c t) (ix2 p q) : EReal)
    = dz (aD m c) (aP m c) (aW m c) (aB m c) (aG m c) r q * cv (aP m c) (aW m c) (aB m c) r q :=
  congrArg₂ (fun a b : EReal => a * b) (yd_at m c t p q r h) (yc_at m c t p q r h)

theorem ysg_at : (b0 m c t (ix2 p q) : EReal) * (yz m c t (ix2 p q) : EReal) * (k0_pay18 (ys m c t) (ix2 p 0) : EReal)
    = sg (aD m c) (aP m c) (aW m c) (aB m c) r q :=
  congrArg₂ (fun a b : EReal => a * b) (congrArg₂ (fun a b : EReal => a * b) (block0 m c t p q r h) (yz_at m c t p q r h))
    ((pay18_at _ _ _ _ _ _ _ _ p).trans (congrArg rinv (yz_row m c t p r h)))

end Row

/-- What the windows of the blocks' results hold after point `t`. -/
theorem outs9 (c : Dev nD) (t : Fin cfg0.N) : (outsAt0 m c t.val t.isLt).1 = k0_pay26 (b0 m c t) (b6 m c t) (yc m c t) (yz m c t) (ys m c t) := by
  by_cases h : t.val % 8 = 0
  · rw [outsAt0_A m c t h]
    frame_out
  · rw [outsAt0_B m c t h]
    frame_out

theorem outs10 (c : Dev nD) (t : Fin cfg0.N) : (outsAt0 m c t.val t.isLt).2.1 = k0_pay20 (b0 m c t) (b1 m c t) (b6 m c t) (yz m c t) (ys m c t) := by
  by_cases h : t.val % 8 = 0
  · rw [outsAt0_A m c t h]
    frame_out
  · rw [outsAt0_B m c t h]
    frame_out

/-- The columns the five sums add up. -/
abbrev f11 (c : Dev nD) (q : Fin 1024) (r : Fin 2048) : EReal := sg (aD m c) (aP m c) (aW m c) (aB m c) r q
abbrev f12 (c : Dev nD) (q : Fin 1024) (r : Fin 2048) : EReal := dcv (aD m c) (aP m c) (aW m c) (aB m c) (aG m c) r q
abbrev f13 (c : Dev nD) (q : Fin 1024) (r : Fin 2048) : EReal := sw (aD m c) (aP m c) (aW m c) (aB m c) (aG m c) 0 r q
abbrev f14 (c : Dev nD) (q : Fin 1024) (r : Fin 2048) : EReal := sw (aD m c) (aP m c) (aW m c) (aB m c) (aG m c) 1 r q
abbrev f15 (c : Dev nD) (q : Fin 1024) (r : Fin 2048) : EReal := sw (aD m c) (aP m c) (aW m c) (aB m c) (aG m c) 2 r q

/-- After point `n` each holds its parts so far. -/
theorem acc11 (c : Dev nD) (y : S1x1024.Idx) (n : ℕ) (hn : n < cfg0.N) :
    ((outsAt0 m c n hn).2.2.1 y : EReal) = ∑ j ∈ Finset.range (n + 1), blockSum (f11 m c (y 1)) j := by
  refine Cert.RmsGrad.run_sum (fun n hn => ((outsAt0 m c n hn).2.2.1 y : EReal)) (blockSum (f11 m c (y 1))) ?_ ?_ n hn
  · have h0 : 0 < cfg0.N := by decide
    rw [outsAt0_A m c ⟨0, h0⟩ rfl]
    frame_out
    refine ((sum11 _ _ _ _ y).trans (congrArg₂ (fun a b : EReal => a + b) (zero1 y)
      (blockSum_eq (f11 m c (y 1)) ⟨0, h0⟩ _ fun p r h => ysg_at m c ⟨0, h0⟩ p (y 1) r h))).trans (zero_add _)
  · intro n hn h
    have hN : n < cfg0.N := hn
    rw [outsAt0_B m c ⟨n, hN⟩ h]
    frame_out
    exact (sum11 _ _ _ _ y).trans (congrArg (fun b : EReal => _ + b)
      (blockSum_eq (f11 m c (y 1)) ⟨n, hN⟩ _ fun p r h => ysg_at m c ⟨n, hN⟩ p (y 1) r h))

theorem acc12 (c : Dev nD) (y : S1x1024.Idx) (n : ℕ) (hn : n < cfg0.N) :
    ((outsAt0 m c n hn).2.2.2.1 y : EReal) = ∑ j ∈ Finset.range (n + 1), blockSum (f12 m c (y 1)) j := by
  refine Cert.RmsGrad.run_sum (fun n hn => ((outsAt0 m c n hn).2.2.2.1 y : EReal)) (blockSum (f12 m c (y 1))) ?_ ?_ n hn
  · have h0 : 0 < cfg0.N := by decide
    rw [outsAt0_A m c ⟨0, h0⟩ rfl]
    frame_out
    refine ((sum12 _ _ _ _ _ _ y).trans (congrArg₂ (fun a b : EReal => a + b) (zero2 y)
      (blockSum_eq (f12 m c (y 1)) ⟨0, h0⟩ _ fun p r h => ydcv_at m c ⟨0, h0⟩ p (y 1) r h))).trans (zero_add _)
  · intro n hn h
    have hN : n < cfg0.N := hn
    rw [outsAt0_B m c ⟨n, hN⟩ h]
    frame_out
    exact (sum12 _ _ _ _ _ _ y).trans (congrArg (fun b : EReal => _ + b)
      (blockSum_eq (f12 m c (y 1)) ⟨n, hN⟩ _ fun p r h => ydcv_at m c ⟨n, hN⟩ p (y 1) r h))

theorem acc13 (c : Dev nD) (y : S1x1024.Idx) (n : ℕ) (hn : n < cfg0.N) :
    ((outsAt0 m c n hn).2.2.2.2.1 y : EReal) = ∑ j ∈ Finset.range (n + 1), blockSum (f13 m c (y 1)) j := by
  refine Cert.RmsGrad.run_sum (fun n hn => ((outsAt0 m c n hn).2.2.2.2.1 y : EReal)) (blockSum (f13 m c (y 1))) ?_ ?_ n hn
  · have h0 : 0 < cfg0.N := by decide
    rw [outsAt0_A m c ⟨0, h0⟩ rfl]
    frame_out
    refine ((sum13 _ _ _ _ _ _ _ y).trans (congrArg₂ (fun a b : EReal => a + b) (zero3 y)
      (blockSum_eq (f13 m c (y 1)) ⟨0, h0⟩ _ fun p r h => congrArg₂ (fun a b : EReal => a * b) (ydcv_at m c ⟨0, h0⟩ p (y 1) r h) (y0_at m c ⟨0, h0⟩ p (y 1) r h)))).trans (zero_add _)
  · intro n hn h
    have hN : n < cfg0.N := hn
    rw [outsAt0_B m c ⟨n, hN⟩ h]
    frame_out
    exact (sum13 _ _ _ _ _ _ _ y).trans (congrArg (fun b : EReal => _ + b)
      (blockSum_eq (f13 m c (y 1)) ⟨n, hN⟩ _ fun p r h => congrArg₂ (fun a b : EReal => a * b) (ydcv_at m c ⟨n, hN⟩ p (y 1) r h) (y0_at m c ⟨n, hN⟩ p (y 1) r h)))

theorem acc14 (c : Dev nD) (y : S1x1024.Idx) (n : ℕ) (hn : n < cfg0.N) :
    ((outsAt0 m c n hn).2.2.2.2.2.1 y : EReal) = ∑ j ∈ Finset.range (n + 1), blockSum (f14 m c (y 1)) j := by
  refine Cert.RmsGrad.run_sum (fun n hn => ((outsAt0 m c n hn).2.2.2.2.2.1 y : EReal)) (blockSum (f14 m c (y 1))) ?_ ?_ n hn
  · have h0 : 0 < cfg0.N := by decide
    rw [outsAt0_A m c ⟨0, h0⟩ rfl]
    frame_out
    refine ((sum14 _ _ _ _ _ _ _ y).trans (congrArg₂ (fun a b : EReal => a + b) (zero4 y)
      (blockSum_eq (f14 m c (y 1)) ⟨0, h0⟩ _ fun p r h => congrArg₂ (fun a b : EReal => a * b) (ydcv_at m c ⟨0, h0⟩ p (y 1) r h) (y1_at m c ⟨0, h0⟩ p (y 1) r h)))).trans (zero_add _)
  · intro n hn h
    have hN : n < cfg0.N := hn
    rw [outsAt0_B m c ⟨n, hN⟩ h]
    frame_out
    exact (sum14 _ _ _ _ _ _ _ y).trans (congrArg (fun b : EReal => _ + b)
      (blockSum_eq (f14 m c (y 1)) ⟨n, hN⟩ _ fun p r h => congrArg₂ (fun a b : EReal => a * b) (ydcv_at m c ⟨n, hN⟩ p (y 1) r h) (y1_at m c ⟨n, hN⟩ p (y 1) r h)))

theorem acc15 (c : Dev nD) (y : S1x1024.Idx) (n : ℕ) (hn : n < cfg0.N) :
    ((outsAt0 m c n hn).2.2.2.2.2.2 y : EReal) = ∑ j ∈ Finset.range (n + 1), blockSum (f15 m c (y 1)) j := by
  refine Cert.RmsGrad.run_sum (fun n hn => ((outsAt0 m c n hn).2.2.2.2.2.2 y : EReal)) (blockSum (f15 m c (y 1))) ?_ ?_ n hn
  · have h0 : 0 < cfg0.N := by decide
    rw [outsAt0_A m c ⟨0, h0⟩ rfl]
    frame_out
    refine ((sum15 _ _ _ _ _ _ _ y).trans (congrArg₂ (fun a b : EReal => a + b) (zero5 y)
      (blockSum_eq (f15 m c (y 1)) ⟨0, h0⟩ _ fun p r h => congrArg₂ (fun a b : EReal => a * b) (ydcv_at m c ⟨0, h0⟩ p (y 1) r h) (y2_at m c ⟨0, h0⟩ p (y 1) r h)))).trans (zero_add _)
  · intro n hn h
    have hN : n < cfg0.N := hn
    rw [outsAt0_B m c ⟨n, hN⟩ h]
    frame_out
    exact (sum15 _ _ _ _ _ _ _ y).trans (congrArg (fun b : EReal => _ + b)
      (blockSum_eq (f15 m c (y 1)) ⟨n, hN⟩ _ fun p r h => congrArg₂ (fun a b : EReal => a * b) (ydcv_at m c ⟨n, hN⟩ p (y 1) r h) (y2_at m c ⟨n, hN⟩ p (y 1) r h)))

/-- The seven results. -/
abbrev res9 (c : Dev nD) : S2048x1024.Idx → EReal := fun i => dz (aD m c) (aP m c) (aW m c) (aB m c) (aG m c) (i 0) (i 1) * cv (aP m c) (aW m c) (aB m c) (i 0) (i 1)
abbrev res10 (c : Dev nD) : S2048x1024.Idx → EReal := fun i => dcv (aD m c) (aP m c) (aW m c) (aB m c) (aG m c) (i 0) (i 1)
abbrev res11 (c : Dev nD) : S1x1024.Idx → EReal := fun y => ∑ r : Fin 2048, f11 m c (y 1) r
abbrev res12 (c : Dev nD) : S1x1024.Idx → EReal := fun y => ∑ r : Fin 2048, f12 m c (y 1) r
abbrev res13 (c : Dev nD) : S1x1024.Idx → EReal := fun y => ∑ r : Fin 2048, f13 m c (y 1) r
abbrev res14 (c : Dev nD) : S1x1024.Idx → EReal := fun y => ∑ r : Fin 2048, f14 m c (y 1) r
abbrev res15 (c : Dev nD) : S1x1024.Idx → EReal := fun y => ∑ r : Fin 2048, f15 m c (y 1) r

/-- Point `t` writes back block `t` of the first two results, -/
theorem flushed9_eq (c : Dev nD) (t : Fin cfg0.N) :
    (dats m 0 c).flushed 9 t = ((cfg0.win 9).blk t).view.read (Elt Ideal) (res9 m c) := by
  obtain ⟨⟨e0, e1⟩, -⟩ := out_facts t
  rw [Value.flushed9, outs9]
  funext y
  rw [View.read_apply]
  have h0 : (((cfg0.win 9).blk t).view.emb y 0 : Nat) = 256 * t.val + (y 0).val := by
    show win0_9.index t 0 * 256 + 1 * (y 0).val = 256 * t.val + (y 0).val; rw [e0]; omega
  have h1 : ((((cfg0.win 9).blk t).view.emb y 1 : Fin 1024)) = y 1 := by
    apply Fin.ext
    show win0_9.index t 1 * 1024 + 1 * (y 1).val = (y 1).val; rw [e1]; omega
  have key := ydgb_at m c t (y 0) (y 1) (((cfg0.win 9).blk t).view.emb y 0) h0
  have hy : (ix2 (y 0) (y 1) : S256x1024.Idx) = y := ix2_eta y
  rw [hy] at key
  refine key.trans ?_
  show _ = res9 m c _
  unfold res9
  rw [h1]

theorem flushed10_eq (c : Dev nD) (t : Fin cfg0.N) :
    (dats m 0 c).flushed 10 t = ((cfg0.win 10).blk t).view.read (Elt Ideal) (res10 m c) := by
  obtain ⟨-, ⟨e0, e1⟩, -⟩ := out_facts t
  rw [Value.flushed10, outs10]
  funext y
  rw [View.read_apply]
  have h0 : (((cfg0.win 10).blk t).view.emb y 0 : Nat) = 256 * t.val + (y 0).val := by
    show win0_10.index t 0 * 256 + 1 * (y 0).val = 256 * t.val + (y 0).val; rw [e0]; omega
  have h1 : ((((cfg0.win 10).blk t).view.emb y 1 : Fin 1024)) = y 1 := by
    apply Fin.ext
    show win0_10.index t 1 * 1024 + 1 * (y 1).val = (y 1).val; rw [e1]; omega
  have key := ydcv_at m c t (y 0) (y 1) (((cfg0.win 10).blk t).view.emb y 0) h0
  have hy : (ix2 (y 0) (y 1) : S256x1024.Idx) = y := ix2_eta y
  rw [hy] at key
  refine key.trans ?_
  show _ = res10 m c _
  unfold res10
  rw [h1]

theorem emb11 (t : Fin cfg0.N) (y : S1x1024.Idx) : ((cfg0.win 11).blk t).view.emb y = y := by
  obtain ⟨-, -, ⟨e0, e1⟩, -⟩ := out_facts t
  funext a
  apply Fin.ext
  match a with
  | ⟨0, _⟩ => show win0_11.index t 0 * 1 + 1 * (y 0).val = (y 0).val; rw [e0]; omega
  | ⟨1, _⟩ => show win0_11.index t 1 * 1024 + 1 * (y 1).val = (y 1).val; rw [e1]; omega

/-- and the last point the five sums. -/
theorem flushed11_eq (c : Dev nD) (t : Fin cfg0.N) (hf : (cfg0.win 11).flush t = true) :
    (dats m 0 c).flushed 11 t = ((cfg0.win 11).blk t).view.read (Elt Ideal) (res11 m c) := by
  have ht : t.val = 7 := (by decide +kernel : ∀ t : Fin cfg0.N, (cfg0.win 11).flush t = true → t.val = 7) t hf
  rw [Value.flushed11]
  funext y
  rw [View.read_apply]
  rw [emb11 t y]
  show ((outsAt0 m c t.val t.isLt).2.2.1 y : EReal) = res11 m c y
  rw [acc11 m c y t.val t.isLt, ht]
  exact blockSum_all _

theorem emb12 (t : Fin cfg0.N) (y : S1x1024.Idx) : ((cfg0.win 12).blk t).view.emb y = y := by
  obtain ⟨-, -, -, ⟨e0, e1⟩, -⟩ := out_facts t
  funext a
  apply Fin.ext
  match a with
  | ⟨0, _⟩ => show win0_12.index t 0 * 1 + 1 * (y 0).val = (y 0).val; rw [e0]; omega
  | ⟨1, _⟩ => show win0_12.index t 1 * 1024 + 1 * (y 1).val = (y 1).val; rw [e1]; omega

theorem flushed12_eq (c : Dev nD) (t : Fin cfg0.N) (hf : (cfg0.win 12).flush t = true) :
    (dats m 0 c).flushed 12 t = ((cfg0.win 12).blk t).view.read (Elt Ideal) (res12 m c) := by
  have ht : t.val = 7 := (by decide +kernel : ∀ t : Fin cfg0.N, (cfg0.win 12).flush t = true → t.val = 7) t hf
  rw [Value.flushed12]
  funext y
  rw [View.read_apply]
  rw [emb12 t y]
  show ((outsAt0 m c t.val t.isLt).2.2.2.1 y : EReal) = res12 m c y
  rw [acc12 m c y t.val t.isLt, ht]
  exact blockSum_all _

theorem emb13 (t : Fin cfg0.N) (y : S1x1024.Idx) : ((cfg0.win 13).blk t).view.emb y = y := by
  obtain ⟨-, -, -, -, ⟨e0, e1⟩, -⟩ := out_facts t
  funext a
  apply Fin.ext
  match a with
  | ⟨0, _⟩ => show win0_13.index t 0 * 1 + 1 * (y 0).val = (y 0).val; rw [e0]; omega
  | ⟨1, _⟩ => show win0_13.index t 1 * 1024 + 1 * (y 1).val = (y 1).val; rw [e1]; omega

theorem flushed13_eq (c : Dev nD) (t : Fin cfg0.N) (hf : (cfg0.win 13).flush t = true) :
    (dats m 0 c).flushed 13 t = ((cfg0.win 13).blk t).view.read (Elt Ideal) (res13 m c) := by
  have ht : t.val = 7 := (by decide +kernel : ∀ t : Fin cfg0.N, (cfg0.win 13).flush t = true → t.val = 7) t hf
  rw [Value.flushed13]
  funext y
  rw [View.read_apply]
  rw [emb13 t y]
  show ((outsAt0 m c t.val t.isLt).2.2.2.2.1 y : EReal) = res13 m c y
  rw [acc13 m c y t.val t.isLt, ht]
  exact blockSum_all _

theorem emb14 (t : Fin cfg0.N) (y : S1x1024.Idx) : ((cfg0.win 14).blk t).view.emb y = y := by
  obtain ⟨-, -, -, -, -, ⟨e0, e1⟩, -⟩ := out_facts t
  funext a
  apply Fin.ext
  match a with
  | ⟨0, _⟩ => show win0_14.index t 0 * 1 + 1 * (y 0).val = (y 0).val; rw [e0]; omega
  | ⟨1, _⟩ => show win0_14.index t 1 * 1024 + 1 * (y 1).val = (y 1).val; rw [e1]; omega

theorem flushed14_eq (c : Dev nD) (t : Fin cfg0.N) (hf : (cfg0.win 14).flush t = true) :
    (dats m 0 c).flushed 14 t = ((cfg0.win 14).blk t).view.read (Elt Ideal) (res14 m c) := by
  have ht : t.val = 7 := (by decide +kernel : ∀ t : Fin cfg0.N, (cfg0.win 14).flush t = true → t.val = 7) t hf
  rw [Value.flushed14]
  funext y
  rw [View.read_apply]
  rw [emb14 t y]
  show ((outsAt0 m c t.val t.isLt).2.2.2.2.2.1 y : EReal) = res14 m c y
  rw [acc14 m c y t.val t.isLt, ht]
  exact blockSum_all _

theorem emb15 (t : Fin cfg0.N) (y : S1x1024.Idx) : ((cfg0.win 15).blk t).view.emb y = y := by
  obtain ⟨-, -, -, -, -, -, ⟨e0, e1⟩⟩ := out_facts t
  funext a
  apply Fin.ext
  match a with
  | ⟨0, _⟩ => show win0_15.index t 0 * 1 + 1 * (y 0).val = (y 0).val; rw [e0]; omega
  | ⟨1, _⟩ => show win0_15.index t 1 * 1024 + 1 * (y 1).val = (y 1).val; rw [e1]; omega

theorem flushed15_eq (c : Dev nD) (t : Fin cfg0.N) (hf : (cfg0.win 15).flush t = true) :
    (dats m 0 c).flushed 15 t = ((cfg0.win 15).blk t).view.read (Elt Ideal) (res15 m c) := by
  have ht : t.val = 7 := (by decide +kernel : ∀ t : Fin cfg0.N, (cfg0.win 15).flush t = true → t.val = 7) t hf
  rw [Value.flushed15]
  funext y
  rw [View.read_apply]
  rw [emb15 t y]
  show ((outsAt0 m c t.val t.isLt).2.2.2.2.2.2 y : EReal) = res15 m c y
  rw [acc15 m c y t.val t.isLt, ht]
  exact blockSum_all _

/-- Every index of a result lies in some point's block. -/
theorem covered9 (c : Dev nD) (i : ((cfg0.win 9).arr.view.loc (c.tc : Thread nD τ)).2.ty.Idx) :
    ∃ t : Fin cfg0.N, (cfg0.win 9).flush t = true ∧ i ∈ ((cfg0.win 9).blk t).view.set := by
  have h0 : (i 0 : Nat) < 2048 := (i 0).isLt
  have h1 : (i 1 : Nat) < 1024 := (i 1).isLt
  have hN : cfg0.N = 8 := N_0
  have ht : (i 0 : Nat) / 256 < cfg0.N := by omega
  obtain ⟨⟨e0, e1⟩, -⟩ := out_facts ⟨(i 0 : Nat) / 256, ht⟩
  refine ⟨⟨(i 0 : Nat) / 256, ht⟩, flush0_9 _, ?_⟩
  show i ∈ ((View.whole main_v0_0).slice (win0_9.rect ⟨(i 0 : Nat) / 256, ht⟩)).set
  rw [View.set_slice_whole, Rect.mem_set_unit]
  intro a
  match a with
  | ⟨0, _⟩ => show win0_9.index ⟨(i 0 : Nat) / 256, ht⟩ 0 * 256 ≤ (i 0 : Nat) ∧ (i 0 : Nat) < win0_9.index ⟨(i 0 : Nat) / 256, ht⟩ 0 * 256 + 256
              rw [e0]; dsimp only; omega
  | ⟨1, _⟩ => show win0_9.index ⟨(i 0 : Nat) / 256, ht⟩ 1 * 1024 ≤ (i 1 : Nat) ∧ (i 1 : Nat) < win0_9.index ⟨(i 0 : Nat) / 256, ht⟩ 1 * 1024 + 1024
              rw [e1]; omega

theorem covered10 (c : Dev nD) (i : ((cfg0.win 10).arr.view.loc (c.tc : Thread nD τ)).2.ty.Idx) :
    ∃ t : Fin cfg0.N, (cfg0.win 10).flush t = true ∧ i ∈ ((cfg0.win 10).blk t).view.set := by
  have h0 : (i 0 : Nat) < 2048 := (i 0).isLt
  have h1 : (i 1 : Nat) < 1024 := (i 1).isLt
  have hN : cfg0.N = 8 := N_0
  have ht : (i 0 : Nat) / 256 < cfg0.N := by omega
  obtain ⟨-, ⟨e0, e1⟩, -⟩ := out_facts ⟨(i 0 : Nat) / 256, ht⟩
  refine ⟨⟨(i 0 : Nat) / 256, ht⟩, flush0_10 _, ?_⟩
  show i ∈ ((View.whole main_v0_1).slice (win0_10.rect ⟨(i 0 : Nat) / 256, ht⟩)).set
  rw [View.set_slice_whole, Rect.mem_set_unit]
  intro a
  match a with
  | ⟨0, _⟩ => show win0_10.index ⟨(i 0 : Nat) / 256, ht⟩ 0 * 256 ≤ (i 0 : Nat) ∧ (i 0 : Nat) < win0_10.index ⟨(i 0 : Nat) / 256, ht⟩ 0 * 256 + 256
              rw [e0]; dsimp only; omega
  | ⟨1, _⟩ => show win0_10.index ⟨(i 0 : Nat) / 256, ht⟩ 1 * 1024 ≤ (i 1 : Nat) ∧ (i 1 : Nat) < win0_10.index ⟨(i 0 : Nat) / 256, ht⟩ 1 * 1024 + 1024
              rw [e1]; omega

theorem covered11 (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0 : Nat) < 1 := (i 0).isLt
  have h1 : (i 1 : Nat) < 1024 := (i 1).isLt
  have ht : 7 < cfg0.N := by decide
  obtain ⟨-, -, ⟨e0, e1⟩, -⟩ := out_facts ⟨7, ht⟩
  refine ⟨⟨7, ht⟩, (by decide +kernel : ∀ h : 7 < cfg0.N, (cfg0.win 11).flush ⟨7, h⟩ = true) ht, ?_⟩
  show i ∈ ((View.whole main_v0_2).slice (win0_11.rect ⟨7, ht⟩)).set
  rw [View.set_slice_whole, Rect.mem_set_unit]
  intro a
  match a with
  | ⟨0, _⟩ => show win0_11.index ⟨7, ht⟩ 0 * 1 ≤ (i 0 : Nat) ∧ (i 0 : Nat) < win0_11.index ⟨7, ht⟩ 0 * 1 + 1
              rw [e0]; omega
  | ⟨1, _⟩ => show win0_11.index ⟨7, ht⟩ 1 * 1024 ≤ (i 1 : Nat) ∧ (i 1 : Nat) < win0_11.index ⟨7, ht⟩ 1 * 1024 + 1024
              rw [e1]; omega

theorem covered12 (c : Dev nD) (i : ((cfg0.win 12).arr.view.loc (c.tc : Thread nD τ)).2.ty.Idx) :
    ∃ t : Fin cfg0.N, (cfg0.win 12).flush t = true ∧ i ∈ ((cfg0.win 12).blk t).view.set := by
  have h0 : (i 0 : Nat) < 1 := (i 0).isLt
  have h1 : (i 1 : Nat) < 1024 := (i 1).isLt
  have ht : 7 < cfg0.N := by decide
  obtain ⟨-, -, -, ⟨e0, e1⟩, -⟩ := out_facts ⟨7, ht⟩
  refine ⟨⟨7, ht⟩, (by decide +kernel : ∀ h : 7 < cfg0.N, (cfg0.win 12).flush ⟨7, h⟩ = true) ht, ?_⟩
  show i ∈ ((View.whole main_v0_3).slice (win0_12.rect ⟨7, ht⟩)).set
  rw [View.set_slice_whole, Rect.mem_set_unit]
  intro a
  match a with
  | ⟨0, _⟩ => show win0_12.index ⟨7, ht⟩ 0 * 1 ≤ (i 0 : Nat) ∧ (i 0 : Nat) < win0_12.index ⟨7, ht⟩ 0 * 1 + 1
              rw [e0]; omega
  | ⟨1, _⟩ => show win0_12.index ⟨7, ht⟩ 1 * 1024 ≤ (i 1 : Nat) ∧ (i 1 : Nat) < win0_12.index ⟨7, ht⟩ 1 * 1024 + 1024
              rw [e1]; omega

theorem covered13 (c : Dev nD) (i : ((cfg0.win 13).arr.view.loc (c.tc : Thread nD τ)).2.ty.Idx) :
    ∃ t : Fin cfg0.N, (cfg0.win 13).flush t = true ∧ i ∈ ((cfg0.win 13).blk t).view.set := by
  have h0 : (i 0 : Nat) < 1 := (i 0).isLt
  have h1 : (i 1 : Nat) < 1024 := (i 1).isLt
  have ht : 7 < cfg0.N := by decide
  obtain ⟨-, -, -, -, ⟨e0, e1⟩, -⟩ := out_facts ⟨7, ht⟩
  refine ⟨⟨7, ht⟩, (by decide +kernel : ∀ h : 7 < cfg0.N, (cfg0.win 13).flush ⟨7, h⟩ = true) ht, ?_⟩
  show i ∈ ((View.whole main_v0_4).slice (win0_13.rect ⟨7, ht⟩)).set
  rw [View.set_slice_whole, Rect.mem_set_unit]
  intro a
  match a with
  | ⟨0, _⟩ => show win0_13.index ⟨7, ht⟩ 0 * 1 ≤ (i 0 : Nat) ∧ (i 0 : Nat) < win0_13.index ⟨7, ht⟩ 0 * 1 + 1
              rw [e0]; omega
  | ⟨1, _⟩ => show win0_13.index ⟨7, ht⟩ 1 * 1024 ≤ (i 1 : Nat) ∧ (i 1 : Nat) < win0_13.index ⟨7, ht⟩ 1 * 1024 + 1024
              rw [e1]; omega

theorem covered14 (c : Dev nD) (i : ((cfg0.win 14).arr.view.loc (c.tc : Thread nD τ)).2.ty.Idx) :
    ∃ t : Fin cfg0.N, (cfg0.win 14).flush t = true ∧ i ∈ ((cfg0.win 14).blk t).view.set := by
  have h0 : (i 0 : Nat) < 1 := (i 0).isLt
  have h1 : (i 1 : Nat) < 1024 := (i 1).isLt
  have ht : 7 < cfg0.N := by decide
  obtain ⟨-, -, -, -, -, ⟨e0, e1⟩, -⟩ := out_facts ⟨7, ht⟩
  refine ⟨⟨7, ht⟩, (by decide +kernel : ∀ h : 7 < cfg0.N, (cfg0.win 14).flush ⟨7, h⟩ = true) ht, ?_⟩
  show i ∈ ((View.whole main_v0_5).slice (win0_14.rect ⟨7, ht⟩)).set
  rw [View.set_slice_whole, Rect.mem_set_unit]
  intro a
  match a with
  | ⟨0, _⟩ => show win0_14.index ⟨7, ht⟩ 0 * 1 ≤ (i 0 : Nat) ∧ (i 0 : Nat) < win0_14.index ⟨7, ht⟩ 0 * 1 + 1
              rw [e0]; omega
  | ⟨1, _⟩ => show win0_14.index ⟨7, ht⟩ 1 * 1024 ≤ (i 1 : Nat) ∧ (i 1 : Nat) < win0_14.index ⟨7, ht⟩ 1 * 1024 + 1024
              rw [e1]; omega

theorem covered15 (c : Dev nD) (i : ((cfg0.win 15).arr.view.loc (c.tc : Thread nD τ)).2.ty.Idx) :
    ∃ t : Fin cfg0.N, (cfg0.win 15).flush t = true ∧ i ∈ ((cfg0.win 15).blk t).view.set := by
  have h0 : (i 0 : Nat) < 1 := (i 0).isLt
  have h1 : (i 1 : Nat) < 1024 := (i 1).isLt
  have ht : 7 < cfg0.N := by decide
  obtain ⟨-, -, -, -, -, -, ⟨e0, e1⟩⟩ := out_facts ⟨7, ht⟩
  refine ⟨⟨7, ht⟩, (by decide +kernel : ∀ h : 7 < cfg0.N, (cfg0.win 15).flush ⟨7, h⟩ = true) ht, ?_⟩
  show i ∈ ((View.whole main_v0_6).slice (win0_15.rect ⟨7, ht⟩)).set
  rw [View.set_slice_whole, Rect.mem_set_unit]
  intro a
  match a with
  | ⟨0, _⟩ => show win0_15.index ⟨7, ht⟩ 0 * 1 ≤ (i 0 : Nat) ∧ (i 0 : Nat) < win0_15.index ⟨7, ht⟩ 0 * 1 + 1
              rw [e0]; omega
  | ⟨1, _⟩ => show win0_15.index ⟨7, ht⟩ 1 * 1024 ≤ (i 1 : Nat) ∧ (i 1 : Nat) < win0_15.index ⟨7, ht⟩ 1 * 1024 + 1024
              rw [e1]; omega

/-- The side conditions of the precondition's operations. -/
theorem preFacts : Cert.Pre_finite17.Facts := by
  constructor <;> decide

section Arrays
variable (D : Vec Ideal S2048x2048 .f32) (P : Vec Ideal S2048x4096 .f32) (W : Vec Ideal S3x1024 .f32) (B G : Vec Ideal S1x1024 .f32)
  (hd : ∀ r q, dz D P W B G r q = hdx (zz P W B r) (dg D G r) q)
include hd

/-- The reference's gradient of the convolution is the mathematics', -/
theorem hdcv_at (r : Fin 2048) (q : Fin 1024) : (hdcv D P W B G (ix2 r q) : EReal) = dcv D P W B G r q :=
  (mul_comm _ _).trans (congrArg₂ (fun a b : EReal => a * b) ((hdz_at D P W B G r q).trans (hd r q).symm) (hgb_at P r q))

/-- and so are its products with the shifts. -/
theorem hsw_at (k : ℕ) (X : FVec Ideal S2048x1024 .f32) (hX : ∀ r q, (X (ix2 r q) : EReal) = lag P (r.val + k) q) (r : Fin 2048) (q : Fin 1024) :
    (mulf (hdcv D P W B G) X (ix2 r q) : EReal) = sw D P W B G k r q :=
  congrArg₂ (fun a b : EReal => a * b) (hdcv_at D P W B G hd r q) (hX r q)

end Arrays

/-- The idealized kernel and the idealized reference leave the same seven gradients where the arguments are finite. -/
theorem value : Cert.algebraic_Kernel17Ideal_Reference17Ideal_pre_finite17 (hKernel17Ideal := Cert.Kernel17Ideal.Gen.facts)
    (hReference17Ideal := Cert.Reference17Ideal.Gen.facts) (hPre_finite17 := preFacts) := by
  intro m g m' g' hpre hargs
  refine ⟨fun c => res9 m c, fun c => res10 m c, fun c => res11 m c, fun c => res12 m c, fun c => res13 m c, fun c => res14 m c, fun c => res15 m c, ?_, ?_⟩
  · exact (θ_run _ _ _).mono (fun r h c =>
      ⟨(h c).1.trans ((dats m 0 c).arrAt_eq_of_cover 9 (res9 m c) (fun t _ => flushed9_eq m c t) (covered9 c)),
       (h c).2.1.trans ((dats m 0 c).arrAt_eq_of_cover 10 (res10 m c) (fun t _ => flushed10_eq m c t) (covered10 c)),
       (h c).2.2.1.trans ((dats m 0 c).arrAt_eq_of_cover 11 (res11 m c) (fun t hf => flushed11_eq m c t hf) (covered11 c)),
       (h c).2.2.2.1.trans ((dats m 0 c).arrAt_eq_of_cover 12 (res12 m c) (fun t hf => flushed12_eq m c t hf) (covered12 c)),
       (h c).2.2.2.2.1.trans ((dats m 0 c).arrAt_eq_of_cover 13 (res13 m c) (fun t hf => flushed13_eq m c t hf) (covered13 c)),
       (h c).2.2.2.2.2.1.trans ((dats m 0 c).arrAt_eq_of_cover 14 (res14 m c) (fun t hf => flushed14_eq m c t hf) (covered14 c)),
       (h c).2.2.2.2.2.2.1.trans ((dats m 0 c).arrAt_eq_of_cover 15 (res15 m c) (fun t hf => flushed15_eq m c t hf) (covered15 c)),
       (h c).2.2.2.2.2.2.2⟩) (Value.run_blocks m g)
  · have hV : ∀ c : Dev nD, vD (Idealize.ShloMosaic.StableHlo.launchContents m' c) = aD m c ∧ vP (Idealize.ShloMosaic.StableHlo.launchContents m' c) = aP m c ∧ vW (Idealize.ShloMosaic.StableHlo.launchContents m' c) = aW m c
        ∧ vB (Idealize.ShloMosaic.StableHlo.launchContents m' c) = aB m c ∧ vG (Idealize.ShloMosaic.StableHlo.launchContents m' c) = aG m c := fun c => hargs c
    have hd : ∀ c : Dev nD, ∀ r q, dz (aD m c) (aP m c) (aW m c) (aB m c) (aG m c) r q
        = hdx (zz (aP m c) (aW m c) (aB m c) r) (dg (aD m c) (aG m c) r) q := fun c =>
      dz_eq (aD m c) (aP m c) (aW m c) (aB m c) (aG m c) (fun i => Cert.Scan.finite_entry _ _ (hpre c).1 i) (fun i => Cert.Scan.finite_entry _ _ (hpre c).2.1 i)
        (fun i => Cert.Scan.finite_entry _ _ (hpre c).2.2.1 i) (fun i => Cert.Scan.finite_entry _ _ (hpre c).2.2.2.1 i)
        (fun i => Cert.Scan.finite_entry _ _ (hpre c).2.2.2.2 i)
    refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.Reference17Ideal.Value.run (F := Ideal) m' g')
    all_goals obtain ⟨eD, eP, eW, eB, eG⟩ := hV c
    · rw [r66, r29, eD, eP, eW, eB, eG]
      funext i
      have hi : (ix2 (i 0) (i 1) : S2048x1024.Idx) = i := ix2_eta i
      have k1 := hdz_at (aD m c) (aP m c) (aW m c) (aB m c) (aG m c) (i 0) (i 1)
      have k2 := hcv_at (aP m c) (aW m c) (aB m c) (i 0) (i 1)
      rw [hi] at k1 k2
      exact congrArg₂ (fun a b : EReal => a * b) (k1.trans (hd c (i 0) (i 1)).symm) k2
    · rw [r67, eD, eP, eW, eB, eG]
      funext i
      have hi : (ix2 (i 0) (i 1) : S2048x1024.Idx) = i := ix2_eta i
      have k1 := hdcv_at (aD m c) (aP m c) (aW m c) (aB m c) (aG m c) (hd c) (i 0) (i 1)
      rw [hi] at k1
      exact k1
    · funext y
      refine Eq.trans ?_ (hsg_apply (aD m c) (aP m c) (aW m c) (aB m c) y)
      rw [← eD, ← eP, ← eW, ← eB]
      rfl
    · rw [r67, eD, eP, eW, eB, eG]
      funext y
      exact (hcol_apply (hdcv (aD m c) (aP m c) (aW m c) (aB m c) (aG m c)) y).trans
        (Finset.sum_congr rfl fun r _ => hdcv_at (aD m c) (aP m c) (aW m c) (aB m c) (aG m c) (hd c) r (y 1))
    · rw [r90, eD, eP, eW, eB, eG]
      funext y
      exact ((htaps0 _ _ _ y).trans (htap_apply _ y)).trans
        (Finset.sum_congr rfl fun r _ => hsw_at (aD m c) (aP m c) (aW m c) (aB m c) (aG m c) (hd c) 0 _ (hl0_at (aP m c)) r (y 1))
    · rw [r90, eD, eP, eW, eB, eG]
      funext y
      exact ((htaps1 _ _ _ y).trans (htap_apply _ y)).trans
        (Finset.sum_congr rfl fun r _ => hsw_at (aD m c) (aP m c) (aW m c) (aB m c) (aG m c) (hd c) 1 _ (hl1_at (aP m c)) r (y 1))
    · rw [r90, eD, eP, eW, eB, eG]
      funext y
      exact ((htaps2 _ _ _ y).trans (htap_apply _ y)).trans
        (Finset.sum_congr rfl fun r _ => hsw_at (aD m c) (aP m c) (aW m c) (aB m c) (aG m c) (hd c) 2 _ (hl2_at (aP m c)) r (y 1))

end Cert.GateGrad

end
-- ==== Proof.FfnDact.lean ====
/- The gradients of the gate and of the up projection of the feed-forward half from the cotangent of its result. -/
module

public import proofs.«01_k».proof.Defs
public import proofs.«01_k».proof.Proof.Gen.Kernel4Ideal.Value
public import proofs.«01_k».proof.Proof.Gen.Reference4Ideal.Run
public import proofs.«01_k».proof.Proof.Finite
public import proofs.«01_k».proof.Proof.RevLoop
public import proofs.«01_k».proof.Pre_finite4
public import Idealize.ShloMosaic.Lib.Pipeline.Value
public import Idealize.ShloMosaic.Lib.Pointwise

@[expose] public section

set_option maxRecDepth 16384

noncomputable section

namespace Cert.FfnDact

open Idealize.ShloMosaic Idealize.ShloMosaic.TcCoe Idealize.SL.Sem
open Cert.Kernel4Ideal Cert.Kernel4Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of the cotangent with the transposed weight, the weight in row blocks. -/
def back (x : S2048x2048.Idx → EReal) (w : S4x1408x2048.Idx → EReal) (r : Fin 2048) (q : Fin 5632) : EReal :=
  ∑ k : Fin 2048, x (ix2 r k) * w (ix3 ⟨q.val / 1408, by omega⟩ ⟨q.val % 1408, by omega⟩ k)

/-- The logistic of a value. -/
def sg (h : EReal) : EReal := Ideal.div 1 (1 + Ideal.exp (-h))

/-- The gradient of the gate as the kernel writes it. -/
def dgate (d h u : EReal) : EReal := d * u * (sg h * (1 + h * (1 - sg h)))

/-- The gradient of the up projection. -/
def dup (d h : EReal) : EReal := d * (h * sg h)

/-- The product of a block of the cotangent with the transpose of a block of the weight at an index. -/
def prod (x0 : Vec Ideal S512x2048 .bf16) (x1 : Vec Ideal S1x1408x2048 .bf16) (y : S512x1408.Idx) : EReal :=
  ∑ k : Fin 2048, (x0 (ix2 (y 0) k) : EReal) * x1 (ix3 0 (y 1) k)

/-- The body's first result at an index. -/
theorem out4_apply (x0 : Vec Ideal S512x2048 .bf16) (x1 : Vec Ideal S1x1408x2048 .bf16) (x2 x3 : Vec Ideal S512x1408 .f32) (y : S512x1408.Idx) :
    (out0_4 x0 x1 x2 x3 y : EReal) = dgate (prod x0 x1 y) (x2 y) (x3 y) := by
  unfold out0_4 dgate sg prod
  rw [View.canon_unit_zero hz2, View.ld_unit_zero (S := S512x2048) hz2, View.ld_unit_zero (S := S1x1408x2048) hz3,
    View.ld_unit_zero (S := S512x1408) hz2, View.ld_unit_zero (S := S512x1408) hz2]
  rw [← zero_sub]
  pointwise [k0_pay1, k0_pay2, k0_pay3]

/-- The body's second result at an index. -/
theorem out5_apply (x0 : Vec Ideal S512x2048 .bf16) (x1 : Vec Ideal S1x1408x2048 .bf16) (x2 x3 : Vec Ideal S512x1408 .f32) (y : S512x1408.Idx) :
    (out0_5 x0 x1 x2 x3 y : EReal) = dup (prod x0 x1 y) (x2 y) := by
  unfold out0_5 dup sg prod
  rw [View.canon_unit_zero hz2, View.ld_unit_zero (S := S512x2048) hz2, View.ld_unit_zero (S := S1x1408x2048) hz3,
    View.ld_unit_zero (S := S512x1408) hz2]
  rw [← zero_sub]
  pointwise [k0_pay1, k0_pay2, k0_pay4]

/-- The logistic of a real number is a real number. -/
theorem sg_coe (h : ℝ) : sg h = ((1 / (1 + Real.exp (-h)) : ℝ) : EReal) := by
  have hne : (1 + Real.exp (-h)) ≠ 0 := (add_pos one_pos (Real.exp_pos _)).ne'
  unfold sg
  rw [← EReal.coe_neg, Ideal.exp_coe, ← EReal.coe_one, ← EReal.coe_add, Ideal.div_coe hne, ← EReal.coe_mul, one_mul]

/-- Of real numbers the product rule gives the gradient of the gate that the kernel writes. -/
theorem dgate_eq (d h u : EReal) (hd : d = ((d.toReal : ℝ) : EReal)) (hh : h = ((h.toReal : ℝ) : EReal)) (hu : u = ((u.toReal : ℝ) : EReal)) :
    dgate d h u = d * u * sg h + h * (d * u) * (sg h * (1 - sg h)) := by
  rw [hd, hh, hu]
  unfold dgate
  rw [sg_coe]
  generalize (1 / (1 + Real.exp (-h.toReal)) : ℝ) = s
  rw [← EReal.coe_one]
  simp only [← EReal.coe_mul, ← EReal.coe_sub, ← EReal.coe_add]
  congr 1
  ring

/-- The gradient of the up projection with its factors in the reference's order. -/
theorem dup_eq (d h : EReal) : dup d h = h * sg h * d := mul_comm _ _

/-- A product with real factors is a real number. -/
theorem back_real (x : S2048x2048.Idx → EReal) (w : S4x1408x2048.Idx → EReal) (hx : ∀ i, x i = (((x i).toReal : ℝ) : EReal))
    (hw : ∀ i, w i = (((w i).toReal : ℝ) : EReal)) (r : Fin 2048) (q : Fin 5632) :
    back x w r q = (((back x w r q).toReal : ℝ) : EReal) := by
  have e : back x w r q = ((∑ k : Fin 2048, (x (ix2 r k)).toReal * (w (ix3 ⟨q.val / 1408, by omega⟩ ⟨q.val % 1408, by omega⟩ k)).toReal : ℝ) : EReal) := by
    unfold back
    rw [Cert.Scan.coe_sum]
    refine Finset.sum_congr rfl fun k _ => ?_
    rw [EReal.coe_mul, ← hx, ← hw]
  rw [e, EReal.toReal_coe]

/-- Where the blocks of grid point `t` lie: the row block is `t % 4`, the block of the inner width `t / 4`. -/
theorem index_facts : ∀ t : Fin grid0.N, (win0_0.index t 0 = t.val % 4 ∧ win0_0.index t 1 = 0)
    ∧ (win0_1.index t 0 = t.val / 4 ∧ win0_1.index t 1 = 0 ∧ win0_1.index t 2 = 0)
    ∧ (win0_2.index t 0 = t.val % 4 ∧ win0_2.index t 1 = t.val / 4)
    ∧ (win0_3.index t 0 = t.val % 4 ∧ win0_3.index t 1 = t.val / 4)
    ∧ (win0_4.index t 0 = t.val % 4 ∧ win0_4.index t 1 = t.val / 4)
    ∧ (win0_5.index t 0 = t.val % 4 ∧ win0_5.index t 1 = t.val / 4) := by decide +kernel

/-- The cotangent's block at an index. -/
theorem ct_block (c : Dev nD) (t : Fin cfg0.N) (y : S512x2048.Idx) (i : S2048x2048.Idx)
    (h0 : (i 0 : Nat) = 512 * (t.val % 4) + y 0) (h1 : (i 1 : Nat) = y 1) :
    (iblk m c 0 t : Vec Ideal S512x2048 .bf16) y = m ((c.tc : Thread nD τ).loc main_arg0) i := by
  obtain ⟨⟨e0, e1⟩, -⟩ := index_facts t
  unfold iblk
  rw [View.read_apply]
  show V m c main_arg0 _ = m ((c.tc : Thread nD τ).loc main_arg0) _
  unfold V
  congr 1
  funext a
  apply Fin.ext
  match a with
  | ⟨0, _⟩ => show win0_0.index t 0 * 512 + 1 * (y 0).val = (i 0).val; rw [e0, h0]; omega
  | ⟨1, _⟩ => show win0_0.index t 1 * 2048 + 1 * (y 1).val = (i 1).val; rw [e1, h1]; omega

/-- The weight's block at an index. -/
theorem wd_block (c : Dev nD) (t : Fin cfg0.N) (y : S1x1408x2048.Idx) (i : S4x1408x2048.Idx)
    (h0 : (i 0 : Nat) = t.val / 4) (h1 : (i 1 : Nat) = y 1) (h2 : (i 2 : Nat) = y 2) :
    (iblk m c 1 t : Vec Ideal S1x1408x2048 .bf16) y = m ((c.tc : Thread nD τ).loc main_arg1) i := by
  obtain ⟨-, ⟨e0, e1, e2⟩, -⟩ := index_facts t
  have hy : (y 0 : Nat) < 1 := (y 0).isLt
  unfold iblk
  rw [View.read_apply]
  show V m c main_arg1 _ = m ((c.tc : Thread nD τ).loc main_arg1) _
  unfold V
  congr 1
  funext a
  apply Fin.ext
  match a with
  | ⟨0, _⟩ => show win0_1.index t 0 * 1 + 1 * (y 0).val = (i 0).val; rw [e0, h0]; omega
  | ⟨1, _⟩ => show win0_1.index t 1 * 1408 + 1 * (y 1).val = (i 1).val; rw [e1, h1]; omega
  | ⟨2, _⟩ => show win0_1.index t 2 * 2048 + 1 * (y 2).val = (i 2).val; rw [e2, h2]; omega

/-- The gate's block at an index. -/
theorem hg_block (c : Dev nD) (t : Fin cfg0.N) (y : S512x1408.Idx) (i : S2048x5632.Idx)
    (h0 : (i 0 : Nat) = 512 * (t.val % 4) + y 0) (h1 : (i 1 : Nat) = 1408 * (t.val / 4) + y 1) :
    (iblk m c 2 t : Vec Ideal S512x1408 .f32) y = m ((c.tc : Thread nD τ).loc main_arg2) i := by
  obtain ⟨-, -, ⟨e0, e1⟩, -⟩ := index_facts t
  unfold iblk
  rw [View.read_apply]
  show V m c main_arg2 _ = m ((c.tc : Thread nD τ).loc main_arg2) _
  unfold V
  congr 1
  funext a
  apply Fin.ext
  match a with
  | ⟨0, _⟩ => show win0_2.index t 0 * 512 + 1 * (y 0).val = (i 0).val; rw [e0, h0]; omega
  | ⟨1, _⟩ => show win0_2.index t 1 * 1408 + 1 * (y 1).val = (i 1).val; rw [e1, h1]; omega

/-- The up projection's block at an index. -/
theorem hu_block (c : Dev nD) (t : Fin cfg0.N) (y : S512x1408.Idx) (i : S2048x5632.Idx)
    (h0 : (i 0 : Nat) = 512 * (t.val % 4) + y 0) (h1 : (i 1 : Nat) = 1408 * (t.val / 4) + y 1) :
    (iblk m c 3 t : Vec Ideal S512x1408 .f32) y = m ((c.tc : Thread nD τ).loc main_arg3) i := by
  obtain ⟨-, -, -, ⟨e0, e1⟩, -⟩ := index_facts t
  unfold iblk
  rw [View.read_apply]
  show V m c main_arg3 _ = m ((c.tc : Thread nD τ).loc main_arg3) _
  unfold V
  congr 1
  funext a
  apply Fin.ext
  match a with
  | ⟨0, _⟩ => show win0_3.index t 0 * 512 + 1 * (y 0).val = (i 0).val; rw [e0, h0]; omega
  | ⟨1, _⟩ => show win0_3.index t 1 * 1408 + 1 * (y 1).val = (i 1).val; rw [e1, h1]; omega

/-- The gradient of the activation of the launched arrays. -/
abbrev da (c : Dev nD) : S2048x5632.Idx → EReal := fun i =>
  back (m ((c.tc : Thread nD τ).loc main_arg0)) (m ((c.tc : Thread nD τ).loc main_arg1)) (i 0) (i 1)

/-- The body's product at point `t` is the gradient of the activation at the index where the block's entry lies. -/
theorem da_at (c : Dev nD) (t : Fin cfg0.N) (y : S512x1408.Idx) (i : S2048x5632.Idx)
    (h0 : (i 0 : Nat) = 512 * (t.val % 4) + y 0) (h1 : (i 1 : Nat) = 1408 * (t.val / 4) + y 1) :
    prod (iblk m c 0 t) (iblk m c 1 t) y = da m c i := by
  unfold da back prod
  have hy1 : (y 1 : Nat) < 1408 := (y 1).isLt
  have hN : t.val < 16 := t.isLt
  refine Finset.sum_congr rfl fun k _ => ?_
  rw [ct_block m c t (ix2 (y 0) k) (ix2 (i 0) k) h0 rfl,
    wd_block m c t (ix3 0 (y 1) k) (ix3 ⟨(i 1).val / 1408, by omega⟩ ⟨(i 1).val % 1408, by omega⟩ k)
      (by show (i 1).val / 1408 = _; omega) (by show (i 1).val % 1408 = (y 1).val; omega) rfl]

/-- The gradient of the gate of the launched arrays. -/
abbrev dhg (c : Dev nD) : S2048x5632.Idx → EReal := fun i =>
  dgate (da m c i) (m ((c.tc : Thread nD τ).loc main_arg2) i) (m ((c.tc : Thread nD τ).loc main_arg3) i)

/-- The gradient of the up projection of the launched arrays. -/
abbrev dhu (c : Dev nD) : S2048x5632.Idx → EReal := fun i => dup (da m c i) (m ((c.tc : Thread nD τ).loc main_arg2) i)

/-- Point `t` writes back block `t` of the gradient of the gate, -/
theorem flushed4_eq (c : Dev nD) (t : Fin cfg0.N) :
    (dats m 0 c).flushed 4 t = ((cfg0.win 4).blk t).view.read (Elt Ideal) (dhg m c) := by
  obtain ⟨-, -, -, -, ⟨e0, e1⟩, -⟩ := index_facts t
  rw [Value.flushed4]
  funext y
  rw [View.read_apply]
  have h0 : (((cfg0.win 4).blk t).view.emb y 0 : Nat) = 512 * (t.val % 4) + (y 0).val := by
    show win0_4.index t 0 * 512 + 1 * (y 0).val = 512 * (t.val % 4) + (y 0).val; rw [e0]; omega
  have h1 : (((cfg0.win 4).blk t).view.emb y 1 : Nat) = 1408 * (t.val / 4) + (y 1).val := by
    show win0_4.index t 1 * 1408 + 1 * (y 1).val = 1408 * (t.val / 4) + (y 1).val; rw [e1]; omega
  refine (out4_apply _ _ _ _ y).trans ?_
  rw [da_at m c t y _ h0 h1, hg_block m c t y _ h0 h1, hu_block m c t y _ h0 h1]
  rfl

/-- and of the gradient of the up projection. -/
theorem flushed5_eq (c : Dev nD) (t : Fin cfg0.N) :
    (dats m 0 c).flushed 5 t = ((cfg0.win 5).blk t).view.read (Elt Ideal) (dhu m c) := by
  obtain ⟨-, -, -, -, -, ⟨e0, e1⟩⟩ := index_facts t
  rw [Value.flushed5]
  funext y
  rw [View.read_apply]
  have h0 : (((cfg0.win 5).blk t).view.emb y 0 : Nat) = 512 * (t.val % 4) + (y 0).val := by
    show win0_5.index t 0 * 512 + 1 * (y 0).val = 512 * (t.val % 4) + (y 0).val; rw [e0]; omega
  have h1 : (((cfg0.win 5).blk t).view.emb y 1 : Nat) = 1408 * (t.val / 4) + (y 1).val := by
    show win0_5.index t 1 * 1408 + 1 * (y 1).val = 1408 * (t.val / 4) + (y 1).val; rw [e1]; omega
  refine (out5_apply _ _ _ _ y).trans ?_
  rw [da_at m c t y _ h0 h1, hg_block m c t y _ h0 h1]
  rfl

/-- Some grid point's blocks hold the index `(r, q)`. -/
theorem point_of (r q : Nat) (hr : r < 2048) (hq : q < 5632) : ∃ t : Fin cfg0.N, t.val % 4 = r / 512 ∧ t.val / 4 = q / 1408 := by
  have hN : cfg0.N = 16 := N_0
  exact ⟨⟨4 * (q / 1408) + r / 512, by omega⟩, by dsimp only; omega, by dsimp only; omega⟩

/-- Every index of the gradient of the gate lies in some point's block, -/
theorem covered4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2048 := (i 0).isLt
  have h1 : (i 1 : Nat) < 5632 := (i 1).isLt
  obtain ⟨t, t0, t1⟩ := point_of (i 0).val (i 1).val h0 h1
  obtain ⟨-, -, -, -, ⟨e0, e1⟩, -⟩ := index_facts t
  refine ⟨t, flush0_4 t, ?_⟩
  show i ∈ ((View.whole main_v0_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [e0]; omega
  | ⟨1, _⟩ => show win0_4.index t 1 * 1408 ≤ (i 1 : Nat) ∧ (i 1 : Nat) < win0_4.index t 1 * 1408 + 1408
              rw [e1]; omega

/-- and so does every index of the gradient of the up projection. -/
theorem covered5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2048 := (i 0).isLt
  have h1 : (i 1 : Nat) < 5632 := (i 1).isLt
  obtain ⟨t, t0, t1⟩ := point_of (i 0).val (i 1).val h0 h1
  obtain ⟨-, -, -, -, -, ⟨e0, e1⟩⟩ := index_facts t
  refine ⟨t, flush0_5 t, ?_⟩
  show i ∈ ((View.whole main_v0_1).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512
              rw [e0]; omega
  | ⟨1, _⟩ => show win0_5.index t 1 * 1408 ≤ (i 1 : Nat) ∧ (i 1 : Nat) < win0_5.index t 1 * 1408 + 1408
              rw [e1]; omega

/-- The reference's product read at an index. -/
theorem ref_back (x : Vec Ideal S2048x2048 .bf16) (w : Vec Ideal S4x1408x2048 .bf16) (h : FTy.bits .bf16 < FTy.bits .f32)
    (hs : S4x1408x2048.ShapeCasts Cert.Reference4Ideal.S5632x2048) (i : S2048x5632.Idx) :
    Host.dotGeneral (F := Ideal) Cert.Reference4Ideal.dot_S2048x2048_S5632x2048_S2048x5632_1_1_0_0_n_n none (extf .f32 x h)
      (shapeCast Cert.Reference4Ideal.S5632x2048 (extf .f32 w h) hs) i = back x w (i 0) (i 1) := by
  unfold back
  pointwise []

/-- The side conditions of the precondition's operations. -/
theorem preFacts : Cert.Pre_finite4.Facts := by
  constructor <;> decide

/-- The idealized kernel and the idealized reference leave the same two gradients where the arguments are finite. -/
theorem value : Cert.algebraic_Kernel4Ideal_Reference4Ideal_pre_finite4 (hKernel4Ideal := Cert.Kernel4Ideal.Gen.facts)
    (hReference4Ideal := Cert.Reference4Ideal.Gen.facts) (hPre_finite4 := preFacts) := by
  intro m g m' g' hpre hargs
  refine ⟨fun c => dhg m c, fun c => dhu m c, ?_, ?_⟩
  · exact (θ_run _ _ _).mono (fun r h c =>
      ⟨(h c).1.trans ((dats m 0 c).arrAt_eq_of_cover 4 (dhg m c) (fun t _ => flushed4_eq m c t) (covered4 c)),
       (h c).2.1.trans ((dats m 0 c).arrAt_eq_of_cover 5 (dhu m c) (fun t _ => flushed5_eq m c t) (covered5 c)),
       (h c).2.2⟩) (Value.run_blocks m g)
  · refine (θ_run _ _ _).mono (fun r h c => ⟨(h c).1.trans ?_, (h c).2.1.trans ?_, (h c).2.2⟩)
      (Cert.Reference4Ideal.Value.run (F := Ideal) m' g')
    · rw [(hargs c).1, (hargs c).2.1, (hargs c).2.2.1, (hargs c).2.2.2]
      have f0 : ∀ i, (m ((c.tc : Thread nD τ).loc main_arg0) i : EReal) = (((m ((c.tc : Thread nD τ).loc main_arg0) i : EReal).toReal : ℝ) : EReal) :=
        fun i => Cert.Scan.finite_entry _ _ (hpre c).1 i
      have f1 : ∀ i, (m ((c.tc : Thread nD τ).loc main_arg1) i : EReal) = (((m ((c.tc : Thread nD τ).loc main_arg1) i : EReal).toReal : ℝ) : EReal) :=
        fun i => Cert.Scan.finite_entry _ _ (hpre c).2.1 i
      have f2 : ∀ i, (m ((c.tc : Thread nD τ).loc main_arg2) i : EReal) = (((m ((c.tc : Thread nD τ).loc main_arg2) i : EReal).toReal : ℝ) : EReal) :=
        fun i => Cert.Scan.finite_entry _ _ (hpre c).2.2.1 i
      have f3 : ∀ i, (m ((c.tc : Thread nD τ).loc main_arg3) i : EReal) = (((m ((c.tc : Thread nD τ).loc main_arg3) i : EReal).toReal : ℝ) : EReal) :=
        fun i => Cert.Scan.finite_entry _ _ (hpre c).2.2.2 i
      funext i
      refine Eq.trans ?_ (dgate_eq (da m c i) (m ((c.tc : Thread nD τ).loc main_arg2) i) (m ((c.tc : Thread nD τ).loc main_arg3) i)
        (back_real _ _ f0 f1 _ _) (f2 i) (f3 i)).symm
      clear f0 f1 f2 f3 hpre
      generalize hD : Host.dotGeneral (F := Ideal) _ none _ _ = D
      have e : da m c i = D i := by
        rw [← hD]
        exact (ref_back _ _ _ _ i).symm
      rw [e]
      clear e hD
      unfold sg
      pointwise []
    · rw [(hargs c).1, (hargs c).2.1, (hargs c).2.2.1]
      funext i
      refine Eq.trans ?_ (dup_eq (da m c i) (m ((c.tc : Thread nD τ).loc main_arg2) i)).symm
      generalize hD : Host.dotGeneral (F := Ideal) _ none _ _ = D
      have e : da m c i = D i := by
        rw [← hD]
        exact (ref_back _ _ _ _ i).symm
      rw [e]
      clear e hD
      unfold sg
      pointwise []

end Cert.FfnDact

end
-- ==== Proof.GluGrad.lean ====
/- The gradients of the mixer's gated linear unit and of the gain of the norm after it. -/
module

public import proofs.«01_k».proof.Defs
public import proofs.«01_k».proof.Proof.Gen.Kernel18Ideal.Value
public import proofs.«01_k».proof.Proof.Gen.Reference18Ideal.Run
public import proofs.«01_k».proof.Proof.Finite
public import proofs.«01_k».proof.Proof.Blocks
public import proofs.«01_k».proof.Proof.FfnDact
public import proofs.«01_k».proof.Proof.RmsGrad
public import proofs.«01_k».proof.Pre_finite18
public import Idealize.ShloMosaic.Lib.Pipeline.Value
public import Idealize.ShloMosaic.Lib.Pipeline.ValueKit.Acc
public import Idealize.ShloMosaic.Lib.Pointwise

@[expose] public section

set_option maxRecDepth 16384

noncomputable section

namespace Cert.GluGrad

open Idealize.ShloMosaic Idealize.ShloMosaic.TcCoe Idealize.SL.Sem
open Cert.Kernel18Ideal Cert.Kernel18Ideal.Gen Cert.Blocks
open Cert.RmsGrad (eps6 rinv dx hdx krinv_apply kdx_apply hgrad_apply hrinv_apply dx_eq)
open Cert.FfnDact (sg sg_coe)

variable (m : (ℓ : Loc nD τ sig) → Buf (Elt Ideal) ℓ)

/-- The kernel's named constant. -/
theorem named_rms : (Named.named (F := Ideal) κ "rms" (φ := .f32) 0x358637BD#32 : EReal) = eps6 :=
  IdealRules.named_const.ideal_named_scalar _ _ _ _ rfl

section Body
variable (v0 v1 v2 : Vec Ideal S256x1024 .f32) (v3 : Vec Ideal S1x1024 .f32)

/-- The block's logistic at an index, -/
theorem pay4_apply (y : S256x1024.Idx) : (k0_pay4 v2 y : EReal) = sg (v2 y) := by
  unfold sg
  rw [← zero_sub]
  pointwise [k0_pay4]

/-- the unit's value, -/
theorem pay5_apply (y : S256x1024.Idx) : (k0_pay5 v1 v2 y : EReal) = v1 y * sg (v2 y) :=
  congrArg (fun a : EReal => v1 y * a) (pay4_apply v2 y)

theorem pay5_row (p : Fin 256) : (fun q => (k0_pay5 v1 v2 (ix2 p q) : EReal)) = fun q => v1 (ix2 p q) * sg (v2 (ix2 p q)) :=
  funext fun q => pay5_apply v1 v2 (ix2 p q)

/-- the reciprocal root of its row, -/
theorem pay6_apply (y : S256x1.Idx) : (k0_pay6 v1 v2 y : EReal) = rinv (fun q => v1 (ix2 (y 0) q) * sg (v2 (ix2 (y 0) q))) :=
  (krinv_apply (k0_pay5 v1 v2) reduces_S256x1024_S256 shapeCasts_S256_S256x1 _ named_rms y).trans (congrArg rinv (pay5_row v1 v2 (y 0)))

/-- the cotangent times the gain, -/
def ct : FVec Ideal S256x1024 .f32 := mulf v0 (broadcastTo S256x1024 v3 broadcasts_S1x1024_S256x1024)

theorem ct_row (p : Fin 256) : (fun q => (ct v0 v3 (ix2 p q) : EReal)) = fun q => v0 (ix2 p q) * v3 (ix2 0 q) := by
  funext q
  pointwise [ct]

/-- the gradient of the norm's row, -/
theorem pay7_apply (y : S256x1024.Idx) :
    (k0_pay7 v0 v1 v2 v3 y : EReal) = dx (fun q => v1 (ix2 (y 0) q) * sg (v2 (ix2 (y 0) q))) (fun q => v0 (ix2 (y 0) q) * v3 (ix2 0 q)) (y 1) :=
  (kdx_apply (k0_pay5 v1 v2) (ct v0 v3) reduces_S256x1024_S256 shapeCasts_S256_S256x1 broadcasts_S256x1_S256x1024 _ named_rms y).trans
    (congrArg₂ (fun f d => dx f d (y 1)) (pay5_row v1 v2 (y 0)) (ct_row v0 v3 (y 0)))

/-- and the two results of the block. -/
theorem pay8_apply (y : S256x1024.Idx) :
    (k0_pay8 v0 v1 v2 v3 y : EReal) = (k0_pay7 v0 v1 v2 v3 y : EReal) * v1 y * sg (v2 y) * (1 - sg (v2 y)) := by
  rw [← pay4_apply]
  unfold k0_pay8
  generalize k0_pay7 v0 v1 v2 v3 = X
  generalize k0_pay4 v2 = Y
  pointwise []

theorem pay9_apply (y : S256x1024.Idx) : (k0_pay9 v0 v1 v2 v3 y : EReal) = (k0_pay7 v0 v1 v2 v3 y : EReal) * sg (v2 y) :=
  congrArg (fun a : EReal => (k0_pay7 v0 v1 v2 v3 y : EReal) * a) (pay4_apply v2 y)

/-- The part of a block in the gradient of the gain. -/
def part (y : S1x1024.Idx) : EReal :=
  ∑ p : Fin 256, v0 (ix2 p (y 1)) * (v1 (ix2 p (y 1)) * sg (v2 (ix2 p (y 1)))) * rinv (fun q => v1 (ix2 p q) * sg (v2 (ix2 p q)))

theorem pay3_apply (a : Vec Ideal S1x1024 .f32) (y : S1x1024.Idx) :
    (k0_pay3 v0 (k0_pay5 v1 v2) (k0_pay6 v1 v2) a y : EReal) = (a y : EReal) + part v0 v1 v2 y := by
  have e : part v0 v1 v2 y = ∑ p : Fin 256, v0 (ix2 p (y 1)) * (k0_pay5 v1 v2 (ix2 p (y 1)) : EReal) * k0_pay6 v1 v2 (ix2 p 0) :=
    Finset.sum_congr rfl fun p _ => congrArg₂ (fun a b : EReal => v0 (ix2 p (y 1)) * a * b) (pay5_apply v1 v2 (ix2 p (y 1))).symm (pay6_apply v1 v2 (ix2 p 0)).symm
  rw [e]
  clear e
  generalize k0_pay5 v1 v2 = X
  generalize k0_pay6 v1 v2 = Y
  pointwise [k0_pay3]

theorem pay2_apply (y : S1x1024.Idx) : (k0_pay2 (F := Ideal) y : EReal) = 0 := by pointwise [k0_pay2]

end Body

/-- What the three windows hold after point `t`. -/
theorem outs4 (c : Dev nD) (t : Fin cfg0.N) :
    (outsAt0 m c t.val t.isLt).1 = k0_pay1 (k0_pay8 (iblk m c 0 t) (iblk m c 1 t) (iblk m c 2 t) (iblk m c 3 t)) := by
  by_cases h : t.val % 8 = 0
  · rw [outsAt0_A m c t h]
    frame_out
  · rw [outsAt0_B m c t h]
    frame_out

theorem outs5 (c : Dev nD) (t : Fin cfg0.N) :
    (outsAt0 m c t.val t.isLt).2.1 = k0_pay9 (iblk m c 0 t) (iblk m c 1 t) (iblk m c 2 t) (iblk m c 3 t) := by
  by_cases h : t.val % 8 = 0
  · rw [outsAt0_A m c t h]
    frame_out
  · rw [outsAt0_B m c t h]
    frame_out

/-- The part of point `n` in the gradient of the gain. -/
def partAt (c : Dev nD) (y : S1x1024.Idx) (n : ℕ) : EReal :=
  if h : n < cfg0.N then part (iblk m c 0 ⟨n, h⟩) (iblk m c 1 ⟨n, h⟩) (iblk m c 2 ⟨n, h⟩) y else 0

/-- After point `n` the sum holds the parts so far. -/
theorem acc_eq (c : Dev nD) (y : S1x1024.Idx) (n : ℕ) (hn : n < cfg0.N) :
    ((outsAt0 m c n hn).2.2 y : EReal) = ∑ j ∈ Finset.range (n + 1), partAt m c y j := by
  refine Cert.RmsGrad.run_sum (fun n hn => ((outsAt0 m c n hn).2.2 y : EReal)) (partAt m c y) ?_ ?_ n hn
  · have h0 : 0 < cfg0.N := by decide
    unfold partAt
    rw [outsAt0_A m c ⟨0, h0⟩ rfl, dif_pos h0]
    frame_out
    exact ((pay3_apply _ _ _ _ y).trans (congrArg (· + _) (pay2_apply y))).trans (zero_add _)
  · intro n hn h
    have hN : n < cfg0.N := hn
    unfold partAt
    rw [outsAt0_B m c ⟨n, hN⟩ h, dif_pos hN]
    frame_out
    exact pay3_apply _ _ _ _ y

/-- Where the blocks of grid point `t` lie. -/
theorem index_facts : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by decide +kernel

/-- The cotangent's block at an index. -/
theorem block0 (c : Dev nD) (t : Fin cfg0.N) (y : S256x1024.Idx) (i : S2048x2048.Idx)
    (h0 : (i 0 : Nat) = 256 * t.val + y 0) (h1 : (i 1 : Nat) = y 1) :
    (iblk m c 0 t : Vec Ideal S256x1024 .f32) y = m ((c.tc : Thread nD τ).loc main_arg0) i := by
  obtain ⟨⟨e0, e1⟩, -⟩ := index_facts t
  exact at_eq (S := S2048x2048) (m ((c.tc : Thread nD τ).loc main_arg0)) (((cfg0.win 0).blk t).view.emb y) i fun a => match a with
    | ⟨0, _⟩ => by show win0_0.index t 0 * 256 + 1 * (y 0).val = (i 0).val; rw [e0, h0]; omega
    | ⟨1, _⟩ => by show win0_0.index t 1 * 1024 + 1 * (y 1).val = (i 1).val; rw [e1, h1]; omega

/-- The gated value's block at an index. -/
theorem block1 (c : Dev nD) (t : Fin cfg0.N) (y : S256x1024.Idx) (i : S2048x1024.Idx)
    (h0 : (i 0 : Nat) = 256 * t.val + y 0) (h1 : (i 1 : Nat) = y 1) :
    (iblk m c 1 t : Vec Ideal S256x1024 .f32) y = m ((c.tc : Thread nD τ).loc main_arg1) i := by
  obtain ⟨-, ⟨e0, e1⟩, -⟩ := index_facts t
  exact at_eq (S := S2048x1024) (m ((c.tc : Thread nD τ).loc main_arg1)) (((cfg0.win 1).blk t).view.emb y) i fun a => match a with
    | ⟨0, _⟩ => by show win0_1.index t 0 * 256 + 1 * (y 0).val = (i 0).val; rw [e0, h0]; omega
    | ⟨1, _⟩ => by show win0_1.index t 1 * 1024 + 1 * (y 1).val = (i 1).val; rw [e1, h1]; omega

/-- The gate's block at an index. -/
theorem block2 (c : Dev nD) (t : Fin cfg0.N) (y : S256x1024.Idx) (i : S2048x1024.Idx)
    (h0 : (i 0 : Nat) = 256 * t.val + y 0) (h1 : (i 1 : Nat) = y 1) :
    (iblk m c 2 t : Vec Ideal S256x1024 .f32) y = m ((c.tc : Thread nD τ).loc main_arg2) i := by
  obtain ⟨-, -, ⟨e0, e1⟩, -⟩ := index_facts t
  exact at_eq (S := S2048x1024) (m ((c.tc : Thread nD τ).loc main_arg2)) (((cfg0.win 2).blk t).view.emb y) i fun a => match a with
    | ⟨0, _⟩ => by show win0_2.index t 0 * 256 + 1 * (y 0).val = (i 0).val; rw [e0, h0]; omega
    | ⟨1, _⟩ => by show win0_2.index t 1 * 1024 + 1 * (y 1).val = (i 1).val; rw [e1, h1]; omega

/-- The gain's block is the gain. -/
theorem block3 (c : Dev nD) (t : Fin cfg0.N) (y : S1x1024.Idx) : (iblk m c 3 t : Vec Ideal S1x1024 .f32) y = m ((c.tc : Thread nD τ).loc main_arg3) y := by
  obtain ⟨-, -, -, ⟨e0, e1⟩, -⟩ := index_facts t
  exact at_eq (S := S1x1024) (m ((c.tc : Thread nD τ).loc main_arg3)) (((cfg0.win 3).blk t).view.emb y) y fun a => match a with
    | ⟨0, _⟩ => by show win0_3.index t 0 * 1 + 1 * (y 0).val = (y 0).val; rw [e0]; omega
    | ⟨1, _⟩ => by show win0_3.index t 1 * 1024 + 1 * (y 1).val = (y 1).val; rw [e1]; omega

/-- A row of the unit's values, -/
def yy (yg t : S2048x1024.Idx → EReal) (r : Fin 2048) (q : Fin 1024) : EReal := yg (ix2 r q) * sg (t (ix2 r q))

/-- of the cotangent, -/
def dn (d : S2048x2048.Idx → EReal) (r : Fin 2048) (q : Fin 1024) : EReal := d (ix2 r ⟨q.val, by omega⟩)

/-- and of the cotangent times the gain. -/
def dg (d : S2048x2048.Idx → EReal) (g : S1x1024.Idx → EReal) (r : Fin 2048) (q : Fin 1024) : EReal := dn d r q * g (ix2 0 q)

/-- The gradient of the unit's value, -/
abbrev dyy (c : Dev nD) (i : S2048x1024.Idx) : EReal :=
  dx (yy (m ((c.tc : Thread nD τ).loc main_arg1)) (m ((c.tc : Thread nD τ).loc main_arg2)) (i 0))
    (dg (m ((c.tc : Thread nD τ).loc main_arg0)) (m ((c.tc : Thread nD τ).loc main_arg3)) (i 0)) (i 1)

/-- of the gate, -/
abbrev res0 (c : Dev nD) : S2048x1024.Idx → EReal := fun i =>
  dyy m c i * (m ((c.tc : Thread nD τ).loc main_arg1) i : EReal) * sg (m ((c.tc : Thread nD τ).loc main_arg2) i)
    * (1 - sg (m ((c.tc : Thread nD τ).loc main_arg2) i))

/-- of the gated value, -/
abbrev res1 (c : Dev nD) : S2048x1024.Idx → EReal := fun i => dyy m c i * sg (m ((c.tc : Thread nD τ).loc main_arg2) i)

/-- and of the gain. -/
abbrev res2 (c : Dev nD) : S1x1024.Idx → EReal := fun i => ∑ r : Fin 2048,
  dn (m ((c.tc : Thread nD τ).loc main_arg0)) r (i 1)
    * yy (m ((c.tc : Thread nD τ).loc main_arg1)) (m ((c.tc : Thread nD τ).loc main_arg2)) r (i 1)
    * rinv (yy (m ((c.tc : Thread nD τ).loc main_arg1)) (m ((c.tc : Thread nD τ).loc main_arg2)) r)

/-- A row of the blocks at point `t` is a row of the arrays. -/
theorem yy_at (c : Dev nD) (t : Fin cfg0.N) (p : Fin 256) (r : Fin 2048) (h : r.val = 256 * t.val + p.val) :
    (fun q => let b1 : S256x1024.Idx → EReal := iblk m c 1 t; let b2 : S256x1024.Idx → EReal := iblk m c 2 t; b1 (ix2 p q) * sg (b2 (ix2 p q)))
      = yy (m ((c.tc : Thread nD τ).loc main_arg1)) (m ((c.tc : Thread nD τ).loc main_arg2)) r :=
  funext fun q => congrArg₂ (fun a b : EReal => a * sg b) (block1 m c t (ix2 p q) (ix2 r q) h rfl) (block2 m c t (ix2 p q) (ix2 r q) h rfl)

theorem dg_at (c : Dev nD) (t : Fin cfg0.N) (p : Fin 256) (r : Fin 2048) (h : r.val = 256 * t.val + p.val) :
    (fun q => let b0 : S256x1024.Idx → EReal := iblk m c 0 t; let b3 : S1x1024.Idx → EReal := iblk m c 3 t; b0 (ix2 p q) * b3 (ix2 0 q))
      = dg (m ((c.tc : Thread nD τ).loc main_arg0)) (m ((c.tc : Thread nD τ).loc main_arg3)) r :=
  funext fun q => congrArg₂ (fun a b : EReal => a * b) (block0 m c t (ix2 p q) (ix2 r ⟨q.val, by omega⟩) h rfl) (block3 m c t (ix2 0 q))

/-- The body's gradient at point `t` is the array's at the index where the block's entry lies. -/
theorem dyy_at (c : Dev nD) (t : Fin cfg0.N) (y : S256x1024.Idx) (i : S2048x1024.Idx)
    (h0 : (i 0 : Nat) = 256 * t.val + y 0) (h1 : (i 1 : Nat) = y 1) :
    (k0_pay7 (iblk m c 0 t) (iblk m c 1 t) (iblk m c 2 t) (iblk m c 3 t) y : EReal) = dyy m c i := by
  refine (pay7_apply _ _ _ _ y).trans ?_
  have e : (i 1 : Fin 1024) = y 1 := Fin.ext h1
  show dx _ _ _ = dx _ _ (i 1)
  rw [e]
  exact congrArg₂ (fun f d => dx f d (y 1)) (yy_at m c t (y 0) (i 0) h0) (dg_at m c t (y 0) (i 0) h0)

/-- Point `t` writes back block `t` of the gradient of the gate, -/
theorem flushed4_eq (c : Dev nD) (t : Fin cfg0.N) :
    (dats m 0 c).flushed 4 t = ((cfg0.win 4).blk t).view.read (Elt Ideal) (res0 m c) := by
  obtain ⟨-, -, -, -, ⟨e0, e1⟩, -⟩ := index_facts t
  rw [Value.flushed4, outs4]
  funext y
  rw [View.read_apply]
  have h0 : (((cfg0.win 4).blk t).view.emb y 0 : Nat) = 256 * t.val + (y 0).val := by
    show win0_4.index t 0 * 256 + 1 * (y 0).val = 256 * t.val + (y 0).val; rw [e0]; omega
  have h1 : (((cfg0.win 4).blk t).view.emb y 1 : Nat) = (y 1).val := by
    show win0_4.index t 1 * 1024 + 1 * (y 1).val = (y 1).val; rw [e1]; omega
  refine (pay8_apply _ _ _ _ y).trans ?_
  rw [dyy_at m c t y _ h0 h1, block1 m c t y _ h0 h1, block2 m c t y _ h0 h1]
  rfl

/-- of the gradient of the gated value, -/
theorem flushed5_eq (c : Dev nD) (t : Fin cfg0.N) :
    (dats m 0 c).flushed 5 t = ((cfg0.win 5).blk t).view.read (Elt Ideal) (res1 m c) := by
  obtain ⟨-, -, -, -, -, ⟨e0, e1⟩, -⟩ := index_facts t
  rw [Value.flushed5, outs5]
  funext y
  rw [View.read_apply]
  have h0 : (((cfg0.win 5).blk t).view.emb y 0 : Nat) = 256 * t.val + (y 0).val := by
    show win0_5.index t 0 * 256 + 1 * (y 0).val = 256 * t.val + (y 0).val; rw [e0]; omega
  have h1 : (((cfg0.win 5).blk t).view.emb y 1 : Nat) = (y 1).val := by
    show win0_5.index t 1 * 1024 + 1 * (y 1).val = (y 1).val; rw [e1]; omega
  refine (pay9_apply _ _ _ _ y).trans ?_
  rw [dyy_at m c t y _ h0 h1, block2 m c t y _ h0 h1]
  rfl

/-- The part of point `n` is the sum over its rows. -/
theorem part_at (c : Dev nD) (y : S1x1024.Idx) (n : ℕ) (hn : n < 8) : partAt m c y n = ∑ k : Fin 256,
    dn (m ((c.tc : Thread nD τ).loc main_arg0)) ⟨256 * n + k.val, by omega⟩ (y 1)
    * yy (m ((c.tc : Thread nD τ).loc main_arg1)) (m ((c.tc : Thread nD τ).loc main_arg2)) ⟨256 * n + k.val, by omega⟩ (y 1)
    * rinv (yy (m ((c.tc : Thread nD τ).loc main_arg1)) (m ((c.tc : Thread nD τ).loc main_arg2)) ⟨256 * n + k.val, by omega⟩) := by
  have hN : n < cfg0.N := hn
  unfold partAt part
  rw [dif_pos hN]
  refine Finset.sum_congr rfl fun k _ => ?_
  refine congrArg₂ (fun a b : EReal => a * b) (congrArg₂ (fun a b : EReal => a * b) ?_ ?_) (congrArg rinv (yy_at m c ⟨n, hN⟩ k ⟨256 * n + k.val, by omega⟩ rfl))
  · exact block0 m c ⟨n, hN⟩ (ix2 k (y 1)) (ix2 ⟨256 * n + k.val, by omega⟩ ⟨(y 1).val, Nat.lt_trans (y 1).isLt (by decide)⟩) rfl rfl
  · exact congrFun (yy_at m c ⟨n, hN⟩ k ⟨256 * n + k.val, by omega⟩ rfl) (y 1)

theorem emb6 (t : Fin cfg0.N) (y : S1x1024.Idx) : ((cfg0.win 6).blk t).view.emb y = y := by
  obtain ⟨-, -, -, -, -, -, ⟨e0, e1⟩⟩ := index_facts t
  funext a
  apply Fin.ext
  match a with
  | ⟨0, _⟩ => show win0_6.index t 0 * 1 + 1 * (y 0).val = (y 0).val; rw [e0]; omega
  | ⟨1, _⟩ => show win0_6.index t 1 * 1024 + 1 * (y 1).val = (y 1).val; rw [e1]; omega

/-- and the last point the gradient of the gain. -/
theorem flushed6_eq (c : Dev nD) (t : Fin cfg0.N) (hf : (cfg0.win 6).flush t = true) :
    (dats m 0 c).flushed 6 t = ((cfg0.win 6).blk t).view.read (Elt Ideal) (res2 m c) := by
  have ht : t.val = 7 := (by decide +kernel : ∀ t : Fin cfg0.N, (cfg0.win 6).flush t = true → t.val = 7) t hf
  rw [Value.flushed6]
  funext y
  rw [View.read_apply]
  rw [emb6 t y]
  show ((outsAt0 m c t.val t.isLt).2.2 y : EReal) = res2 m c y
  rw [acc_eq m c y t.val t.isLt, ht]
  exact Cert.RmsGrad.sum_blocks _ _ fun j hj => part_at m c y j hj

/-- Every index of the result lies in some point's block. -/
theorem covered4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2048 := (i 0).isLt
  have h1 : (i 1 : Nat) < 1024 := (i 1).isLt
  have hN : cfg0.N = 8 := N_0
  have ht : (i 0 : Nat) / 256 < cfg0.N := by omega
  obtain ⟨-, -, -, -, ⟨e0, e1⟩, -⟩ := index_facts ⟨(i 0 : Nat) / 256, ht⟩
  refine ⟨⟨(i 0 : Nat) / 256, ht⟩, flush0_4 _, ?_⟩
  show i ∈ ((View.whole main_v0_0).slice (win0_4.rect ⟨(i 0 : Nat) / 256, ht⟩)).set
  rw [View.set_slice_whole, Rect.mem_set_unit]
  intro a
  match a with
  | ⟨0, _⟩ => show win0_4.index ⟨(i 0 : Nat) / 256, ht⟩ 0 * 256 ≤ (i 0 : Nat) ∧ (i 0 : Nat) < win0_4.index ⟨(i 0 : Nat) / 256, ht⟩ 0 * 256 + 256
              rw [e0]; dsimp only; omega
  | ⟨1, _⟩ => show win0_4.index ⟨(i 0 : Nat) / 256, ht⟩ 1 * 1024 ≤ (i 1 : Nat) ∧ (i 1 : Nat) < win0_4.index ⟨(i 0 : Nat) / 256, ht⟩ 1 * 1024 + 1024
              rw [e1]; omega

/-- Every index of the result lies in some point's block. -/
theorem covered5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2048 := (i 0).isLt
  have h1 : (i 1 : Nat) < 1024 := (i 1).isLt
  have hN : cfg0.N = 8 := N_0
  have ht : (i 0 : Nat) / 256 < cfg0.N := by omega
  obtain ⟨-, -, -, -, -, ⟨e0, e1⟩, -⟩ := index_facts ⟨(i 0 : Nat) / 256, ht⟩
  refine ⟨⟨(i 0 : Nat) / 256, ht⟩, flush0_5 _, ?_⟩
  show i ∈ ((View.whole main_v0_1).slice (win0_5.rect ⟨(i 0 : Nat) / 256, ht⟩)).set
  rw [View.set_slice_whole, Rect.mem_set_unit]
  intro a
  match a with
  | ⟨0, _⟩ => show win0_5.index ⟨(i 0 : Nat) / 256, ht⟩ 0 * 256 ≤ (i 0 : Nat) ∧ (i 0 : Nat) < win0_5.index ⟨(i 0 : Nat) / 256, ht⟩ 0 * 256 + 256
              rw [e0]; dsimp only; omega
  | ⟨1, _⟩ => show win0_5.index ⟨(i 0 : Nat) / 256, ht⟩ 1 * 1024 ≤ (i 1 : Nat) ∧ (i 1 : Nat) < win0_5.index ⟨(i 0 : Nat) / 256, ht⟩ 1 * 1024 + 1024
              rw [e1]; omega

/-- The last point's block is the whole gradient of the gain. -/
theorem covered6 (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 1 := (i 0).isLt
  have h1 : (i 1 : Nat) < 1024 := (i 1).isLt
  have ht : 7 < cfg0.N := by decide
  obtain ⟨-, -, -, -, -, -, ⟨e0, e1⟩⟩ := index_facts ⟨7, ht⟩
  refine ⟨⟨7, ht⟩, (by decide +kernel : ∀ h : 7 < cfg0.N, (cfg0.win 6).flush ⟨7, h⟩ = true) ht, ?_⟩
  show i ∈ ((View.whole main_v0_2).slice (win0_6.rect ⟨7, ht⟩)).set
  rw [View.set_slice_whole, Rect.mem_set_unit]
  intro a
  match a with
  | ⟨0, _⟩ => show win0_6.index ⟨7, ht⟩ 0 * 1 ≤ (i 0 : Nat) ∧ (i 0 : Nat) < win0_6.index ⟨7, ht⟩ 0 * 1 + 1
              rw [e0]; omega
  | ⟨1, _⟩ => show win0_6.index ⟨7, ht⟩ 1 * 1024 ≤ (i 1 : Nat) ∧ (i 1 : Nat) < win0_6.index ⟨7, ht⟩ 1 * 1024 + 1024
              rw [e1]; omega

section Reference
variable (d : Vec Ideal S2048x2048 .f32) (yg t : Vec Ideal S2048x1024 .f32) (g : Vec Ideal S1x1024 .f32)

/-- The reference's logistic, -/
def hsg : FVec Ideal S2048x1024 .f32 :=
  Host.divf (broadcastInDim S2048x1024 ![] Cert.Reference18Ideal.Gen.bcast_S_S2048x1024 (constant Cert.Reference18Ideal.S_ .f32 0x3F800000#32))
    (addf (broadcastInDim S2048x1024 ![] Cert.Reference18Ideal.Gen.bcast_S_S2048x1024 (constant Cert.Reference18Ideal.S_ .f32 0x3F800000#32)) (Host.exp (Host.negf t)))

theorem hsg_apply (i : S2048x1024.Idx) : (hsg t i : EReal) = sg (t i) := by
  unfold sg
  pointwise [hsg]

/-- its value of the unit, -/
def hyy : FVec Ideal S2048x1024 .f32 := mulf yg (hsg t)

theorem hyy_row (r : Fin 2048) : (fun q => (hyy yg t (ix2 r q) : EReal)) = yy yg t r :=
  funext fun q => congrArg (fun a : EReal => yg (ix2 r q) * a) (hsg_apply t (ix2 r q))

/-- its cotangent, -/
def hdn : FVec Ideal S2048x1024 .f32 := extractStridedSlice Cert.Reference18Ideal.S2048x1024 ![0, 0] d Cert.Reference18Ideal.Gen.slices_S2048x2048_S2048x1024_0_0

theorem hdn_apply (r : Fin 2048) (q : Fin 1024) : (hdn d (ix2 r q) : EReal) = dn d r q := by
  unfold dn
  pointwise [hdn]

/-- its cotangent times the gain, -/
def hdg : FVec Ideal S2048x1024 .f32 :=
  mulf (hdn d) (broadcastInDim Cert.Reference18Ideal.S2048x1024 ![0, 1] Cert.Reference18Ideal.Gen.bcast_S1x1024_S2048x1024_0_1 g)

theorem hdg_row (r : Fin 2048) : (fun q => (hdg d g (ix2 r q) : EReal)) = dg d g r := by
  funext q
  unfold dg
  rw [← hdn_apply]
  unfold hdg
  generalize hdn d = X
  pointwise []

/-- its gradient of the unit's value, -/
def hdyy : FVec Ideal S2048x1024 .f32 :=
  Cert.RmsGrad.hgrad (hyy yg t) (hdg d g) Cert.Reference18Ideal.Gen.reducesTo_S2048x1024_S2048_d1 Cert.Reference18Ideal.Gen.reducesTo_S2048x1_S2048_d1
    Cert.Reference18Ideal.Gen.h_S_ Cert.Reference18Ideal.Gen.bcast_S2048_S2048x1_0 Cert.Reference18Ideal.Gen.bcast_S2048_S2048x1024_0
    Cert.Reference18Ideal.Gen.bcast_S_S2048x1 Cert.Reference18Ideal.Gen.bcast_S2048x1_S2048x1024_0_1 Cert.Reference18Ideal.Gen.shapeCasts_S2048_S2048x1

theorem hdyy_apply (i : S2048x1024.Idx) : (hdyy d yg t g i : EReal) = hdx (yy yg t (i 0)) (dg d g (i 0)) (i 1) :=
  (hgrad_apply (hyy yg t) (hdg d g) _ _ _ _ _ _ _ _ i).trans
    (congrArg₂ (fun a b => hdx a b (i 1)) (hyy_row yg t (i 0)) (hdg_row d g (i 0)))

/-- and its three results. -/
def href0 : FVec Ideal S2048x1024 .f32 :=
  mulf (mulf yg (hdyy d yg t g)) (mulf (hsg t)
    (subf (broadcastInDim S2048x1024 ![] Cert.Reference18Ideal.Gen.bcast_S_S2048x1024 (constant Cert.Reference18Ideal.S_ .f32 0x3F800000#32)) (hsg t)))

theorem href0_apply (i : S2048x1024.Idx) : (href0 d yg t g i : EReal) = (hdyy d yg t g i : EReal) * yg i * sg (t i) * (1 - sg (t i)) := by
  rw [← hsg_apply]
  unfold href0
  generalize hdyy d yg t g = X
  generalize hsg t = Y
  have e : (X i : EReal) * yg i * Y i * (1 - Y i) = yg i * X i * (Y i * (1 - Y i)) := by
    rw [mul_comm (X i : EReal), mul_assoc (yg i * X i)]
  rw [e]
  clear e
  pointwise []

def href2 : FVec Ideal S1x1024 .f32 :=
  shapeCast S1x1024 (Host.reduceAdd (mulf (mulf (hyy yg t) (broadcastInDim S2048x1024 ![0, 1] Cert.Reference18Ideal.Gen.bcast_S2048x1_S2048x1024_0_1
    (Cert.RmsGrad.hrinv (hyy yg t) Cert.Reference18Ideal.Gen.reducesTo_S2048x1024_S2048_d1 Cert.Reference18Ideal.Gen.h_S_
      Cert.Reference18Ideal.Gen.bcast_S2048_S2048x1_0 Cert.Reference18Ideal.Gen.bcast_S_S2048x1))) (hdn d))
    (constant Cert.Reference18Ideal.S_ .f32 0x00000000#32) Cert.Reference18Ideal.Gen.reducesTo_S2048x1024_S1024_d0 Cert.Reference18Ideal.Gen.h_S_) Cert.Reference18Ideal.Gen.shapeCasts_S1024_S1x1024

theorem href2_apply (i : S1x1024.Idx) :
    (href2 d yg t i : EReal) = ∑ r : Fin 2048, dn d r (i 1) * yy yg t r (i 1) * rinv (yy yg t r) := by
  have e : ∀ r : Fin 2048, dn d r (i 1) * yy yg t r (i 1) * rinv (yy yg t r)
      = (hyy yg t (ix2 r (i 1)) : EReal) * (Cert.RmsGrad.hrinv (hyy yg t) Cert.Reference18Ideal.Gen.reducesTo_S2048x1024_S2048_d1 Cert.Reference18Ideal.Gen.h_S_
      Cert.Reference18Ideal.Gen.bcast_S2048_S2048x1_0 Cert.Reference18Ideal.Gen.bcast_S_S2048x1 (ix2 r 0) : EReal) * hdn d (ix2 r (i 1)) := fun r => by
    refine Eq.trans ?_ (congrArg₂ (fun a b : EReal => a * b) (congrArg₂ (fun a b : EReal => a * b) (congrFun (hyy_row yg t r) (i 1))
      ((Cert.RmsGrad.hrinv_row (hyy yg t) _ _ _ _ r).trans (congrArg rinv (hyy_row yg t r)))) (hdn_apply d r (i 1))).symm
    rw [mul_comm (dn d r (i 1)), mul_assoc, mul_comm (dn d r (i 1)), ← mul_assoc]
  rw [Finset.sum_congr rfl fun r _ => e r]
  clear e
  unfold href2
  generalize Cert.RmsGrad.hrinv (hyy yg t) _ _ _ _ = Y
  generalize hyy yg t = X
  generalize hdn d = Z
  pointwise []

end Reference

/-- The side conditions of the precondition's operations. -/
theorem preFacts : Cert.Pre_finite18.Facts := by
  constructor <;> decide

/-- The idealized kernel and the idealized reference leave the same three gradients where the arguments are finite. -/
theorem value : Cert.algebraic_Kernel18Ideal_Reference18Ideal_pre_finite18 (hKernel18Ideal := Cert.Kernel18Ideal.Gen.facts)
    (hReference18Ideal := Cert.Reference18Ideal.Gen.facts) (hPre_finite18 := preFacts) := by
  intro m g m' g' hpre hargs
  refine ⟨fun c => res0 m c, fun c => res1 m c, fun c => res2 m c, ?_, ?_⟩
  · exact (θ_run _ _ _).mono (fun r h c =>
      ⟨(h c).1.trans ((dats m 0 c).arrAt_eq_of_cover 4 (res0 m c) (fun t _ => flushed4_eq m c t) (covered4 c)),
       (h c).2.1.trans ((dats m 0 c).arrAt_eq_of_cover 5 (res1 m c) (fun t _ => flushed5_eq m c t) (covered5 c)),
       (h c).2.2.1.trans ((dats m 0 c).arrAt_eq_of_cover 6 (res2 m c) (fun t hf => flushed6_eq m c t hf) (covered6 c)),
       (h c).2.2.2⟩) (Value.run_blocks m g)
  · refine (θ_run _ _ _).mono (fun r h c => ⟨(h c).1.trans ?_, (h c).2.1.trans ?_, (h c).2.2.1.trans ?_, (h c).2.2.2⟩)
      (Cert.Reference18Ideal.Value.run (F := Ideal) m' g')
    all_goals
      have f0 : ∀ i, (m ((c.tc : Thread nD τ).loc main_arg0) i : EReal) = (((m ((c.tc : Thread nD τ).loc main_arg0) i : EReal).toReal : ℝ) : EReal) :=
        fun i => Cert.Scan.finite_entry _ _ (hpre c).1 i
      have f1 : ∀ i, (m ((c.tc : Thread nD τ).loc main_arg1) i : EReal) = (((m ((c.tc : Thread nD τ).loc main_arg1) i : EReal).toReal : ℝ) : EReal) :=
        fun i => Cert.Scan.finite_entry _ _ (hpre c).2.1 i
      have f2 : ∀ i, (m ((c.tc : Thread nD τ).loc main_arg2) i : EReal) = (((m ((c.tc : Thread nD τ).loc main_arg2) i : EReal).toReal : ℝ) : EReal) :=
        fun i => Cert.Scan.finite_entry _ _ (hpre c).2.2.1 i
      have f3 : ∀ i, (m ((c.tc : Thread nD τ).loc main_arg3) i : EReal) = (((m ((c.tc : Thread nD τ).loc main_arg3) i : EReal).toReal : ℝ) : EReal) :=
        fun i => Cert.Scan.finite_entry _ _ (hpre c).2.2.2 i
      have ey : ∀ r k, yy (m ((c.tc : Thread nD τ).loc main_arg1)) (m ((c.tc : Thread nD τ).loc main_arg2)) r k
          = (((yy (m ((c.tc : Thread nD τ).loc main_arg1)) (m ((c.tc : Thread nD τ).loc main_arg2)) r k).toReal : ℝ) : EReal) := fun r k => by
        unfold yy
        rw [f1, f2, sg_coe, ← EReal.coe_mul, EReal.toReal_coe]
      have ed : ∀ r k, dg (m ((c.tc : Thread nD τ).loc main_arg0)) (m ((c.tc : Thread nD τ).loc main_arg3)) r k
          = (((dg (m ((c.tc : Thread nD τ).loc main_arg0)) (m ((c.tc : Thread nD τ).loc main_arg3)) r k).toReal : ℝ) : EReal) := fun r k => by
        unfold dg dn
        rw [f0, f3, ← EReal.coe_mul, EReal.toReal_coe]
      have hd : ∀ i : S2048x1024.Idx, dyy m c i = (hdyy (m ((c.tc : Thread nD τ).loc main_arg0)) (m ((c.tc : Thread nD τ).loc main_arg1))
          (m ((c.tc : Thread nD τ).loc main_arg2)) (m ((c.tc : Thread nD τ).loc main_arg3)) i : EReal) := fun i =>
        (dx_eq _ _ (ey (i 0)) (ed (i 0)) (i 1)).trans (hdyy_apply _ _ _ _ i).symm
    · unfold Cert.Reference18Ideal.Value.res_main_v49
      rw [(hargs c).1, (hargs c).2.1, (hargs c).2.2.1, (hargs c).2.2.2]
      funext i
      show (_ : EReal) = dyy m c i * _ * _ * _
      rw [hd i]
      exact href0_apply _ _ _ _ i
    · unfold Cert.Reference18Ideal.Value.res_main_v47
      rw [(hargs c).1, (hargs c).2.1, (hargs c).2.2.1, (hargs c).2.2.2]
      funext i
      show (_ : EReal) = dyy m c i * _
      rw [hd i]
      exact congrArg (fun a : EReal => (hdyy (m ((c.tc : Thread nD τ).loc main_arg0)) (m ((c.tc : Thread nD τ).loc main_arg1))
          (m ((c.tc : Thread nD τ).loc main_arg2)) (m ((c.tc : Thread nD τ).loc main_arg3)) i : EReal) * a) (hsg_apply _ i)
    · rw [(hargs c).1, (hargs c).2.1, (hargs c).2.2.1]
      funext i
      exact href2_apply _ _ _ i

end Cert.GluGrad

end
-- ==== Proof.ColGrad.lean ====
/- The gradient of a weight that is cut into column blocks. -/
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise

@[expose] public section

set_option maxRecDepth 16384

noncomputable section

namespace Cert.ColGrad

open Idealize.ShloMosaic Idealize.ShloMosaic.TcCoe Idealize.SL.Sem
open Cert.Kernel2Ideal Cert.Kernel2Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of the gradient in column block `j`, row `r`, column `q` of the block. -/
def entry (x : S2048x2048.Idx → EReal) (ct : S2048x5632.Idx → EReal) (j : Fin 4) (r : Fin 2048) (q : Fin 1408) : EReal :=
  ∑ k : Fin 2048, x (ix2 k r) * ct (ix2 k ⟨1408 * j.val + q.val, by omega⟩)

/-- The body's result at an index: the sum over the tokens of the products of the two blocks' columns. -/
theorem out_apply (x0 : Vec Ideal S2048x1024 .bf16) (x1 : Vec Ideal S2048x1408 .bf16) (y : S1x1024x1408.Idx) :
    (out0_2 x0 x1 y : EReal) = ∑ k : Fin 2048, (x0 (ix2 k (y 1)) : EReal) * x1 (ix2 k (y 2)) := by
  unfold out0_2
  rw [View.canon_unit_zero hz3, View.ld_unit_zero (S := S2048x1024) hz2, View.ld_unit_zero (S := S2048x1408) hz2]
  pointwise [k0_pay1]

/-- Where the blocks of grid point `t` lie: point `t` computes column block `t / 2`, rows from `1024 (t % 2)`. -/
theorem index_facts : ∀ t : Fin grid0.N, win0_0.index t 0 = 0 ∧ win0_0.index t 1 = t.val % 2
    ∧ win0_1.index t 0 = 0 ∧ win0_1.index t 1 = t.val / 2
    ∧ win0_2.index t 0 = t.val / 2 ∧ win0_2.index t 1 = t.val % 2 ∧ win0_2.index t 2 = 0 := by decide +kernel

/-- The first operand's block at an index. -/
theorem x_block (c : Dev nD) (t : Fin cfg0.N) (y : S2048x1024.Idx) (i : S2048x2048.Idx)
    (h0 : (i 0 : Nat) = y 0) (h1 : (i 1 : Nat) = 1024 * (t.val % 2) + y 1) :
    (iblk m c 0 t : Vec Ideal S2048x1024 .bf16) y = m ((c.tc : Thread nD τ).loc main_arg0) i := by
  obtain ⟨e0, e1, -⟩ := index_facts t
  unfold iblk
  rw [View.read_apply]
  show V m c main_arg0 _ = m ((c.tc : Thread nD τ).loc main_arg0) _
  unfold V
  congr 1
  funext a
  apply Fin.ext
  match a with
  | ⟨0, _⟩ => show win0_0.index t 0 * 2048 + 1 * (y 0).val = (i 0).val; rw [e0, h0]; omega
  | ⟨1, _⟩ => show win0_0.index t 1 * 1024 + 1 * (y 1).val = (i 1).val; rw [e1, h1]; omega

/-- The second operand's block at an index. -/
theorem ct_block (c : Dev nD) (t : Fin cfg0.N) (y : S2048x1408.Idx) (i : S2048x5632.Idx)
    (h0 : (i 0 : Nat) = y 0) (h1 : (i 1 : Nat) = 1408 * (t.val / 2) + y 1) :
    (iblk m c 1 t : Vec Ideal S2048x1408 .bf16) y = m ((c.tc : Thread nD τ).loc main_arg1) i := by
  obtain ⟨-, -, e0, e1, -⟩ := index_facts t
  unfold iblk
  rw [View.read_apply]
  show V m c main_arg1 _ = m ((c.tc : Thread nD τ).loc main_arg1) _
  unfold V
  congr 1
  funext a
  apply Fin.ext
  match a with
  | ⟨0, _⟩ => show win0_1.index t 0 * 2048 + 1 * (y 0).val = (i 0).val; rw [e0, h0]; omega
  | ⟨1, _⟩ => show win0_1.index t 1 * 1408 + 1 * (y 1).val = (i 1).val; rw [e1, h1]; omega

/-- The gradient as an array of column blocks. -/
def grad (x : S2048x2048.Idx → EReal) (ct : S2048x5632.Idx → EReal) : S4x2048x1408.Idx → EReal :=
  fun i => entry x ct (i 0) (i 1) (i 2)

/-- What the kernel's result array holds after the run. -/
abbrev result (c : Dev nD) : Buf (Elt Ideal) ((c.tc : Thread nD τ).loc main_v0) :=
  grad (m ((c.tc : Thread nD τ).loc main_arg0)) (m ((c.tc : Thread nD τ).loc main_arg1))

/-- Point `t` writes back block `t` of the gradient. -/
theorem flushed_eq (c : Dev nD) (t : Fin cfg0.N) :
    (dats m 0 c).flushed 2 t = ((cfg0.win 2).blk t).view.read (Elt Ideal) (result m c) := by
  obtain ⟨-, -, -, -, e0, e1, e2⟩ := index_facts t
  have hN : t.val < 8 := t.isLt
  rw [Value.flushed2]
  funext y
  rw [View.read_apply]
  show (out0_2 (iblk m c 0 t) (iblk m c 1 t) y : EReal) = grad _ _ (((cfg0.win 2).blk t).view.emb y)
  refine (out_apply _ _ y).trans ?_
  have hy0 : (y 0 : Nat) < 1 := (y 0).isLt
  have hy1 : (y 1 : Nat) < 1024 := (y 1).isLt
  have hy2 : (y 2 : Nat) < 1408 := (y 2).isLt
  have v0 : (((cfg0.win 2).blk t).view.emb y 0 : Nat) = t.val / 2 := by
    show win0_2.index t 0 * 1 + 1 * (y 0).val = _; rw [e0]; omega
  have v1 : (((cfg0.win 2).blk t).view.emb y 1 : Nat) = 1024 * (t.val % 2) + y 1 := by
    show win0_2.index t 1 * 1024 + 1 * (y 1).val = _; rw [e1]; omega
  have v2 : (((cfg0.win 2).blk t).view.emb y 2 : Nat) = y 2 := by
    show win0_2.index t 2 * 1408 + 1 * (y 2).val = _; rw [e2]; omega
  unfold grad entry
  refine Finset.sum_congr rfl fun k _ => ?_
  rw [x_block m c t (ix2 k (y 1)) (ix2 k (((cfg0.win 2).blk t).view.emb y 1)) rfl v1,
    ct_block m c t (ix2 k (y 2)) (ix2 k ⟨1408 * (((cfg0.win 2).blk t).view.emb y 0 : Nat) + (((cfg0.win 2).blk t).view.emb y 2 : Nat), by omega⟩) rfl
      (by show 1408 * (((cfg0.win 2).blk t).view.emb y 0 : Nat) + (((cfg0.win 2).blk t).view.emb y 2 : Nat) = 1408 * (t.val / 2) + (y 2 : Nat)
          rw [v0, v2])]

/-- Every index of the result lies in some point's block. -/
theorem covered (c : Dev nD) (i : ((cfg0.win 2).arr.view.loc (c.tc : Thread nD τ)).2.ty.Idx) : ∃ t : Fin cfg0.N, (cfg0.win 2).flush t = true ∧ i ∈ ((cfg0.win 2).blk t).view.set := by
  have h0 : (i 0 : Nat) < 4 := (i 0).isLt
  have h1 : (i 1 : Nat) < 2048 := (i 1).isLt
  have h2 : (i 2 : Nat) < 1408 := (i 2).isLt
  have hN : cfg0.N = 8 := N_0
  obtain ⟨t, ht⟩ : ∃ t : Fin cfg0.N, t.val = 2 * (i 0).val + (i 1).val / 1024 := ⟨⟨_, by omega⟩, rfl⟩
  refine ⟨t, flush0_2 t, ?_⟩
  obtain ⟨-, -, -, -, e0, e1, e2⟩ := index_facts t
  show i ∈ ((View.whole main_v0).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [e0]; omega
  | ⟨1, _⟩ => show win0_2.index t 1 * 1024 ≤ (i 1 : Nat) ∧ (i 1 : Nat) < win0_2.index t 1 * 1024 + 1024
              rw [e1]; omega
  | ⟨2, _⟩ => show win0_2.index t 2 * 1408 ≤ (i 2 : Nat) ∧ (i 2 : Nat) < win0_2.index t 2 * 1408 + 1408
              rw [e2]; omega

/-- So the result array holds the gradient. -/
theorem final_eq (c : Dev nD) : (dats m 0 c).arrAt 2 cfg0.N = result m c :=
  (dats m 0 c).arrAt_eq_of_cover 2 (result m c) (fun t _ => flushed_eq m c t) (covered c)

/-- The reference leaves the gradient too. -/
theorem ref_run (m' : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m', fun _ => 0, g⟩ fun r => ∀ c : Dev Cert.Reference2Ideal.nD,
      r.2.mem ((c.tc : Thread Cert.Reference2Ideal.nD Cert.Reference2Ideal.τ).loc Cert.Reference2Ideal.main_v8)
        = grad (m' ((c.tc : Thread Cert.Reference2Ideal.nD Cert.Reference2Ideal.τ).loc Cert.Reference2Ideal.main_arg0))
            (m' ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1) := by
  refine (θ_run _ _ _).mono (fun r h c => ⟨(h c).1.trans ?_, (h c).2⟩) (Cert.Reference2Ideal.Value.run (F := Ideal) m' g)
  funext i
  unfold grad entry
  pointwise []
  refine Finset.sum_congr rfl fun k _ => (mul_comm _ _).trans ?_
  simp only [Nat.mul_comm 1408]

/-- The idealized kernel and the idealized reference leave the same gradient. -/
theorem value : Cert.algebraic_Kernel2Ideal_Reference2Ideal (hKernel2Ideal := Cert.Kernel2Ideal.Gen.facts)
    (hReference2Ideal := Cert.Reference2Ideal.Gen.facts) := by
  intro m g m' g' _ hargs
  refine ⟨fun c => result m c, ?_, ?_⟩
  · exact (θ_run _ _ _).mono (fun r h c => ⟨(h c).1.trans (final_eq m c), (h c).2⟩) (Value.run_blocks m g)
  · refine (θ_run _ _ _).mono (fun r h c => ⟨(h c).1.trans ?_, (h c).2⟩) (ref_run m' g')
    show grad _ _ = grad _ _
    rw [(hargs c).1, (hargs c).2]

end Cert.ColGrad

end
-- ==== Proof.RowGrad.lean ====
/- The gradient of a weight that is cut into row blocks. -/
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise

@[expose] public section

set_option maxRecDepth 16384

noncomputable section

namespace Cert.RowGrad

open Idealize.ShloMosaic Idealize.ShloMosaic.TcCoe Idealize.SL.Sem
open Cert.Kernel3Ideal Cert.Kernel3Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of the gradient in row block `j`, row `r` of the block, column `q`. -/
def entry (x : S2048x5632.Idx → EReal) (ct : S2048x2048.Idx → EReal) (j : Fin 4) (r : Fin 1408) (q : Fin 2048) : EReal :=
  ∑ k : Fin 2048, x (ix2 k ⟨1408 * j.val + r.val, by omega⟩) * ct (ix2 k q)

/-- The body's result at an index: the sum over the tokens of the products of the two blocks' columns. -/
theorem out_apply (x0 : Vec Ideal S2048x1408 .bf16) (x1 : Vec Ideal S2048x2048 .bf16) (y : S1x1408x2048.Idx) :
    (out0_2 x0 x1 y : EReal) = ∑ k : Fin 2048, (x0 (ix2 k (y 1)) : EReal) * x1 (ix2 k (y 2)) := by
  unfold out0_2
  rw [View.canon_unit_zero hz3, View.ld_unit_zero (S := S2048x1408) hz2, View.ld_unit_zero (S := S2048x2048) hz2]
  pointwise [k0_pay1]

/-- Where the blocks of grid point `t` lie: point `t` computes row block `t`. -/
theorem index_facts : ∀ t : Fin grid0.N, win0_0.index t 0 = 0 ∧ win0_0.index t 1 = t.val
    ∧ win0_1.index t 0 = 0 ∧ win0_1.index t 1 = 0
    ∧ win0_2.index t 0 = t.val ∧ win0_2.index t 1 = 0 ∧ win0_2.index t 2 = 0 := by decide +kernel

/-- The first operand's block at an index. -/
theorem x_block (c : Dev nD) (t : Fin cfg0.N) (y : S2048x1408.Idx) (i : S2048x5632.Idx)
    (h0 : (i 0 : Nat) = y 0) (h1 : (i 1 : Nat) = 1408 * t.val + y 1) :
    (iblk m c 0 t : Vec Ideal S2048x1408 .bf16) y = m ((c.tc : Thread nD τ).loc main_arg0) i := by
  obtain ⟨e0, e1, -⟩ := index_facts t
  unfold iblk
  rw [View.read_apply]
  show V m c main_arg0 _ = m ((c.tc : Thread nD τ).loc main_arg0) _
  unfold V
  congr 1
  funext a
  apply Fin.ext
  match a with
  | ⟨0, _⟩ => show win0_0.index t 0 * 2048 + 1 * (y 0).val = (i 0).val; rw [e0, h0]; omega
  | ⟨1, _⟩ => show win0_0.index t 1 * 1408 + 1 * (y 1).val = (i 1).val; rw [e1, h1]; omega

/-- The second operand's block at an index. -/
theorem ct_block (c : Dev nD) (t : Fin cfg0.N) (y : S2048x2048.Idx) (i : S2048x2048.Idx)
    (h0 : (i 0 : Nat) = y 0) (h1 : (i 1 : Nat) = y 1) :
    (iblk m c 1 t : Vec Ideal S2048x2048 .bf16) y = m ((c.tc : Thread nD τ).loc main_arg1) i := by
  obtain ⟨-, -, e0, e1, -⟩ := index_facts t
  unfold iblk
  rw [View.read_apply]
  show V m c main_arg1 _ = m ((c.tc : Thread nD τ).loc main_arg1) _
  unfold V
  congr 1
  funext a
  apply Fin.ext
  match a with
  | ⟨0, _⟩ => show win0_1.index t 0 * 2048 + 1 * (y 0).val = (i 0).val; rw [e0, h0]; omega
  | ⟨1, _⟩ => show win0_1.index t 1 * 2048 + 1 * (y 1).val = (i 1).val; rw [e1, h1]; omega

/-- The gradient as an array of row blocks. -/
def grad (x : S2048x5632.Idx → EReal) (ct : S2048x2048.Idx → EReal) : S4x1408x2048.Idx → EReal :=
  fun i => entry x ct (i 0) (i 1) (i 2)

/-- What the kernel's result array holds after the run. -/
abbrev result (c : Dev nD) : Buf (Elt Ideal) ((c.tc : Thread nD τ).loc main_v0) :=
  grad (m ((c.tc : Thread nD τ).loc main_arg0)) (m ((c.tc : Thread nD τ).loc main_arg1))

/-- Point `t` writes back block `t` of the gradient. -/
theorem flushed_eq (c : Dev nD) (t : Fin cfg0.N) :
    (dats m 0 c).flushed 2 t = ((cfg0.win 2).blk t).view.read (Elt Ideal) (result m c) := by
  obtain ⟨-, -, -, -, e0, e1, e2⟩ := index_facts t
  have hN : t.val < 4 := t.isLt
  rw [Value.flushed2]
  funext y
  rw [View.read_apply]
  show (out0_2 (iblk m c 0 t) (iblk m c 1 t) y : EReal) = grad _ _ (((cfg0.win 2).blk t).view.emb y)
  refine (out_apply _ _ y).trans ?_
  have hy0 : (y 0 : Nat) < 1 := (y 0).isLt
  have hy1 : (y 1 : Nat) < 1408 := (y 1).isLt
  have hy2 : (y 2 : Nat) < 2048 := (y 2).isLt
  have v0 : (((cfg0.win 2).blk t).view.emb y 0 : Nat) = t.val := by
    show win0_2.index t 0 * 1 + 1 * (y 0).val = _; rw [e0]; omega
  have v1 : (((cfg0.win 2).blk t).view.emb y 1 : Nat) = y 1 := by
    show win0_2.index t 1 * 1408 + 1 * (y 1).val = _; rw [e1]; omega
  have v2 : (((cfg0.win 2).blk t).view.emb y 2 : Nat) = y 2 := by
    show win0_2.index t 2 * 2048 + 1 * (y 2).val = _; rw [e2]; omega
  unfold grad entry
  refine Finset.sum_congr rfl fun k _ => ?_
  rw [x_block m c t (ix2 k (y 1)) (ix2 k ⟨1408 * (((cfg0.win 2).blk t).view.emb y 0 : Nat) + (((cfg0.win 2).blk t).view.emb y 1 : Nat), by omega⟩) rfl
      (by show 1408 * (((cfg0.win 2).blk t).view.emb y 0 : Nat) + (((cfg0.win 2).blk t).view.emb y 1 : Nat) = 1408 * t.val + (y 1 : Nat)
          rw [v0, v1]),
    ct_block m c t (ix2 k (y 2)) (ix2 k (((cfg0.win 2).blk t).view.emb y 2)) rfl v2]

/-- Every index of the result lies in some point's block. -/
theorem covered (c : Dev nD) (i : ((cfg0.win 2).arr.view.loc (c.tc : Thread nD τ)).2.ty.Idx) : ∃ t : Fin cfg0.N, (cfg0.win 2).flush t = true ∧ i ∈ ((cfg0.win 2).blk t).view.set := by
  have h0 : (i 0 : Nat) < 4 := (i 0).isLt
  have h1 : (i 1 : Nat) < 1408 := (i 1).isLt
  have h2 : (i 2 : Nat) < 2048 := (i 2).isLt
  have hN : cfg0.N = 4 := N_0
  obtain ⟨t, ht⟩ : ∃ t : Fin cfg0.N, t.val = (i 0).val := ⟨⟨_, by omega⟩, rfl⟩
  refine ⟨t, flush0_2 t, ?_⟩
  obtain ⟨-, -, -, -, e0, e1, e2⟩ := index_facts t
  show i ∈ ((View.whole main_v0).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [e0]; omega
  | ⟨1, _⟩ => show win0_2.index t 1 * 1408 ≤ (i 1 : Nat) ∧ (i 1 : Nat) < win0_2.index t 1 * 1408 + 1408
              rw [e1]; omega
  | ⟨2, _⟩ => show win0_2.index t 2 * 2048 ≤ (i 2 : Nat) ∧ (i 2 : Nat) < win0_2.index t 2 * 2048 + 2048
              rw [e2]; omega

/-- So the result array holds the gradient. -/
theorem final_eq (c : Dev nD) : (dats m 0 c).arrAt 2 cfg0.N = result m c :=
  (dats m 0 c).arrAt_eq_of_cover 2 (result m c) (fun t _ => flushed_eq m c t) (covered c)

/-- The reference leaves the gradient too. -/
theorem ref_run (m' : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m', fun _ => 0, g⟩ fun r => ∀ c : Dev Cert.Reference3Ideal.nD,
      r.2.mem ((c.tc : Thread Cert.Reference3Ideal.nD Cert.Reference3Ideal.τ).loc Cert.Reference3Ideal.main_v7)
        = grad (m' ((c.tc : Thread Cert.Reference3Ideal.nD Cert.Reference3Ideal.τ).loc Cert.Reference3Ideal.main_arg0))
            (m' ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1) := by
  refine (θ_run _ _ _).mono (fun r h c => ⟨(h c).1.trans ?_, (h c).2⟩) (Cert.Reference3Ideal.Value.run (F := Ideal) m' g)
  funext i
  unfold grad entry
  pointwise []
  refine Finset.sum_congr rfl fun k _ => (mul_comm _ _).trans ?_
  simp only [Nat.mul_comm 1408]

/-- The idealized kernel and the idealized reference leave the same gradient. -/
theorem value : Cert.algebraic_Kernel3Ideal_Reference3Ideal (hKernel3Ideal := Cert.Kernel3Ideal.Gen.facts)
    (hReference3Ideal := Cert.Reference3Ideal.Gen.facts) := by
  intro m g m' g' _ hargs
  refine ⟨fun c => result m c, ?_, ?_⟩
  · exact (θ_run _ _ _).mono (fun r h c => ⟨(h c).1.trans (final_eq m c), (h c).2⟩) (Value.run_blocks m g)
  · refine (θ_run _ _ _).mono (fun r h c => ⟨(h c).1.trans ?_, (h c).2⟩) (ref_run m' g')
    show grad _ _ = grad _ _
    rw [(hargs c).1, (hargs c).2]

end Cert.RowGrad

end
-- ==== Proof.FfnDx.lean ====
/- The gradient of the input of the feed-forward half: both products with the transposed weights, summed over four blocks
of the inner width, and the scaled residual. -/
module

public import proofs.«01_k».proof.Defs
public import proofs.«01_k».proof.Proof.Gen.Kernel5Ideal.Value
public import proofs.«01_k».proof.Proof.Gen.Reference5Ideal.Run
public import proofs.«01_k».proof.Proof.Blocks
public import proofs.«01_k».proof.Proof.Consts
public import Idealize.ShloMosaic.Lib.Pipeline.Value
public import Idealize.ShloMosaic.Lib.Pointwise

@[expose] public section

set_option maxRecDepth 16384

noncomputable section

namespace Cert.FfnDx

open Idealize.ShloMosaic Idealize.ShloMosaic.TcCoe Idealize.SL.Sem
open Cert.Kernel5Ideal Cert.Kernel5Ideal.Gen
open Cert.Consts

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The kernel's named constant. -/
theorem named_alpha : Named.named (F := Ideal) κ "alpha" (φ := .f32) 0x3FD744FD#32 = alpha :=
  IdealRules.named_const.ideal_named_scalar _ _ _ _ rfl

/-- The product of a cotangent with the transposed weight, the weight in column blocks. -/
def back (x : S2048x5632.Idx → EReal) (w : S4x2048x1408.Idx → EReal) (r q : Fin 2048) : EReal :=
  ∑ k : Fin 5632, x (ix2 r k) * w (ix3 ⟨k.val / 1408, by omega⟩ q ⟨k.val % 1408, by omega⟩)

/-- The products of one block of the inner width at an index. -/
def part (x0 x1 : Vec Ideal S512x1408 .bf16) (x2 x3 : Vec Ideal S1x2048x1408 .bf16) (y : S512x2048.Idx) : EReal :=
  (∑ k : Fin 1408, (x0 (ix2 (y 0) k) : EReal) * x2 (ix3 0 (y 1) k)) + ∑ k : Fin 1408, (x1 (ix2 (y 0) k) : EReal) * x3 (ix3 0 (y 1) k)

/-- The update of the running sum at an index. -/
theorem pay2_apply (x0 x1 : Vec Ideal S512x1408 .bf16) (x2 x3 : Vec Ideal S1x2048x1408 .bf16) (a : Vec Ideal S512x2048 .f32) (y : S512x2048.Idx) :
    (k0_pay2 x0 x2 x1 x3 a y : EReal) = (a y : EReal) + part x0 x1 x2 x3 y := by
  unfold part
  pointwise [k0_pay2]

theorem pay1_apply (y : S512x2048.Idx) : (k0_pay1 (F := Ideal) y : EReal) = 0 := by pointwise [k0_pay1]

/-- The result of the running sum and the residual at an index. -/
theorem pay3_apply (a d : Vec Ideal S512x2048 .f32) (y : S512x2048.Idx) :
    (k0_pay3 a d y : EReal) = alpha * d y + a y := by
  unfold k0_pay3
  rw [named_alpha]
  pointwise []

section Cases
variable (c : Dev nD) (i : grid0.Coords) (arg2 : Memref sig .tc .vmem S512x1408 .bf16) (harg2 : arg2.IsWhole)
  (arg3 : Memref sig .tc .vmem S512x1408 .bf16) (harg3 : arg3.IsWhole) (arg4 : Memref sig .tc .vmem S1x2048x1408 .bf16) (harg4 : arg4.IsWhole)
  (arg5 : Memref sig .tc .vmem S1x2048x1408 .bf16) (harg5 : arg5.IsWhole) (arg6 : Memref sig .tc .vmem S512x2048 .f32) (harg6 : arg6.IsWhole)
  (arg7 : Memref sig .tc .vmem S512x2048 .f32) (harg7 : arg7.IsWhole) (arg8 : Memref sig .tc .vmem S512x2048 .f32) (harg8 : arg8.IsWhole)
  (x0 x1 : Vec Ideal S512x1408 .bf16) (x2 x3 : Vec Ideal S1x2048x1408 .bf16) (x4 xs0 : Vec Ideal S512x2048 .f32)

/-- The first point of a row block starts the sum from zero, -/
theorem sout_A (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = k0_pay2 x0 x2 x1 x3 (k0_pay1 (F := Ideal)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread,
    View.ld_unit_zero (S := S512x1408) hz2, View.ld_unit_zero (S := S1x2048x1408) hz3]

/-- the points between add their products to it, -/
theorem sout_B (hc0 : ¬cond0_0 i) (hc1 : ¬cond0_1 i) :
    sout0_B_0 c i arg2 harg2 arg3 harg3 arg4 harg4 arg5 harg5 arg6 harg6 arg7 harg7 arg8 harg8 hc0 hc1 x0 x1 x2 x3 x4 xs0
      = k0_pay2 x0 x2 x1 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg5.read_unread, harg8.read_unread,
    View.ld_unit_zero (S := S512x1408) hz2, View.ld_unit_zero (S := S1x2048x1408) hz3, View.ld_unit_zero (S := S512x2048) hz2]

/-- and so does the last, -/
theorem sout_C (hc0 : ¬cond0_0 i) (hc1 : cond0_1 i) :
    sout0_C_0 c i arg2 harg2 arg3 harg3 arg4 harg4 arg5 harg5 arg6 harg6 arg7 harg7 arg8 harg8 hc0 hc1 x0 x1 x2 x3 x4 xs0
      = k0_pay2 x0 x2 x1 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg8.read_unread,
    View.ld_unit_zero (S := S512x1408) hz2, View.ld_unit_zero (S := S1x2048x1408) hz3, View.ld_unit_zero (S := S512x2048) hz2]

/-- which writes the result from the whole sum. -/
theorem out_C (hc0 : ¬cond0_0 i) (hc1 : cond0_1 i) :
    out0_C_5 c i arg2 harg2 arg3 harg3 arg4 harg4 arg5 harg5 arg6 harg6 arg7 harg7 arg8 harg8 hc0 hc1 x0 x1 x2 x3 x4 xs0
      = k0_pay3 (k0_pay2 x0 x2 x1 x3 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg5.read_unread, harg6.read_unread, harg8.read_unread,
    View.ld_unit_zero (S := S512x1408) hz2, View.ld_unit_zero (S := S1x2048x1408) hz3, View.ld_unit_zero (S := S512x2048) hz2]

end Cases

/-- The part of point `n`, at an index of the block. -/
def partAt (c : Dev nD) (y : S512x2048.Idx) (n : ℕ) : EReal :=
  if h : n < cfg0.N then part (iblk m c 0 ⟨n, h⟩) (iblk m c 1 ⟨n, h⟩) (iblk m c 2 ⟨n, h⟩) (iblk m c 3 ⟨n, h⟩) y else 0

/-- The running sum after point `n`, at an index of the block. -/
def accAt (c : Dev nD) (y : S512x2048.Idx) (n : ℕ) (hn : n < cfg0.N) : EReal := (outsAt0 m c n hn).2 y

theorem acc_reset (c : Dev nD) (y : S512x2048.Idx) (n : ℕ) (hn : n < cfg0.N) (h : n % 4 = 0) : accAt m c y n hn = partAt m c y n := by
  unfold accAt partAt
  rw [outsAt0_A m c ⟨n, hn⟩ h (by show ¬n % 4 = 3; omega), dif_pos hn]
  dsimp only
  rw [sout_A]
  exact ((pay2_apply _ _ _ _ _ y).trans (congrArg (· + _) (pay1_apply y))).trans (zero_add _)

theorem acc_step (c : Dev nD) (y : S512x2048.Idx) (n : ℕ) (hn : n < cfg0.N) (h : ¬n % 4 = 0) :
    accAt m c y n hn = accAt m c y (n - 1) (Nat.lt_of_le_of_lt (Nat.sub_le n 1) hn) + partAt m c y n := by
  unfold accAt partAt
  rw [dif_pos hn]
  by_cases h3 : n % 4 = 3
  · rw [outsAt0_C m c ⟨n, hn⟩ h h3]
    dsimp only
    rw [sout_C]
    exact pay2_apply _ _ _ _ _ y
  · rw [outsAt0_B m c ⟨n, hn⟩ h h3]
    dsimp only
    rw [sout_B]
    exact pay2_apply _ _ _ _ _ y

/-- Where the blocks of grid point `t` lie: the row block is `t / 4`, the block of the inner width `t % 4`. -/
theorem index_facts : ∀ t : Fin grid0.N, (win0_0.index t 0 = t.val / 4 ∧ win0_0.index t 1 = t.val % 4)
    ∧ (win0_1.index t 0 = t.val / 4 ∧ win0_1.index t 1 = t.val % 4)
    ∧ (win0_2.index t 0 = t.val % 4 ∧ win0_2.index t 1 = 0 ∧ win0_2.index t 2 = 0)
    ∧ (win0_3.index t 0 = t.val % 4 ∧ win0_3.index t 1 = 0 ∧ win0_3.index t 2 = 0)
    ∧ (win0_4.index t 0 = t.val / 4 ∧ win0_4.index t 1 = 0)
    ∧ (win0_5.index t 0 = t.val / 4 ∧ win0_5.index t 1 = 0) := by decide +kernel

/-- The gate cotangent's block at an index. -/
theorem block0 (c : Dev nD) (t : Fin cfg0.N) (y : S512x1408.Idx) (i : S2048x5632.Idx)
    (h0 : (i 0 : Nat) = 512 * (t.val / 4) + y 0) (h1 : (i 1 : Nat) = 1408 * (t.val % 4) + y 1) :
    (iblk m c 0 t : Vec Ideal S512x1408 .bf16) y = m ((c.tc : Thread nD τ).loc main_arg0) i := by
  obtain ⟨⟨e0, e1⟩, -⟩ := index_facts t
  unfold iblk
  rw [View.read_apply]
  show V m c main_arg0 _ = m ((c.tc : Thread nD τ).loc main_arg0) _
  unfold V
  congr 1
  funext a
  apply Fin.ext
  match a with
  | ⟨0, _⟩ => show win0_0.index t 0 * 512 + 1 * (y 0).val = (i 0).val; rw [e0, h0]; omega
  | ⟨1, _⟩ => show win0_0.index t 1 * 1408 + 1 * (y 1).val = (i 1).val; rw [e1, h1]; omega

/-- The up cotangent's block at an index. -/
theorem block1 (c : Dev nD) (t : Fin cfg0.N) (y : S512x1408.Idx) (i : S2048x5632.Idx)
    (h0 : (i 0 : Nat) = 512 * (t.val / 4) + y 0) (h1 : (i 1 : Nat) = 1408 * (t.val % 4) + y 1) :
    (iblk m c 1 t : Vec Ideal S512x1408 .bf16) y = m ((c.tc : Thread nD τ).loc main_arg1) i := by
  obtain ⟨-, ⟨e0, e1⟩, -⟩ := index_facts t
  unfold iblk
  rw [View.read_apply]
  show V m c main_arg1 _ = m ((c.tc : Thread nD τ).loc main_arg1) _
  unfold V
  congr 1
  funext a
  apply Fin.ext
  match a with
  | ⟨0, _⟩ => show win0_1.index t 0 * 512 + 1 * (y 0).val = (i 0).val; rw [e0, h0]; omega
  | ⟨1, _⟩ => show win0_1.index t 1 * 1408 + 1 * (y 1).val = (i 1).val; rw [e1, h1]; omega

/-- The gate weight's block at an index. -/
theorem block2 (c : Dev nD) (t : Fin cfg0.N) (y : S1x2048x1408.Idx) (i : S4x2048x1408.Idx)
    (h0 : (i 0 : Nat) = t.val % 4) (h1 : (i 1 : Nat) = y 1) (h2 : (i 2 : Nat) = y 2) :
    (iblk m c 2 t : Vec Ideal S1x2048x1408 .bf16) y = m ((c.tc : Thread nD τ).loc main_arg2) i := by
  obtain ⟨-, -, ⟨e0, e1, e2⟩, -⟩ := index_facts t
  have hy : (y 0 : Nat) < 1 := (y 0).isLt
  unfold iblk
  rw [View.read_apply]
  show V m c main_arg2 _ = m ((c.tc : Thread nD τ).loc main_arg2) _
  unfold V
  congr 1
  funext a
  apply Fin.ext
  match a with
  | ⟨0, _⟩ => show win0_2.index t 0 * 1 + 1 * (y 0).val = (i 0).val; rw [e0, h0]; omega
  | ⟨1, _⟩ => show win0_2.index t 1 * 2048 + 1 * (y 1).val = (i 1).val; rw [e1, h1]; omega
  | ⟨2, _⟩ => show win0_2.index t 2 * 1408 + 1 * (y 2).val = (i 2).val; rw [e2, h2]; omega

/-- The up weight's block at an index. -/
theorem block3 (c : Dev nD) (t : Fin cfg0.N) (y : S1x2048x1408.Idx) (i : S4x2048x1408.Idx)
    (h0 : (i 0 : Nat) = t.val % 4) (h1 : (i 1 : Nat) = y 1) (h2 : (i 2 : Nat) = y 2) :
    (iblk m c 3 t : Vec Ideal S1x2048x1408 .bf16) y = m ((c.tc : Thread nD τ).loc main_arg3) i := by
  obtain ⟨-, -, -, ⟨e0, e1, e2⟩, -⟩ := index_facts t
  have hy : (y 0 : Nat) < 1 := (y 0).isLt
  unfold iblk
  rw [View.read_apply]
  show V m c main_arg3 _ = m ((c.tc : Thread nD τ).loc main_arg3) _
  unfold V
  congr 1
  funext a
  apply Fin.ext
  match a with
  | ⟨0, _⟩ => show win0_3.index t 0 * 1 + 1 * (y 0).val = (i 0).val; rw [e0, h0]; omega
  | ⟨1, _⟩ => show win0_3.index t 1 * 2048 + 1 * (y 1).val = (i 1).val; rw [e1, h1]; omega
  | ⟨2, _⟩ => show win0_3.index t 2 * 1408 + 1 * (y 2).val = (i 2).val; rw [e2, h2]; omega

/-- The residual's block at an index. -/
theorem block4 (c : Dev nD) (t : Fin cfg0.N) (y : S512x2048.Idx) (i : S2048x2048.Idx)
    (h0 : (i 0 : Nat) = 512 * (t.val / 4) + y 0) (h1 : (i 1 : Nat) = y 1) :
    (iblk m c 4 t : Vec Ideal S512x2048 .f32) y = m ((c.tc : Thread nD τ).loc main_arg4) i := by
  obtain ⟨-, -, -, -, ⟨e0, e1⟩, -⟩ := index_facts t
  unfold iblk
  rw [View.read_apply]
  show V m c main_arg4 _ = m ((c.tc : Thread nD τ).loc main_arg4) _
  unfold V
  congr 1
  funext a
  apply Fin.ext
  match a with
  | ⟨0, _⟩ => show win0_4.index t 0 * 512 + 1 * (y 0).val = (i 0).val; rw [e0, h0]; omega
  | ⟨1, _⟩ => show win0_4.index t 1 * 2048 + 1 * (y 1).val = (i 1).val; rw [e1, h1]; omega

/-- The two products of the launched arrays. -/
abbrev backs (c : Dev nD) : S2048x2048.Idx → EReal := fun i =>
  back (m ((c.tc : Thread nD τ).loc main_arg0)) (m ((c.tc : Thread nD τ).loc main_arg2)) (i 0) (i 1)
    + back (m ((c.tc : Thread nD τ).loc main_arg1)) (m ((c.tc : Thread nD τ).loc main_arg3)) (i 0) (i 1)

/-- The gradient of the launched arrays. -/
abbrev dx (c : Dev nD) : S2048x2048.Idx → EReal := fun i => alpha * m ((c.tc : Thread nD τ).loc main_arg4) i + backs m c i

/-- After a row block's last point the running sum is the two products at the index where the block's entry lies. -/
theorem acc_last (c : Dev nD) (t : Fin cfg0.N) (ht : t.val % 4 = 3) (y : S512x2048.Idx) (i : S2048x2048.Idx)
    (h0 : (i 0 : Nat) = 512 * (t.val / 4) + y 0) (h1 : (i 1 : Nat) = y 1) : accAt m c y t.val t.isLt = backs m c i := by
  have hN : t.val < 16 := t.isLt
  have hy1 : (y 1 : Nat) < 2048 := (y 1).isLt
  have e1 : y 1 = i 1 := Fin.ext h1.symm
  rw [Cert.Blocks.run_sum cfg0.N (accAt m c y) (partAt m c y) (acc_reset m c y) (acc_step m c y) t.val t.isLt, ht]
  unfold backs back
  rw [← Finset.sum_add_distrib]
  refine Cert.Blocks.sum_blocks 5632 1408 rfl _ (fun j => partAt m c y (4 * (t.val / 4) + j)) fun j hj => ?_
  have hs : 4 * (t.val / 4) + j < cfg0.N := by show _ < 16; omega
  have hq : (4 * (t.val / 4) + j) / 4 = t.val / 4 := by omega
  have hr : (4 * (t.val / 4) + j) % 4 = j := by omega
  dsimp only
  unfold partAt
  rw [dif_pos hs]
  unfold part
  rw [← Finset.sum_add_distrib]
  refine Finset.sum_congr rfl fun k _ => ?_
  have hk : k.val < 1408 := k.isLt
  rw [block0 m c ⟨_, hs⟩ (ix2 (y 0) k) (ix2 (i 0) ⟨1408 * j + k.val, by omega⟩) (by show (i 0).val = 512 * ((4 * (t.val / 4) + j) / 4) + (y 0).val; rw [hq]; exact h0)
      (by show 1408 * j + k.val = 1408 * ((4 * (t.val / 4) + j) % 4) + k.val; rw [hr]),
    block1 m c ⟨_, hs⟩ (ix2 (y 0) k) (ix2 (i 0) ⟨1408 * j + k.val, by omega⟩) (by show (i 0).val = 512 * ((4 * (t.val / 4) + j) / 4) + (y 0).val; rw [hq]; exact h0)
      (by show 1408 * j + k.val = 1408 * ((4 * (t.val / 4) + j) % 4) + k.val; rw [hr]),
    block2 m c ⟨_, hs⟩ (ix3 0 (y 1) k) (ix3 ⟨(1408 * j + k.val) / 1408, by omega⟩ (i 1) ⟨(1408 * j + k.val) % 1408, by omega⟩)
      (by show (1408 * j + k.val) / 1408 = (4 * (t.val / 4) + j) % 4; omega) h1 (by show (1408 * j + k.val) % 1408 = k.val; omega),
    block3 m c ⟨_, hs⟩ (ix3 0 (y 1) k) (ix3 ⟨(1408 * j + k.val) / 1408, by omega⟩ (i 1) ⟨(1408 * j + k.val) % 1408, by omega⟩)
      (by show (1408 * j + k.val) / 1408 = (4 * (t.val / 4) + j) % 4; omega) h1 (by show (1408 * j + k.val) % 1408 = k.val; omega)]

/-- What a row block's last point writes back is its block of the gradient. -/
theorem flushed_eq (c : Dev nD) (t : Fin cfg0.N) (hf : (cfg0.win 5).flush t = true) :
    (dats m 0 c).flushed 5 t = ((cfg0.win 5).blk t).view.read (Elt Ideal) (dx m c) := by
  have ht : t.val % 4 = 3 := (flush0_5 t).mp hf
  obtain ⟨-, -, -, -, -, ⟨e0, e1⟩⟩ := index_facts t
  have hacc : (fun y => (accAt m c y t.val t.isLt : EReal)) = (outsAt0 m c t.val t.isLt).2 := rfl
  rw [outsAt0_C m c t (by omega) ht] at hacc
  dsimp only at hacc
  rw [sout_C] at hacc
  rw [Value.flushed5_C m c t (by omega) ht, out_C, ← hacc]
  funext y
  rw [View.read_apply]
  have h0 : (((cfg0.win 5).blk t).view.emb y 0 : Nat) = 512 * (t.val / 4) + (y 0).val := by
    show win0_5.index t 0 * 512 + 1 * (y 0).val = 512 * (t.val / 4) + (y 0).val; rw [e0]; omega
  have h1 : (((cfg0.win 5).blk t).view.emb y 1 : Nat) = (y 1).val := by
    show win0_5.index t 1 * 2048 + 1 * (y 1).val = (y 1).val; rw [e1]; omega
  refine (pay3_apply _ _ y).trans ?_
  rw [block4 m c t y _ h0 h1]
  dsimp only
  rw [acc_last m c t ht y _ h0 h1]
  rfl

theorem covered (i : S2048x2048.Idx) : ∃ t : Fin cfg0.N, (cfg0.win 5).flush t = true ∧ i ∈ ((cfg0.win 5).blk t).view.set :=
  (Value.covered_iff5 i).2 (by
    have h0 : (i 0).val < 2048 := (i 0).isLt; have h1 : (i 1).val < 2048 := (i 1).isLt; omega)

/-- The reference's product read at an index. -/
theorem ref_back (x : Vec Ideal S2048x5632 .bf16) (w : Vec Ideal S4x2048x1408 .bf16) (h : FTy.bits .bf16 < FTy.bits .f32)
    (ht : S4x2048x1408.Transposes [1, 0, 2] Cert.Reference5Ideal.S2048x4x1408)
    (hs : Cert.Reference5Ideal.S2048x4x1408.ShapeCasts S2048x5632) (i : S2048x2048.Idx) :
    Host.dotGeneral (F := Ideal) Cert.Reference5Ideal.dot_S2048x5632_S2048x5632_S2048x2048_1_1_0_0_n_n none (extf .f32 x h)
      (shapeCast S2048x5632 (transpose Cert.Reference5Ideal.S2048x4x1408 [1, 0, 2] (extf .f32 w h) ht) hs) i = back x w (i 0) (i 1) := by
  unfold back
  pointwise []

/-- A value times a factor plus two more in the reference's order and in the kernel's. -/
theorem add_eq (a d p q : EReal) : a * d + q + p = a * d + (p + q) := by rw [add_assoc, add_comm q p]

/-- The reference's sum read at an index. -/
theorem ref_dx (D0 D1 d : Vec Ideal S2048x2048 .f32) (hb : Cert.Reference5Ideal.S_.BroadcastsInDim S2048x2048 (![] : Fin 0 → Fin S2048x2048.rank))
    (i : S2048x2048.Idx) (b0 b1 : EReal) (h0 : D0 i = b0) (h1 : D1 i = b1) :
    addf (addf (mulf (broadcastInDim S2048x2048 ![] hb (Host.sqrt (Host.sqrt (constant (F := Ideal) Cert.Reference5Ideal.S_ .f32 0x41000000#32)))) d) D1) D0 i
      = alpha * d i + (b0 + b1) := by
  subst h0 h1
  refine Eq.trans ?_ (add_eq alpha (d i) (D0 i) (D1 i))
  rw [← host_alpha Cert.Reference5Ideal.S_ (fun a => a.elim0)]
  pointwise []

/-- The idealized kernel and the idealized reference leave the same gradient. -/
theorem value : Cert.algebraic_Kernel5Ideal_Reference5Ideal (hKernel5Ideal := Cert.Kernel5Ideal.Gen.facts)
    (hReference5Ideal := Cert.Reference5Ideal.Gen.facts) := by
  intro m g m' g' _ hargs
  refine ⟨fun c => dx m c, ?_, ?_⟩
  · exact (θ_run _ _ _).mono (fun r h c =>
      ⟨(h c).1.trans ((dats m 0 c).arrAt_eq_of_cover 5 (dx m c) (fun t hf => flushed_eq m c t hf) covered), (h c).2⟩) (Value.run_blocks m g)
  · refine (θ_run _ _ _).mono (fun r h c => ⟨(h c).1.trans ?_, (h c).2⟩) (Cert.Reference5Ideal.Value.run (F := Ideal) m' g')
    rw [(hargs c).1, (hargs c).2.1, (hargs c).2.2.1, (hargs c).2.2.2.1, (hargs c).2.2.2.2]
    funext i
    exact ref_dx _ _ _ _ i _ _ (ref_back _ _ _ _ _ i) (ref_back _ _ _ _ _ i)

end Cert.FfnDx

end
-- ==== Proof.FfnUp.lean ====
/- The gate's and the up projection of the feed-forward half, and their gated product. -/
module

public import proofs.«01_k».proof.Defs
public import proofs.«01_k».proof.Proof.Gen.Kernel6Ideal.Value
public import proofs.«01_k».proof.Proof.Gen.Reference6Ideal.Run
public import Idealize.ShloMosaic.Lib.Pipeline.Value
public import Idealize.ShloMosaic.Lib.Pointwise

@[expose] public section

set_option maxRecDepth 16384

noncomputable section

namespace Cert.FfnUp

open Idealize.ShloMosaic Idealize.ShloMosaic.TcCoe Idealize.SL.Sem
open Cert.Kernel6Ideal Cert.Kernel6Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The gated product of two values: the first times its logistic times the second. -/
def gated (h u : EReal) : EReal := h * Ideal.div 1 (1 + Ideal.exp (-h)) * u

/-- The projection of token `r` on column `q`, the weight in column blocks. -/
def proj (x : S2048x2048.Idx → EReal) (w : S4x2048x1408.Idx → EReal) (r : Fin 2048) (q : Fin 5632) : EReal :=
  ∑ k : Fin 2048, x (ix2 r k) * w (ix3 ⟨q.val / 1408, by omega⟩ k ⟨q.val % 1408, by omega⟩)

/-- The first product of the body at an index. -/
theorem out3_apply (x0 : Vec Ideal S512x2048 .bf16) (x1 x2 : Vec Ideal S1x2048x1408 .bf16) (y : S512x1408.Idx) :
    (out0_3 x0 x1 x2 y : EReal) = ∑ k : Fin 2048, (x0 (ix2 (y 0) k) : EReal) * x1 (ix3 0 k (y 1)) := by
  unfold out0_3
  rw [View.canon_unit_zero hz2, View.ld_unit_zero (S := S512x2048) hz2, View.ld_unit_zero (S := S1x2048x1408) hz3]
  pointwise [k0_pay1]

/-- The second product of the body at an index. -/
theorem out4_apply (x0 : Vec Ideal S512x2048 .bf16) (x1 x2 : Vec Ideal S1x2048x1408 .bf16) (y : S512x1408.Idx) :
    (out0_4 x0 x1 x2 y : EReal) = ∑ k : Fin 2048, (x0 (ix2 (y 0) k) : EReal) * x2 (ix3 0 k (y 1)) := by
  unfold out0_4
  rw [View.canon_unit_zero hz2, View.ld_unit_zero (S := S512x2048) hz2, View.ld_unit_zero (S := S1x2048x1408) hz3]
  pointwise [k0_pay2]

/-- The body's third result is the gated product of the two others. -/
theorem out5_apply (x0 : Vec Ideal S512x2048 .bf16) (x1 x2 : Vec Ideal S1x2048x1408 .bf16) (y : S512x1408.Idx) :
    (out0_5 x0 x1 x2 y : EReal) = gated (out0_3 x0 x1 x2 y) (out0_4 x0 x1 x2 y) := by
  unfold out0_3 out0_4 out0_5 gated
  rw [View.canon_unit_zero hz2, View.canon_unit_zero hz2, View.canon_unit_zero hz2, View.ld_unit_zero (S := S512x2048) hz2,
    View.ld_unit_zero (S := S1x2048x1408) hz3, View.ld_unit_zero (S := S1x2048x1408) hz3]
  pointwise [k0_pay1, k0_pay2, k0_pay3]
  simp only [zero_sub]

/-- Where the blocks of grid point `t` lie: point `t` computes column block `t / 4` of the tokens from `512 (t % 4)`. -/
theorem index_facts : ∀ t : Fin grid0.N, win0_0.index t 0 = t.val % 4 ∧ win0_0.index t 1 = 0
    ∧ win0_1.index t 0 = t.val / 4 ∧ win0_1.index t 1 = 0 ∧ win0_1.index t 2 = 0
    ∧ win0_2.index t 0 = t.val / 4 ∧ win0_2.index t 1 = 0 ∧ win0_2.index t 2 = 0 := by decide +kernel

/-- The three results' blocks lie at the same place. -/
theorem index_out : ∀ t : Fin grid0.N, (win0_3.index t 0 = t.val % 4 ∧ win0_3.index t 1 = t.val / 4)
    ∧ (win0_4.index t 0 = t.val % 4 ∧ win0_4.index t 1 = t.val / 4)
    ∧ (win0_5.index t 0 = t.val % 4 ∧ win0_5.index t 1 = t.val / 4) := by decide +kernel

/-- The tokens' block at an index. -/
theorem x_block (c : Dev nD) (t : Fin cfg0.N) (y : S512x2048.Idx) (i : S2048x2048.Idx)
    (h0 : (i 0 : Nat) = 512 * (t.val % 4) + y 0) (h1 : (i 1 : Nat) = y 1) :
    (iblk m c 0 t : Vec Ideal S512x2048 .bf16) y = m ((c.tc : Thread nD τ).loc main_arg0) i := by
  obtain ⟨e0, e1, -⟩ := index_facts t
  unfold iblk
  rw [View.read_apply]
  show V m c main_arg0 _ = m ((c.tc : Thread nD τ).loc main_arg0) _
  unfold V
  congr 1
  funext a
  apply Fin.ext
  match a with
  | ⟨0, _⟩ => show win0_0.index t 0 * 512 + 1 * (y 0).val = (i 0).val; rw [e0, h0]; omega
  | ⟨1, _⟩ => show win0_0.index t 1 * 2048 + 1 * (y 1).val = (i 1).val; rw [e1, h1]; omega

/-- The gate's block at an index. -/
theorem wg_block (c : Dev nD) (t : Fin cfg0.N) (y : S1x2048x1408.Idx) (i : S4x2048x1408.Idx)
    (h0 : (i 0 : Nat) = t.val / 4) (h1 : (i 1 : Nat) = y 1) (h2 : (i 2 : Nat) = y 2) :
    (iblk m c 1 t : Vec Ideal S1x2048x1408 .bf16) y = m ((c.tc : Thread nD τ).loc main_arg1) i := by
  obtain ⟨-, -, e0, e1, e2, -⟩ := index_facts t
  have hy : (y 0 : Nat) < 1 := (y 0).isLt
  unfold iblk
  rw [View.read_apply]
  show V m c main_arg1 _ = m ((c.tc : Thread nD τ).loc main_arg1) _
  unfold V
  congr 1
  funext a
  apply Fin.ext
  match a with
  | ⟨0, _⟩ => show win0_1.index t 0 * 1 + 1 * (y 0).val = (i 0).val; rw [e0, h0]; omega
  | ⟨1, _⟩ => show win0_1.index t 1 * 2048 + 1 * (y 1).val = (i 1).val; rw [e1, h1]; omega
  | ⟨2, _⟩ => show win0_1.index t 2 * 1408 + 1 * (y 2).val = (i 2).val; rw [e2, h2]; omega

/-- The up projection's block at an index. -/
theorem wu_block (c : Dev nD) (t : Fin cfg0.N) (y : S1x2048x1408.Idx) (i : S4x2048x1408.Idx)
    (h0 : (i 0 : Nat) = t.val / 4) (h1 : (i 1 : Nat) = y 1) (h2 : (i 2 : Nat) = y 2) :
    (iblk m c 2 t : Vec Ideal S1x2048x1408 .bf16) y = m ((c.tc : Thread nD τ).loc main_arg2) i := by
  obtain ⟨-, -, -, -, -, e0, e1, e2⟩ := index_facts t
  have hy : (y 0 : Nat) < 1 := (y 0).isLt
  unfold iblk
  rw [View.read_apply]
  show V m c main_arg2 _ = m ((c.tc : Thread nD τ).loc main_arg2) _
  unfold V
  congr 1
  funext a
  apply Fin.ext
  match a with
  | ⟨0, _⟩ => show win0_2.index t 0 * 1 + 1 * (y 0).val = (i 0).val; rw [e0, h0]; omega
  | ⟨1, _⟩ => show win0_2.index t 1 * 2048 + 1 * (y 1).val = (i 1).val; rw [e1, h1]; omega
  | ⟨2, _⟩ => show win0_2.index t 2 * 1408 + 1 * (y 2).val = (i 2).val; rw [e2, h2]; omega

/-- The gate's projection of the launched arrays. -/
abbrev hg (c : Dev nD) : S2048x5632.Idx → EReal := fun i =>
  proj (m ((c.tc : Thread nD τ).loc main_arg0)) (m ((c.tc : Thread nD τ).loc main_arg1)) (i 0) (i 1)
/-- The up projection of the launched arrays. -/
abbrev hu (c : Dev nD) : S2048x5632.Idx → EReal := fun i =>
  proj (m ((c.tc : Thread nD τ).loc main_arg0)) (m ((c.tc : Thread nD τ).loc main_arg2)) (i 0) (i 1)

/-- The body's first result at point `t` is the gate's projection at the index where the block's entry lies. -/
theorem out3_at (c : Dev nD) (t : Fin cfg0.N) (y : S512x1408.Idx) (i : S2048x5632.Idx)
    (h0 : (i 0 : Nat) = 512 * (t.val % 4) + y 0) (h1 : (i 1 : Nat) = 1408 * (t.val / 4) + y 1) :
    (out0_3 (iblk m c 0 t) (iblk m c 1 t) (iblk m c 2 t) y : EReal) = hg m c i := by
  rw [out3_apply]
  unfold hg proj
  have hy1 : (y 1 : Nat) < 1408 := (y 1).isLt
  have hN : t.val < 16 := t.isLt
  refine Finset.sum_congr rfl fun k _ => ?_
  rw [x_block m c t (ix2 (y 0) k) (ix2 (i 0) k) h0 rfl,
    wg_block m c t (ix3 0 k (y 1)) (ix3 ⟨(i 1).val / 1408, by omega⟩ k ⟨(i 1).val % 1408, by omega⟩)
      (by show (i 1).val / 1408 = _; omega) rfl (by show (i 1).val % 1408 = (y 1).val; omega)]

/-- The body's second result likewise. -/
theorem out4_at (c : Dev nD) (t : Fin cfg0.N) (y : S512x1408.Idx) (i : S2048x5632.Idx)
    (h0 : (i 0 : Nat) = 512 * (t.val % 4) + y 0) (h1 : (i 1 : Nat) = 1408 * (t.val / 4) + y 1) :
    (out0_4 (iblk m c 0 t) (iblk m c 1 t) (iblk m c 2 t) y : EReal) = hu m c i := by
  rw [out4_apply]
  unfold hu proj
  have hy1 : (y 1 : Nat) < 1408 := (y 1).isLt
  have hN : t.val < 16 := t.isLt
  refine Finset.sum_congr rfl fun k _ => ?_
  rw [x_block m c t (ix2 (y 0) k) (ix2 (i 0) k) h0 rfl,
    wu_block m c t (ix3 0 k (y 1)) (ix3 ⟨(i 1).val / 1408, by omega⟩ k ⟨(i 1).val % 1408, by omega⟩)
      (by show (i 1).val / 1408 = _; omega) rfl (by show (i 1).val % 1408 = (y 1).val; omega)]

/-- The gated product of the launched arrays. -/
abbrev act (c : Dev nD) : S2048x5632.Idx → EReal := fun i => gated (hg m c i) (hu m c i)

/-- Point `t` writes back block `t` of the gate's projection, -/
theorem flushed3_eq (c : Dev nD) (t : Fin cfg0.N) :
    (dats m 0 c).flushed 3 t = ((cfg0.win 3).blk t).view.read (Elt Ideal) (hg m c) := by
  obtain ⟨⟨e0, e1⟩, -, -⟩ := index_out t
  rw [Value.flushed3]
  funext y
  rw [View.read_apply]
  exact out3_at m c t y (((cfg0.win 3).blk t).view.emb y)
    (by show win0_3.index t 0 * 512 + 1 * (y 0).val = 512 * (t.val % 4) + (y 0).val; rw [e0]; omega)
    (by show win0_3.index t 1 * 1408 + 1 * (y 1).val = 1408 * (t.val / 4) + (y 1).val; rw [e1]; omega)

/-- of the up projection, -/
theorem flushed4_eq (c : Dev nD) (t : Fin cfg0.N) :
    (dats m 0 c).flushed 4 t = ((cfg0.win 4).blk t).view.read (Elt Ideal) (hu m c) := by
  obtain ⟨-, ⟨e0, e1⟩, -⟩ := index_out t
  rw [Value.flushed4]
  funext y
  rw [View.read_apply]
  exact out4_at m c t y (((cfg0.win 4).blk t).view.emb y)
    (by show win0_4.index t 0 * 512 + 1 * (y 0).val = 512 * (t.val % 4) + (y 0).val; rw [e0]; omega)
    (by show win0_4.index t 1 * 1408 + 1 * (y 1).val = 1408 * (t.val / 4) + (y 1).val; rw [e1]; omega)

/-- and of their gated product. -/
theorem flushed5_eq (c : Dev nD) (t : Fin cfg0.N) :
    (dats m 0 c).flushed 5 t = ((cfg0.win 5).blk t).view.read (Elt Ideal) (act m c) := by
  obtain ⟨-, -, ⟨e0, e1⟩⟩ := index_out t
  rw [Value.flushed5]
  funext y
  rw [View.read_apply]
  have h0 : (((cfg0.win 5).blk t).view.emb y 0 : Nat) = 512 * (t.val % 4) + (y 0).val := by
    show win0_5.index t 0 * 512 + 1 * (y 0).val = 512 * (t.val % 4) + (y 0).val; rw [e0]; omega
  have h1 : (((cfg0.win 5).blk t).view.emb y 1 : Nat) = 1408 * (t.val / 4) + (y 1).val := by
    show win0_5.index t 1 * 1408 + 1 * (y 1).val = 1408 * (t.val / 4) + (y 1).val; rw [e1]; omega
  show (out0_5 (iblk m c 0 t) (iblk m c 1 t) (iblk m c 2 t) y : EReal) = gated (hg m c (((cfg0.win 5).blk t).view.emb y)) (hu m c (((cfg0.win 5).blk t).view.emb y))
  rw [← out3_at m c t y _ h0 h1, ← out4_at m c t y _ h0 h1]
  exact out5_apply _ _ _ y

/-- Some grid point's blocks hold the index `(r, q)`. -/
theorem point_of (r q : Nat) (hr : r < 2048) (hq : q < 5632) : ∃ t : Fin cfg0.N, t.val % 4 = r / 512 ∧ t.val / 4 = q / 1408 := by
  have hN : cfg0.N = 16 := N_0
  exact ⟨⟨4 * (q / 1408) + r / 512, by omega⟩, by dsimp only; omega, by dsimp only; omega⟩

/-- Every index of the gate's projection lies in some point's block, -/
theorem covered3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2048 := (i 0).isLt
  have h1 : (i 1 : Nat) < 5632 := (i 1).isLt
  obtain ⟨t, t0, t1⟩ := point_of (i 0).val (i 1).val h0 h1
  obtain ⟨⟨e0, e1⟩, -, -⟩ := index_out t
  refine ⟨t, flush0_3 t, ?_⟩
  show i ∈ ((View.whole main_v0_0).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512
              rw [e0]; omega
  | ⟨1, _⟩ => show win0_3.index t 1 * 1408 ≤ (i 1 : Nat) ∧ (i 1 : Nat) < win0_3.index t 1 * 1408 + 1408
              rw [e1]; omega

/-- of the up projection, -/
theorem covered4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2048 := (i 0).isLt
  have h1 : (i 1 : Nat) < 5632 := (i 1).isLt
  obtain ⟨t, t0, t1⟩ := point_of (i 0).val (i 1).val h0 h1
  obtain ⟨-, ⟨e0, e1⟩, -⟩ := index_out t
  refine ⟨t, flush0_4 t, ?_⟩
  show i ∈ ((View.whole main_v0_1).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [e0]; omega
  | ⟨1, _⟩ => show win0_4.index t 1 * 1408 ≤ (i 1 : Nat) ∧ (i 1 : Nat) < win0_4.index t 1 * 1408 + 1408
              rw [e1]; omega

/-- and of their gated product. -/
theorem covered5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2048 := (i 0).isLt
  have h1 : (i 1 : Nat) < 5632 := (i 1).isLt
  obtain ⟨t, t0, t1⟩ := point_of (i 0).val (i 1).val h0 h1
  obtain ⟨-, -, ⟨e0, e1⟩⟩ := index_out t
  refine ⟨t, flush0_5 t, ?_⟩
  show i ∈ ((View.whole main_v0_2).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512
              rw [e0]; omega
  | ⟨1, _⟩ => show win0_5.index t 1 * 1408 ≤ (i 1 : Nat) ∧ (i 1 : Nat) < win0_5.index t 1 * 1408 + 1408
              rw [e1]; omega

/-- The idealized kernel and the idealized reference leave the same projections and gated product. -/
theorem value : Cert.algebraic_Kernel6Ideal_Reference6Ideal (hKernel6Ideal := Cert.Kernel6Ideal.Gen.facts)
    (hReference6Ideal := Cert.Reference6Ideal.Gen.facts) := by
  intro m g m' g' _ hargs
  refine ⟨fun c => hg m c, fun c => hu m c, fun c => act m c, ?_, ?_⟩
  · exact (θ_run _ _ _).mono (fun r h c =>
      ⟨(h c).1.trans ((dats m 0 c).arrAt_eq_of_cover 3 (hg m c) (fun t _ => flushed3_eq m c t) (covered3 c)),
       (h c).2.1.trans ((dats m 0 c).arrAt_eq_of_cover 4 (hu m c) (fun t _ => flushed4_eq m c t) (covered4 c)),
       (h c).2.2.1.trans ((dats m 0 c).arrAt_eq_of_cover 5 (act m c) (fun t _ => flushed5_eq m c t) (covered5 c)),
       (h c).2.2.2⟩) (Value.run_blocks m g)
  · refine (θ_run _ _ _).mono (fun r h c => ⟨(h c).1.trans ?_, (h c).2.1.trans ?_, (h c).2.2.1.trans ?_, (h c).2.2.2⟩)
      (Cert.Reference6Ideal.Value.run (F := Ideal) m' g')
    · rw [(hargs c).1, (hargs c).2.1]
      funext i
      unfold hg proj
      pointwise []
    · rw [(hargs c).1, (hargs c).2.2]
      funext i
      unfold hu proj
      pointwise []
    · rw [(hargs c).1, (hargs c).2.1, (hargs c).2.2]
      funext i
      unfold act gated hg hu proj
      pointwise []

end Cert.FfnUp

end
-- ==== Proof.Norm.lean ====
/- The layer norm of a row of 2048 entries, as the kernels compute it on a block of 512 rows and as the references compute it
on the whole array. -/
module

public import Idealize.ShloMosaic.Lib.Pointwise
public import proofs.«01_k».proof.Proof.Consts

@[expose] public section

set_option maxRecDepth 16384

noncomputable section

namespace Cert.Norm

open Idealize.ShloMosaic
open Cert.Consts

/-- The mean of a row. -/
def mean (f : Fin 2048 → EReal) : EReal := Ideal.div (∑ k, f k) (Ideal.ofBits .f32 0x45000000#32)

/-- A row's entry with the row's mean taken off. -/
def cen (f : Fin 2048 → EReal) (q : Fin 2048) : EReal := f q - mean f

/-- The reciprocal root of a centred row's mean square and the addend. -/
def rs (f : Fin 2048 → EReal) : EReal := Ideal.rsqrt (mean (fun k => f k * f k) + eps)

/-- The reciprocal deviation of a row, -/
def rstd (f : Fin 2048 → EReal) : EReal := rs (cen f)

/-- the row normalised, -/
def xhat (f : Fin 2048 → EReal) (q : Fin 2048) : EReal := cen f q * rstd f

/-- and scaled and shifted. -/
def ln (f g b : Fin 2048 → EReal) (q : Fin 2048) : EReal := xhat f q * g q + b q

abbrev K : Shape := ⟨2, ![512, 2048]⟩
abbrev K1 : Shape := ⟨2, ![512, 1]⟩
abbrev K0 : Shape := ⟨1, ![512]⟩
abbrev KL : Shape := ⟨2, ![512, 128]⟩
abbrev R : Shape := ⟨2, ![2048, 2048]⟩
abbrev R1 : Shape := ⟨2, ![2048, 1]⟩
abbrev R0 : Shape := ⟨1, ![2048]⟩
abbrev RL : Shape := ⟨2, ![2048, 128]⟩
abbrev G : Shape := ⟨2, ![1, 2048]⟩
abbrev U : Shape := ⟨0, ![]⟩

section Kernel
variable (x : FVec Ideal K .f32) (hr : K.Reduces [1] K0) (hs : K0.ShapeCasts K1) (hb : K1.Broadcasts K)

/-- The block's centred rows. -/
def kcen : FVec Ideal K .f32 :=
  subf x (broadcastTo K (divf (shapeCast K1 (multiReduction .add [1] K0 x 0x00000000#32 hr (.inl rfl) rfl) hs)
    (broadcast K1 (Scalar.ofBits .f32 0x45000000#32))) hb)

theorem kcen_apply (y : K.Idx) : (kcen x hr hs hb y : EReal) = cen (fun q => x (ix2 (y 0) q)) (y 1) := by
  unfold cen mean
  pointwise [kcen]

/-- The block's reciprocal roots, of its centred rows. -/
def krs (e : Ideal .f32) : FVec Ideal K1 .f32 :=
  rsqrt (addf (divf (shapeCast K1 (multiReduction .add [1] K0 (mulf x x) 0x00000000#32 hr (.inl rfl) rfl) hs)
    (broadcast K1 (Scalar.ofBits .f32 0x45000000#32))) (broadcast K1 e))

theorem krs_apply (e : Ideal .f32) (he : (e : EReal) = eps) (y : K1.Idx) : (krs x hr hs e y : EReal) = rs (fun q => x (ix2 (y 0) q)) := by
  unfold rs mean
  rw [← he]
  pointwise [krs]

variable (e : Ideal .f32) (g b : FVec Ideal G .f32) (hl : K1.Broadcasts KL) (h1 : K1.ShapeCasts K1) (hg : G.Broadcasts K)

/-- The block's normalised rows, -/
def kxhat : FVec Ideal K .f32 := mulf (kcen x hr hs hb) (broadcastTo K (krs (kcen x hr hs hb) hr hs e) hb)

/-- scaled and shifted, -/
def kln : FVec Ideal K .f32 := addf (mulf (kxhat x hr hs hb e) (broadcastTo K g hg)) (broadcastTo K b hg)

/-- and their reciprocal deviations over the lanes. -/
def krstd : FVec Ideal KL .f32 := broadcastTo KL (shapeCast K1 (krs (kcen x hr hs hb) hr hs e) h1) hl

theorem kcen_row (p : Fin 512) : (fun q => (kcen x hr hs hb (ix2 p q) : EReal)) = cen (fun q => x (ix2 p q)) :=
  funext fun q => kcen_apply x hr hs hb (ix2 p q)

theorem krs_row (he : (e : EReal) = eps) (p : Fin 512) :
    (krs (kcen x hr hs hb) hr hs e (ix2 p 0) : EReal) = rstd (fun q => x (ix2 p q)) :=
  (krs_apply (kcen x hr hs hb) hr hs e he (ix2 p 0)).trans (congrArg rs (kcen_row x hr hs hb p))

theorem kxhat_apply (he : (e : EReal) = eps) (y : K.Idx) : (kxhat x hr hs hb e y : EReal) = xhat (fun q => x (ix2 (y 0) q)) (y 1) := by
  unfold xhat
  rw [← kcen_apply x hr hs hb y, ← krs_row x hr hs hb e he (y 0)]
  unfold kxhat
  generalize kcen x hr hs hb = X
  generalize krs X hr hs e = Y
  pointwise []

theorem kln_apply (he : (e : EReal) = eps) (y : K.Idx) :
    (kln x hr hs hb e g b hg y : EReal) = ln (fun q => x (ix2 (y 0) q)) (fun q => g (ix2 0 q)) (fun q => b (ix2 0 q)) (y 1) := by
  unfold ln
  rw [← kxhat_apply x hr hs hb e he y]
  unfold kln
  generalize kxhat x hr hs hb e = X
  pointwise []

theorem krstd_apply (he : (e : EReal) = eps) (y : KL.Idx) : (krstd x hr hs hb e hl h1 y : EReal) = rstd (fun q => x (ix2 (y 0) q)) := by
  rw [← krs_row x hr hs hb e he (y 0)]
  unfold krstd
  generalize krs (kcen x hr hs hb) hr hs e = Y
  pointwise []

end Kernel

section Host
variable (x : FVec Ideal R .f32) (hr : R.ReducesTo [1] R0) (hu : 0 < U.numel) (h0 : R0.BroadcastsInDim R1 (![0] : Fin 1 → Fin R1.rank))
  (hc : U.BroadcastsInDim R1 (![] : Fin 0 → Fin R1.rank)) (hb : R1.BroadcastsInDim R (![0, 1] : Fin 2 → Fin R.rank))

/-- The array's centred rows. -/
def hcen : FVec Ideal R .f32 :=
  subf x (broadcastInDim R ![0, 1] hb (Host.divf (broadcastInDim R1 ![0] h0 (Host.reduceAdd x (constant U .f32 0x00000000#32) hr hu))
    (broadcastInDim R1 ![] hc (constant U .f32 0x45000000#32))))

theorem hcen_apply (y : R.Idx) : (hcen x hr hu h0 hc hb y : EReal) = cen (fun q => x (ix2 (y 0) q)) (y 1) := by
  unfold cen mean
  pointwise [hcen]

/-- The array's reciprocal roots, of its centred rows. -/
def hrs (e : FVec Ideal U .f32) : FVec Ideal R1 .f32 :=
  Host.rsqrt (addf (Host.divf (broadcastInDim R1 ![0] h0 (Host.reduceAdd (mulf x x) (constant U .f32 0x00000000#32) hr hu))
    (broadcastInDim R1 ![] hc (constant U .f32 0x45000000#32))) (broadcastInDim R1 ![] hc e))

theorem hrs_apply (e : FVec Ideal U .f32) (he : ∀ i, (e i : EReal) = eps) (y : R1.Idx) :
    (hrs x hr hu h0 hc e y : EReal) = rs (fun q => x (ix2 (y 0) q)) := by
  unfold rs mean
  rw [← he ix0]
  pointwise [hrs]

variable (e : FVec Ideal U .f32) (g b : FVec Ideal G .f32) (hl : R1.BroadcastsInDim RL (![0, 1] : Fin 2 → Fin RL.rank))
  (hg : G.BroadcastsInDim R (![0, 1] : Fin 2 → Fin R.rank))

/-- The array's normalised rows, -/
def hxhat : FVec Ideal R .f32 :=
  mulf (hcen x hr hu h0 hc hb) (broadcastInDim R ![0, 1] hb (hrs (hcen x hr hu h0 hc hb) hr hu h0 hc e))

/-- scaled and shifted, -/
def hln : FVec Ideal R .f32 := addf (mulf (hxhat x hr hu h0 hc hb e) (broadcastInDim R ![0, 1] hg g)) (broadcastInDim R ![0, 1] hg b)

/-- and their reciprocal deviations over the lanes. -/
def hrstd : FVec Ideal RL .f32 := broadcastInDim RL ![0, 1] hl (hrs (hcen x hr hu h0 hc hb) hr hu h0 hc e)

theorem hcen_row (p : Fin 2048) : (fun q => (hcen x hr hu h0 hc hb (ix2 p q) : EReal)) = cen (fun q => x (ix2 p q)) :=
  funext fun q => hcen_apply x hr hu h0 hc hb (ix2 p q)

theorem hrs_row (he : ∀ i, (e i : EReal) = eps) (p : Fin 2048) :
    (hrs (hcen x hr hu h0 hc hb) hr hu h0 hc e (ix2 p 0) : EReal) = rstd (fun q => x (ix2 p q)) :=
  (hrs_apply (hcen x hr hu h0 hc hb) hr hu h0 hc e he (ix2 p 0)).trans (congrArg rs (hcen_row x hr hu h0 hc hb p))

theorem hxhat_apply (he : ∀ i, (e i : EReal) = eps) (y : R.Idx) :
    (hxhat x hr hu h0 hc hb e y : EReal) = xhat (fun q => x (ix2 (y 0) q)) (y 1) := by
  unfold xhat
  rw [← hcen_apply x hr hu h0 hc hb y, ← hrs_row x hr hu h0 hc hb e he (y 0)]
  unfold hxhat
  generalize hcen x hr hu h0 hc hb = X
  generalize hrs X hr hu h0 hc e = Y
  pointwise []

theorem hln_apply (he : ∀ i, (e i : EReal) = eps) (y : R.Idx) :
    (hln x hr hu h0 hc hb e g b hg y : EReal) = ln (fun q => x (ix2 (y 0) q)) (fun q => g (ix2 0 q)) (fun q => b (ix2 0 q)) (y 1) := by
  unfold ln
  rw [← hxhat_apply x hr hu h0 hc hb e he y]
  unfold hln
  generalize hxhat x hr hu h0 hc hb e = X
  pointwise []

theorem hrstd_apply (he : ∀ i, (e i : EReal) = eps) (y : RL.Idx) :
    (hrstd x hr hu h0 hc hb e hl y : EReal) = rstd (fun q => x (ix2 (y 0) q)) := by
  rw [← hrs_row x hr hu h0 hc hb e he (y 0)]
  unfold hrstd
  generalize hrs (hcen x hr hu h0 hc hb) hr hu h0 hc e = Y
  pointwise []

end Host

end Cert.Norm

end
-- ==== Proof.FfnDown.lean ====
/- The feed-forward half's second product, the residual and the layer norm. -/
module

public import proofs.«01_k».proof.Defs
public import proofs.«01_k».proof.Proof.Gen.Kernel7Ideal.Value
public import proofs.«01_k».proof.Proof.Gen.Reference7Ideal.Run
public import proofs.«01_k».proof.Proof.Blocks
public import proofs.«01_k».proof.Proof.Norm
public import Idealize.ShloMosaic.Lib.Pipeline.Value

@[expose] public section

set_option maxRecDepth 16384

noncomputable section

namespace Cert.FfnDown

open Idealize.ShloMosaic Idealize.ShloMosaic.TcCoe Idealize.SL.Sem
open Cert.Kernel7Ideal Cert.Kernel7Ideal.Gen
open Cert.Consts Cert.Blocks Cert.Norm

variable (m : (ℓ : Loc nD τ sig) → Buf (Elt Ideal) ℓ)

/-- The kernel's named constants. -/
theorem named_alpha : Named.named (F := Ideal) κ "alpha" (φ := .f32) 0x3FD744FD#32 = alpha :=
  IdealRules.named_const.ideal_named_scalar _ _ _ _ rfl
theorem named_eps : (Named.named (F := Ideal) κ "eps" (φ := .f32) 0x3727C5AC#32 : EReal) = eps :=
  IdealRules.named_const.ideal_named_scalar _ _ _ _ rfl

/-- The product with a weight in row blocks. -/
def prod (x : S2048x5632.Idx → EReal) (w : S4x1408x2048.Idx → EReal) (r q : Fin 2048) : EReal :=
  ∑ k : Fin 5632, x (ix2 r k) * w (ix3 ⟨k.val / 1408, by omega⟩ ⟨k.val % 1408, by omega⟩ q)

/-- The product of one block of the inner width at an index. -/
def part (x0 : Vec Ideal S512x1408 .bf16) (x1 : Vec Ideal S1x1408x2048 .bf16) (y : S512x2048.Idx) : EReal :=
  ∑ k : Fin 1408, (x0 (ix2 (y 0) k) : EReal) * x1 (ix3 0 k (y 1))

/-- The update of the running sum at an index. -/
theorem pay2_apply (x0 : Vec Ideal S512x1408 .bf16) (x1 : Vec Ideal S1x1408x2048 .bf16) (a : Vec Ideal S512x2048 .f32) (y : S512x2048.Idx) :
    (k0_pay2 x0 x1 a y : EReal) = (a y : EReal) + part x0 x1 y := by
  unfold part
  pointwise [k0_pay2]

theorem pay1_apply (y : S512x2048.Idx) : (k0_pay1 (F := Ideal) y : EReal) = 0 := by pointwise [k0_pay1]

/-- The residual's sum of one entry. -/
def res (x a : EReal) : EReal := alpha * x + Ideal.ofBits .f32 0x3F000000#32 * a

/-- The block's rows before the norm, as the kernel computes them, -/
def rows (a x : Vec Ideal S512x2048 .f32) : FVec Ideal S512x2048 .f32 :=
  addf (mulf (broadcast S512x2048 (Named.named κ "alpha" 0x3FD744FD#32)) x) (mulf (broadcast S512x2048 (Scalar.ofBits .f32 0x3F000000#32)) a)

/-- and read at an index. -/
theorem rows_apply (a x : Vec Ideal S512x2048 .f32) (y : S512x2048.Idx) : (rows a x y : EReal) = res (x y) (a y) := by
  unfold rows res
  rw [named_alpha]
  pointwise []

theorem rows_row (a x : Vec Ideal S512x2048 .f32) (p : Fin 512) :
    (fun q => (rows a x (ix2 p q) : EReal)) = fun q => res (x (ix2 p q)) (a (ix2 p q)) :=
  funext fun q => rows_apply a x (ix2 p q)

/-- The four results of the running sum, the residual, the gain and the shift at an index. -/
theorem pay6_apply (a x : Vec Ideal S512x2048 .f32) (g b : Vec Ideal S1x2048 .f32) (y : S512x2048.Idx) :
    (k0_pay6 a x g b y : EReal)
      = ln (fun q => res (x (ix2 (y 0) q)) (a (ix2 (y 0) q))) (fun q => g (ix2 0 q)) (fun q => b (ix2 0 q)) (y 1) :=
  (kln_apply (rows a x) reduces_S512x2048_S512 shapeCasts_S512_S512x1 broadcasts_S512x1_S512x2048 _ g b
    broadcasts_S1x2048_S512x2048 named_eps y).trans (congrArg (fun f => ln f _ _ (y 1)) (rows_row a x (y 0)))

theorem pay5_apply (a x : Vec Ideal S512x2048 .f32) (y : S512x2048.Idx) :
    (k0_pay5 a x y : EReal) = xhat (fun q => res (x (ix2 (y 0) q)) (a (ix2 (y 0) q))) (y 1) :=
  (kxhat_apply (rows a x) reduces_S512x2048_S512 shapeCasts_S512_S512x1 broadcasts_S512x1_S512x2048 _ named_eps y).trans
    (congrArg (fun f => xhat f (y 1)) (rows_row a x (y 0)))

theorem pay7_apply (a x : Vec Ideal S512x2048 .f32) (y : S512x128.Idx) :
    (k0_pay7 a x y : EReal) = rstd (fun q => res (x (ix2 (y 0) q)) (a (ix2 (y 0) q))) :=
  (krstd_apply (rows a x) reduces_S512x2048_S512 shapeCasts_S512_S512x1 broadcasts_S512x1_S512x2048 _
    broadcasts_S512x1_S512x128 shapeCasts_S512x1_S512x1 named_eps y).trans (congrArg rstd (rows_row a x (y 0)))

section Cases
variable (c : Dev nD) (i : grid0.Coords) (arg2 : Memref sig .tc .vmem S512x1408 .bf16) (harg2 : arg2.IsWhole)
  (arg3 : Memref sig .tc .vmem S1x1408x2048 .bf16) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S512x2048 .f32) (harg7 : arg7.IsWhole) (arg8 : Memref sig .tc .vmem S512x2048 .bf16) (harg8 : arg8.IsWhole)
  (arg9 : Memref sig .tc .vmem S512x2048 .f32) (harg9 : arg9.IsWhole) (arg10 : Memref sig .tc .vmem S512x128 .f32) (harg10 : arg10.IsWhole)
  (arg11 : Memref sig .tc .vmem S512x2048 .f32) (harg11 : arg11.IsWhole)
  (x0 : Vec Ideal S512x1408 .bf16) (x1 : Vec Ideal S1x1408x2048 .bf16) (x2 : Vec Ideal S512x2048 .f32) (x3 x4 : Vec Ideal S1x2048 .f32)
  (xs0 : Vec Ideal S512x2048 .f32)

/-- The first point of a row block starts the sum from zero, -/
theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4
      = k0_pay2 x0 x1 (k0_pay1 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S512x2048) hz2, View.readCov_unit_zero (S := S512x2048) _ hz2]
  simp only [View.readAt_eq_ld, harg2.read_unread, harg3.read_unread,
    View.ld_unit_zero (S := S512x1408) hz2, View.ld_unit_zero (S := S1x1408x2048) hz3]

/-- the points between add their product to it, -/
theorem sout_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 xs0
      = k0_pay2 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0)]
  unfold kernelRun0_B
  dsimp only
  rw [View.canon_unit_zero hz2]
  simp only [View.readAt_eq_ld, harg2.read_unread, harg3.read_unread, harg11.read_unread,
    View.ld_unit_zero (S := S512x1408) hz2, View.ld_unit_zero (S := S1x1408x2048) hz3, View.ld_unit_zero (S := S512x2048) hz2]

/-- and so does the last, -/
theorem sout_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 xs0
      = k0_pay2 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2]
  simp only [View.readAt_eq_ld, harg2.read_unread, harg3.read_unread, harg11.read_unread,
    View.ld_unit_zero (S := S512x1408) hz2, View.ld_unit_zero (S := S1x1408x2048) hz3, View.ld_unit_zero (S := S512x2048) hz2]

/-- which writes the four results from the whole sum. -/
theorem out_C_5 (hc0 : ¬cond0_0 i) (hc1 : cond0_1 i) :
    out0_C_5 c i arg2 harg2 arg3 harg3 arg4 harg4 arg5 harg5 arg6 harg6 arg7 harg7 arg8 harg8 arg9 harg9 arg10 harg10 arg11 harg11 hc0 hc1 x0 x1 x2 x3 x4 xs0
      = k0_pay6 (k0_pay2 x0 x1 xs0) x2 x3 x4 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg5.read_unread, harg6.read_unread, harg11.read_unread,
    View.ld_unit_zero (S := S512x1408) hz2, View.ld_unit_zero (S := S1x1408x2048) hz3, View.ld_unit_zero (S := S512x2048) hz2, View.ld_unit_zero (S := S1x2048) hz2]

theorem out_C_6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 hc0 hc1 x0 x1 x2 x3 x4 xs0
      = k0_pay8 (k0_pay2 x0 x1 xs0) x2 x3 x4 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg5.read_unread, harg6.read_unread, harg11.read_unread,
    View.ld_unit_zero (S := S512x1408) hz2, View.ld_unit_zero (S := S1x1408x2048) hz3, View.ld_unit_zero (S := S512x2048) hz2, View.ld_unit_zero (S := S1x2048) hz2]

theorem out_C_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 xs0
      = k0_pay5 (k0_pay2 x0 x1 xs0) x2 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg11.read_unread,
    View.ld_unit_zero (S := S512x1408) hz2, View.ld_unit_zero (S := S1x1408x2048) hz3, View.ld_unit_zero (S := S512x2048) hz2]

theorem out_C_8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 hc0 hc1 x0 x1 x2 x3 x4 xs0
      = k0_pay7 (k0_pay2 x0 x1 xs0) x2 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg11.read_unread,
    View.ld_unit_zero (S := S512x1408) hz2, View.ld_unit_zero (S := S1x1408x2048) hz3, View.ld_unit_zero (S := S512x2048) hz2]

end Cases

/-- The part of point `n`, at an index of the block. -/
def partAt (c : Dev nD) (y : S512x2048.Idx) (n : ℕ) : EReal :=
  if h : n < cfg0.N then part (iblk m c 0 ⟨n, h⟩) (iblk m c 1 ⟨n, h⟩) y else 0

/-- The running sum after point `n`, at an index of the block. -/
def accAt (c : Dev nD) (y : S512x2048.Idx) (n : ℕ) (hn : n < cfg0.N) : EReal := (outsAt0 m c n hn).2.2.2.2 y

theorem acc_reset (c : Dev nD) (y : S512x2048.Idx) (n : ℕ) (hn : n < cfg0.N) (h : n % 4 = 0) : accAt m c y n hn = partAt m c y n := by
  unfold accAt partAt
  rw [outsAt0_A m c ⟨n, hn⟩ h (by show ¬n % 4 = 3; omega), dif_pos hn]
  dsimp only
  rw [sout_A]
  exact ((pay2_apply _ _ _ y).trans (congrArg (· + _) (pay1_apply y))).trans (zero_add _)

theorem acc_step (c : Dev nD) (y : S512x2048.Idx) (n : ℕ) (hn : n < cfg0.N) (h : ¬n % 4 = 0) :
    accAt m c y n hn = accAt m c y (n - 1) (Nat.lt_of_le_of_lt (Nat.sub_le n 1) hn) + partAt m c y n := by
  unfold accAt partAt
  rw [dif_pos hn]
  by_cases h3 : n % 4 = 3
  · rw [outsAt0_C m c ⟨n, hn⟩ h h3]
    dsimp only
    rw [sout_C]
    exact pay2_apply _ _ _ y
  · rw [outsAt0_B m c ⟨n, hn⟩ h h3]
    dsimp only
    rw [sout_B]
    exact pay2_apply _ _ _ y

/-- Where the blocks of grid point `t` lie: the row block is `t / 4`, the block of the inner width `t % 4`. -/
theorem index_facts : ∀ t : Fin grid0.N, (win0_0.index t 0 = t.val / 4 ∧ win0_0.index t 1 = t.val % 4)
    ∧ (win0_1.index t 0 = t.val % 4 ∧ win0_1.index t 1 = 0 ∧ win0_1.index t 2 = 0)
    ∧ (win0_2.index t 0 = t.val / 4 ∧ win0_2.index t 1 = 0)
    ∧ (win0_3.index t 0 = 0 ∧ win0_3.index t 1 = 0)
    ∧ (win0_4.index t 0 = 0 ∧ win0_4.index t 1 = 0) := by decide +kernel

theorem index_facts_out : ∀ t : Fin grid0.N, (win0_5.index t 0 = t.val / 4 ∧ win0_5.index t 1 = 0)
    ∧ (win0_6.index t 0 = t.val / 4 ∧ win0_6.index t 1 = 0)
    ∧ (win0_7.index t 0 = t.val / 4 ∧ win0_7.index t 1 = 0)
    ∧ (win0_8.index t 0 = t.val / 4 ∧ win0_8.index t 1 = 0) := by decide +kernel

/-- The left factor's block at an index. -/
theorem block0 (c : Dev nD) (t : Fin cfg0.N) (y : S512x1408.Idx) (i : S2048x5632.Idx)
    (h0 : (i 0 : Nat) = 512 * (t.val / 4) + y 0) (h1 : (i 1 : Nat) = 1408 * (t.val % 4) + y 1) :
    (iblk m c 0 t : Vec Ideal S512x1408 .bf16) y = m ((c.tc : Thread nD τ).loc main_arg0) i := by
  obtain ⟨⟨e0, e1⟩, -⟩ := index_facts t
  exact at_eq (S := S2048x5632) (m ((c.tc : Thread nD τ).loc main_arg0)) (((cfg0.win 0).blk t).view.emb y) i fun a => match a with
    | ⟨0, _⟩ => by show win0_0.index t 0 * 512 + 1 * (y 0).val = (i 0).val; rw [e0, h0]; omega
    | ⟨1, _⟩ => by show win0_0.index t 1 * 1408 + 1 * (y 1).val = (i 1).val; rw [e1, h1]; omega

/-- The weight's block at an index. -/
theorem block1 (c : Dev nD) (t : Fin cfg0.N) (y : S1x1408x2048.Idx) (i : S4x1408x2048.Idx)
    (h0 : (i 0 : Nat) = t.val % 4) (h1 : (i 1 : Nat) = y 1) (h2 : (i 2 : Nat) = y 2) :
    (iblk m c 1 t : Vec Ideal S1x1408x2048 .bf16) y = m ((c.tc : Thread nD τ).loc main_arg1) i := by
  obtain ⟨-, ⟨e0, e1, e2⟩, -⟩ := index_facts t
  have hy : (y 0 : Nat) < 1 := (y 0).isLt
  exact at_eq (S := S4x1408x2048) (m ((c.tc : Thread nD τ).loc main_arg1)) (((cfg0.win 1).blk t).view.emb y) i fun a => match a with
    | ⟨0, _⟩ => by show win0_1.index t 0 * 1 + 1 * (y 0).val = (i 0).val; rw [e0, h0]; omega
    | ⟨1, _⟩ => by show win0_1.index t 1 * 1408 + 1 * (y 1).val = (i 1).val; rw [e1, h1]; omega
    | ⟨2, _⟩ => by show win0_1.index t 2 * 2048 + 1 * (y 2).val = (i 2).val; rw [e2, h2]; omega

/-- The residual's block at an index. -/
theorem block2 (c : Dev nD) (t : Fin cfg0.N) (y : S512x2048.Idx) (i : S2048x2048.Idx)
    (h0 : (i 0 : Nat) = 512 * (t.val / 4) + y 0) (h1 : (i 1 : Nat) = y 1) :
    (iblk m c 2 t : Vec Ideal S512x2048 .f32) y = m ((c.tc : Thread nD τ).loc main_arg2) i := by
  obtain ⟨-, -, ⟨e0, e1⟩, -⟩ := index_facts t
  exact at_eq (S := S2048x2048) (m ((c.tc : Thread nD τ).loc main_arg2)) (((cfg0.win 2).blk t).view.emb y) i fun a => match a with
    | ⟨0, _⟩ => by show win0_2.index t 0 * 512 + 1 * (y 0).val = (i 0).val; rw [e0, h0]; omega
    | ⟨1, _⟩ => by show win0_2.index t 1 * 2048 + 1 * (y 1).val = (i 1).val; rw [e1, h1]; omega

/-- The gain's block is the gain. -/
theorem block3 (c : Dev nD) (t : Fin cfg0.N) : (iblk m c 3 t : Vec Ideal S1x2048 .f32) = m ((c.tc : Thread nD τ).loc main_arg3) := by
  obtain ⟨-, -, -, ⟨e0, e1⟩, -⟩ := index_facts t
  funext y
  exact at_eq (S := S1x2048) (m ((c.tc : Thread nD τ).loc main_arg3)) (((cfg0.win 3).blk t).view.emb y) y fun a => match a with
    | ⟨0, _⟩ => by show win0_3.index t 0 * 1 + 1 * (y 0).val = (y 0).val; rw [e0]; omega
    | ⟨1, _⟩ => by show win0_3.index t 1 * 2048 + 1 * (y 1).val = (y 1).val; rw [e1]; omega

/-- The shift's block is the shift. -/
theorem block4 (c : Dev nD) (t : Fin cfg0.N) : (iblk m c 4 t : Vec Ideal S1x2048 .f32) = m ((c.tc : Thread nD τ).loc main_arg4) := by
  obtain ⟨-, -, -, -, ⟨e0, e1⟩⟩ := index_facts t
  funext y
  exact at_eq (S := S1x2048) (m ((c.tc : Thread nD τ).loc main_arg4)) (((cfg0.win 4).blk t).view.emb y) y fun a => match a with
    | ⟨0, _⟩ => by show win0_4.index t 0 * 1 + 1 * (y 0).val = (y 0).val; rw [e0]; omega
    | ⟨1, _⟩ => by show win0_4.index t 1 * 2048 + 1 * (y 1).val = (y 1).val; rw [e1]; omega

/-- The product of the launched arrays. -/
abbrev prods (c : Dev nD) : S2048x2048.Idx → EReal := fun i =>
  prod (m ((c.tc : Thread nD τ).loc main_arg0)) (m ((c.tc : Thread nD τ).loc main_arg1)) (i 0) (i 1)

/-- A row before the norm, of the launched arrays, -/
abbrev row (c : Dev nD) (p : Fin 2048) : Fin 2048 → EReal := fun q =>
  res (m ((c.tc : Thread nD τ).loc main_arg2) (ix2 p q)) (prods m c (ix2 p q))

/-- and the four results. -/
abbrev out (c : Dev nD) : S2048x2048.Idx → EReal := fun i => ln (row m c (i 0))
  (fun q => m ((c.tc : Thread nD τ).loc main_arg3) (ix2 0 q)) (fun q => m ((c.tc : Thread nD τ).loc main_arg4) (ix2 0 q)) (i 1)
abbrev hat (c : Dev nD) : S2048x2048.Idx → EReal := fun i => xhat (row m c (i 0)) (i 1)
abbrev dev (c : Dev nD) : S2048x128.Idx → EReal := fun i => rstd (row m c (i 0))

/-- After a row block's last point the running sum is the product at the index where the block's entry lies. -/
theorem acc_last (c : Dev nD) (t : Fin cfg0.N) (ht : t.val % 4 = 3) (y : S512x2048.Idx) (i : S2048x2048.Idx)
    (h0 : (i 0 : Nat) = 512 * (t.val / 4) + y 0) (h1 : (i 1 : Nat) = y 1) : accAt m c y t.val t.isLt = prods m c i := by
  have hN : t.val < 16 := t.isLt
  rw [Cert.Blocks.run_sum cfg0.N (accAt m c y) (partAt m c y) (acc_reset m c y) (acc_step m c y) t.val t.isLt, ht]
  unfold prods prod
  refine Cert.Blocks.sum_blocks 5632 1408 rfl _ (fun j => partAt m c y (4 * (t.val / 4) + j)) fun j hj => ?_
  have hs : 4 * (t.val / 4) + j < cfg0.N := by show _ < 16; omega
  have hq : (4 * (t.val / 4) + j) / 4 = t.val / 4 := by omega
  have hr : (4 * (t.val / 4) + j) % 4 = j := by omega
  dsimp only
  unfold partAt
  rw [dif_pos hs]
  unfold part
  refine Finset.sum_congr rfl fun k _ => ?_
  have hk : k.val < 1408 := k.isLt
  rw [block0 m c ⟨_, hs⟩ (ix2 (y 0) k) (ix2 (i 0) ⟨1408 * j + k.val, by omega⟩) (by show (i 0).val = 512 * ((4 * (t.val / 4) + j) / 4) + (y 0).val; rw [hq]; exact h0)
      (by show 1408 * j + k.val = 1408 * ((4 * (t.val / 4) + j) % 4) + k.val; rw [hr]),
    block1 m c ⟨_, hs⟩ (ix3 0 k (y 1)) (ix3 ⟨(1408 * j + k.val) / 1408, by omega⟩ ⟨(1408 * j + k.val) % 1408, by omega⟩ (i 1))
      (by show (1408 * j + k.val) / 1408 = (4 * (t.val / 4) + j) % 4; omega) (by show (1408 * j + k.val) % 1408 = k.val; omega) h1]

/-- The last point's sum is the running sum after it. -/
theorem acc_C (c : Dev nD) (t : Fin cfg0.N) (ht : t.val % 4 = 3) :
    k0_pay2 (iblk m c 0 t) (iblk m c 1 t) (outsAt0 m c (t.val - 1) (Nat.lt_of_le_of_lt (Nat.sub_le _ _) t.isLt)).2.2.2.2
      = fun y => (accAt m c y t.val t.isLt : EReal) := by
  have h : (fun y => (accAt m c y t.val t.isLt : EReal)) = (outsAt0 m c t.val t.isLt).2.2.2.2 := rfl
  rw [outsAt0_C m c t (by omega) ht] at h
  dsimp only at h
  rw [sout_C] at h
  exact h.symm

/-- A row of the last point's block is a row of the launched arrays. -/
theorem row_last (c : Dev nD) (t : Fin cfg0.N) (ht : t.val % 4 = 3) (p : Fin 512) (r : Fin 2048) (h0 : (r : Nat) = 512 * (t.val / 4) + p) :
    (fun q => res ((iblk m c 2 t : Vec Ideal S512x2048 .f32) (ix2 p q)) (accAt m c (ix2 p q) t.val t.isLt)) = row m c r := by
  funext q
  rw [block2 m c t (ix2 p q) (ix2 r q) h0 rfl, acc_last m c t ht (ix2 p q) (ix2 r q) h0 rfl]

/-- What a row block's last point writes back of the norm is its block of it, -/
theorem flushed_5 (c : Dev nD) (t : Fin cfg0.N) (hf : (cfg0.win 5).flush t = true) :
    (dats m 0 c).flushed 5 t = ((cfg0.win 5).blk t).view.read (Elt Ideal) (out m c) := by
  have ht : t.val % 4 = 3 := (flush0_5 t).mp hf
  obtain ⟨⟨e0, e1⟩, -⟩ := index_facts_out t
  rw [Value.flushed5_C m c t (by omega) ht, out_C_5, acc_C m c t ht, block3, block4]
  funext y
  rw [View.read_apply]
  have h0 : (((cfg0.win 5).blk t).view.emb y 0 : Nat) = 512 * (t.val / 4) + (y 0).val := by
    show win0_5.index t 0 * 512 + 1 * (y 0).val = 512 * (t.val / 4) + (y 0).val; rw [e0]; omega
  have h1 : y 1 = ((cfg0.win 5).blk t).view.emb y 1 := Fin.ext (by
    show (y 1).val = win0_5.index t 1 * 2048 + 1 * (y 1).val; rw [e1]; omega)
  refine (pay6_apply _ _ _ _ y).trans ?_
  exact (congrArg (fun f => ln f _ _ (y 1)) (row_last m c t ht (y 0) _ h0)).trans (congrArg (ln _ _ _) h1)

theorem covered_5 (i : S2048x2048.Idx) : ∃ t : Fin cfg0.N, (cfg0.win 5).flush t = true ∧ i ∈ ((cfg0.win 5).blk t).view.set :=
  (Value.covered_iff5 i).2 (by
    have h0 : (i 0).val < 2048 := (i 0).isLt; have h1 : (i 1).val < 2048 := (i 1).isLt; omega)

/-- of the rounded norm, -/
theorem flushed_6 (c : Dev nD) (t : Fin cfg0.N) (hf : (cfg0.win 6).flush t = true) :
    (dats m 0 c).flushed 6 t = ((cfg0.win 6).blk t).view.read (Elt Ideal) (out m c) := by
  have ht : t.val % 4 = 3 := (flush0_6 t).mp hf
  obtain ⟨-, ⟨e0, e1⟩, -⟩ := index_facts_out t
  rw [Value.flushed6_C m c t (by omega) ht, out_C_6, acc_C m c t ht, block3, block4]
  funext y
  rw [View.read_apply]
  have h0 : (((cfg0.win 6).blk t).view.emb y 0 : Nat) = 512 * (t.val / 4) + (y 0).val := by
    show win0_6.index t 0 * 512 + 1 * (y 0).val = 512 * (t.val / 4) + (y 0).val; rw [e0]; omega
  have h1 : y 1 = ((cfg0.win 6).blk t).view.emb y 1 := Fin.ext (by
    show (y 1).val = win0_6.index t 1 * 2048 + 1 * (y 1).val; rw [e1]; omega)
  refine (pay6_apply _ _ _ _ y).trans ?_
  exact (congrArg (fun f => ln f _ _ (y 1)) (row_last m c t ht (y 0) _ h0)).trans (congrArg (ln _ _ _) h1)

theorem covered_6 (i : S2048x2048.Idx) : ∃ t : Fin cfg0.N, (cfg0.win 6).flush t = true ∧ i ∈ ((cfg0.win 6).blk t).view.set :=
  (Value.covered_iff6 i).2 (by
    have h0 : (i 0).val < 2048 := (i 0).isLt; have h1 : (i 1).val < 2048 := (i 1).isLt; omega)

/-- of the normalised rows, -/
theorem flushed_7 (c : Dev nD) (t : Fin cfg0.N) (hf : (cfg0.win 7).flush t = true) :
    (dats m 0 c).flushed 7 t = ((cfg0.win 7).blk t).view.read (Elt Ideal) (hat m c) := by
  have ht : t.val % 4 = 3 := (flush0_7 t).mp hf
  obtain ⟨-, -, ⟨e0, e1⟩, -⟩ := index_facts_out t
  rw [Value.flushed7_C m c t (by omega) ht, out_C_7, acc_C m c t ht]
  funext y
  rw [View.read_apply]
  have h0 : (((cfg0.win 7).blk t).view.emb y 0 : Nat) = 512 * (t.val / 4) + (y 0).val := by
    show win0_7.index t 0 * 512 + 1 * (y 0).val = 512 * (t.val / 4) + (y 0).val; rw [e0]; omega
  have h1 : y 1 = ((cfg0.win 7).blk t).view.emb y 1 := Fin.ext (by
    show (y 1).val = win0_7.index t 1 * 2048 + 1 * (y 1).val; rw [e1]; omega)
  refine (pay5_apply _ _ y).trans ?_
  exact (congrArg (fun f => xhat f (y 1)) (row_last m c t ht (y 0) _ h0)).trans (congrArg (xhat _) h1)

theorem covered_7 (i : S2048x2048.Idx) : ∃ t : Fin cfg0.N, (cfg0.win 7).flush t = true ∧ i ∈ ((cfg0.win 7).blk t).view.set :=
  (Value.covered_iff7 i).2 (by
    have h0 : (i 0).val < 2048 := (i 0).isLt; have h1 : (i 1).val < 2048 := (i 1).isLt; omega)

/-- and of the reciprocal deviations. -/
theorem flushed_8 (c : Dev nD) (t : Fin cfg0.N) (hf : (cfg0.win 8).flush t = true) :
    (dats m 0 c).flushed 8 t = ((cfg0.win 8).blk t).view.read (Elt Ideal) (dev m c) := by
  have ht : t.val % 4 = 3 := (flush0_8 t).mp hf
  obtain ⟨-, -, -, ⟨e0, e1⟩⟩ := index_facts_out t
  rw [Value.flushed8_C m c t (by omega) ht, out_C_8, acc_C m c t ht]
  funext y
  rw [View.read_apply]
  have h0 : (((cfg0.win 8).blk t).view.emb y 0 : Nat) = 512 * (t.val / 4) + (y 0).val := by
    show win0_8.index t 0 * 512 + 1 * (y 0).val = 512 * (t.val / 4) + (y 0).val; rw [e0]; omega
  refine (pay7_apply _ _ y).trans ?_
  exact congrArg rstd (row_last m c t ht (y 0) _ h0)

theorem covered_8 (i : S2048x128.Idx) : ∃ t : Fin cfg0.N, (cfg0.win 8).flush t = true ∧ i ∈ ((cfg0.win 8).blk t).view.set :=
  (Value.covered_iff8 i).2 (by
    have h0 : (i 0).val < 2048 := (i 0).isLt; have h1 : (i 1).val < 128 := (i 1).isLt; omega)

/-- The reference's product read at an index. -/
theorem ref_prod (x : Vec Ideal S2048x5632 .bf16) (w : Vec Ideal S4x1408x2048 .bf16) (h : FTy.bits .bf16 < FTy.bits .f32)
    (hs : S4x1408x2048.ShapeCasts Cert.Reference7Ideal.S5632x2048) (i : S2048x2048.Idx) :
    Host.dotGeneral (F := Ideal) Cert.Reference7Ideal.dot_S2048x5632_S5632x2048_S2048x2048_1_0_0_1_n_n none (extf .f32 x h)
      (shapeCast Cert.Reference7Ideal.S5632x2048 (extf .f32 w h) hs) i = prod x w (i 0) (i 1) := by
  unfold prod
  pointwise []

/-- The reference's array before the norm, -/
def refRows (d D : FVec Ideal S2048x2048 .f32) (hb : Cert.Reference7Ideal.S_.BroadcastsInDim S2048x2048 (![] : Fin 0 → Fin S2048x2048.rank)) :
    FVec Ideal S2048x2048 .f32 :=
  addf (mulf (broadcastInDim S2048x2048 ![] hb (Host.sqrt (Host.sqrt (constant (F := Ideal) Cert.Reference7Ideal.S_ .f32 0x41000000#32)))) d)
    (mulf (broadcastInDim S2048x2048 ![] hb (constant (F := Ideal) Cert.Reference7Ideal.S_ .f32 0x3F000000#32)) D)

/-- and read at an index. -/
theorem refRows_apply (d D : FVec Ideal S2048x2048 .f32) (hb : Cert.Reference7Ideal.S_.BroadcastsInDim S2048x2048 (![] : Fin 0 → Fin S2048x2048.rank))
    (i : S2048x2048.Idx) : (refRows d D hb i : EReal) = res (d i) (D i) := by
  unfold res
  rw [← host_alpha Cert.Reference7Ideal.S_ ix0]
  pointwise [refRows]

section Reference
variable (act : Vec Ideal S2048x5632 .bf16) (w : Vec Ideal S4x1408x2048 .bf16) (d : Vec Ideal S2048x2048 .f32) (g b : Vec Ideal S1x2048 .f32)
  (hx : FTy.bits .bf16 < FTy.bits .f32) (hs : S4x1408x2048.ShapeCasts Cert.Reference7Ideal.S5632x2048)
  (hd : Cert.Reference7Ideal.S_.BroadcastsInDim S2048x2048 (![] : Fin 0 → Fin S2048x2048.rank))
  (hr : R.ReducesTo [1] R0) (hu : 0 < U.numel) (h0 : R0.BroadcastsInDim R1 (![0] : Fin 1 → Fin R1.rank))
  (hc : U.BroadcastsInDim R1 (![] : Fin 0 → Fin R1.rank)) (hb : R1.BroadcastsInDim R (![0, 1] : Fin 2 → Fin R.rank))
  (hl : R1.BroadcastsInDim RL (![0, 1] : Fin 2 → Fin RL.rank)) (hg : G.BroadcastsInDim R (![0, 1] : Fin 2 → Fin R.rank))

/-- The reference's array before the norm, of its arguments. -/
abbrev refZ : FVec Ideal S2048x2048 .f32 :=
  refRows d (Host.dotGeneral Cert.Reference7Ideal.dot_S2048x5632_S5632x2048_S2048x2048_1_0_0_1_n_n none (extf .f32 act hx)
    (shapeCast Cert.Reference7Ideal.S5632x2048 (extf .f32 w hx) hs)) hd

theorem refZ_row (p : Fin 2048) : (fun q => (refZ act w d hx hs hd (ix2 p q) : EReal)) = fun q => res (d (ix2 p q)) (prod act w p q) :=
  funext fun q => (refRows_apply _ _ _ (ix2 p q)).trans (congrArg (res _) (ref_prod act w _ _ (ix2 p q)))

/-- The addend as the reference computes it. -/
abbrev refEps : FVec Ideal U .f32 := Host.divf (constant U .f32 0x3F800000#32) (constant U .f32 0x47C35000#32)

/-- The reference's results: the norm, -/
theorem ref_out : hln (refZ act w d hx hs hd) hr hu h0 hc hb refEps g b hg
    = fun i => ln (fun q => res (d (ix2 (i 0) q)) (prod act w (i 0) q)) (fun q => g (ix2 0 q)) (fun q => b (ix2 0 q)) (i 1) :=
  funext fun i => (hln_apply (refZ act w d hx hs hd) hr hu h0 hc hb refEps g b hg (fun j => host_eps U j) i).trans
    (congrArg (fun f => ln f _ _ (i 1)) (refZ_row act w d hx hs hd (i 0)))

/-- the normalised rows, -/
theorem ref_hat : hxhat (refZ act w d hx hs hd) hr hu h0 hc hb refEps
    = fun i => xhat (fun q => res (d (ix2 (i 0) q)) (prod act w (i 0) q)) (i 1) :=
  funext fun i => (hxhat_apply (refZ act w d hx hs hd) hr hu h0 hc hb refEps (fun j => host_eps U j) i).trans
    (congrArg (fun f => xhat f (i 1)) (refZ_row act w d hx hs hd (i 0)))

/-- and the reciprocal deviations. -/
theorem ref_dev : hrstd (refZ act w d hx hs hd) hr hu h0 hc hb refEps hl
    = fun i => rstd (fun q => res (d (ix2 (i 0) q)) (prod act w (i 0) q)) :=
  funext fun i => (hrstd_apply (refZ act w d hx hs hd) hr hu h0 hc hb refEps hl (fun j => host_eps U j) i).trans
    (congrArg rstd (refZ_row act w d hx hs hd (i 0)))

end Reference

/-- The idealized kernel and the idealized reference leave the same four results. -/
theorem value : Cert.algebraic_Kernel7Ideal_Reference7Ideal (hKernel7Ideal := Cert.Kernel7Ideal.Gen.facts)
    (hReference7Ideal := Cert.Reference7Ideal.Gen.facts) := by
  intro m g m' g' _ hargs
  refine ⟨fun c => out m c, fun c => out m c, fun c => hat m c, fun c => dev m c, ?_, ?_⟩
  · exact (θ_run _ _ _).mono (fun r h c =>
      ⟨(h c).1.trans ((dats m 0 c).arrAt_eq_of_cover 5 (out m c) (fun t hf => flushed_5 m c t hf) covered_5),
        (h c).2.1.trans ((dats m 0 c).arrAt_eq_of_cover 6 (out m c) (fun t hf => flushed_6 m c t hf) covered_6),
        (h c).2.2.1.trans ((dats m 0 c).arrAt_eq_of_cover 7 (hat m c) (fun t hf => flushed_7 m c t hf) covered_7),
        (h c).2.2.2.1.trans ((dats m 0 c).arrAt_eq_of_cover 8 (dev m c) (fun t hf => flushed_8 m c t hf) covered_8),
        (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference7Ideal.Value.run (F := Ideal) m' g')
    · unfold Cert.Reference7Ideal.Value.res_main_v31
      rw [(hargs c).1, (hargs c).2.1, (hargs c).2.2.1, (hargs c).2.2.2.1, (hargs c).2.2.2.2]
      exact ref_out _ _ _ _ _ _ _ _ _ _ _ _ _ _
    · unfold Cert.Reference7Ideal.Value.res_main_v32
      rw [(hargs c).1, (hargs c).2.1, (hargs c).2.2.1, (hargs c).2.2.2.1, (hargs c).2.2.2.2]
      exact ref_out _ _ _ _ _ _ _ _ _ _ _ _ _ _
    · unfold Cert.Reference7Ideal.Value.res_main_v34
      rw [(hargs c).1, (hargs c).2.1, (hargs c).2.2.1]
      exact ref_hat _ _ _ _ _ _ _ _ _ _ _
    · rw [(hargs c).1, (hargs c).2.1, (hargs c).2.2.1]
      exact ref_dev _ _ _ _ _ _ _ _ _ _ _ _

end Cert.FfnDown

end
-- ==== Proof.MixProj.lean ====
/- The mixer's input projection. -/
module

public import proofs.«01_k».proof.Defs
public import proofs.«01_k».proof.Proof.Gen.Kernel8Ideal.Value
public import proofs.«01_k».proof.Proof.Gen.Reference8Ideal.Run
public import proofs.«01_k».proof.Proof.Blocks
public import Idealize.ShloMosaic.Lib.Pipeline.Value
public import Idealize.ShloMosaic.Lib.Pointwise

@[expose] public section

set_option maxRecDepth 16384

noncomputable section

namespace Cert.MixProj

open Idealize.ShloMosaic Idealize.ShloMosaic.TcCoe Idealize.SL.Sem
open Cert.Kernel8Ideal Cert.Kernel8Ideal.Gen Cert.Blocks

variable (m : (ℓ : Loc nD τ sig) → Buf (Elt Ideal) ℓ)

/-- The projection of token `r` on column `q`, the weight in column blocks. -/
def proj (x : S2048x2048.Idx → EReal) (w : S4x2048x1024.Idx → EReal) (r : Fin 2048) (q : Fin 4096) : EReal :=
  ∑ k : Fin 2048, x (ix2 r k) * w (ix3 ⟨q.val / 1024, by omega⟩ k ⟨q.val % 1024, by omega⟩)

/-- The body's product at an index. -/
theorem out_apply (x0 : Vec Ideal S512x2048 .bf16) (x1 : Vec Ideal S1x2048x1024 .bf16) (y : S512x1024.Idx) :
    (out0_2 x0 x1 y : EReal) = ∑ k : Fin 2048, (x0 (ix2 (y 0) k) : EReal) * x1 (ix3 0 k (y 1)) := by
  unfold out0_2
  rw [View.canon_unit_zero hz2, View.ld_unit_zero (S := S512x2048) hz2, View.ld_unit_zero (S := S1x2048x1024) hz3]
  pointwise [k0_pay1]

/-- Where the blocks of grid point `t` lie: point `t` computes column block `t / 4` of the tokens from `512 (t % 4)`. -/
theorem index_facts : ∀ t : Fin grid0.N, (win0_0.index t 0 = t.val % 4 ∧ win0_0.index t 1 = 0)
    ∧ (win0_1.index t 0 = t.val / 4 ∧ win0_1.index t 1 = 0 ∧ win0_1.index t 2 = 0)
    ∧ (win0_2.index t 0 = t.val % 4 ∧ win0_2.index t 1 = t.val / 4) := by decide +kernel

/-- The tokens' block at an index. -/
theorem x_block (c : Dev nD) (t : Fin cfg0.N) (y : S512x2048.Idx) (i : S2048x2048.Idx)
    (h0 : (i 0 : Nat) = 512 * (t.val % 4) + y 0) (h1 : (i 1 : Nat) = y 1) :
    (iblk m c 0 t : Vec Ideal S512x2048 .bf16) y = m ((c.tc : Thread nD τ).loc main_arg0) i := by
  obtain ⟨⟨e0, e1⟩, -⟩ := index_facts t
  exact at_eq (S := S2048x2048) (m ((c.tc : Thread nD τ).loc main_arg0)) (((cfg0.win 0).blk t).view.emb y) i fun a => match a with
    | ⟨0, _⟩ => by show win0_0.index t 0 * 512 + 1 * (y 0).val = (i 0).val; rw [e0, h0]; omega
    | ⟨1, _⟩ => by show win0_0.index t 1 * 2048 + 1 * (y 1).val = (i 1).val; rw [e1, h1]; omega

/-- The weight's block at an index. -/
theorem w_block (c : Dev nD) (t : Fin cfg0.N) (y : S1x2048x1024.Idx) (i : S4x2048x1024.Idx)
    (h0 : (i 0 : Nat) = t.val / 4) (h1 : (i 1 : Nat) = y 1) (h2 : (i 2 : Nat) = y 2) :
    (iblk m c 1 t : Vec Ideal S1x2048x1024 .bf16) y = m ((c.tc : Thread nD τ).loc main_arg1) i := by
  obtain ⟨-, ⟨e0, e1, e2⟩, -⟩ := index_facts t
  have hy : (y 0 : Nat) < 1 := (y 0).isLt
  exact at_eq (S := S4x2048x1024) (m ((c.tc : Thread nD τ).loc main_arg1)) (((cfg0.win 1).blk t).view.emb y) i fun a => match a with
    | ⟨0, _⟩ => by show win0_1.index t 0 * 1 + 1 * (y 0).val = (i 0).val; rw [e0, h0]; omega
    | ⟨1, _⟩ => by show win0_1.index t 1 * 2048 + 1 * (y 1).val = (i 1).val; rw [e1, h1]; omega
    | ⟨2, _⟩ => by show win0_1.index t 2 * 1024 + 1 * (y 2).val = (i 2).val; rw [e2, h2]; omega

/-- The projection of the launched arrays. -/
abbrev result (c : Dev nD) : S2048x4096.Idx → EReal := fun i =>
  proj (m ((c.tc : Thread nD τ).loc main_arg0)) (m ((c.tc : Thread nD τ).loc main_arg1)) (i 0) (i 1)

/-- Point `t` writes back block `t` of the projection. -/
theorem flushed_eq (c : Dev nD) (t : Fin cfg0.N) :
    (dats m 0 c).flushed 2 t = ((cfg0.win 2).blk t).view.read (Elt Ideal) (result m c) := by
  obtain ⟨-, -, ⟨e0, e1⟩⟩ := index_facts t
  rw [Value.flushed2]
  funext y
  rw [View.read_apply]
  have h0 : (((cfg0.win 2).blk t).view.emb y 0 : Nat) = 512 * (t.val % 4) + (y 0).val := by
    show win0_2.index t 0 * 512 + 1 * (y 0).val = 512 * (t.val % 4) + (y 0).val; rw [e0]; omega
  have h1 : (((cfg0.win 2).blk t).view.emb y 1 : Nat) = 1024 * (t.val / 4) + (y 1).val := by
    show win0_2.index t 1 * 1024 + 1 * (y 1).val = 1024 * (t.val / 4) + (y 1).val; rw [e1]; omega
  refine (out_apply _ _ y).trans ?_
  have hy1 : (y 1 : Nat) < 1024 := (y 1).isLt
  have hN : t.val < 16 := t.isLt
  show _ = proj (m ((c.tc : Thread nD τ).loc main_arg0)) (m ((c.tc : Thread nD τ).loc main_arg1)) (((cfg0.win 2).blk t).view.emb y 0) (((cfg0.win 2).blk t).view.emb y 1)
  unfold proj
  refine Finset.sum_congr rfl fun k _ => ?_
  rw [x_block m c t (ix2 (y 0) k) (ix2 (((cfg0.win 2).blk t).view.emb y 0) k) h0 rfl,
    w_block m c t (ix3 0 k (y 1)) (ix3 ⟨(((cfg0.win 2).blk t).view.emb y 1 : Nat) / 1024, by omega⟩ k ⟨(((cfg0.win 2).blk t).view.emb y 1 : Nat) % 1024, by omega⟩)
      (by show (((cfg0.win 2).blk t).view.emb y 1 : Nat) / 1024 = _; omega) rfl (by show (((cfg0.win 2).blk t).view.emb y 1 : Nat) % 1024 = (y 1).val; omega)]

/-- Every index of the projection lies in some point's block. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2048 := (i 0).isLt
  have h1 : (i 1 : Nat) < 4096 := (i 1).isLt
  have hN : cfg0.N = 16 := N_0
  obtain ⟨t, ht⟩ : ∃ t : Fin cfg0.N, t.val = 4 * ((i 1).val / 1024) + (i 0).val / 512 := ⟨⟨_, by omega⟩, rfl⟩
  obtain ⟨-, -, ⟨e0, e1⟩⟩ := index_facts t
  refine ⟨t, flush0_2 t, ?_⟩
  show i ∈ ((View.whole main_v0).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [e0]; omega
  | ⟨1, _⟩ => show win0_2.index t 1 * 1024 ≤ (i 1 : Nat) ∧ (i 1 : Nat) < win0_2.index t 1 * 1024 + 1024
              rw [e1]; omega

/-- The idealized kernel and the idealized reference leave the same projection. -/
theorem value : Cert.algebraic_Kernel8Ideal_Reference8Ideal (hKernel8Ideal := Cert.Kernel8Ideal.Gen.facts)
    (hReference8Ideal := Cert.Reference8Ideal.Gen.facts) := by
  intro m g m' g' _ hargs
  refine ⟨fun c => result m c, ?_, ?_⟩
  · exact (θ_run _ _ _).mono (fun r h c =>
      ⟨(h c).1.trans ((dats m 0 c).arrAt_eq_of_cover 2 (result m c) (fun t _ => flushed_eq m c t) (covered c)), (h c).2⟩) (Value.run_blocks m g)
  · refine (θ_run _ _ _).mono (fun r h c => ⟨(h c).1.trans ?_, (h c).2⟩) (Cert.Reference8Ideal.Value.run (F := Ideal) m' g')
    rw [(hargs c).1, (hargs c).2]
    funext i
    unfold result proj
    pointwise []

end Cert.MixProj

end
-- ==== Proof.MixGwin.lean ====
/- The gradient of the weight of the mixer's input projection. -/
module

public import proofs.«01_k».proof.Defs
public import proofs.«01_k».proof.Proof.Gen.Kernel9Ideal.Value
public import proofs.«01_k».proof.Proof.Gen.Reference9Ideal.Run
public import proofs.«01_k».proof.Proof.Blocks
public import Idealize.ShloMosaic.Lib.Pipeline.Value
public import Idealize.ShloMosaic.Lib.Pointwise

@[expose] public section

set_option maxRecDepth 16384

noncomputable section

namespace Cert.MixGwin

open Idealize.ShloMosaic Idealize.ShloMosaic.TcCoe Idealize.SL.Sem
open Cert.Kernel9Ideal Cert.Kernel9Ideal.Gen Cert.Blocks

variable (m : (ℓ : Loc nD τ sig) → Buf (Elt Ideal) ℓ)

/-- The entry of the gradient in column block `j`, row `r`, column `q` of the block. -/
def entry (x : S2048x2048.Idx → EReal) (ct : S2048x4096.Idx → EReal) (j : Fin 4) (r : Fin 2048) (q : Fin 1024) : EReal :=
  ∑ k : Fin 2048, x (ix2 k r) * ct (ix2 k ⟨1024 * j.val + q.val, by omega⟩)

/-- The body's result at an index: the sum over the tokens of the products of the two blocks' columns. -/
theorem out_apply (x0 : Vec Ideal S2048x1024 .bf16) (x1 : Vec Ideal S2048x1024 .bf16) (y : S1x1024x1024.Idx) :
    (out0_2 x0 x1 y : EReal) = ∑ k : Fin 2048, (x0 (ix2 k (y 1)) : EReal) * x1 (ix2 k (y 2)) := by
  unfold out0_2
  rw [View.canon_unit_zero hz3, View.ld_unit_zero (S := S2048x1024) hz2, View.ld_unit_zero (S := S2048x1024) hz2]
  pointwise [k0_pay1]

/-- Where the blocks of grid point `t` lie: point `t` computes column block `t / 2`, rows from `1024 (t % 2)`. -/
theorem index_facts : ∀ t : Fin grid0.N, win0_0.index t 0 = 0 ∧ win0_0.index t 1 = t.val % 2
    ∧ win0_1.index t 0 = 0 ∧ win0_1.index t 1 = t.val / 2
    ∧ win0_2.index t 0 = t.val / 2 ∧ win0_2.index t 1 = t.val % 2 ∧ win0_2.index t 2 = 0 := by decide +kernel

/-- The first operand's block at an index. -/
theorem x_block (c : Dev nD) (t : Fin cfg0.N) (y : S2048x1024.Idx) (i : S2048x2048.Idx)
    (h0 : (i 0 : Nat) = y 0) (h1 : (i 1 : Nat) = 1024 * (t.val % 2) + y 1) :
    (iblk m c 0 t : Vec Ideal S2048x1024 .bf16) y = m ((c.tc : Thread nD τ).loc main_arg0) i := by
  obtain ⟨e0, e1, -⟩ := index_facts t
  exact at_eq (S := S2048x2048) (m ((c.tc : Thread nD τ).loc main_arg0)) (((cfg0.win 0).blk t).view.emb y) i fun a => match a with
    | ⟨0, _⟩ => by show win0_0.index t 0 * 2048 + 1 * (y 0).val = (i 0).val; rw [e0, h0]; omega
    | ⟨1, _⟩ => by show win0_0.index t 1 * 1024 + 1 * (y 1).val = (i 1).val; rw [e1, h1]; omega

/-- The second operand's block at an index. -/
theorem ct_block (c : Dev nD) (t : Fin cfg0.N) (y : S2048x1024.Idx) (i : S2048x4096.Idx)
    (h0 : (i 0 : Nat) = y 0) (h1 : (i 1 : Nat) = 1024 * (t.val / 2) + y 1) :
    (iblk m c 1 t : Vec Ideal S2048x1024 .bf16) y = m ((c.tc : Thread nD τ).loc main_arg1) i := by
  obtain ⟨-, -, e0, e1, -⟩ := index_facts t
  exact at_eq (S := S2048x4096) (m ((c.tc : Thread nD τ).loc main_arg1)) (((cfg0.win 1).blk t).view.emb y) i fun a => match a with
    | ⟨0, _⟩ => by show win0_1.index t 0 * 2048 + 1 * (y 0).val = (i 0).val; rw [e0, h0]; omega
    | ⟨1, _⟩ => by show win0_1.index t 1 * 1024 + 1 * (y 1).val = (i 1).val; rw [e1, h1]; omega

/-- The gradient as an array of column blocks. -/
def grad (x : S2048x2048.Idx → EReal) (ct : S2048x4096.Idx → EReal) : S4x2048x1024.Idx → EReal :=
  fun i => entry x ct (i 0) (i 1) (i 2)

/-- What the kernel's result array holds after the run. -/
abbrev result (c : Dev nD) : Buf (Elt Ideal) ((c.tc : Thread nD τ).loc main_v0) :=
  grad (m ((c.tc : Thread nD τ).loc main_arg0)) (m ((c.tc : Thread nD τ).loc main_arg1))

/-- Point `t` writes back block `t` of the gradient. -/
theorem flushed_eq (c : Dev nD) (t : Fin cfg0.N) :
    (dats m 0 c).flushed 2 t = ((cfg0.win 2).blk t).view.read (Elt Ideal) (result m c) := by
  obtain ⟨-, -, -, -, e0, e1, e2⟩ := index_facts t
  have hN : t.val < 8 := t.isLt
  rw [Value.flushed2]
  funext y
  rw [View.read_apply]
  show (out0_2 (iblk m c 0 t) (iblk m c 1 t) y : EReal) = grad _ _ (((cfg0.win 2).blk t).view.emb y)
  refine (out_apply _ _ y).trans ?_
  have hy0 : (y 0 : Nat) < 1 := (y 0).isLt
  have hy1 : (y 1 : Nat) < 1024 := (y 1).isLt
  have hy2 : (y 2 : Nat) < 1024 := (y 2).isLt
  have v0 : (((cfg0.win 2).blk t).view.emb y 0 : Nat) = t.val / 2 := by
    show win0_2.index t 0 * 1 + 1 * (y 0).val = _; rw [e0]; omega
  have v1 : (((cfg0.win 2).blk t).view.emb y 1 : Nat) = 1024 * (t.val % 2) + y 1 := by
    show win0_2.index t 1 * 1024 + 1 * (y 1).val = _; rw [e1]; omega
  have v2 : (((cfg0.win 2).blk t).view.emb y 2 : Nat) = y 2 := by
    show win0_2.index t 2 * 1024 + 1 * (y 2).val = _; rw [e2]; omega
  unfold grad entry
  refine Finset.sum_congr rfl fun k _ => ?_
  rw [x_block m c t (ix2 k (y 1)) (ix2 k (((cfg0.win 2).blk t).view.emb y 1)) rfl v1,
    ct_block m c t (ix2 k (y 2)) (ix2 k ⟨1024 * (((cfg0.win 2).blk t).view.emb y 0 : Nat) + (((cfg0.win 2).blk t).view.emb y 2 : Nat), by omega⟩) rfl
      (by show 1024 * (((cfg0.win 2).blk t).view.emb y 0 : Nat) + (((cfg0.win 2).blk t).view.emb y 2 : Nat) = 1024 * (t.val / 2) + (y 2 : Nat)
          rw [v0, v2])]

/-- Every index of the result lies in some point's block. -/
theorem covered (c : Dev nD) (i : ((cfg0.win 2).arr.view.loc (c.tc : Thread nD τ)).2.ty.Idx) : ∃ t : Fin cfg0.N, (cfg0.win 2).flush t = true ∧ i ∈ ((cfg0.win 2).blk t).view.set := by
  have h0 : (i 0 : Nat) < 4 := (i 0).isLt
  have h1 : (i 1 : Nat) < 2048 := (i 1).isLt
  have h2 : (i 2 : Nat) < 1024 := (i 2).isLt
  have hN : cfg0.N = 8 := N_0
  obtain ⟨t, ht⟩ : ∃ t : Fin cfg0.N, t.val = 2 * (i 0).val + (i 1).val / 1024 := ⟨⟨_, by omega⟩, rfl⟩
  refine ⟨t, flush0_2 t, ?_⟩
  obtain ⟨-, -, -, -, e0, e1, e2⟩ := index_facts t
  show i ∈ ((View.whole main_v0).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [e0]; omega
  | ⟨1, _⟩ => show win0_2.index t 1 * 1024 ≤ (i 1 : Nat) ∧ (i 1 : Nat) < win0_2.index t 1 * 1024 + 1024
              rw [e1]; omega
  | ⟨2, _⟩ => show win0_2.index t 2 * 1024 ≤ (i 2 : Nat) ∧ (i 2 : Nat) < win0_2.index t 2 * 1024 + 1024
              rw [e2]; omega

/-- So the result array holds the gradient. -/
theorem final_eq (c : Dev nD) : (dats m 0 c).arrAt 2 cfg0.N = result m c :=
  (dats m 0 c).arrAt_eq_of_cover 2 (result m c) (fun t _ => flushed_eq m c t) (covered c)

/-- The reference's term read at an index. -/
theorem ref_entry (x : Vec Ideal S2048x2048 .bf16) (ct : Vec Ideal S2048x4096 .bf16) (h : FTy.bits .bf16 < FTy.bits .f32)
    (h1 : Cert.Reference9Ideal.S4096x2048.Transposes [1, 0] S2048x4096) (hs : S2048x4096.ShapeCasts Cert.Reference9Ideal.S2048x4x1024)
    (h2 : Cert.Reference9Ideal.S2048x4x1024.Transposes [1, 0, 2] S4x2048x1024) (i : S4x2048x1024.Idx) :
    truncf .bf16 (transpose S4x2048x1024 [1, 0, 2] (shapeCast Cert.Reference9Ideal.S2048x4x1024 (transpose S2048x4096 [1, 0]
      (Host.dotGeneral (F := Ideal) Cert.Reference9Ideal.dot_S2048x4096_S2048x2048_S4096x2048_0_0_1_1_n_n none (extf .f32 ct h) (extf .f32 x h)) h1) hs) h2) h i
      = grad x ct i := by
  unfold grad entry
  pointwise []
  refine Finset.sum_congr rfl fun k _ => (mul_comm _ _).trans ?_
  simp only [Nat.mul_comm 1024]

/-- The idealized kernel and the idealized reference leave the same gradient. -/
theorem value : Cert.algebraic_Kernel9Ideal_Reference9Ideal (hKernel9Ideal := Cert.Kernel9Ideal.Gen.facts)
    (hReference9Ideal := Cert.Reference9Ideal.Gen.facts) := by
  intro m g m' g' _ hargs
  refine ⟨fun c => result m c, ?_, ?_⟩
  · exact (θ_run _ _ _).mono (fun r h c => ⟨(h c).1.trans (final_eq m c), (h c).2⟩) (Value.run_blocks m g)
  · refine (θ_run _ _ _).mono (fun r h c => ⟨(h c).1.trans ?_, (h c).2⟩) (Cert.Reference9Ideal.Value.run (F := Ideal) m' g')
    rw [(hargs c).1, (hargs c).2]
    funext i
    exact ref_entry _ _ _ _ _ _ i

end Cert.MixGwin

end
-- ==== Proof.MixDx.lean ====
/- The gradient of the mixer's input: the product with the transposed weight, summed over four blocks of the inner width,
and the scaled residual. -/
module

public import proofs.«01_k».proof.Defs
public import proofs.«01_k».proof.Proof.Gen.Kernel10Ideal.Value
public import proofs.«01_k».proof.Proof.Gen.Reference10Ideal.Run
public import proofs.«01_k».proof.Proof.Blocks
public import proofs.«01_k».proof.Proof.Consts
public import Idealize.ShloMosaic.Lib.Pipeline.Value
public import Idealize.ShloMosaic.Lib.Pointwise

@[expose] public section

set_option maxRecDepth 16384

noncomputable section

namespace Cert.MixDx

open Idealize.ShloMosaic Idealize.ShloMosaic.TcCoe Idealize.SL.Sem
open Cert.Kernel10Ideal Cert.Kernel10Ideal.Gen
open Cert.Consts Cert.Blocks

variable (m : (ℓ : Loc nD τ sig) → Buf (Elt Ideal) ℓ)

/-- The kernel's named constant. -/
theorem named_alpha : Named.named (F := Ideal) κ "alpha" (φ := .f32) 0x3FD744FD#32 = alpha :=
  IdealRules.named_const.ideal_named_scalar _ _ _ _ rfl

/-- The product of a cotangent with the transposed weight, the weight in column blocks. -/
def back (x : S2048x4096.Idx → EReal) (w : S4x2048x1024.Idx → EReal) (r q : Fin 2048) : EReal :=
  ∑ k : Fin 4096, x (ix2 r k) * w (ix3 ⟨k.val / 1024, by omega⟩ q ⟨k.val % 1024, by omega⟩)

/-- The product of one block of the inner width at an index. -/
def part (x0 : Vec Ideal S512x1024 .bf16) (x1 : Vec Ideal S1x2048x1024 .bf16) (y : S512x2048.Idx) : EReal :=
  ∑ k : Fin 1024, (x0 (ix2 (y 0) k) : EReal) * x1 (ix3 0 (y 1) k)

/-- The update of the running sum at an index. -/
theorem pay2_apply (x0 : Vec Ideal S512x1024 .bf16) (x1 : Vec Ideal S1x2048x1024 .bf16) (a : Vec Ideal S512x2048 .f32) (y : S512x2048.Idx) :
    (k0_pay2 x0 x1 a y : EReal) = (a y : EReal) + part x0 x1 y := by
  unfold part
  pointwise [k0_pay2]

theorem pay1_apply (y : S512x2048.Idx) : (k0_pay1 (F := Ideal) y : EReal) = 0 := by pointwise [k0_pay1]

/-- The result of the running sum and the residual at an index. -/
theorem pay3_apply (a d : Vec Ideal S512x2048 .f32) (y : S512x2048.Idx) :
    (k0_pay3 a d y : EReal) = alpha * d y + a y := by
  unfold k0_pay3
  rw [named_alpha]
  pointwise []

section Cases
variable (c : Dev nD) (i : grid0.Coords) (arg2 : Memref sig .tc .vmem S512x1024 .bf16) (harg2 : arg2.IsWhole)
  (arg3 : Memref sig .tc .vmem S1x2048x1024 .bf16) (harg3 : arg3.IsWhole) (arg4 : Memref sig .tc .vmem S512x2048 .f32) (harg4 : arg4.IsWhole)
  (arg5 : Memref sig .tc .vmem S512x2048 .f32) (harg5 : arg5.IsWhole) (arg6 : Memref sig .tc .vmem S512x2048 .f32) (harg6 : arg6.IsWhole)
  (x0 : Vec Ideal S512x1024 .bf16) (x1 : Vec Ideal S1x2048x1024 .bf16) (x2 xs0 : Vec Ideal S512x2048 .f32)

/-- The first point of a row block starts the sum from zero, -/
theorem sout_A (hc0 : cond0_0 i) (hc1 : ¬cond0_1 i) :
    sout0_A_0 c i arg2 harg2 arg3 harg3 arg4 harg4 arg5 harg5 arg6 harg6 hc0 hc1 x0 x1 x2
      = k0_pay2 x0 x1 (k0_pay1 (F := Ideal)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x2048) hz2, View.readCov_unit_zero (S := S512x2048) _ hz2]
  simp only [View.readAt_eq_ld, harg2.read_unread, harg3.read_unread,
    View.ld_unit_zero (S := S512x1024) hz2, View.ld_unit_zero (S := S1x2048x1024) hz3]

/-- the points between add their products to it, -/
theorem sout_B (hc0 : ¬cond0_0 i) (hc1 : ¬cond0_1 i) :
    sout0_B_0 c i arg2 harg2 arg3 harg3 arg4 harg4 arg5 harg5 arg6 harg6 hc0 hc1 x0 x1 x2 xs0
      = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg6.read_unread,
    View.ld_unit_zero (S := S512x1024) hz2, View.ld_unit_zero (S := S1x2048x1024) hz3, View.ld_unit_zero (S := S512x2048) hz2]

/-- and so does the last, -/
theorem sout_C (hc0 : ¬cond0_0 i) (hc1 : cond0_1 i) :
    sout0_C_0 c i arg2 harg2 arg3 harg3 arg4 harg4 arg5 harg5 arg6 harg6 hc0 hc1 x0 x1 x2 xs0
      = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread,
    View.ld_unit_zero (S := S512x1024) hz2, View.ld_unit_zero (S := S1x2048x1024) hz3, View.ld_unit_zero (S := S512x2048) hz2]

/-- which writes the result from the whole sum. -/
theorem out_C (hc0 : ¬cond0_0 i) (hc1 : cond0_1 i) :
    out0_C_3 c i arg2 harg2 arg3 harg3 arg4 harg4 arg5 harg5 arg6 harg6 hc0 hc1 x0 x1 x2 xs0
      = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg6.read_unread,
    View.ld_unit_zero (S := S512x1024) hz2, View.ld_unit_zero (S := S1x2048x1024) hz3, View.ld_unit_zero (S := S512x2048) hz2]

end Cases

/-- The part of point `n`, at an index of the block. -/
def partAt (c : Dev nD) (y : S512x2048.Idx) (n : ℕ) : EReal :=
  if h : n < cfg0.N then part (iblk m c 0 ⟨n, h⟩) (iblk m c 1 ⟨n, h⟩) y else 0

/-- The running sum after point `n`, at an index of the block. -/
def accAt (c : Dev nD) (y : S512x2048.Idx) (n : ℕ) (hn : n < cfg0.N) : EReal := (outsAt0 m c n hn).2 y

theorem acc_reset (c : Dev nD) (y : S512x2048.Idx) (n : ℕ) (hn : n < cfg0.N) (h : n % 4 = 0) : accAt m c y n hn = partAt m c y n := by
  unfold accAt partAt
  rw [outsAt0_A m c ⟨n, hn⟩ h (by show ¬n % 4 = 3; omega), dif_pos hn]
  dsimp only
  rw [sout_A]
  exact ((pay2_apply _ _ _ y).trans (congrArg (· + _) (pay1_apply y))).trans (zero_add _)

theorem acc_step (c : Dev nD) (y : S512x2048.Idx) (n : ℕ) (hn : n < cfg0.N) (h : ¬n % 4 = 0) :
    accAt m c y n hn = accAt m c y (n - 1) (Nat.lt_of_le_of_lt (Nat.sub_le n 1) hn) + partAt m c y n := by
  unfold accAt partAt
  rw [dif_pos hn]
  by_cases h3 : n % 4 = 3
  · rw [outsAt0_C m c ⟨n, hn⟩ h h3]
    dsimp only
    rw [sout_C]
    exact pay2_apply _ _ _ y
  · rw [outsAt0_B m c ⟨n, hn⟩ h h3]
    dsimp only
    rw [sout_B]
    exact pay2_apply _ _ _ y

/-- Where the blocks of grid point `t` lie: the row block is `t / 4`, the block of the inner width `t % 4`. -/
theorem index_facts : ∀ t : Fin grid0.N, (win0_0.index t 0 = t.val / 4 ∧ win0_0.index t 1 = t.val % 4)
    ∧ (win0_1.index t 0 = t.val % 4 ∧ win0_1.index t 1 = 0 ∧ win0_1.index t 2 = 0)
    ∧ (win0_2.index t 0 = t.val / 4 ∧ win0_2.index t 1 = 0)
    ∧ (win0_3.index t 0 = t.val / 4 ∧ win0_3.index t 1 = 0) := by decide +kernel

/-- The cotangent's block at an index. -/
theorem block0 (c : Dev nD) (t : Fin cfg0.N) (y : S512x1024.Idx) (i : S2048x4096.Idx)
    (h0 : (i 0 : Nat) = 512 * (t.val / 4) + y 0) (h1 : (i 1 : Nat) = 1024 * (t.val % 4) + y 1) :
    (iblk m c 0 t : Vec Ideal S512x1024 .bf16) y = m ((c.tc : Thread nD τ).loc main_arg0) i := by
  obtain ⟨⟨e0, e1⟩, -⟩ := index_facts t
  exact at_eq (S := S2048x4096) (m ((c.tc : Thread nD τ).loc main_arg0)) (((cfg0.win 0).blk t).view.emb y) i fun a => match a with
    | ⟨0, _⟩ => by show win0_0.index t 0 * 512 + 1 * (y 0).val = (i 0).val; rw [e0, h0]; omega
    | ⟨1, _⟩ => by show win0_0.index t 1 * 1024 + 1 * (y 1).val = (i 1).val; rw [e1, h1]; omega

/-- The weight's block at an index. -/
theorem block1 (c : Dev nD) (t : Fin cfg0.N) (y : S1x2048x1024.Idx) (i : S4x2048x1024.Idx)
    (h0 : (i 0 : Nat) = t.val % 4) (h1 : (i 1 : Nat) = y 1) (h2 : (i 2 : Nat) = y 2) :
    (iblk m c 1 t : Vec Ideal S1x2048x1024 .bf16) y = m ((c.tc : Thread nD τ).loc main_arg1) i := by
  obtain ⟨-, ⟨e0, e1, e2⟩, -⟩ := index_facts t
  have hy : (y 0 : Nat) < 1 := (y 0).isLt
  exact at_eq (S := S4x2048x1024) (m ((c.tc : Thread nD τ).loc main_arg1)) (((cfg0.win 1).blk t).view.emb y) i fun a => match a with
    | ⟨0, _⟩ => by show win0_1.index t 0 * 1 + 1 * (y 0).val = (i 0).val; rw [e0, h0]; omega
    | ⟨1, _⟩ => by show win0_1.index t 1 * 2048 + 1 * (y 1).val = (i 1).val; rw [e1, h1]; omega
    | ⟨2, _⟩ => by show win0_1.index t 2 * 1024 + 1 * (y 2).val = (i 2).val; rw [e2, h2]; omega

/-- The residual's block at an index. -/
theorem block2 (c : Dev nD) (t : Fin cfg0.N) (y : S512x2048.Idx) (i : S2048x2048.Idx)
    (h0 : (i 0 : Nat) = 512 * (t.val / 4) + y 0) (h1 : (i 1 : Nat) = y 1) :
    (iblk m c 2 t : Vec Ideal S512x2048 .f32) y = m ((c.tc : Thread nD τ).loc main_arg2) i := by
  obtain ⟨-, -, ⟨e0, e1⟩, -⟩ := index_facts t
  exact at_eq (S := S2048x2048) (m ((c.tc : Thread nD τ).loc main_arg2)) (((cfg0.win 2).blk t).view.emb y) i fun a => match a with
    | ⟨0, _⟩ => by show win0_2.index t 0 * 512 + 1 * (y 0).val = (i 0).val; rw [e0, h0]; omega
    | ⟨1, _⟩ => by show win0_2.index t 1 * 2048 + 1 * (y 1).val = (i 1).val; rw [e1, h1]; omega

/-- The product of the launched arrays. -/
abbrev backs (c : Dev nD) : S2048x2048.Idx → EReal := fun i =>
  back (m ((c.tc : Thread nD τ).loc main_arg0)) (m ((c.tc : Thread nD τ).loc main_arg1)) (i 0) (i 1)

/-- The gradient of the launched arrays. -/
abbrev dx (c : Dev nD) : S2048x2048.Idx → EReal := fun i => alpha * m ((c.tc : Thread nD τ).loc main_arg2) i + backs m c i

/-- After a row block's last point the running sum is the product at the index where the block's entry lies. -/
theorem acc_last (c : Dev nD) (t : Fin cfg0.N) (ht : t.val % 4 = 3) (y : S512x2048.Idx) (i : S2048x2048.Idx)
    (h0 : (i 0 : Nat) = 512 * (t.val / 4) + y 0) (h1 : (i 1 : Nat) = y 1) : accAt m c y t.val t.isLt = backs m c i := by
  have hN : t.val < 16 := t.isLt
  rw [Cert.Blocks.run_sum cfg0.N (accAt m c y) (partAt m c y) (acc_reset m c y) (acc_step m c y) t.val t.isLt, ht]
  unfold backs back
  refine Cert.Blocks.sum_blocks 4096 1024 rfl _ (fun j => partAt m c y (4 * (t.val / 4) + j)) fun j hj => ?_
  have hs : 4 * (t.val / 4) + j < cfg0.N := by show _ < 16; omega
  have hq : (4 * (t.val / 4) + j) / 4 = t.val / 4 := by omega
  have hr : (4 * (t.val / 4) + j) % 4 = j := by omega
  dsimp only
  unfold partAt
  rw [dif_pos hs]
  unfold part
  refine Finset.sum_congr rfl fun k _ => ?_
  have hk : k.val < 1024 := k.isLt
  rw [block0 m c ⟨_, hs⟩ (ix2 (y 0) k) (ix2 (i 0) ⟨1024 * j + k.val, by omega⟩) (by show (i 0).val = 512 * ((4 * (t.val / 4) + j) / 4) + (y 0).val; rw [hq]; exact h0)
      (by show 1024 * j + k.val = 1024 * ((4 * (t.val / 4) + j) % 4) + k.val; rw [hr]),
    block1 m c ⟨_, hs⟩ (ix3 0 (y 1) k) (ix3 ⟨(1024 * j + k.val) / 1024, by omega⟩ (i 1) ⟨(1024 * j + k.val) % 1024, by omega⟩)
      (by show (1024 * j + k.val) / 1024 = (4 * (t.val / 4) + j) % 4; omega) h1 (by show (1024 * j + k.val) % 1024 = k.val; omega)]

/-- What a row block's last point writes back is its block of the gradient. -/
theorem flushed_eq (c : Dev nD) (t : Fin cfg0.N) (hf : (cfg0.win 3).flush t = true) :
    (dats m 0 c).flushed 3 t = ((cfg0.win 3).blk t).view.read (Elt Ideal) (dx m c) := by
  have ht : t.val % 4 = 3 := (flush0_3 t).mp hf
  obtain ⟨-, -, -, ⟨e0, e1⟩⟩ := index_facts t
  have hacc : (fun y => (accAt m c y t.val t.isLt : EReal)) = (outsAt0 m c t.val t.isLt).2 := rfl
  rw [outsAt0_C m c t (by omega) ht] at hacc
  dsimp only at hacc
  rw [sout_C] at hacc
  rw [Value.flushed3_C m c t (by omega) ht, out_C, ← hacc]
  funext y
  rw [View.read_apply]
  have h0 : (((cfg0.win 3).blk t).view.emb y 0 : Nat) = 512 * (t.val / 4) + (y 0).val := by
    show win0_3.index t 0 * 512 + 1 * (y 0).val = 512 * (t.val / 4) + (y 0).val; rw [e0]; omega
  have h1 : (((cfg0.win 3).blk t).view.emb y 1 : Nat) = (y 1).val := by
    show win0_3.index t 1 * 2048 + 1 * (y 1).val = (y 1).val; rw [e1]; omega
  refine (pay3_apply _ _ y).trans ?_
  rw [block2 m c t y _ h0 h1]
  dsimp only
  rw [acc_last m c t ht y _ h0 h1]
  rfl

theorem covered (i : S2048x2048.Idx) : ∃ t : Fin cfg0.N, (cfg0.win 3).flush t = true ∧ i ∈ ((cfg0.win 3).blk t).view.set :=
  (Value.covered_iff3 i).2 (by
    have h0 : (i 0).val < 2048 := (i 0).isLt; have h1 : (i 1).val < 2048 := (i 1).isLt; omega)

/-- The reference's product read at an index. -/
theorem ref_back (x : Vec Ideal S2048x4096 .bf16) (w : Vec Ideal S4x2048x1024 .bf16) (h : FTy.bits .bf16 < FTy.bits .f32)
    (ht : S4x2048x1024.Transposes [1, 0, 2] Cert.Reference10Ideal.S2048x4x1024)
    (hs : Cert.Reference10Ideal.S2048x4x1024.ShapeCasts S2048x4096) (i : S2048x2048.Idx) :
    Host.dotGeneral (F := Ideal) Cert.Reference10Ideal.dot_S2048x4096_S2048x4096_S2048x2048_1_1_0_0_n_n none (extf .f32 x h)
      (shapeCast S2048x4096 (transpose Cert.Reference10Ideal.S2048x4x1024 [1, 0, 2] (extf .f32 w h) ht) hs) i = back x w (i 0) (i 1) := by
  unfold back
  pointwise []

/-- The reference's sum read at an index. -/
theorem ref_dx (D d : Vec Ideal S2048x2048 .f32) (hb : Cert.Reference10Ideal.S_.BroadcastsInDim S2048x2048 (![] : Fin 0 → Fin S2048x2048.rank))
    (i : S2048x2048.Idx) (b : EReal) (h : D i = b) :
    addf (mulf (broadcastInDim S2048x2048 ![] hb (Host.sqrt (Host.sqrt (constant (F := Ideal) Cert.Reference10Ideal.S_ .f32 0x41000000#32)))) d) D i
      = alpha * d i + b := by
  subst h
  rw [← host_alpha Cert.Reference10Ideal.S_ (fun a => a.elim0)]
  pointwise []

/-- The idealized kernel and the idealized reference leave the same gradient. -/
theorem value : Cert.algebraic_Kernel10Ideal_Reference10Ideal (hKernel10Ideal := Cert.Kernel10Ideal.Gen.facts)
    (hReference10Ideal := Cert.Reference10Ideal.Gen.facts) := by
  intro m g m' g' _ hargs
  refine ⟨fun c => dx m c, ?_, ?_⟩
  · exact (θ_run _ _ _).mono (fun r h c =>
      ⟨(h c).1.trans ((dats m 0 c).arrAt_eq_of_cover 3 (dx m c) (fun t hf => flushed_eq m c t hf) covered), (h c).2⟩) (Value.run_blocks m g)
  · refine (θ_run _ _ _).mono (fun r h c => ⟨(h c).1.trans ?_, (h c).2⟩) (Cert.Reference10Ideal.Value.run (F := Ideal) m' g')
    rw [(hargs c).1, (hargs c).2.1, (hargs c).2.2]
    funext i
    exact ref_dx _ _ _ i _ (ref_back _ _ _ _ _ i)

end Cert.MixDx

end
-- ==== Proof.MixOut.lean ====
/- The mixer's second product, the residual and the layer norm. -/
module

public import proofs.«01_k».proof.Defs
public import proofs.«01_k».proof.Proof.Gen.Kernel11Ideal.Value
public import proofs.«01_k».proof.Proof.Gen.Reference11Ideal.Run
public import proofs.«01_k».proof.Proof.Blocks
public import proofs.«01_k».proof.Proof.Norm
public import Idealize.ShloMosaic.Lib.Pipeline.Value

@[expose] public section

set_option maxRecDepth 16384

noncomputable section

namespace Cert.MixOut

open Idealize.ShloMosaic Idealize.ShloMosaic.TcCoe Idealize.SL.Sem
open Cert.Kernel11Ideal Cert.Kernel11Ideal.Gen
open Cert.Consts Cert.Blocks Cert.Norm

variable (m : (ℓ : Loc nD τ sig) → Buf (Elt Ideal) ℓ)

/-- The kernel's named constants. -/
theorem named_alpha : Named.named (F := Ideal) κ "alpha" (φ := .f32) 0x3FD744FD#32 = alpha :=
  IdealRules.named_const.ideal_named_scalar _ _ _ _ rfl
theorem named_eps : (Named.named (F := Ideal) κ "eps" (φ := .f32) 0x3727C5AC#32 : EReal) = eps :=
  IdealRules.named_const.ideal_named_scalar _ _ _ _ rfl

/-- The product with a weight in row blocks. -/
def prod (x : S2048x2048.Idx → EReal) (w : S4x512x2048.Idx → EReal) (r q : Fin 2048) : EReal :=
  ∑ k : Fin 2048, x (ix2 r k) * w (ix3 ⟨k.val / 512, by omega⟩ ⟨k.val % 512, by omega⟩ q)

/-- The product of one block of the inner width at an index. -/
def part (x0 : Vec Ideal S512x512 .bf16) (x1 : Vec Ideal S1x512x2048 .bf16) (y : S512x2048.Idx) : EReal :=
  ∑ k : Fin 512, (x0 (ix2 (y 0) k) : EReal) * x1 (ix3 0 k (y 1))

/-- The update of the running sum at an index. -/
theorem pay2_apply (x0 : Vec Ideal S512x512 .bf16) (x1 : Vec Ideal S1x512x2048 .bf16) (a : Vec Ideal S512x2048 .f32) (y : S512x2048.Idx) :
    (k0_pay2 x0 x1 a y : EReal) = (a y : EReal) + part x0 x1 y := by
  unfold part
  pointwise [k0_pay2]

theorem pay1_apply (y : S512x2048.Idx) : (k0_pay1 (F := Ideal) y : EReal) = 0 := by pointwise [k0_pay1]

/-- The residual's sum of one entry. -/
def res (x a : EReal) : EReal := alpha * x + a

/-- The block's rows before the norm, as the kernel computes them, -/
def rows (a x : Vec Ideal S512x2048 .f32) : FVec Ideal S512x2048 .f32 :=
  addf (mulf (broadcast S512x2048 (Named.named κ "alpha" 0x3FD744FD#32)) x) a

/-- and read at an index. -/
theorem rows_apply (a x : Vec Ideal S512x2048 .f32) (y : S512x2048.Idx) : (rows a x y : EReal) = res (x y) (a y) := by
  unfold rows res
  rw [named_alpha]
  pointwise []

theorem rows_row (a x : Vec Ideal S512x2048 .f32) (p : Fin 512) :
    (fun q => (rows a x (ix2 p q) : EReal)) = fun q => res (x (ix2 p q)) (a (ix2 p q)) :=
  funext fun q => rows_apply a x (ix2 p q)

/-- The four results of the running sum, the residual, the gain and the shift at an index. -/
theorem pay6_apply (a x : Vec Ideal S512x2048 .f32) (g b : Vec Ideal S1x2048 .f32) (y : S512x2048.Idx) :
    (k0_pay6 a x g b y : EReal)
      = ln (fun q => res (x (ix2 (y 0) q)) (a (ix2 (y 0) q))) (fun q => g (ix2 0 q)) (fun q => b (ix2 0 q)) (y 1) :=
  (kln_apply (rows a x) reduces_S512x2048_S512 shapeCasts_S512_S512x1 broadcasts_S512x1_S512x2048 _ g b
    broadcasts_S1x2048_S512x2048 named_eps y).trans (congrArg (fun f => ln f _ _ (y 1)) (rows_row a x (y 0)))

theorem pay5_apply (a x : Vec Ideal S512x2048 .f32) (y : S512x2048.Idx) :
    (k0_pay5 a x y : EReal) = xhat (fun q => res (x (ix2 (y 0) q)) (a (ix2 (y 0) q))) (y 1) :=
  (kxhat_apply (rows a x) reduces_S512x2048_S512 shapeCasts_S512_S512x1 broadcasts_S512x1_S512x2048 _ named_eps y).trans
    (congrArg (fun f => xhat f (y 1)) (rows_row a x (y 0)))

theorem pay7_apply (a x : Vec Ideal S512x2048 .f32) (y : S512x128.Idx) :
    (k0_pay7 a x y : EReal) = rstd (fun q => res (x (ix2 (y 0) q)) (a (ix2 (y 0) q))) :=
  (krstd_apply (rows a x) reduces_S512x2048_S512 shapeCasts_S512_S512x1 broadcasts_S512x1_S512x2048 _
    broadcasts_S512x1_S512x128 shapeCasts_S512x1_S512x1 named_eps y).trans (congrArg rstd (rows_row a x (y 0)))

section Cases
variable (c : Dev nD) (i : grid0.Coords) (arg2 : Memref sig .tc .vmem S512x512 .bf16) (harg2 : arg2.IsWhole)
  (arg3 : Memref sig .tc .vmem S1x512x2048 .bf16) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S512x2048 .f32) (harg7 : arg7.IsWhole) (arg8 : Memref sig .tc .vmem S512x2048 .bf16) (harg8 : arg8.IsWhole)
  (arg9 : Memref sig .tc .vmem S512x2048 .f32) (harg9 : arg9.IsWhole) (arg10 : Memref sig .tc .vmem S512x128 .f32) (harg10 : arg10.IsWhole)
  (arg11 : Memref sig .tc .vmem S512x2048 .f32) (harg11 : arg11.IsWhole)
  (x0 : Vec Ideal S512x512 .bf16) (x1 : Vec Ideal S1x512x2048 .bf16) (x2 : Vec Ideal S512x2048 .f32) (x3 x4 : Vec Ideal S1x2048 .f32)
  (xs0 : Vec Ideal S512x2048 .f32)

/-- The first point of a row block starts the sum from zero, -/
theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4
      = k0_pay2 x0 x1 (k0_pay1 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S512x2048) hz2, View.readCov_unit_zero (S := S512x2048) _ hz2]
  simp only [View.readAt_eq_ld, harg2.read_unread, harg3.read_unread,
    View.ld_unit_zero (S := S512x512) hz2, View.ld_unit_zero (S := S1x512x2048) hz3]

/-- the points between add their product to it, -/
theorem sout_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 xs0
      = k0_pay2 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0)]
  unfold kernelRun0_B
  dsimp only
  rw [View.canon_unit_zero hz2]
  simp only [View.readAt_eq_ld, harg2.read_unread, harg3.read_unread, harg11.read_unread,
    View.ld_unit_zero (S := S512x512) hz2, View.ld_unit_zero (S := S1x512x2048) hz3, View.ld_unit_zero (S := S512x2048) hz2]

/-- and so does the last, -/
theorem sout_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 xs0
      = k0_pay2 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2]
  simp only [View.readAt_eq_ld, harg2.read_unread, harg3.read_unread, harg11.read_unread,
    View.ld_unit_zero (S := S512x512) hz2, View.ld_unit_zero (S := S1x512x2048) hz3, View.ld_unit_zero (S := S512x2048) hz2]

/-- which writes the four results from the whole sum. -/
theorem out_C_5 (hc0 : ¬cond0_0 i) (hc1 : cond0_1 i) :
    out0_C_5 c i arg2 harg2 arg3 harg3 arg4 harg4 arg5 harg5 arg6 harg6 arg7 harg7 arg8 harg8 arg9 harg9 arg10 harg10 arg11 harg11 hc0 hc1 x0 x1 x2 x3 x4 xs0
      = k0_pay6 (k0_pay2 x0 x1 xs0) x2 x3 x4 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg5.read_unread, harg6.read_unread, harg11.read_unread,
    View.ld_unit_zero (S := S512x512) hz2, View.ld_unit_zero (S := S1x512x2048) hz3, View.ld_unit_zero (S := S512x2048) hz2, View.ld_unit_zero (S := S1x2048) hz2]

theorem out_C_6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 hc0 hc1 x0 x1 x2 x3 x4 xs0
      = k0_pay8 (k0_pay2 x0 x1 xs0) x2 x3 x4 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg5.read_unread, harg6.read_unread, harg11.read_unread,
    View.ld_unit_zero (S := S512x512) hz2, View.ld_unit_zero (S := S1x512x2048) hz3, View.ld_unit_zero (S := S512x2048) hz2, View.ld_unit_zero (S := S1x2048) hz2]

theorem out_C_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 xs0
      = k0_pay5 (k0_pay2 x0 x1 xs0) x2 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg11.read_unread,
    View.ld_unit_zero (S := S512x512) hz2, View.ld_unit_zero (S := S1x512x2048) hz3, View.ld_unit_zero (S := S512x2048) hz2]

theorem out_C_8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 hc0 hc1 x0 x1 x2 x3 x4 xs0
      = k0_pay7 (k0_pay2 x0 x1 xs0) x2 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 xs0)]
  unfold kernelRun0_C
  dsimp only
  sl_unfold_words
  rw [View.canon_unit_zero hz2, View.readCov_unit_zero (S := S512x2048) _ hz2]
  simp only [View.readAt_eq_ld, harg2.read_unread, harg3.read_unread, harg4.read_unread, harg11.read_unread,
    View.ld_unit_zero (S := S512x512) hz2, View.ld_unit_zero (S := S1x512x2048) hz3, View.ld_unit_zero (S := S512x2048) hz2]

end Cases

/-- The part of point `n`, at an index of the block. -/
def partAt (c : Dev nD) (y : S512x2048.Idx) (n : ℕ) : EReal :=
  if h : n < cfg0.N then part (iblk m c 0 ⟨n, h⟩) (iblk m c 1 ⟨n, h⟩) y else 0

/-- The running sum after point `n`, at an index of the block. -/
def accAt (c : Dev nD) (y : S512x2048.Idx) (n : ℕ) (hn : n < cfg0.N) : EReal := (outsAt0 m c n hn).2.2.2.2 y

theorem acc_reset (c : Dev nD) (y : S512x2048.Idx) (n : ℕ) (hn : n < cfg0.N) (h : n % 4 = 0) : accAt m c y n hn = partAt m c y n := by
  unfold accAt partAt
  rw [outsAt0_A m c ⟨n, hn⟩ h (by show ¬n % 4 = 3; omega), dif_pos hn]
  dsimp only
  rw [sout_A]
  exact ((pay2_apply _ _ _ y).trans (congrArg (· + _) (pay1_apply y))).trans (zero_add _)

theorem acc_step (c : Dev nD) (y : S512x2048.Idx) (n : ℕ) (hn : n < cfg0.N) (h : ¬n % 4 = 0) :
    accAt m c y n hn = accAt m c y (n - 1) (Nat.lt_of_le_of_lt (Nat.sub_le n 1) hn) + partAt m c y n := by
  unfold accAt partAt
  rw [dif_pos hn]
  by_cases h3 : n % 4 = 3
  · rw [outsAt0_C m c ⟨n, hn⟩ h h3]
    dsimp only
    rw [sout_C]
    exact pay2_apply _ _ _ y
  · rw [outsAt0_B m c ⟨n, hn⟩ h h3]
    dsimp only
    rw [sout_B]
    exact pay2_apply _ _ _ y

/-- Where the blocks of grid point `t` lie: the row block is `t / 4`, the block of the inner width `t % 4`. -/
theorem index_facts : ∀ t : Fin grid0.N, (win0_0.index t 0 = t.val / 4 ∧ win0_0.index t 1 = t.val % 4)
    ∧ (win0_1.index t 0 = t.val % 4 ∧ win0_1.index t 1 = 0 ∧ win0_1.index t 2 = 0)
    ∧ (win0_2.index t 0 = t.val / 4 ∧ win0_2.index t 1 = 0)
    ∧ (win0_3.index t 0 = 0 ∧ win0_3.index t 1 = 0)
    ∧ (win0_4.index t 0 = 0 ∧ win0_4.index t 1 = 0) := by decide +kernel

theorem index_facts_out : ∀ t : Fin grid0.N, (win0_5.index t 0 = t.val / 4 ∧ win0_5.index t 1 = 0)
    ∧ (win0_6.index t 0 = t.val / 4 ∧ win0_6.index t 1 = 0)
    ∧ (win0_7.index t 0 = t.val / 4 ∧ win0_7.index t 1 = 0)
    ∧ (win0_8.index t 0 = t.val / 4 ∧ win0_8.index t 1 = 0) := by decide +kernel

/-- The left factor's block at an index. -/
theorem block0 (c : Dev nD) (t : Fin cfg0.N) (y : S512x512.Idx) (i : S2048x2048.Idx)
    (h0 : (i 0 : Nat) = 512 * (t.val / 4) + y 0) (h1 : (i 1 : Nat) = 512 * (t.val % 4) + y 1) :
    (iblk m c 0 t : Vec Ideal S512x512 .bf16) y = m ((c.tc : Thread nD τ).loc main_arg0) i := by
  obtain ⟨⟨e0, e1⟩, -⟩ := index_facts t
  exact at_eq (S := S2048x2048) (m ((c.tc : Thread nD τ).loc main_arg0)) (((cfg0.win 0).blk t).view.emb y) i fun a => match a with
    | ⟨0, _⟩ => by show win0_0.index t 0 * 512 + 1 * (y 0).val = (i 0).val; rw [e0, h0]; omega
    | ⟨1, _⟩ => by show win0_0.index t 1 * 512 + 1 * (y 1).val = (i 1).val; rw [e1, h1]; omega

/-- The weight's block at an index. -/
theorem block1 (c : Dev nD) (t : Fin cfg0.N) (y : S1x512x2048.Idx) (i : S4x512x2048.Idx)
    (h0 : (i 0 : Nat) = t.val % 4) (h1 : (i 1 : Nat) = y 1) (h2 : (i 2 : Nat) = y 2) :
    (iblk m c 1 t : Vec Ideal S1x512x2048 .bf16) y = m ((c.tc : Thread nD τ).loc main_arg1) i := by
  obtain ⟨-, ⟨e0, e1, e2⟩, -⟩ := index_facts t
  have hy : (y 0 : Nat) < 1 := (y 0).isLt
  exact at_eq (S := S4x512x2048) (m ((c.tc : Thread nD τ).loc main_arg1)) (((cfg0.win 1).blk t).view.emb y) i fun a => match a with
    | ⟨0, _⟩ => by show win0_1.index t 0 * 1 + 1 * (y 0).val = (i 0).val; rw [e0, h0]; omega
    | ⟨1, _⟩ => by show win0_1.index t 1 * 512 + 1 * (y 1).val = (i 1).val; rw [e1, h1]; omega
    | ⟨2, _⟩ => by show win0_1.index t 2 * 2048 + 1 * (y 2).val = (i 2).val; rw [e2, h2]; omega

/-- The residual's block at an index. -/
theorem block2 (c : Dev nD) (t : Fin cfg0.N) (y : S512x2048.Idx) (i : S2048x2048.Idx)
    (h0 : (i 0 : Nat) = 512 * (t.val / 4) + y 0) (h1 : (i 1 : Nat) = y 1) :
    (iblk m c 2 t : Vec Ideal S512x2048 .f32) y = m ((c.tc : Thread nD τ).loc main_arg2) i := by
  obtain ⟨-, -, ⟨e0, e1⟩, -⟩ := index_facts t
  exact at_eq (S := S2048x2048) (m ((c.tc : Thread nD τ).loc main_arg2)) (((cfg0.win 2).blk t).view.emb y) i fun a => match a with
    | ⟨0, _⟩ => by show win0_2.index t 0 * 512 + 1 * (y 0).val = (i 0).val; rw [e0, h0]; omega
    | ⟨1, _⟩ => by show win0_2.index t 1 * 2048 + 1 * (y 1).val = (i 1).val; rw [e1, h1]; omega

/-- The gain's block is the gain. -/
theorem block3 (c : Dev nD) (t : Fin cfg0.N) : (iblk m c 3 t : Vec Ideal S1x2048 .f32) = m ((c.tc : Thread nD τ).loc main_arg3) := by
  obtain ⟨-, -, -, ⟨e0, e1⟩, -⟩ := index_facts t
  funext y
  exact at_eq (S := S1x2048) (m ((c.tc : Thread nD τ).loc main_arg3)) (((cfg0.win 3).blk t).view.emb y) y fun a => match a with
    | ⟨0, _⟩ => by show win0_3.index t 0 * 1 + 1 * (y 0).val = (y 0).val; rw [e0]; omega
    | ⟨1, _⟩ => by show win0_3.index t 1 * 2048 + 1 * (y 1).val = (y 1).val; rw [e1]; omega

/-- The shift's block is the shift. -/
theorem block4 (c : Dev nD) (t : Fin cfg0.N) : (iblk m c 4 t : Vec Ideal S1x2048 .f32) = m ((c.tc : Thread nD τ).loc main_arg4) := by
  obtain ⟨-, -, -, -, ⟨e0, e1⟩⟩ := index_facts t
  funext y
  exact at_eq (S := S1x2048) (m ((c.tc : Thread nD τ).loc main_arg4)) (((cfg0.win 4).blk t).view.emb y) y fun a => match a with
    | ⟨0, _⟩ => by show win0_4.index t 0 * 1 + 1 * (y 0).val = (y 0).val; rw [e0]; omega
    | ⟨1, _⟩ => by show win0_4.index t 1 * 2048 + 1 * (y 1).val = (y 1).val; rw [e1]; omega

/-- The product of the launched arrays. -/
abbrev prods (c : Dev nD) : S2048x2048.Idx → EReal := fun i =>
  prod (m ((c.tc : Thread nD τ).loc main_arg0)) (m ((c.tc : Thread nD τ).loc main_arg1)) (i 0) (i 1)

/-- A row before the norm, of the launched arrays, -/
abbrev row (c : Dev nD) (p : Fin 2048) : Fin 2048 → EReal := fun q =>
  res (m ((c.tc : Thread nD τ).loc main_arg2) (ix2 p q)) (prods m c (ix2 p q))

/-- and the four results. -/
abbrev out (c : Dev nD) : S2048x2048.Idx → EReal := fun i => ln (row m c (i 0))
  (fun q => m ((c.tc : Thread nD τ).loc main_arg3) (ix2 0 q)) (fun q => m ((c.tc : Thread nD τ).loc main_arg4) (ix2 0 q)) (i 1)
abbrev hat (c : Dev nD) : S2048x2048.Idx → EReal := fun i => xhat (row m c (i 0)) (i 1)
abbrev dev (c : Dev nD) : S2048x128.Idx → EReal := fun i => rstd (row m c (i 0))

/-- After a row block's last point the running sum is the product at the index where the block's entry lies. -/
theorem acc_last (c : Dev nD) (t : Fin cfg0.N) (ht : t.val % 4 = 3) (y : S512x2048.Idx) (i : S2048x2048.Idx)
    (h0 : (i 0 : Nat) = 512 * (t.val / 4) + y 0) (h1 : (i 1 : Nat) = y 1) : accAt m c y t.val t.isLt = prods m c i := by
  have hN : t.val < 16 := t.isLt
  rw [Cert.Blocks.run_sum cfg0.N (accAt m c y) (partAt m c y) (acc_reset m c y) (acc_step m c y) t.val t.isLt, ht]
  unfold prods prod
  refine Cert.Blocks.sum_blocks 2048 512 rfl _ (fun j => partAt m c y (4 * (t.val / 4) + j)) fun j hj => ?_
  have hs : 4 * (t.val / 4) + j < cfg0.N := by show _ < 16; omega
  have hq : (4 * (t.val / 4) + j) / 4 = t.val / 4 := by omega
  have hr : (4 * (t.val / 4) + j) % 4 = j := by omega
  dsimp only
  unfold partAt
  rw [dif_pos hs]
  unfold part
  refine Finset.sum_congr rfl fun k _ => ?_
  have hk : k.val < 512 := k.isLt
  rw [block0 m c ⟨_, hs⟩ (ix2 (y 0) k) (ix2 (i 0) ⟨512 * j + k.val, by omega⟩) (by show (i 0).val = 512 * ((4 * (t.val / 4) + j) / 4) + (y 0).val; rw [hq]; exact h0)
      (by show 512 * j + k.val = 512 * ((4 * (t.val / 4) + j) % 4) + k.val; rw [hr]),
    block1 m c ⟨_, hs⟩ (ix3 0 k (y 1)) (ix3 ⟨(512 * j + k.val) / 512, by omega⟩ ⟨(512 * j + k.val) % 512, by omega⟩ (i 1))
      (by show (512 * j + k.val) / 512 = (4 * (t.val / 4) + j) % 4; omega) (by show (512 * j + k.val) % 512 = k.val; omega) h1]

/-- The last point's sum is the running sum after it. -/
theorem acc_C (c : Dev nD) (t : Fin cfg0.N) (ht : t.val % 4 = 3) :
    k0_pay2 (iblk m c 0 t) (iblk m c 1 t) (outsAt0 m c (t.val - 1) (Nat.lt_of_le_of_lt (Nat.sub_le _ _) t.isLt)).2.2.2.2
      = fun y => (accAt m c y t.val t.isLt : EReal) := by
  have h : (fun y => (accAt m c y t.val t.isLt : EReal)) = (outsAt0 m c t.val t.isLt).2.2.2.2 := rfl
  rw [outsAt0_C m c t (by omega) ht] at h
  dsimp only at h
  rw [sout_C] at h
  exact h.symm

/-- A row of the last point's block is a row of the launched arrays. -/
theorem row_last (c : Dev nD) (t : Fin cfg0.N) (ht : t.val % 4 = 3) (p : Fin 512) (r : Fin 2048) (h0 : (r : Nat) = 512 * (t.val / 4) + p) :
    (fun q => res ((iblk m c 2 t : Vec Ideal S512x2048 .f32) (ix2 p q)) (accAt m c (ix2 p q) t.val t.isLt)) = row m c r := by
  funext q
  rw [block2 m c t (ix2 p q) (ix2 r q) h0 rfl, acc_last m c t ht (ix2 p q) (ix2 r q) h0 rfl]

/-- What a row block's last point writes back of the norm is its block of it, -/
theorem flushed_5 (c : Dev nD) (t : Fin cfg0.N) (hf : (cfg0.win 5).flush t = true) :
    (dats m 0 c).flushed 5 t = ((cfg0.win 5).blk t).view.read (Elt Ideal) (out m c) := by
  have ht : t.val % 4 = 3 := (flush0_5 t).mp hf
  obtain ⟨⟨e0, e1⟩, -⟩ := index_facts_out t
  rw [Value.flushed5_C m c t (by omega) ht, out_C_5, acc_C m c t ht, block3, block4]
  funext y
  rw [View.read_apply]
  have h0 : (((cfg0.win 5).blk t).view.emb y 0 : Nat) = 512 * (t.val / 4) + (y 0).val := by
    show win0_5.index t 0 * 512 + 1 * (y 0).val = 512 * (t.val / 4) + (y 0).val; rw [e0]; omega
  have h1 : y 1 = ((cfg0.win 5).blk t).view.emb y 1 := Fin.ext (by
    show (y 1).val = win0_5.index t 1 * 2048 + 1 * (y 1).val; rw [e1]; omega)
  refine (pay6_apply _ _ _ _ y).trans ?_
  exact (congrArg (fun f => ln f _ _ (y 1)) (row_last m c t ht (y 0) _ h0)).trans (congrArg (ln _ _ _) h1)

theorem covered_5 (i : S2048x2048.Idx) : ∃ t : Fin cfg0.N, (cfg0.win 5).flush t = true ∧ i ∈ ((cfg0.win 5).blk t).view.set :=
  (Value.covered_iff5 i).2 (by
    have h0 : (i 0).val < 2048 := (i 0).isLt; have h1 : (i 1).val < 2048 := (i 1).isLt; omega)

/-- of the rounded norm, -/
theorem flushed_6 (c : Dev nD) (t : Fin cfg0.N) (hf : (cfg0.win 6).flush t = true) :
    (dats m 0 c).flushed 6 t = ((cfg0.win 6).blk t).view.read (Elt Ideal) (out m c) := by
  have ht : t.val % 4 = 3 := (flush0_6 t).mp hf
  obtain ⟨-, ⟨e0, e1⟩, -⟩ := index_facts_out t
  rw [Value.flushed6_C m c t (by omega) ht, out_C_6, acc_C m c t ht, block3, block4]
  funext y
  rw [View.read_apply]
  have h0 : (((cfg0.win 6).blk t).view.emb y 0 : Nat) = 512 * (t.val / 4) + (y 0).val := by
    show win0_6.index t 0 * 512 + 1 * (y 0).val = 512 * (t.val / 4) + (y 0).val; rw [e0]; omega
  have h1 : y 1 = ((cfg0.win 6).blk t).view.emb y 1 := Fin.ext (by
    show (y 1).val = win0_6.index t 1 * 2048 + 1 * (y 1).val; rw [e1]; omega)
  refine (pay6_apply _ _ _ _ y).trans ?_
  exact (congrArg (fun f => ln f _ _ (y 1)) (row_last m c t ht (y 0) _ h0)).trans (congrArg (ln _ _ _) h1)

theorem covered_6 (i : S2048x2048.Idx) : ∃ t : Fin cfg0.N, (cfg0.win 6).flush t = true ∧ i ∈ ((cfg0.win 6).blk t).view.set :=
  (Value.covered_iff6 i).2 (by
    have h0 : (i 0).val < 2048 := (i 0).isLt; have h1 : (i 1).val < 2048 := (i 1).isLt; omega)

/-- of the normalised rows, -/
theorem flushed_7 (c : Dev nD) (t : Fin cfg0.N) (hf : (cfg0.win 7).flush t = true) :
    (dats m 0 c).flushed 7 t = ((cfg0.win 7).blk t).view.read (Elt Ideal) (hat m c) := by
  have ht : t.val % 4 = 3 := (flush0_7 t).mp hf
  obtain ⟨-, -, ⟨e0, e1⟩, -⟩ := index_facts_out t
  rw [Value.flushed7_C m c t (by omega) ht, out_C_7, acc_C m c t ht]
  funext y
  rw [View.read_apply]
  have h0 : (((cfg0.win 7).blk t).view.emb y 0 : Nat) = 512 * (t.val / 4) + (y 0).val := by
    show win0_7.index t 0 * 512 + 1 * (y 0).val = 512 * (t.val / 4) + (y 0).val; rw [e0]; omega
  have h1 : y 1 = ((cfg0.win 7).blk t).view.emb y 1 := Fin.ext (by
    show (y 1).val = win0_7.index t 1 * 2048 + 1 * (y 1).val; rw [e1]; omega)
  refine (pay5_apply _ _ y).trans ?_
  exact (congrArg (fun f => xhat f (y 1)) (row_last m c t ht (y 0) _ h0)).trans (congrArg (xhat _) h1)

theorem covered_7 (i : S2048x2048.Idx) : ∃ t : Fin cfg0.N, (cfg0.win 7).flush t = true ∧ i ∈ ((cfg0.win 7).blk t).view.set :=
  (Value.covered_iff7 i).2 (by
    have h0 : (i 0).val < 2048 := (i 0).isLt; have h1 : (i 1).val < 2048 := (i 1).isLt; omega)

/-- and of the reciprocal deviations. -/
theorem flushed_8 (c : Dev nD) (t : Fin cfg0.N) (hf : (cfg0.win 8).flush t = true) :
    (dats m 0 c).flushed 8 t = ((cfg0.win 8).blk t).view.read (Elt Ideal) (dev m c) := by
  have ht : t.val % 4 = 3 := (flush0_8 t).mp hf
  obtain ⟨-, -, -, ⟨e0, e1⟩⟩ := index_facts_out t
  rw [Value.flushed8_C m c t (by omega) ht, out_C_8, acc_C m c t ht]
  funext y
  rw [View.read_apply]
  have h0 : (((cfg0.win 8).blk t).view.emb y 0 : Nat) = 512 * (t.val / 4) + (y 0).val := by
    show win0_8.index t 0 * 512 + 1 * (y 0).val = 512 * (t.val / 4) + (y 0).val; rw [e0]; omega
  refine (pay7_apply _ _ y).trans ?_
  exact congrArg rstd (row_last m c t ht (y 0) _ h0)

theorem covered_8 (i : S2048x128.Idx) : ∃ t : Fin cfg0.N, (cfg0.win 8).flush t = true ∧ i ∈ ((cfg0.win 8).blk t).view.set :=
  (Value.covered_iff8 i).2 (by
    have h0 : (i 0).val < 2048 := (i 0).isLt; have h1 : (i 1).val < 128 := (i 1).isLt; omega)

/-- The reference's product read at an index. -/
theorem ref_prod (x : Vec Ideal S2048x2048 .bf16) (w : Vec Ideal S4x512x2048 .bf16) (h : FTy.bits .bf16 < FTy.bits .f32)
    (hs : S4x512x2048.ShapeCasts Cert.Reference11Ideal.S2048x2048) (i : S2048x2048.Idx) :
    Host.dotGeneral (F := Ideal) Cert.Reference11Ideal.dot_S2048x2048_S2048x2048_S2048x2048_1_0_0_1_n_n none (extf .f32 x h)
      (shapeCast Cert.Reference11Ideal.S2048x2048 (extf .f32 w h) hs) i = prod x w (i 0) (i 1) := by
  unfold prod
  pointwise []

/-- The reference's array before the norm, -/
def refRows (d D : FVec Ideal S2048x2048 .f32) (hb : Cert.Reference11Ideal.S_.BroadcastsInDim S2048x2048 (![] : Fin 0 → Fin S2048x2048.rank)) :
    FVec Ideal S2048x2048 .f32 :=
  addf (mulf (broadcastInDim S2048x2048 ![] hb (Host.sqrt (Host.sqrt (constant (F := Ideal) Cert.Reference11Ideal.S_ .f32 0x41000000#32)))) d) D

/-- and read at an index. -/
theorem refRows_apply (d D : FVec Ideal S2048x2048 .f32) (hb : Cert.Reference11Ideal.S_.BroadcastsInDim S2048x2048 (![] : Fin 0 → Fin S2048x2048.rank))
    (i : S2048x2048.Idx) : (refRows d D hb i : EReal) = res (d i) (D i) := by
  unfold res
  rw [← host_alpha Cert.Reference11Ideal.S_ ix0]
  pointwise [refRows]

section Reference
variable (act : Vec Ideal S2048x2048 .bf16) (w : Vec Ideal S4x512x2048 .bf16) (d : Vec Ideal S2048x2048 .f32) (g b : Vec Ideal S1x2048 .f32)
  (hx : FTy.bits .bf16 < FTy.bits .f32) (hs : S4x512x2048.ShapeCasts Cert.Reference11Ideal.S2048x2048)
  (hd : Cert.Reference11Ideal.S_.BroadcastsInDim S2048x2048 (![] : Fin 0 → Fin S2048x2048.rank))
  (hr : R.ReducesTo [1] R0) (hu : 0 < U.numel) (h0 : R0.BroadcastsInDim R1 (![0] : Fin 1 → Fin R1.rank))
  (hc : U.BroadcastsInDim R1 (![] : Fin 0 → Fin R1.rank)) (hb : R1.BroadcastsInDim R (![0, 1] : Fin 2 → Fin R.rank))
  (hl : R1.BroadcastsInDim RL (![0, 1] : Fin 2 → Fin RL.rank)) (hg : G.BroadcastsInDim R (![0, 1] : Fin 2 → Fin R.rank))

/-- The reference's array before the norm, of its arguments. -/
abbrev refZ : FVec Ideal S2048x2048 .f32 :=
  refRows d (Host.dotGeneral Cert.Reference11Ideal.dot_S2048x2048_S2048x2048_S2048x2048_1_0_0_1_n_n none (extf .f32 act hx)
    (shapeCast Cert.Reference11Ideal.S2048x2048 (extf .f32 w hx) hs)) hd

theorem refZ_row (p : Fin 2048) : (fun q => (refZ act w d hx hs hd (ix2 p q) : EReal)) = fun q => res (d (ix2 p q)) (prod act w p q) :=
  funext fun q => (refRows_apply _ _ _ (ix2 p q)).trans (congrArg (res _) (ref_prod act w _ _ (ix2 p q)))

/-- The addend as the reference computes it. -/
abbrev refEps : FVec Ideal U .f32 := Host.divf (constant U .f32 0x3F800000#32) (constant U .f32 0x47C35000#32)

/-- The reference's results: the norm, -/
theorem ref_out : hln (refZ act w d hx hs hd) hr hu h0 hc hb refEps g b hg
    = fun i => ln (fun q => res (d (ix2 (i 0) q)) (prod act w (i 0) q)) (fun q => g (ix2 0 q)) (fun q => b (ix2 0 q)) (i 1) :=
  funext fun i => (hln_apply (refZ act w d hx hs hd) hr hu h0 hc hb refEps g b hg (fun j => host_eps U j) i).trans
    (congrArg (fun f => ln f _ _ (i 1)) (refZ_row act w d hx hs hd (i 0)))

/-- the normalised rows, -/
theorem ref_hat : hxhat (refZ act w d hx hs hd) hr hu h0 hc hb refEps
    = fun i => xhat (fun q => res (d (ix2 (i 0) q)) (prod act w (i 0) q)) (i 1) :=
  funext fun i => (hxhat_apply (refZ act w d hx hs hd) hr hu h0 hc hb refEps (fun j => host_eps U j) i).trans
    (congrArg (fun f => xhat f (i 1)) (refZ_row act w d hx hs hd (i 0)))

/-- and the reciprocal deviations. -/
theorem ref_dev : hrstd (refZ act w d hx hs hd) hr hu h0 hc hb refEps hl
    = fun i => rstd (fun q => res (d (ix2 (i 0) q)) (prod act w (i 0) q)) :=
  funext fun i => (hrstd_apply (refZ act w d hx hs hd) hr hu h0 hc hb refEps hl (fun j => host_eps U j) i).trans
    (congrArg rstd (refZ_row act w d hx hs hd (i 0)))

end Reference

/-- The idealized kernel and the idealized reference leave the same four results. -/
theorem value : Cert.algebraic_Kernel11Ideal_Reference11Ideal (hKernel11Ideal := Cert.Kernel11Ideal.Gen.facts)
    (hReference11Ideal := Cert.Reference11Ideal.Gen.facts) := by
  intro m g m' g' _ hargs
  refine ⟨fun c => out m c, fun c => out m c, fun c => hat m c, fun c => dev m c, ?_, ?_⟩
  · exact (θ_run _ _ _).mono (fun r h c =>
      ⟨(h c).1.trans ((dats m 0 c).arrAt_eq_of_cover 5 (out m c) (fun t hf => flushed_5 m c t hf) covered_5),
        (h c).2.1.trans ((dats m 0 c).arrAt_eq_of_cover 6 (out m c) (fun t hf => flushed_6 m c t hf) covered_6),
        (h c).2.2.1.trans ((dats m 0 c).arrAt_eq_of_cover 7 (hat m c) (fun t hf => flushed_7 m c t hf) covered_7),
        (h c).2.2.2.1.trans ((dats m 0 c).arrAt_eq_of_cover 8 (dev m c) (fun t hf => flushed_8 m c t hf) covered_8),
        (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference11Ideal.Value.run (F := Ideal) m' g')
    · unfold Cert.Reference11Ideal.Value.res_main_v29
      rw [(hargs c).1, (hargs c).2.1, (hargs c).2.2.1, (hargs c).2.2.2.1, (hargs c).2.2.2.2]
      exact ref_out _ _ _ _ _ _ _ _ _ _ _ _ _ _
    · unfold Cert.Reference11Ideal.Value.res_main_v30
      rw [(hargs c).1, (hargs c).2.1, (hargs c).2.2.1, (hargs c).2.2.2.1, (hargs c).2.2.2.2]
      exact ref_out _ _ _ _ _ _ _ _ _ _ _ _ _ _
    · rw [(hargs c).1, (hargs c).2.1, (hargs c).2.2.1]
      exact ref_hat _ _ _ _ _ _ _ _ _ _ _
    · rw [(hargs c).1, (hargs c).2.1, (hargs c).2.2.1]
      exact ref_dev _ _ _ _ _ _ _ _ _ _ _ _

end Cert.MixOut

end
-- ==== Proof.MixDcat.lean ====
/- The gradient of the input of the mixer's output gradient. -/
module

public import proofs.«01_k».proof.Defs
public import proofs.«01_k».proof.Proof.Gen.Kernel12Ideal.Value
public import proofs.«01_k».proof.Proof.Gen.Reference12Ideal.Run
public import proofs.«01_k».proof.Proof.Blocks
public import Idealize.ShloMosaic.Lib.Pipeline.Value
public import Idealize.ShloMosaic.Lib.Pointwise

@[expose] public section

set_option maxRecDepth 16384

noncomputable section

namespace Cert.MixDcat

open Idealize.ShloMosaic Idealize.ShloMosaic.TcCoe Idealize.SL.Sem
open Cert.Kernel12Ideal Cert.Kernel12Ideal.Gen Cert.Blocks

variable (m : (ℓ : Loc nD τ sig) → Buf (Elt Ideal) ℓ)

/-- The product of a cotangent with the transposed weight, the weight in row blocks. -/
def back (x : S2048x2048.Idx → EReal) (w : S4x512x2048.Idx → EReal) (r q : Fin 2048) : EReal :=
  ∑ k : Fin 2048, x (ix2 r k) * w (ix3 ⟨q.val / 512, by omega⟩ ⟨q.val % 512, by omega⟩ k)

/-- The body's product at an index. -/
theorem out_apply (x0 : Vec Ideal S512x2048 .bf16) (x1 : Vec Ideal S1x512x2048 .bf16) (y : S512x512.Idx) :
    (out0_2 x0 x1 y : EReal) = ∑ k : Fin 2048, (x0 (ix2 (y 0) k) : EReal) * x1 (ix3 0 (y 1) k) := by
  unfold out0_2
  rw [View.canon_unit_zero hz2, View.ld_unit_zero (S := S512x2048) hz2, View.ld_unit_zero (S := S1x512x2048) hz3]
  pointwise [k0_pay1]

/-- Where the blocks of grid point `t` lie: point `t` computes column block `t / 4` of the tokens from `512 (t % 4)`. -/
theorem index_facts : ∀ t : Fin grid0.N, (win0_0.index t 0 = t.val % 4 ∧ win0_0.index t 1 = 0)
    ∧ (win0_1.index t 0 = t.val / 4 ∧ win0_1.index t 1 = 0 ∧ win0_1.index t 2 = 0)
    ∧ (win0_2.index t 0 = t.val % 4 ∧ win0_2.index t 1 = t.val / 4) := by decide +kernel

/-- The cotangent's block at an index. -/
theorem x_block (c : Dev nD) (t : Fin cfg0.N) (y : S512x2048.Idx) (i : S2048x2048.Idx)
    (h0 : (i 0 : Nat) = 512 * (t.val % 4) + y 0) (h1 : (i 1 : Nat) = y 1) :
    (iblk m c 0 t : Vec Ideal S512x2048 .bf16) y = m ((c.tc : Thread nD τ).loc main_arg0) i := by
  obtain ⟨⟨e0, e1⟩, -⟩ := index_facts t
  exact at_eq (S := S2048x2048) (m ((c.tc : Thread nD τ).loc main_arg0)) (((cfg0.win 0).blk t).view.emb y) i fun a => match a with
    | ⟨0, _⟩ => by show win0_0.index t 0 * 512 + 1 * (y 0).val = (i 0).val; rw [e0, h0]; omega
    | ⟨1, _⟩ => by show win0_0.index t 1 * 2048 + 1 * (y 1).val = (i 1).val; rw [e1, h1]; omega

/-- The weight's block at an index. -/
theorem w_block (c : Dev nD) (t : Fin cfg0.N) (y : S1x512x2048.Idx) (i : S4x512x2048.Idx)
    (h0 : (i 0 : Nat) = t.val / 4) (h1 : (i 1 : Nat) = y 1) (h2 : (i 2 : Nat) = y 2) :
    (iblk m c 1 t : Vec Ideal S1x512x2048 .bf16) y = m ((c.tc : Thread nD τ).loc main_arg1) i := by
  obtain ⟨-, ⟨e0, e1, e2⟩, -⟩ := index_facts t
  have hy : (y 0 : Nat) < 1 := (y 0).isLt
  exact at_eq (S := S4x512x2048) (m ((c.tc : Thread nD τ).loc main_arg1)) (((cfg0.win 1).blk t).view.emb y) i fun a => match a with
    | ⟨0, _⟩ => by show win0_1.index t 0 * 1 + 1 * (y 0).val = (i 0).val; rw [e0, h0]; omega
    | ⟨1, _⟩ => by show win0_1.index t 1 * 512 + 1 * (y 1).val = (i 1).val; rw [e1, h1]; omega
    | ⟨2, _⟩ => by show win0_1.index t 2 * 2048 + 1 * (y 2).val = (i 2).val; rw [e2, h2]; omega

/-- The gradient of the launched arrays. -/
abbrev result (c : Dev nD) : S2048x2048.Idx → EReal := fun i =>
  back (m ((c.tc : Thread nD τ).loc main_arg0)) (m ((c.tc : Thread nD τ).loc main_arg1)) (i 0) (i 1)

/-- Point `t` writes back block `t` of the gradient. -/
theorem flushed_eq (c : Dev nD) (t : Fin cfg0.N) :
    (dats m 0 c).flushed 2 t = ((cfg0.win 2).blk t).view.read (Elt Ideal) (result m c) := by
  obtain ⟨-, -, ⟨e0, e1⟩⟩ := index_facts t
  rw [Value.flushed2]
  funext y
  rw [View.read_apply]
  have h0 : (((cfg0.win 2).blk t).view.emb y 0 : Nat) = 512 * (t.val % 4) + (y 0).val := by
    show win0_2.index t 0 * 512 + 1 * (y 0).val = 512 * (t.val % 4) + (y 0).val; rw [e0]; omega
  have h1 : (((cfg0.win 2).blk t).view.emb y 1 : Nat) = 512 * (t.val / 4) + (y 1).val := by
    show win0_2.index t 1 * 512 + 1 * (y 1).val = 512 * (t.val / 4) + (y 1).val; rw [e1]; omega
  refine (out_apply _ _ y).trans ?_
  have hy1 : (y 1 : Nat) < 512 := (y 1).isLt
  have hN : t.val < 16 := t.isLt
  show _ = back (m ((c.tc : Thread nD τ).loc main_arg0)) (m ((c.tc : Thread nD τ).loc main_arg1)) (((cfg0.win 2).blk t).view.emb y 0) (((cfg0.win 2).blk t).view.emb y 1)
  unfold back
  refine Finset.sum_congr rfl fun k _ => ?_
  rw [x_block m c t (ix2 (y 0) k) (ix2 (((cfg0.win 2).blk t).view.emb y 0) k) h0 rfl,
    w_block m c t (ix3 0 (y 1) k) (ix3 ⟨(((cfg0.win 2).blk t).view.emb y 1 : Nat) / 512, by omega⟩ ⟨(((cfg0.win 2).blk t).view.emb y 1 : Nat) % 512, by omega⟩ k)
      (by show (((cfg0.win 2).blk t).view.emb y 1 : Nat) / 512 = _; omega) (by show (((cfg0.win 2).blk t).view.emb y 1 : Nat) % 512 = (y 1).val; omega) rfl]

/-- Every index of the gradient lies in some point's block. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : cfg0.N = 16 := N_0
  obtain ⟨t, ht⟩ : ∃ t : Fin cfg0.N, t.val = 4 * ((i 1).val / 512) + (i 0).val / 512 := ⟨⟨_, by omega⟩, rfl⟩
  obtain ⟨-, -, ⟨e0, e1⟩⟩ := index_facts t
  refine ⟨t, flush0_2 t, ?_⟩
  show i ∈ ((View.whole main_v0).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [e0]; omega
  | ⟨1, _⟩ => show win0_2.index t 1 * 512 ≤ (i 1 : Nat) ∧ (i 1 : Nat) < win0_2.index t 1 * 512 + 512
              rw [e1]; omega

/-- The reference's product read at an index. -/
theorem ref_back (x : Vec Ideal S2048x2048 .bf16) (w : Vec Ideal S4x512x2048 .bf16) (h : FTy.bits .bf16 < FTy.bits .f32)
    (hs : S4x512x2048.ShapeCasts S2048x2048) (i : S2048x2048.Idx) :
    Host.dotGeneral (F := Ideal) Cert.Reference12Ideal.dot_S2048x2048_S2048x2048_S2048x2048_1_1_0_0_n_n none (extf .f32 x h)
      (shapeCast S2048x2048 (extf .f32 w h) hs) i = back x w (i 0) (i 1) := by
  unfold back
  pointwise []

/-- The idealized kernel and the idealized reference leave the same gradient. -/
theorem value : Cert.algebraic_Kernel12Ideal_Reference12Ideal (hKernel12Ideal := Cert.Kernel12Ideal.Gen.facts)
    (hReference12Ideal := Cert.Reference12Ideal.Gen.facts) := by
  intro m g m' g' _ hargs
  refine ⟨fun c => result m c, ?_, ?_⟩
  · exact (θ_run _ _ _).mono (fun r h c =>
      ⟨(h c).1.trans ((dats m 0 c).arrAt_eq_of_cover 2 (result m c) (fun t _ => flushed_eq m c t) (covered c)), (h c).2⟩) (Value.run_blocks m g)
  · refine (θ_run _ _ _).mono (fun r h c => ⟨(h c).1.trans ?_, (h c).2⟩) (Cert.Reference12Ideal.Value.run (F := Ideal) m' g')
    rw [(hargs c).1, (hargs c).2]
    funext i
    exact ref_back _ _ _ _ i

end Cert.MixDcat

end
-- ==== Proof.MixGwout.lean ====
/- The gradient of the weight of the mixer's output projection. -/
module

public import proofs.«01_k».proof.Defs
public import proofs.«01_k».proof.Proof.Gen.Kernel13Ideal.Value
public import proofs.«01_k».proof.Proof.Gen.Reference13Ideal.Run
public import proofs.«01_k».proof.Proof.Blocks
public import Idealize.ShloMosaic.Lib.Pipeline.Value
public import Idealize.ShloMosaic.Lib.Pointwise

@[expose] public section

set_option maxRecDepth 16384

noncomputable section

namespace Cert.MixGwout

open Idealize.ShloMosaic Idealize.ShloMosaic.TcCoe Idealize.SL.Sem
open Cert.Kernel13Ideal Cert.Kernel13Ideal.Gen Cert.Blocks

variable (m : (ℓ : Loc nD τ sig) → Buf (Elt Ideal) ℓ)

/-- The entry of the gradient in row block `j`, row `r` of the block, column `q`. -/
def entry (x : S2048x2048.Idx → EReal) (ct : S2048x2048.Idx → EReal) (j : Fin 4) (r : Fin 512) (q : Fin 2048) : EReal :=
  ∑ k : Fin 2048, x (ix2 k ⟨512 * j.val + r.val, by omega⟩) * ct (ix2 k q)

/-- The body's result at an index: the sum over the tokens of the products of the two blocks' columns. -/
theorem out_apply (x0 : Vec Ideal S2048x512 .bf16) (x1 : Vec Ideal S2048x2048 .bf16) (y : S1x512x2048.Idx) :
    (out0_2 x0 x1 y : EReal) = ∑ k : Fin 2048, (x0 (ix2 k (y 1)) : EReal) * x1 (ix2 k (y 2)) := by
  unfold out0_2
  rw [View.canon_unit_zero hz3, View.ld_unit_zero (S := S2048x512) hz2, View.ld_unit_zero (S := S2048x2048) hz2]
  pointwise [k0_pay1]

/-- Where the blocks of grid point `t` lie: point `t` computes row block `t`. -/
theorem index_facts : ∀ t : Fin grid0.N, win0_0.index t 0 = 0 ∧ win0_0.index t 1 = t.val
    ∧ win0_1.index t 0 = 0 ∧ win0_1.index t 1 = 0
    ∧ win0_2.index t 0 = t.val ∧ win0_2.index t 1 = 0 ∧ win0_2.index t 2 = 0 := by decide +kernel

/-- The first operand's block at an index. -/
theorem x_block (c : Dev nD) (t : Fin cfg0.N) (y : S2048x512.Idx) (i : S2048x2048.Idx)
    (h0 : (i 0 : Nat) = y 0) (h1 : (i 1 : Nat) = 512 * t.val + y 1) :
    (iblk m c 0 t : Vec Ideal S2048x512 .bf16) y = m ((c.tc : Thread nD τ).loc main_arg0) i := by
  obtain ⟨e0, e1, -⟩ := index_facts t
  exact at_eq (S := S2048x2048) (m ((c.tc : Thread nD τ).loc main_arg0)) (((cfg0.win 0).blk t).view.emb y) i fun a => match a with
    | ⟨0, _⟩ => by show win0_0.index t 0 * 2048 + 1 * (y 0).val = (i 0).val; rw [e0, h0]; omega
    | ⟨1, _⟩ => by show win0_0.index t 1 * 512 + 1 * (y 1).val = (i 1).val; rw [e1, h1]; omega

/-- The second operand's block at an index. -/
theorem ct_block (c : Dev nD) (t : Fin cfg0.N) (y : S2048x2048.Idx) (i : S2048x2048.Idx)
    (h0 : (i 0 : Nat) = y 0) (h1 : (i 1 : Nat) = y 1) :
    (iblk m c 1 t : Vec Ideal S2048x2048 .bf16) y = m ((c.tc : Thread nD τ).loc main_arg1) i := by
  obtain ⟨-, -, e0, e1, -⟩ := index_facts t
  exact at_eq (S := S2048x2048) (m ((c.tc : Thread nD τ).loc main_arg1)) (((cfg0.win 1).blk t).view.emb y) i fun a => match a with
    | ⟨0, _⟩ => by show win0_1.index t 0 * 2048 + 1 * (y 0).val = (i 0).val; rw [e0, h0]; omega
    | ⟨1, _⟩ => by show win0_1.index t 1 * 2048 + 1 * (y 1).val = (i 1).val; rw [e1, h1]; omega

/-- The gradient as an array of row blocks. -/
def grad (x : S2048x2048.Idx → EReal) (ct : S2048x2048.Idx → EReal) : S4x512x2048.Idx → EReal :=
  fun i => entry x ct (i 0) (i 1) (i 2)

/-- What the kernel's result array holds after the run. -/
abbrev result (c : Dev nD) : Buf (Elt Ideal) ((c.tc : Thread nD τ).loc main_v0) :=
  grad (m ((c.tc : Thread nD τ).loc main_arg0)) (m ((c.tc : Thread nD τ).loc main_arg1))

/-- Point `t` writes back block `t` of the gradient. -/
theorem flushed_eq (c : Dev nD) (t : Fin cfg0.N) :
    (dats m 0 c).flushed 2 t = ((cfg0.win 2).blk t).view.read (Elt Ideal) (result m c) := by
  obtain ⟨-, -, -, -, e0, e1, e2⟩ := index_facts t
  have hN : t.val < 4 := t.isLt
  rw [Value.flushed2]
  funext y
  rw [View.read_apply]
  show (out0_2 (iblk m c 0 t) (iblk m c 1 t) y : EReal) = grad _ _ (((cfg0.win 2).blk t).view.emb y)
  refine (out_apply _ _ y).trans ?_
  have hy0 : (y 0 : Nat) < 1 := (y 0).isLt
  have hy1 : (y 1 : Nat) < 512 := (y 1).isLt
  have hy2 : (y 2 : Nat) < 2048 := (y 2).isLt
  have v0 : (((cfg0.win 2).blk t).view.emb y 0 : Nat) = t.val := by
    show win0_2.index t 0 * 1 + 1 * (y 0).val = _; rw [e0]; omega
  have v1 : (((cfg0.win 2).blk t).view.emb y 1 : Nat) = y 1 := by
    show win0_2.index t 1 * 512 + 1 * (y 1).val = _; rw [e1]; omega
  have v2 : (((cfg0.win 2).blk t).view.emb y 2 : Nat) = y 2 := by
    show win0_2.index t 2 * 2048 + 1 * (y 2).val = _; rw [e2]; omega
  unfold grad entry
  refine Finset.sum_congr rfl fun k _ => ?_
  rw [x_block m c t (ix2 k (y 1)) (ix2 k ⟨512 * (((cfg0.win 2).blk t).view.emb y 0 : Nat) + (((cfg0.win 2).blk t).view.emb y 1 : Nat), by omega⟩) rfl
      (by show 512 * (((cfg0.win 2).blk t).view.emb y 0 : Nat) + (((cfg0.win 2).blk t).view.emb y 1 : Nat) = 512 * t.val + (y 1 : Nat)
          rw [v0, v1]),
    ct_block m c t (ix2 k (y 2)) (ix2 k (((cfg0.win 2).blk t).view.emb y 2)) rfl v2]

/-- Every index of the result lies in some point's block. -/
theorem covered (c : Dev nD) (i : ((cfg0.win 2).arr.view.loc (c.tc : Thread nD τ)).2.ty.Idx) : ∃ t : Fin cfg0.N, (cfg0.win 2).flush t = true ∧ i ∈ ((cfg0.win 2).blk t).view.set := by
  have h0 : (i 0 : Nat) < 4 := (i 0).isLt
  have h1 : (i 1 : Nat) < 512 := (i 1).isLt
  have h2 : (i 2 : Nat) < 2048 := (i 2).isLt
  have hN : cfg0.N = 4 := N_0
  obtain ⟨t, ht⟩ : ∃ t : Fin cfg0.N, t.val = (i 0).val := ⟨⟨_, by omega⟩, rfl⟩
  refine ⟨t, flush0_2 t, ?_⟩
  obtain ⟨-, -, -, -, e0, e1, e2⟩ := index_facts t
  show i ∈ ((View.whole main_v0).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [e0]; omega
  | ⟨1, _⟩ => show win0_2.index t 1 * 512 ≤ (i 1 : Nat) ∧ (i 1 : Nat) < win0_2.index t 1 * 512 + 512
              rw [e1]; omega
  | ⟨2, _⟩ => show win0_2.index t 2 * 2048 ≤ (i 2 : Nat) ∧ (i 2 : Nat) < win0_2.index t 2 * 2048 + 2048
              rw [e2]; omega

/-- So the result array holds the gradient. -/
theorem final_eq (c : Dev nD) : (dats m 0 c).arrAt 2 cfg0.N = result m c :=
  (dats m 0 c).arrAt_eq_of_cover 2 (result m c) (fun t _ => flushed_eq m c t) (covered c)

/-- The reference's term read at an index. -/
theorem ref_entry (x ct : Vec Ideal S2048x2048 .bf16) (h : FTy.bits .bf16 < FTy.bits .f32)
    (h1 : S2048x2048.Transposes [1, 0] S2048x2048) (hs : S2048x2048.ShapeCasts S4x512x2048) (i : S4x512x2048.Idx) :
    truncf .bf16 (shapeCast S4x512x2048 (transpose S2048x2048 [1, 0]
      (Host.dotGeneral (F := Ideal) Cert.Reference13Ideal.dot_S2048x2048_S2048x2048_S2048x2048_0_0_1_1_n_n none (extf .f32 ct h) (extf .f32 x h)) h1) hs) h i
      = grad x ct i := by
  unfold grad entry
  pointwise []
  refine Finset.sum_congr rfl fun k _ => (mul_comm _ _).trans ?_
  simp only [Nat.mul_comm 512]

/-- The idealized kernel and the idealized reference leave the same gradient. -/
theorem value : Cert.algebraic_Kernel13Ideal_Reference13Ideal (hKernel13Ideal := Cert.Kernel13Ideal.Gen.facts)
    (hReference13Ideal := Cert.Reference13Ideal.Gen.facts) := by
  intro m g m' g' _ hargs
  refine ⟨fun c => result m c, ?_, ?_⟩
  · exact (θ_run _ _ _).mono (fun r h c => ⟨(h c).1.trans (final_eq m c), (h c).2⟩) (Value.run_blocks m g)
  · refine (θ_run _ _ _).mono (fun r h c => ⟨(h c).1.trans ?_, (h c).2⟩) (Cert.Reference13Ideal.Value.run (F := Ideal) m' g')
    rw [(hargs c).1, (hargs c).2]
    funext i
    exact ref_entry _ _ _ _ _ i

end Cert.MixGwout

end
-- ==== Proof.lean ====
/- The proof of the claim: for each of the eighteen calls the frames of the kernel, of its idealization and of the reference,
   and that the two idealizations leave the same results. -/
module

public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefVal
public import proofs.«01_k».proof.Proof.Finite
public import proofs.«01_k».proof.Proof.MixGwglu
public import proofs.«01_k».proof.Proof.ConvGrad
public import proofs.«01_k».proof.Proof.LnBwd
public import proofs.«01_k».proof.Proof.GateGrad
public import proofs.«01_k».proof.Proof.GluGrad
public import proofs.«01_k».proof.Proof.ColGrad
public import proofs.«01_k».proof.Proof.RowGrad
public import proofs.«01_k».proof.Proof.FfnDact
public import proofs.«01_k».proof.Proof.FfnDx
public import proofs.«01_k».proof.Proof.FfnUp
public import proofs.«01_k».proof.Proof.FfnDown
public import proofs.«01_k».proof.Proof.MixProj
public import proofs.«01_k».proof.Proof.MixGwin
public import proofs.«01_k».proof.Proof.MixDx
public import proofs.«01_k».proof.Proof.MixOut
public import proofs.«01_k».proof.Proof.MixDcat
public import proofs.«01_k».proof.Proof.MixGwout
public import Idealize.ShloMosaic.Adequacy
public import Idealize.ShloMosaic.Init

@[expose] public section

set_option maxRecDepth 16384

noncomputable section

namespace Cert.Proof

open Idealize.ShloMosaic Idealize.SL.Sem
open Cert.Scan (Cx pack pack_cx finite_entry preFacts)

/-- The idealized kernel and the idealized reference leave the same gradients, where every argument is finite. -/
theorem scan_value : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  letI := Cert.KernelIdeal.Gen.facts
  letI := Cert.ReferenceIdeal.Gen.facts
  letI := preFacts
  have hA : ∀ c : Dev Cert.KernelIdeal.nD, Cx (s := Cert.KernelIdeal.S1x4096) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (pack _ _) :=
    fun c => pack_cx _ _ (finite_entry _ _ (hpre c).1) (finite_entry _ _ (hpre c).2.1)
  have hX : ∀ c : Dev Cert.KernelIdeal.nD, Cx (s := Cert.KernelIdeal.S2048x4096) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (pack _ _) :=
    fun c => pack_cx _ _ (finite_entry _ _ (hpre c).2.2.1) (finite_entry _ _ (hpre c).2.2.2.1)
  have hC : ∀ c : Dev Cert.KernelIdeal.nD, Cx (s := Cert.KernelIdeal.S2048x4096) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (pack _ _) :=
    fun c => pack_cx _ _ (finite_entry _ _ (hpre c).2.2.2.2.1) (finite_entry _ _ (hpre c).2.2.2.2.2)
  have k := Cert.Scan.kernel_run m g hA hX hC
  have r := Cert.Ref.ref_value m' g' (A := fun c => pack _ _) (X := fun c => pack _ _) (C := fun c => pack _ _)
    (fun c => by rw [(hargs c).1, (hargs c).2.1]; exact hA c)
    (fun c => by rw [(hargs c).2.2.1, (hargs c).2.2.2.1]; exact hX c)
    (fun c => by rw [(hargs c).2.2.2.2.1, (hargs c).2.2.2.2.2]; exact hC c)
  exact ⟨_, _, _, _, k, r⟩

/-- The reference of the gradient of the feed-forward half's first weights terminates, and keeps its arguments and its counters. -/
theorem ref_frame2 : Cert.quiescent_Reference2Ideal (hReference2Ideal := Cert.Reference2Ideal.Gen.facts) := fun m ρ _ =>
  (θ_run Cert.Reference2Ideal.defs _ _).mono (fun r h => And.intro (fun c => (h c).2) (Idealize.ShloMosaic.sem_eq_zero_of_no_sems (by decide) r.2))
    (Cert.Reference2Ideal.Value.run (F := Ideal) m ρ)

/-- The reference of the gradient of its second weight terminates, and keeps its arguments and its counters. -/
theorem ref_frame3 : Cert.quiescent_Reference3Ideal (hReference3Ideal := Cert.Reference3Ideal.Gen.facts) := fun m ρ _ =>
  (θ_run Cert.Reference3Ideal.defs _ _).mono (fun r h => And.intro (fun c => (h c).2) (Idealize.ShloMosaic.sem_eq_zero_of_no_sems (by decide) r.2))
    (Cert.Reference3Ideal.Value.run (F := Ideal) m ρ)

/-- The reference of the gradients through its gate terminates, and keeps its arguments and its counters. -/
theorem ref_frame4 : Cert.quiescent_Reference4Ideal (hReference4Ideal := Cert.Reference4Ideal.Gen.facts) := fun m ρ _ =>
  (θ_run Cert.Reference4Ideal.defs _ _).mono (fun r h => And.intro (fun c => (h c).2.2) (Idealize.ShloMosaic.sem_eq_zero_of_no_sems (by decide) r.2))
    (Cert.Reference4Ideal.Value.run (F := Ideal) m ρ)

/-- The reference of the gradient of its input terminates, and keeps its arguments and its counters. -/
theorem ref_frame5 : Cert.quiescent_Reference5Ideal (hReference5Ideal := Cert.Reference5Ideal.Gen.facts) := fun m ρ _ =>
  (θ_run Cert.Reference5Ideal.defs _ _).mono (fun r h => And.intro (fun c => (h c).2) (Idealize.ShloMosaic.sem_eq_zero_of_no_sems (by decide) r.2))
    (Cert.Reference5Ideal.Value.run (F := Ideal) m ρ)

/-- The reference of its first products and gate terminates, and keeps its arguments and its counters. -/
theorem ref_frame6 : Cert.quiescent_Reference6Ideal (hReference6Ideal := Cert.Reference6Ideal.Gen.facts) := fun m ρ _ =>
  (θ_run Cert.Reference6Ideal.defs _ _).mono (fun r h => And.intro (fun c => (h c).2.2.2) (Idealize.ShloMosaic.sem_eq_zero_of_no_sems (by decide) r.2))
    (Cert.Reference6Ideal.Value.run (F := Ideal) m ρ)

/-- The reference of its second product and norm terminates, and keeps its arguments and its counters. -/
theorem ref_frame7 : Cert.quiescent_Reference7Ideal (hReference7Ideal := Cert.Reference7Ideal.Gen.facts) := fun m ρ _ =>
  (θ_run Cert.Reference7Ideal.defs _ _).mono (fun r h => And.intro (fun c => (h c).2.2.2.2) (Idealize.ShloMosaic.sem_eq_zero_of_no_sems (by decide) r.2))
    (Cert.Reference7Ideal.Value.run (F := Ideal) m ρ)

/-- The reference of the mixer's first product terminates, and keeps its arguments and its counters. -/
theorem ref_frame8 : Cert.quiescent_Reference8Ideal (hReference8Ideal := Cert.Reference8Ideal.Gen.facts) := fun m ρ _ =>
  (θ_run Cert.Reference8Ideal.defs _ _).mono (fun r h => And.intro (fun c => (h c).2) (Idealize.ShloMosaic.sem_eq_zero_of_no_sems (by decide) r.2))
    (Cert.Reference8Ideal.Value.run (F := Ideal) m ρ)

/-- The reference of the gradient of its first weight terminates, and keeps its arguments and its counters. -/
theorem ref_frame9 : Cert.quiescent_Reference9Ideal (hReference9Ideal := Cert.Reference9Ideal.Gen.facts) := fun m ρ _ =>
  (θ_run Cert.Reference9Ideal.defs _ _).mono (fun r h => And.intro (fun c => (h c).2) (Idealize.ShloMosaic.sem_eq_zero_of_no_sems (by decide) r.2))
    (Cert.Reference9Ideal.Value.run (F := Ideal) m ρ)

/-- The reference of the gradient of its input terminates, and keeps its arguments and its counters. -/
theorem ref_frame10 : Cert.quiescent_Reference10Ideal (hReference10Ideal := Cert.Reference10Ideal.Gen.facts) := fun m ρ _ =>
  (θ_run Cert.Reference10Ideal.defs _ _).mono (fun r h => And.intro (fun c => (h c).2) (Idealize.ShloMosaic.sem_eq_zero_of_no_sems (by decide) r.2))
    (Cert.Reference10Ideal.Value.run (F := Ideal) m ρ)

/-- The reference of its second product and norm terminates, and keeps its arguments and its counters. -/
theorem ref_frame11 : Cert.quiescent_Reference11Ideal (hReference11Ideal := Cert.Reference11Ideal.Gen.facts) := fun m ρ _ =>
  (θ_run Cert.Reference11Ideal.defs _ _).mono (fun r h => And.intro (fun c => (h c).2.2.2.2) (Idealize.ShloMosaic.sem_eq_zero_of_no_sems (by decide) r.2))
    (Cert.Reference11Ideal.Value.run (F := Ideal) m ρ)

/-- The reference of the gradient of the second product's input terminates, and keeps its arguments and its counters. -/
theorem ref_frame12 : Cert.quiescent_Reference12Ideal (hReference12Ideal := Cert.Reference12Ideal.Gen.facts) := fun m ρ _ =>
  (θ_run Cert.Reference12Ideal.defs _ _).mono (fun r h => And.intro (fun c => (h c).2) (Idealize.ShloMosaic.sem_eq_zero_of_no_sems (by decide) r.2))
    (Cert.Reference12Ideal.Value.run (F := Ideal) m ρ)

/-- The reference of the gradient of its second weight terminates, and keeps its arguments and its counters. -/
theorem ref_frame13 : Cert.quiescent_Reference13Ideal (hReference13Ideal := Cert.Reference13Ideal.Gen.facts) := fun m ρ _ =>
  (θ_run Cert.Reference13Ideal.defs _ _).mono (fun r h => And.intro (fun c => (h c).2) (Idealize.ShloMosaic.sem_eq_zero_of_no_sems (by decide) r.2))
    (Cert.Reference13Ideal.Value.run (F := Ideal) m ρ)

/-- The reference of the gradient of the GLU's weight terminates, and keeps its arguments and its counters. -/
theorem ref_frame14 : Cert.quiescent_Reference14Ideal (hReference14Ideal := Cert.Reference14Ideal.Gen.facts) := fun m ρ _ =>
  (θ_run Cert.Reference14Ideal.defs _ _).mono (fun r h => And.intro (fun c => (h c).2) (Idealize.ShloMosaic.sem_eq_zero_of_no_sems (by decide) r.2))
    (Cert.Reference14Ideal.Value.run (F := Ideal) m ρ)

/-- The reference of the gradients through the convolution's shift terminates, and keeps its arguments and its counters. -/
theorem ref_frame15 : Cert.quiescent_Reference15Ideal (hReference15Ideal := Cert.Reference15Ideal.Gen.facts) := fun m ρ _ =>
  (θ_run Cert.Reference15Ideal.defs _ _).mono (fun r h => And.intro (fun c => (h c).2.2) (Idealize.ShloMosaic.sem_eq_zero_of_no_sems (by decide) r.2))
    (Cert.Reference15Ideal.Value.run (F := Ideal) m ρ)

/-- The reference of the gradients through the layer norm terminates, and keeps its arguments and its counters. -/
theorem ref_frame16 : Cert.quiescent_Reference16Ideal (hReference16Ideal := Cert.Reference16Ideal.Gen.facts) := fun m ρ _ =>
  (θ_run Cert.Reference16Ideal.defs _ _).mono (fun r h => And.intro (fun c => (h c).2.2.2.2) (Idealize.ShloMosaic.sem_eq_zero_of_no_sems (by decide) r.2))
    (Cert.Reference16Ideal.Value.run (F := Ideal) m ρ)

/-- The reference of the gradients through the short convolution and its norm terminates, and keeps its arguments and its counters. -/
theorem ref_frame17 : Cert.quiescent_Reference17Ideal (hReference17Ideal := Cert.Reference17Ideal.Gen.facts) := fun m ρ _ =>
  (θ_run Cert.Reference17Ideal.defs _ _).mono (fun r h => And.intro (fun c => (h c).2.2.2.2.2.2.2) (Idealize.ShloMosaic.sem_eq_zero_of_no_sems (by decide) r.2))
    (Cert.Reference17Ideal.Value.run (F := Ideal) m ρ)

/-- The reference of the gradients through the GLU and its norm terminates, and keeps its arguments and its counters. -/
theorem ref_frame18 : Cert.quiescent_Reference18Ideal (hReference18Ideal := Cert.Reference18Ideal.Gen.facts) := fun m ρ _ =>
  (θ_run Cert.Reference18Ideal.defs _ _).mono (fun r h => And.intro (fun c => (h c).2.2.2) (Idealize.ShloMosaic.sem_eq_zero_of_no_sems (by decide) r.2))
    (Cert.Reference18Ideal.Value.run (F := Ideal) m ρ)

/-- Everything that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  preFacts, Cert.FfnDact.preFacts, Cert.LnBwd.preFacts, Cert.GateGrad.preFacts, Cert.GluGrad.preFacts,
  fun m g _ => Cert.Kernel.Gen.frame m g, fun m g _ => Cert.KernelIdeal.Gen.frame m g, fun m g _ => Cert.KernelIdeal.Gen.frame m g,
  fun m g _ => Cert.Ref.ref_frame m g, fun m g _ => Cert.Ref.ref_frame m g,
  fun m g _ => Cert.Kernel2.Gen.frame m g, fun m g _ => Cert.Kernel2Ideal.Gen.frame m g, ref_frame2,
  fun m g _ => Cert.Kernel3.Gen.frame m g, fun m g _ => Cert.Kernel3Ideal.Gen.frame m g, ref_frame3,
  fun m g _ => Cert.Kernel4.Gen.frame m g, fun m g _ => Cert.Kernel4Ideal.Gen.frame m g, fun m g _ => Cert.Kernel4Ideal.Gen.frame m g, ref_frame4, fun m g _ => ref_frame4 m g trivial,
  fun m g _ => Cert.Kernel5.Gen.frame m g, fun m g _ => Cert.Kernel5Ideal.Gen.frame m g, ref_frame5,
  fun m g _ => Cert.Kernel6.Gen.frame m g, fun m g _ => Cert.Kernel6Ideal.Gen.frame m g, ref_frame6,
  fun m g _ => Cert.Kernel7.Gen.frame m g, fun m g _ => Cert.Kernel7Ideal.Gen.frame m g, ref_frame7,
  fun m g _ => Cert.Kernel8.Gen.frame m g, fun m g _ => Cert.Kernel8Ideal.Gen.frame m g, ref_frame8,
  fun m g _ => Cert.Kernel9.Gen.frame m g, fun m g _ => Cert.Kernel9Ideal.Gen.frame m g, ref_frame9,
  fun m g _ => Cert.Kernel10.Gen.frame m g, fun m g _ => Cert.Kernel10Ideal.Gen.frame m g, ref_frame10,
  fun m g _ => Cert.Kernel11.Gen.frame m g, fun m g _ => Cert.Kernel11Ideal.Gen.frame m g, ref_frame11,
  fun m g _ => Cert.Kernel12.Gen.frame m g, fun m g _ => Cert.Kernel12Ideal.Gen.frame m g, ref_frame12,
  fun m g _ => Cert.Kernel13.Gen.frame m g, fun m g _ => Cert.Kernel13Ideal.Gen.frame m g, ref_frame13,
  fun m g _ => Cert.Kernel14.Gen.frame m g, fun m g _ => Cert.Kernel14Ideal.Gen.frame m g, ref_frame14,
  fun m g _ => Cert.Kernel15.Gen.frame m g, fun m g _ => Cert.Kernel15Ideal.Gen.frame m g, ref_frame15,
  fun m g _ => Cert.Kernel16.Gen.frame m g, fun m g _ => Cert.Kernel16Ideal.Gen.frame m g, fun m g _ => Cert.Kernel16Ideal.Gen.frame m g, ref_frame16, fun m g _ => ref_frame16 m g trivial,
  fun m g _ => Cert.Kernel17.Gen.frame m g, fun m g _ => Cert.Kernel17Ideal.Gen.frame m g, fun m g _ => Cert.Kernel17Ideal.Gen.frame m g, ref_frame17, fun m g _ => ref_frame17 m g trivial,
  fun m g _ => Cert.Kernel18.Gen.frame m g, fun m g _ => Cert.Kernel18Ideal.Gen.frame m g, fun m g _ => Cert.Kernel18Ideal.Gen.frame m g, ref_frame18, fun m g _ => ref_frame18 m g trivial,
  trivial, scan_value,
  trivial, Cert.ColGrad.value,
  trivial, Cert.RowGrad.value,
  trivial, Cert.FfnDact.value,
  IdealRules.named_const.statement Cert.Kernel5Ideal.κ "alpha" .f32 0x3FD744FD#32 ((Real.sqrt (Real.sqrt 8) : ℝ) : EReal) rfl, Cert.FfnDx.value,
  trivial, Cert.FfnUp.value,
  ⟨IdealRules.named_const.statement Cert.Kernel7Ideal.κ "alpha" .f32 0x3FD744FD#32 ((Real.sqrt (Real.sqrt 8) : ℝ) : EReal) rfl,
    IdealRules.named_const.statement Cert.Kernel7Ideal.κ "eps" .f32 0x3727C5AC#32 ((1 / 100000 : ℝ) : EReal) rfl⟩, Cert.FfnDown.value,
  trivial, Cert.MixProj.value,
  trivial, Cert.MixGwin.value,
  IdealRules.named_const.statement Cert.Kernel10Ideal.κ "alpha" .f32 0x3FD744FD#32 ((Real.sqrt (Real.sqrt 8) : ℝ) : EReal) rfl, Cert.MixDx.value,
  ⟨IdealRules.named_const.statement Cert.Kernel11Ideal.κ "alpha" .f32 0x3FD744FD#32 ((Real.sqrt (Real.sqrt 8) : ℝ) : EReal) rfl,
    IdealRules.named_const.statement Cert.Kernel11Ideal.κ "eps" .f32 0x3727C5AC#32 ((1 / 100000 : ℝ) : EReal) rfl⟩, Cert.MixOut.value,
  trivial, Cert.MixDcat.value,
  trivial, Cert.MixGwout.value,
  trivial, Cert.MixGwglu.value,
  trivial, Cert.ConvGrad.value,
  trivial, Cert.LnBwd.value,
  IdealRules.named_const.statement Cert.Kernel17Ideal.κ "rms" .f32 0x358637BD#32 ((1 / 1000000 : ℝ) : EReal) rfl, Cert.GateGrad.value,
  IdealRules.named_const.statement Cert.Kernel18Ideal.κ "rms" .f32 0x358637BD#32 ((1 / 1000000 : ℝ) : EReal) rfl, Cert.GluGrad.value⟩

end Cert.Proof

end
